-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_QkvDa (m : (ℓ : Loc Cert.QkvDa.nD Cert.QkvDa.τ Cert.QkvDa.sig) → Buf (Elt Bits) ℓ) : Prop :=
  True

def Pre_QkvDaIdeal (m : (ℓ : Loc Cert.QkvDaIdeal.nD Cert.QkvDaIdeal.τ Cert.QkvDaIdeal.sig) → Buf (Elt Ideal) ℓ) : Prop :=
  True

def Pre_QkvDaReferenceIdeal (m : (ℓ : Loc Cert.QkvDaReferenceIdeal.nD Cert.QkvDaReferenceIdeal.τ Cert.QkvDaReferenceIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwReferenceIdeal (m : (ℓ : Loc Cert.QkvDwReferenceIdeal.nD Cert.QkvDwReferenceIdeal.τ Cert.QkvDwReferenceIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdReferenceIdeal (m : (ℓ : Loc Cert.QkvFwdReferenceIdeal.nD Cert.QkvFwdReferenceIdeal.τ Cert.QkvFwdReferenceIdeal.sig) → Buf (Elt Ideal) ℓ) : Prop :=
  True

def Pre_GuDa (m : (ℓ : Loc Cert.GuDa.nD Cert.GuDa.τ Cert.GuDa.sig) → Buf (Elt Bits) ℓ) : Prop :=
  True

def Pre_GuDaIdeal (m : (ℓ : Loc Cert.GuDaIdeal.nD Cert.GuDaIdeal.τ Cert.GuDaIdeal.sig) → Buf (Elt Ideal) ℓ) : Prop :=
  True

def Pre_GuDaReferenceIdeal (m : (ℓ : Loc Cert.GuDaReferenceIdeal.nD Cert.GuDaReferenceIdeal.τ Cert.GuDaReferenceIdeal.sig) → Buf (Elt Ideal) ℓ) : Prop :=
  True

def Pre_GuDw (m : (ℓ : Loc Cert.GuDw.nD Cert.GuDw.τ Cert.GuDw.sig) → Buf (Elt Bits) ℓ) : Prop :=
  True

def Pre_GuDwIdeal (m : (ℓ : Loc Cert.GuDwIdeal.nD Cert.GuDwIdeal.τ Cert.GuDwIdeal.sig) → Buf (Elt Ideal) ℓ) : Prop :=
  True

def Pre_GuDwReferenceIdeal (m : (ℓ : Loc Cert.GuDwReferenceIdeal.nD Cert.GuDwReferenceIdeal.τ Cert.GuDwReferenceIdeal.sig) → Buf (Elt Ideal) ℓ) : Prop :=
  True

def Pre_GuFwd (m : (ℓ : Loc Cert.GuFwd.nD Cert.GuFwd.τ Cert.GuFwd.sig) → Buf (Elt Bits) ℓ) : Prop :=
  True

def Pre_GuFwdIdeal (m : (ℓ : Loc Cert.GuFwdIdeal.nD Cert.GuFwdIdeal.τ Cert.GuFwdIdeal.sig) → Buf (Elt Ideal) ℓ) : Prop :=
  True

def Pre_GuFwdReferenceIdeal (m : (ℓ : Loc Cert.GuFwdReferenceIdeal.nD Cert.GuFwdReferenceIdeal.τ Cert.GuFwdReferenceIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaReferenceIdeal (m : (ℓ : Loc Cert.DownDaReferenceIdeal.nD Cert.DownDaReferenceIdeal.τ Cert.DownDaReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaReferenceIdeal (m : (ℓ : Loc Cert.InDaReferenceIdeal.nD Cert.InDaReferenceIdeal.τ Cert.InDaReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaReferenceIdeal (m : (ℓ : Loc Cert.OutDaReferenceIdeal.nD Cert.OutDaReferenceIdeal.τ Cert.OutDaReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_PleGateDa (m : (ℓ : Loc Cert.PleGateDa.nD Cert.PleGateDa.τ Cert.PleGateDa.sig) → Buf (Elt Bits) ℓ) : Prop :=
  True

def Pre_PleGateDaIdeal (m : (ℓ : Loc Cert.PleGateDaIdeal.nD Cert.PleGateDaIdeal.τ Cert.PleGateDaIdeal.sig) → Buf (Elt Ideal) ℓ) : Prop :=
  True

def Pre_PleGateDaReferenceIdeal (m : (ℓ : Loc Cert.PleGateDaReferenceIdeal.nD Cert.PleGateDaReferenceIdeal.τ Cert.PleGateDaReferenceIdeal.sig) → Buf (Elt Ideal) ℓ) : Prop :=
  True

def Pre_PleGateDw (m : (ℓ : Loc Cert.PleGateDw.nD Cert.PleGateDw.τ Cert.PleGateDw.sig) → Buf (Elt Bits) ℓ) : Prop :=
  True

def Pre_PleGateDwIdeal (m : (ℓ : Loc Cert.PleGateDwIdeal.nD Cert.PleGateDwIdeal.τ Cert.PleGateDwIdeal.sig) → Buf (Elt Ideal) ℓ) : Prop :=
  True

def Pre_PleGateDwReferenceIdeal (m : (ℓ : Loc Cert.PleGateDwReferenceIdeal.nD Cert.PleGateDwReferenceIdeal.τ Cert.PleGateDwReferenceIdeal.sig) → Buf (Elt Ideal) ℓ) : Prop :=
  True

def Pre_PleGateFwd (m : (ℓ : Loc Cert.PleGateFwd.nD Cert.PleGateFwd.τ Cert.PleGateFwd.sig) → Buf (Elt Bits) ℓ) : Prop :=
  True

def Pre_PleGateFwdIdeal (m : (ℓ : Loc Cert.PleGateFwdIdeal.nD Cert.PleGateFwdIdeal.τ Cert.PleGateFwdIdeal.sig) → Buf (Elt Ideal) ℓ) : Prop :=
  True

def Pre_PleGateFwdReferenceIdeal (m : (ℓ : Loc Cert.PleGateFwdReferenceIdeal.nD Cert.PleGateFwdReferenceIdeal.τ Cert.PleGateFwdReferenceIdeal.sig) → Buf (Elt Ideal) ℓ) : Prop :=
  True

def Pre_ODa (m : (ℓ : Loc Cert.ODa.nD Cert.ODa.τ Cert.ODa.sig) → Buf (Elt Bits) ℓ) : Prop :=
  True

def Pre_ODaIdeal (m : (ℓ : Loc Cert.ODaIdeal.nD Cert.ODaIdeal.τ Cert.ODaIdeal.sig) → Buf (Elt Ideal) ℓ) : Prop :=
  True

def Pre_ODaReferenceIdeal (m : (ℓ : Loc Cert.ODaReferenceIdeal.nD Cert.ODaReferenceIdeal.τ Cert.ODaReferenceIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwReferenceIdeal (m : (ℓ : Loc Cert.ODwReferenceIdeal.nD Cert.ODwReferenceIdeal.τ Cert.ODwReferenceIdeal.sig) → Buf (Elt Ideal) ℓ) : Prop :=
  True

def Pre_OFwd (m : (ℓ : Loc Cert.OFwd.nD Cert.OFwd.τ Cert.OFwd.sig) → Buf (Elt Bits) ℓ) : Prop :=
  True

def Pre_OFwdIdeal (m : (ℓ : Loc Cert.OFwdIdeal.nD Cert.OFwdIdeal.τ Cert.OFwdIdeal.sig) → Buf (Elt Ideal) ℓ) : Prop :=
  True

def Pre_OFwdReferenceIdeal (m : (ℓ : Loc Cert.OFwdReferenceIdeal.nD Cert.OFwdReferenceIdeal.τ Cert.OFwdReferenceIdeal.sig) → Buf (Elt Ideal) ℓ) : Prop :=
  True

def Pre_PleProjDw (m : (ℓ : Loc Cert.PleProjDw.nD Cert.PleProjDw.τ Cert.PleProjDw.sig) → Buf (Elt Bits) ℓ) : Prop :=
  True

def Pre_PleProjDwIdeal (m : (ℓ : Loc Cert.PleProjDwIdeal.nD Cert.PleProjDwIdeal.τ Cert.PleProjDwIdeal.sig) → Buf (Elt Ideal) ℓ) : Prop :=
  True

def Pre_PleProjDwReferenceIdeal (m : (ℓ : Loc Cert.PleProjDwReferenceIdeal.nD Cert.PleProjDwReferenceIdeal.τ Cert.PleProjDwReferenceIdeal.sig) → Buf (Elt Ideal) ℓ) : Prop :=
  True

def Pre_PleProjFwd (m : (ℓ : Loc Cert.PleProjFwd.nD Cert.PleProjFwd.τ Cert.PleProjFwd.sig) → Buf (Elt Bits) ℓ) : Prop :=
  True

def Pre_PleProjFwdIdeal (m : (ℓ : Loc Cert.PleProjFwdIdeal.nD Cert.PleProjFwdIdeal.τ Cert.PleProjFwdIdeal.sig) → Buf (Elt Ideal) ℓ) : Prop :=
  True

def Pre_PleProjFwdReferenceIdeal (m : (ℓ : Loc Cert.PleProjFwdReferenceIdeal.nD Cert.PleProjFwdReferenceIdeal.τ Cert.PleProjFwdReferenceIdeal.sig) → Buf (Elt Ideal) ℓ) : Prop :=
  True

def Pre_DtDa (m : (ℓ : Loc Cert.DtDa.nD Cert.DtDa.τ Cert.DtDa.sig) → Buf (Elt Bits) ℓ) : Prop :=
  True

def Pre_DtDaIdeal (m : (ℓ : Loc Cert.DtDaIdeal.nD Cert.DtDaIdeal.τ Cert.DtDaIdeal.sig) → Buf (Elt Ideal) ℓ) : Prop :=
  True

def Pre_DtDaReferenceIdeal (m : (ℓ : Loc Cert.DtDaReferenceIdeal.nD Cert.DtDaReferenceIdeal.τ Cert.DtDaReferenceIdeal.sig) → Buf (Elt Ideal) ℓ) : Prop :=
  True

def Pre_DtDw (m : (ℓ : Loc Cert.DtDw.nD Cert.DtDw.τ Cert.DtDw.sig) → Buf (Elt Bits) ℓ) : Prop :=
  True

def Pre_DtDwIdeal (m : (ℓ : Loc Cert.DtDwIdeal.nD Cert.DtDwIdeal.τ Cert.DtDwIdeal.sig) → Buf (Elt Ideal) ℓ) : Prop :=
  True

def Pre_DtDwReferenceIdeal (m : (ℓ : Loc Cert.DtDwReferenceIdeal.nD Cert.DtDwReferenceIdeal.τ Cert.DtDwReferenceIdeal.sig) → Buf (Elt Ideal) ℓ) : Prop :=
  True

def Pre_DtFwd (m : (ℓ : Loc Cert.DtFwd.nD Cert.DtFwd.τ Cert.DtFwd.sig) → Buf (Elt Bits) ℓ) : Prop :=
  True

def Pre_DtFwdIdeal (m : (ℓ : Loc Cert.DtFwdIdeal.nD Cert.DtFwdIdeal.τ Cert.DtFwdIdeal.sig) → Buf (Elt Ideal) ℓ) : Prop :=
  True

def Pre_DtFwdReferenceIdeal (m : (ℓ : Loc Cert.DtFwdReferenceIdeal.nD Cert.DtFwdReferenceIdeal.τ Cert.DtFwdReferenceIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_swiglu_finite [hPre_swiglu_finite : Cert.Pre_swiglu_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1))).1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1))).2 = (fun _ => 1#1)

def Pre_SwigluBwdReferenceIdeal (m : (ℓ : Loc Cert.SwigluBwdReferenceIdeal.nD Cert.SwigluBwdReferenceIdeal.τ Cert.SwigluBwdReferenceIdeal.sig) → Buf (Elt Ideal) ℓ) : Prop :=
  True

def Pre_SwigluBwdReferenceIdeal_swiglu_finite [hPre_swiglu_finite : Cert.Pre_swiglu_finite.Facts] (m : (ℓ : Loc Cert.SwigluBwdReferenceIdeal.nD Cert.SwigluBwdReferenceIdeal.τ Cert.SwigluBwdReferenceIdeal.sig) → Buf (Elt Ideal) ℓ) : Prop :=
  ∀ c : Dev Cert.SwigluBwdReferenceIdeal.nD,
    (Cert.Pre_swiglu_finite.fn (F := Ideal) (m ((c.tc : Thread Cert.SwigluBwdReferenceIdeal.nD Cert.SwigluBwdReferenceIdeal.τ).loc Cert.SwigluBwdReferenceIdeal.main_arg0)) (m ((c.tc : Thread Cert.SwigluBwdReferenceIdeal.nD Cert.SwigluBwdReferenceIdeal.τ).loc Cert.SwigluBwdReferenceIdeal.main_arg1))).1 = (fun _ => 1#1)
    ∧ (Cert.Pre_swiglu_finite.fn (F := Ideal) (m ((c.tc : Thread Cert.SwigluBwdReferenceIdeal.nD Cert.SwigluBwdReferenceIdeal.τ).loc Cert.SwigluBwdReferenceIdeal.main_arg0)) (m ((c.tc : Thread Cert.SwigluBwdReferenceIdeal.nD Cert.SwigluBwdReferenceIdeal.τ).loc Cert.SwigluBwdReferenceIdeal.main_arg1))).2 = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdReferenceIdeal (m : (ℓ : Loc Cert.PleBwdReferenceIdeal.nD Cert.PleBwdReferenceIdeal.τ Cert.PleBwdReferenceIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_rms_finite [hPre_rms_finite : Cert.Pre_rms_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).1 = (fun _ => 1#1)
    ∧ (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.1 = (fun _ => 1#1)
    ∧ (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.2 = (fun _ => 1#1)

def Pre_RmsBwdReferenceIdeal (m : (ℓ : Loc Cert.RmsBwdReferenceIdeal.nD Cert.RmsBwdReferenceIdeal.τ Cert.RmsBwdReferenceIdeal.sig) → Buf (Elt Ideal) ℓ) : Prop :=
  True

def Pre_RmsBwdReferenceIdeal_rms_finite [hPre_rms_finite : Cert.Pre_rms_finite.Facts] (m : (ℓ : Loc Cert.RmsBwdReferenceIdeal.nD Cert.RmsBwdReferenceIdeal.τ Cert.RmsBwdReferenceIdeal.sig) → Buf (Elt Ideal) ℓ) : Prop :=
  ∀ c : Dev Cert.RmsBwdReferenceIdeal.nD,
    (Cert.Pre_rms_finite.fn (F := Ideal) (m ((c.tc : Thread Cert.RmsBwdReferenceIdeal.nD Cert.RmsBwdReferenceIdeal.τ).loc Cert.RmsBwdReferenceIdeal.main_arg0)) (m ((c.tc : Thread Cert.RmsBwdReferenceIdeal.nD Cert.RmsBwdReferenceIdeal.τ).loc Cert.RmsBwdReferenceIdeal.main_arg1)) (m ((c.tc : Thread Cert.RmsBwdReferenceIdeal.nD Cert.RmsBwdReferenceIdeal.τ).loc Cert.RmsBwdReferenceIdeal.main_arg2)) (m ((c.tc : Thread Cert.RmsBwdReferenceIdeal.nD Cert.RmsBwdReferenceIdeal.τ).loc Cert.RmsBwdReferenceIdeal.main_arg3))).1 = (fun _ => 1#1)
    ∧ (Cert.Pre_rms_finite.fn (F := Ideal) (m ((c.tc : Thread Cert.RmsBwdReferenceIdeal.nD Cert.RmsBwdReferenceIdeal.τ).loc Cert.RmsBwdReferenceIdeal.main_arg0)) (m ((c.tc : Thread Cert.RmsBwdReferenceIdeal.nD Cert.RmsBwdReferenceIdeal.τ).loc Cert.RmsBwdReferenceIdeal.main_arg1)) (m ((c.tc : Thread Cert.RmsBwdReferenceIdeal.nD Cert.RmsBwdReferenceIdeal.τ).loc Cert.RmsBwdReferenceIdeal.main_arg2)) (m ((c.tc : Thread Cert.RmsBwdReferenceIdeal.nD Cert.RmsBwdReferenceIdeal.τ).loc Cert.RmsBwdReferenceIdeal.main_arg3))).2.1 = (fun _ => 1#1)
    ∧ (Cert.Pre_rms_finite.fn (F := Ideal) (m ((c.tc : Thread Cert.RmsBwdReferenceIdeal.nD Cert.RmsBwdReferenceIdeal.τ).loc Cert.RmsBwdReferenceIdeal.main_arg0)) (m ((c.tc : Thread Cert.RmsBwdReferenceIdeal.nD Cert.RmsBwdReferenceIdeal.τ).loc Cert.RmsBwdReferenceIdeal.main_arg1)) (m ((c.tc : Thread Cert.RmsBwdReferenceIdeal.nD Cert.RmsBwdReferenceIdeal.τ).loc Cert.RmsBwdReferenceIdeal.main_arg2)) (m ((c.tc : Thread Cert.RmsBwdReferenceIdeal.nD Cert.RmsBwdReferenceIdeal.τ).loc Cert.RmsBwdReferenceIdeal.main_arg3))).2.2 = (fun _ => 1#1)

def Pre_GateNormBwd (m : (ℓ : Loc Cert.GateNormBwd.nD Cert.GateNormBwd.τ Cert.GateNormBwd.sig) → Buf (Elt Bits) ℓ) : Prop :=
  True

def Pre_GateNormBwdIdeal (m : (ℓ : Loc Cert.GateNormBwdIdeal.nD Cert.GateNormBwdIdeal.τ Cert.GateNormBwdIdeal.sig) → Buf (Elt Ideal) ℓ) : Prop :=
  True

def Pre_GateNormBwdIdeal_gate_norm_finite [hPre_gate_norm_finite : Cert.Pre_gate_norm_finite.Facts] (m : (ℓ : Loc Cert.GateNormBwdIdeal.nD Cert.GateNormBwdIdeal.τ Cert.GateNormBwdIdeal.sig) → Buf (Elt Ideal) ℓ) : Prop :=
  ∀ c : Dev Cert.GateNormBwdIdeal.nD,
    (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).1 = (fun _ => 1#1)
    ∧ (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.1 = (fun _ => 1#1)
    ∧ (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.2.1 = (fun _ => 1#1)
    ∧ (Cert.Pre_gate_norm_finite.fn (F := Ideal) (m ((c.tc : Thread Cert.GateNormBwdIdeal.nD Cert.GateNormBwdIdeal.τ).loc Cert.GateNormBwdIdeal.main_arg0)) (m ((c.tc : Thread Cert.GateNormBwdIdeal.nD Cert.GateNormBwdIdeal.τ).loc Cert.GateNormBwdIdeal.main_arg1)) (m ((c.tc : Thread Cert.GateNormBwdIdeal.nD Cert.GateNormBwdIdeal.τ).loc Cert.GateNormBwdIdeal.main_arg2)) (m ((c.tc : Thread Cert.GateNormBwdIdeal.nD Cert.GateNormBwdIdeal.τ).loc Cert.GateNormBwdIdeal.main_arg3))).2.2.2 = (fun _ => 1#1)

def Pre_GateNormBwdReferenceIdeal (m : (ℓ : Loc Cert.GateNormBwdReferenceIdeal.nD Cert.GateNormBwdReferenceIdeal.τ Cert.GateNormBwdReferenceIdeal.sig) → Buf (Elt Ideal) ℓ) : Prop :=
  True

def Pre_GateNormBwdReferenceIdeal_gate_norm_finite [hPre_gate_norm_finite : Cert.Pre_gate_norm_finite.Facts] (m : (ℓ : Loc Cert.GateNormBwdReferenceIdeal.nD Cert.GateNormBwdReferenceIdeal.τ Cert.GateNormBwdReferenceIdeal.sig) → Buf (Elt Ideal) ℓ) : Prop :=
  ∀ c : Dev Cert.GateNormBwdReferenceIdeal.nD,
    (Cert.Pre_gate_norm_finite.fn (F := Ideal) (m ((c.tc : Thread Cert.GateNormBwdReferenceIdeal.nD Cert.GateNormBwdReferenceIdeal.τ).loc Cert.GateNormBwdReferenceIdeal.main_arg0)) (m ((c.tc : Thread Cert.GateNormBwdReferenceIdeal.nD Cert.GateNormBwdReferenceIdeal.τ).loc Cert.GateNormBwdReferenceIdeal.main_arg1)) (m ((c.tc : Thread Cert.GateNormBwdReferenceIdeal.nD Cert.GateNormBwdReferenceIdeal.τ).loc Cert.GateNormBwdReferenceIdeal.main_arg2)) (m ((c.tc : Thread Cert.GateNormBwdReferenceIdeal.nD Cert.GateNormBwdReferenceIdeal.τ).loc Cert.GateNormBwdReferenceIdeal.main_arg3))).1 = (fun _ => 1#1)
    ∧ (Cert.Pre_gate_norm_finite.fn (F := Ideal) (m ((c.tc : Thread Cert.GateNormBwdReferenceIdeal.nD Cert.GateNormBwdReferenceIdeal.τ).loc Cert.GateNormBwdReferenceIdeal.main_arg0)) (m ((c.tc : Thread Cert.GateNormBwdReferenceIdeal.nD Cert.GateNormBwdReferenceIdeal.τ).loc Cert.GateNormBwdReferenceIdeal.main_arg1)) (m ((c.tc : Thread Cert.GateNormBwdReferenceIdeal.nD Cert.GateNormBwdReferenceIdeal.τ).loc Cert.GateNormBwdReferenceIdeal.main_arg2)) (m ((c.tc : Thread Cert.GateNormBwdReferenceIdeal.nD Cert.GateNormBwdReferenceIdeal.τ).loc Cert.GateNormBwdReferenceIdeal.main_arg3))).2.1 = (fun _ => 1#1)
    ∧ (Cert.Pre_gate_norm_finite.fn (F := Ideal) (m ((c.tc : Thread Cert.GateNormBwdReferenceIdeal.nD Cert.GateNormBwdReferenceIdeal.τ).loc Cert.GateNormBwdReferenceIdeal.main_arg0)) (m ((c.tc : Thread Cert.GateNormBwdReferenceIdeal.nD Cert.GateNormBwdReferenceIdeal.τ).loc Cert.GateNormBwdReferenceIdeal.main_arg1)) (m ((c.tc : Thread Cert.GateNormBwdReferenceIdeal.nD Cert.GateNormBwdReferenceIdeal.τ).loc Cert.GateNormBwdReferenceIdeal.main_arg2)) (m ((c.tc : Thread Cert.GateNormBwdReferenceIdeal.nD Cert.GateNormBwdReferenceIdeal.τ).loc Cert.GateNormBwdReferenceIdeal.main_arg3))).2.2.1 = (fun _ => 1#1)
    ∧ (Cert.Pre_gate_norm_finite.fn (F := Ideal) (m ((c.tc : Thread Cert.GateNormBwdReferenceIdeal.nD Cert.GateNormBwdReferenceIdeal.τ).loc Cert.GateNormBwdReferenceIdeal.main_arg0)) (m ((c.tc : Thread Cert.GateNormBwdReferenceIdeal.nD Cert.GateNormBwdReferenceIdeal.τ).loc Cert.GateNormBwdReferenceIdeal.main_arg1)) (m ((c.tc : Thread Cert.GateNormBwdReferenceIdeal.nD Cert.GateNormBwdReferenceIdeal.τ).loc Cert.GateNormBwdReferenceIdeal.main_arg2)) (m ((c.tc : Thread Cert.GateNormBwdReferenceIdeal.nD Cert.GateNormBwdReferenceIdeal.τ).loc Cert.GateNormBwdReferenceIdeal.main_arg3))).2.2.2 = (fun _ => 1#1)

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdReferenceIdeal (m : (ℓ : Loc Cert.SwigluFwdReferenceIdeal.nD Cert.SwigluFwdReferenceIdeal.τ Cert.SwigluFwdReferenceIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdReferenceIdeal (m : (ℓ : Loc Cert.PleFwdReferenceIdeal.nD Cert.PleFwdReferenceIdeal.τ Cert.PleFwdReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_GateNormFwd (m : (ℓ : Loc Cert.GateNormFwd.nD Cert.GateNormFwd.τ Cert.GateNormFwd.sig) → Buf (Elt Bits) ℓ) : Prop :=
  True

def Pre_GateNormFwdIdeal (m : (ℓ : Loc Cert.GateNormFwdIdeal.nD Cert.GateNormFwdIdeal.τ Cert.GateNormFwdIdeal.sig) → Buf (Elt Ideal) ℓ) : Prop :=
  True

def Pre_GateNormFwdReferenceIdeal (m : (ℓ : Loc Cert.GateNormFwdReferenceIdeal.nD Cert.GateNormFwdReferenceIdeal.τ Cert.GateNormFwdReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwQkv (m : (ℓ : Loc Cert.AdamwQkv.nD Cert.AdamwQkv.τ Cert.AdamwQkv.sig) → Buf (Elt Bits) ℓ) : Prop :=
  True

def Pre_AdamwQkvIdeal (m : (ℓ : Loc Cert.AdamwQkvIdeal.nD Cert.AdamwQkvIdeal.τ Cert.AdamwQkvIdeal.sig) → Buf (Elt Ideal) ℓ) : Prop :=
  True

def Pre_AdamwQkvReferenceIdeal (m : (ℓ : Loc Cert.AdamwQkvReferenceIdeal.nD Cert.AdamwQkvReferenceIdeal.τ Cert.AdamwQkvReferenceIdeal.sig) → Buf (Elt Ideal) ℓ) : Prop :=
  True

def Pre_AdamwGu (m : (ℓ : Loc Cert.AdamwGu.nD Cert.AdamwGu.τ Cert.AdamwGu.sig) → Buf (Elt Bits) ℓ) : Prop :=
  True

def Pre_AdamwGuIdeal (m : (ℓ : Loc Cert.AdamwGuIdeal.nD Cert.AdamwGuIdeal.τ Cert.AdamwGuIdeal.sig) → Buf (Elt Ideal) ℓ) : Prop :=
  True

def Pre_AdamwGuReferenceIdeal (m : (ℓ : Loc Cert.AdamwGuReferenceIdeal.nD Cert.AdamwGuReferenceIdeal.τ Cert.AdamwGuReferenceIdeal.sig) → Buf (Elt Ideal) ℓ) : Prop :=
  True

def Pre_AdamwProj (m : (ℓ : Loc Cert.AdamwProj.nD Cert.AdamwProj.τ Cert.AdamwProj.sig) → Buf (Elt Bits) ℓ) : Prop :=
  True

def Pre_AdamwProjIdeal (m : (ℓ : Loc Cert.AdamwProjIdeal.nD Cert.AdamwProjIdeal.τ Cert.AdamwProjIdeal.sig) → Buf (Elt Ideal) ℓ) : Prop :=
  True

def Pre_AdamwProjReferenceIdeal (m : (ℓ : Loc Cert.AdamwProjReferenceIdeal.nD Cert.AdamwProjReferenceIdeal.τ Cert.AdamwProjReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwO (m : (ℓ : Loc Cert.AdamwO.nD Cert.AdamwO.τ Cert.AdamwO.sig) → Buf (Elt Bits) ℓ) : Prop :=
  True

def Pre_AdamwOIdeal (m : (ℓ : Loc Cert.AdamwOIdeal.nD Cert.AdamwOIdeal.τ Cert.AdamwOIdeal.sig) → Buf (Elt Ideal) ℓ) : Prop :=
  True

def Pre_AdamwOReferenceIdeal (m : (ℓ : Loc Cert.AdamwOReferenceIdeal.nD Cert.AdamwOReferenceIdeal.τ Cert.AdamwOReferenceIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownReferenceIdeal (m : (ℓ : Loc Cert.AdamwDownReferenceIdeal.nD Cert.AdamwDownReferenceIdeal.τ Cert.AdamwDownReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossFwdReferenceIdeal (m : (ℓ : Loc Cert.LossFwdReferenceIdeal.nD Cert.LossFwdReferenceIdeal.τ Cert.LossFwdReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_QkvDa [hQkvDa : Cert.QkvDa.Facts] : Prop :=
  ∀ (m : (ℓ : Loc Cert.QkvDa.nD Cert.QkvDa.τ Cert.QkvDa.sig) → Buf (Elt Bits) ℓ) (g : Dev Cert.QkvDa.nD → PrngReg), Pre_QkvDa m →
    θ_run (Cert.QkvDa.defs (F := Bits)) (onTc (τ := Cert.QkvDa.τ) (Cert.QkvDa.main (F := Bits))) ⟨m, fun _ => 0, g⟩ (fun r => (∀ c : Dev Cert.QkvDa.nD,
      r.2.mem ((c.tc : Thread Cert.QkvDa.nD Cert.QkvDa.τ).loc Cert.QkvDa.main_arg0) = m ((c.tc : Thread Cert.QkvDa.nD Cert.QkvDa.τ).loc Cert.QkvDa.main_arg0)
      ∧ r.2.mem ((c.tc : Thread Cert.QkvDa.nD Cert.QkvDa.τ).loc Cert.QkvDa.main_arg1) = m ((c.tc : Thread Cert.QkvDa.nD Cert.QkvDa.τ).loc Cert.QkvDa.main_arg1)
      ∧ r.2.mem ((c.tc : Thread Cert.QkvDa.nD Cert.QkvDa.τ).loc Cert.QkvDa.main_arg2) = m ((c.tc : Thread Cert.QkvDa.nD Cert.QkvDa.τ).loc Cert.QkvDa.main_arg2))
      ∧ r.2.sem = fun _ => 0)

def quiescent_QkvDaIdeal [hQkvDaIdeal : Cert.QkvDaIdeal.Facts] : Prop :=
  ∀ (m : (ℓ : Loc Cert.QkvDaIdeal.nD Cert.QkvDaIdeal.τ Cert.QkvDaIdeal.sig) → Buf (Elt Ideal) ℓ) (g : Dev Cert.QkvDaIdeal.nD → PrngReg), Pre_QkvDaIdeal m →
    θ_run (Cert.QkvDaIdeal.defs (F := Ideal)) (onTc (τ := Cert.QkvDaIdeal.τ) (Cert.QkvDaIdeal.main (F := Ideal))) ⟨m, fun _ => 0, g⟩ (fun r => (∀ c : Dev Cert.QkvDaIdeal.nD,
      r.2.mem ((c.tc : Thread Cert.QkvDaIdeal.nD Cert.QkvDaIdeal.τ).loc Cert.QkvDaIdeal.main_arg0) = m ((c.tc : Thread Cert.QkvDaIdeal.nD Cert.QkvDaIdeal.τ).loc Cert.QkvDaIdeal.main_arg0)
      ∧ r.2.mem ((c.tc : Thread Cert.QkvDaIdeal.nD Cert.QkvDaIdeal.τ).loc Cert.QkvDaIdeal.main_arg1) = m ((c.tc : Thread Cert.QkvDaIdeal.nD Cert.QkvDaIdeal.τ).loc Cert.QkvDaIdeal.main_arg1)
      ∧ r.2.mem ((c.tc : Thread Cert.QkvDaIdeal.nD Cert.QkvDaIdeal.τ).loc Cert.QkvDaIdeal.main_arg2) = m ((c.tc : Thread Cert.QkvDaIdeal.nD Cert.QkvDaIdeal.τ).loc Cert.QkvDaIdeal.main_arg2))
      ∧ r.2.sem = fun _ => 0)

def quiescent_QkvDaReferenceIdeal [hQkvDaReferenceIdeal : Cert.QkvDaReferenceIdeal.Facts] : Prop :=
  ∀ (m : (ℓ : Loc Cert.QkvDaReferenceIdeal.nD Cert.QkvDaReferenceIdeal.τ Cert.QkvDaReferenceIdeal.sig) → Buf (Elt Ideal) ℓ) (g : Dev Cert.QkvDaReferenceIdeal.nD → PrngReg), Pre_QkvDaReferenceIdeal m →
    θ_run (Cert.QkvDaReferenceIdeal.defs (F := Ideal)) (onTc (τ := Cert.QkvDaReferenceIdeal.τ) (Cert.QkvDaReferenceIdeal.main (F := Ideal))) ⟨m, fun _ => 0, g⟩ (fun r => (∀ c : Dev Cert.QkvDaReferenceIdeal.nD,
      r.2.mem ((c.tc : Thread Cert.QkvDaReferenceIdeal.nD Cert.QkvDaReferenceIdeal.τ).loc Cert.QkvDaReferenceIdeal.main_arg0) = m ((c.tc : Thread Cert.QkvDaReferenceIdeal.nD Cert.QkvDaReferenceIdeal.τ).loc Cert.QkvDaReferenceIdeal.main_arg0)
      ∧ r.2.mem ((c.tc : Thread Cert.QkvDaReferenceIdeal.nD Cert.QkvDaReferenceIdeal.τ).loc Cert.QkvDaReferenceIdeal.main_arg1) = m ((c.tc : Thread Cert.QkvDaReferenceIdeal.nD Cert.QkvDaReferenceIdeal.τ).loc Cert.QkvDaReferenceIdeal.main_arg1)
      ∧ r.2.mem ((c.tc : Thread Cert.QkvDaReferenceIdeal.nD Cert.QkvDaReferenceIdeal.τ).loc Cert.QkvDaReferenceIdeal.main_arg2) = m ((c.tc : Thread Cert.QkvDaReferenceIdeal.nD Cert.QkvDaReferenceIdeal.τ).loc Cert.QkvDaReferenceIdeal.main_arg2))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1)
      ∧ r.2.mem ((c.tc : Thread Cert.QkvDw.nD Cert.QkvDw.τ).loc Cert.QkvDw.main_arg2) = m ((c.tc : Thread Cert.QkvDw.nD Cert.QkvDw.τ).loc Cert.QkvDw.main_arg2))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
      ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ r.2.sem = fun _ => 0)

def quiescent_QkvDwReferenceIdeal [hQkvDwReferenceIdeal : Cert.QkvDwReferenceIdeal.Facts] : Prop :=
  ∀ (m : (ℓ : Loc Cert.QkvDwReferenceIdeal.nD Cert.QkvDwReferenceIdeal.τ Cert.QkvDwReferenceIdeal.sig) → Buf (Elt Ideal) ℓ) (g : Dev Cert.QkvDwReferenceIdeal.nD → PrngReg), Pre_QkvDwReferenceIdeal m →
    θ_run (Cert.QkvDwReferenceIdeal.defs (F := Ideal)) (onTc (τ := Cert.QkvDwReferenceIdeal.τ) (Cert.QkvDwReferenceIdeal.main (F := Ideal))) ⟨m, fun _ => 0, g⟩ (fun r => (∀ c : Dev Cert.QkvDwReferenceIdeal.nD,
      r.2.mem ((c.tc : Thread Cert.QkvDwReferenceIdeal.nD Cert.QkvDwReferenceIdeal.τ).loc Cert.QkvDwReferenceIdeal.main_arg0) = m ((c.tc : Thread Cert.QkvDwReferenceIdeal.nD Cert.QkvDwReferenceIdeal.τ).loc Cert.QkvDwReferenceIdeal.main_arg0)
      ∧ r.2.mem ((c.tc : Thread Cert.QkvDwReferenceIdeal.nD Cert.QkvDwReferenceIdeal.τ).loc Cert.QkvDwReferenceIdeal.main_arg1) = m ((c.tc : Thread Cert.QkvDwReferenceIdeal.nD Cert.QkvDwReferenceIdeal.τ).loc Cert.QkvDwReferenceIdeal.main_arg1)
      ∧ r.2.mem ((c.tc : Thread Cert.QkvDwReferenceIdeal.nD Cert.QkvDwReferenceIdeal.τ).loc Cert.QkvDwReferenceIdeal.main_arg2) = m ((c.tc : Thread Cert.QkvDwReferenceIdeal.nD Cert.QkvDwReferenceIdeal.τ).loc Cert.QkvDwReferenceIdeal.main_arg2))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ r.2.sem = fun _ => 0)

def quiescent_QkvFwdReferenceIdeal [hQkvFwdReferenceIdeal : Cert.QkvFwdReferenceIdeal.Facts] : Prop :=
  ∀ (m : (ℓ : Loc Cert.QkvFwdReferenceIdeal.nD Cert.QkvFwdReferenceIdeal.τ Cert.QkvFwdReferenceIdeal.sig) → Buf (Elt Ideal) ℓ) (g : Dev Cert.QkvFwdReferenceIdeal.nD → PrngReg), Pre_QkvFwdReferenceIdeal m →
    θ_run (Cert.QkvFwdReferenceIdeal.defs (F := Ideal)) (onTc (τ := Cert.QkvFwdReferenceIdeal.τ) (Cert.QkvFwdReferenceIdeal.main (F := Ideal))) ⟨m, fun _ => 0, g⟩ (fun r => (∀ c : Dev Cert.QkvFwdReferenceIdeal.nD,
      r.2.mem ((c.tc : Thread Cert.QkvFwdReferenceIdeal.nD Cert.QkvFwdReferenceIdeal.τ).loc Cert.QkvFwdReferenceIdeal.main_arg0) = m ((c.tc : Thread Cert.QkvFwdReferenceIdeal.nD Cert.QkvFwdReferenceIdeal.τ).loc Cert.QkvFwdReferenceIdeal.main_arg0)
      ∧ r.2.mem ((c.tc : Thread Cert.QkvFwdReferenceIdeal.nD Cert.QkvFwdReferenceIdeal.τ).loc Cert.QkvFwdReferenceIdeal.main_arg1) = m ((c.tc : Thread Cert.QkvFwdReferenceIdeal.nD Cert.QkvFwdReferenceIdeal.τ).loc Cert.QkvFwdReferenceIdeal.main_arg1))
      ∧ r.2.sem = fun _ => 0)

def quiescent_GuDa [hGuDa : Cert.GuDa.Facts] : Prop :=
  ∀ (m : (ℓ : Loc Cert.GuDa.nD Cert.GuDa.τ Cert.GuDa.sig) → Buf (Elt Bits) ℓ) (g : Dev Cert.GuDa.nD → PrngReg), Pre_GuDa m →
    θ_run (Cert.GuDa.defs (F := Bits)) (onTc (τ := Cert.GuDa.τ) (Cert.GuDa.main (F := Bits))) ⟨m, fun _ => 0, g⟩ (fun r => (∀ c : Dev Cert.GuDa.nD,
      r.2.mem ((c.tc : Thread Cert.GuDa.nD Cert.GuDa.τ).loc Cert.GuDa.main_arg0) = m ((c.tc : Thread Cert.GuDa.nD Cert.GuDa.τ).loc Cert.GuDa.main_arg0)
      ∧ r.2.mem ((c.tc : Thread Cert.GuDa.nD Cert.GuDa.τ).loc Cert.GuDa.main_arg1) = m ((c.tc : Thread Cert.GuDa.nD Cert.GuDa.τ).loc Cert.GuDa.main_arg1)
      ∧ r.2.mem ((c.tc : Thread Cert.GuDa.nD Cert.GuDa.τ).loc Cert.GuDa.main_arg2) = m ((c.tc : Thread Cert.GuDa.nD Cert.GuDa.τ).loc Cert.GuDa.main_arg2))
      ∧ r.2.sem = fun _ => 0)

def quiescent_GuDaIdeal [hGuDaIdeal : Cert.GuDaIdeal.Facts] : Prop :=
  ∀ (m : (ℓ : Loc Cert.GuDaIdeal.nD Cert.GuDaIdeal.τ Cert.GuDaIdeal.sig) → Buf (Elt Ideal) ℓ) (g : Dev Cert.GuDaIdeal.nD → PrngReg), Pre_GuDaIdeal m →
    θ_run (Cert.GuDaIdeal.defs (F := Ideal)) (onTc (τ := Cert.GuDaIdeal.τ) (Cert.GuDaIdeal.main (F := Ideal))) ⟨m, fun _ => 0, g⟩ (fun r => (∀ c : Dev Cert.GuDaIdeal.nD,
      r.2.mem ((c.tc : Thread Cert.GuDaIdeal.nD Cert.GuDaIdeal.τ).loc Cert.GuDaIdeal.main_arg0) = m ((c.tc : Thread Cert.GuDaIdeal.nD Cert.GuDaIdeal.τ).loc Cert.GuDaIdeal.main_arg0)
      ∧ r.2.mem ((c.tc : Thread Cert.GuDaIdeal.nD Cert.GuDaIdeal.τ).loc Cert.GuDaIdeal.main_arg1) = m ((c.tc : Thread Cert.GuDaIdeal.nD Cert.GuDaIdeal.τ).loc Cert.GuDaIdeal.main_arg1)
      ∧ r.2.mem ((c.tc : Thread Cert.GuDaIdeal.nD Cert.GuDaIdeal.τ).loc Cert.GuDaIdeal.main_arg2) = m ((c.tc : Thread Cert.GuDaIdeal.nD Cert.GuDaIdeal.τ).loc Cert.GuDaIdeal.main_arg2))
      ∧ r.2.sem = fun _ => 0)

def quiescent_GuDaReferenceIdeal [hGuDaReferenceIdeal : Cert.GuDaReferenceIdeal.Facts] : Prop :=
  ∀ (m : (ℓ : Loc Cert.GuDaReferenceIdeal.nD Cert.GuDaReferenceIdeal.τ Cert.GuDaReferenceIdeal.sig) → Buf (Elt Ideal) ℓ) (g : Dev Cert.GuDaReferenceIdeal.nD → PrngReg), Pre_GuDaReferenceIdeal m →
    θ_run (Cert.GuDaReferenceIdeal.defs (F := Ideal)) (onTc (τ := Cert.GuDaReferenceIdeal.τ) (Cert.GuDaReferenceIdeal.main (F := Ideal))) ⟨m, fun _ => 0, g⟩ (fun r => (∀ c : Dev Cert.GuDaReferenceIdeal.nD,
      r.2.mem ((c.tc : Thread Cert.GuDaReferenceIdeal.nD Cert.GuDaReferenceIdeal.τ).loc Cert.GuDaReferenceIdeal.main_arg0) = m ((c.tc : Thread Cert.GuDaReferenceIdeal.nD Cert.GuDaReferenceIdeal.τ).loc Cert.GuDaReferenceIdeal.main_arg0)
      ∧ r.2.mem ((c.tc : Thread Cert.GuDaReferenceIdeal.nD Cert.GuDaReferenceIdeal.τ).loc Cert.GuDaReferenceIdeal.main_arg1) = m ((c.tc : Thread Cert.GuDaReferenceIdeal.nD Cert.GuDaReferenceIdeal.τ).loc Cert.GuDaReferenceIdeal.main_arg1)
      ∧ r.2.mem ((c.tc : Thread Cert.GuDaReferenceIdeal.nD Cert.GuDaReferenceIdeal.τ).loc Cert.GuDaReferenceIdeal.main_arg2) = m ((c.tc : Thread Cert.GuDaReferenceIdeal.nD Cert.GuDaReferenceIdeal.τ).loc Cert.GuDaReferenceIdeal.main_arg2))
      ∧ r.2.sem = fun _ => 0)

def quiescent_GuDw [hGuDw : Cert.GuDw.Facts] : Prop :=
  ∀ (m : (ℓ : Loc Cert.GuDw.nD Cert.GuDw.τ Cert.GuDw.sig) → Buf (Elt Bits) ℓ) (g : Dev Cert.GuDw.nD → PrngReg), Pre_GuDw m →
    θ_run (Cert.GuDw.defs (F := Bits)) (onTc (τ := Cert.GuDw.τ) (Cert.GuDw.main (F := Bits))) ⟨m, fun _ => 0, g⟩ (fun r => (∀ c : Dev Cert.GuDw.nD,
      r.2.mem ((c.tc : Thread Cert.GuDw.nD Cert.GuDw.τ).loc Cert.GuDw.main_arg0) = m ((c.tc : Thread Cert.GuDw.nD Cert.GuDw.τ).loc Cert.GuDw.main_arg0)
      ∧ r.2.mem ((c.tc : Thread Cert.GuDw.nD Cert.GuDw.τ).loc Cert.GuDw.main_arg1) = m ((c.tc : Thread Cert.GuDw.nD Cert.GuDw.τ).loc Cert.GuDw.main_arg1)
      ∧ r.2.mem ((c.tc : Thread Cert.GuDw.nD Cert.GuDw.τ).loc Cert.GuDw.main_arg2) = m ((c.tc : Thread Cert.GuDw.nD Cert.GuDw.τ).loc Cert.GuDw.main_arg2))
      ∧ r.2.sem = fun _ => 0)

def quiescent_GuDwIdeal [hGuDwIdeal : Cert.GuDwIdeal.Facts] : Prop :=
  ∀ (m : (ℓ : Loc Cert.GuDwIdeal.nD Cert.GuDwIdeal.τ Cert.GuDwIdeal.sig) → Buf (Elt Ideal) ℓ) (g : Dev Cert.GuDwIdeal.nD → PrngReg), Pre_GuDwIdeal m →
    θ_run (Cert.GuDwIdeal.defs (F := Ideal)) (onTc (τ := Cert.GuDwIdeal.τ) (Cert.GuDwIdeal.main (F := Ideal))) ⟨m, fun _ => 0, g⟩ (fun r => (∀ c : Dev Cert.GuDwIdeal.nD,
      r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
      ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1)
      ∧ r.2.mem ((c.tc : Thread Cert.GuDwIdeal.nD Cert.GuDwIdeal.τ).loc Cert.GuDwIdeal.main_arg2) = m ((c.tc : Thread Cert.GuDwIdeal.nD Cert.GuDwIdeal.τ).loc Cert.GuDwIdeal.main_arg2))
      ∧ r.2.sem = fun _ => 0)

def quiescent_GuDwReferenceIdeal [hGuDwReferenceIdeal : Cert.GuDwReferenceIdeal.Facts] : Prop :=
  ∀ (m : (ℓ : Loc Cert.GuDwReferenceIdeal.nD Cert.GuDwReferenceIdeal.τ Cert.GuDwReferenceIdeal.sig) → Buf (Elt Ideal) ℓ) (g : Dev Cert.GuDwReferenceIdeal.nD → PrngReg), Pre_GuDwReferenceIdeal m →
    θ_run (Cert.GuDwReferenceIdeal.defs (F := Ideal)) (onTc (τ := Cert.GuDwReferenceIdeal.τ) (Cert.GuDwReferenceIdeal.main (F := Ideal))) ⟨m, fun _ => 0, g⟩ (fun r => (∀ c : Dev Cert.GuDwReferenceIdeal.nD,
      r.2.mem ((c.tc : Thread Cert.GuDwReferenceIdeal.nD Cert.GuDwReferenceIdeal.τ).loc Cert.GuDwReferenceIdeal.main_arg0) = m ((c.tc : Thread Cert.GuDwReferenceIdeal.nD Cert.GuDwReferenceIdeal.τ).loc Cert.GuDwReferenceIdeal.main_arg0)
      ∧ r.2.mem ((c.tc : Thread Cert.GuDwReferenceIdeal.nD Cert.GuDwReferenceIdeal.τ).loc Cert.GuDwReferenceIdeal.main_arg1) = m ((c.tc : Thread Cert.GuDwReferenceIdeal.nD Cert.GuDwReferenceIdeal.τ).loc Cert.GuDwReferenceIdeal.main_arg1)
      ∧ r.2.mem ((c.tc : Thread Cert.GuDwReferenceIdeal.nD Cert.GuDwReferenceIdeal.τ).loc Cert.GuDwReferenceIdeal.main_arg2) = m ((c.tc : Thread Cert.GuDwReferenceIdeal.nD Cert.GuDwReferenceIdeal.τ).loc Cert.GuDwReferenceIdeal.main_arg2))
      ∧ r.2.sem = fun _ => 0)

def quiescent_GuFwd [hGuFwd : Cert.GuFwd.Facts] : Prop :=
  ∀ (m : (ℓ : Loc Cert.GuFwd.nD Cert.GuFwd.τ Cert.GuFwd.sig) → Buf (Elt Bits) ℓ) (g : Dev Cert.GuFwd.nD → PrngReg), Pre_GuFwd m →
    θ_run (Cert.GuFwd.defs (F := Bits)) (onTc (τ := Cert.GuFwd.τ) (Cert.GuFwd.main (F := Bits))) ⟨m, fun _ => 0, g⟩ (fun r => (∀ c : Dev Cert.GuFwd.nD,
      r.2.mem ((c.tc : Thread Cert.GuFwd.nD Cert.GuFwd.τ).loc Cert.GuFwd.main_arg0) = m ((c.tc : Thread Cert.GuFwd.nD Cert.GuFwd.τ).loc Cert.GuFwd.main_arg0)
      ∧ r.2.mem ((c.tc : Thread Cert.GuFwd.nD Cert.GuFwd.τ).loc Cert.GuFwd.main_arg1) = m ((c.tc : Thread Cert.GuFwd.nD Cert.GuFwd.τ).loc Cert.GuFwd.main_arg1))
      ∧ r.2.sem = fun _ => 0)

def quiescent_GuFwdIdeal [hGuFwdIdeal : Cert.GuFwdIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg), Pre_GuFwdIdeal m →
    θ_run (Cert.GuFwdIdeal.defs (F := Ideal)) (onTc (τ := Cert.GuFwdIdeal.τ) (Cert.GuFwdIdeal.main (F := Ideal))) ⟨m, fun _ => 0, g⟩ (fun r => (∀ c : Dev Cert.GuFwdIdeal.nD,
      r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
      ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ r.2.sem = fun _ => 0)

def quiescent_GuFwdReferenceIdeal [hGuFwdReferenceIdeal : Cert.GuFwdReferenceIdeal.Facts] : Prop :=
  ∀ (m : (ℓ : Loc Cert.GuFwdReferenceIdeal.nD Cert.GuFwdReferenceIdeal.τ Cert.GuFwdReferenceIdeal.sig) → Buf (Elt Ideal) ℓ) (g : Dev Cert.GuFwdReferenceIdeal.nD → PrngReg), Pre_GuFwdReferenceIdeal m →
    θ_run (Cert.GuFwdReferenceIdeal.defs (F := Ideal)) (onTc (τ := Cert.GuFwdReferenceIdeal.τ) (Cert.GuFwdReferenceIdeal.main (F := Ideal))) ⟨m, fun _ => 0, g⟩ (fun r => (∀ c : Dev Cert.GuFwdReferenceIdeal.nD,
      r.2.mem ((c.tc : Thread Cert.GuFwdReferenceIdeal.nD Cert.GuFwdReferenceIdeal.τ).loc Cert.GuFwdReferenceIdeal.main_arg0) = m ((c.tc : Thread Cert.GuFwdReferenceIdeal.nD Cert.GuFwdReferenceIdeal.τ).loc Cert.GuFwdReferenceIdeal.main_arg0)
      ∧ r.2.mem ((c.tc : Thread Cert.GuFwdReferenceIdeal.nD Cert.GuFwdReferenceIdeal.τ).loc Cert.GuFwdReferenceIdeal.main_arg1) = m ((c.tc : Thread Cert.GuFwdReferenceIdeal.nD Cert.GuFwdReferenceIdeal.τ).loc Cert.GuFwdReferenceIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1)
      ∧ r.2.mem ((c.tc : Thread Cert.DownDa.nD Cert.DownDa.τ).loc Cert.DownDa.main_arg2) = m ((c.tc : Thread Cert.DownDa.nD Cert.DownDa.τ).loc Cert.DownDa.main_arg2))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
      ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ r.2.sem = fun _ => 0)

def quiescent_DownDaReferenceIdeal [hDownDaReferenceIdeal : Cert.DownDaReferenceIdeal.Facts] : Prop :=
  ∀ (m : (ℓ : Loc Cert.DownDaReferenceIdeal.nD Cert.DownDaReferenceIdeal.τ Cert.DownDaReferenceIdeal.sig) → Buf (Elt Ideal) ℓ) (g : Dev Cert.DownDaReferenceIdeal.nD → PrngReg), Pre_DownDaReferenceIdeal m →
    θ_run (Cert.DownDaReferenceIdeal.defs (F := Ideal)) (onTc (τ := Cert.DownDaReferenceIdeal.τ) (Cert.DownDaReferenceIdeal.main (F := Ideal))) ⟨m, fun _ => 0, g⟩ (fun r => (∀ c : Dev Cert.DownDaReferenceIdeal.nD,
      r.2.mem ((c.tc : Thread Cert.DownDaReferenceIdeal.nD Cert.DownDaReferenceIdeal.τ).loc Cert.DownDaReferenceIdeal.main_arg0) = m ((c.tc : Thread Cert.DownDaReferenceIdeal.nD Cert.DownDaReferenceIdeal.τ).loc Cert.DownDaReferenceIdeal.main_arg0)
      ∧ r.2.mem ((c.tc : Thread Cert.DownDaReferenceIdeal.nD Cert.DownDaReferenceIdeal.τ).loc Cert.DownDaReferenceIdeal.main_arg1) = m ((c.tc : Thread Cert.DownDaReferenceIdeal.nD Cert.DownDaReferenceIdeal.τ).loc Cert.DownDaReferenceIdeal.main_arg1)
      ∧ r.2.mem ((c.tc : Thread Cert.DownDaReferenceIdeal.nD Cert.DownDaReferenceIdeal.τ).loc Cert.DownDaReferenceIdeal.main_arg2) = m ((c.tc : Thread Cert.DownDaReferenceIdeal.nD Cert.DownDaReferenceIdeal.τ).loc Cert.DownDaReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1)
      ∧ r.2.mem ((c.tc : Thread Cert.DownFwdReferenceIdeal.nD Cert.DownFwdReferenceIdeal.τ).loc Cert.DownFwdReferenceIdeal.main_arg2) = m ((c.tc : Thread Cert.DownFwdReferenceIdeal.nD Cert.DownFwdReferenceIdeal.τ).loc Cert.DownFwdReferenceIdeal.main_arg2))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1)
      ∧ r.2.mem ((c.tc : Thread Cert.InDa.nD Cert.InDa.τ).loc Cert.InDa.main_arg2) = m ((c.tc : Thread Cert.InDa.nD Cert.InDa.τ).loc Cert.InDa.main_arg2)
      ∧ r.2.mem ((c.tc : Thread Cert.InDa.nD Cert.InDa.τ).loc Cert.InDa.main_arg3) = m ((c.tc : Thread Cert.InDa.nD Cert.InDa.τ).loc Cert.InDa.main_arg3))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
      ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3))
      ∧ r.2.sem = fun _ => 0)

def quiescent_InDaReferenceIdeal [hInDaReferenceIdeal : Cert.InDaReferenceIdeal.Facts] : Prop :=
  ∀ (m : (ℓ : Loc Cert.InDaReferenceIdeal.nD Cert.InDaReferenceIdeal.τ Cert.InDaReferenceIdeal.sig) → Buf (Elt Ideal) ℓ) (g : Dev Cert.InDaReferenceIdeal.nD → PrngReg), Pre_InDaReferenceIdeal m →
    θ_run (Cert.InDaReferenceIdeal.defs (F := Ideal)) (onTc (τ := Cert.InDaReferenceIdeal.τ) (Cert.InDaReferenceIdeal.main (F := Ideal))) ⟨m, fun _ => 0, g⟩ (fun r => (∀ c : Dev Cert.InDaReferenceIdeal.nD,
      r.2.mem ((c.tc : Thread Cert.InDaReferenceIdeal.nD Cert.InDaReferenceIdeal.τ).loc Cert.InDaReferenceIdeal.main_arg0) = m ((c.tc : Thread Cert.InDaReferenceIdeal.nD Cert.InDaReferenceIdeal.τ).loc Cert.InDaReferenceIdeal.main_arg0)
      ∧ r.2.mem ((c.tc : Thread Cert.InDaReferenceIdeal.nD Cert.InDaReferenceIdeal.τ).loc Cert.InDaReferenceIdeal.main_arg1) = m ((c.tc : Thread Cert.InDaReferenceIdeal.nD Cert.InDaReferenceIdeal.τ).loc Cert.InDaReferenceIdeal.main_arg1)
      ∧ r.2.mem ((c.tc : Thread Cert.InDaReferenceIdeal.nD Cert.InDaReferenceIdeal.τ).loc Cert.InDaReferenceIdeal.main_arg2) = m ((c.tc : Thread Cert.InDaReferenceIdeal.nD Cert.InDaReferenceIdeal.τ).loc Cert.InDaReferenceIdeal.main_arg2)
      ∧ r.2.mem ((c.tc : Thread Cert.InDaReferenceIdeal.nD Cert.InDaReferenceIdeal.τ).loc Cert.InDaReferenceIdeal.main_arg3) = m ((c.tc : Thread Cert.InDaReferenceIdeal.nD Cert.InDaReferenceIdeal.τ).loc Cert.InDaReferenceIdeal.main_arg3))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1)
      ∧ r.2.mem ((c.tc : Thread Cert.InDwReferenceIdeal.nD Cert.InDwReferenceIdeal.τ).loc Cert.InDwReferenceIdeal.main_arg2) = m ((c.tc : Thread Cert.InDwReferenceIdeal.nD Cert.InDwReferenceIdeal.τ).loc Cert.InDwReferenceIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1)
      ∧ r.2.mem ((c.tc : Thread Cert.OutDa.nD Cert.OutDa.τ).loc Cert.OutDa.main_arg2) = m ((c.tc : Thread Cert.OutDa.nD Cert.OutDa.τ).loc Cert.OutDa.main_arg2))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
      ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ r.2.sem = fun _ => 0)

def quiescent_OutDaReferenceIdeal [hOutDaReferenceIdeal : Cert.OutDaReferenceIdeal.Facts] : Prop :=
  ∀ (m : (ℓ : Loc Cert.OutDaReferenceIdeal.nD Cert.OutDaReferenceIdeal.τ Cert.OutDaReferenceIdeal.sig) → Buf (Elt Ideal) ℓ) (g : Dev Cert.OutDaReferenceIdeal.nD → PrngReg), Pre_OutDaReferenceIdeal m →
    θ_run (Cert.OutDaReferenceIdeal.defs (F := Ideal)) (onTc (τ := Cert.OutDaReferenceIdeal.τ) (Cert.OutDaReferenceIdeal.main (F := Ideal))) ⟨m, fun _ => 0, g⟩ (fun r => (∀ c : Dev Cert.OutDaReferenceIdeal.nD,
      r.2.mem ((c.tc : Thread Cert.OutDaReferenceIdeal.nD Cert.OutDaReferenceIdeal.τ).loc Cert.OutDaReferenceIdeal.main_arg0) = m ((c.tc : Thread Cert.OutDaReferenceIdeal.nD Cert.OutDaReferenceIdeal.τ).loc Cert.OutDaReferenceIdeal.main_arg0)
      ∧ r.2.mem ((c.tc : Thread Cert.OutDaReferenceIdeal.nD Cert.OutDaReferenceIdeal.τ).loc Cert.OutDaReferenceIdeal.main_arg1) = m ((c.tc : Thread Cert.OutDaReferenceIdeal.nD Cert.OutDaReferenceIdeal.τ).loc Cert.OutDaReferenceIdeal.main_arg1)
      ∧ r.2.mem ((c.tc : Thread Cert.OutDaReferenceIdeal.nD Cert.OutDaReferenceIdeal.τ).loc Cert.OutDaReferenceIdeal.main_arg2) = m ((c.tc : Thread Cert.OutDaReferenceIdeal.nD Cert.OutDaReferenceIdeal.τ).loc Cert.OutDaReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2))
      ∧ r.2.sem = fun _ => 0)

def quiescent_PleGateDa [hPleGateDa : Cert.PleGateDa.Facts] : Prop :=
  ∀ (m : (ℓ : Loc Cert.PleGateDa.nD Cert.PleGateDa.τ Cert.PleGateDa.sig) → Buf (Elt Bits) ℓ) (g : Dev Cert.PleGateDa.nD → PrngReg), Pre_PleGateDa m →
    θ_run (Cert.PleGateDa.defs (F := Bits)) (onTc (τ := Cert.PleGateDa.τ) (Cert.PleGateDa.main (F := Bits))) ⟨m, fun _ => 0, g⟩ (fun r => (∀ c : Dev Cert.PleGateDa.nD,
      r.2.mem ((c.tc : Thread Cert.PleGateDa.nD Cert.PleGateDa.τ).loc Cert.PleGateDa.main_arg0) = m ((c.tc : Thread Cert.PleGateDa.nD Cert.PleGateDa.τ).loc Cert.PleGateDa.main_arg0)
      ∧ r.2.mem ((c.tc : Thread Cert.PleGateDa.nD Cert.PleGateDa.τ).loc Cert.PleGateDa.main_arg1) = m ((c.tc : Thread Cert.PleGateDa.nD Cert.PleGateDa.τ).loc Cert.PleGateDa.main_arg1)
      ∧ r.2.mem ((c.tc : Thread Cert.PleGateDa.nD Cert.PleGateDa.τ).loc Cert.PleGateDa.main_arg2) = m ((c.tc : Thread Cert.PleGateDa.nD Cert.PleGateDa.τ).loc Cert.PleGateDa.main_arg2)
      ∧ r.2.mem ((c.tc : Thread Cert.PleGateDa.nD Cert.PleGateDa.τ).loc Cert.PleGateDa.main_arg3) = m ((c.tc : Thread Cert.PleGateDa.nD Cert.PleGateDa.τ).loc Cert.PleGateDa.main_arg3))
      ∧ r.2.sem = fun _ => 0)

def quiescent_PleGateDaIdeal [hPleGateDaIdeal : Cert.PleGateDaIdeal.Facts] : Prop :=
  ∀ (m : (ℓ : Loc Cert.PleGateDaIdeal.nD Cert.PleGateDaIdeal.τ Cert.PleGateDaIdeal.sig) → Buf (Elt Ideal) ℓ) (g : Dev Cert.PleGateDaIdeal.nD → PrngReg), Pre_PleGateDaIdeal m →
    θ_run (Cert.PleGateDaIdeal.defs (F := Ideal)) (onTc (τ := Cert.PleGateDaIdeal.τ) (Cert.PleGateDaIdeal.main (F := Ideal))) ⟨m, fun _ => 0, g⟩ (fun r => (∀ c : Dev Cert.PleGateDaIdeal.nD,
      r.2.mem ((c.tc : Thread Cert.PleGateDaIdeal.nD Cert.PleGateDaIdeal.τ).loc Cert.PleGateDaIdeal.main_arg0) = m ((c.tc : Thread Cert.PleGateDaIdeal.nD Cert.PleGateDaIdeal.τ).loc Cert.PleGateDaIdeal.main_arg0)
      ∧ r.2.mem ((c.tc : Thread Cert.PleGateDaIdeal.nD Cert.PleGateDaIdeal.τ).loc Cert.PleGateDaIdeal.main_arg1) = m ((c.tc : Thread Cert.PleGateDaIdeal.nD Cert.PleGateDaIdeal.τ).loc Cert.PleGateDaIdeal.main_arg1)
      ∧ r.2.mem ((c.tc : Thread Cert.PleGateDaIdeal.nD Cert.PleGateDaIdeal.τ).loc Cert.PleGateDaIdeal.main_arg2) = m ((c.tc : Thread Cert.PleGateDaIdeal.nD Cert.PleGateDaIdeal.τ).loc Cert.PleGateDaIdeal.main_arg2)
      ∧ r.2.mem ((c.tc : Thread Cert.PleGateDaIdeal.nD Cert.PleGateDaIdeal.τ).loc Cert.PleGateDaIdeal.main_arg3) = m ((c.tc : Thread Cert.PleGateDaIdeal.nD Cert.PleGateDaIdeal.τ).loc Cert.PleGateDaIdeal.main_arg3))
      ∧ r.2.sem = fun _ => 0)

def quiescent_PleGateDaReferenceIdeal [hPleGateDaReferenceIdeal : Cert.PleGateDaReferenceIdeal.Facts] : Prop :=
  ∀ (m : (ℓ : Loc Cert.PleGateDaReferenceIdeal.nD Cert.PleGateDaReferenceIdeal.τ Cert.PleGateDaReferenceIdeal.sig) → Buf (Elt Ideal) ℓ) (g : Dev Cert.PleGateDaReferenceIdeal.nD → PrngReg), Pre_PleGateDaReferenceIdeal m →
    θ_run (Cert.PleGateDaReferenceIdeal.defs (F := Ideal)) (onTc (τ := Cert.PleGateDaReferenceIdeal.τ) (Cert.PleGateDaReferenceIdeal.main (F := Ideal))) ⟨m, fun _ => 0, g⟩ (fun r => (∀ c : Dev Cert.PleGateDaReferenceIdeal.nD,
      r.2.mem ((c.tc : Thread Cert.PleGateDaReferenceIdeal.nD Cert.PleGateDaReferenceIdeal.τ).loc Cert.PleGateDaReferenceIdeal.main_arg0) = m ((c.tc : Thread Cert.PleGateDaReferenceIdeal.nD Cert.PleGateDaReferenceIdeal.τ).loc Cert.PleGateDaReferenceIdeal.main_arg0)
      ∧ r.2.mem ((c.tc : Thread Cert.PleGateDaReferenceIdeal.nD Cert.PleGateDaReferenceIdeal.τ).loc Cert.PleGateDaReferenceIdeal.main_arg1) = m ((c.tc : Thread Cert.PleGateDaReferenceIdeal.nD Cert.PleGateDaReferenceIdeal.τ).loc Cert.PleGateDaReferenceIdeal.main_arg1)
      ∧ r.2.mem ((c.tc : Thread Cert.PleGateDaReferenceIdeal.nD Cert.PleGateDaReferenceIdeal.τ).loc Cert.PleGateDaReferenceIdeal.main_arg2) = m ((c.tc : Thread Cert.PleGateDaReferenceIdeal.nD Cert.PleGateDaReferenceIdeal.τ).loc Cert.PleGateDaReferenceIdeal.main_arg2)
      ∧ r.2.mem ((c.tc : Thread Cert.PleGateDaReferenceIdeal.nD Cert.PleGateDaReferenceIdeal.τ).loc Cert.PleGateDaReferenceIdeal.main_arg3) = m ((c.tc : Thread Cert.PleGateDaReferenceIdeal.nD Cert.PleGateDaReferenceIdeal.τ).loc Cert.PleGateDaReferenceIdeal.main_arg3))
      ∧ r.2.sem = fun _ => 0)

def quiescent_PleGateDw [hPleGateDw : Cert.PleGateDw.Facts] : Prop :=
  ∀ (m : (ℓ : Loc Cert.PleGateDw.nD Cert.PleGateDw.τ Cert.PleGateDw.sig) → Buf (Elt Bits) ℓ) (g : Dev Cert.PleGateDw.nD → PrngReg), Pre_PleGateDw m →
    θ_run (Cert.PleGateDw.defs (F := Bits)) (onTc (τ := Cert.PleGateDw.τ) (Cert.PleGateDw.main (F := Bits))) ⟨m, fun _ => 0, g⟩ (fun r => (∀ c : Dev Cert.PleGateDw.nD,
      r.2.mem ((c.tc : Thread Cert.PleGateDw.nD Cert.PleGateDw.τ).loc Cert.PleGateDw.main_arg0) = m ((c.tc : Thread Cert.PleGateDw.nD Cert.PleGateDw.τ).loc Cert.PleGateDw.main_arg0)
      ∧ r.2.mem ((c.tc : Thread Cert.PleGateDw.nD Cert.PleGateDw.τ).loc Cert.PleGateDw.main_arg1) = m ((c.tc : Thread Cert.PleGateDw.nD Cert.PleGateDw.τ).loc Cert.PleGateDw.main_arg1)
      ∧ r.2.mem ((c.tc : Thread Cert.PleGateDw.nD Cert.PleGateDw.τ).loc Cert.PleGateDw.main_arg2) = m ((c.tc : Thread Cert.PleGateDw.nD Cert.PleGateDw.τ).loc Cert.PleGateDw.main_arg2))
      ∧ r.2.sem = fun _ => 0)

def quiescent_PleGateDwIdeal [hPleGateDwIdeal : Cert.PleGateDwIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg), Pre_PleGateDwIdeal m →
    θ_run (Cert.PleGateDwIdeal.defs (F := Ideal)) (onTc (τ := Cert.PleGateDwIdeal.τ) (Cert.PleGateDwIdeal.main (F := Ideal))) ⟨m, fun _ => 0, g⟩ (fun r => (∀ c : Dev Cert.PleGateDwIdeal.nD,
      r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
      ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1)
      ∧ r.2.mem ((c.tc : Thread Cert.PleGateDwIdeal.nD Cert.PleGateDwIdeal.τ).loc Cert.PleGateDwIdeal.main_arg2) = m ((c.tc : Thread Cert.PleGateDwIdeal.nD Cert.PleGateDwIdeal.τ).loc Cert.PleGateDwIdeal.main_arg2))
      ∧ r.2.sem = fun _ => 0)

def quiescent_PleGateDwReferenceIdeal [hPleGateDwReferenceIdeal : Cert.PleGateDwReferenceIdeal.Facts] : Prop :=
  ∀ (m : (ℓ : Loc Cert.PleGateDwReferenceIdeal.nD Cert.PleGateDwReferenceIdeal.τ Cert.PleGateDwReferenceIdeal.sig) → Buf (Elt Ideal) ℓ) (g : Dev Cert.PleGateDwReferenceIdeal.nD → PrngReg), Pre_PleGateDwReferenceIdeal m →
    θ_run (Cert.PleGateDwReferenceIdeal.defs (F := Ideal)) (onTc (τ := Cert.PleGateDwReferenceIdeal.τ) (Cert.PleGateDwReferenceIdeal.main (F := Ideal))) ⟨m, fun _ => 0, g⟩ (fun r => (∀ c : Dev Cert.PleGateDwReferenceIdeal.nD,
      r.2.mem ((c.tc : Thread Cert.PleGateDwReferenceIdeal.nD Cert.PleGateDwReferenceIdeal.τ).loc Cert.PleGateDwReferenceIdeal.main_arg0) = m ((c.tc : Thread Cert.PleGateDwReferenceIdeal.nD Cert.PleGateDwReferenceIdeal.τ).loc Cert.PleGateDwReferenceIdeal.main_arg0)
      ∧ r.2.mem ((c.tc : Thread Cert.PleGateDwReferenceIdeal.nD Cert.PleGateDwReferenceIdeal.τ).loc Cert.PleGateDwReferenceIdeal.main_arg1) = m ((c.tc : Thread Cert.PleGateDwReferenceIdeal.nD Cert.PleGateDwReferenceIdeal.τ).loc Cert.PleGateDwReferenceIdeal.main_arg1)
      ∧ r.2.mem ((c.tc : Thread Cert.PleGateDwReferenceIdeal.nD Cert.PleGateDwReferenceIdeal.τ).loc Cert.PleGateDwReferenceIdeal.main_arg2) = m ((c.tc : Thread Cert.PleGateDwReferenceIdeal.nD Cert.PleGateDwReferenceIdeal.τ).loc Cert.PleGateDwReferenceIdeal.main_arg2))
      ∧ r.2.sem = fun _ => 0)

def quiescent_PleGateFwd [hPleGateFwd : Cert.PleGateFwd.Facts] : Prop :=
  ∀ (m : (ℓ : Loc Cert.PleGateFwd.nD Cert.PleGateFwd.τ Cert.PleGateFwd.sig) → Buf (Elt Bits) ℓ) (g : Dev Cert.PleGateFwd.nD → PrngReg), Pre_PleGateFwd m →
    θ_run (Cert.PleGateFwd.defs (F := Bits)) (onTc (τ := Cert.PleGateFwd.τ) (Cert.PleGateFwd.main (F := Bits))) ⟨m, fun _ => 0, g⟩ (fun r => (∀ c : Dev Cert.PleGateFwd.nD,
      r.2.mem ((c.tc : Thread Cert.PleGateFwd.nD Cert.PleGateFwd.τ).loc Cert.PleGateFwd.main_arg0) = m ((c.tc : Thread Cert.PleGateFwd.nD Cert.PleGateFwd.τ).loc Cert.PleGateFwd.main_arg0)
      ∧ r.2.mem ((c.tc : Thread Cert.PleGateFwd.nD Cert.PleGateFwd.τ).loc Cert.PleGateFwd.main_arg1) = m ((c.tc : Thread Cert.PleGateFwd.nD Cert.PleGateFwd.τ).loc Cert.PleGateFwd.main_arg1))
      ∧ r.2.sem = fun _ => 0)

def quiescent_PleGateFwdIdeal [hPleGateFwdIdeal : Cert.PleGateFwdIdeal.Facts] : Prop :=
  ∀ (m : (ℓ : Loc Cert.PleGateFwdIdeal.nD Cert.PleGateFwdIdeal.τ Cert.PleGateFwdIdeal.sig) → Buf (Elt Ideal) ℓ) (g : Dev Cert.PleGateFwdIdeal.nD → PrngReg), Pre_PleGateFwdIdeal m →
    θ_run (Cert.PleGateFwdIdeal.defs (F := Ideal)) (onTc (τ := Cert.PleGateFwdIdeal.τ) (Cert.PleGateFwdIdeal.main (F := Ideal))) ⟨m, fun _ => 0, g⟩ (fun r => (∀ c : Dev Cert.PleGateFwdIdeal.nD,
      r.2.mem ((c.tc : Thread Cert.PleGateFwdIdeal.nD Cert.PleGateFwdIdeal.τ).loc Cert.PleGateFwdIdeal.main_arg0) = m ((c.tc : Thread Cert.PleGateFwdIdeal.nD Cert.PleGateFwdIdeal.τ).loc Cert.PleGateFwdIdeal.main_arg0)
      ∧ r.2.mem ((c.tc : Thread Cert.PleGateFwdIdeal.nD Cert.PleGateFwdIdeal.τ).loc Cert.PleGateFwdIdeal.main_arg1) = m ((c.tc : Thread Cert.PleGateFwdIdeal.nD Cert.PleGateFwdIdeal.τ).loc Cert.PleGateFwdIdeal.main_arg1))
      ∧ r.2.sem = fun _ => 0)

def quiescent_PleGateFwdReferenceIdeal [hPleGateFwdReferenceIdeal : Cert.PleGateFwdReferenceIdeal.Facts] : Prop :=
  ∀ (m : (ℓ : Loc Cert.PleGateFwdReferenceIdeal.nD Cert.PleGateFwdReferenceIdeal.τ Cert.PleGateFwdReferenceIdeal.sig) → Buf (Elt Ideal) ℓ) (g : Dev Cert.PleGateFwdReferenceIdeal.nD → PrngReg), Pre_PleGateFwdReferenceIdeal m →
    θ_run (Cert.PleGateFwdReferenceIdeal.defs (F := Ideal)) (onTc (τ := Cert.PleGateFwdReferenceIdeal.τ) (Cert.PleGateFwdReferenceIdeal.main (F := Ideal))) ⟨m, fun _ => 0, g⟩ (fun r => (∀ c : Dev Cert.PleGateFwdReferenceIdeal.nD,
      r.2.mem ((c.tc : Thread Cert.PleGateFwdReferenceIdeal.nD Cert.PleGateFwdReferenceIdeal.τ).loc Cert.PleGateFwdReferenceIdeal.main_arg0) = m ((c.tc : Thread Cert.PleGateFwdReferenceIdeal.nD Cert.PleGateFwdReferenceIdeal.τ).loc Cert.PleGateFwdReferenceIdeal.main_arg0)
      ∧ r.2.mem ((c.tc : Thread Cert.PleGateFwdReferenceIdeal.nD Cert.PleGateFwdReferenceIdeal.τ).loc Cert.PleGateFwdReferenceIdeal.main_arg1) = m ((c.tc : Thread Cert.PleGateFwdReferenceIdeal.nD Cert.PleGateFwdReferenceIdeal.τ).loc Cert.PleGateFwdReferenceIdeal.main_arg1))
      ∧ r.2.sem = fun _ => 0)

def quiescent_ODa [hODa : Cert.ODa.Facts] : Prop :=
  ∀ (m : (ℓ : Loc Cert.ODa.nD Cert.ODa.τ Cert.ODa.sig) → Buf (Elt Bits) ℓ) (g : Dev Cert.ODa.nD → PrngReg), Pre_ODa m →
    θ_run (Cert.ODa.defs (F := Bits)) (onTc (τ := Cert.ODa.τ) (Cert.ODa.main (F := Bits))) ⟨m, fun _ => 0, g⟩ (fun r => (∀ c : Dev Cert.ODa.nD,
      r.2.mem ((c.tc : Thread Cert.ODa.nD Cert.ODa.τ).loc Cert.ODa.main_arg0) = m ((c.tc : Thread Cert.ODa.nD Cert.ODa.τ).loc Cert.ODa.main_arg0)
      ∧ r.2.mem ((c.tc : Thread Cert.ODa.nD Cert.ODa.τ).loc Cert.ODa.main_arg1) = m ((c.tc : Thread Cert.ODa.nD Cert.ODa.τ).loc Cert.ODa.main_arg1)
      ∧ r.2.mem ((c.tc : Thread Cert.ODa.nD Cert.ODa.τ).loc Cert.ODa.main_arg2) = m ((c.tc : Thread Cert.ODa.nD Cert.ODa.τ).loc Cert.ODa.main_arg2))
      ∧ r.2.sem = fun _ => 0)

def quiescent_ODaIdeal [hODaIdeal : Cert.ODaIdeal.Facts] : Prop :=
  ∀ (m : (ℓ : Loc Cert.ODaIdeal.nD Cert.ODaIdeal.τ Cert.ODaIdeal.sig) → Buf (Elt Ideal) ℓ) (g : Dev Cert.ODaIdeal.nD → PrngReg), Pre_ODaIdeal m →
    θ_run (Cert.ODaIdeal.defs (F := Ideal)) (onTc (τ := Cert.ODaIdeal.τ) (Cert.ODaIdeal.main (F := Ideal))) ⟨m, fun _ => 0, g⟩ (fun r => (∀ c : Dev Cert.ODaIdeal.nD,
      r.2.mem ((c.tc : Thread Cert.ODaIdeal.nD Cert.ODaIdeal.τ).loc Cert.ODaIdeal.main_arg0) = m ((c.tc : Thread Cert.ODaIdeal.nD Cert.ODaIdeal.τ).loc Cert.ODaIdeal.main_arg0)
      ∧ r.2.mem ((c.tc : Thread Cert.ODaIdeal.nD Cert.ODaIdeal.τ).loc Cert.ODaIdeal.main_arg1) = m ((c.tc : Thread Cert.ODaIdeal.nD Cert.ODaIdeal.τ).loc Cert.ODaIdeal.main_arg1)
      ∧ r.2.mem ((c.tc : Thread Cert.ODaIdeal.nD Cert.ODaIdeal.τ).loc Cert.ODaIdeal.main_arg2) = m ((c.tc : Thread Cert.ODaIdeal.nD Cert.ODaIdeal.τ).loc Cert.ODaIdeal.main_arg2))
      ∧ r.2.sem = fun _ => 0)

def quiescent_ODaReferenceIdeal [hODaReferenceIdeal : Cert.ODaReferenceIdeal.Facts] : Prop :=
  ∀ (m : (ℓ : Loc Cert.ODaReferenceIdeal.nD Cert.ODaReferenceIdeal.τ Cert.ODaReferenceIdeal.sig) → Buf (Elt Ideal) ℓ) (g : Dev Cert.ODaReferenceIdeal.nD → PrngReg), Pre_ODaReferenceIdeal m →
    θ_run (Cert.ODaReferenceIdeal.defs (F := Ideal)) (onTc (τ := Cert.ODaReferenceIdeal.τ) (Cert.ODaReferenceIdeal.main (F := Ideal))) ⟨m, fun _ => 0, g⟩ (fun r => (∀ c : Dev Cert.ODaReferenceIdeal.nD,
      r.2.mem ((c.tc : Thread Cert.ODaReferenceIdeal.nD Cert.ODaReferenceIdeal.τ).loc Cert.ODaReferenceIdeal.main_arg0) = m ((c.tc : Thread Cert.ODaReferenceIdeal.nD Cert.ODaReferenceIdeal.τ).loc Cert.ODaReferenceIdeal.main_arg0)
      ∧ r.2.mem ((c.tc : Thread Cert.ODaReferenceIdeal.nD Cert.ODaReferenceIdeal.τ).loc Cert.ODaReferenceIdeal.main_arg1) = m ((c.tc : Thread Cert.ODaReferenceIdeal.nD Cert.ODaReferenceIdeal.τ).loc Cert.ODaReferenceIdeal.main_arg1)
      ∧ r.2.mem ((c.tc : Thread Cert.ODaReferenceIdeal.nD Cert.ODaReferenceIdeal.τ).loc Cert.ODaReferenceIdeal.main_arg2) = m ((c.tc : Thread Cert.ODaReferenceIdeal.nD Cert.ODaReferenceIdeal.τ).loc Cert.ODaReferenceIdeal.main_arg2))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1)
      ∧ r.2.mem ((c.tc : Thread Cert.ODw.nD Cert.ODw.τ).loc Cert.ODw.main_arg2) = m ((c.tc : Thread Cert.ODw.nD Cert.ODw.τ).loc Cert.ODw.main_arg2))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1)
      ∧ r.2.mem ((c.tc : Thread Cert.ODwIdeal.nD Cert.ODwIdeal.τ).loc Cert.ODwIdeal.main_arg2) = m ((c.tc : Thread Cert.ODwIdeal.nD Cert.ODwIdeal.τ).loc Cert.ODwIdeal.main_arg2))
      ∧ r.2.sem = fun _ => 0)

def quiescent_ODwReferenceIdeal [hODwReferenceIdeal : Cert.ODwReferenceIdeal.Facts] : Prop :=
  ∀ (m : (ℓ : Loc Cert.ODwReferenceIdeal.nD Cert.ODwReferenceIdeal.τ Cert.ODwReferenceIdeal.sig) → Buf (Elt Ideal) ℓ) (g : Dev Cert.ODwReferenceIdeal.nD → PrngReg), Pre_ODwReferenceIdeal m →
    θ_run (Cert.ODwReferenceIdeal.defs (F := Ideal)) (onTc (τ := Cert.ODwReferenceIdeal.τ) (Cert.ODwReferenceIdeal.main (F := Ideal))) ⟨m, fun _ => 0, g⟩ (fun r => (∀ c : Dev Cert.ODwReferenceIdeal.nD,
      r.2.mem ((c.tc : Thread Cert.ODwReferenceIdeal.nD Cert.ODwReferenceIdeal.τ).loc Cert.ODwReferenceIdeal.main_arg0) = m ((c.tc : Thread Cert.ODwReferenceIdeal.nD Cert.ODwReferenceIdeal.τ).loc Cert.ODwReferenceIdeal.main_arg0)
      ∧ r.2.mem ((c.tc : Thread Cert.ODwReferenceIdeal.nD Cert.ODwReferenceIdeal.τ).loc Cert.ODwReferenceIdeal.main_arg1) = m ((c.tc : Thread Cert.ODwReferenceIdeal.nD Cert.ODwReferenceIdeal.τ).loc Cert.ODwReferenceIdeal.main_arg1)
      ∧ r.2.mem ((c.tc : Thread Cert.ODwReferenceIdeal.nD Cert.ODwReferenceIdeal.τ).loc Cert.ODwReferenceIdeal.main_arg2) = m ((c.tc : Thread Cert.ODwReferenceIdeal.nD Cert.ODwReferenceIdeal.τ).loc Cert.ODwReferenceIdeal.main_arg2))
      ∧ r.2.sem = fun _ => 0)

def quiescent_OFwd [hOFwd : Cert.OFwd.Facts] : Prop :=
  ∀ (m : (ℓ : Loc Cert.OFwd.nD Cert.OFwd.τ Cert.OFwd.sig) → Buf (Elt Bits) ℓ) (g : Dev Cert.OFwd.nD → PrngReg), Pre_OFwd m →
    θ_run (Cert.OFwd.defs (F := Bits)) (onTc (τ := Cert.OFwd.τ) (Cert.OFwd.main (F := Bits))) ⟨m, fun _ => 0, g⟩ (fun r => (∀ c : Dev Cert.OFwd.nD,
      r.2.mem ((c.tc : Thread Cert.OFwd.nD Cert.OFwd.τ).loc Cert.OFwd.main_arg0) = m ((c.tc : Thread Cert.OFwd.nD Cert.OFwd.τ).loc Cert.OFwd.main_arg0)
      ∧ r.2.mem ((c.tc : Thread Cert.OFwd.nD Cert.OFwd.τ).loc Cert.OFwd.main_arg1) = m ((c.tc : Thread Cert.OFwd.nD Cert.OFwd.τ).loc Cert.OFwd.main_arg1)
      ∧ r.2.mem ((c.tc : Thread Cert.OFwd.nD Cert.OFwd.τ).loc Cert.OFwd.main_arg2) = m ((c.tc : Thread Cert.OFwd.nD Cert.OFwd.τ).loc Cert.OFwd.main_arg2))
      ∧ r.2.sem = fun _ => 0)

def quiescent_OFwdIdeal [hOFwdIdeal : Cert.OFwdIdeal.Facts] : Prop :=
  ∀ (m : (ℓ : Loc Cert.OFwdIdeal.nD Cert.OFwdIdeal.τ Cert.OFwdIdeal.sig) → Buf (Elt Ideal) ℓ) (g : Dev Cert.OFwdIdeal.nD → PrngReg), Pre_OFwdIdeal m →
    θ_run (Cert.OFwdIdeal.defs (F := Ideal)) (onTc (τ := Cert.OFwdIdeal.τ) (Cert.OFwdIdeal.main (F := Ideal))) ⟨m, fun _ => 0, g⟩ (fun r => (∀ c : Dev Cert.OFwdIdeal.nD,
      r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
      ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
      ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ r.2.sem = fun _ => 0)

def quiescent_OFwdReferenceIdeal [hOFwdReferenceIdeal : Cert.OFwdReferenceIdeal.Facts] : Prop :=
  ∀ (m : (ℓ : Loc Cert.OFwdReferenceIdeal.nD Cert.OFwdReferenceIdeal.τ Cert.OFwdReferenceIdeal.sig) → Buf (Elt Ideal) ℓ) (g : Dev Cert.OFwdReferenceIdeal.nD → PrngReg), Pre_OFwdReferenceIdeal m →
    θ_run (Cert.OFwdReferenceIdeal.defs (F := Ideal)) (onTc (τ := Cert.OFwdReferenceIdeal.τ) (Cert.OFwdReferenceIdeal.main (F := Ideal))) ⟨m, fun _ => 0, g⟩ (fun r => (∀ c : Dev Cert.OFwdReferenceIdeal.nD,
      r.2.mem ((c.tc : Thread Cert.OFwdReferenceIdeal.nD Cert.OFwdReferenceIdeal.τ).loc Cert.OFwdReferenceIdeal.main_arg0) = m ((c.tc : Thread Cert.OFwdReferenceIdeal.nD Cert.OFwdReferenceIdeal.τ).loc Cert.OFwdReferenceIdeal.main_arg0)
      ∧ r.2.mem ((c.tc : Thread Cert.OFwdReferenceIdeal.nD Cert.OFwdReferenceIdeal.τ).loc Cert.OFwdReferenceIdeal.main_arg1) = m ((c.tc : Thread Cert.OFwdReferenceIdeal.nD Cert.OFwdReferenceIdeal.τ).loc Cert.OFwdReferenceIdeal.main_arg1)
      ∧ r.2.mem ((c.tc : Thread Cert.OFwdReferenceIdeal.nD Cert.OFwdReferenceIdeal.τ).loc Cert.OFwdReferenceIdeal.main_arg2) = m ((c.tc : Thread Cert.OFwdReferenceIdeal.nD Cert.OFwdReferenceIdeal.τ).loc Cert.OFwdReferenceIdeal.main_arg2))
      ∧ r.2.sem = fun _ => 0)

def quiescent_PleProjDw [hPleProjDw : Cert.PleProjDw.Facts] : Prop :=
  ∀ (m : (ℓ : Loc Cert.PleProjDw.nD Cert.PleProjDw.τ Cert.PleProjDw.sig) → Buf (Elt Bits) ℓ) (g : Dev Cert.PleProjDw.nD → PrngReg), Pre_PleProjDw m →
    θ_run (Cert.PleProjDw.defs (F := Bits)) (onTc (τ := Cert.PleProjDw.τ) (Cert.PleProjDw.main (F := Bits))) ⟨m, fun _ => 0, g⟩ (fun r => (∀ c : Dev Cert.PleProjDw.nD,
      r.2.mem ((c.tc : Thread Cert.PleProjDw.nD Cert.PleProjDw.τ).loc Cert.PleProjDw.main_arg0) = m ((c.tc : Thread Cert.PleProjDw.nD Cert.PleProjDw.τ).loc Cert.PleProjDw.main_arg0)
      ∧ r.2.mem ((c.tc : Thread Cert.PleProjDw.nD Cert.PleProjDw.τ).loc Cert.PleProjDw.main_arg1) = m ((c.tc : Thread Cert.PleProjDw.nD Cert.PleProjDw.τ).loc Cert.PleProjDw.main_arg1)
      ∧ r.2.mem ((c.tc : Thread Cert.PleProjDw.nD Cert.PleProjDw.τ).loc Cert.PleProjDw.main_arg2) = m ((c.tc : Thread Cert.PleProjDw.nD Cert.PleProjDw.τ).loc Cert.PleProjDw.main_arg2))
      ∧ r.2.sem = fun _ => 0)

def quiescent_PleProjDwIdeal [hPleProjDwIdeal : Cert.PleProjDwIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg), Pre_PleProjDwIdeal m →
    θ_run (Cert.PleProjDwIdeal.defs (F := Ideal)) (onTc (τ := Cert.PleProjDwIdeal.τ) (Cert.PleProjDwIdeal.main (F := Ideal))) ⟨m, fun _ => 0, g⟩ (fun r => (∀ c : Dev Cert.PleProjDwIdeal.nD,
      r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
      ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1)
      ∧ r.2.mem ((c.tc : Thread Cert.PleProjDwIdeal.nD Cert.PleProjDwIdeal.τ).loc Cert.PleProjDwIdeal.main_arg2) = m ((c.tc : Thread Cert.PleProjDwIdeal.nD Cert.PleProjDwIdeal.τ).loc Cert.PleProjDwIdeal.main_arg2))
      ∧ r.2.sem = fun _ => 0)

def quiescent_PleProjDwReferenceIdeal [hPleProjDwReferenceIdeal : Cert.PleProjDwReferenceIdeal.Facts] : Prop :=
  ∀ (m : (ℓ : Loc Cert.PleProjDwReferenceIdeal.nD Cert.PleProjDwReferenceIdeal.τ Cert.PleProjDwReferenceIdeal.sig) → Buf (Elt Ideal) ℓ) (g : Dev Cert.PleProjDwReferenceIdeal.nD → PrngReg), Pre_PleProjDwReferenceIdeal m →
    θ_run (Cert.PleProjDwReferenceIdeal.defs (F := Ideal)) (onTc (τ := Cert.PleProjDwReferenceIdeal.τ) (Cert.PleProjDwReferenceIdeal.main (F := Ideal))) ⟨m, fun _ => 0, g⟩ (fun r => (∀ c : Dev Cert.PleProjDwReferenceIdeal.nD,
      r.2.mem ((c.tc : Thread Cert.PleProjDwReferenceIdeal.nD Cert.PleProjDwReferenceIdeal.τ).loc Cert.PleProjDwReferenceIdeal.main_arg0) = m ((c.tc : Thread Cert.PleProjDwReferenceIdeal.nD Cert.PleProjDwReferenceIdeal.τ).loc Cert.PleProjDwReferenceIdeal.main_arg0)
      ∧ r.2.mem ((c.tc : Thread Cert.PleProjDwReferenceIdeal.nD Cert.PleProjDwReferenceIdeal.τ).loc Cert.PleProjDwReferenceIdeal.main_arg1) = m ((c.tc : Thread Cert.PleProjDwReferenceIdeal.nD Cert.PleProjDwReferenceIdeal.τ).loc Cert.PleProjDwReferenceIdeal.main_arg1)
      ∧ r.2.mem ((c.tc : Thread Cert.PleProjDwReferenceIdeal.nD Cert.PleProjDwReferenceIdeal.τ).loc Cert.PleProjDwReferenceIdeal.main_arg2) = m ((c.tc : Thread Cert.PleProjDwReferenceIdeal.nD Cert.PleProjDwReferenceIdeal.τ).loc Cert.PleProjDwReferenceIdeal.main_arg2))
      ∧ r.2.sem = fun _ => 0)

def quiescent_PleProjFwd [hPleProjFwd : Cert.PleProjFwd.Facts] : Prop :=
  ∀ (m : (ℓ : Loc Cert.PleProjFwd.nD Cert.PleProjFwd.τ Cert.PleProjFwd.sig) → Buf (Elt Bits) ℓ) (g : Dev Cert.PleProjFwd.nD → PrngReg), Pre_PleProjFwd m →
    θ_run (Cert.PleProjFwd.defs (F := Bits)) (onTc (τ := Cert.PleProjFwd.τ) (Cert.PleProjFwd.main (F := Bits))) ⟨m, fun _ => 0, g⟩ (fun r => (∀ c : Dev Cert.PleProjFwd.nD,
      r.2.mem ((c.tc : Thread Cert.PleProjFwd.nD Cert.PleProjFwd.τ).loc Cert.PleProjFwd.main_arg0) = m ((c.tc : Thread Cert.PleProjFwd.nD Cert.PleProjFwd.τ).loc Cert.PleProjFwd.main_arg0)
      ∧ r.2.mem ((c.tc : Thread Cert.PleProjFwd.nD Cert.PleProjFwd.τ).loc Cert.PleProjFwd.main_arg1) = m ((c.tc : Thread Cert.PleProjFwd.nD Cert.PleProjFwd.τ).loc Cert.PleProjFwd.main_arg1))
      ∧ r.2.sem = fun _ => 0)

def quiescent_PleProjFwdIdeal [hPleProjFwdIdeal : Cert.PleProjFwdIdeal.Facts] : Prop :=
  ∀ (m : (ℓ : Loc Cert.PleProjFwdIdeal.nD Cert.PleProjFwdIdeal.τ Cert.PleProjFwdIdeal.sig) → Buf (Elt Ideal) ℓ) (g : Dev Cert.PleProjFwdIdeal.nD → PrngReg), Pre_PleProjFwdIdeal m →
    θ_run (Cert.PleProjFwdIdeal.defs (F := Ideal)) (onTc (τ := Cert.PleProjFwdIdeal.τ) (Cert.PleProjFwdIdeal.main (F := Ideal))) ⟨m, fun _ => 0, g⟩ (fun r => (∀ c : Dev Cert.PleProjFwdIdeal.nD,
      r.2.mem ((c.tc : Thread Cert.PleProjFwdIdeal.nD Cert.PleProjFwdIdeal.τ).loc Cert.PleProjFwdIdeal.main_arg0) = m ((c.tc : Thread Cert.PleProjFwdIdeal.nD Cert.PleProjFwdIdeal.τ).loc Cert.PleProjFwdIdeal.main_arg0)
      ∧ r.2.mem ((c.tc : Thread Cert.PleProjFwdIdeal.nD Cert.PleProjFwdIdeal.τ).loc Cert.PleProjFwdIdeal.main_arg1) = m ((c.tc : Thread Cert.PleProjFwdIdeal.nD Cert.PleProjFwdIdeal.τ).loc Cert.PleProjFwdIdeal.main_arg1))
      ∧ r.2.sem = fun _ => 0)

def quiescent_PleProjFwdReferenceIdeal [hPleProjFwdReferenceIdeal : Cert.PleProjFwdReferenceIdeal.Facts] : Prop :=
  ∀ (m : (ℓ : Loc Cert.PleProjFwdReferenceIdeal.nD Cert.PleProjFwdReferenceIdeal.τ Cert.PleProjFwdReferenceIdeal.sig) → Buf (Elt Ideal) ℓ) (g : Dev Cert.PleProjFwdReferenceIdeal.nD → PrngReg), Pre_PleProjFwdReferenceIdeal m →
    θ_run (Cert.PleProjFwdReferenceIdeal.defs (F := Ideal)) (onTc (τ := Cert.PleProjFwdReferenceIdeal.τ) (Cert.PleProjFwdReferenceIdeal.main (F := Ideal))) ⟨m, fun _ => 0, g⟩ (fun r => (∀ c : Dev Cert.PleProjFwdReferenceIdeal.nD,
      r.2.mem ((c.tc : Thread Cert.PleProjFwdReferenceIdeal.nD Cert.PleProjFwdReferenceIdeal.τ).loc Cert.PleProjFwdReferenceIdeal.main_arg0) = m ((c.tc : Thread Cert.PleProjFwdReferenceIdeal.nD Cert.PleProjFwdReferenceIdeal.τ).loc Cert.PleProjFwdReferenceIdeal.main_arg0)
      ∧ r.2.mem ((c.tc : Thread Cert.PleProjFwdReferenceIdeal.nD Cert.PleProjFwdReferenceIdeal.τ).loc Cert.PleProjFwdReferenceIdeal.main_arg1) = m ((c.tc : Thread Cert.PleProjFwdReferenceIdeal.nD Cert.PleProjFwdReferenceIdeal.τ).loc Cert.PleProjFwdReferenceIdeal.main_arg1))
      ∧ r.2.sem = fun _ => 0)

def quiescent_DtDa [hDtDa : Cert.DtDa.Facts] : Prop :=
  ∀ (m : (ℓ : Loc Cert.DtDa.nD Cert.DtDa.τ Cert.DtDa.sig) → Buf (Elt Bits) ℓ) (g : Dev Cert.DtDa.nD → PrngReg), Pre_DtDa m →
    θ_run (Cert.DtDa.defs (F := Bits)) (onTc (τ := Cert.DtDa.τ) (Cert.DtDa.main (F := Bits))) ⟨m, fun _ => 0, g⟩ (fun r => (∀ c : Dev Cert.DtDa.nD,
      r.2.mem ((c.tc : Thread Cert.DtDa.nD Cert.DtDa.τ).loc Cert.DtDa.main_arg0) = m ((c.tc : Thread Cert.DtDa.nD Cert.DtDa.τ).loc Cert.DtDa.main_arg0)
      ∧ r.2.mem ((c.tc : Thread Cert.DtDa.nD Cert.DtDa.τ).loc Cert.DtDa.main_arg1) = m ((c.tc : Thread Cert.DtDa.nD Cert.DtDa.τ).loc Cert.DtDa.main_arg1)
      ∧ r.2.mem ((c.tc : Thread Cert.DtDa.nD Cert.DtDa.τ).loc Cert.DtDa.main_arg2) = m ((c.tc : Thread Cert.DtDa.nD Cert.DtDa.τ).loc Cert.DtDa.main_arg2))
      ∧ r.2.sem = fun _ => 0)

def quiescent_DtDaIdeal [hDtDaIdeal : Cert.DtDaIdeal.Facts] : Prop :=
  ∀ (m : (ℓ : Loc Cert.DtDaIdeal.nD Cert.DtDaIdeal.τ Cert.DtDaIdeal.sig) → Buf (Elt Ideal) ℓ) (g : Dev Cert.DtDaIdeal.nD → PrngReg), Pre_DtDaIdeal m →
    θ_run (Cert.DtDaIdeal.defs (F := Ideal)) (onTc (τ := Cert.DtDaIdeal.τ) (Cert.DtDaIdeal.main (F := Ideal))) ⟨m, fun _ => 0, g⟩ (fun r => (∀ c : Dev Cert.DtDaIdeal.nD,
      r.2.mem ((c.tc : Thread Cert.DtDaIdeal.nD Cert.DtDaIdeal.τ).loc Cert.DtDaIdeal.main_arg0) = m ((c.tc : Thread Cert.DtDaIdeal.nD Cert.DtDaIdeal.τ).loc Cert.DtDaIdeal.main_arg0)
      ∧ r.2.mem ((c.tc : Thread Cert.DtDaIdeal.nD Cert.DtDaIdeal.τ).loc Cert.DtDaIdeal.main_arg1) = m ((c.tc : Thread Cert.DtDaIdeal.nD Cert.DtDaIdeal.τ).loc Cert.DtDaIdeal.main_arg1)
      ∧ r.2.mem ((c.tc : Thread Cert.DtDaIdeal.nD Cert.DtDaIdeal.τ).loc Cert.DtDaIdeal.main_arg2) = m ((c.tc : Thread Cert.DtDaIdeal.nD Cert.DtDaIdeal.τ).loc Cert.DtDaIdeal.main_arg2))
      ∧ r.2.sem = fun _ => 0)

def quiescent_DtDaReferenceIdeal [hDtDaReferenceIdeal : Cert.DtDaReferenceIdeal.Facts] : Prop :=
  ∀ (m : (ℓ : Loc Cert.DtDaReferenceIdeal.nD Cert.DtDaReferenceIdeal.τ Cert.DtDaReferenceIdeal.sig) → Buf (Elt Ideal) ℓ) (g : Dev Cert.DtDaReferenceIdeal.nD → PrngReg), Pre_DtDaReferenceIdeal m →
    θ_run (Cert.DtDaReferenceIdeal.defs (F := Ideal)) (onTc (τ := Cert.DtDaReferenceIdeal.τ) (Cert.DtDaReferenceIdeal.main (F := Ideal))) ⟨m, fun _ => 0, g⟩ (fun r => (∀ c : Dev Cert.DtDaReferenceIdeal.nD,
      r.2.mem ((c.tc : Thread Cert.DtDaReferenceIdeal.nD Cert.DtDaReferenceIdeal.τ).loc Cert.DtDaReferenceIdeal.main_arg0) = m ((c.tc : Thread Cert.DtDaReferenceIdeal.nD Cert.DtDaReferenceIdeal.τ).loc Cert.DtDaReferenceIdeal.main_arg0)
      ∧ r.2.mem ((c.tc : Thread Cert.DtDaReferenceIdeal.nD Cert.DtDaReferenceIdeal.τ).loc Cert.DtDaReferenceIdeal.main_arg1) = m ((c.tc : Thread Cert.DtDaReferenceIdeal.nD Cert.DtDaReferenceIdeal.τ).loc Cert.DtDaReferenceIdeal.main_arg1)
      ∧ r.2.mem ((c.tc : Thread Cert.DtDaReferenceIdeal.nD Cert.DtDaReferenceIdeal.τ).loc Cert.DtDaReferenceIdeal.main_arg2) = m ((c.tc : Thread Cert.DtDaReferenceIdeal.nD Cert.DtDaReferenceIdeal.τ).loc Cert.DtDaReferenceIdeal.main_arg2))
      ∧ r.2.sem = fun _ => 0)

def quiescent_DtDw [hDtDw : Cert.DtDw.Facts] : Prop :=
  ∀ (m : (ℓ : Loc Cert.DtDw.nD Cert.DtDw.τ Cert.DtDw.sig) → Buf (Elt Bits) ℓ) (g : Dev Cert.DtDw.nD → PrngReg), Pre_DtDw m →
    θ_run (Cert.DtDw.defs (F := Bits)) (onTc (τ := Cert.DtDw.τ) (Cert.DtDw.main (F := Bits))) ⟨m, fun _ => 0, g⟩ (fun r => (∀ c : Dev Cert.DtDw.nD,
      r.2.mem ((c.tc : Thread Cert.DtDw.nD Cert.DtDw.τ).loc Cert.DtDw.main_arg0) = m ((c.tc : Thread Cert.DtDw.nD Cert.DtDw.τ).loc Cert.DtDw.main_arg0)
      ∧ r.2.mem ((c.tc : Thread Cert.DtDw.nD Cert.DtDw.τ).loc Cert.DtDw.main_arg1) = m ((c.tc : Thread Cert.DtDw.nD Cert.DtDw.τ).loc Cert.DtDw.main_arg1)
      ∧ r.2.mem ((c.tc : Thread Cert.DtDw.nD Cert.DtDw.τ).loc Cert.DtDw.main_arg2) = m ((c.tc : Thread Cert.DtDw.nD Cert.DtDw.τ).loc Cert.DtDw.main_arg2))
      ∧ r.2.sem = fun _ => 0)

def quiescent_DtDwIdeal [hDtDwIdeal : Cert.DtDwIdeal.Facts] : Prop :=
  ∀ (m : (ℓ : Loc Cert.DtDwIdeal.nD Cert.DtDwIdeal.τ Cert.DtDwIdeal.sig) → Buf (Elt Ideal) ℓ) (g : Dev Cert.DtDwIdeal.nD → PrngReg), Pre_DtDwIdeal m →
    θ_run (Cert.DtDwIdeal.defs (F := Ideal)) (onTc (τ := Cert.DtDwIdeal.τ) (Cert.DtDwIdeal.main (F := Ideal))) ⟨m, fun _ => 0, g⟩ (fun r => (∀ c : Dev Cert.DtDwIdeal.nD,
      r.2.mem ((c.tc : Thread Cert.DtDwIdeal.nD Cert.DtDwIdeal.τ).loc Cert.DtDwIdeal.main_arg0) = m ((c.tc : Thread Cert.DtDwIdeal.nD Cert.DtDwIdeal.τ).loc Cert.DtDwIdeal.main_arg0)
      ∧ r.2.mem ((c.tc : Thread Cert.DtDwIdeal.nD Cert.DtDwIdeal.τ).loc Cert.DtDwIdeal.main_arg1) = m ((c.tc : Thread Cert.DtDwIdeal.nD Cert.DtDwIdeal.τ).loc Cert.DtDwIdeal.main_arg1)
      ∧ r.2.mem ((c.tc : Thread Cert.DtDwIdeal.nD Cert.DtDwIdeal.τ).loc Cert.DtDwIdeal.main_arg2) = m ((c.tc : Thread Cert.DtDwIdeal.nD Cert.DtDwIdeal.τ).loc Cert.DtDwIdeal.main_arg2))
      ∧ r.2.sem = fun _ => 0)

def quiescent_DtDwReferenceIdeal [hDtDwReferenceIdeal : Cert.DtDwReferenceIdeal.Facts] : Prop :=
  ∀ (m : (ℓ : Loc Cert.DtDwReferenceIdeal.nD Cert.DtDwReferenceIdeal.τ Cert.DtDwReferenceIdeal.sig) → Buf (Elt Ideal) ℓ) (g : Dev Cert.DtDwReferenceIdeal.nD → PrngReg), Pre_DtDwReferenceIdeal m →
    θ_run (Cert.DtDwReferenceIdeal.defs (F := Ideal)) (onTc (τ := Cert.DtDwReferenceIdeal.τ) (Cert.DtDwReferenceIdeal.main (F := Ideal))) ⟨m, fun _ => 0, g⟩ (fun r => (∀ c : Dev Cert.DtDwReferenceIdeal.nD,
      r.2.mem ((c.tc : Thread Cert.DtDwReferenceIdeal.nD Cert.DtDwReferenceIdeal.τ).loc Cert.DtDwReferenceIdeal.main_arg0) = m ((c.tc : Thread Cert.DtDwReferenceIdeal.nD Cert.DtDwReferenceIdeal.τ).loc Cert.DtDwReferenceIdeal.main_arg0)
      ∧ r.2.mem ((c.tc : Thread Cert.DtDwReferenceIdeal.nD Cert.DtDwReferenceIdeal.τ).loc Cert.DtDwReferenceIdeal.main_arg1) = m ((c.tc : Thread Cert.DtDwReferenceIdeal.nD Cert.DtDwReferenceIdeal.τ).loc Cert.DtDwReferenceIdeal.main_arg1)
      ∧ r.2.mem ((c.tc : Thread Cert.DtDwReferenceIdeal.nD Cert.DtDwReferenceIdeal.τ).loc Cert.DtDwReferenceIdeal.main_arg2) = m ((c.tc : Thread Cert.DtDwReferenceIdeal.nD Cert.DtDwReferenceIdeal.τ).loc Cert.DtDwReferenceIdeal.main_arg2))
      ∧ r.2.sem = fun _ => 0)

def quiescent_DtFwd [hDtFwd : Cert.DtFwd.Facts] : Prop :=
  ∀ (m : (ℓ : Loc Cert.DtFwd.nD Cert.DtFwd.τ Cert.DtFwd.sig) → Buf (Elt Bits) ℓ) (g : Dev Cert.DtFwd.nD → PrngReg), Pre_DtFwd m →
    θ_run (Cert.DtFwd.defs (F := Bits)) (onTc (τ := Cert.DtFwd.τ) (Cert.DtFwd.main (F := Bits))) ⟨m, fun _ => 0, g⟩ (fun r => (∀ c : Dev Cert.DtFwd.nD,
      r.2.mem ((c.tc : Thread Cert.DtFwd.nD Cert.DtFwd.τ).loc Cert.DtFwd.main_arg0) = m ((c.tc : Thread Cert.DtFwd.nD Cert.DtFwd.τ).loc Cert.DtFwd.main_arg0)
      ∧ r.2.mem ((c.tc : Thread Cert.DtFwd.nD Cert.DtFwd.τ).loc Cert.DtFwd.main_arg1) = m ((c.tc : Thread Cert.DtFwd.nD Cert.DtFwd.τ).loc Cert.DtFwd.main_arg1))
      ∧ r.2.sem = fun _ => 0)

def quiescent_DtFwdIdeal [hDtFwdIdeal : Cert.DtFwdIdeal.Facts] : Prop :=
  ∀ (m : (ℓ : Loc Cert.DtFwdIdeal.nD Cert.DtFwdIdeal.τ Cert.DtFwdIdeal.sig) → Buf (Elt Ideal) ℓ) (g : Dev Cert.DtFwdIdeal.nD → PrngReg), Pre_DtFwdIdeal m →
    θ_run (Cert.DtFwdIdeal.defs (F := Ideal)) (onTc (τ := Cert.DtFwdIdeal.τ) (Cert.DtFwdIdeal.main (F := Ideal))) ⟨m, fun _ => 0, g⟩ (fun r => (∀ c : Dev Cert.DtFwdIdeal.nD,
      r.2.mem ((c.tc : Thread Cert.DtFwdIdeal.nD Cert.DtFwdIdeal.τ).loc Cert.DtFwdIdeal.main_arg0) = m ((c.tc : Thread Cert.DtFwdIdeal.nD Cert.DtFwdIdeal.τ).loc Cert.DtFwdIdeal.main_arg0)
      ∧ r.2.mem ((c.tc : Thread Cert.DtFwdIdeal.nD Cert.DtFwdIdeal.τ).loc Cert.DtFwdIdeal.main_arg1) = m ((c.tc : Thread Cert.DtFwdIdeal.nD Cert.DtFwdIdeal.τ).loc Cert.DtFwdIdeal.main_arg1))
      ∧ r.2.sem = fun _ => 0)

def quiescent_DtFwdReferenceIdeal [hDtFwdReferenceIdeal : Cert.DtFwdReferenceIdeal.Facts] : Prop :=
  ∀ (m : (ℓ : Loc Cert.DtFwdReferenceIdeal.nD Cert.DtFwdReferenceIdeal.τ Cert.DtFwdReferenceIdeal.sig) → Buf (Elt Ideal) ℓ) (g : Dev Cert.DtFwdReferenceIdeal.nD → PrngReg), Pre_DtFwdReferenceIdeal m →
    θ_run (Cert.DtFwdReferenceIdeal.defs (F := Ideal)) (onTc (τ := Cert.DtFwdReferenceIdeal.τ) (Cert.DtFwdReferenceIdeal.main (F := Ideal))) ⟨m, fun _ => 0, g⟩ (fun r => (∀ c : Dev Cert.DtFwdReferenceIdeal.nD,
      r.2.mem ((c.tc : Thread Cert.DtFwdReferenceIdeal.nD Cert.DtFwdReferenceIdeal.τ).loc Cert.DtFwdReferenceIdeal.main_arg0) = m ((c.tc : Thread Cert.DtFwdReferenceIdeal.nD Cert.DtFwdReferenceIdeal.τ).loc Cert.DtFwdReferenceIdeal.main_arg0)
      ∧ r.2.mem ((c.tc : Thread Cert.DtFwdReferenceIdeal.nD Cert.DtFwdReferenceIdeal.τ).loc Cert.DtFwdReferenceIdeal.main_arg1) = m ((c.tc : Thread Cert.DtFwdReferenceIdeal.nD Cert.DtFwdReferenceIdeal.τ).loc Cert.DtFwdReferenceIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdIdeal_pre_swiglu_finite [hSwigluBwdIdeal : Cert.SwigluBwdIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_swiglu_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdReferenceIdeal [hSwigluBwdReferenceIdeal : Cert.SwigluBwdReferenceIdeal.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1))
      ∧ r.2.sem = fun _ => 0)

def quiescent_SwigluBwdReferenceIdeal_pre_swiglu_finite [hSwigluBwdReferenceIdeal : Cert.SwigluBwdReferenceIdeal.Facts] [hPre_swiglu_finite : Cert.Pre_swiglu_finite.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal_swiglu_finite m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ r.2.sem = fun _ => 0)

def quiescent_PleBwdReferenceIdeal [hPleBwdReferenceIdeal : Cert.PleBwdReferenceIdeal.Facts] : Prop :=
  ∀ (m : (ℓ : Loc Cert.PleBwdReferenceIdeal.nD Cert.PleBwdReferenceIdeal.τ Cert.PleBwdReferenceIdeal.sig) → Buf (Elt Ideal) ℓ) (g : Dev Cert.PleBwdReferenceIdeal.nD → PrngReg), Pre_PleBwdReferenceIdeal m →
    θ_run (Cert.PleBwdReferenceIdeal.defs (F := Ideal)) (onTc (τ := Cert.PleBwdReferenceIdeal.τ) (Cert.PleBwdReferenceIdeal.main (F := Ideal))) ⟨m, fun _ => 0, g⟩ (fun r => (∀ c : Dev Cert.PleBwdReferenceIdeal.nD,
      r.2.mem ((c.tc : Thread Cert.PleBwdReferenceIdeal.nD Cert.PleBwdReferenceIdeal.τ).loc Cert.PleBwdReferenceIdeal.main_arg0) = m ((c.tc : Thread Cert.PleBwdReferenceIdeal.nD Cert.PleBwdReferenceIdeal.τ).loc Cert.PleBwdReferenceIdeal.main_arg0)
      ∧ r.2.mem ((c.tc : Thread Cert.PleBwdReferenceIdeal.nD Cert.PleBwdReferenceIdeal.τ).loc Cert.PleBwdReferenceIdeal.main_arg1) = m ((c.tc : Thread Cert.PleBwdReferenceIdeal.nD Cert.PleBwdReferenceIdeal.τ).loc Cert.PleBwdReferenceIdeal.main_arg1)
      ∧ r.2.mem ((c.tc : Thread Cert.PleBwdReferenceIdeal.nD Cert.PleBwdReferenceIdeal.τ).loc Cert.PleBwdReferenceIdeal.main_arg2) = m ((c.tc : Thread Cert.PleBwdReferenceIdeal.nD Cert.PleBwdReferenceIdeal.τ).loc Cert.PleBwdReferenceIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_rms_finite [hRmsBwdIdeal : Cert.RmsBwdIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_rms_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdReferenceIdeal [hRmsBwdReferenceIdeal : Cert.RmsBwdReferenceIdeal.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3))
      ∧ r.2.sem = fun _ => 0)

def quiescent_RmsBwdReferenceIdeal_pre_rms_finite [hRmsBwdReferenceIdeal : Cert.RmsBwdReferenceIdeal.Facts] [hPre_rms_finite : Cert.Pre_rms_finite.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal_rms_finite m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3))
      ∧ r.2.sem = fun _ => 0)

def quiescent_GateNormBwd [hGateNormBwd : Cert.GateNormBwd.Facts] : Prop :=
  ∀ (m : (ℓ : Loc Cert.GateNormBwd.nD Cert.GateNormBwd.τ Cert.GateNormBwd.sig) → Buf (Elt Bits) ℓ) (g : Dev Cert.GateNormBwd.nD → PrngReg), Pre_GateNormBwd m →
    θ_run (Cert.GateNormBwd.defs (F := Bits)) (onTc (τ := Cert.GateNormBwd.τ) (Cert.GateNormBwd.main (F := Bits))) ⟨m, fun _ => 0, g⟩ (fun r => (∀ c : Dev Cert.GateNormBwd.nD,
      r.2.mem ((c.tc : Thread Cert.GateNormBwd.nD Cert.GateNormBwd.τ).loc Cert.GateNormBwd.main_arg0) = m ((c.tc : Thread Cert.GateNormBwd.nD Cert.GateNormBwd.τ).loc Cert.GateNormBwd.main_arg0)
      ∧ r.2.mem ((c.tc : Thread Cert.GateNormBwd.nD Cert.GateNormBwd.τ).loc Cert.GateNormBwd.main_arg1) = m ((c.tc : Thread Cert.GateNormBwd.nD Cert.GateNormBwd.τ).loc Cert.GateNormBwd.main_arg1)
      ∧ r.2.mem ((c.tc : Thread Cert.GateNormBwd.nD Cert.GateNormBwd.τ).loc Cert.GateNormBwd.main_arg2) = m ((c.tc : Thread Cert.GateNormBwd.nD Cert.GateNormBwd.τ).loc Cert.GateNormBwd.main_arg2)
      ∧ r.2.mem ((c.tc : Thread Cert.GateNormBwd.nD Cert.GateNormBwd.τ).loc Cert.GateNormBwd.main_arg3) = m ((c.tc : Thread Cert.GateNormBwd.nD Cert.GateNormBwd.τ).loc Cert.GateNormBwd.main_arg3))
      ∧ r.2.sem = fun _ => 0)

def quiescent_GateNormBwdIdeal [hGateNormBwdIdeal : Cert.GateNormBwdIdeal.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg), Pre_GateNormBwdIdeal m →
    θ_run (Cert.GateNormBwdIdeal.defs (F := Ideal)) (onTc (τ := Cert.GateNormBwdIdeal.τ) (Cert.GateNormBwdIdeal.main (F := Ideal))) ⟨m, fun _ => 0, g⟩ (fun r => (∀ c : Dev Cert.GateNormBwdIdeal.nD,
      r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
      ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
      ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
      ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ r.2.sem = fun _ => 0)

def quiescent_GateNormBwdIdeal_pre_gate_norm_finite [hGateNormBwdIdeal : Cert.GateNormBwdIdeal.Facts] [hPre_gate_norm_finite : Cert.Pre_gate_norm_finite.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg), Pre_GateNormBwdIdeal_gate_norm_finite m →
    θ_run (Cert.GateNormBwdIdeal.defs (F := Ideal)) (onTc (τ := Cert.GateNormBwdIdeal.τ) (Cert.GateNormBwdIdeal.main (F := Ideal))) ⟨m, fun _ => 0, g⟩ (fun r => (∀ c : Dev Cert.GateNormBwdIdeal.nD,
      r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
      ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
      ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
      ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ r.2.sem = fun _ => 0)

def quiescent_GateNormBwdReferenceIdeal [hGateNormBwdReferenceIdeal : Cert.GateNormBwdReferenceIdeal.Facts] : Prop :=
  ∀ (m : (ℓ : Loc Cert.GateNormBwdReferenceIdeal.nD Cert.GateNormBwdReferenceIdeal.τ Cert.GateNormBwdReferenceIdeal.sig) → Buf (Elt Ideal) ℓ) (g : Dev Cert.GateNormBwdReferenceIdeal.nD → PrngReg), Pre_GateNormBwdReferenceIdeal m →
    θ_run (Cert.GateNormBwdReferenceIdeal.defs (F := Ideal)) (onTc (τ := Cert.GateNormBwdReferenceIdeal.τ) (Cert.GateNormBwdReferenceIdeal.main (F := Ideal))) ⟨m, fun _ => 0, g⟩ (fun r => (∀ c : Dev Cert.GateNormBwdReferenceIdeal.nD,
      r.2.mem ((c.tc : Thread Cert.GateNormBwdReferenceIdeal.nD Cert.GateNormBwdReferenceIdeal.τ).loc Cert.GateNormBwdReferenceIdeal.main_arg0) = m ((c.tc : Thread Cert.GateNormBwdReferenceIdeal.nD Cert.GateNormBwdReferenceIdeal.τ).loc Cert.GateNormBwdReferenceIdeal.main_arg0)
      ∧ r.2.mem ((c.tc : Thread Cert.GateNormBwdReferenceIdeal.nD Cert.GateNormBwdReferenceIdeal.τ).loc Cert.GateNormBwdReferenceIdeal.main_arg1) = m ((c.tc : Thread Cert.GateNormBwdReferenceIdeal.nD Cert.GateNormBwdReferenceIdeal.τ).loc Cert.GateNormBwdReferenceIdeal.main_arg1)
      ∧ r.2.mem ((c.tc : Thread Cert.GateNormBwdReferenceIdeal.nD Cert.GateNormBwdReferenceIdeal.τ).loc Cert.GateNormBwdReferenceIdeal.main_arg2) = m ((c.tc : Thread Cert.GateNormBwdReferenceIdeal.nD Cert.GateNormBwdReferenceIdeal.τ).loc Cert.GateNormBwdReferenceIdeal.main_arg2)
      ∧ r.2.mem ((c.tc : Thread Cert.GateNormBwdReferenceIdeal.nD Cert.GateNormBwdReferenceIdeal.τ).loc Cert.GateNormBwdReferenceIdeal.main_arg3) = m ((c.tc : Thread Cert.GateNormBwdReferenceIdeal.nD Cert.GateNormBwdReferenceIdeal.τ).loc Cert.GateNormBwdReferenceIdeal.main_arg3))
      ∧ r.2.sem = fun _ => 0)

def quiescent_GateNormBwdReferenceIdeal_pre_gate_norm_finite [hGateNormBwdReferenceIdeal : Cert.GateNormBwdReferenceIdeal.Facts] [hPre_gate_norm_finite : Cert.Pre_gate_norm_finite.Facts] : Prop :=
  ∀ (m : (ℓ : Loc Cert.GateNormBwdReferenceIdeal.nD Cert.GateNormBwdReferenceIdeal.τ Cert.GateNormBwdReferenceIdeal.sig) → Buf (Elt Ideal) ℓ) (g : Dev Cert.GateNormBwdReferenceIdeal.nD → PrngReg), Pre_GateNormBwdReferenceIdeal_gate_norm_finite m →
    θ_run (Cert.GateNormBwdReferenceIdeal.defs (F := Ideal)) (onTc (τ := Cert.GateNormBwdReferenceIdeal.τ) (Cert.GateNormBwdReferenceIdeal.main (F := Ideal))) ⟨m, fun _ => 0, g⟩ (fun r => (∀ c : Dev Cert.GateNormBwdReferenceIdeal.nD,
      r.2.mem ((c.tc : Thread Cert.GateNormBwdReferenceIdeal.nD Cert.GateNormBwdReferenceIdeal.τ).loc Cert.GateNormBwdReferenceIdeal.main_arg0) = m ((c.tc : Thread Cert.GateNormBwdReferenceIdeal.nD Cert.GateNormBwdReferenceIdeal.τ).loc Cert.GateNormBwdReferenceIdeal.main_arg0)
      ∧ r.2.mem ((c.tc : Thread Cert.GateNormBwdReferenceIdeal.nD Cert.GateNormBwdReferenceIdeal.τ).loc Cert.GateNormBwdReferenceIdeal.main_arg1) = m ((c.tc : Thread Cert.GateNormBwdReferenceIdeal.nD Cert.GateNormBwdReferenceIdeal.τ).loc Cert.GateNormBwdReferenceIdeal.main_arg1)
      ∧ r.2.mem ((c.tc : Thread Cert.GateNormBwdReferenceIdeal.nD Cert.GateNormBwdReferenceIdeal.τ).loc Cert.GateNormBwdReferenceIdeal.main_arg2) = m ((c.tc : Thread Cert.GateNormBwdReferenceIdeal.nD Cert.GateNormBwdReferenceIdeal.τ).loc Cert.GateNormBwdReferenceIdeal.main_arg2)
      ∧ r.2.mem ((c.tc : Thread Cert.GateNormBwdReferenceIdeal.nD Cert.GateNormBwdReferenceIdeal.τ).loc Cert.GateNormBwdReferenceIdeal.main_arg3) = m ((c.tc : Thread Cert.GateNormBwdReferenceIdeal.nD Cert.GateNormBwdReferenceIdeal.τ).loc Cert.GateNormBwdReferenceIdeal.main_arg3))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ r.2.sem = fun _ => 0)

def quiescent_SwigluFwdReferenceIdeal [hSwigluFwdReferenceIdeal : Cert.SwigluFwdReferenceIdeal.Facts] : Prop :=
  ∀ (m : (ℓ : Loc Cert.SwigluFwdReferenceIdeal.nD Cert.SwigluFwdReferenceIdeal.τ Cert.SwigluFwdReferenceIdeal.sig) → Buf (Elt Ideal) ℓ) (g : Dev Cert.SwigluFwdReferenceIdeal.nD → PrngReg), Pre_SwigluFwdReferenceIdeal m →
    θ_run (Cert.SwigluFwdReferenceIdeal.defs (F := Ideal)) (onTc (τ := Cert.SwigluFwdReferenceIdeal.τ) (Cert.SwigluFwdReferenceIdeal.main (F := Ideal))) ⟨m, fun _ => 0, g⟩ (fun r => (∀ c : Dev Cert.SwigluFwdReferenceIdeal.nD,
      r.2.mem ((c.tc : Thread Cert.SwigluFwdReferenceIdeal.nD Cert.SwigluFwdReferenceIdeal.τ).loc Cert.SwigluFwdReferenceIdeal.main_arg0) = m ((c.tc : Thread Cert.SwigluFwdReferenceIdeal.nD Cert.SwigluFwdReferenceIdeal.τ).loc Cert.SwigluFwdReferenceIdeal.main_arg0))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ r.2.sem = fun _ => 0)

def quiescent_PleFwdReferenceIdeal [hPleFwdReferenceIdeal : Cert.PleFwdReferenceIdeal.Facts] : Prop :=
  ∀ (m : (ℓ : Loc Cert.PleFwdReferenceIdeal.nD Cert.PleFwdReferenceIdeal.τ Cert.PleFwdReferenceIdeal.sig) → Buf (Elt Ideal) ℓ) (g : Dev Cert.PleFwdReferenceIdeal.nD → PrngReg), Pre_PleFwdReferenceIdeal m →
    θ_run (Cert.PleFwdReferenceIdeal.defs (F := Ideal)) (onTc (τ := Cert.PleFwdReferenceIdeal.τ) (Cert.PleFwdReferenceIdeal.main (F := Ideal))) ⟨m, fun _ => 0, g⟩ (fun r => (∀ c : Dev Cert.PleFwdReferenceIdeal.nD,
      r.2.mem ((c.tc : Thread Cert.PleFwdReferenceIdeal.nD Cert.PleFwdReferenceIdeal.τ).loc Cert.PleFwdReferenceIdeal.main_arg0) = m ((c.tc : Thread Cert.PleFwdReferenceIdeal.nD Cert.PleFwdReferenceIdeal.τ).loc Cert.PleFwdReferenceIdeal.main_arg0)
      ∧ r.2.mem ((c.tc : Thread Cert.PleFwdReferenceIdeal.nD Cert.PleFwdReferenceIdeal.τ).loc Cert.PleFwdReferenceIdeal.main_arg1) = m ((c.tc : Thread Cert.PleFwdReferenceIdeal.nD Cert.PleFwdReferenceIdeal.τ).loc Cert.PleFwdReferenceIdeal.main_arg1)
      ∧ r.2.mem ((c.tc : Thread Cert.PleFwdReferenceIdeal.nD Cert.PleFwdReferenceIdeal.τ).loc Cert.PleFwdReferenceIdeal.main_arg2) = m ((c.tc : Thread Cert.PleFwdReferenceIdeal.nD Cert.PleFwdReferenceIdeal.τ).loc Cert.PleFwdReferenceIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_GateNormFwd [hGateNormFwd : Cert.GateNormFwd.Facts] : Prop :=
  ∀ (m : (ℓ : Loc Cert.GateNormFwd.nD Cert.GateNormFwd.τ Cert.GateNormFwd.sig) → Buf (Elt Bits) ℓ) (g : Dev Cert.GateNormFwd.nD → PrngReg), Pre_GateNormFwd m →
    θ_run (Cert.GateNormFwd.defs (F := Bits)) (onTc (τ := Cert.GateNormFwd.τ) (Cert.GateNormFwd.main (F := Bits))) ⟨m, fun _ => 0, g⟩ (fun r => (∀ c : Dev Cert.GateNormFwd.nD,
      r.2.mem ((c.tc : Thread Cert.GateNormFwd.nD Cert.GateNormFwd.τ).loc Cert.GateNormFwd.main_arg0) = m ((c.tc : Thread Cert.GateNormFwd.nD Cert.GateNormFwd.τ).loc Cert.GateNormFwd.main_arg0)
      ∧ r.2.mem ((c.tc : Thread Cert.GateNormFwd.nD Cert.GateNormFwd.τ).loc Cert.GateNormFwd.main_arg1) = m ((c.tc : Thread Cert.GateNormFwd.nD Cert.GateNormFwd.τ).loc Cert.GateNormFwd.main_arg1)
      ∧ r.2.mem ((c.tc : Thread Cert.GateNormFwd.nD Cert.GateNormFwd.τ).loc Cert.GateNormFwd.main_arg2) = m ((c.tc : Thread Cert.GateNormFwd.nD Cert.GateNormFwd.τ).loc Cert.GateNormFwd.main_arg2))
      ∧ r.2.sem = fun _ => 0)

def quiescent_GateNormFwdIdeal [hGateNormFwdIdeal : Cert.GateNormFwdIdeal.Facts] : Prop :=
  ∀ (m : (ℓ : Loc Cert.GateNormFwdIdeal.nD Cert.GateNormFwdIdeal.τ Cert.GateNormFwdIdeal.sig) → Buf (Elt Ideal) ℓ) (g : Dev Cert.GateNormFwdIdeal.nD → PrngReg), Pre_GateNormFwdIdeal m →
    θ_run (Cert.GateNormFwdIdeal.defs (F := Ideal)) (onTc (τ := Cert.GateNormFwdIdeal.τ) (Cert.GateNormFwdIdeal.main (F := Ideal))) ⟨m, fun _ => 0, g⟩ (fun r => (∀ c : Dev Cert.GateNormFwdIdeal.nD,
      r.2.mem ((c.tc : Thread Cert.GateNormFwdIdeal.nD Cert.GateNormFwdIdeal.τ).loc Cert.GateNormFwdIdeal.main_arg0) = m ((c.tc : Thread Cert.GateNormFwdIdeal.nD Cert.GateNormFwdIdeal.τ).loc Cert.GateNormFwdIdeal.main_arg0)
      ∧ r.2.mem ((c.tc : Thread Cert.GateNormFwdIdeal.nD Cert.GateNormFwdIdeal.τ).loc Cert.GateNormFwdIdeal.main_arg1) = m ((c.tc : Thread Cert.GateNormFwdIdeal.nD Cert.GateNormFwdIdeal.τ).loc Cert.GateNormFwdIdeal.main_arg1)
      ∧ r.2.mem ((c.tc : Thread Cert.GateNormFwdIdeal.nD Cert.GateNormFwdIdeal.τ).loc Cert.GateNormFwdIdeal.main_arg2) = m ((c.tc : Thread Cert.GateNormFwdIdeal.nD Cert.GateNormFwdIdeal.τ).loc Cert.GateNormFwdIdeal.main_arg2))
      ∧ r.2.sem = fun _ => 0)

def quiescent_GateNormFwdReferenceIdeal [hGateNormFwdReferenceIdeal : Cert.GateNormFwdReferenceIdeal.Facts] : Prop :=
  ∀ (m : (ℓ : Loc Cert.GateNormFwdReferenceIdeal.nD Cert.GateNormFwdReferenceIdeal.τ Cert.GateNormFwdReferenceIdeal.sig) → Buf (Elt Ideal) ℓ) (g : Dev Cert.GateNormFwdReferenceIdeal.nD → PrngReg), Pre_GateNormFwdReferenceIdeal m →
    θ_run (Cert.GateNormFwdReferenceIdeal.defs (F := Ideal)) (onTc (τ := Cert.GateNormFwdReferenceIdeal.τ) (Cert.GateNormFwdReferenceIdeal.main (F := Ideal))) ⟨m, fun _ => 0, g⟩ (fun r => (∀ c : Dev Cert.GateNormFwdReferenceIdeal.nD,
      r.2.mem ((c.tc : Thread Cert.GateNormFwdReferenceIdeal.nD Cert.GateNormFwdReferenceIdeal.τ).loc Cert.GateNormFwdReferenceIdeal.main_arg0) = m ((c.tc : Thread Cert.GateNormFwdReferenceIdeal.nD Cert.GateNormFwdReferenceIdeal.τ).loc Cert.GateNormFwdReferenceIdeal.main_arg0)
      ∧ r.2.mem ((c.tc : Thread Cert.GateNormFwdReferenceIdeal.nD Cert.GateNormFwdReferenceIdeal.τ).loc Cert.GateNormFwdReferenceIdeal.main_arg1) = m ((c.tc : Thread Cert.GateNormFwdReferenceIdeal.nD Cert.GateNormFwdReferenceIdeal.τ).loc Cert.GateNormFwdReferenceIdeal.main_arg1)
      ∧ r.2.mem ((c.tc : Thread Cert.GateNormFwdReferenceIdeal.nD Cert.GateNormFwdReferenceIdeal.τ).loc Cert.GateNormFwdReferenceIdeal.main_arg2) = m ((c.tc : Thread Cert.GateNormFwdReferenceIdeal.nD Cert.GateNormFwdReferenceIdeal.τ).loc Cert.GateNormFwdReferenceIdeal.main_arg2))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwQkv [hAdamwQkv : Cert.AdamwQkv.Facts] : Prop :=
  ∀ (m : (ℓ : Loc Cert.AdamwQkv.nD Cert.AdamwQkv.τ Cert.AdamwQkv.sig) → Buf (Elt Bits) ℓ) (g : Dev Cert.AdamwQkv.nD → PrngReg), Pre_AdamwQkv m →
    θ_run (Cert.AdamwQkv.defs (F := Bits)) (onTc (τ := Cert.AdamwQkv.τ) (Cert.AdamwQkv.main (F := Bits))) ⟨m, fun _ => 0, g⟩ (fun r => (∀ c : Dev Cert.AdamwQkv.nD,
      r.2.mem ((c.tc : Thread Cert.AdamwQkv.nD Cert.AdamwQkv.τ).loc Cert.AdamwQkv.main_arg0) = m ((c.tc : Thread Cert.AdamwQkv.nD Cert.AdamwQkv.τ).loc Cert.AdamwQkv.main_arg0)
      ∧ r.2.mem ((c.tc : Thread Cert.AdamwQkv.nD Cert.AdamwQkv.τ).loc Cert.AdamwQkv.main_arg1) = m ((c.tc : Thread Cert.AdamwQkv.nD Cert.AdamwQkv.τ).loc Cert.AdamwQkv.main_arg1)
      ∧ r.2.mem ((c.tc : Thread Cert.AdamwQkv.nD Cert.AdamwQkv.τ).loc Cert.AdamwQkv.main_arg2) = m ((c.tc : Thread Cert.AdamwQkv.nD Cert.AdamwQkv.τ).loc Cert.AdamwQkv.main_arg2)
      ∧ r.2.mem ((c.tc : Thread Cert.AdamwQkv.nD Cert.AdamwQkv.τ).loc Cert.AdamwQkv.main_arg3) = m ((c.tc : Thread Cert.AdamwQkv.nD Cert.AdamwQkv.τ).loc Cert.AdamwQkv.main_arg3))
      ∧ r.2.sem = fun _ => 0)

def quiescent_AdamwQkvIdeal [hAdamwQkvIdeal : Cert.AdamwQkvIdeal.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg), Pre_AdamwQkvIdeal m →
    θ_run (Cert.AdamwQkvIdeal.defs (F := Ideal)) (onTc (τ := Cert.AdamwQkvIdeal.τ) (Cert.AdamwQkvIdeal.main (F := Ideal))) ⟨m, fun _ => 0, g⟩ (fun r => (∀ c : Dev Cert.AdamwQkvIdeal.nD,
      r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
      ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
      ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
      ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3))
      ∧ r.2.sem = fun _ => 0)

def quiescent_AdamwQkvReferenceIdeal [hAdamwQkvReferenceIdeal : Cert.AdamwQkvReferenceIdeal.Facts] : Prop :=
  ∀ (m : (ℓ : Loc Cert.AdamwQkvReferenceIdeal.nD Cert.AdamwQkvReferenceIdeal.τ Cert.AdamwQkvReferenceIdeal.sig) → Buf (Elt Ideal) ℓ) (g : Dev Cert.AdamwQkvReferenceIdeal.nD → PrngReg), Pre_AdamwQkvReferenceIdeal m →
    θ_run (Cert.AdamwQkvReferenceIdeal.defs (F := Ideal)) (onTc (τ := Cert.AdamwQkvReferenceIdeal.τ) (Cert.AdamwQkvReferenceIdeal.main (F := Ideal))) ⟨m, fun _ => 0, g⟩ (fun r => (∀ c : Dev Cert.AdamwQkvReferenceIdeal.nD,
      r.2.mem ((c.tc : Thread Cert.AdamwQkvReferenceIdeal.nD Cert.AdamwQkvReferenceIdeal.τ).loc Cert.AdamwQkvReferenceIdeal.main_arg0) = m ((c.tc : Thread Cert.AdamwQkvReferenceIdeal.nD Cert.AdamwQkvReferenceIdeal.τ).loc Cert.AdamwQkvReferenceIdeal.main_arg0)
      ∧ r.2.mem ((c.tc : Thread Cert.AdamwQkvReferenceIdeal.nD Cert.AdamwQkvReferenceIdeal.τ).loc Cert.AdamwQkvReferenceIdeal.main_arg1) = m ((c.tc : Thread Cert.AdamwQkvReferenceIdeal.nD Cert.AdamwQkvReferenceIdeal.τ).loc Cert.AdamwQkvReferenceIdeal.main_arg1)
      ∧ r.2.mem ((c.tc : Thread Cert.AdamwQkvReferenceIdeal.nD Cert.AdamwQkvReferenceIdeal.τ).loc Cert.AdamwQkvReferenceIdeal.main_arg2) = m ((c.tc : Thread Cert.AdamwQkvReferenceIdeal.nD Cert.AdamwQkvReferenceIdeal.τ).loc Cert.AdamwQkvReferenceIdeal.main_arg2)
      ∧ r.2.mem ((c.tc : Thread Cert.AdamwQkvReferenceIdeal.nD Cert.AdamwQkvReferenceIdeal.τ).loc Cert.AdamwQkvReferenceIdeal.main_arg3) = m ((c.tc : Thread Cert.AdamwQkvReferenceIdeal.nD Cert.AdamwQkvReferenceIdeal.τ).loc Cert.AdamwQkvReferenceIdeal.main_arg3))
      ∧ r.2.sem = fun _ => 0)

def quiescent_AdamwGu [hAdamwGu : Cert.AdamwGu.Facts] : Prop :=
  ∀ (m : (ℓ : Loc Cert.AdamwGu.nD Cert.AdamwGu.τ Cert.AdamwGu.sig) → Buf (Elt Bits) ℓ) (g : Dev Cert.AdamwGu.nD → PrngReg), Pre_AdamwGu m →
    θ_run (Cert.AdamwGu.defs (F := Bits)) (onTc (τ := Cert.AdamwGu.τ) (Cert.AdamwGu.main (F := Bits))) ⟨m, fun _ => 0, g⟩ (fun r => (∀ c : Dev Cert.AdamwGu.nD,
      r.2.mem ((c.tc : Thread Cert.AdamwGu.nD Cert.AdamwGu.τ).loc Cert.AdamwGu.main_arg0) = m ((c.tc : Thread Cert.AdamwGu.nD Cert.AdamwGu.τ).loc Cert.AdamwGu.main_arg0)
      ∧ r.2.mem ((c.tc : Thread Cert.AdamwGu.nD Cert.AdamwGu.τ).loc Cert.AdamwGu.main_arg1) = m ((c.tc : Thread Cert.AdamwGu.nD Cert.AdamwGu.τ).loc Cert.AdamwGu.main_arg1)
      ∧ r.2.mem ((c.tc : Thread Cert.AdamwGu.nD Cert.AdamwGu.τ).loc Cert.AdamwGu.main_arg2) = m ((c.tc : Thread Cert.AdamwGu.nD Cert.AdamwGu.τ).loc Cert.AdamwGu.main_arg2)
      ∧ r.2.mem ((c.tc : Thread Cert.AdamwGu.nD Cert.AdamwGu.τ).loc Cert.AdamwGu.main_arg3) = m ((c.tc : Thread Cert.AdamwGu.nD Cert.AdamwGu.τ).loc Cert.AdamwGu.main_arg3))
      ∧ r.2.sem = fun _ => 0)

def quiescent_AdamwGuIdeal [hAdamwGuIdeal : Cert.AdamwGuIdeal.Facts] : Prop :=
  ∀ (m : (ℓ : Loc Cert.AdamwGuIdeal.nD Cert.AdamwGuIdeal.τ Cert.AdamwGuIdeal.sig) → Buf (Elt Ideal) ℓ) (g : Dev Cert.AdamwGuIdeal.nD → PrngReg), Pre_AdamwGuIdeal m →
    θ_run (Cert.AdamwGuIdeal.defs (F := Ideal)) (onTc (τ := Cert.AdamwGuIdeal.τ) (Cert.AdamwGuIdeal.main (F := Ideal))) ⟨m, fun _ => 0, g⟩ (fun r => (∀ c : Dev Cert.AdamwGuIdeal.nD,
      r.2.mem ((c.tc : Thread Cert.AdamwGuIdeal.nD Cert.AdamwGuIdeal.τ).loc Cert.AdamwGuIdeal.main_arg0) = m ((c.tc : Thread Cert.AdamwGuIdeal.nD Cert.AdamwGuIdeal.τ).loc Cert.AdamwGuIdeal.main_arg0)
      ∧ r.2.mem ((c.tc : Thread Cert.AdamwGuIdeal.nD Cert.AdamwGuIdeal.τ).loc Cert.AdamwGuIdeal.main_arg1) = m ((c.tc : Thread Cert.AdamwGuIdeal.nD Cert.AdamwGuIdeal.τ).loc Cert.AdamwGuIdeal.main_arg1)
      ∧ r.2.mem ((c.tc : Thread Cert.AdamwGuIdeal.nD Cert.AdamwGuIdeal.τ).loc Cert.AdamwGuIdeal.main_arg2) = m ((c.tc : Thread Cert.AdamwGuIdeal.nD Cert.AdamwGuIdeal.τ).loc Cert.AdamwGuIdeal.main_arg2)
      ∧ r.2.mem ((c.tc : Thread Cert.AdamwGuIdeal.nD Cert.AdamwGuIdeal.τ).loc Cert.AdamwGuIdeal.main_arg3) = m ((c.tc : Thread Cert.AdamwGuIdeal.nD Cert.AdamwGuIdeal.τ).loc Cert.AdamwGuIdeal.main_arg3))
      ∧ r.2.sem = fun _ => 0)

def quiescent_AdamwGuReferenceIdeal [hAdamwGuReferenceIdeal : Cert.AdamwGuReferenceIdeal.Facts] : Prop :=
  ∀ (m : (ℓ : Loc Cert.AdamwGuReferenceIdeal.nD Cert.AdamwGuReferenceIdeal.τ Cert.AdamwGuReferenceIdeal.sig) → Buf (Elt Ideal) ℓ) (g : Dev Cert.AdamwGuReferenceIdeal.nD → PrngReg), Pre_AdamwGuReferenceIdeal m →
    θ_run (Cert.AdamwGuReferenceIdeal.defs (F := Ideal)) (onTc (τ := Cert.AdamwGuReferenceIdeal.τ) (Cert.AdamwGuReferenceIdeal.main (F := Ideal))) ⟨m, fun _ => 0, g⟩ (fun r => (∀ c : Dev Cert.AdamwGuReferenceIdeal.nD,
      r.2.mem ((c.tc : Thread Cert.AdamwGuReferenceIdeal.nD Cert.AdamwGuReferenceIdeal.τ).loc Cert.AdamwGuReferenceIdeal.main_arg0) = m ((c.tc : Thread Cert.AdamwGuReferenceIdeal.nD Cert.AdamwGuReferenceIdeal.τ).loc Cert.AdamwGuReferenceIdeal.main_arg0)
      ∧ r.2.mem ((c.tc : Thread Cert.AdamwGuReferenceIdeal.nD Cert.AdamwGuReferenceIdeal.τ).loc Cert.AdamwGuReferenceIdeal.main_arg1) = m ((c.tc : Thread Cert.AdamwGuReferenceIdeal.nD Cert.AdamwGuReferenceIdeal.τ).loc Cert.AdamwGuReferenceIdeal.main_arg1)
      ∧ r.2.mem ((c.tc : Thread Cert.AdamwGuReferenceIdeal.nD Cert.AdamwGuReferenceIdeal.τ).loc Cert.AdamwGuReferenceIdeal.main_arg2) = m ((c.tc : Thread Cert.AdamwGuReferenceIdeal.nD Cert.AdamwGuReferenceIdeal.τ).loc Cert.AdamwGuReferenceIdeal.main_arg2)
      ∧ r.2.mem ((c.tc : Thread Cert.AdamwGuReferenceIdeal.nD Cert.AdamwGuReferenceIdeal.τ).loc Cert.AdamwGuReferenceIdeal.main_arg3) = m ((c.tc : Thread Cert.AdamwGuReferenceIdeal.nD Cert.AdamwGuReferenceIdeal.τ).loc Cert.AdamwGuReferenceIdeal.main_arg3))
      ∧ r.2.sem = fun _ => 0)

def quiescent_AdamwProj [hAdamwProj : Cert.AdamwProj.Facts] : Prop :=
  ∀ (m : (ℓ : Loc Cert.AdamwProj.nD Cert.AdamwProj.τ Cert.AdamwProj.sig) → Buf (Elt Bits) ℓ) (g : Dev Cert.AdamwProj.nD → PrngReg), Pre_AdamwProj m →
    θ_run (Cert.AdamwProj.defs (F := Bits)) (onTc (τ := Cert.AdamwProj.τ) (Cert.AdamwProj.main (F := Bits))) ⟨m, fun _ => 0, g⟩ (fun r => (∀ c : Dev Cert.AdamwProj.nD,
      r.2.mem ((c.tc : Thread Cert.AdamwProj.nD Cert.AdamwProj.τ).loc Cert.AdamwProj.main_arg0) = m ((c.tc : Thread Cert.AdamwProj.nD Cert.AdamwProj.τ).loc Cert.AdamwProj.main_arg0)
      ∧ r.2.mem ((c.tc : Thread Cert.AdamwProj.nD Cert.AdamwProj.τ).loc Cert.AdamwProj.main_arg1) = m ((c.tc : Thread Cert.AdamwProj.nD Cert.AdamwProj.τ).loc Cert.AdamwProj.main_arg1)
      ∧ r.2.mem ((c.tc : Thread Cert.AdamwProj.nD Cert.AdamwProj.τ).loc Cert.AdamwProj.main_arg2) = m ((c.tc : Thread Cert.AdamwProj.nD Cert.AdamwProj.τ).loc Cert.AdamwProj.main_arg2)
      ∧ r.2.mem ((c.tc : Thread Cert.AdamwProj.nD Cert.AdamwProj.τ).loc Cert.AdamwProj.main_arg3) = m ((c.tc : Thread Cert.AdamwProj.nD Cert.AdamwProj.τ).loc Cert.AdamwProj.main_arg3))
      ∧ r.2.sem = fun _ => 0)

def quiescent_AdamwProjIdeal [hAdamwProjIdeal : Cert.AdamwProjIdeal.Facts] : Prop :=
  ∀ (m : (ℓ : Loc Cert.AdamwProjIdeal.nD Cert.AdamwProjIdeal.τ Cert.AdamwProjIdeal.sig) → Buf (Elt Ideal) ℓ) (g : Dev Cert.AdamwProjIdeal.nD → PrngReg), Pre_AdamwProjIdeal m →
    θ_run (Cert.AdamwProjIdeal.defs (F := Ideal)) (onTc (τ := Cert.AdamwProjIdeal.τ) (Cert.AdamwProjIdeal.main (F := Ideal))) ⟨m, fun _ => 0, g⟩ (fun r => (∀ c : Dev Cert.AdamwProjIdeal.nD,
      r.2.mem ((c.tc : Thread Cert.AdamwProjIdeal.nD Cert.AdamwProjIdeal.τ).loc Cert.AdamwProjIdeal.main_arg0) = m ((c.tc : Thread Cert.AdamwProjIdeal.nD Cert.AdamwProjIdeal.τ).loc Cert.AdamwProjIdeal.main_arg0)
      ∧ r.2.mem ((c.tc : Thread Cert.AdamwProjIdeal.nD Cert.AdamwProjIdeal.τ).loc Cert.AdamwProjIdeal.main_arg1) = m ((c.tc : Thread Cert.AdamwProjIdeal.nD Cert.AdamwProjIdeal.τ).loc Cert.AdamwProjIdeal.main_arg1)
      ∧ r.2.mem ((c.tc : Thread Cert.AdamwProjIdeal.nD Cert.AdamwProjIdeal.τ).loc Cert.AdamwProjIdeal.main_arg2) = m ((c.tc : Thread Cert.AdamwProjIdeal.nD Cert.AdamwProjIdeal.τ).loc Cert.AdamwProjIdeal.main_arg2)
      ∧ r.2.mem ((c.tc : Thread Cert.AdamwProjIdeal.nD Cert.AdamwProjIdeal.τ).loc Cert.AdamwProjIdeal.main_arg3) = m ((c.tc : Thread Cert.AdamwProjIdeal.nD Cert.AdamwProjIdeal.τ).loc Cert.AdamwProjIdeal.main_arg3))
      ∧ r.2.sem = fun _ => 0)

def quiescent_AdamwProjReferenceIdeal [hAdamwProjReferenceIdeal : Cert.AdamwProjReferenceIdeal.Facts] : Prop :=
  ∀ (m : (ℓ : Loc Cert.AdamwProjReferenceIdeal.nD Cert.AdamwProjReferenceIdeal.τ Cert.AdamwProjReferenceIdeal.sig) → Buf (Elt Ideal) ℓ) (g : Dev Cert.AdamwProjReferenceIdeal.nD → PrngReg), Pre_AdamwProjReferenceIdeal m →
    θ_run (Cert.AdamwProjReferenceIdeal.defs (F := Ideal)) (onTc (τ := Cert.AdamwProjReferenceIdeal.τ) (Cert.AdamwProjReferenceIdeal.main (F := Ideal))) ⟨m, fun _ => 0, g⟩ (fun r => (∀ c : Dev Cert.AdamwProjReferenceIdeal.nD,
      r.2.mem ((c.tc : Thread Cert.AdamwProjReferenceIdeal.nD Cert.AdamwProjReferenceIdeal.τ).loc Cert.AdamwProjReferenceIdeal.main_arg0) = m ((c.tc : Thread Cert.AdamwProjReferenceIdeal.nD Cert.AdamwProjReferenceIdeal.τ).loc Cert.AdamwProjReferenceIdeal.main_arg0)
      ∧ r.2.mem ((c.tc : Thread Cert.AdamwProjReferenceIdeal.nD Cert.AdamwProjReferenceIdeal.τ).loc Cert.AdamwProjReferenceIdeal.main_arg1) = m ((c.tc : Thread Cert.AdamwProjReferenceIdeal.nD Cert.AdamwProjReferenceIdeal.τ).loc Cert.AdamwProjReferenceIdeal.main_arg1)
      ∧ r.2.mem ((c.tc : Thread Cert.AdamwProjReferenceIdeal.nD Cert.AdamwProjReferenceIdeal.τ).loc Cert.AdamwProjReferenceIdeal.main_arg2) = m ((c.tc : Thread Cert.AdamwProjReferenceIdeal.nD Cert.AdamwProjReferenceIdeal.τ).loc Cert.AdamwProjReferenceIdeal.main_arg2)
      ∧ r.2.mem ((c.tc : Thread Cert.AdamwProjReferenceIdeal.nD Cert.AdamwProjReferenceIdeal.τ).loc Cert.AdamwProjReferenceIdeal.main_arg3) = m ((c.tc : Thread Cert.AdamwProjReferenceIdeal.nD Cert.AdamwProjReferenceIdeal.τ).loc Cert.AdamwProjReferenceIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwO [hAdamwO : Cert.AdamwO.Facts] : Prop :=
  ∀ (m : (ℓ : Loc Cert.AdamwO.nD Cert.AdamwO.τ Cert.AdamwO.sig) → Buf (Elt Bits) ℓ) (g : Dev Cert.AdamwO.nD → PrngReg), Pre_AdamwO m →
    θ_run (Cert.AdamwO.defs (F := Bits)) (onTc (τ := Cert.AdamwO.τ) (Cert.AdamwO.main (F := Bits))) ⟨m, fun _ => 0, g⟩ (fun r => (∀ c : Dev Cert.AdamwO.nD,
      r.2.mem ((c.tc : Thread Cert.AdamwO.nD Cert.AdamwO.τ).loc Cert.AdamwO.main_arg0) = m ((c.tc : Thread Cert.AdamwO.nD Cert.AdamwO.τ).loc Cert.AdamwO.main_arg0)
      ∧ r.2.mem ((c.tc : Thread Cert.AdamwO.nD Cert.AdamwO.τ).loc Cert.AdamwO.main_arg1) = m ((c.tc : Thread Cert.AdamwO.nD Cert.AdamwO.τ).loc Cert.AdamwO.main_arg1)
      ∧ r.2.mem ((c.tc : Thread Cert.AdamwO.nD Cert.AdamwO.τ).loc Cert.AdamwO.main_arg2) = m ((c.tc : Thread Cert.AdamwO.nD Cert.AdamwO.τ).loc Cert.AdamwO.main_arg2)
      ∧ r.2.mem ((c.tc : Thread Cert.AdamwO.nD Cert.AdamwO.τ).loc Cert.AdamwO.main_arg3) = m ((c.tc : Thread Cert.AdamwO.nD Cert.AdamwO.τ).loc Cert.AdamwO.main_arg3))
      ∧ r.2.sem = fun _ => 0)

def quiescent_AdamwOIdeal [hAdamwOIdeal : Cert.AdamwOIdeal.Facts] : Prop :=
  ∀ (m : (ℓ : Loc Cert.AdamwOIdeal.nD Cert.AdamwOIdeal.τ Cert.AdamwOIdeal.sig) → Buf (Elt Ideal) ℓ) (g : Dev Cert.AdamwOIdeal.nD → PrngReg), Pre_AdamwOIdeal m →
    θ_run (Cert.AdamwOIdeal.defs (F := Ideal)) (onTc (τ := Cert.AdamwOIdeal.τ) (Cert.AdamwOIdeal.main (F := Ideal))) ⟨m, fun _ => 0, g⟩ (fun r => (∀ c : Dev Cert.AdamwOIdeal.nD,
      r.2.mem ((c.tc : Thread Cert.AdamwOIdeal.nD Cert.AdamwOIdeal.τ).loc Cert.AdamwOIdeal.main_arg0) = m ((c.tc : Thread Cert.AdamwOIdeal.nD Cert.AdamwOIdeal.τ).loc Cert.AdamwOIdeal.main_arg0)
      ∧ r.2.mem ((c.tc : Thread Cert.AdamwOIdeal.nD Cert.AdamwOIdeal.τ).loc Cert.AdamwOIdeal.main_arg1) = m ((c.tc : Thread Cert.AdamwOIdeal.nD Cert.AdamwOIdeal.τ).loc Cert.AdamwOIdeal.main_arg1)
      ∧ r.2.mem ((c.tc : Thread Cert.AdamwOIdeal.nD Cert.AdamwOIdeal.τ).loc Cert.AdamwOIdeal.main_arg2) = m ((c.tc : Thread Cert.AdamwOIdeal.nD Cert.AdamwOIdeal.τ).loc Cert.AdamwOIdeal.main_arg2)
      ∧ r.2.mem ((c.tc : Thread Cert.AdamwOIdeal.nD Cert.AdamwOIdeal.τ).loc Cert.AdamwOIdeal.main_arg3) = m ((c.tc : Thread Cert.AdamwOIdeal.nD Cert.AdamwOIdeal.τ).loc Cert.AdamwOIdeal.main_arg3))
      ∧ r.2.sem = fun _ => 0)

def quiescent_AdamwOReferenceIdeal [hAdamwOReferenceIdeal : Cert.AdamwOReferenceIdeal.Facts] : Prop :=
  ∀ (m : (ℓ : Loc Cert.AdamwOReferenceIdeal.nD Cert.AdamwOReferenceIdeal.τ Cert.AdamwOReferenceIdeal.sig) → Buf (Elt Ideal) ℓ) (g : Dev Cert.AdamwOReferenceIdeal.nD → PrngReg), Pre_AdamwOReferenceIdeal m →
    θ_run (Cert.AdamwOReferenceIdeal.defs (F := Ideal)) (onTc (τ := Cert.AdamwOReferenceIdeal.τ) (Cert.AdamwOReferenceIdeal.main (F := Ideal))) ⟨m, fun _ => 0, g⟩ (fun r => (∀ c : Dev Cert.AdamwOReferenceIdeal.nD,
      r.2.mem ((c.tc : Thread Cert.AdamwOReferenceIdeal.nD Cert.AdamwOReferenceIdeal.τ).loc Cert.AdamwOReferenceIdeal.main_arg0) = m ((c.tc : Thread Cert.AdamwOReferenceIdeal.nD Cert.AdamwOReferenceIdeal.τ).loc Cert.AdamwOReferenceIdeal.main_arg0)
      ∧ r.2.mem ((c.tc : Thread Cert.AdamwOReferenceIdeal.nD Cert.AdamwOReferenceIdeal.τ).loc Cert.AdamwOReferenceIdeal.main_arg1) = m ((c.tc : Thread Cert.AdamwOReferenceIdeal.nD Cert.AdamwOReferenceIdeal.τ).loc Cert.AdamwOReferenceIdeal.main_arg1)
      ∧ r.2.mem ((c.tc : Thread Cert.AdamwOReferenceIdeal.nD Cert.AdamwOReferenceIdeal.τ).loc Cert.AdamwOReferenceIdeal.main_arg2) = m ((c.tc : Thread Cert.AdamwOReferenceIdeal.nD Cert.AdamwOReferenceIdeal.τ).loc Cert.AdamwOReferenceIdeal.main_arg2)
      ∧ r.2.mem ((c.tc : Thread Cert.AdamwOReferenceIdeal.nD Cert.AdamwOReferenceIdeal.τ).loc Cert.AdamwOReferenceIdeal.main_arg3) = m ((c.tc : Thread Cert.AdamwOReferenceIdeal.nD Cert.AdamwOReferenceIdeal.τ).loc Cert.AdamwOReferenceIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownReferenceIdeal [hAdamwDownReferenceIdeal : Cert.AdamwDownReferenceIdeal.Facts] : Prop :=
  ∀ (m : (ℓ : Loc Cert.AdamwDownReferenceIdeal.nD Cert.AdamwDownReferenceIdeal.τ Cert.AdamwDownReferenceIdeal.sig) → Buf (Elt Ideal) ℓ) (g : Dev Cert.AdamwDownReferenceIdeal.nD → PrngReg), Pre_AdamwDownReferenceIdeal m →
    θ_run (Cert.AdamwDownReferenceIdeal.defs (F := Ideal)) (onTc (τ := Cert.AdamwDownReferenceIdeal.τ) (Cert.AdamwDownReferenceIdeal.main (F := Ideal))) ⟨m, fun _ => 0, g⟩ (fun r => (∀ c : Dev Cert.AdamwDownReferenceIdeal.nD,
      r.2.mem ((c.tc : Thread Cert.AdamwDownReferenceIdeal.nD Cert.AdamwDownReferenceIdeal.τ).loc Cert.AdamwDownReferenceIdeal.main_arg0) = m ((c.tc : Thread Cert.AdamwDownReferenceIdeal.nD Cert.AdamwDownReferenceIdeal.τ).loc Cert.AdamwDownReferenceIdeal.main_arg0)
      ∧ r.2.mem ((c.tc : Thread Cert.AdamwDownReferenceIdeal.nD Cert.AdamwDownReferenceIdeal.τ).loc Cert.AdamwDownReferenceIdeal.main_arg1) = m ((c.tc : Thread Cert.AdamwDownReferenceIdeal.nD Cert.AdamwDownReferenceIdeal.τ).loc Cert.AdamwDownReferenceIdeal.main_arg1)
      ∧ r.2.mem ((c.tc : Thread Cert.AdamwDownReferenceIdeal.nD Cert.AdamwDownReferenceIdeal.τ).loc Cert.AdamwDownReferenceIdeal.main_arg2) = m ((c.tc : Thread Cert.AdamwDownReferenceIdeal.nD Cert.AdamwDownReferenceIdeal.τ).loc Cert.AdamwDownReferenceIdeal.main_arg2)
      ∧ r.2.mem ((c.tc : Thread Cert.AdamwDownReferenceIdeal.nD Cert.AdamwDownReferenceIdeal.τ).loc Cert.AdamwDownReferenceIdeal.main_arg3) = m ((c.tc : Thread Cert.AdamwDownReferenceIdeal.nD Cert.AdamwDownReferenceIdeal.τ).loc Cert.AdamwDownReferenceIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ r.2.sem = fun _ => 0)

def quiescent_LossFwdReferenceIdeal [hLossFwdReferenceIdeal : Cert.LossFwdReferenceIdeal.Facts] : Prop :=
  ∀ (m : (ℓ : Loc Cert.LossFwdReferenceIdeal.nD Cert.LossFwdReferenceIdeal.τ Cert.LossFwdReferenceIdeal.sig) → Buf (Elt Ideal) ℓ) (g : Dev Cert.LossFwdReferenceIdeal.nD → PrngReg), Pre_LossFwdReferenceIdeal m →
    θ_run (Cert.LossFwdReferenceIdeal.defs (F := Ideal)) (onTc (τ := Cert.LossFwdReferenceIdeal.τ) (Cert.LossFwdReferenceIdeal.main (F := Ideal))) ⟨m, fun _ => 0, g⟩ (fun r => (∀ c : Dev Cert.LossFwdReferenceIdeal.nD,
      r.2.mem ((c.tc : Thread Cert.LossFwdReferenceIdeal.nD Cert.LossFwdReferenceIdeal.τ).loc Cert.LossFwdReferenceIdeal.main_arg0) = m ((c.tc : Thread Cert.LossFwdReferenceIdeal.nD Cert.LossFwdReferenceIdeal.τ).loc Cert.LossFwdReferenceIdeal.main_arg0)
      ∧ r.2.mem ((c.tc : Thread Cert.LossFwdReferenceIdeal.nD Cert.LossFwdReferenceIdeal.τ).loc Cert.LossFwdReferenceIdeal.main_arg1) = m ((c.tc : Thread Cert.LossFwdReferenceIdeal.nD Cert.LossFwdReferenceIdeal.τ).loc Cert.LossFwdReferenceIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v413) = v0 c
          ∧ r.2.mem ((c.tc : Thread Cert.ReferenceIdeal.nD Cert.ReferenceIdeal.τ).loc Cert.ReferenceIdeal.main_v410) = v1 c
          ∧ r.2.mem ((c.tc : Thread Cert.ReferenceIdeal.nD Cert.ReferenceIdeal.τ).loc Cert.ReferenceIdeal.main_v249) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_QkvDa_QkvDaIdeal : Prop :=
  True

def algebraic_QkvDaIdeal_QkvDaReferenceIdeal [hQkvDaIdeal : Cert.QkvDaIdeal.Facts] [hQkvDaReferenceIdeal : Cert.QkvDaReferenceIdeal.Facts] : Prop :=
  ∀ (m : (ℓ : Loc Cert.QkvDaIdeal.nD Cert.QkvDaIdeal.τ Cert.QkvDaIdeal.sig) → Buf (Elt Ideal) ℓ) (g : Dev Cert.QkvDaIdeal.nD → PrngReg)
    (m' : (ℓ : Loc Cert.QkvDaReferenceIdeal.nD Cert.QkvDaReferenceIdeal.τ Cert.QkvDaReferenceIdeal.sig) → Buf (Elt Ideal) ℓ) (g' : Dev Cert.QkvDaReferenceIdeal.nD → PrngReg), Pre_QkvDaIdeal m →
    (∀ c : Dev Cert.QkvDaIdeal.nD,
      m' ((c.tc : Thread Cert.QkvDaReferenceIdeal.nD Cert.QkvDaReferenceIdeal.τ).loc Cert.QkvDaReferenceIdeal.main_arg0) = m ((c.tc : Thread Cert.QkvDaIdeal.nD Cert.QkvDaIdeal.τ).loc Cert.QkvDaIdeal.main_arg0)
      ∧ m' ((c.tc : Thread Cert.QkvDaReferenceIdeal.nD Cert.QkvDaReferenceIdeal.τ).loc Cert.QkvDaReferenceIdeal.main_arg1) = m ((c.tc : Thread Cert.QkvDaIdeal.nD Cert.QkvDaIdeal.τ).loc Cert.QkvDaIdeal.main_arg1)
      ∧ m' ((c.tc : Thread Cert.QkvDaReferenceIdeal.nD Cert.QkvDaReferenceIdeal.τ).loc Cert.QkvDaReferenceIdeal.main_arg2) = m ((c.tc : Thread Cert.QkvDaIdeal.nD Cert.QkvDaIdeal.τ).loc Cert.QkvDaIdeal.main_arg2)) →
    ∃ (v0 : (c : Dev Cert.QkvDaIdeal.nD) → Buf (Elt Ideal) ((c.tc : Thread Cert.QkvDaIdeal.nD Cert.QkvDaIdeal.τ).loc Cert.QkvDaIdeal.main_v1)),
      θ_run (Cert.QkvDaIdeal.defs (F := Ideal)) (onTc (τ := Cert.QkvDaIdeal.τ) (Cert.QkvDaIdeal.main (F := Ideal))) ⟨m, fun _ => 0, g⟩ (fun r => ∀ c : Dev Cert.QkvDaIdeal.nD,
          r.2.mem ((c.tc : Thread Cert.QkvDaIdeal.nD Cert.QkvDaIdeal.τ).loc Cert.QkvDaIdeal.main_v1) = v0 c
          ∧ r.2.mem ((c.tc : Thread Cert.QkvDaIdeal.nD Cert.QkvDaIdeal.τ).loc Cert.QkvDaIdeal.main_arg0) = m ((c.tc : Thread Cert.QkvDaIdeal.nD Cert.QkvDaIdeal.τ).loc Cert.QkvDaIdeal.main_arg0)
          ∧ r.2.mem ((c.tc : Thread Cert.QkvDaIdeal.nD Cert.QkvDaIdeal.τ).loc Cert.QkvDaIdeal.main_arg1) = m ((c.tc : Thread Cert.QkvDaIdeal.nD Cert.QkvDaIdeal.τ).loc Cert.QkvDaIdeal.main_arg1)
          ∧ r.2.mem ((c.tc : Thread Cert.QkvDaIdeal.nD Cert.QkvDaIdeal.τ).loc Cert.QkvDaIdeal.main_arg2) = m ((c.tc : Thread Cert.QkvDaIdeal.nD Cert.QkvDaIdeal.τ).loc Cert.QkvDaIdeal.main_arg2))
      ∧ θ_run (Cert.QkvDaReferenceIdeal.defs (F := Ideal)) (onTc (τ := Cert.QkvDaReferenceIdeal.τ) (Cert.QkvDaReferenceIdeal.main (F := Ideal))) ⟨m', fun _ => 0, g'⟩ (fun r => ∀ c : Dev Cert.QkvDaReferenceIdeal.nD,
          r.2.mem ((c.tc : Thread Cert.QkvDaReferenceIdeal.nD Cert.QkvDaReferenceIdeal.τ).loc Cert.QkvDaReferenceIdeal.main_v8) = v0 c
          ∧ r.2.mem ((c.tc : Thread Cert.QkvDaReferenceIdeal.nD Cert.QkvDaReferenceIdeal.τ).loc Cert.QkvDaReferenceIdeal.main_arg0) = m' ((c.tc : Thread Cert.QkvDaReferenceIdeal.nD Cert.QkvDaReferenceIdeal.τ).loc Cert.QkvDaReferenceIdeal.main_arg0)
          ∧ r.2.mem ((c.tc : Thread Cert.QkvDaReferenceIdeal.nD Cert.QkvDaReferenceIdeal.τ).loc Cert.QkvDaReferenceIdeal.main_arg1) = m' ((c.tc : Thread Cert.QkvDaReferenceIdeal.nD Cert.QkvDaReferenceIdeal.τ).loc Cert.QkvDaReferenceIdeal.main_arg1)
          ∧ r.2.mem ((c.tc : Thread Cert.QkvDaReferenceIdeal.nD Cert.QkvDaReferenceIdeal.τ).loc Cert.QkvDaReferenceIdeal.main_arg2) = m' ((c.tc : Thread Cert.QkvDaReferenceIdeal.nD Cert.QkvDaReferenceIdeal.τ).loc Cert.QkvDaReferenceIdeal.main_arg2))

def preserves_QkvDw_QkvDwIdeal : Prop :=
  True

def algebraic_QkvDwIdeal_QkvDwReferenceIdeal [hQkvDwIdeal : Cert.QkvDwIdeal.Facts] [hQkvDwReferenceIdeal : Cert.QkvDwReferenceIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwReferenceIdeal.nD Cert.QkvDwReferenceIdeal.τ Cert.QkvDwReferenceIdeal.sig) → Buf (Elt Ideal) ℓ) (g' : Dev Cert.QkvDwReferenceIdeal.nD → PrngReg), Pre_QkvDwIdeal m →
    (∀ c : Dev Cert.QkvDwIdeal.nD,
      m' ((c.tc : Thread Cert.QkvDwReferenceIdeal.nD Cert.QkvDwReferenceIdeal.τ).loc Cert.QkvDwReferenceIdeal.main_arg0) = m ((c.tc : Thread Cert.QkvDwIdeal.nD Cert.QkvDwIdeal.τ).loc Cert.QkvDwIdeal.main_arg0)
      ∧ m' ((c.tc : Thread Cert.QkvDwReferenceIdeal.nD Cert.QkvDwReferenceIdeal.τ).loc Cert.QkvDwReferenceIdeal.main_arg1) = m ((c.tc : Thread Cert.QkvDwIdeal.nD Cert.QkvDwIdeal.τ).loc Cert.QkvDwIdeal.main_arg1)
      ∧ m' ((c.tc : Thread Cert.QkvDwReferenceIdeal.nD Cert.QkvDwReferenceIdeal.τ).loc Cert.QkvDwReferenceIdeal.main_arg2) = m ((c.tc : Thread Cert.QkvDwIdeal.nD Cert.QkvDwIdeal.τ).loc Cert.QkvDwIdeal.main_arg2)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
          ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ θ_run (Cert.QkvDwReferenceIdeal.defs (F := Ideal)) (onTc (τ := Cert.QkvDwReferenceIdeal.τ) (Cert.QkvDwReferenceIdeal.main (F := Ideal))) ⟨m', fun _ => 0, g'⟩ (fun r => ∀ c : Dev Cert.QkvDwReferenceIdeal.nD,
          r.2.mem ((c.tc : Thread Cert.QkvDwReferenceIdeal.nD Cert.QkvDwReferenceIdeal.τ).loc Cert.QkvDwReferenceIdeal.main_v9) = v0 c
          ∧ r.2.mem ((c.tc : Thread Cert.QkvDwReferenceIdeal.nD Cert.QkvDwReferenceIdeal.τ).loc Cert.QkvDwReferenceIdeal.main_arg0) = m' ((c.tc : Thread Cert.QkvDwReferenceIdeal.nD Cert.QkvDwReferenceIdeal.τ).loc Cert.QkvDwReferenceIdeal.main_arg0)
          ∧ r.2.mem ((c.tc : Thread Cert.QkvDwReferenceIdeal.nD Cert.QkvDwReferenceIdeal.τ).loc Cert.QkvDwReferenceIdeal.main_arg1) = m' ((c.tc : Thread Cert.QkvDwReferenceIdeal.nD Cert.QkvDwReferenceIdeal.τ).loc Cert.QkvDwReferenceIdeal.main_arg1)
          ∧ r.2.mem ((c.tc : Thread Cert.QkvDwReferenceIdeal.nD Cert.QkvDwReferenceIdeal.τ).loc Cert.QkvDwReferenceIdeal.main_arg2) = m' ((c.tc : Thread Cert.QkvDwReferenceIdeal.nD Cert.QkvDwReferenceIdeal.τ).loc Cert.QkvDwReferenceIdeal.main_arg2))

def preserves_QkvFwd_QkvFwdIdeal : Prop :=
  True

def algebraic_QkvFwdIdeal_QkvFwdReferenceIdeal [hQkvFwdIdeal : Cert.QkvFwdIdeal.Facts] [hQkvFwdReferenceIdeal : Cert.QkvFwdReferenceIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdReferenceIdeal.nD Cert.QkvFwdReferenceIdeal.τ Cert.QkvFwdReferenceIdeal.sig) → Buf (Elt Ideal) ℓ) (g' : Dev Cert.QkvFwdReferenceIdeal.nD → PrngReg), Pre_QkvFwdIdeal m →
    (∀ c : Dev Cert.QkvFwdIdeal.nD,
      m' ((c.tc : Thread Cert.QkvFwdReferenceIdeal.nD Cert.QkvFwdReferenceIdeal.τ).loc Cert.QkvFwdReferenceIdeal.main_arg0) = m ((c.tc : Thread Cert.QkvFwdIdeal.nD Cert.QkvFwdIdeal.τ).loc Cert.QkvFwdIdeal.main_arg0)
      ∧ m' ((c.tc : Thread Cert.QkvFwdReferenceIdeal.nD Cert.QkvFwdReferenceIdeal.τ).loc Cert.QkvFwdReferenceIdeal.main_arg1) = m ((c.tc : Thread Cert.QkvFwdIdeal.nD Cert.QkvFwdIdeal.τ).loc Cert.QkvFwdIdeal.main_arg1)) →
    ∃ (v0 : (c : Dev Cert.QkvFwdIdeal.nD) → Buf (Elt Ideal) ((c.tc : Thread Cert.QkvFwdIdeal.nD Cert.QkvFwdIdeal.τ).loc Cert.QkvFwdIdeal.main_v1)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v1) = v0 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ θ_run (Cert.QkvFwdReferenceIdeal.defs (F := Ideal)) (onTc (τ := Cert.QkvFwdReferenceIdeal.τ) (Cert.QkvFwdReferenceIdeal.main (F := Ideal))) ⟨m', fun _ => 0, g'⟩ (fun r => ∀ c : Dev Cert.QkvFwdReferenceIdeal.nD,
          r.2.mem ((c.tc : Thread Cert.QkvFwdReferenceIdeal.nD Cert.QkvFwdReferenceIdeal.τ).loc Cert.QkvFwdReferenceIdeal.main_v3) = v0 c
          ∧ r.2.mem ((c.tc : Thread Cert.QkvFwdReferenceIdeal.nD Cert.QkvFwdReferenceIdeal.τ).loc Cert.QkvFwdReferenceIdeal.main_arg0) = m' ((c.tc : Thread Cert.QkvFwdReferenceIdeal.nD Cert.QkvFwdReferenceIdeal.τ).loc Cert.QkvFwdReferenceIdeal.main_arg0)
          ∧ r.2.mem ((c.tc : Thread Cert.QkvFwdReferenceIdeal.nD Cert.QkvFwdReferenceIdeal.τ).loc Cert.QkvFwdReferenceIdeal.main_arg1) = m' ((c.tc : Thread Cert.QkvFwdReferenceIdeal.nD Cert.QkvFwdReferenceIdeal.τ).loc Cert.QkvFwdReferenceIdeal.main_arg1))

def preserves_GuDa_GuDaIdeal : Prop :=
  True

def algebraic_GuDaIdeal_GuDaReferenceIdeal [hGuDaIdeal : Cert.GuDaIdeal.Facts] [hGuDaReferenceIdeal : Cert.GuDaReferenceIdeal.Facts] : Prop :=
  ∀ (m : (ℓ : Loc Cert.GuDaIdeal.nD Cert.GuDaIdeal.τ Cert.GuDaIdeal.sig) → Buf (Elt Ideal) ℓ) (g : Dev Cert.GuDaIdeal.nD → PrngReg)
    (m' : (ℓ : Loc Cert.GuDaReferenceIdeal.nD Cert.GuDaReferenceIdeal.τ Cert.GuDaReferenceIdeal.sig) → Buf (Elt Ideal) ℓ) (g' : Dev Cert.GuDaReferenceIdeal.nD → PrngReg), Pre_GuDaIdeal m →
    (∀ c : Dev Cert.GuDaIdeal.nD,
      m' ((c.tc : Thread Cert.GuDaReferenceIdeal.nD Cert.GuDaReferenceIdeal.τ).loc Cert.GuDaReferenceIdeal.main_arg0) = m ((c.tc : Thread Cert.GuDaIdeal.nD Cert.GuDaIdeal.τ).loc Cert.GuDaIdeal.main_arg0)
      ∧ m' ((c.tc : Thread Cert.GuDaReferenceIdeal.nD Cert.GuDaReferenceIdeal.τ).loc Cert.GuDaReferenceIdeal.main_arg1) = m ((c.tc : Thread Cert.GuDaIdeal.nD Cert.GuDaIdeal.τ).loc Cert.GuDaIdeal.main_arg1)
      ∧ m' ((c.tc : Thread Cert.GuDaReferenceIdeal.nD Cert.GuDaReferenceIdeal.τ).loc Cert.GuDaReferenceIdeal.main_arg2) = m ((c.tc : Thread Cert.GuDaIdeal.nD Cert.GuDaIdeal.τ).loc Cert.GuDaIdeal.main_arg2)) →
    ∃ (v0 : (c : Dev Cert.GuDaIdeal.nD) → Buf (Elt Ideal) ((c.tc : Thread Cert.GuDaIdeal.nD Cert.GuDaIdeal.τ).loc Cert.GuDaIdeal.main_v1)),
      θ_run (Cert.GuDaIdeal.defs (F := Ideal)) (onTc (τ := Cert.GuDaIdeal.τ) (Cert.GuDaIdeal.main (F := Ideal))) ⟨m, fun _ => 0, g⟩ (fun r => ∀ c : Dev Cert.GuDaIdeal.nD,
          r.2.mem ((c.tc : Thread Cert.GuDaIdeal.nD Cert.GuDaIdeal.τ).loc Cert.GuDaIdeal.main_v1) = v0 c
          ∧ r.2.mem ((c.tc : Thread Cert.GuDaIdeal.nD Cert.GuDaIdeal.τ).loc Cert.GuDaIdeal.main_arg0) = m ((c.tc : Thread Cert.GuDaIdeal.nD Cert.GuDaIdeal.τ).loc Cert.GuDaIdeal.main_arg0)
          ∧ r.2.mem ((c.tc : Thread Cert.GuDaIdeal.nD Cert.GuDaIdeal.τ).loc Cert.GuDaIdeal.main_arg1) = m ((c.tc : Thread Cert.GuDaIdeal.nD Cert.GuDaIdeal.τ).loc Cert.GuDaIdeal.main_arg1)
          ∧ r.2.mem ((c.tc : Thread Cert.GuDaIdeal.nD Cert.GuDaIdeal.τ).loc Cert.GuDaIdeal.main_arg2) = m ((c.tc : Thread Cert.GuDaIdeal.nD Cert.GuDaIdeal.τ).loc Cert.GuDaIdeal.main_arg2))
      ∧ θ_run (Cert.GuDaReferenceIdeal.defs (F := Ideal)) (onTc (τ := Cert.GuDaReferenceIdeal.τ) (Cert.GuDaReferenceIdeal.main (F := Ideal))) ⟨m', fun _ => 0, g'⟩ (fun r => ∀ c : Dev Cert.GuDaReferenceIdeal.nD,
          r.2.mem ((c.tc : Thread Cert.GuDaReferenceIdeal.nD Cert.GuDaReferenceIdeal.τ).loc Cert.GuDaReferenceIdeal.main_v8) = v0 c
          ∧ r.2.mem ((c.tc : Thread Cert.GuDaReferenceIdeal.nD Cert.GuDaReferenceIdeal.τ).loc Cert.GuDaReferenceIdeal.main_arg0) = m' ((c.tc : Thread Cert.GuDaReferenceIdeal.nD Cert.GuDaReferenceIdeal.τ).loc Cert.GuDaReferenceIdeal.main_arg0)
          ∧ r.2.mem ((c.tc : Thread Cert.GuDaReferenceIdeal.nD Cert.GuDaReferenceIdeal.τ).loc Cert.GuDaReferenceIdeal.main_arg1) = m' ((c.tc : Thread Cert.GuDaReferenceIdeal.nD Cert.GuDaReferenceIdeal.τ).loc Cert.GuDaReferenceIdeal.main_arg1)
          ∧ r.2.mem ((c.tc : Thread Cert.GuDaReferenceIdeal.nD Cert.GuDaReferenceIdeal.τ).loc Cert.GuDaReferenceIdeal.main_arg2) = m' ((c.tc : Thread Cert.GuDaReferenceIdeal.nD Cert.GuDaReferenceIdeal.τ).loc Cert.GuDaReferenceIdeal.main_arg2))

def preserves_GuDw_GuDwIdeal : Prop :=
  True

def algebraic_GuDwIdeal_GuDwReferenceIdeal [hGuDwIdeal : Cert.GuDwIdeal.Facts] [hGuDwReferenceIdeal : Cert.GuDwReferenceIdeal.Facts] : Prop :=
  ∀ (m : (ℓ : Loc Cert.GuDwIdeal.nD Cert.GuDwIdeal.τ Cert.GuDwIdeal.sig) → Buf (Elt Ideal) ℓ) (g : Dev Cert.GuDwIdeal.nD → PrngReg)
    (m' : (ℓ : Loc Cert.GuDwReferenceIdeal.nD Cert.GuDwReferenceIdeal.τ Cert.GuDwReferenceIdeal.sig) → Buf (Elt Ideal) ℓ) (g' : Dev Cert.GuDwReferenceIdeal.nD → PrngReg), Pre_GuDwIdeal m →
    (∀ c : Dev Cert.GuDwIdeal.nD,
      m' ((c.tc : Thread Cert.GuDwReferenceIdeal.nD Cert.GuDwReferenceIdeal.τ).loc Cert.GuDwReferenceIdeal.main_arg0) = m ((c.tc : Thread Cert.GuDwIdeal.nD Cert.GuDwIdeal.τ).loc Cert.GuDwIdeal.main_arg0)
      ∧ m' ((c.tc : Thread Cert.GuDwReferenceIdeal.nD Cert.GuDwReferenceIdeal.τ).loc Cert.GuDwReferenceIdeal.main_arg1) = m ((c.tc : Thread Cert.GuDwIdeal.nD Cert.GuDwIdeal.τ).loc Cert.GuDwIdeal.main_arg1)
      ∧ m' ((c.tc : Thread Cert.GuDwReferenceIdeal.nD Cert.GuDwReferenceIdeal.τ).loc Cert.GuDwReferenceIdeal.main_arg2) = m ((c.tc : Thread Cert.GuDwIdeal.nD Cert.GuDwIdeal.τ).loc Cert.GuDwIdeal.main_arg2)) →
    ∃ (v0 : (c : Dev Cert.GuDwIdeal.nD) → Buf (Elt Ideal) ((c.tc : Thread Cert.GuDwIdeal.nD Cert.GuDwIdeal.τ).loc Cert.GuDwIdeal.main_v0)),
      θ_run (Cert.GuDwIdeal.defs (F := Ideal)) (onTc (τ := Cert.GuDwIdeal.τ) (Cert.GuDwIdeal.main (F := Ideal))) ⟨m, fun _ => 0, g⟩ (fun r => ∀ c : Dev Cert.GuDwIdeal.nD,
          r.2.mem ((c.tc : Thread Cert.GuDwIdeal.nD Cert.GuDwIdeal.τ).loc Cert.GuDwIdeal.main_v0) = v0 c
          ∧ r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
          ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1)
          ∧ r.2.mem ((c.tc : Thread Cert.GuDwIdeal.nD Cert.GuDwIdeal.τ).loc Cert.GuDwIdeal.main_arg2) = m ((c.tc : Thread Cert.GuDwIdeal.nD Cert.GuDwIdeal.τ).loc Cert.GuDwIdeal.main_arg2))
      ∧ θ_run (Cert.GuDwReferenceIdeal.defs (F := Ideal)) (onTc (τ := Cert.GuDwReferenceIdeal.τ) (Cert.GuDwReferenceIdeal.main (F := Ideal))) ⟨m', fun _ => 0, g'⟩ (fun r => ∀ c : Dev Cert.GuDwReferenceIdeal.nD,
          r.2.mem ((c.tc : Thread Cert.GuDwReferenceIdeal.nD Cert.GuDwReferenceIdeal.τ).loc Cert.GuDwReferenceIdeal.main_v9) = v0 c
          ∧ r.2.mem ((c.tc : Thread Cert.GuDwReferenceIdeal.nD Cert.GuDwReferenceIdeal.τ).loc Cert.GuDwReferenceIdeal.main_arg0) = m' ((c.tc : Thread Cert.GuDwReferenceIdeal.nD Cert.GuDwReferenceIdeal.τ).loc Cert.GuDwReferenceIdeal.main_arg0)
          ∧ r.2.mem ((c.tc : Thread Cert.GuDwReferenceIdeal.nD Cert.GuDwReferenceIdeal.τ).loc Cert.GuDwReferenceIdeal.main_arg1) = m' ((c.tc : Thread Cert.GuDwReferenceIdeal.nD Cert.GuDwReferenceIdeal.τ).loc Cert.GuDwReferenceIdeal.main_arg1)
          ∧ r.2.mem ((c.tc : Thread Cert.GuDwReferenceIdeal.nD Cert.GuDwReferenceIdeal.τ).loc Cert.GuDwReferenceIdeal.main_arg2) = m' ((c.tc : Thread Cert.GuDwReferenceIdeal.nD Cert.GuDwReferenceIdeal.τ).loc Cert.GuDwReferenceIdeal.main_arg2))

def preserves_GuFwd_GuFwdIdeal : Prop :=
  True

def algebraic_GuFwdIdeal_GuFwdReferenceIdeal [hGuFwdIdeal : Cert.GuFwdIdeal.Facts] [hGuFwdReferenceIdeal : Cert.GuFwdReferenceIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg)
    (m' : (ℓ : Loc Cert.GuFwdReferenceIdeal.nD Cert.GuFwdReferenceIdeal.τ Cert.GuFwdReferenceIdeal.sig) → Buf (Elt Ideal) ℓ) (g' : Dev Cert.GuFwdReferenceIdeal.nD → PrngReg), Pre_GuFwdIdeal m →
    (∀ c : Dev Cert.GuFwdIdeal.nD,
      m' ((c.tc : Thread Cert.GuFwdReferenceIdeal.nD Cert.GuFwdReferenceIdeal.τ).loc Cert.GuFwdReferenceIdeal.main_arg0) = m ((c.tc : Thread Cert.GuFwdIdeal.nD Cert.GuFwdIdeal.τ).loc Cert.GuFwdIdeal.main_arg0)
      ∧ m' ((c.tc : Thread Cert.GuFwdReferenceIdeal.nD Cert.GuFwdReferenceIdeal.τ).loc Cert.GuFwdReferenceIdeal.main_arg1) = m ((c.tc : Thread Cert.GuFwdIdeal.nD Cert.GuFwdIdeal.τ).loc Cert.GuFwdIdeal.main_arg1)) →
    ∃ (v0 : (c : Dev Cert.GuFwdIdeal.nD) → Buf (Elt Ideal) ((c.tc : Thread Cert.GuFwdIdeal.nD Cert.GuFwdIdeal.τ).loc Cert.GuFwdIdeal.main_v1)),
      θ_run (Cert.GuFwdIdeal.defs (F := Ideal)) (onTc (τ := Cert.GuFwdIdeal.τ) (Cert.GuFwdIdeal.main (F := Ideal))) ⟨m, fun _ => 0, g⟩ (fun r => ∀ c : Dev Cert.GuFwdIdeal.nD,
          r.2.mem ((c.tc : Thread Cert.GuFwdIdeal.nD Cert.GuFwdIdeal.τ).loc Cert.GuFwdIdeal.main_v1) = v0 c
          ∧ r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
          ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ θ_run (Cert.GuFwdReferenceIdeal.defs (F := Ideal)) (onTc (τ := Cert.GuFwdReferenceIdeal.τ) (Cert.GuFwdReferenceIdeal.main (F := Ideal))) ⟨m', fun _ => 0, g'⟩ (fun r => ∀ c : Dev Cert.GuFwdReferenceIdeal.nD,
          r.2.mem ((c.tc : Thread Cert.GuFwdReferenceIdeal.nD Cert.GuFwdReferenceIdeal.τ).loc Cert.GuFwdReferenceIdeal.main_v3) = v0 c
          ∧ r.2.mem ((c.tc : Thread Cert.GuFwdReferenceIdeal.nD Cert.GuFwdReferenceIdeal.τ).loc Cert.GuFwdReferenceIdeal.main_arg0) = m' ((c.tc : Thread Cert.GuFwdReferenceIdeal.nD Cert.GuFwdReferenceIdeal.τ).loc Cert.GuFwdReferenceIdeal.main_arg0)
          ∧ r.2.mem ((c.tc : Thread Cert.GuFwdReferenceIdeal.nD Cert.GuFwdReferenceIdeal.τ).loc Cert.GuFwdReferenceIdeal.main_arg1) = m' ((c.tc : Thread Cert.GuFwdReferenceIdeal.nD Cert.GuFwdReferenceIdeal.τ).loc Cert.GuFwdReferenceIdeal.main_arg1))

def preserves_DownDa_DownDaIdeal : Prop :=
  True

def algebraic_DownDaIdeal_DownDaReferenceIdeal [hDownDaIdeal : Cert.DownDaIdeal.Facts] [hDownDaReferenceIdeal : Cert.DownDaReferenceIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaReferenceIdeal.nD Cert.DownDaReferenceIdeal.τ Cert.DownDaReferenceIdeal.sig) → Buf (Elt Ideal) ℓ) (g' : Dev Cert.DownDaReferenceIdeal.nD → PrngReg), Pre_DownDaIdeal m →
    (∀ c : Dev Cert.DownDaIdeal.nD,
      m' ((c.tc : Thread Cert.DownDaReferenceIdeal.nD Cert.DownDaReferenceIdeal.τ).loc Cert.DownDaReferenceIdeal.main_arg0) = m ((c.tc : Thread Cert.DownDaIdeal.nD Cert.DownDaIdeal.τ).loc Cert.DownDaIdeal.main_arg0)
      ∧ m' ((c.tc : Thread Cert.DownDaReferenceIdeal.nD Cert.DownDaReferenceIdeal.τ).loc Cert.DownDaReferenceIdeal.main_arg1) = m ((c.tc : Thread Cert.DownDaIdeal.nD Cert.DownDaIdeal.τ).loc Cert.DownDaIdeal.main_arg1)
      ∧ m' ((c.tc : Thread Cert.DownDaReferenceIdeal.nD Cert.DownDaReferenceIdeal.τ).loc Cert.DownDaReferenceIdeal.main_arg2) = m ((c.tc : Thread Cert.DownDaIdeal.nD Cert.DownDaIdeal.τ).loc Cert.DownDaIdeal.main_arg2)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
          ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ θ_run (Cert.DownDaReferenceIdeal.defs (F := Ideal)) (onTc (τ := Cert.DownDaReferenceIdeal.τ) (Cert.DownDaReferenceIdeal.main (F := Ideal))) ⟨m', fun _ => 0, g'⟩ (fun r => ∀ c : Dev Cert.DownDaReferenceIdeal.nD,
          r.2.mem ((c.tc : Thread Cert.DownDaReferenceIdeal.nD Cert.DownDaReferenceIdeal.τ).loc Cert.DownDaReferenceIdeal.main_v7) = v0 c
          ∧ r.2.mem ((c.tc : Thread Cert.DownDaReferenceIdeal.nD Cert.DownDaReferenceIdeal.τ).loc Cert.DownDaReferenceIdeal.main_arg0) = m' ((c.tc : Thread Cert.DownDaReferenceIdeal.nD Cert.DownDaReferenceIdeal.τ).loc Cert.DownDaReferenceIdeal.main_arg0)
          ∧ r.2.mem ((c.tc : Thread Cert.DownDaReferenceIdeal.nD Cert.DownDaReferenceIdeal.τ).loc Cert.DownDaReferenceIdeal.main_arg1) = m' ((c.tc : Thread Cert.DownDaReferenceIdeal.nD Cert.DownDaReferenceIdeal.τ).loc Cert.DownDaReferenceIdeal.main_arg1)
          ∧ r.2.mem ((c.tc : Thread Cert.DownDaReferenceIdeal.nD Cert.DownDaReferenceIdeal.τ).loc Cert.DownDaReferenceIdeal.main_arg2) = m' ((c.tc : Thread Cert.DownDaReferenceIdeal.nD Cert.DownDaReferenceIdeal.τ).loc Cert.DownDaReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v7) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_DownFwd_DownFwdIdeal : Prop :=
  True

def algebraic_DownFwdIdeal_DownFwdReferenceIdeal [hDownFwdIdeal : Cert.DownFwdIdeal.Facts] [hDownFwdReferenceIdeal : Cert.DownFwdReferenceIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdIdeal m →
    (∀ c : Dev Cert.DownFwdIdeal.nD,
      m' ((c.tc : Thread Cert.DownFwdReferenceIdeal.nD Cert.DownFwdReferenceIdeal.τ).loc Cert.DownFwdReferenceIdeal.main_arg0) = m ((c.tc : Thread Cert.DownFwdIdeal.nD Cert.DownFwdIdeal.τ).loc Cert.DownFwdIdeal.main_arg0)
      ∧ m' ((c.tc : Thread Cert.DownFwdReferenceIdeal.nD Cert.DownFwdReferenceIdeal.τ).loc Cert.DownFwdReferenceIdeal.main_arg1) = m ((c.tc : Thread Cert.DownFwdIdeal.nD Cert.DownFwdIdeal.τ).loc Cert.DownFwdIdeal.main_arg1)
      ∧ m' ((c.tc : Thread Cert.DownFwdReferenceIdeal.nD Cert.DownFwdReferenceIdeal.τ).loc Cert.DownFwdReferenceIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v3) = v0 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1)
          ∧ r.2.mem ((c.tc : Thread Cert.DownFwdReferenceIdeal.nD Cert.DownFwdReferenceIdeal.τ).loc Cert.DownFwdReferenceIdeal.main_arg2) = m' ((c.tc : Thread Cert.DownFwdReferenceIdeal.nD Cert.DownFwdReferenceIdeal.τ).loc Cert.DownFwdReferenceIdeal.main_arg2))

def preserves_InDa_InDaIdeal : Prop :=
  True

def algebraic_InDaIdeal_InDaReferenceIdeal [hInDaIdeal : Cert.InDaIdeal.Facts] [hInDaReferenceIdeal : Cert.InDaReferenceIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaReferenceIdeal.nD Cert.InDaReferenceIdeal.τ Cert.InDaReferenceIdeal.sig) → Buf (Elt Ideal) ℓ) (g' : Dev Cert.InDaReferenceIdeal.nD → PrngReg), Pre_InDaIdeal m →
    (∀ c : Dev Cert.InDaIdeal.nD,
      m' ((c.tc : Thread Cert.InDaReferenceIdeal.nD Cert.InDaReferenceIdeal.τ).loc Cert.InDaReferenceIdeal.main_arg0) = m ((c.tc : Thread Cert.InDaIdeal.nD Cert.InDaIdeal.τ).loc Cert.InDaIdeal.main_arg0)
      ∧ m' ((c.tc : Thread Cert.InDaReferenceIdeal.nD Cert.InDaReferenceIdeal.τ).loc Cert.InDaReferenceIdeal.main_arg1) = m ((c.tc : Thread Cert.InDaIdeal.nD Cert.InDaIdeal.τ).loc Cert.InDaIdeal.main_arg1)
      ∧ m' ((c.tc : Thread Cert.InDaReferenceIdeal.nD Cert.InDaReferenceIdeal.τ).loc Cert.InDaReferenceIdeal.main_arg2) = m ((c.tc : Thread Cert.InDaIdeal.nD Cert.InDaIdeal.τ).loc Cert.InDaIdeal.main_arg2)
      ∧ m' ((c.tc : Thread Cert.InDaReferenceIdeal.nD Cert.InDaReferenceIdeal.τ).loc Cert.InDaReferenceIdeal.main_arg3) = m ((c.tc : Thread Cert.InDaIdeal.nD Cert.InDaIdeal.τ).loc Cert.InDaIdeal.main_arg3)) →
    ∃ (v0 : (c : Dev Cert.InDaIdeal.nD) → Buf (Elt Ideal) ((c.tc : Thread Cert.InDaIdeal.nD Cert.InDaIdeal.τ).loc Cert.InDaIdeal.main_v1)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v1) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
          ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
          ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3))
      ∧ θ_run (Cert.InDaReferenceIdeal.defs (F := Ideal)) (onTc (τ := Cert.InDaReferenceIdeal.τ) (Cert.InDaReferenceIdeal.main (F := Ideal))) ⟨m', fun _ => 0, g'⟩ (fun r => ∀ c : Dev Cert.InDaReferenceIdeal.nD,
          r.2.mem ((c.tc : Thread Cert.InDaReferenceIdeal.nD Cert.InDaReferenceIdeal.τ).loc Cert.InDaReferenceIdeal.main_v9) = v0 c
          ∧ r.2.mem ((c.tc : Thread Cert.InDaReferenceIdeal.nD Cert.InDaReferenceIdeal.τ).loc Cert.InDaReferenceIdeal.main_arg0) = m' ((c.tc : Thread Cert.InDaReferenceIdeal.nD Cert.InDaReferenceIdeal.τ).loc Cert.InDaReferenceIdeal.main_arg0)
          ∧ r.2.mem ((c.tc : Thread Cert.InDaReferenceIdeal.nD Cert.InDaReferenceIdeal.τ).loc Cert.InDaReferenceIdeal.main_arg1) = m' ((c.tc : Thread Cert.InDaReferenceIdeal.nD Cert.InDaReferenceIdeal.τ).loc Cert.InDaReferenceIdeal.main_arg1)
          ∧ r.2.mem ((c.tc : Thread Cert.InDaReferenceIdeal.nD Cert.InDaReferenceIdeal.τ).loc Cert.InDaReferenceIdeal.main_arg2) = m' ((c.tc : Thread Cert.InDaReferenceIdeal.nD Cert.InDaReferenceIdeal.τ).loc Cert.InDaReferenceIdeal.main_arg2)
          ∧ r.2.mem ((c.tc : Thread Cert.InDaReferenceIdeal.nD Cert.InDaReferenceIdeal.τ).loc Cert.InDaReferenceIdeal.main_arg3) = m' ((c.tc : Thread Cert.InDaReferenceIdeal.nD Cert.InDaReferenceIdeal.τ).loc Cert.InDaReferenceIdeal.main_arg3))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)
      ∧ m' ((c.tc : Thread Cert.InDwReferenceIdeal.nD Cert.InDwReferenceIdeal.τ).loc Cert.InDwReferenceIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v9) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1)
          ∧ r.2.mem ((c.tc : Thread Cert.InDwReferenceIdeal.nD Cert.InDwReferenceIdeal.τ).loc Cert.InDwReferenceIdeal.main_arg2) = m' ((c.tc : Thread Cert.InDwReferenceIdeal.nD Cert.InDwReferenceIdeal.τ).loc Cert.InDwReferenceIdeal.main_arg2))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v3) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1))

def preserves_OutDa_OutDaIdeal : Prop :=
  True

def algebraic_OutDaIdeal_OutDaReferenceIdeal [hOutDaIdeal : Cert.OutDaIdeal.Facts] [hOutDaReferenceIdeal : Cert.OutDaReferenceIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaReferenceIdeal.nD Cert.OutDaReferenceIdeal.τ Cert.OutDaReferenceIdeal.sig) → Buf (Elt Ideal) ℓ) (g' : Dev Cert.OutDaReferenceIdeal.nD → PrngReg), Pre_OutDaIdeal m →
    (∀ c : Dev Cert.OutDaIdeal.nD,
      m' ((c.tc : Thread Cert.OutDaReferenceIdeal.nD Cert.OutDaReferenceIdeal.τ).loc Cert.OutDaReferenceIdeal.main_arg0) = m ((c.tc : Thread Cert.OutDaIdeal.nD Cert.OutDaIdeal.τ).loc Cert.OutDaIdeal.main_arg0)
      ∧ m' ((c.tc : Thread Cert.OutDaReferenceIdeal.nD Cert.OutDaReferenceIdeal.τ).loc Cert.OutDaReferenceIdeal.main_arg1) = m ((c.tc : Thread Cert.OutDaIdeal.nD Cert.OutDaIdeal.τ).loc Cert.OutDaIdeal.main_arg1)
      ∧ m' ((c.tc : Thread Cert.OutDaReferenceIdeal.nD Cert.OutDaReferenceIdeal.τ).loc Cert.OutDaReferenceIdeal.main_arg2) = m ((c.tc : Thread Cert.OutDaIdeal.nD Cert.OutDaIdeal.τ).loc Cert.OutDaIdeal.main_arg2)) →
    ∃ (v0 : (c : Dev Cert.OutDaIdeal.nD) → Buf (Elt Ideal) ((c.tc : Thread Cert.OutDaIdeal.nD Cert.OutDaIdeal.τ).loc Cert.OutDaIdeal.main_v0)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v0) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
          ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ θ_run (Cert.OutDaReferenceIdeal.defs (F := Ideal)) (onTc (τ := Cert.OutDaReferenceIdeal.τ) (Cert.OutDaReferenceIdeal.main (F := Ideal))) ⟨m', fun _ => 0, g'⟩ (fun r => ∀ c : Dev Cert.OutDaReferenceIdeal.nD,
          r.2.mem ((c.tc : Thread Cert.OutDaReferenceIdeal.nD Cert.OutDaReferenceIdeal.τ).loc Cert.OutDaReferenceIdeal.main_v7) = v0 c
          ∧ r.2.mem ((c.tc : Thread Cert.OutDaReferenceIdeal.nD Cert.OutDaReferenceIdeal.τ).loc Cert.OutDaReferenceIdeal.main_arg0) = m' ((c.tc : Thread Cert.OutDaReferenceIdeal.nD Cert.OutDaReferenceIdeal.τ).loc Cert.OutDaReferenceIdeal.main_arg0)
          ∧ r.2.mem ((c.tc : Thread Cert.OutDaReferenceIdeal.nD Cert.OutDaReferenceIdeal.τ).loc Cert.OutDaReferenceIdeal.main_arg1) = m' ((c.tc : Thread Cert.OutDaReferenceIdeal.nD Cert.OutDaReferenceIdeal.τ).loc Cert.OutDaReferenceIdeal.main_arg1)
          ∧ r.2.mem ((c.tc : Thread Cert.OutDaReferenceIdeal.nD Cert.OutDaReferenceIdeal.τ).loc Cert.OutDaReferenceIdeal.main_arg2) = m' ((c.tc : Thread Cert.OutDaReferenceIdeal.nD Cert.OutDaReferenceIdeal.τ).loc Cert.OutDaReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v7) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v3) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2))

def preserves_PleGateDa_PleGateDaIdeal : Prop :=
  True

def algebraic_PleGateDaIdeal_PleGateDaReferenceIdeal [hPleGateDaIdeal : Cert.PleGateDaIdeal.Facts] [hPleGateDaReferenceIdeal : Cert.PleGateDaReferenceIdeal.Facts] : Prop :=
  ∀ (m : (ℓ : Loc Cert.PleGateDaIdeal.nD Cert.PleGateDaIdeal.τ Cert.PleGateDaIdeal.sig) → Buf (Elt Ideal) ℓ) (g : Dev Cert.PleGateDaIdeal.nD → PrngReg)
    (m' : (ℓ : Loc Cert.PleGateDaReferenceIdeal.nD Cert.PleGateDaReferenceIdeal.τ Cert.PleGateDaReferenceIdeal.sig) → Buf (Elt Ideal) ℓ) (g' : Dev Cert.PleGateDaReferenceIdeal.nD → PrngReg), Pre_PleGateDaIdeal m →
    (∀ c : Dev Cert.PleGateDaIdeal.nD,
      m' ((c.tc : Thread Cert.PleGateDaReferenceIdeal.nD Cert.PleGateDaReferenceIdeal.τ).loc Cert.PleGateDaReferenceIdeal.main_arg0) = m ((c.tc : Thread Cert.PleGateDaIdeal.nD Cert.PleGateDaIdeal.τ).loc Cert.PleGateDaIdeal.main_arg0)
      ∧ m' ((c.tc : Thread Cert.PleGateDaReferenceIdeal.nD Cert.PleGateDaReferenceIdeal.τ).loc Cert.PleGateDaReferenceIdeal.main_arg1) = m ((c.tc : Thread Cert.PleGateDaIdeal.nD Cert.PleGateDaIdeal.τ).loc Cert.PleGateDaIdeal.main_arg1)
      ∧ m' ((c.tc : Thread Cert.PleGateDaReferenceIdeal.nD Cert.PleGateDaReferenceIdeal.τ).loc Cert.PleGateDaReferenceIdeal.main_arg2) = m ((c.tc : Thread Cert.PleGateDaIdeal.nD Cert.PleGateDaIdeal.τ).loc Cert.PleGateDaIdeal.main_arg2)
      ∧ m' ((c.tc : Thread Cert.PleGateDaReferenceIdeal.nD Cert.PleGateDaReferenceIdeal.τ).loc Cert.PleGateDaReferenceIdeal.main_arg3) = m ((c.tc : Thread Cert.PleGateDaIdeal.nD Cert.PleGateDaIdeal.τ).loc Cert.PleGateDaIdeal.main_arg3)) →
    ∃ (v0 : (c : Dev Cert.PleGateDaIdeal.nD) → Buf (Elt Ideal) ((c.tc : Thread Cert.PleGateDaIdeal.nD Cert.PleGateDaIdeal.τ).loc Cert.PleGateDaIdeal.main_v0)),
      θ_run (Cert.PleGateDaIdeal.defs (F := Ideal)) (onTc (τ := Cert.PleGateDaIdeal.τ) (Cert.PleGateDaIdeal.main (F := Ideal))) ⟨m, fun _ => 0, g⟩ (fun r => ∀ c : Dev Cert.PleGateDaIdeal.nD,
          r.2.mem ((c.tc : Thread Cert.PleGateDaIdeal.nD Cert.PleGateDaIdeal.τ).loc Cert.PleGateDaIdeal.main_v0) = v0 c
          ∧ r.2.mem ((c.tc : Thread Cert.PleGateDaIdeal.nD Cert.PleGateDaIdeal.τ).loc Cert.PleGateDaIdeal.main_arg0) = m ((c.tc : Thread Cert.PleGateDaIdeal.nD Cert.PleGateDaIdeal.τ).loc Cert.PleGateDaIdeal.main_arg0)
          ∧ r.2.mem ((c.tc : Thread Cert.PleGateDaIdeal.nD Cert.PleGateDaIdeal.τ).loc Cert.PleGateDaIdeal.main_arg1) = m ((c.tc : Thread Cert.PleGateDaIdeal.nD Cert.PleGateDaIdeal.τ).loc Cert.PleGateDaIdeal.main_arg1)
          ∧ r.2.mem ((c.tc : Thread Cert.PleGateDaIdeal.nD Cert.PleGateDaIdeal.τ).loc Cert.PleGateDaIdeal.main_arg2) = m ((c.tc : Thread Cert.PleGateDaIdeal.nD Cert.PleGateDaIdeal.τ).loc Cert.PleGateDaIdeal.main_arg2)
          ∧ r.2.mem ((c.tc : Thread Cert.PleGateDaIdeal.nD Cert.PleGateDaIdeal.τ).loc Cert.PleGateDaIdeal.main_arg3) = m ((c.tc : Thread Cert.PleGateDaIdeal.nD Cert.PleGateDaIdeal.τ).loc Cert.PleGateDaIdeal.main_arg3))
      ∧ θ_run (Cert.PleGateDaReferenceIdeal.defs (F := Ideal)) (onTc (τ := Cert.PleGateDaReferenceIdeal.τ) (Cert.PleGateDaReferenceIdeal.main (F := Ideal))) ⟨m', fun _ => 0, g'⟩ (fun r => ∀ c : Dev Cert.PleGateDaReferenceIdeal.nD,
          r.2.mem ((c.tc : Thread Cert.PleGateDaReferenceIdeal.nD Cert.PleGateDaReferenceIdeal.τ).loc Cert.PleGateDaReferenceIdeal.main_v7) = v0 c
          ∧ r.2.mem ((c.tc : Thread Cert.PleGateDaReferenceIdeal.nD Cert.PleGateDaReferenceIdeal.τ).loc Cert.PleGateDaReferenceIdeal.main_arg0) = m' ((c.tc : Thread Cert.PleGateDaReferenceIdeal.nD Cert.PleGateDaReferenceIdeal.τ).loc Cert.PleGateDaReferenceIdeal.main_arg0)
          ∧ r.2.mem ((c.tc : Thread Cert.PleGateDaReferenceIdeal.nD Cert.PleGateDaReferenceIdeal.τ).loc Cert.PleGateDaReferenceIdeal.main_arg1) = m' ((c.tc : Thread Cert.PleGateDaReferenceIdeal.nD Cert.PleGateDaReferenceIdeal.τ).loc Cert.PleGateDaReferenceIdeal.main_arg1)
          ∧ r.2.mem ((c.tc : Thread Cert.PleGateDaReferenceIdeal.nD Cert.PleGateDaReferenceIdeal.τ).loc Cert.PleGateDaReferenceIdeal.main_arg2) = m' ((c.tc : Thread Cert.PleGateDaReferenceIdeal.nD Cert.PleGateDaReferenceIdeal.τ).loc Cert.PleGateDaReferenceIdeal.main_arg2)
          ∧ r.2.mem ((c.tc : Thread Cert.PleGateDaReferenceIdeal.nD Cert.PleGateDaReferenceIdeal.τ).loc Cert.PleGateDaReferenceIdeal.main_arg3) = m' ((c.tc : Thread Cert.PleGateDaReferenceIdeal.nD Cert.PleGateDaReferenceIdeal.τ).loc Cert.PleGateDaReferenceIdeal.main_arg3))

def preserves_PleGateDw_PleGateDwIdeal : Prop :=
  True

def algebraic_PleGateDwIdeal_PleGateDwReferenceIdeal [hPleGateDwIdeal : Cert.PleGateDwIdeal.Facts] [hPleGateDwReferenceIdeal : Cert.PleGateDwReferenceIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg)
    (m' : (ℓ : Loc Cert.PleGateDwReferenceIdeal.nD Cert.PleGateDwReferenceIdeal.τ Cert.PleGateDwReferenceIdeal.sig) → Buf (Elt Ideal) ℓ) (g' : Dev Cert.PleGateDwReferenceIdeal.nD → PrngReg), Pre_PleGateDwIdeal m →
    (∀ c : Dev Cert.PleGateDwIdeal.nD,
      m' ((c.tc : Thread Cert.PleGateDwReferenceIdeal.nD Cert.PleGateDwReferenceIdeal.τ).loc Cert.PleGateDwReferenceIdeal.main_arg0) = m ((c.tc : Thread Cert.PleGateDwIdeal.nD Cert.PleGateDwIdeal.τ).loc Cert.PleGateDwIdeal.main_arg0)
      ∧ m' ((c.tc : Thread Cert.PleGateDwReferenceIdeal.nD Cert.PleGateDwReferenceIdeal.τ).loc Cert.PleGateDwReferenceIdeal.main_arg1) = m ((c.tc : Thread Cert.PleGateDwIdeal.nD Cert.PleGateDwIdeal.τ).loc Cert.PleGateDwIdeal.main_arg1)
      ∧ m' ((c.tc : Thread Cert.PleGateDwReferenceIdeal.nD Cert.PleGateDwReferenceIdeal.τ).loc Cert.PleGateDwReferenceIdeal.main_arg2) = m ((c.tc : Thread Cert.PleGateDwIdeal.nD Cert.PleGateDwIdeal.τ).loc Cert.PleGateDwIdeal.main_arg2)) →
    ∃ (v0 : (c : Dev Cert.PleGateDwIdeal.nD) → Buf (Elt Ideal) ((c.tc : Thread Cert.PleGateDwIdeal.nD Cert.PleGateDwIdeal.τ).loc Cert.PleGateDwIdeal.main_v0)),
      θ_run (Cert.PleGateDwIdeal.defs (F := Ideal)) (onTc (τ := Cert.PleGateDwIdeal.τ) (Cert.PleGateDwIdeal.main (F := Ideal))) ⟨m, fun _ => 0, g⟩ (fun r => ∀ c : Dev Cert.PleGateDwIdeal.nD,
          r.2.mem ((c.tc : Thread Cert.PleGateDwIdeal.nD Cert.PleGateDwIdeal.τ).loc Cert.PleGateDwIdeal.main_v0) = v0 c
          ∧ r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
          ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1)
          ∧ r.2.mem ((c.tc : Thread Cert.PleGateDwIdeal.nD Cert.PleGateDwIdeal.τ).loc Cert.PleGateDwIdeal.main_arg2) = m ((c.tc : Thread Cert.PleGateDwIdeal.nD Cert.PleGateDwIdeal.τ).loc Cert.PleGateDwIdeal.main_arg2))
      ∧ θ_run (Cert.PleGateDwReferenceIdeal.defs (F := Ideal)) (onTc (τ := Cert.PleGateDwReferenceIdeal.τ) (Cert.PleGateDwReferenceIdeal.main (F := Ideal))) ⟨m', fun _ => 0, g'⟩ (fun r => ∀ c : Dev Cert.PleGateDwReferenceIdeal.nD,
          r.2.mem ((c.tc : Thread Cert.PleGateDwReferenceIdeal.nD Cert.PleGateDwReferenceIdeal.τ).loc Cert.PleGateDwReferenceIdeal.main_v6) = v0 c
          ∧ r.2.mem ((c.tc : Thread Cert.PleGateDwReferenceIdeal.nD Cert.PleGateDwReferenceIdeal.τ).loc Cert.PleGateDwReferenceIdeal.main_arg0) = m' ((c.tc : Thread Cert.PleGateDwReferenceIdeal.nD Cert.PleGateDwReferenceIdeal.τ).loc Cert.PleGateDwReferenceIdeal.main_arg0)
          ∧ r.2.mem ((c.tc : Thread Cert.PleGateDwReferenceIdeal.nD Cert.PleGateDwReferenceIdeal.τ).loc Cert.PleGateDwReferenceIdeal.main_arg1) = m' ((c.tc : Thread Cert.PleGateDwReferenceIdeal.nD Cert.PleGateDwReferenceIdeal.τ).loc Cert.PleGateDwReferenceIdeal.main_arg1)
          ∧ r.2.mem ((c.tc : Thread Cert.PleGateDwReferenceIdeal.nD Cert.PleGateDwReferenceIdeal.τ).loc Cert.PleGateDwReferenceIdeal.main_arg2) = m' ((c.tc : Thread Cert.PleGateDwReferenceIdeal.nD Cert.PleGateDwReferenceIdeal.τ).loc Cert.PleGateDwReferenceIdeal.main_arg2))

def preserves_PleGateFwd_PleGateFwdIdeal : Prop :=
  True

def algebraic_PleGateFwdIdeal_PleGateFwdReferenceIdeal [hPleGateFwdIdeal : Cert.PleGateFwdIdeal.Facts] [hPleGateFwdReferenceIdeal : Cert.PleGateFwdReferenceIdeal.Facts] : Prop :=
  ∀ (m : (ℓ : Loc Cert.PleGateFwdIdeal.nD Cert.PleGateFwdIdeal.τ Cert.PleGateFwdIdeal.sig) → Buf (Elt Ideal) ℓ) (g : Dev Cert.PleGateFwdIdeal.nD → PrngReg)
    (m' : (ℓ : Loc Cert.PleGateFwdReferenceIdeal.nD Cert.PleGateFwdReferenceIdeal.τ Cert.PleGateFwdReferenceIdeal.sig) → Buf (Elt Ideal) ℓ) (g' : Dev Cert.PleGateFwdReferenceIdeal.nD → PrngReg), Pre_PleGateFwdIdeal m →
    (∀ c : Dev Cert.PleGateFwdIdeal.nD,
      m' ((c.tc : Thread Cert.PleGateFwdReferenceIdeal.nD Cert.PleGateFwdReferenceIdeal.τ).loc Cert.PleGateFwdReferenceIdeal.main_arg0) = m ((c.tc : Thread Cert.PleGateFwdIdeal.nD Cert.PleGateFwdIdeal.τ).loc Cert.PleGateFwdIdeal.main_arg0)
      ∧ m' ((c.tc : Thread Cert.PleGateFwdReferenceIdeal.nD Cert.PleGateFwdReferenceIdeal.τ).loc Cert.PleGateFwdReferenceIdeal.main_arg1) = m ((c.tc : Thread Cert.PleGateFwdIdeal.nD Cert.PleGateFwdIdeal.τ).loc Cert.PleGateFwdIdeal.main_arg1)) →
    ∃ (v0 : (c : Dev Cert.PleGateFwdIdeal.nD) → Buf (Elt Ideal) ((c.tc : Thread Cert.PleGateFwdIdeal.nD Cert.PleGateFwdIdeal.τ).loc Cert.PleGateFwdIdeal.main_v0)),
      θ_run (Cert.PleGateFwdIdeal.defs (F := Ideal)) (onTc (τ := Cert.PleGateFwdIdeal.τ) (Cert.PleGateFwdIdeal.main (F := Ideal))) ⟨m, fun _ => 0, g⟩ (fun r => ∀ c : Dev Cert.PleGateFwdIdeal.nD,
          r.2.mem ((c.tc : Thread Cert.PleGateFwdIdeal.nD Cert.PleGateFwdIdeal.τ).loc Cert.PleGateFwdIdeal.main_v0) = v0 c
          ∧ r.2.mem ((c.tc : Thread Cert.PleGateFwdIdeal.nD Cert.PleGateFwdIdeal.τ).loc Cert.PleGateFwdIdeal.main_arg0) = m ((c.tc : Thread Cert.PleGateFwdIdeal.nD Cert.PleGateFwdIdeal.τ).loc Cert.PleGateFwdIdeal.main_arg0)
          ∧ r.2.mem ((c.tc : Thread Cert.PleGateFwdIdeal.nD Cert.PleGateFwdIdeal.τ).loc Cert.PleGateFwdIdeal.main_arg1) = m ((c.tc : Thread Cert.PleGateFwdIdeal.nD Cert.PleGateFwdIdeal.τ).loc Cert.PleGateFwdIdeal.main_arg1))
      ∧ θ_run (Cert.PleGateFwdReferenceIdeal.defs (F := Ideal)) (onTc (τ := Cert.PleGateFwdReferenceIdeal.τ) (Cert.PleGateFwdReferenceIdeal.main (F := Ideal))) ⟨m', fun _ => 0, g'⟩ (fun r => ∀ c : Dev Cert.PleGateFwdReferenceIdeal.nD,
          r.2.mem ((c.tc : Thread Cert.PleGateFwdReferenceIdeal.nD Cert.PleGateFwdReferenceIdeal.τ).loc Cert.PleGateFwdReferenceIdeal.main_v2) = v0 c
          ∧ r.2.mem ((c.tc : Thread Cert.PleGateFwdReferenceIdeal.nD Cert.PleGateFwdReferenceIdeal.τ).loc Cert.PleGateFwdReferenceIdeal.main_arg0) = m' ((c.tc : Thread Cert.PleGateFwdReferenceIdeal.nD Cert.PleGateFwdReferenceIdeal.τ).loc Cert.PleGateFwdReferenceIdeal.main_arg0)
          ∧ r.2.mem ((c.tc : Thread Cert.PleGateFwdReferenceIdeal.nD Cert.PleGateFwdReferenceIdeal.τ).loc Cert.PleGateFwdReferenceIdeal.main_arg1) = m' ((c.tc : Thread Cert.PleGateFwdReferenceIdeal.nD Cert.PleGateFwdReferenceIdeal.τ).loc Cert.PleGateFwdReferenceIdeal.main_arg1))

def preserves_ODa_ODaIdeal : Prop :=
  True

def algebraic_ODaIdeal_ODaReferenceIdeal [hODaIdeal : Cert.ODaIdeal.Facts] [hODaReferenceIdeal : Cert.ODaReferenceIdeal.Facts] : Prop :=
  ∀ (m : (ℓ : Loc Cert.ODaIdeal.nD Cert.ODaIdeal.τ Cert.ODaIdeal.sig) → Buf (Elt Ideal) ℓ) (g : Dev Cert.ODaIdeal.nD → PrngReg)
    (m' : (ℓ : Loc Cert.ODaReferenceIdeal.nD Cert.ODaReferenceIdeal.τ Cert.ODaReferenceIdeal.sig) → Buf (Elt Ideal) ℓ) (g' : Dev Cert.ODaReferenceIdeal.nD → PrngReg), Pre_ODaIdeal m →
    (∀ c : Dev Cert.ODaIdeal.nD,
      m' ((c.tc : Thread Cert.ODaReferenceIdeal.nD Cert.ODaReferenceIdeal.τ).loc Cert.ODaReferenceIdeal.main_arg0) = m ((c.tc : Thread Cert.ODaIdeal.nD Cert.ODaIdeal.τ).loc Cert.ODaIdeal.main_arg0)
      ∧ m' ((c.tc : Thread Cert.ODaReferenceIdeal.nD Cert.ODaReferenceIdeal.τ).loc Cert.ODaReferenceIdeal.main_arg1) = m ((c.tc : Thread Cert.ODaIdeal.nD Cert.ODaIdeal.τ).loc Cert.ODaIdeal.main_arg1)
      ∧ m' ((c.tc : Thread Cert.ODaReferenceIdeal.nD Cert.ODaReferenceIdeal.τ).loc Cert.ODaReferenceIdeal.main_arg2) = m ((c.tc : Thread Cert.ODaIdeal.nD Cert.ODaIdeal.τ).loc Cert.ODaIdeal.main_arg2)) →
    ∃ (v0 : (c : Dev Cert.ODaIdeal.nD) → Buf (Elt Ideal) ((c.tc : Thread Cert.ODaIdeal.nD Cert.ODaIdeal.τ).loc Cert.ODaIdeal.main_v0)),
      θ_run (Cert.ODaIdeal.defs (F := Ideal)) (onTc (τ := Cert.ODaIdeal.τ) (Cert.ODaIdeal.main (F := Ideal))) ⟨m, fun _ => 0, g⟩ (fun r => ∀ c : Dev Cert.ODaIdeal.nD,
          r.2.mem ((c.tc : Thread Cert.ODaIdeal.nD Cert.ODaIdeal.τ).loc Cert.ODaIdeal.main_v0) = v0 c
          ∧ r.2.mem ((c.tc : Thread Cert.ODaIdeal.nD Cert.ODaIdeal.τ).loc Cert.ODaIdeal.main_arg0) = m ((c.tc : Thread Cert.ODaIdeal.nD Cert.ODaIdeal.τ).loc Cert.ODaIdeal.main_arg0)
          ∧ r.2.mem ((c.tc : Thread Cert.ODaIdeal.nD Cert.ODaIdeal.τ).loc Cert.ODaIdeal.main_arg1) = m ((c.tc : Thread Cert.ODaIdeal.nD Cert.ODaIdeal.τ).loc Cert.ODaIdeal.main_arg1)
          ∧ r.2.mem ((c.tc : Thread Cert.ODaIdeal.nD Cert.ODaIdeal.τ).loc Cert.ODaIdeal.main_arg2) = m ((c.tc : Thread Cert.ODaIdeal.nD Cert.ODaIdeal.τ).loc Cert.ODaIdeal.main_arg2))
      ∧ θ_run (Cert.ODaReferenceIdeal.defs (F := Ideal)) (onTc (τ := Cert.ODaReferenceIdeal.τ) (Cert.ODaReferenceIdeal.main (F := Ideal))) ⟨m', fun _ => 0, g'⟩ (fun r => ∀ c : Dev Cert.ODaReferenceIdeal.nD,
          r.2.mem ((c.tc : Thread Cert.ODaReferenceIdeal.nD Cert.ODaReferenceIdeal.τ).loc Cert.ODaReferenceIdeal.main_v5) = v0 c
          ∧ r.2.mem ((c.tc : Thread Cert.ODaReferenceIdeal.nD Cert.ODaReferenceIdeal.τ).loc Cert.ODaReferenceIdeal.main_arg0) = m' ((c.tc : Thread Cert.ODaReferenceIdeal.nD Cert.ODaReferenceIdeal.τ).loc Cert.ODaReferenceIdeal.main_arg0)
          ∧ r.2.mem ((c.tc : Thread Cert.ODaReferenceIdeal.nD Cert.ODaReferenceIdeal.τ).loc Cert.ODaReferenceIdeal.main_arg1) = m' ((c.tc : Thread Cert.ODaReferenceIdeal.nD Cert.ODaReferenceIdeal.τ).loc Cert.ODaReferenceIdeal.main_arg1)
          ∧ r.2.mem ((c.tc : Thread Cert.ODaReferenceIdeal.nD Cert.ODaReferenceIdeal.τ).loc Cert.ODaReferenceIdeal.main_arg2) = m' ((c.tc : Thread Cert.ODaReferenceIdeal.nD Cert.ODaReferenceIdeal.τ).loc Cert.ODaReferenceIdeal.main_arg2))

def preserves_ODw_ODwIdeal : Prop :=
  True

def algebraic_ODwIdeal_ODwReferenceIdeal [hODwIdeal : Cert.ODwIdeal.Facts] [hODwReferenceIdeal : Cert.ODwReferenceIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwReferenceIdeal.nD Cert.ODwReferenceIdeal.τ Cert.ODwReferenceIdeal.sig) → Buf (Elt Ideal) ℓ) (g' : Dev Cert.ODwReferenceIdeal.nD → PrngReg), Pre_ODwIdeal m →
    (∀ c : Dev Cert.ODwIdeal.nD,
      m' ((c.tc : Thread Cert.ODwReferenceIdeal.nD Cert.ODwReferenceIdeal.τ).loc Cert.ODwReferenceIdeal.main_arg0) = m ((c.tc : Thread Cert.ODwIdeal.nD Cert.ODwIdeal.τ).loc Cert.ODwIdeal.main_arg0)
      ∧ m' ((c.tc : Thread Cert.ODwReferenceIdeal.nD Cert.ODwReferenceIdeal.τ).loc Cert.ODwReferenceIdeal.main_arg1) = m ((c.tc : Thread Cert.ODwIdeal.nD Cert.ODwIdeal.τ).loc Cert.ODwIdeal.main_arg1)
      ∧ m' ((c.tc : Thread Cert.ODwReferenceIdeal.nD Cert.ODwReferenceIdeal.τ).loc Cert.ODwReferenceIdeal.main_arg2) = m ((c.tc : Thread Cert.ODwIdeal.nD Cert.ODwIdeal.τ).loc Cert.ODwIdeal.main_arg2)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1)
          ∧ r.2.mem ((c.tc : Thread Cert.ODwIdeal.nD Cert.ODwIdeal.τ).loc Cert.ODwIdeal.main_arg2) = m ((c.tc : Thread Cert.ODwIdeal.nD Cert.ODwIdeal.τ).loc Cert.ODwIdeal.main_arg2))
      ∧ θ_run (Cert.ODwReferenceIdeal.defs (F := Ideal)) (onTc (τ := Cert.ODwReferenceIdeal.τ) (Cert.ODwReferenceIdeal.main (F := Ideal))) ⟨m', fun _ => 0, g'⟩ (fun r => ∀ c : Dev Cert.ODwReferenceIdeal.nD,
          r.2.mem ((c.tc : Thread Cert.ODwReferenceIdeal.nD Cert.ODwReferenceIdeal.τ).loc Cert.ODwReferenceIdeal.main_v7) = v0 c
          ∧ r.2.mem ((c.tc : Thread Cert.ODwReferenceIdeal.nD Cert.ODwReferenceIdeal.τ).loc Cert.ODwReferenceIdeal.main_arg0) = m' ((c.tc : Thread Cert.ODwReferenceIdeal.nD Cert.ODwReferenceIdeal.τ).loc Cert.ODwReferenceIdeal.main_arg0)
          ∧ r.2.mem ((c.tc : Thread Cert.ODwReferenceIdeal.nD Cert.ODwReferenceIdeal.τ).loc Cert.ODwReferenceIdeal.main_arg1) = m' ((c.tc : Thread Cert.ODwReferenceIdeal.nD Cert.ODwReferenceIdeal.τ).loc Cert.ODwReferenceIdeal.main_arg1)
          ∧ r.2.mem ((c.tc : Thread Cert.ODwReferenceIdeal.nD Cert.ODwReferenceIdeal.τ).loc Cert.ODwReferenceIdeal.main_arg2) = m' ((c.tc : Thread Cert.ODwReferenceIdeal.nD Cert.ODwReferenceIdeal.τ).loc Cert.ODwReferenceIdeal.main_arg2))

def preserves_OFwd_OFwdIdeal : Prop :=
  True

def algebraic_OFwdIdeal_OFwdReferenceIdeal [hOFwdIdeal : Cert.OFwdIdeal.Facts] [hOFwdReferenceIdeal : Cert.OFwdReferenceIdeal.Facts] : Prop :=
  ∀ (m : (ℓ : Loc Cert.OFwdIdeal.nD Cert.OFwdIdeal.τ Cert.OFwdIdeal.sig) → Buf (Elt Ideal) ℓ) (g : Dev Cert.OFwdIdeal.nD → PrngReg)
    (m' : (ℓ : Loc Cert.OFwdReferenceIdeal.nD Cert.OFwdReferenceIdeal.τ Cert.OFwdReferenceIdeal.sig) → Buf (Elt Ideal) ℓ) (g' : Dev Cert.OFwdReferenceIdeal.nD → PrngReg), Pre_OFwdIdeal m →
    (∀ c : Dev Cert.OFwdIdeal.nD,
      m' ((c.tc : Thread Cert.OFwdReferenceIdeal.nD Cert.OFwdReferenceIdeal.τ).loc Cert.OFwdReferenceIdeal.main_arg0) = m ((c.tc : Thread Cert.OFwdIdeal.nD Cert.OFwdIdeal.τ).loc Cert.OFwdIdeal.main_arg0)
      ∧ m' ((c.tc : Thread Cert.OFwdReferenceIdeal.nD Cert.OFwdReferenceIdeal.τ).loc Cert.OFwdReferenceIdeal.main_arg1) = m ((c.tc : Thread Cert.OFwdIdeal.nD Cert.OFwdIdeal.τ).loc Cert.OFwdIdeal.main_arg1)
      ∧ m' ((c.tc : Thread Cert.OFwdReferenceIdeal.nD Cert.OFwdReferenceIdeal.τ).loc Cert.OFwdReferenceIdeal.main_arg2) = m ((c.tc : Thread Cert.OFwdIdeal.nD Cert.OFwdIdeal.τ).loc Cert.OFwdIdeal.main_arg2)) →
    ∃ (v0 : (c : Dev Cert.OFwdIdeal.nD) → Buf (Elt Ideal) ((c.tc : Thread Cert.OFwdIdeal.nD Cert.OFwdIdeal.τ).loc Cert.OFwdIdeal.main_v0)),
      θ_run (Cert.OFwdIdeal.defs (F := Ideal)) (onTc (τ := Cert.OFwdIdeal.τ) (Cert.OFwdIdeal.main (F := Ideal))) ⟨m, fun _ => 0, g⟩ (fun r => ∀ c : Dev Cert.OFwdIdeal.nD,
          r.2.mem ((c.tc : Thread Cert.OFwdIdeal.nD Cert.OFwdIdeal.τ).loc Cert.OFwdIdeal.main_v0) = v0 c
          ∧ r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
          ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
          ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ θ_run (Cert.OFwdReferenceIdeal.defs (F := Ideal)) (onTc (τ := Cert.OFwdReferenceIdeal.τ) (Cert.OFwdReferenceIdeal.main (F := Ideal))) ⟨m', fun _ => 0, g'⟩ (fun r => ∀ c : Dev Cert.OFwdReferenceIdeal.nD,
          r.2.mem ((c.tc : Thread Cert.OFwdReferenceIdeal.nD Cert.OFwdReferenceIdeal.τ).loc Cert.OFwdReferenceIdeal.main_v3) = v0 c
          ∧ r.2.mem ((c.tc : Thread Cert.OFwdReferenceIdeal.nD Cert.OFwdReferenceIdeal.τ).loc Cert.OFwdReferenceIdeal.main_arg0) = m' ((c.tc : Thread Cert.OFwdReferenceIdeal.nD Cert.OFwdReferenceIdeal.τ).loc Cert.OFwdReferenceIdeal.main_arg0)
          ∧ r.2.mem ((c.tc : Thread Cert.OFwdReferenceIdeal.nD Cert.OFwdReferenceIdeal.τ).loc Cert.OFwdReferenceIdeal.main_arg1) = m' ((c.tc : Thread Cert.OFwdReferenceIdeal.nD Cert.OFwdReferenceIdeal.τ).loc Cert.OFwdReferenceIdeal.main_arg1)
          ∧ r.2.mem ((c.tc : Thread Cert.OFwdReferenceIdeal.nD Cert.OFwdReferenceIdeal.τ).loc Cert.OFwdReferenceIdeal.main_arg2) = m' ((c.tc : Thread Cert.OFwdReferenceIdeal.nD Cert.OFwdReferenceIdeal.τ).loc Cert.OFwdReferenceIdeal.main_arg2))

def preserves_PleProjDw_PleProjDwIdeal : Prop :=
  True

def algebraic_PleProjDwIdeal_PleProjDwReferenceIdeal [hPleProjDwIdeal : Cert.PleProjDwIdeal.Facts] [hPleProjDwReferenceIdeal : Cert.PleProjDwReferenceIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg)
    (m' : (ℓ : Loc Cert.PleProjDwReferenceIdeal.nD Cert.PleProjDwReferenceIdeal.τ Cert.PleProjDwReferenceIdeal.sig) → Buf (Elt Ideal) ℓ) (g' : Dev Cert.PleProjDwReferenceIdeal.nD → PrngReg), Pre_PleProjDwIdeal m →
    (∀ c : Dev Cert.PleProjDwIdeal.nD,
      m' ((c.tc : Thread Cert.PleProjDwReferenceIdeal.nD Cert.PleProjDwReferenceIdeal.τ).loc Cert.PleProjDwReferenceIdeal.main_arg0) = m ((c.tc : Thread Cert.PleProjDwIdeal.nD Cert.PleProjDwIdeal.τ).loc Cert.PleProjDwIdeal.main_arg0)
      ∧ m' ((c.tc : Thread Cert.PleProjDwReferenceIdeal.nD Cert.PleProjDwReferenceIdeal.τ).loc Cert.PleProjDwReferenceIdeal.main_arg1) = m ((c.tc : Thread Cert.PleProjDwIdeal.nD Cert.PleProjDwIdeal.τ).loc Cert.PleProjDwIdeal.main_arg1)
      ∧ m' ((c.tc : Thread Cert.PleProjDwReferenceIdeal.nD Cert.PleProjDwReferenceIdeal.τ).loc Cert.PleProjDwReferenceIdeal.main_arg2) = m ((c.tc : Thread Cert.PleProjDwIdeal.nD Cert.PleProjDwIdeal.τ).loc Cert.PleProjDwIdeal.main_arg2)) →
    ∃ (v0 : (c : Dev Cert.PleProjDwIdeal.nD) → Buf (Elt Ideal) ((c.tc : Thread Cert.PleProjDwIdeal.nD Cert.PleProjDwIdeal.τ).loc Cert.PleProjDwIdeal.main_v0)),
      θ_run (Cert.PleProjDwIdeal.defs (F := Ideal)) (onTc (τ := Cert.PleProjDwIdeal.τ) (Cert.PleProjDwIdeal.main (F := Ideal))) ⟨m, fun _ => 0, g⟩ (fun r => ∀ c : Dev Cert.PleProjDwIdeal.nD,
          r.2.mem ((c.tc : Thread Cert.PleProjDwIdeal.nD Cert.PleProjDwIdeal.τ).loc Cert.PleProjDwIdeal.main_v0) = v0 c
          ∧ r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
          ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1)
          ∧ r.2.mem ((c.tc : Thread Cert.PleProjDwIdeal.nD Cert.PleProjDwIdeal.τ).loc Cert.PleProjDwIdeal.main_arg2) = m ((c.tc : Thread Cert.PleProjDwIdeal.nD Cert.PleProjDwIdeal.τ).loc Cert.PleProjDwIdeal.main_arg2))
      ∧ θ_run (Cert.PleProjDwReferenceIdeal.defs (F := Ideal)) (onTc (τ := Cert.PleProjDwReferenceIdeal.τ) (Cert.PleProjDwReferenceIdeal.main (F := Ideal))) ⟨m', fun _ => 0, g'⟩ (fun r => ∀ c : Dev Cert.PleProjDwReferenceIdeal.nD,
          r.2.mem ((c.tc : Thread Cert.PleProjDwReferenceIdeal.nD Cert.PleProjDwReferenceIdeal.τ).loc Cert.PleProjDwReferenceIdeal.main_v7) = v0 c
          ∧ r.2.mem ((c.tc : Thread Cert.PleProjDwReferenceIdeal.nD Cert.PleProjDwReferenceIdeal.τ).loc Cert.PleProjDwReferenceIdeal.main_arg0) = m' ((c.tc : Thread Cert.PleProjDwReferenceIdeal.nD Cert.PleProjDwReferenceIdeal.τ).loc Cert.PleProjDwReferenceIdeal.main_arg0)
          ∧ r.2.mem ((c.tc : Thread Cert.PleProjDwReferenceIdeal.nD Cert.PleProjDwReferenceIdeal.τ).loc Cert.PleProjDwReferenceIdeal.main_arg1) = m' ((c.tc : Thread Cert.PleProjDwReferenceIdeal.nD Cert.PleProjDwReferenceIdeal.τ).loc Cert.PleProjDwReferenceIdeal.main_arg1)
          ∧ r.2.mem ((c.tc : Thread Cert.PleProjDwReferenceIdeal.nD Cert.PleProjDwReferenceIdeal.τ).loc Cert.PleProjDwReferenceIdeal.main_arg2) = m' ((c.tc : Thread Cert.PleProjDwReferenceIdeal.nD Cert.PleProjDwReferenceIdeal.τ).loc Cert.PleProjDwReferenceIdeal.main_arg2))

def preserves_PleProjFwd_PleProjFwdIdeal : Prop :=
  True

def algebraic_PleProjFwdIdeal_PleProjFwdReferenceIdeal [hPleProjFwdIdeal : Cert.PleProjFwdIdeal.Facts] [hPleProjFwdReferenceIdeal : Cert.PleProjFwdReferenceIdeal.Facts] : Prop :=
  ∀ (m : (ℓ : Loc Cert.PleProjFwdIdeal.nD Cert.PleProjFwdIdeal.τ Cert.PleProjFwdIdeal.sig) → Buf (Elt Ideal) ℓ) (g : Dev Cert.PleProjFwdIdeal.nD → PrngReg)
    (m' : (ℓ : Loc Cert.PleProjFwdReferenceIdeal.nD Cert.PleProjFwdReferenceIdeal.τ Cert.PleProjFwdReferenceIdeal.sig) → Buf (Elt Ideal) ℓ) (g' : Dev Cert.PleProjFwdReferenceIdeal.nD → PrngReg), Pre_PleProjFwdIdeal m →
    (∀ c : Dev Cert.PleProjFwdIdeal.nD,
      m' ((c.tc : Thread Cert.PleProjFwdReferenceIdeal.nD Cert.PleProjFwdReferenceIdeal.τ).loc Cert.PleProjFwdReferenceIdeal.main_arg0) = m ((c.tc : Thread Cert.PleProjFwdIdeal.nD Cert.PleProjFwdIdeal.τ).loc Cert.PleProjFwdIdeal.main_arg0)
      ∧ m' ((c.tc : Thread Cert.PleProjFwdReferenceIdeal.nD Cert.PleProjFwdReferenceIdeal.τ).loc Cert.PleProjFwdReferenceIdeal.main_arg1) = m ((c.tc : Thread Cert.PleProjFwdIdeal.nD Cert.PleProjFwdIdeal.τ).loc Cert.PleProjFwdIdeal.main_arg1)) →
    ∃ (v0 : (c : Dev Cert.PleProjFwdIdeal.nD) → Buf (Elt Ideal) ((c.tc : Thread Cert.PleProjFwdIdeal.nD Cert.PleProjFwdIdeal.τ).loc Cert.PleProjFwdIdeal.main_v1)),
      θ_run (Cert.PleProjFwdIdeal.defs (F := Ideal)) (onTc (τ := Cert.PleProjFwdIdeal.τ) (Cert.PleProjFwdIdeal.main (F := Ideal))) ⟨m, fun _ => 0, g⟩ (fun r => ∀ c : Dev Cert.PleProjFwdIdeal.nD,
          r.2.mem ((c.tc : Thread Cert.PleProjFwdIdeal.nD Cert.PleProjFwdIdeal.τ).loc Cert.PleProjFwdIdeal.main_v1) = v0 c
          ∧ r.2.mem ((c.tc : Thread Cert.PleProjFwdIdeal.nD Cert.PleProjFwdIdeal.τ).loc Cert.PleProjFwdIdeal.main_arg0) = m ((c.tc : Thread Cert.PleProjFwdIdeal.nD Cert.PleProjFwdIdeal.τ).loc Cert.PleProjFwdIdeal.main_arg0)
          ∧ r.2.mem ((c.tc : Thread Cert.PleProjFwdIdeal.nD Cert.PleProjFwdIdeal.τ).loc Cert.PleProjFwdIdeal.main_arg1) = m ((c.tc : Thread Cert.PleProjFwdIdeal.nD Cert.PleProjFwdIdeal.τ).loc Cert.PleProjFwdIdeal.main_arg1))
      ∧ θ_run (Cert.PleProjFwdReferenceIdeal.defs (F := Ideal)) (onTc (τ := Cert.PleProjFwdReferenceIdeal.τ) (Cert.PleProjFwdReferenceIdeal.main (F := Ideal))) ⟨m', fun _ => 0, g'⟩ (fun r => ∀ c : Dev Cert.PleProjFwdReferenceIdeal.nD,
          r.2.mem ((c.tc : Thread Cert.PleProjFwdReferenceIdeal.nD Cert.PleProjFwdReferenceIdeal.τ).loc Cert.PleProjFwdReferenceIdeal.main_v2) = v0 c
          ∧ r.2.mem ((c.tc : Thread Cert.PleProjFwdReferenceIdeal.nD Cert.PleProjFwdReferenceIdeal.τ).loc Cert.PleProjFwdReferenceIdeal.main_arg0) = m' ((c.tc : Thread Cert.PleProjFwdReferenceIdeal.nD Cert.PleProjFwdReferenceIdeal.τ).loc Cert.PleProjFwdReferenceIdeal.main_arg0)
          ∧ r.2.mem ((c.tc : Thread Cert.PleProjFwdReferenceIdeal.nD Cert.PleProjFwdReferenceIdeal.τ).loc Cert.PleProjFwdReferenceIdeal.main_arg1) = m' ((c.tc : Thread Cert.PleProjFwdReferenceIdeal.nD Cert.PleProjFwdReferenceIdeal.τ).loc Cert.PleProjFwdReferenceIdeal.main_arg1))

def preserves_DtDa_DtDaIdeal : Prop :=
  True

def algebraic_DtDaIdeal_DtDaReferenceIdeal [hDtDaIdeal : Cert.DtDaIdeal.Facts] [hDtDaReferenceIdeal : Cert.DtDaReferenceIdeal.Facts] : Prop :=
  ∀ (m : (ℓ : Loc Cert.DtDaIdeal.nD Cert.DtDaIdeal.τ Cert.DtDaIdeal.sig) → Buf (Elt Ideal) ℓ) (g : Dev Cert.DtDaIdeal.nD → PrngReg)
    (m' : (ℓ : Loc Cert.DtDaReferenceIdeal.nD Cert.DtDaReferenceIdeal.τ Cert.DtDaReferenceIdeal.sig) → Buf (Elt Ideal) ℓ) (g' : Dev Cert.DtDaReferenceIdeal.nD → PrngReg), Pre_DtDaIdeal m →
    (∀ c : Dev Cert.DtDaIdeal.nD,
      m' ((c.tc : Thread Cert.DtDaReferenceIdeal.nD Cert.DtDaReferenceIdeal.τ).loc Cert.DtDaReferenceIdeal.main_arg0) = m ((c.tc : Thread Cert.DtDaIdeal.nD Cert.DtDaIdeal.τ).loc Cert.DtDaIdeal.main_arg0)
      ∧ m' ((c.tc : Thread Cert.DtDaReferenceIdeal.nD Cert.DtDaReferenceIdeal.τ).loc Cert.DtDaReferenceIdeal.main_arg1) = m ((c.tc : Thread Cert.DtDaIdeal.nD Cert.DtDaIdeal.τ).loc Cert.DtDaIdeal.main_arg1)
      ∧ m' ((c.tc : Thread Cert.DtDaReferenceIdeal.nD Cert.DtDaReferenceIdeal.τ).loc Cert.DtDaReferenceIdeal.main_arg2) = m ((c.tc : Thread Cert.DtDaIdeal.nD Cert.DtDaIdeal.τ).loc Cert.DtDaIdeal.main_arg2)) →
    ∃ (v0 : (c : Dev Cert.DtDaIdeal.nD) → Buf (Elt Ideal) ((c.tc : Thread Cert.DtDaIdeal.nD Cert.DtDaIdeal.τ).loc Cert.DtDaIdeal.main_v1)),
      θ_run (Cert.DtDaIdeal.defs (F := Ideal)) (onTc (τ := Cert.DtDaIdeal.τ) (Cert.DtDaIdeal.main (F := Ideal))) ⟨m, fun _ => 0, g⟩ (fun r => ∀ c : Dev Cert.DtDaIdeal.nD,
          r.2.mem ((c.tc : Thread Cert.DtDaIdeal.nD Cert.DtDaIdeal.τ).loc Cert.DtDaIdeal.main_v1) = v0 c
          ∧ r.2.mem ((c.tc : Thread Cert.DtDaIdeal.nD Cert.DtDaIdeal.τ).loc Cert.DtDaIdeal.main_arg0) = m ((c.tc : Thread Cert.DtDaIdeal.nD Cert.DtDaIdeal.τ).loc Cert.DtDaIdeal.main_arg0)
          ∧ r.2.mem ((c.tc : Thread Cert.DtDaIdeal.nD Cert.DtDaIdeal.τ).loc Cert.DtDaIdeal.main_arg1) = m ((c.tc : Thread Cert.DtDaIdeal.nD Cert.DtDaIdeal.τ).loc Cert.DtDaIdeal.main_arg1)
          ∧ r.2.mem ((c.tc : Thread Cert.DtDaIdeal.nD Cert.DtDaIdeal.τ).loc Cert.DtDaIdeal.main_arg2) = m ((c.tc : Thread Cert.DtDaIdeal.nD Cert.DtDaIdeal.τ).loc Cert.DtDaIdeal.main_arg2))
      ∧ θ_run (Cert.DtDaReferenceIdeal.defs (F := Ideal)) (onTc (τ := Cert.DtDaReferenceIdeal.τ) (Cert.DtDaReferenceIdeal.main (F := Ideal))) ⟨m', fun _ => 0, g'⟩ (fun r => ∀ c : Dev Cert.DtDaReferenceIdeal.nD,
          r.2.mem ((c.tc : Thread Cert.DtDaReferenceIdeal.nD Cert.DtDaReferenceIdeal.τ).loc Cert.DtDaReferenceIdeal.main_v5) = v0 c
          ∧ r.2.mem ((c.tc : Thread Cert.DtDaReferenceIdeal.nD Cert.DtDaReferenceIdeal.τ).loc Cert.DtDaReferenceIdeal.main_arg0) = m' ((c.tc : Thread Cert.DtDaReferenceIdeal.nD Cert.DtDaReferenceIdeal.τ).loc Cert.DtDaReferenceIdeal.main_arg0)
          ∧ r.2.mem ((c.tc : Thread Cert.DtDaReferenceIdeal.nD Cert.DtDaReferenceIdeal.τ).loc Cert.DtDaReferenceIdeal.main_arg1) = m' ((c.tc : Thread Cert.DtDaReferenceIdeal.nD Cert.DtDaReferenceIdeal.τ).loc Cert.DtDaReferenceIdeal.main_arg1)
          ∧ r.2.mem ((c.tc : Thread Cert.DtDaReferenceIdeal.nD Cert.DtDaReferenceIdeal.τ).loc Cert.DtDaReferenceIdeal.main_arg2) = m' ((c.tc : Thread Cert.DtDaReferenceIdeal.nD Cert.DtDaReferenceIdeal.τ).loc Cert.DtDaReferenceIdeal.main_arg2))

def preserves_DtDw_DtDwIdeal : Prop :=
  True

def algebraic_DtDwIdeal_DtDwReferenceIdeal [hDtDwIdeal : Cert.DtDwIdeal.Facts] [hDtDwReferenceIdeal : Cert.DtDwReferenceIdeal.Facts] : Prop :=
  ∀ (m : (ℓ : Loc Cert.DtDwIdeal.nD Cert.DtDwIdeal.τ Cert.DtDwIdeal.sig) → Buf (Elt Ideal) ℓ) (g : Dev Cert.DtDwIdeal.nD → PrngReg)
    (m' : (ℓ : Loc Cert.DtDwReferenceIdeal.nD Cert.DtDwReferenceIdeal.τ Cert.DtDwReferenceIdeal.sig) → Buf (Elt Ideal) ℓ) (g' : Dev Cert.DtDwReferenceIdeal.nD → PrngReg), Pre_DtDwIdeal m →
    (∀ c : Dev Cert.DtDwIdeal.nD,
      m' ((c.tc : Thread Cert.DtDwReferenceIdeal.nD Cert.DtDwReferenceIdeal.τ).loc Cert.DtDwReferenceIdeal.main_arg0) = m ((c.tc : Thread Cert.DtDwIdeal.nD Cert.DtDwIdeal.τ).loc Cert.DtDwIdeal.main_arg0)
      ∧ m' ((c.tc : Thread Cert.DtDwReferenceIdeal.nD Cert.DtDwReferenceIdeal.τ).loc Cert.DtDwReferenceIdeal.main_arg1) = m ((c.tc : Thread Cert.DtDwIdeal.nD Cert.DtDwIdeal.τ).loc Cert.DtDwIdeal.main_arg1)
      ∧ m' ((c.tc : Thread Cert.DtDwReferenceIdeal.nD Cert.DtDwReferenceIdeal.τ).loc Cert.DtDwReferenceIdeal.main_arg2) = m ((c.tc : Thread Cert.DtDwIdeal.nD Cert.DtDwIdeal.τ).loc Cert.DtDwIdeal.main_arg2)) →
    ∃ (v0 : (c : Dev Cert.DtDwIdeal.nD) → Buf (Elt Ideal) ((c.tc : Thread Cert.DtDwIdeal.nD Cert.DtDwIdeal.τ).loc Cert.DtDwIdeal.main_v0)),
      θ_run (Cert.DtDwIdeal.defs (F := Ideal)) (onTc (τ := Cert.DtDwIdeal.τ) (Cert.DtDwIdeal.main (F := Ideal))) ⟨m, fun _ => 0, g⟩ (fun r => ∀ c : Dev Cert.DtDwIdeal.nD,
          r.2.mem ((c.tc : Thread Cert.DtDwIdeal.nD Cert.DtDwIdeal.τ).loc Cert.DtDwIdeal.main_v0) = v0 c
          ∧ r.2.mem ((c.tc : Thread Cert.DtDwIdeal.nD Cert.DtDwIdeal.τ).loc Cert.DtDwIdeal.main_arg0) = m ((c.tc : Thread Cert.DtDwIdeal.nD Cert.DtDwIdeal.τ).loc Cert.DtDwIdeal.main_arg0)
          ∧ r.2.mem ((c.tc : Thread Cert.DtDwIdeal.nD Cert.DtDwIdeal.τ).loc Cert.DtDwIdeal.main_arg1) = m ((c.tc : Thread Cert.DtDwIdeal.nD Cert.DtDwIdeal.τ).loc Cert.DtDwIdeal.main_arg1)
          ∧ r.2.mem ((c.tc : Thread Cert.DtDwIdeal.nD Cert.DtDwIdeal.τ).loc Cert.DtDwIdeal.main_arg2) = m ((c.tc : Thread Cert.DtDwIdeal.nD Cert.DtDwIdeal.τ).loc Cert.DtDwIdeal.main_arg2))
      ∧ θ_run (Cert.DtDwReferenceIdeal.defs (F := Ideal)) (onTc (τ := Cert.DtDwReferenceIdeal.τ) (Cert.DtDwReferenceIdeal.main (F := Ideal))) ⟨m', fun _ => 0, g'⟩ (fun r => ∀ c : Dev Cert.DtDwReferenceIdeal.nD,
          r.2.mem ((c.tc : Thread Cert.DtDwReferenceIdeal.nD Cert.DtDwReferenceIdeal.τ).loc Cert.DtDwReferenceIdeal.main_v8) = v0 c
          ∧ r.2.mem ((c.tc : Thread Cert.DtDwReferenceIdeal.nD Cert.DtDwReferenceIdeal.τ).loc Cert.DtDwReferenceIdeal.main_arg0) = m' ((c.tc : Thread Cert.DtDwReferenceIdeal.nD Cert.DtDwReferenceIdeal.τ).loc Cert.DtDwReferenceIdeal.main_arg0)
          ∧ r.2.mem ((c.tc : Thread Cert.DtDwReferenceIdeal.nD Cert.DtDwReferenceIdeal.τ).loc Cert.DtDwReferenceIdeal.main_arg1) = m' ((c.tc : Thread Cert.DtDwReferenceIdeal.nD Cert.DtDwReferenceIdeal.τ).loc Cert.DtDwReferenceIdeal.main_arg1)
          ∧ r.2.mem ((c.tc : Thread Cert.DtDwReferenceIdeal.nD Cert.DtDwReferenceIdeal.τ).loc Cert.DtDwReferenceIdeal.main_arg2) = m' ((c.tc : Thread Cert.DtDwReferenceIdeal.nD Cert.DtDwReferenceIdeal.τ).loc Cert.DtDwReferenceIdeal.main_arg2))

def preserves_DtFwd_DtFwdIdeal : Prop :=
  True

def algebraic_DtFwdIdeal_DtFwdReferenceIdeal [hDtFwdIdeal : Cert.DtFwdIdeal.Facts] [hDtFwdReferenceIdeal : Cert.DtFwdReferenceIdeal.Facts] : Prop :=
  ∀ (m : (ℓ : Loc Cert.DtFwdIdeal.nD Cert.DtFwdIdeal.τ Cert.DtFwdIdeal.sig) → Buf (Elt Ideal) ℓ) (g : Dev Cert.DtFwdIdeal.nD → PrngReg)
    (m' : (ℓ : Loc Cert.DtFwdReferenceIdeal.nD Cert.DtFwdReferenceIdeal.τ Cert.DtFwdReferenceIdeal.sig) → Buf (Elt Ideal) ℓ) (g' : Dev Cert.DtFwdReferenceIdeal.nD → PrngReg), Pre_DtFwdIdeal m →
    (∀ c : Dev Cert.DtFwdIdeal.nD,
      m' ((c.tc : Thread Cert.DtFwdReferenceIdeal.nD Cert.DtFwdReferenceIdeal.τ).loc Cert.DtFwdReferenceIdeal.main_arg0) = m ((c.tc : Thread Cert.DtFwdIdeal.nD Cert.DtFwdIdeal.τ).loc Cert.DtFwdIdeal.main_arg0)
      ∧ m' ((c.tc : Thread Cert.DtFwdReferenceIdeal.nD Cert.DtFwdReferenceIdeal.τ).loc Cert.DtFwdReferenceIdeal.main_arg1) = m ((c.tc : Thread Cert.DtFwdIdeal.nD Cert.DtFwdIdeal.τ).loc Cert.DtFwdIdeal.main_arg1)) →
    ∃ (v0 : (c : Dev Cert.DtFwdIdeal.nD) → Buf (Elt Ideal) ((c.tc : Thread Cert.DtFwdIdeal.nD Cert.DtFwdIdeal.τ).loc Cert.DtFwdIdeal.main_v1)),
      θ_run (Cert.DtFwdIdeal.defs (F := Ideal)) (onTc (τ := Cert.DtFwdIdeal.τ) (Cert.DtFwdIdeal.main (F := Ideal))) ⟨m, fun _ => 0, g⟩ (fun r => ∀ c : Dev Cert.DtFwdIdeal.nD,
          r.2.mem ((c.tc : Thread Cert.DtFwdIdeal.nD Cert.DtFwdIdeal.τ).loc Cert.DtFwdIdeal.main_v1) = v0 c
          ∧ r.2.mem ((c.tc : Thread Cert.DtFwdIdeal.nD Cert.DtFwdIdeal.τ).loc Cert.DtFwdIdeal.main_arg0) = m ((c.tc : Thread Cert.DtFwdIdeal.nD Cert.DtFwdIdeal.τ).loc Cert.DtFwdIdeal.main_arg0)
          ∧ r.2.mem ((c.tc : Thread Cert.DtFwdIdeal.nD Cert.DtFwdIdeal.τ).loc Cert.DtFwdIdeal.main_arg1) = m ((c.tc : Thread Cert.DtFwdIdeal.nD Cert.DtFwdIdeal.τ).loc Cert.DtFwdIdeal.main_arg1))
      ∧ θ_run (Cert.DtFwdReferenceIdeal.defs (F := Ideal)) (onTc (τ := Cert.DtFwdReferenceIdeal.τ) (Cert.DtFwdReferenceIdeal.main (F := Ideal))) ⟨m', fun _ => 0, g'⟩ (fun r => ∀ c : Dev Cert.DtFwdReferenceIdeal.nD,
          r.2.mem ((c.tc : Thread Cert.DtFwdReferenceIdeal.nD Cert.DtFwdReferenceIdeal.τ).loc Cert.DtFwdReferenceIdeal.main_v2) = v0 c
          ∧ r.2.mem ((c.tc : Thread Cert.DtFwdReferenceIdeal.nD Cert.DtFwdReferenceIdeal.τ).loc Cert.DtFwdReferenceIdeal.main_arg0) = m' ((c.tc : Thread Cert.DtFwdReferenceIdeal.nD Cert.DtFwdReferenceIdeal.τ).loc Cert.DtFwdReferenceIdeal.main_arg0)
          ∧ r.2.mem ((c.tc : Thread Cert.DtFwdReferenceIdeal.nD Cert.DtFwdReferenceIdeal.τ).loc Cert.DtFwdReferenceIdeal.main_arg1) = m' ((c.tc : Thread Cert.DtFwdReferenceIdeal.nD Cert.DtFwdReferenceIdeal.τ).loc Cert.DtFwdReferenceIdeal.main_arg1))

def preserves_SwigluBwd_SwigluBwdIdeal : Prop :=
  True

def algebraic_SwigluBwdIdeal_SwigluBwdReferenceIdeal_pre_swiglu_finite [hSwigluBwdIdeal : Cert.SwigluBwdIdeal.Facts] [hSwigluBwdReferenceIdeal : Cert.SwigluBwdReferenceIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdReferenceIdeal.nD Cert.SwigluBwdReferenceIdeal.τ Cert.SwigluBwdReferenceIdeal.sig) → Buf (Elt Ideal) ℓ) (g' : Dev Cert.SwigluBwdReferenceIdeal.nD → PrngReg), Pre_SwigluBwdIdeal_swiglu_finite m →
    (∀ c : Dev Cert.SwigluBwdIdeal.nD,
      m' ((c.tc : Thread Cert.SwigluBwdReferenceIdeal.nD Cert.SwigluBwdReferenceIdeal.τ).loc Cert.SwigluBwdReferenceIdeal.main_arg0) = m ((c.tc : Thread Cert.SwigluBwdIdeal.nD Cert.SwigluBwdIdeal.τ).loc Cert.SwigluBwdIdeal.main_arg0)
      ∧ m' ((c.tc : Thread Cert.SwigluBwdReferenceIdeal.nD Cert.SwigluBwdReferenceIdeal.τ).loc Cert.SwigluBwdReferenceIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdReferenceIdeal.defs (F := Ideal)) (onTc (τ := Cert.SwigluBwdReferenceIdeal.τ) (Cert.SwigluBwdReferenceIdeal.main (F := Ideal))) ⟨m', fun _ => 0, g'⟩ (fun r => ∀ c : Dev Cert.SwigluBwdReferenceIdeal.nD,
          r.2.mem ((c.tc : Thread Cert.SwigluBwdReferenceIdeal.nD Cert.SwigluBwdReferenceIdeal.τ).loc Cert.SwigluBwdReferenceIdeal.main_v12) = v0 c
          ∧ r.2.mem ((c.tc : Thread Cert.SwigluBwdReferenceIdeal.nD Cert.SwigluBwdReferenceIdeal.τ).loc Cert.SwigluBwdReferenceIdeal.main_arg0) = m' ((c.tc : Thread Cert.SwigluBwdReferenceIdeal.nD Cert.SwigluBwdReferenceIdeal.τ).loc Cert.SwigluBwdReferenceIdeal.main_arg0)
          ∧ r.2.mem ((c.tc : Thread Cert.SwigluBwdReferenceIdeal.nD Cert.SwigluBwdReferenceIdeal.τ).loc Cert.SwigluBwdReferenceIdeal.main_arg1) = m' ((c.tc : Thread Cert.SwigluBwdReferenceIdeal.nD Cert.SwigluBwdReferenceIdeal.τ).loc Cert.SwigluBwdReferenceIdeal.main_arg1))

def preserves_PleBwd_PleBwdIdeal : Prop :=
  True

def algebraic_PleBwdIdeal_PleBwdReferenceIdeal [hPleBwdIdeal : Cert.PleBwdIdeal.Facts] [hPleBwdReferenceIdeal : Cert.PleBwdReferenceIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdReferenceIdeal.nD Cert.PleBwdReferenceIdeal.τ Cert.PleBwdReferenceIdeal.sig) → Buf (Elt Ideal) ℓ) (g' : Dev Cert.PleBwdReferenceIdeal.nD → PrngReg), Pre_PleBwdIdeal m →
    (∀ c : Dev Cert.PleBwdIdeal.nD,
      m' ((c.tc : Thread Cert.PleBwdReferenceIdeal.nD Cert.PleBwdReferenceIdeal.τ).loc Cert.PleBwdReferenceIdeal.main_arg0) = m ((c.tc : Thread Cert.PleBwdIdeal.nD Cert.PleBwdIdeal.τ).loc Cert.PleBwdIdeal.main_arg0)
      ∧ m' ((c.tc : Thread Cert.PleBwdReferenceIdeal.nD Cert.PleBwdReferenceIdeal.τ).loc Cert.PleBwdReferenceIdeal.main_arg1) = m ((c.tc : Thread Cert.PleBwdIdeal.nD Cert.PleBwdIdeal.τ).loc Cert.PleBwdIdeal.main_arg1)
      ∧ m' ((c.tc : Thread Cert.PleBwdReferenceIdeal.nD Cert.PleBwdReferenceIdeal.τ).loc Cert.PleBwdReferenceIdeal.main_arg2) = m ((c.tc : Thread Cert.PleBwdIdeal.nD Cert.PleBwdIdeal.τ).loc Cert.PleBwdIdeal.main_arg2)) →
    ∃ (v0 : (c : Dev Cert.PleBwdIdeal.nD) → Buf (Elt Ideal) ((c.tc : Thread Cert.PleBwdIdeal.nD Cert.PleBwdIdeal.τ).loc Cert.PleBwdIdeal.main_v0_0)) (v1 : (c : Dev Cert.PleBwdIdeal.nD) → Buf (Elt Ideal) ((c.tc : Thread Cert.PleBwdIdeal.nD Cert.PleBwdIdeal.τ).loc Cert.PleBwdIdeal.main_v0_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v0_0) = v0 c
          ∧ r.2.mem ((c.tc : Thread Cert.PleBwdIdeal.nD Cert.PleBwdIdeal.τ).loc Cert.PleBwdIdeal.main_v0_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ θ_run (Cert.PleBwdReferenceIdeal.defs (F := Ideal)) (onTc (τ := Cert.PleBwdReferenceIdeal.τ) (Cert.PleBwdReferenceIdeal.main (F := Ideal))) ⟨m', fun _ => 0, g'⟩ (fun r => ∀ c : Dev Cert.PleBwdReferenceIdeal.nD,
          r.2.mem ((c.tc : Thread Cert.PleBwdReferenceIdeal.nD Cert.PleBwdReferenceIdeal.τ).loc Cert.PleBwdReferenceIdeal.main_v16) = v0 c
          ∧ r.2.mem ((c.tc : Thread Cert.PleBwdReferenceIdeal.nD Cert.PleBwdReferenceIdeal.τ).loc Cert.PleBwdReferenceIdeal.main_v14) = v1 c
          ∧ r.2.mem ((c.tc : Thread Cert.PleBwdReferenceIdeal.nD Cert.PleBwdReferenceIdeal.τ).loc Cert.PleBwdReferenceIdeal.main_arg0) = m' ((c.tc : Thread Cert.PleBwdReferenceIdeal.nD Cert.PleBwdReferenceIdeal.τ).loc Cert.PleBwdReferenceIdeal.main_arg0)
          ∧ r.2.mem ((c.tc : Thread Cert.PleBwdReferenceIdeal.nD Cert.PleBwdReferenceIdeal.τ).loc Cert.PleBwdReferenceIdeal.main_arg1) = m' ((c.tc : Thread Cert.PleBwdReferenceIdeal.nD Cert.PleBwdReferenceIdeal.τ).loc Cert.PleBwdReferenceIdeal.main_arg1)
          ∧ r.2.mem ((c.tc : Thread Cert.PleBwdReferenceIdeal.nD Cert.PleBwdReferenceIdeal.τ).loc Cert.PleBwdReferenceIdeal.main_arg2) = m' ((c.tc : Thread Cert.PleBwdReferenceIdeal.nD Cert.PleBwdReferenceIdeal.τ).loc Cert.PleBwdReferenceIdeal.main_arg2))

def preserves_RmsBwd_RmsBwdIdeal : Prop :=
  True

def algebraic_RmsBwdIdeal_RmsBwdReferenceIdeal_pre_rms_finite [hRmsBwdIdeal : Cert.RmsBwdIdeal.Facts] [hRmsBwdReferenceIdeal : Cert.RmsBwdReferenceIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdReferenceIdeal.nD Cert.RmsBwdReferenceIdeal.τ Cert.RmsBwdReferenceIdeal.sig) → Buf (Elt Ideal) ℓ) (g' : Dev Cert.RmsBwdReferenceIdeal.nD → PrngReg), Pre_RmsBwdIdeal_rms_finite m →
    (∀ c : Dev Cert.RmsBwdIdeal.nD,
      m' ((c.tc : Thread Cert.RmsBwdReferenceIdeal.nD Cert.RmsBwdReferenceIdeal.τ).loc Cert.RmsBwdReferenceIdeal.main_arg0) = m ((c.tc : Thread Cert.RmsBwdIdeal.nD Cert.RmsBwdIdeal.τ).loc Cert.RmsBwdIdeal.main_arg0)
      ∧ m' ((c.tc : Thread Cert.RmsBwdReferenceIdeal.nD Cert.RmsBwdReferenceIdeal.τ).loc Cert.RmsBwdReferenceIdeal.main_arg1) = m ((c.tc : Thread Cert.RmsBwdIdeal.nD Cert.RmsBwdIdeal.τ).loc Cert.RmsBwdIdeal.main_arg1)
      ∧ m' ((c.tc : Thread Cert.RmsBwdReferenceIdeal.nD Cert.RmsBwdReferenceIdeal.τ).loc Cert.RmsBwdReferenceIdeal.main_arg2) = m ((c.tc : Thread Cert.RmsBwdIdeal.nD Cert.RmsBwdIdeal.τ).loc Cert.RmsBwdIdeal.main_arg2)
      ∧ m' ((c.tc : Thread Cert.RmsBwdReferenceIdeal.nD Cert.RmsBwdReferenceIdeal.τ).loc Cert.RmsBwdReferenceIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdReferenceIdeal.defs (F := Ideal)) (onTc (τ := Cert.RmsBwdReferenceIdeal.τ) (Cert.RmsBwdReferenceIdeal.main (F := Ideal))) ⟨m', fun _ => 0, g'⟩ (fun r => ∀ c : Dev Cert.RmsBwdReferenceIdeal.nD,
          r.2.mem ((c.tc : Thread Cert.RmsBwdReferenceIdeal.nD Cert.RmsBwdReferenceIdeal.τ).loc Cert.RmsBwdReferenceIdeal.main_v37) = v0 c
          ∧ r.2.mem ((c.tc : Thread Cert.RmsBwdReferenceIdeal.nD Cert.RmsBwdReferenceIdeal.τ).loc Cert.RmsBwdReferenceIdeal.main_v38) = v1 c
          ∧ r.2.mem ((c.tc : Thread Cert.RmsBwdReferenceIdeal.nD Cert.RmsBwdReferenceIdeal.τ).loc Cert.RmsBwdReferenceIdeal.main_arg0) = m' ((c.tc : Thread Cert.RmsBwdReferenceIdeal.nD Cert.RmsBwdReferenceIdeal.τ).loc Cert.RmsBwdReferenceIdeal.main_arg0)
          ∧ r.2.mem ((c.tc : Thread Cert.RmsBwdReferenceIdeal.nD Cert.RmsBwdReferenceIdeal.τ).loc Cert.RmsBwdReferenceIdeal.main_arg1) = m' ((c.tc : Thread Cert.RmsBwdReferenceIdeal.nD Cert.RmsBwdReferenceIdeal.τ).loc Cert.RmsBwdReferenceIdeal.main_arg1)
          ∧ r.2.mem ((c.tc : Thread Cert.RmsBwdReferenceIdeal.nD Cert.RmsBwdReferenceIdeal.τ).loc Cert.RmsBwdReferenceIdeal.main_arg2) = m' ((c.tc : Thread Cert.RmsBwdReferenceIdeal.nD Cert.RmsBwdReferenceIdeal.τ).loc Cert.RmsBwdReferenceIdeal.main_arg2)
          ∧ r.2.mem ((c.tc : Thread Cert.RmsBwdReferenceIdeal.nD Cert.RmsBwdReferenceIdeal.τ).loc Cert.RmsBwdReferenceIdeal.main_arg3) = m' ((c.tc : Thread Cert.RmsBwdReferenceIdeal.nD Cert.RmsBwdReferenceIdeal.τ).loc Cert.RmsBwdReferenceIdeal.main_arg3))

def preserves_GateNormBwd_GateNormBwdIdeal : Prop :=
  True

def algebraic_GateNormBwdIdeal_GateNormBwdReferenceIdeal_pre_gate_norm_finite [hGateNormBwdIdeal : Cert.GateNormBwdIdeal.Facts] [hGateNormBwdReferenceIdeal : Cert.GateNormBwdReferenceIdeal.Facts] [hPre_gate_norm_finite : Cert.Pre_gate_norm_finite.Facts] : Prop :=
  ∀ (m : (ℓ : Loc Cert.GateNormBwdIdeal.nD Cert.GateNormBwdIdeal.τ Cert.GateNormBwdIdeal.sig) → Buf (Elt Ideal) ℓ) (g : Dev Cert.GateNormBwdIdeal.nD → PrngReg)
    (m' : (ℓ : Loc Cert.GateNormBwdReferenceIdeal.nD Cert.GateNormBwdReferenceIdeal.τ Cert.GateNormBwdReferenceIdeal.sig) → Buf (Elt Ideal) ℓ) (g' : Dev Cert.GateNormBwdReferenceIdeal.nD → PrngReg), Pre_GateNormBwdIdeal_gate_norm_finite m →
    (∀ c : Dev Cert.GateNormBwdIdeal.nD,
      m' ((c.tc : Thread Cert.GateNormBwdReferenceIdeal.nD Cert.GateNormBwdReferenceIdeal.τ).loc Cert.GateNormBwdReferenceIdeal.main_arg0) = m ((c.tc : Thread Cert.GateNormBwdIdeal.nD Cert.GateNormBwdIdeal.τ).loc Cert.GateNormBwdIdeal.main_arg0)
      ∧ m' ((c.tc : Thread Cert.GateNormBwdReferenceIdeal.nD Cert.GateNormBwdReferenceIdeal.τ).loc Cert.GateNormBwdReferenceIdeal.main_arg1) = m ((c.tc : Thread Cert.GateNormBwdIdeal.nD Cert.GateNormBwdIdeal.τ).loc Cert.GateNormBwdIdeal.main_arg1)
      ∧ m' ((c.tc : Thread Cert.GateNormBwdReferenceIdeal.nD Cert.GateNormBwdReferenceIdeal.τ).loc Cert.GateNormBwdReferenceIdeal.main_arg2) = m ((c.tc : Thread Cert.GateNormBwdIdeal.nD Cert.GateNormBwdIdeal.τ).loc Cert.GateNormBwdIdeal.main_arg2)
      ∧ m' ((c.tc : Thread Cert.GateNormBwdReferenceIdeal.nD Cert.GateNormBwdReferenceIdeal.τ).loc Cert.GateNormBwdReferenceIdeal.main_arg3) = m ((c.tc : Thread Cert.GateNormBwdIdeal.nD Cert.GateNormBwdIdeal.τ).loc Cert.GateNormBwdIdeal.main_arg3)) →
    ∃ (v0 : (c : Dev Cert.GateNormBwdIdeal.nD) → Buf (Elt Ideal) ((c.tc : Thread Cert.GateNormBwdIdeal.nD Cert.GateNormBwdIdeal.τ).loc Cert.GateNormBwdIdeal.main_v1_0)) (v1 : (c : Dev Cert.GateNormBwdIdeal.nD) → Buf (Elt Ideal) ((c.tc : Thread Cert.GateNormBwdIdeal.nD Cert.GateNormBwdIdeal.τ).loc Cert.GateNormBwdIdeal.main_v1_1)) (v2 : (c : Dev Cert.GateNormBwdIdeal.nD) → Buf (Elt Ideal) ((c.tc : Thread Cert.GateNormBwdIdeal.nD Cert.GateNormBwdIdeal.τ).loc Cert.GateNormBwdIdeal.main_v1_2)),
      θ_run (Cert.GateNormBwdIdeal.defs (F := Ideal)) (onTc (τ := Cert.GateNormBwdIdeal.τ) (Cert.GateNormBwdIdeal.main (F := Ideal))) ⟨m, fun _ => 0, g⟩ (fun r => ∀ c : Dev Cert.GateNormBwdIdeal.nD,
          r.2.mem ((c.tc : Thread Cert.GateNormBwdIdeal.nD Cert.GateNormBwdIdeal.τ).loc Cert.GateNormBwdIdeal.main_v1_0) = v0 c
          ∧ r.2.mem ((c.tc : Thread Cert.GateNormBwdIdeal.nD Cert.GateNormBwdIdeal.τ).loc Cert.GateNormBwdIdeal.main_v1_1) = v1 c
          ∧ r.2.mem ((c.tc : Thread Cert.GateNormBwdIdeal.nD Cert.GateNormBwdIdeal.τ).loc Cert.GateNormBwdIdeal.main_v1_2) = v2 c
          ∧ r.2.mem ((c.tc : Thread Cert.GateNormBwdIdeal.nD Cert.GateNormBwdIdeal.τ).loc Cert.GateNormBwdIdeal.main_arg0) = m ((c.tc : Thread Cert.GateNormBwdIdeal.nD Cert.GateNormBwdIdeal.τ).loc Cert.GateNormBwdIdeal.main_arg0)
          ∧ r.2.mem ((c.tc : Thread Cert.GateNormBwdIdeal.nD Cert.GateNormBwdIdeal.τ).loc Cert.GateNormBwdIdeal.main_arg1) = m ((c.tc : Thread Cert.GateNormBwdIdeal.nD Cert.GateNormBwdIdeal.τ).loc Cert.GateNormBwdIdeal.main_arg1)
          ∧ r.2.mem ((c.tc : Thread Cert.GateNormBwdIdeal.nD Cert.GateNormBwdIdeal.τ).loc Cert.GateNormBwdIdeal.main_arg2) = m ((c.tc : Thread Cert.GateNormBwdIdeal.nD Cert.GateNormBwdIdeal.τ).loc Cert.GateNormBwdIdeal.main_arg2)
          ∧ r.2.mem ((c.tc : Thread Cert.GateNormBwdIdeal.nD Cert.GateNormBwdIdeal.τ).loc Cert.GateNormBwdIdeal.main_arg3) = m ((c.tc : Thread Cert.GateNormBwdIdeal.nD Cert.GateNormBwdIdeal.τ).loc Cert.GateNormBwdIdeal.main_arg3))
      ∧ θ_run (Cert.GateNormBwdReferenceIdeal.defs (F := Ideal)) (onTc (τ := Cert.GateNormBwdReferenceIdeal.τ) (Cert.GateNormBwdReferenceIdeal.main (F := Ideal))) ⟨m', fun _ => 0, g'⟩ (fun r => ∀ c : Dev Cert.GateNormBwdReferenceIdeal.nD,
          r.2.mem ((c.tc : Thread Cert.GateNormBwdReferenceIdeal.nD Cert.GateNormBwdReferenceIdeal.τ).loc Cert.GateNormBwdReferenceIdeal.main_v47) = v0 c
          ∧ r.2.mem ((c.tc : Thread Cert.GateNormBwdReferenceIdeal.nD Cert.GateNormBwdReferenceIdeal.τ).loc Cert.GateNormBwdReferenceIdeal.main_v49) = v1 c
          ∧ r.2.mem ((c.tc : Thread Cert.GateNormBwdReferenceIdeal.nD Cert.GateNormBwdReferenceIdeal.τ).loc Cert.GateNormBwdReferenceIdeal.main_v50) = v2 c
          ∧ r.2.mem ((c.tc : Thread Cert.GateNormBwdReferenceIdeal.nD Cert.GateNormBwdReferenceIdeal.τ).loc Cert.GateNormBwdReferenceIdeal.main_arg0) = m' ((c.tc : Thread Cert.GateNormBwdReferenceIdeal.nD Cert.GateNormBwdReferenceIdeal.τ).loc Cert.GateNormBwdReferenceIdeal.main_arg0)
          ∧ r.2.mem ((c.tc : Thread Cert.GateNormBwdReferenceIdeal.nD Cert.GateNormBwdReferenceIdeal.τ).loc Cert.GateNormBwdReferenceIdeal.main_arg1) = m' ((c.tc : Thread Cert.GateNormBwdReferenceIdeal.nD Cert.GateNormBwdReferenceIdeal.τ).loc Cert.GateNormBwdReferenceIdeal.main_arg1)
          ∧ r.2.mem ((c.tc : Thread Cert.GateNormBwdReferenceIdeal.nD Cert.GateNormBwdReferenceIdeal.τ).loc Cert.GateNormBwdReferenceIdeal.main_arg2) = m' ((c.tc : Thread Cert.GateNormBwdReferenceIdeal.nD Cert.GateNormBwdReferenceIdeal.τ).loc Cert.GateNormBwdReferenceIdeal.main_arg2)
          ∧ r.2.mem ((c.tc : Thread Cert.GateNormBwdReferenceIdeal.nD Cert.GateNormBwdReferenceIdeal.τ).loc Cert.GateNormBwdReferenceIdeal.main_arg3) = m' ((c.tc : Thread Cert.GateNormBwdReferenceIdeal.nD Cert.GateNormBwdReferenceIdeal.τ).loc Cert.GateNormBwdReferenceIdeal.main_arg3))

def preserves_SwigluFwd_SwigluFwdIdeal : Prop :=
  True

def algebraic_SwigluFwdIdeal_SwigluFwdReferenceIdeal [hSwigluFwdIdeal : Cert.SwigluFwdIdeal.Facts] [hSwigluFwdReferenceIdeal : Cert.SwigluFwdReferenceIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdReferenceIdeal.nD Cert.SwigluFwdReferenceIdeal.τ Cert.SwigluFwdReferenceIdeal.sig) → Buf (Elt Ideal) ℓ) (g' : Dev Cert.SwigluFwdReferenceIdeal.nD → PrngReg), Pre_SwigluFwdIdeal m →
    (∀ c : Dev Cert.SwigluFwdIdeal.nD,
      m' ((c.tc : Thread Cert.SwigluFwdReferenceIdeal.nD Cert.SwigluFwdReferenceIdeal.τ).loc Cert.SwigluFwdReferenceIdeal.main_arg0) = m ((c.tc : Thread Cert.SwigluFwdIdeal.nD Cert.SwigluFwdIdeal.τ).loc Cert.SwigluFwdIdeal.main_arg0)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ θ_run (Cert.SwigluFwdReferenceIdeal.defs (F := Ideal)) (onTc (τ := Cert.SwigluFwdReferenceIdeal.τ) (Cert.SwigluFwdReferenceIdeal.main (F := Ideal))) ⟨m', fun _ => 0, g'⟩ (fun r => ∀ c : Dev Cert.SwigluFwdReferenceIdeal.nD,
          r.2.mem ((c.tc : Thread Cert.SwigluFwdReferenceIdeal.nD Cert.SwigluFwdReferenceIdeal.τ).loc Cert.SwigluFwdReferenceIdeal.main_v6) = v0 c
          ∧ r.2.mem ((c.tc : Thread Cert.SwigluFwdReferenceIdeal.nD Cert.SwigluFwdReferenceIdeal.τ).loc Cert.SwigluFwdReferenceIdeal.main_arg0) = m' ((c.tc : Thread Cert.SwigluFwdReferenceIdeal.nD Cert.SwigluFwdReferenceIdeal.τ).loc Cert.SwigluFwdReferenceIdeal.main_arg0))

def preserves_PleFwd_PleFwdIdeal : Prop :=
  True

def algebraic_PleFwdIdeal_PleFwdReferenceIdeal [hPleFwdIdeal : Cert.PleFwdIdeal.Facts] [hPleFwdReferenceIdeal : Cert.PleFwdReferenceIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdReferenceIdeal.nD Cert.PleFwdReferenceIdeal.τ Cert.PleFwdReferenceIdeal.sig) → Buf (Elt Ideal) ℓ) (g' : Dev Cert.PleFwdReferenceIdeal.nD → PrngReg), Pre_PleFwdIdeal m →
    (∀ c : Dev Cert.PleFwdIdeal.nD,
      m' ((c.tc : Thread Cert.PleFwdReferenceIdeal.nD Cert.PleFwdReferenceIdeal.τ).loc Cert.PleFwdReferenceIdeal.main_arg0) = m ((c.tc : Thread Cert.PleFwdIdeal.nD Cert.PleFwdIdeal.τ).loc Cert.PleFwdIdeal.main_arg0)
      ∧ m' ((c.tc : Thread Cert.PleFwdReferenceIdeal.nD Cert.PleFwdReferenceIdeal.τ).loc Cert.PleFwdReferenceIdeal.main_arg1) = m ((c.tc : Thread Cert.PleFwdIdeal.nD Cert.PleFwdIdeal.τ).loc Cert.PleFwdIdeal.main_arg1)
      ∧ m' ((c.tc : Thread Cert.PleFwdReferenceIdeal.nD Cert.PleFwdReferenceIdeal.τ).loc Cert.PleFwdReferenceIdeal.main_arg2) = m ((c.tc : Thread Cert.PleFwdIdeal.nD Cert.PleFwdIdeal.τ).loc Cert.PleFwdIdeal.main_arg2)) →
    ∃ (v0 : (c : Dev Cert.PleFwdIdeal.nD) → Buf (Elt Ideal) ((c.tc : Thread Cert.PleFwdIdeal.nD Cert.PleFwdIdeal.τ).loc Cert.PleFwdIdeal.main_v0)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v0) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ θ_run (Cert.PleFwdReferenceIdeal.defs (F := Ideal)) (onTc (τ := Cert.PleFwdReferenceIdeal.τ) (Cert.PleFwdReferenceIdeal.main (F := Ideal))) ⟨m', fun _ => 0, g'⟩ (fun r => ∀ c : Dev Cert.PleFwdReferenceIdeal.nD,
          r.2.mem ((c.tc : Thread Cert.PleFwdReferenceIdeal.nD Cert.PleFwdReferenceIdeal.τ).loc Cert.PleFwdReferenceIdeal.main_v9) = v0 c
          ∧ r.2.mem ((c.tc : Thread Cert.PleFwdReferenceIdeal.nD Cert.PleFwdReferenceIdeal.τ).loc Cert.PleFwdReferenceIdeal.main_arg0) = m' ((c.tc : Thread Cert.PleFwdReferenceIdeal.nD Cert.PleFwdReferenceIdeal.τ).loc Cert.PleFwdReferenceIdeal.main_arg0)
          ∧ r.2.mem ((c.tc : Thread Cert.PleFwdReferenceIdeal.nD Cert.PleFwdReferenceIdeal.τ).loc Cert.PleFwdReferenceIdeal.main_arg1) = m' ((c.tc : Thread Cert.PleFwdReferenceIdeal.nD Cert.PleFwdReferenceIdeal.τ).loc Cert.PleFwdReferenceIdeal.main_arg1)
          ∧ r.2.mem ((c.tc : Thread Cert.PleFwdReferenceIdeal.nD Cert.PleFwdReferenceIdeal.τ).loc Cert.PleFwdReferenceIdeal.main_arg2) = m' ((c.tc : Thread Cert.PleFwdReferenceIdeal.nD Cert.PleFwdReferenceIdeal.τ).loc Cert.PleFwdReferenceIdeal.main_arg2))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v13) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_GateNormFwd_GateNormFwdIdeal : Prop :=
  True

def algebraic_GateNormFwdIdeal_GateNormFwdReferenceIdeal [hGateNormFwdIdeal : Cert.GateNormFwdIdeal.Facts] [hGateNormFwdReferenceIdeal : Cert.GateNormFwdReferenceIdeal.Facts] : Prop :=
  ∀ (m : (ℓ : Loc Cert.GateNormFwdIdeal.nD Cert.GateNormFwdIdeal.τ Cert.GateNormFwdIdeal.sig) → Buf (Elt Ideal) ℓ) (g : Dev Cert.GateNormFwdIdeal.nD → PrngReg)
    (m' : (ℓ : Loc Cert.GateNormFwdReferenceIdeal.nD Cert.GateNormFwdReferenceIdeal.τ Cert.GateNormFwdReferenceIdeal.sig) → Buf (Elt Ideal) ℓ) (g' : Dev Cert.GateNormFwdReferenceIdeal.nD → PrngReg), Pre_GateNormFwdIdeal m →
    (∀ c : Dev Cert.GateNormFwdIdeal.nD,
      m' ((c.tc : Thread Cert.GateNormFwdReferenceIdeal.nD Cert.GateNormFwdReferenceIdeal.τ).loc Cert.GateNormFwdReferenceIdeal.main_arg0) = m ((c.tc : Thread Cert.GateNormFwdIdeal.nD Cert.GateNormFwdIdeal.τ).loc Cert.GateNormFwdIdeal.main_arg0)
      ∧ m' ((c.tc : Thread Cert.GateNormFwdReferenceIdeal.nD Cert.GateNormFwdReferenceIdeal.τ).loc Cert.GateNormFwdReferenceIdeal.main_arg1) = m ((c.tc : Thread Cert.GateNormFwdIdeal.nD Cert.GateNormFwdIdeal.τ).loc Cert.GateNormFwdIdeal.main_arg1)
      ∧ m' ((c.tc : Thread Cert.GateNormFwdReferenceIdeal.nD Cert.GateNormFwdReferenceIdeal.τ).loc Cert.GateNormFwdReferenceIdeal.main_arg2) = m ((c.tc : Thread Cert.GateNormFwdIdeal.nD Cert.GateNormFwdIdeal.τ).loc Cert.GateNormFwdIdeal.main_arg2)) →
    ∃ (v0 : (c : Dev Cert.GateNormFwdIdeal.nD) → Buf (Elt Ideal) ((c.tc : Thread Cert.GateNormFwdIdeal.nD Cert.GateNormFwdIdeal.τ).loc Cert.GateNormFwdIdeal.main_v1)),
      θ_run (Cert.GateNormFwdIdeal.defs (F := Ideal)) (onTc (τ := Cert.GateNormFwdIdeal.τ) (Cert.GateNormFwdIdeal.main (F := Ideal))) ⟨m, fun _ => 0, g⟩ (fun r => ∀ c : Dev Cert.GateNormFwdIdeal.nD,
          r.2.mem ((c.tc : Thread Cert.GateNormFwdIdeal.nD Cert.GateNormFwdIdeal.τ).loc Cert.GateNormFwdIdeal.main_v1) = v0 c
          ∧ r.2.mem ((c.tc : Thread Cert.GateNormFwdIdeal.nD Cert.GateNormFwdIdeal.τ).loc Cert.GateNormFwdIdeal.main_arg0) = m ((c.tc : Thread Cert.GateNormFwdIdeal.nD Cert.GateNormFwdIdeal.τ).loc Cert.GateNormFwdIdeal.main_arg0)
          ∧ r.2.mem ((c.tc : Thread Cert.GateNormFwdIdeal.nD Cert.GateNormFwdIdeal.τ).loc Cert.GateNormFwdIdeal.main_arg1) = m ((c.tc : Thread Cert.GateNormFwdIdeal.nD Cert.GateNormFwdIdeal.τ).loc Cert.GateNormFwdIdeal.main_arg1)
          ∧ r.2.mem ((c.tc : Thread Cert.GateNormFwdIdeal.nD Cert.GateNormFwdIdeal.τ).loc Cert.GateNormFwdIdeal.main_arg2) = m ((c.tc : Thread Cert.GateNormFwdIdeal.nD Cert.GateNormFwdIdeal.τ).loc Cert.GateNormFwdIdeal.main_arg2))
      ∧ θ_run (Cert.GateNormFwdReferenceIdeal.defs (F := Ideal)) (onTc (τ := Cert.GateNormFwdReferenceIdeal.τ) (Cert.GateNormFwdReferenceIdeal.main (F := Ideal))) ⟨m', fun _ => 0, g'⟩ (fun r => ∀ c : Dev Cert.GateNormFwdReferenceIdeal.nD,
          r.2.mem ((c.tc : Thread Cert.GateNormFwdReferenceIdeal.nD Cert.GateNormFwdReferenceIdeal.τ).loc Cert.GateNormFwdReferenceIdeal.main_v19) = v0 c
          ∧ r.2.mem ((c.tc : Thread Cert.GateNormFwdReferenceIdeal.nD Cert.GateNormFwdReferenceIdeal.τ).loc Cert.GateNormFwdReferenceIdeal.main_arg0) = m' ((c.tc : Thread Cert.GateNormFwdReferenceIdeal.nD Cert.GateNormFwdReferenceIdeal.τ).loc Cert.GateNormFwdReferenceIdeal.main_arg0)
          ∧ r.2.mem ((c.tc : Thread Cert.GateNormFwdReferenceIdeal.nD Cert.GateNormFwdReferenceIdeal.τ).loc Cert.GateNormFwdReferenceIdeal.main_arg1) = m' ((c.tc : Thread Cert.GateNormFwdReferenceIdeal.nD Cert.GateNormFwdReferenceIdeal.τ).loc Cert.GateNormFwdReferenceIdeal.main_arg1)
          ∧ r.2.mem ((c.tc : Thread Cert.GateNormFwdReferenceIdeal.nD Cert.GateNormFwdReferenceIdeal.τ).loc Cert.GateNormFwdReferenceIdeal.main_arg2) = m' ((c.tc : Thread Cert.GateNormFwdReferenceIdeal.nD Cert.GateNormFwdReferenceIdeal.τ).loc Cert.GateNormFwdReferenceIdeal.main_arg2))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v23) = v0 c
          ∧ r.2.mem ((c.tc : Thread Cert.AdamwInReferenceIdeal.nD Cert.AdamwInReferenceIdeal.τ).loc Cert.AdamwInReferenceIdeal.main_v4) = v1 c
          ∧ r.2.mem ((c.tc : Thread Cert.AdamwInReferenceIdeal.nD Cert.AdamwInReferenceIdeal.τ).loc Cert.AdamwInReferenceIdeal.main_v10) = v2 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwQkv_AdamwQkvIdeal : Prop :=
  True

def algebraic_AdamwQkvIdeal_AdamwQkvReferenceIdeal [hAdamwQkvIdeal : Cert.AdamwQkvIdeal.Facts] [hAdamwQkvReferenceIdeal : Cert.AdamwQkvReferenceIdeal.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg)
    (m' : (ℓ : Loc Cert.AdamwQkvReferenceIdeal.nD Cert.AdamwQkvReferenceIdeal.τ Cert.AdamwQkvReferenceIdeal.sig) → Buf (Elt Ideal) ℓ) (g' : Dev Cert.AdamwQkvReferenceIdeal.nD → PrngReg), Pre_AdamwQkvIdeal m →
    (∀ c : Dev Cert.AdamwQkvIdeal.nD,
      m' ((c.tc : Thread Cert.AdamwQkvReferenceIdeal.nD Cert.AdamwQkvReferenceIdeal.τ).loc Cert.AdamwQkvReferenceIdeal.main_arg0) = m ((c.tc : Thread Cert.AdamwQkvIdeal.nD Cert.AdamwQkvIdeal.τ).loc Cert.AdamwQkvIdeal.main_arg0)
      ∧ m' ((c.tc : Thread Cert.AdamwQkvReferenceIdeal.nD Cert.AdamwQkvReferenceIdeal.τ).loc Cert.AdamwQkvReferenceIdeal.main_arg1) = m ((c.tc : Thread Cert.AdamwQkvIdeal.nD Cert.AdamwQkvIdeal.τ).loc Cert.AdamwQkvIdeal.main_arg1)
      ∧ m' ((c.tc : Thread Cert.AdamwQkvReferenceIdeal.nD Cert.AdamwQkvReferenceIdeal.τ).loc Cert.AdamwQkvReferenceIdeal.main_arg2) = m ((c.tc : Thread Cert.AdamwQkvIdeal.nD Cert.AdamwQkvIdeal.τ).loc Cert.AdamwQkvIdeal.main_arg2)
      ∧ m' ((c.tc : Thread Cert.AdamwQkvReferenceIdeal.nD Cert.AdamwQkvReferenceIdeal.τ).loc Cert.AdamwQkvReferenceIdeal.main_arg3) = m ((c.tc : Thread Cert.AdamwQkvIdeal.nD Cert.AdamwQkvIdeal.τ).loc Cert.AdamwQkvIdeal.main_arg3)) →
    ∃ (v0 : (c : Dev Cert.AdamwQkvIdeal.nD) → Buf (Elt Ideal) ((c.tc : Thread Cert.AdamwQkvIdeal.nD Cert.AdamwQkvIdeal.τ).loc Cert.AdamwQkvIdeal.main_v0_0)) (v1 : (c : Dev Cert.AdamwQkvIdeal.nD) → Buf (Elt Ideal) ((c.tc : Thread Cert.AdamwQkvIdeal.nD Cert.AdamwQkvIdeal.τ).loc Cert.AdamwQkvIdeal.main_v0_1)) (v2 : (c : Dev Cert.AdamwQkvIdeal.nD) → Buf (Elt Ideal) ((c.tc : Thread Cert.AdamwQkvIdeal.nD Cert.AdamwQkvIdeal.τ).loc Cert.AdamwQkvIdeal.main_v0_2)),
      θ_run (Cert.AdamwQkvIdeal.defs (F := Ideal)) (onTc (τ := Cert.AdamwQkvIdeal.τ) (Cert.AdamwQkvIdeal.main (F := Ideal))) ⟨m, fun _ => 0, g⟩ (fun r => ∀ c : Dev Cert.AdamwQkvIdeal.nD,
          r.2.mem ((c.tc : Thread Cert.AdamwQkvIdeal.nD Cert.AdamwQkvIdeal.τ).loc Cert.AdamwQkvIdeal.main_v0_0) = v0 c
          ∧ r.2.mem ((c.tc : Thread Cert.AdamwQkvIdeal.nD Cert.AdamwQkvIdeal.τ).loc Cert.AdamwQkvIdeal.main_v0_1) = v1 c
          ∧ r.2.mem ((c.tc : Thread Cert.AdamwQkvIdeal.nD Cert.AdamwQkvIdeal.τ).loc Cert.AdamwQkvIdeal.main_v0_2) = v2 c
          ∧ r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
          ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
          ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
          ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3))
      ∧ θ_run (Cert.AdamwQkvReferenceIdeal.defs (F := Ideal)) (onTc (τ := Cert.AdamwQkvReferenceIdeal.τ) (Cert.AdamwQkvReferenceIdeal.main (F := Ideal))) ⟨m', fun _ => 0, g'⟩ (fun r => ∀ c : Dev Cert.AdamwQkvReferenceIdeal.nD,
          r.2.mem ((c.tc : Thread Cert.AdamwQkvReferenceIdeal.nD Cert.AdamwQkvReferenceIdeal.τ).loc Cert.AdamwQkvReferenceIdeal.main_v23) = v0 c
          ∧ r.2.mem ((c.tc : Thread Cert.AdamwQkvReferenceIdeal.nD Cert.AdamwQkvReferenceIdeal.τ).loc Cert.AdamwQkvReferenceIdeal.main_v4) = v1 c
          ∧ r.2.mem ((c.tc : Thread Cert.AdamwQkvReferenceIdeal.nD Cert.AdamwQkvReferenceIdeal.τ).loc Cert.AdamwQkvReferenceIdeal.main_v10) = v2 c
          ∧ r.2.mem ((c.tc : Thread Cert.AdamwQkvReferenceIdeal.nD Cert.AdamwQkvReferenceIdeal.τ).loc Cert.AdamwQkvReferenceIdeal.main_arg0) = m' ((c.tc : Thread Cert.AdamwQkvReferenceIdeal.nD Cert.AdamwQkvReferenceIdeal.τ).loc Cert.AdamwQkvReferenceIdeal.main_arg0)
          ∧ r.2.mem ((c.tc : Thread Cert.AdamwQkvReferenceIdeal.nD Cert.AdamwQkvReferenceIdeal.τ).loc Cert.AdamwQkvReferenceIdeal.main_arg1) = m' ((c.tc : Thread Cert.AdamwQkvReferenceIdeal.nD Cert.AdamwQkvReferenceIdeal.τ).loc Cert.AdamwQkvReferenceIdeal.main_arg1)
          ∧ r.2.mem ((c.tc : Thread Cert.AdamwQkvReferenceIdeal.nD Cert.AdamwQkvReferenceIdeal.τ).loc Cert.AdamwQkvReferenceIdeal.main_arg2) = m' ((c.tc : Thread Cert.AdamwQkvReferenceIdeal.nD Cert.AdamwQkvReferenceIdeal.τ).loc Cert.AdamwQkvReferenceIdeal.main_arg2)
          ∧ r.2.mem ((c.tc : Thread Cert.AdamwQkvReferenceIdeal.nD Cert.AdamwQkvReferenceIdeal.τ).loc Cert.AdamwQkvReferenceIdeal.main_arg3) = m' ((c.tc : Thread Cert.AdamwQkvReferenceIdeal.nD Cert.AdamwQkvReferenceIdeal.τ).loc Cert.AdamwQkvReferenceIdeal.main_arg3))

def preserves_AdamwGu_AdamwGuIdeal : Prop :=
  True

def algebraic_AdamwGuIdeal_AdamwGuReferenceIdeal [hAdamwGuIdeal : Cert.AdamwGuIdeal.Facts] [hAdamwGuReferenceIdeal : Cert.AdamwGuReferenceIdeal.Facts] : Prop :=
  ∀ (m : (ℓ : Loc Cert.AdamwGuIdeal.nD Cert.AdamwGuIdeal.τ Cert.AdamwGuIdeal.sig) → Buf (Elt Ideal) ℓ) (g : Dev Cert.AdamwGuIdeal.nD → PrngReg)
    (m' : (ℓ : Loc Cert.AdamwGuReferenceIdeal.nD Cert.AdamwGuReferenceIdeal.τ Cert.AdamwGuReferenceIdeal.sig) → Buf (Elt Ideal) ℓ) (g' : Dev Cert.AdamwGuReferenceIdeal.nD → PrngReg), Pre_AdamwGuIdeal m →
    (∀ c : Dev Cert.AdamwGuIdeal.nD,
      m' ((c.tc : Thread Cert.AdamwGuReferenceIdeal.nD Cert.AdamwGuReferenceIdeal.τ).loc Cert.AdamwGuReferenceIdeal.main_arg0) = m ((c.tc : Thread Cert.AdamwGuIdeal.nD Cert.AdamwGuIdeal.τ).loc Cert.AdamwGuIdeal.main_arg0)
      ∧ m' ((c.tc : Thread Cert.AdamwGuReferenceIdeal.nD Cert.AdamwGuReferenceIdeal.τ).loc Cert.AdamwGuReferenceIdeal.main_arg1) = m ((c.tc : Thread Cert.AdamwGuIdeal.nD Cert.AdamwGuIdeal.τ).loc Cert.AdamwGuIdeal.main_arg1)
      ∧ m' ((c.tc : Thread Cert.AdamwGuReferenceIdeal.nD Cert.AdamwGuReferenceIdeal.τ).loc Cert.AdamwGuReferenceIdeal.main_arg2) = m ((c.tc : Thread Cert.AdamwGuIdeal.nD Cert.AdamwGuIdeal.τ).loc Cert.AdamwGuIdeal.main_arg2)
      ∧ m' ((c.tc : Thread Cert.AdamwGuReferenceIdeal.nD Cert.AdamwGuReferenceIdeal.τ).loc Cert.AdamwGuReferenceIdeal.main_arg3) = m ((c.tc : Thread Cert.AdamwGuIdeal.nD Cert.AdamwGuIdeal.τ).loc Cert.AdamwGuIdeal.main_arg3)) →
    ∃ (v0 : (c : Dev Cert.AdamwGuIdeal.nD) → Buf (Elt Ideal) ((c.tc : Thread Cert.AdamwGuIdeal.nD Cert.AdamwGuIdeal.τ).loc Cert.AdamwGuIdeal.main_v0_0)) (v1 : (c : Dev Cert.AdamwGuIdeal.nD) → Buf (Elt Ideal) ((c.tc : Thread Cert.AdamwGuIdeal.nD Cert.AdamwGuIdeal.τ).loc Cert.AdamwGuIdeal.main_v0_1)) (v2 : (c : Dev Cert.AdamwGuIdeal.nD) → Buf (Elt Ideal) ((c.tc : Thread Cert.AdamwGuIdeal.nD Cert.AdamwGuIdeal.τ).loc Cert.AdamwGuIdeal.main_v0_2)),
      θ_run (Cert.AdamwGuIdeal.defs (F := Ideal)) (onTc (τ := Cert.AdamwGuIdeal.τ) (Cert.AdamwGuIdeal.main (F := Ideal))) ⟨m, fun _ => 0, g⟩ (fun r => ∀ c : Dev Cert.AdamwGuIdeal.nD,
          r.2.mem ((c.tc : Thread Cert.AdamwGuIdeal.nD Cert.AdamwGuIdeal.τ).loc Cert.AdamwGuIdeal.main_v0_0) = v0 c
          ∧ r.2.mem ((c.tc : Thread Cert.AdamwGuIdeal.nD Cert.AdamwGuIdeal.τ).loc Cert.AdamwGuIdeal.main_v0_1) = v1 c
          ∧ r.2.mem ((c.tc : Thread Cert.AdamwGuIdeal.nD Cert.AdamwGuIdeal.τ).loc Cert.AdamwGuIdeal.main_v0_2) = v2 c
          ∧ r.2.mem ((c.tc : Thread Cert.AdamwGuIdeal.nD Cert.AdamwGuIdeal.τ).loc Cert.AdamwGuIdeal.main_arg0) = m ((c.tc : Thread Cert.AdamwGuIdeal.nD Cert.AdamwGuIdeal.τ).loc Cert.AdamwGuIdeal.main_arg0)
          ∧ r.2.mem ((c.tc : Thread Cert.AdamwGuIdeal.nD Cert.AdamwGuIdeal.τ).loc Cert.AdamwGuIdeal.main_arg1) = m ((c.tc : Thread Cert.AdamwGuIdeal.nD Cert.AdamwGuIdeal.τ).loc Cert.AdamwGuIdeal.main_arg1)
          ∧ r.2.mem ((c.tc : Thread Cert.AdamwGuIdeal.nD Cert.AdamwGuIdeal.τ).loc Cert.AdamwGuIdeal.main_arg2) = m ((c.tc : Thread Cert.AdamwGuIdeal.nD Cert.AdamwGuIdeal.τ).loc Cert.AdamwGuIdeal.main_arg2)
          ∧ r.2.mem ((c.tc : Thread Cert.AdamwGuIdeal.nD Cert.AdamwGuIdeal.τ).loc Cert.AdamwGuIdeal.main_arg3) = m ((c.tc : Thread Cert.AdamwGuIdeal.nD Cert.AdamwGuIdeal.τ).loc Cert.AdamwGuIdeal.main_arg3))
      ∧ θ_run (Cert.AdamwGuReferenceIdeal.defs (F := Ideal)) (onTc (τ := Cert.AdamwGuReferenceIdeal.τ) (Cert.AdamwGuReferenceIdeal.main (F := Ideal))) ⟨m', fun _ => 0, g'⟩ (fun r => ∀ c : Dev Cert.AdamwGuReferenceIdeal.nD,
          r.2.mem ((c.tc : Thread Cert.AdamwGuReferenceIdeal.nD Cert.AdamwGuReferenceIdeal.τ).loc Cert.AdamwGuReferenceIdeal.main_v23) = v0 c
          ∧ r.2.mem ((c.tc : Thread Cert.AdamwGuReferenceIdeal.nD Cert.AdamwGuReferenceIdeal.τ).loc Cert.AdamwGuReferenceIdeal.main_v4) = v1 c
          ∧ r.2.mem ((c.tc : Thread Cert.AdamwGuReferenceIdeal.nD Cert.AdamwGuReferenceIdeal.τ).loc Cert.AdamwGuReferenceIdeal.main_v10) = v2 c
          ∧ r.2.mem ((c.tc : Thread Cert.AdamwGuReferenceIdeal.nD Cert.AdamwGuReferenceIdeal.τ).loc Cert.AdamwGuReferenceIdeal.main_arg0) = m' ((c.tc : Thread Cert.AdamwGuReferenceIdeal.nD Cert.AdamwGuReferenceIdeal.τ).loc Cert.AdamwGuReferenceIdeal.main_arg0)
          ∧ r.2.mem ((c.tc : Thread Cert.AdamwGuReferenceIdeal.nD Cert.AdamwGuReferenceIdeal.τ).loc Cert.AdamwGuReferenceIdeal.main_arg1) = m' ((c.tc : Thread Cert.AdamwGuReferenceIdeal.nD Cert.AdamwGuReferenceIdeal.τ).loc Cert.AdamwGuReferenceIdeal.main_arg1)
          ∧ r.2.mem ((c.tc : Thread Cert.AdamwGuReferenceIdeal.nD Cert.AdamwGuReferenceIdeal.τ).loc Cert.AdamwGuReferenceIdeal.main_arg2) = m' ((c.tc : Thread Cert.AdamwGuReferenceIdeal.nD Cert.AdamwGuReferenceIdeal.τ).loc Cert.AdamwGuReferenceIdeal.main_arg2)
          ∧ r.2.mem ((c.tc : Thread Cert.AdamwGuReferenceIdeal.nD Cert.AdamwGuReferenceIdeal.τ).loc Cert.AdamwGuReferenceIdeal.main_arg3) = m' ((c.tc : Thread Cert.AdamwGuReferenceIdeal.nD Cert.AdamwGuReferenceIdeal.τ).loc Cert.AdamwGuReferenceIdeal.main_arg3))

def preserves_AdamwProj_AdamwProjIdeal : Prop :=
  True

def algebraic_AdamwProjIdeal_AdamwProjReferenceIdeal [hAdamwProjIdeal : Cert.AdamwProjIdeal.Facts] [hAdamwProjReferenceIdeal : Cert.AdamwProjReferenceIdeal.Facts] : Prop :=
  ∀ (m : (ℓ : Loc Cert.AdamwProjIdeal.nD Cert.AdamwProjIdeal.τ Cert.AdamwProjIdeal.sig) → Buf (Elt Ideal) ℓ) (g : Dev Cert.AdamwProjIdeal.nD → PrngReg)
    (m' : (ℓ : Loc Cert.AdamwProjReferenceIdeal.nD Cert.AdamwProjReferenceIdeal.τ Cert.AdamwProjReferenceIdeal.sig) → Buf (Elt Ideal) ℓ) (g' : Dev Cert.AdamwProjReferenceIdeal.nD → PrngReg), Pre_AdamwProjIdeal m →
    (∀ c : Dev Cert.AdamwProjIdeal.nD,
      m' ((c.tc : Thread Cert.AdamwProjReferenceIdeal.nD Cert.AdamwProjReferenceIdeal.τ).loc Cert.AdamwProjReferenceIdeal.main_arg0) = m ((c.tc : Thread Cert.AdamwProjIdeal.nD Cert.AdamwProjIdeal.τ).loc Cert.AdamwProjIdeal.main_arg0)
      ∧ m' ((c.tc : Thread Cert.AdamwProjReferenceIdeal.nD Cert.AdamwProjReferenceIdeal.τ).loc Cert.AdamwProjReferenceIdeal.main_arg1) = m ((c.tc : Thread Cert.AdamwProjIdeal.nD Cert.AdamwProjIdeal.τ).loc Cert.AdamwProjIdeal.main_arg1)
      ∧ m' ((c.tc : Thread Cert.AdamwProjReferenceIdeal.nD Cert.AdamwProjReferenceIdeal.τ).loc Cert.AdamwProjReferenceIdeal.main_arg2) = m ((c.tc : Thread Cert.AdamwProjIdeal.nD Cert.AdamwProjIdeal.τ).loc Cert.AdamwProjIdeal.main_arg2)
      ∧ m' ((c.tc : Thread Cert.AdamwProjReferenceIdeal.nD Cert.AdamwProjReferenceIdeal.τ).loc Cert.AdamwProjReferenceIdeal.main_arg3) = m ((c.tc : Thread Cert.AdamwProjIdeal.nD Cert.AdamwProjIdeal.τ).loc Cert.AdamwProjIdeal.main_arg3)) →
    ∃ (v0 : (c : Dev Cert.AdamwProjIdeal.nD) → Buf (Elt Ideal) ((c.tc : Thread Cert.AdamwProjIdeal.nD Cert.AdamwProjIdeal.τ).loc Cert.AdamwProjIdeal.main_v0_0)) (v1 : (c : Dev Cert.AdamwProjIdeal.nD) → Buf (Elt Ideal) ((c.tc : Thread Cert.AdamwProjIdeal.nD Cert.AdamwProjIdeal.τ).loc Cert.AdamwProjIdeal.main_v0_1)) (v2 : (c : Dev Cert.AdamwProjIdeal.nD) → Buf (Elt Ideal) ((c.tc : Thread Cert.AdamwProjIdeal.nD Cert.AdamwProjIdeal.τ).loc Cert.AdamwProjIdeal.main_v0_2)),
      θ_run (Cert.AdamwProjIdeal.defs (F := Ideal)) (onTc (τ := Cert.AdamwProjIdeal.τ) (Cert.AdamwProjIdeal.main (F := Ideal))) ⟨m, fun _ => 0, g⟩ (fun r => ∀ c : Dev Cert.AdamwProjIdeal.nD,
          r.2.mem ((c.tc : Thread Cert.AdamwProjIdeal.nD Cert.AdamwProjIdeal.τ).loc Cert.AdamwProjIdeal.main_v0_0) = v0 c
          ∧ r.2.mem ((c.tc : Thread Cert.AdamwProjIdeal.nD Cert.AdamwProjIdeal.τ).loc Cert.AdamwProjIdeal.main_v0_1) = v1 c
          ∧ r.2.mem ((c.tc : Thread Cert.AdamwProjIdeal.nD Cert.AdamwProjIdeal.τ).loc Cert.AdamwProjIdeal.main_v0_2) = v2 c
          ∧ r.2.mem ((c.tc : Thread Cert.AdamwProjIdeal.nD Cert.AdamwProjIdeal.τ).loc Cert.AdamwProjIdeal.main_arg0) = m ((c.tc : Thread Cert.AdamwProjIdeal.nD Cert.AdamwProjIdeal.τ).loc Cert.AdamwProjIdeal.main_arg0)
          ∧ r.2.mem ((c.tc : Thread Cert.AdamwProjIdeal.nD Cert.AdamwProjIdeal.τ).loc Cert.AdamwProjIdeal.main_arg1) = m ((c.tc : Thread Cert.AdamwProjIdeal.nD Cert.AdamwProjIdeal.τ).loc Cert.AdamwProjIdeal.main_arg1)
          ∧ r.2.mem ((c.tc : Thread Cert.AdamwProjIdeal.nD Cert.AdamwProjIdeal.τ).loc Cert.AdamwProjIdeal.main_arg2) = m ((c.tc : Thread Cert.AdamwProjIdeal.nD Cert.AdamwProjIdeal.τ).loc Cert.AdamwProjIdeal.main_arg2)
          ∧ r.2.mem ((c.tc : Thread Cert.AdamwProjIdeal.nD Cert.AdamwProjIdeal.τ).loc Cert.AdamwProjIdeal.main_arg3) = m ((c.tc : Thread Cert.AdamwProjIdeal.nD Cert.AdamwProjIdeal.τ).loc Cert.AdamwProjIdeal.main_arg3))
      ∧ θ_run (Cert.AdamwProjReferenceIdeal.defs (F := Ideal)) (onTc (τ := Cert.AdamwProjReferenceIdeal.τ) (Cert.AdamwProjReferenceIdeal.main (F := Ideal))) ⟨m', fun _ => 0, g'⟩ (fun r => ∀ c : Dev Cert.AdamwProjReferenceIdeal.nD,
          r.2.mem ((c.tc : Thread Cert.AdamwProjReferenceIdeal.nD Cert.AdamwProjReferenceIdeal.τ).loc Cert.AdamwProjReferenceIdeal.main_v23) = v0 c
          ∧ r.2.mem ((c.tc : Thread Cert.AdamwProjReferenceIdeal.nD Cert.AdamwProjReferenceIdeal.τ).loc Cert.AdamwProjReferenceIdeal.main_v4) = v1 c
          ∧ r.2.mem ((c.tc : Thread Cert.AdamwProjReferenceIdeal.nD Cert.AdamwProjReferenceIdeal.τ).loc Cert.AdamwProjReferenceIdeal.main_v10) = v2 c
          ∧ r.2.mem ((c.tc : Thread Cert.AdamwProjReferenceIdeal.nD Cert.AdamwProjReferenceIdeal.τ).loc Cert.AdamwProjReferenceIdeal.main_arg0) = m' ((c.tc : Thread Cert.AdamwProjReferenceIdeal.nD Cert.AdamwProjReferenceIdeal.τ).loc Cert.AdamwProjReferenceIdeal.main_arg0)
          ∧ r.2.mem ((c.tc : Thread Cert.AdamwProjReferenceIdeal.nD Cert.AdamwProjReferenceIdeal.τ).loc Cert.AdamwProjReferenceIdeal.main_arg1) = m' ((c.tc : Thread Cert.AdamwProjReferenceIdeal.nD Cert.AdamwProjReferenceIdeal.τ).loc Cert.AdamwProjReferenceIdeal.main_arg1)
          ∧ r.2.mem ((c.tc : Thread Cert.AdamwProjReferenceIdeal.nD Cert.AdamwProjReferenceIdeal.τ).loc Cert.AdamwProjReferenceIdeal.main_arg2) = m' ((c.tc : Thread Cert.AdamwProjReferenceIdeal.nD Cert.AdamwProjReferenceIdeal.τ).loc Cert.AdamwProjReferenceIdeal.main_arg2)
          ∧ r.2.mem ((c.tc : Thread Cert.AdamwProjReferenceIdeal.nD Cert.AdamwProjReferenceIdeal.τ).loc Cert.AdamwProjReferenceIdeal.main_arg3) = m' ((c.tc : Thread Cert.AdamwProjReferenceIdeal.nD Cert.AdamwProjReferenceIdeal.τ).loc Cert.AdamwProjReferenceIdeal.main_arg3))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v23) = v0 c
          ∧ r.2.mem ((c.tc : Thread Cert.AdamwOutReferenceIdeal.nD Cert.AdamwOutReferenceIdeal.τ).loc Cert.AdamwOutReferenceIdeal.main_v4) = v1 c
          ∧ r.2.mem ((c.tc : Thread Cert.AdamwOutReferenceIdeal.nD Cert.AdamwOutReferenceIdeal.τ).loc Cert.AdamwOutReferenceIdeal.main_v10) = v2 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwO_AdamwOIdeal : Prop :=
  True

def algebraic_AdamwOIdeal_AdamwOReferenceIdeal [hAdamwOIdeal : Cert.AdamwOIdeal.Facts] [hAdamwOReferenceIdeal : Cert.AdamwOReferenceIdeal.Facts] : Prop :=
  ∀ (m : (ℓ : Loc Cert.AdamwOIdeal.nD Cert.AdamwOIdeal.τ Cert.AdamwOIdeal.sig) → Buf (Elt Ideal) ℓ) (g : Dev Cert.AdamwOIdeal.nD → PrngReg)
    (m' : (ℓ : Loc Cert.AdamwOReferenceIdeal.nD Cert.AdamwOReferenceIdeal.τ Cert.AdamwOReferenceIdeal.sig) → Buf (Elt Ideal) ℓ) (g' : Dev Cert.AdamwOReferenceIdeal.nD → PrngReg), Pre_AdamwOIdeal m →
    (∀ c : Dev Cert.AdamwOIdeal.nD,
      m' ((c.tc : Thread Cert.AdamwOReferenceIdeal.nD Cert.AdamwOReferenceIdeal.τ).loc Cert.AdamwOReferenceIdeal.main_arg0) = m ((c.tc : Thread Cert.AdamwOIdeal.nD Cert.AdamwOIdeal.τ).loc Cert.AdamwOIdeal.main_arg0)
      ∧ m' ((c.tc : Thread Cert.AdamwOReferenceIdeal.nD Cert.AdamwOReferenceIdeal.τ).loc Cert.AdamwOReferenceIdeal.main_arg1) = m ((c.tc : Thread Cert.AdamwOIdeal.nD Cert.AdamwOIdeal.τ).loc Cert.AdamwOIdeal.main_arg1)
      ∧ m' ((c.tc : Thread Cert.AdamwOReferenceIdeal.nD Cert.AdamwOReferenceIdeal.τ).loc Cert.AdamwOReferenceIdeal.main_arg2) = m ((c.tc : Thread Cert.AdamwOIdeal.nD Cert.AdamwOIdeal.τ).loc Cert.AdamwOIdeal.main_arg2)
      ∧ m' ((c.tc : Thread Cert.AdamwOReferenceIdeal.nD Cert.AdamwOReferenceIdeal.τ).loc Cert.AdamwOReferenceIdeal.main_arg3) = m ((c.tc : Thread Cert.AdamwOIdeal.nD Cert.AdamwOIdeal.τ).loc Cert.AdamwOIdeal.main_arg3)) →
    ∃ (v0 : (c : Dev Cert.AdamwOIdeal.nD) → Buf (Elt Ideal) ((c.tc : Thread Cert.AdamwOIdeal.nD Cert.AdamwOIdeal.τ).loc Cert.AdamwOIdeal.main_v0_0)) (v1 : (c : Dev Cert.AdamwOIdeal.nD) → Buf (Elt Ideal) ((c.tc : Thread Cert.AdamwOIdeal.nD Cert.AdamwOIdeal.τ).loc Cert.AdamwOIdeal.main_v0_1)) (v2 : (c : Dev Cert.AdamwOIdeal.nD) → Buf (Elt Ideal) ((c.tc : Thread Cert.AdamwOIdeal.nD Cert.AdamwOIdeal.τ).loc Cert.AdamwOIdeal.main_v0_2)),
      θ_run (Cert.AdamwOIdeal.defs (F := Ideal)) (onTc (τ := Cert.AdamwOIdeal.τ) (Cert.AdamwOIdeal.main (F := Ideal))) ⟨m, fun _ => 0, g⟩ (fun r => ∀ c : Dev Cert.AdamwOIdeal.nD,
          r.2.mem ((c.tc : Thread Cert.AdamwOIdeal.nD Cert.AdamwOIdeal.τ).loc Cert.AdamwOIdeal.main_v0_0) = v0 c
          ∧ r.2.mem ((c.tc : Thread Cert.AdamwOIdeal.nD Cert.AdamwOIdeal.τ).loc Cert.AdamwOIdeal.main_v0_1) = v1 c
          ∧ r.2.mem ((c.tc : Thread Cert.AdamwOIdeal.nD Cert.AdamwOIdeal.τ).loc Cert.AdamwOIdeal.main_v0_2) = v2 c
          ∧ r.2.mem ((c.tc : Thread Cert.AdamwOIdeal.nD Cert.AdamwOIdeal.τ).loc Cert.AdamwOIdeal.main_arg0) = m ((c.tc : Thread Cert.AdamwOIdeal.nD Cert.AdamwOIdeal.τ).loc Cert.AdamwOIdeal.main_arg0)
          ∧ r.2.mem ((c.tc : Thread Cert.AdamwOIdeal.nD Cert.AdamwOIdeal.τ).loc Cert.AdamwOIdeal.main_arg1) = m ((c.tc : Thread Cert.AdamwOIdeal.nD Cert.AdamwOIdeal.τ).loc Cert.AdamwOIdeal.main_arg1)
          ∧ r.2.mem ((c.tc : Thread Cert.AdamwOIdeal.nD Cert.AdamwOIdeal.τ).loc Cert.AdamwOIdeal.main_arg2) = m ((c.tc : Thread Cert.AdamwOIdeal.nD Cert.AdamwOIdeal.τ).loc Cert.AdamwOIdeal.main_arg2)
          ∧ r.2.mem ((c.tc : Thread Cert.AdamwOIdeal.nD Cert.AdamwOIdeal.τ).loc Cert.AdamwOIdeal.main_arg3) = m ((c.tc : Thread Cert.AdamwOIdeal.nD Cert.AdamwOIdeal.τ).loc Cert.AdamwOIdeal.main_arg3))
      ∧ θ_run (Cert.AdamwOReferenceIdeal.defs (F := Ideal)) (onTc (τ := Cert.AdamwOReferenceIdeal.τ) (Cert.AdamwOReferenceIdeal.main (F := Ideal))) ⟨m', fun _ => 0, g'⟩ (fun r => ∀ c : Dev Cert.AdamwOReferenceIdeal.nD,
          r.2.mem ((c.tc : Thread Cert.AdamwOReferenceIdeal.nD Cert.AdamwOReferenceIdeal.τ).loc Cert.AdamwOReferenceIdeal.main_v23) = v0 c
          ∧ r.2.mem ((c.tc : Thread Cert.AdamwOReferenceIdeal.nD Cert.AdamwOReferenceIdeal.τ).loc Cert.AdamwOReferenceIdeal.main_v4) = v1 c
          ∧ r.2.mem ((c.tc : Thread Cert.AdamwOReferenceIdeal.nD Cert.AdamwOReferenceIdeal.τ).loc Cert.AdamwOReferenceIdeal.main_v10) = v2 c
          ∧ r.2.mem ((c.tc : Thread Cert.AdamwOReferenceIdeal.nD Cert.AdamwOReferenceIdeal.τ).loc Cert.AdamwOReferenceIdeal.main_arg0) = m' ((c.tc : Thread Cert.AdamwOReferenceIdeal.nD Cert.AdamwOReferenceIdeal.τ).loc Cert.AdamwOReferenceIdeal.main_arg0)
          ∧ r.2.mem ((c.tc : Thread Cert.AdamwOReferenceIdeal.nD Cert.AdamwOReferenceIdeal.τ).loc Cert.AdamwOReferenceIdeal.main_arg1) = m' ((c.tc : Thread Cert.AdamwOReferenceIdeal.nD Cert.AdamwOReferenceIdeal.τ).loc Cert.AdamwOReferenceIdeal.main_arg1)
          ∧ r.2.mem ((c.tc : Thread Cert.AdamwOReferenceIdeal.nD Cert.AdamwOReferenceIdeal.τ).loc Cert.AdamwOReferenceIdeal.main_arg2) = m' ((c.tc : Thread Cert.AdamwOReferenceIdeal.nD Cert.AdamwOReferenceIdeal.τ).loc Cert.AdamwOReferenceIdeal.main_arg2)
          ∧ r.2.mem ((c.tc : Thread Cert.AdamwOReferenceIdeal.nD Cert.AdamwOReferenceIdeal.τ).loc Cert.AdamwOReferenceIdeal.main_arg3) = m' ((c.tc : Thread Cert.AdamwOReferenceIdeal.nD Cert.AdamwOReferenceIdeal.τ).loc Cert.AdamwOReferenceIdeal.main_arg3))

def preserves_AdamwDown_AdamwDownIdeal : Prop :=
  True

def algebraic_AdamwDownIdeal_AdamwDownReferenceIdeal [hAdamwDownIdeal : Cert.AdamwDownIdeal.Facts] [hAdamwDownReferenceIdeal : Cert.AdamwDownReferenceIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownReferenceIdeal.nD Cert.AdamwDownReferenceIdeal.τ Cert.AdamwDownReferenceIdeal.sig) → Buf (Elt Ideal) ℓ) (g' : Dev Cert.AdamwDownReferenceIdeal.nD → PrngReg), Pre_AdamwDownIdeal m →
    (∀ c : Dev Cert.AdamwDownIdeal.nD,
      m' ((c.tc : Thread Cert.AdamwDownReferenceIdeal.nD Cert.AdamwDownReferenceIdeal.τ).loc Cert.AdamwDownReferenceIdeal.main_arg0) = m ((c.tc : Thread Cert.AdamwDownIdeal.nD Cert.AdamwDownIdeal.τ).loc Cert.AdamwDownIdeal.main_arg0)
      ∧ m' ((c.tc : Thread Cert.AdamwDownReferenceIdeal.nD Cert.AdamwDownReferenceIdeal.τ).loc Cert.AdamwDownReferenceIdeal.main_arg1) = m ((c.tc : Thread Cert.AdamwDownIdeal.nD Cert.AdamwDownIdeal.τ).loc Cert.AdamwDownIdeal.main_arg1)
      ∧ m' ((c.tc : Thread Cert.AdamwDownReferenceIdeal.nD Cert.AdamwDownReferenceIdeal.τ).loc Cert.AdamwDownReferenceIdeal.main_arg2) = m ((c.tc : Thread Cert.AdamwDownIdeal.nD Cert.AdamwDownIdeal.τ).loc Cert.AdamwDownIdeal.main_arg2)
      ∧ m' ((c.tc : Thread Cert.AdamwDownReferenceIdeal.nD Cert.AdamwDownReferenceIdeal.τ).loc Cert.AdamwDownReferenceIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownReferenceIdeal.defs (F := Ideal)) (onTc (τ := Cert.AdamwDownReferenceIdeal.τ) (Cert.AdamwDownReferenceIdeal.main (F := Ideal))) ⟨m', fun _ => 0, g'⟩ (fun r => ∀ c : Dev Cert.AdamwDownReferenceIdeal.nD,
          r.2.mem ((c.tc : Thread Cert.AdamwDownReferenceIdeal.nD Cert.AdamwDownReferenceIdeal.τ).loc Cert.AdamwDownReferenceIdeal.main_v23) = v0 c
          ∧ r.2.mem ((c.tc : Thread Cert.AdamwDownReferenceIdeal.nD Cert.AdamwDownReferenceIdeal.τ).loc Cert.AdamwDownReferenceIdeal.main_v4) = v1 c
          ∧ r.2.mem ((c.tc : Thread Cert.AdamwDownReferenceIdeal.nD Cert.AdamwDownReferenceIdeal.τ).loc Cert.AdamwDownReferenceIdeal.main_v10) = v2 c
          ∧ r.2.mem ((c.tc : Thread Cert.AdamwDownReferenceIdeal.nD Cert.AdamwDownReferenceIdeal.τ).loc Cert.AdamwDownReferenceIdeal.main_arg0) = m' ((c.tc : Thread Cert.AdamwDownReferenceIdeal.nD Cert.AdamwDownReferenceIdeal.τ).loc Cert.AdamwDownReferenceIdeal.main_arg0)
          ∧ r.2.mem ((c.tc : Thread Cert.AdamwDownReferenceIdeal.nD Cert.AdamwDownReferenceIdeal.τ).loc Cert.AdamwDownReferenceIdeal.main_arg1) = m' ((c.tc : Thread Cert.AdamwDownReferenceIdeal.nD Cert.AdamwDownReferenceIdeal.τ).loc Cert.AdamwDownReferenceIdeal.main_arg1)
          ∧ r.2.mem ((c.tc : Thread Cert.AdamwDownReferenceIdeal.nD Cert.AdamwDownReferenceIdeal.τ).loc Cert.AdamwDownReferenceIdeal.main_arg2) = m' ((c.tc : Thread Cert.AdamwDownReferenceIdeal.nD Cert.AdamwDownReferenceIdeal.τ).loc Cert.AdamwDownReferenceIdeal.main_arg2)
          ∧ r.2.mem ((c.tc : Thread Cert.AdamwDownReferenceIdeal.nD Cert.AdamwDownReferenceIdeal.τ).loc Cert.AdamwDownReferenceIdeal.main_arg3) = m' ((c.tc : Thread Cert.AdamwDownReferenceIdeal.nD Cert.AdamwDownReferenceIdeal.τ).loc Cert.AdamwDownReferenceIdeal.main_arg3))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v4) = v1 c
          ∧ r.2.mem ((c.tc : Thread Cert.AdamwSmallReferenceIdeal.nD Cert.AdamwSmallReferenceIdeal.τ).loc Cert.AdamwSmallReferenceIdeal.main_v10) = v2 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_LossFwd_LossFwdIdeal : Prop :=
  True

def algebraic_LossFwdIdeal_LossFwdReferenceIdeal [hLossFwdIdeal : Cert.LossFwdIdeal.Facts] [hLossFwdReferenceIdeal : Cert.LossFwdReferenceIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossFwdReferenceIdeal.nD Cert.LossFwdReferenceIdeal.τ Cert.LossFwdReferenceIdeal.sig) → Buf (Elt Ideal) ℓ) (g' : Dev Cert.LossFwdReferenceIdeal.nD → PrngReg), Pre_LossFwdIdeal m →
    (∀ c : Dev Cert.LossFwdIdeal.nD,
      m' ((c.tc : Thread Cert.LossFwdReferenceIdeal.nD Cert.LossFwdReferenceIdeal.τ).loc Cert.LossFwdReferenceIdeal.main_arg0) = m ((c.tc : Thread Cert.LossFwdIdeal.nD Cert.LossFwdIdeal.τ).loc Cert.LossFwdIdeal.main_arg0)
      ∧ m' ((c.tc : Thread Cert.LossFwdReferenceIdeal.nD Cert.LossFwdReferenceIdeal.τ).loc Cert.LossFwdReferenceIdeal.main_arg1) = m ((c.tc : Thread Cert.LossFwdIdeal.nD Cert.LossFwdIdeal.τ).loc Cert.LossFwdIdeal.main_arg1)) →
    ∃ (v0 : (c : Dev Cert.LossFwdIdeal.nD) → Buf (Elt Ideal) ((c.tc : Thread Cert.LossFwdIdeal.nD Cert.LossFwdIdeal.τ).loc Cert.LossFwdIdeal.main_v0_1)) (v1 : (c : Dev Cert.LossFwdIdeal.nD) → Buf (Elt Ideal) ((c.tc : Thread Cert.LossFwdIdeal.nD Cert.LossFwdIdeal.τ).loc Cert.LossFwdIdeal.main_v0_0)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v0_1) = v0 c
          ∧ r.2.mem ((c.tc : Thread Cert.LossFwdIdeal.nD Cert.LossFwdIdeal.τ).loc Cert.LossFwdIdeal.main_v0_0) = v1 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ θ_run (Cert.LossFwdReferenceIdeal.defs (F := Ideal)) (onTc (τ := Cert.LossFwdReferenceIdeal.τ) (Cert.LossFwdReferenceIdeal.main (F := Ideal))) ⟨m', fun _ => 0, g'⟩ (fun r => ∀ c : Dev Cert.LossFwdReferenceIdeal.nD,
          r.2.mem ((c.tc : Thread Cert.LossFwdReferenceIdeal.nD Cert.LossFwdReferenceIdeal.τ).loc Cert.LossFwdReferenceIdeal.main_v9) = v0 c
          ∧ r.2.mem ((c.tc : Thread Cert.LossFwdReferenceIdeal.nD Cert.LossFwdReferenceIdeal.τ).loc Cert.LossFwdReferenceIdeal.main_v15) = v1 c
          ∧ r.2.mem ((c.tc : Thread Cert.LossFwdReferenceIdeal.nD Cert.LossFwdReferenceIdeal.τ).loc Cert.LossFwdReferenceIdeal.main_arg0) = m' ((c.tc : Thread Cert.LossFwdReferenceIdeal.nD Cert.LossFwdReferenceIdeal.τ).loc Cert.LossFwdReferenceIdeal.main_arg0)
          ∧ r.2.mem ((c.tc : Thread Cert.LossFwdReferenceIdeal.nD Cert.LossFwdReferenceIdeal.τ).loc Cert.LossFwdReferenceIdeal.main_arg1) = m' ((c.tc : Thread Cert.LossFwdReferenceIdeal.nD Cert.LossFwdReferenceIdeal.τ).loc Cert.LossFwdReferenceIdeal.main_arg1))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)
      ∧ m' ((c.tc : Thread Cert.ConvFwdReferenceIdeal.nD Cert.ConvFwdReferenceIdeal.τ).loc Cert.ConvFwdReferenceIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v35) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1)
          ∧ r.2.mem ((c.tc : Thread Cert.ConvFwdReferenceIdeal.nD Cert.ConvFwdReferenceIdeal.τ).loc Cert.ConvFwdReferenceIdeal.main_arg2) = m' ((c.tc : Thread Cert.ConvFwdReferenceIdeal.nD Cert.ConvFwdReferenceIdeal.τ).loc Cert.ConvFwdReferenceIdeal.main_arg2))

def Claim : Prop :=
  ∃ (hKernel : Cert.Kernel.Facts) (hKernelIdeal : Cert.KernelIdeal.Facts) (hReferenceIdeal : Cert.ReferenceIdeal.Facts) (hQkvDa : Cert.QkvDa.Facts) (hQkvDaIdeal : Cert.QkvDaIdeal.Facts) (hQkvDaReferenceIdeal : Cert.QkvDaReferenceIdeal.Facts) (hQkvDw : Cert.QkvDw.Facts) (hQkvDwIdeal : Cert.QkvDwIdeal.Facts) (hQkvDwReferenceIdeal : Cert.QkvDwReferenceIdeal.Facts) (hQkvFwd : Cert.QkvFwd.Facts) (hQkvFwdIdeal : Cert.QkvFwdIdeal.Facts) (hQkvFwdReferenceIdeal : Cert.QkvFwdReferenceIdeal.Facts) (hGuDa : Cert.GuDa.Facts) (hGuDaIdeal : Cert.GuDaIdeal.Facts) (hGuDaReferenceIdeal : Cert.GuDaReferenceIdeal.Facts) (hGuDw : Cert.GuDw.Facts) (hGuDwIdeal : Cert.GuDwIdeal.Facts) (hGuDwReferenceIdeal : Cert.GuDwReferenceIdeal.Facts) (hGuFwd : Cert.GuFwd.Facts) (hGuFwdIdeal : Cert.GuFwdIdeal.Facts) (hGuFwdReferenceIdeal : Cert.GuFwdReferenceIdeal.Facts) (hDownDa : Cert.DownDa.Facts) (hDownDaIdeal : Cert.DownDaIdeal.Facts) (hDownDaReferenceIdeal : Cert.DownDaReferenceIdeal.Facts) (hDownDw : Cert.DownDw.Facts) (hDownDwIdeal : Cert.DownDwIdeal.Facts) (hDownDwReferenceIdeal : Cert.DownDwReferenceIdeal.Facts) (hDownFwd : Cert.DownFwd.Facts) (hDownFwdIdeal : Cert.DownFwdIdeal.Facts) (hDownFwdReferenceIdeal : Cert.DownFwdReferenceIdeal.Facts) (hInDa : Cert.InDa.Facts) (hInDaIdeal : Cert.InDaIdeal.Facts) (hInDaReferenceIdeal : Cert.InDaReferenceIdeal.Facts) (hInDw : Cert.InDw.Facts) (hInDwIdeal : Cert.InDwIdeal.Facts) (hInDwReferenceIdeal : Cert.InDwReferenceIdeal.Facts) (hInFwd : Cert.InFwd.Facts) (hInFwdIdeal : Cert.InFwdIdeal.Facts) (hInFwdReferenceIdeal : Cert.InFwdReferenceIdeal.Facts) (hOutDa : Cert.OutDa.Facts) (hOutDaIdeal : Cert.OutDaIdeal.Facts) (hOutDaReferenceIdeal : Cert.OutDaReferenceIdeal.Facts) (hOutDw : Cert.OutDw.Facts) (hOutDwIdeal : Cert.OutDwIdeal.Facts) (hOutDwReferenceIdeal : Cert.OutDwReferenceIdeal.Facts) (hOutFwd : Cert.OutFwd.Facts) (hOutFwdIdeal : Cert.OutFwdIdeal.Facts) (hOutFwdReferenceIdeal : Cert.OutFwdReferenceIdeal.Facts) (hPleGateDa : Cert.PleGateDa.Facts) (hPleGateDaIdeal : Cert.PleGateDaIdeal.Facts) (hPleGateDaReferenceIdeal : Cert.PleGateDaReferenceIdeal.Facts) (hPleGateDw : Cert.PleGateDw.Facts) (hPleGateDwIdeal : Cert.PleGateDwIdeal.Facts) (hPleGateDwReferenceIdeal : Cert.PleGateDwReferenceIdeal.Facts) (hPleGateFwd : Cert.PleGateFwd.Facts) (hPleGateFwdIdeal : Cert.PleGateFwdIdeal.Facts) (hPleGateFwdReferenceIdeal : Cert.PleGateFwdReferenceIdeal.Facts) (hODa : Cert.ODa.Facts) (hODaIdeal : Cert.ODaIdeal.Facts) (hODaReferenceIdeal : Cert.ODaReferenceIdeal.Facts) (hODw : Cert.ODw.Facts) (hODwIdeal : Cert.ODwIdeal.Facts) (hODwReferenceIdeal : Cert.ODwReferenceIdeal.Facts) (hOFwd : Cert.OFwd.Facts) (hOFwdIdeal : Cert.OFwdIdeal.Facts) (hOFwdReferenceIdeal : Cert.OFwdReferenceIdeal.Facts) (hPleProjDw : Cert.PleProjDw.Facts) (hPleProjDwIdeal : Cert.PleProjDwIdeal.Facts) (hPleProjDwReferenceIdeal : Cert.PleProjDwReferenceIdeal.Facts) (hPleProjFwd : Cert.PleProjFwd.Facts) (hPleProjFwdIdeal : Cert.PleProjFwdIdeal.Facts) (hPleProjFwdReferenceIdeal : Cert.PleProjFwdReferenceIdeal.Facts) (hDtDa : Cert.DtDa.Facts) (hDtDaIdeal : Cert.DtDaIdeal.Facts) (hDtDaReferenceIdeal : Cert.DtDaReferenceIdeal.Facts) (hDtDw : Cert.DtDw.Facts) (hDtDwIdeal : Cert.DtDwIdeal.Facts) (hDtDwReferenceIdeal : Cert.DtDwReferenceIdeal.Facts) (hDtFwd : Cert.DtFwd.Facts) (hDtFwdIdeal : Cert.DtFwdIdeal.Facts) (hDtFwdReferenceIdeal : Cert.DtFwdReferenceIdeal.Facts) (hSwigluBwd : Cert.SwigluBwd.Facts) (hSwigluBwdIdeal : Cert.SwigluBwdIdeal.Facts) (hSwigluBwdReferenceIdeal : Cert.SwigluBwdReferenceIdeal.Facts) (hPleBwd : Cert.PleBwd.Facts) (hPleBwdIdeal : Cert.PleBwdIdeal.Facts) (hPleBwdReferenceIdeal : Cert.PleBwdReferenceIdeal.Facts) (hRmsBwd : Cert.RmsBwd.Facts) (hRmsBwdIdeal : Cert.RmsBwdIdeal.Facts) (hRmsBwdReferenceIdeal : Cert.RmsBwdReferenceIdeal.Facts) (hGateNormBwd : Cert.GateNormBwd.Facts) (hGateNormBwdIdeal : Cert.GateNormBwdIdeal.Facts) (hGateNormBwdReferenceIdeal : Cert.GateNormBwdReferenceIdeal.Facts) (hSwigluFwd : Cert.SwigluFwd.Facts) (hSwigluFwdIdeal : Cert.SwigluFwdIdeal.Facts) (hSwigluFwdReferenceIdeal : Cert.SwigluFwdReferenceIdeal.Facts) (hPleFwd : Cert.PleFwd.Facts) (hPleFwdIdeal : Cert.PleFwdIdeal.Facts) (hPleFwdReferenceIdeal : Cert.PleFwdReferenceIdeal.Facts) (hRmsFwd : Cert.RmsFwd.Facts) (hRmsFwdIdeal : Cert.RmsFwdIdeal.Facts) (hRmsFwdReferenceIdeal : Cert.RmsFwdReferenceIdeal.Facts) (hGateNormFwd : Cert.GateNormFwd.Facts) (hGateNormFwdIdeal : Cert.GateNormFwdIdeal.Facts) (hGateNormFwdReferenceIdeal : Cert.GateNormFwdReferenceIdeal.Facts) (hAdamwIn : Cert.AdamwIn.Facts) (hAdamwInIdeal : Cert.AdamwInIdeal.Facts) (hAdamwInReferenceIdeal : Cert.AdamwInReferenceIdeal.Facts) (hAdamwQkv : Cert.AdamwQkv.Facts) (hAdamwQkvIdeal : Cert.AdamwQkvIdeal.Facts) (hAdamwQkvReferenceIdeal : Cert.AdamwQkvReferenceIdeal.Facts) (hAdamwGu : Cert.AdamwGu.Facts) (hAdamwGuIdeal : Cert.AdamwGuIdeal.Facts) (hAdamwGuReferenceIdeal : Cert.AdamwGuReferenceIdeal.Facts) (hAdamwProj : Cert.AdamwProj.Facts) (hAdamwProjIdeal : Cert.AdamwProjIdeal.Facts) (hAdamwProjReferenceIdeal : Cert.AdamwProjReferenceIdeal.Facts) (hAdamwOut : Cert.AdamwOut.Facts) (hAdamwOutIdeal : Cert.AdamwOutIdeal.Facts) (hAdamwOutReferenceIdeal : Cert.AdamwOutReferenceIdeal.Facts) (hAdamwO : Cert.AdamwO.Facts) (hAdamwOIdeal : Cert.AdamwOIdeal.Facts) (hAdamwOReferenceIdeal : Cert.AdamwOReferenceIdeal.Facts) (hAdamwDown : Cert.AdamwDown.Facts) (hAdamwDownIdeal : Cert.AdamwDownIdeal.Facts) (hAdamwDownReferenceIdeal : Cert.AdamwDownReferenceIdeal.Facts) (hAdamwSmall : Cert.AdamwSmall.Facts) (hAdamwSmallIdeal : Cert.AdamwSmallIdeal.Facts) (hAdamwSmallReferenceIdeal : Cert.AdamwSmallReferenceIdeal.Facts) (hLossFwd : Cert.LossFwd.Facts) (hLossFwdIdeal : Cert.LossFwdIdeal.Facts) (hLossFwdReferenceIdeal : Cert.LossFwdReferenceIdeal.Facts) (hConvFwd : Cert.ConvFwd.Facts) (hConvFwdIdeal : Cert.ConvFwdIdeal.Facts) (hConvFwdReferenceIdeal : Cert.ConvFwdReferenceIdeal.Facts) (hPre_inputs_finite : Cert.Pre_inputs_finite.Facts) (hPre_swiglu_finite : Cert.Pre_swiglu_finite.Facts) (hPre_rms_finite : Cert.Pre_rms_finite.Facts) (hPre_gate_norm_finite : Cert.Pre_gate_norm_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_QkvDa (hQkvDa := hQkvDa)
    ∧ quiescent_QkvDaIdeal (hQkvDaIdeal := hQkvDaIdeal)
    ∧ quiescent_QkvDaReferenceIdeal (hQkvDaReferenceIdeal := hQkvDaReferenceIdeal)
    ∧ quiescent_QkvDw (hQkvDw := hQkvDw)
    ∧ quiescent_QkvDwIdeal (hQkvDwIdeal := hQkvDwIdeal)
    ∧ quiescent_QkvDwReferenceIdeal (hQkvDwReferenceIdeal := hQkvDwReferenceIdeal)
    ∧ quiescent_QkvFwd (hQkvFwd := hQkvFwd)
    ∧ quiescent_QkvFwdIdeal (hQkvFwdIdeal := hQkvFwdIdeal)
    ∧ quiescent_QkvFwdReferenceIdeal (hQkvFwdReferenceIdeal := hQkvFwdReferenceIdeal)
    ∧ quiescent_GuDa (hGuDa := hGuDa)
    ∧ quiescent_GuDaIdeal (hGuDaIdeal := hGuDaIdeal)
    ∧ quiescent_GuDaReferenceIdeal (hGuDaReferenceIdeal := hGuDaReferenceIdeal)
    ∧ quiescent_GuDw (hGuDw := hGuDw)
    ∧ quiescent_GuDwIdeal (hGuDwIdeal := hGuDwIdeal)
    ∧ quiescent_GuDwReferenceIdeal (hGuDwReferenceIdeal := hGuDwReferenceIdeal)
    ∧ quiescent_GuFwd (hGuFwd := hGuFwd)
    ∧ quiescent_GuFwdIdeal (hGuFwdIdeal := hGuFwdIdeal)
    ∧ quiescent_GuFwdReferenceIdeal (hGuFwdReferenceIdeal := hGuFwdReferenceIdeal)
    ∧ quiescent_DownDa (hDownDa := hDownDa)
    ∧ quiescent_DownDaIdeal (hDownDaIdeal := hDownDaIdeal)
    ∧ quiescent_DownDaReferenceIdeal (hDownDaReferenceIdeal := hDownDaReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_DownFwd (hDownFwd := hDownFwd)
    ∧ quiescent_DownFwdIdeal (hDownFwdIdeal := hDownFwdIdeal)
    ∧ quiescent_DownFwdReferenceIdeal (hDownFwdReferenceIdeal := hDownFwdReferenceIdeal)
    ∧ quiescent_InDa (hInDa := hInDa)
    ∧ quiescent_InDaIdeal (hInDaIdeal := hInDaIdeal)
    ∧ quiescent_InDaReferenceIdeal (hInDaReferenceIdeal := hInDaReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_OutDa (hOutDa := hOutDa)
    ∧ quiescent_OutDaIdeal (hOutDaIdeal := hOutDaIdeal)
    ∧ quiescent_OutDaReferenceIdeal (hOutDaReferenceIdeal := hOutDaReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_PleGateDa (hPleGateDa := hPleGateDa)
    ∧ quiescent_PleGateDaIdeal (hPleGateDaIdeal := hPleGateDaIdeal)
    ∧ quiescent_PleGateDaReferenceIdeal (hPleGateDaReferenceIdeal := hPleGateDaReferenceIdeal)
    ∧ quiescent_PleGateDw (hPleGateDw := hPleGateDw)
    ∧ quiescent_PleGateDwIdeal (hPleGateDwIdeal := hPleGateDwIdeal)
    ∧ quiescent_PleGateDwReferenceIdeal (hPleGateDwReferenceIdeal := hPleGateDwReferenceIdeal)
    ∧ quiescent_PleGateFwd (hPleGateFwd := hPleGateFwd)
    ∧ quiescent_PleGateFwdIdeal (hPleGateFwdIdeal := hPleGateFwdIdeal)
    ∧ quiescent_PleGateFwdReferenceIdeal (hPleGateFwdReferenceIdeal := hPleGateFwdReferenceIdeal)
    ∧ quiescent_ODa (hODa := hODa)
    ∧ quiescent_ODaIdeal (hODaIdeal := hODaIdeal)
    ∧ quiescent_ODaReferenceIdeal (hODaReferenceIdeal := hODaReferenceIdeal)
    ∧ quiescent_ODw (hODw := hODw)
    ∧ quiescent_ODwIdeal (hODwIdeal := hODwIdeal)
    ∧ quiescent_ODwReferenceIdeal (hODwReferenceIdeal := hODwReferenceIdeal)
    ∧ quiescent_OFwd (hOFwd := hOFwd)
    ∧ quiescent_OFwdIdeal (hOFwdIdeal := hOFwdIdeal)
    ∧ quiescent_OFwdReferenceIdeal (hOFwdReferenceIdeal := hOFwdReferenceIdeal)
    ∧ quiescent_PleProjDw (hPleProjDw := hPleProjDw)
    ∧ quiescent_PleProjDwIdeal (hPleProjDwIdeal := hPleProjDwIdeal)
    ∧ quiescent_PleProjDwReferenceIdeal (hPleProjDwReferenceIdeal := hPleProjDwReferenceIdeal)
    ∧ quiescent_PleProjFwd (hPleProjFwd := hPleProjFwd)
    ∧ quiescent_PleProjFwdIdeal (hPleProjFwdIdeal := hPleProjFwdIdeal)
    ∧ quiescent_PleProjFwdReferenceIdeal (hPleProjFwdReferenceIdeal := hPleProjFwdReferenceIdeal)
    ∧ quiescent_DtDa (hDtDa := hDtDa)
    ∧ quiescent_DtDaIdeal (hDtDaIdeal := hDtDaIdeal)
    ∧ quiescent_DtDaReferenceIdeal (hDtDaReferenceIdeal := hDtDaReferenceIdeal)
    ∧ quiescent_DtDw (hDtDw := hDtDw)
    ∧ quiescent_DtDwIdeal (hDtDwIdeal := hDtDwIdeal)
    ∧ quiescent_DtDwReferenceIdeal (hDtDwReferenceIdeal := hDtDwReferenceIdeal)
    ∧ quiescent_DtFwd (hDtFwd := hDtFwd)
    ∧ quiescent_DtFwdIdeal (hDtFwdIdeal := hDtFwdIdeal)
    ∧ quiescent_DtFwdReferenceIdeal (hDtFwdReferenceIdeal := hDtFwdReferenceIdeal)
    ∧ quiescent_SwigluBwd (hSwigluBwd := hSwigluBwd)
    ∧ quiescent_SwigluBwdIdeal (hSwigluBwdIdeal := hSwigluBwdIdeal)
    ∧ quiescent_SwigluBwdIdeal_pre_swiglu_finite (hSwigluBwdIdeal := hSwigluBwdIdeal) (hPre_swiglu_finite := hPre_swiglu_finite)
    ∧ quiescent_SwigluBwdReferenceIdeal (hSwigluBwdReferenceIdeal := hSwigluBwdReferenceIdeal)
    ∧ quiescent_SwigluBwdReferenceIdeal_pre_swiglu_finite (hSwigluBwdReferenceIdeal := hSwigluBwdReferenceIdeal) (hPre_swiglu_finite := hPre_swiglu_finite)
    ∧ quiescent_PleBwd (hPleBwd := hPleBwd)
    ∧ quiescent_PleBwdIdeal (hPleBwdIdeal := hPleBwdIdeal)
    ∧ quiescent_PleBwdReferenceIdeal (hPleBwdReferenceIdeal := hPleBwdReferenceIdeal)
    ∧ quiescent_RmsBwd (hRmsBwd := hRmsBwd)
    ∧ quiescent_RmsBwdIdeal (hRmsBwdIdeal := hRmsBwdIdeal)
    ∧ quiescent_RmsBwdIdeal_pre_rms_finite (hRmsBwdIdeal := hRmsBwdIdeal) (hPre_rms_finite := hPre_rms_finite)
    ∧ quiescent_RmsBwdReferenceIdeal (hRmsBwdReferenceIdeal := hRmsBwdReferenceIdeal)
    ∧ quiescent_RmsBwdReferenceIdeal_pre_rms_finite (hRmsBwdReferenceIdeal := hRmsBwdReferenceIdeal) (hPre_rms_finite := hPre_rms_finite)
    ∧ quiescent_GateNormBwd (hGateNormBwd := hGateNormBwd)
    ∧ quiescent_GateNormBwdIdeal (hGateNormBwdIdeal := hGateNormBwdIdeal)
    ∧ quiescent_GateNormBwdIdeal_pre_gate_norm_finite (hGateNormBwdIdeal := hGateNormBwdIdeal) (hPre_gate_norm_finite := hPre_gate_norm_finite)
    ∧ quiescent_GateNormBwdReferenceIdeal (hGateNormBwdReferenceIdeal := hGateNormBwdReferenceIdeal)
    ∧ quiescent_GateNormBwdReferenceIdeal_pre_gate_norm_finite (hGateNormBwdReferenceIdeal := hGateNormBwdReferenceIdeal) (hPre_gate_norm_finite := hPre_gate_norm_finite)
    ∧ quiescent_SwigluFwd (hSwigluFwd := hSwigluFwd)
    ∧ quiescent_SwigluFwdIdeal (hSwigluFwdIdeal := hSwigluFwdIdeal)
    ∧ quiescent_SwigluFwdReferenceIdeal (hSwigluFwdReferenceIdeal := hSwigluFwdReferenceIdeal)
    ∧ quiescent_PleFwd (hPleFwd := hPleFwd)
    ∧ quiescent_PleFwdIdeal (hPleFwdIdeal := hPleFwdIdeal)
    ∧ quiescent_PleFwdReferenceIdeal (hPleFwdReferenceIdeal := hPleFwdReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_GateNormFwd (hGateNormFwd := hGateNormFwd)
    ∧ quiescent_GateNormFwdIdeal (hGateNormFwdIdeal := hGateNormFwdIdeal)
    ∧ quiescent_GateNormFwdReferenceIdeal (hGateNormFwdReferenceIdeal := hGateNormFwdReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwQkv (hAdamwQkv := hAdamwQkv)
    ∧ quiescent_AdamwQkvIdeal (hAdamwQkvIdeal := hAdamwQkvIdeal)
    ∧ quiescent_AdamwQkvReferenceIdeal (hAdamwQkvReferenceIdeal := hAdamwQkvReferenceIdeal)
    ∧ quiescent_AdamwGu (hAdamwGu := hAdamwGu)
    ∧ quiescent_AdamwGuIdeal (hAdamwGuIdeal := hAdamwGuIdeal)
    ∧ quiescent_AdamwGuReferenceIdeal (hAdamwGuReferenceIdeal := hAdamwGuReferenceIdeal)
    ∧ quiescent_AdamwProj (hAdamwProj := hAdamwProj)
    ∧ quiescent_AdamwProjIdeal (hAdamwProjIdeal := hAdamwProjIdeal)
    ∧ quiescent_AdamwProjReferenceIdeal (hAdamwProjReferenceIdeal := hAdamwProjReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwO (hAdamwO := hAdamwO)
    ∧ quiescent_AdamwOIdeal (hAdamwOIdeal := hAdamwOIdeal)
    ∧ quiescent_AdamwOReferenceIdeal (hAdamwOReferenceIdeal := hAdamwOReferenceIdeal)
    ∧ quiescent_AdamwDown (hAdamwDown := hAdamwDown)
    ∧ quiescent_AdamwDownIdeal (hAdamwDownIdeal := hAdamwDownIdeal)
    ∧ quiescent_AdamwDownReferenceIdeal (hAdamwDownReferenceIdeal := hAdamwDownReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_LossFwd (hLossFwd := hLossFwd)
    ∧ quiescent_LossFwdIdeal (hLossFwdIdeal := hLossFwdIdeal)
    ∧ quiescent_LossFwdReferenceIdeal (hLossFwdReferenceIdeal := hLossFwdReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_QkvDa_QkvDaIdeal
    ∧ algebraic_QkvDaIdeal_QkvDaReferenceIdeal (hQkvDaIdeal := hQkvDaIdeal) (hQkvDaReferenceIdeal := hQkvDaReferenceIdeal)
    ∧ preserves_QkvDw_QkvDwIdeal
    ∧ algebraic_QkvDwIdeal_QkvDwReferenceIdeal (hQkvDwIdeal := hQkvDwIdeal) (hQkvDwReferenceIdeal := hQkvDwReferenceIdeal)
    ∧ preserves_QkvFwd_QkvFwdIdeal
    ∧ algebraic_QkvFwdIdeal_QkvFwdReferenceIdeal (hQkvFwdIdeal := hQkvFwdIdeal) (hQkvFwdReferenceIdeal := hQkvFwdReferenceIdeal)
    ∧ preserves_GuDa_GuDaIdeal
    ∧ algebraic_GuDaIdeal_GuDaReferenceIdeal (hGuDaIdeal := hGuDaIdeal) (hGuDaReferenceIdeal := hGuDaReferenceIdeal)
    ∧ preserves_GuDw_GuDwIdeal
    ∧ algebraic_GuDwIdeal_GuDwReferenceIdeal (hGuDwIdeal := hGuDwIdeal) (hGuDwReferenceIdeal := hGuDwReferenceIdeal)
    ∧ preserves_GuFwd_GuFwdIdeal
    ∧ algebraic_GuFwdIdeal_GuFwdReferenceIdeal (hGuFwdIdeal := hGuFwdIdeal) (hGuFwdReferenceIdeal := hGuFwdReferenceIdeal)
    ∧ preserves_DownDa_DownDaIdeal
    ∧ algebraic_DownDaIdeal_DownDaReferenceIdeal (hDownDaIdeal := hDownDaIdeal) (hDownDaReferenceIdeal := hDownDaReferenceIdeal)
    ∧ preserves_DownDw_DownDwIdeal
    ∧ algebraic_DownDwIdeal_DownDwReferenceIdeal (hDownDwIdeal := hDownDwIdeal) (hDownDwReferenceIdeal := hDownDwReferenceIdeal)
    ∧ preserves_DownFwd_DownFwdIdeal
    ∧ algebraic_DownFwdIdeal_DownFwdReferenceIdeal (hDownFwdIdeal := hDownFwdIdeal) (hDownFwdReferenceIdeal := hDownFwdReferenceIdeal)
    ∧ preserves_InDa_InDaIdeal
    ∧ algebraic_InDaIdeal_InDaReferenceIdeal (hInDaIdeal := hInDaIdeal) (hInDaReferenceIdeal := hInDaReferenceIdeal)
    ∧ preserves_InDw_InDwIdeal
    ∧ algebraic_InDwIdeal_InDwReferenceIdeal (hInDwIdeal := hInDwIdeal) (hInDwReferenceIdeal := hInDwReferenceIdeal)
    ∧ preserves_InFwd_InFwdIdeal
    ∧ algebraic_InFwdIdeal_InFwdReferenceIdeal (hInFwdIdeal := hInFwdIdeal) (hInFwdReferenceIdeal := hInFwdReferenceIdeal)
    ∧ preserves_OutDa_OutDaIdeal
    ∧ algebraic_OutDaIdeal_OutDaReferenceIdeal (hOutDaIdeal := hOutDaIdeal) (hOutDaReferenceIdeal := hOutDaReferenceIdeal)
    ∧ preserves_OutDw_OutDwIdeal
    ∧ algebraic_OutDwIdeal_OutDwReferenceIdeal (hOutDwIdeal := hOutDwIdeal) (hOutDwReferenceIdeal := hOutDwReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_PleGateDa_PleGateDaIdeal
    ∧ algebraic_PleGateDaIdeal_PleGateDaReferenceIdeal (hPleGateDaIdeal := hPleGateDaIdeal) (hPleGateDaReferenceIdeal := hPleGateDaReferenceIdeal)
    ∧ preserves_PleGateDw_PleGateDwIdeal
    ∧ algebraic_PleGateDwIdeal_PleGateDwReferenceIdeal (hPleGateDwIdeal := hPleGateDwIdeal) (hPleGateDwReferenceIdeal := hPleGateDwReferenceIdeal)
    ∧ preserves_PleGateFwd_PleGateFwdIdeal
    ∧ algebraic_PleGateFwdIdeal_PleGateFwdReferenceIdeal (hPleGateFwdIdeal := hPleGateFwdIdeal) (hPleGateFwdReferenceIdeal := hPleGateFwdReferenceIdeal)
    ∧ preserves_ODa_ODaIdeal
    ∧ algebraic_ODaIdeal_ODaReferenceIdeal (hODaIdeal := hODaIdeal) (hODaReferenceIdeal := hODaReferenceIdeal)
    ∧ preserves_ODw_ODwIdeal
    ∧ algebraic_ODwIdeal_ODwReferenceIdeal (hODwIdeal := hODwIdeal) (hODwReferenceIdeal := hODwReferenceIdeal)
    ∧ preserves_OFwd_OFwdIdeal
    ∧ algebraic_OFwdIdeal_OFwdReferenceIdeal (hOFwdIdeal := hOFwdIdeal) (hOFwdReferenceIdeal := hOFwdReferenceIdeal)
    ∧ preserves_PleProjDw_PleProjDwIdeal
    ∧ algebraic_PleProjDwIdeal_PleProjDwReferenceIdeal (hPleProjDwIdeal := hPleProjDwIdeal) (hPleProjDwReferenceIdeal := hPleProjDwReferenceIdeal)
    ∧ preserves_PleProjFwd_PleProjFwdIdeal
    ∧ algebraic_PleProjFwdIdeal_PleProjFwdReferenceIdeal (hPleProjFwdIdeal := hPleProjFwdIdeal) (hPleProjFwdReferenceIdeal := hPleProjFwdReferenceIdeal)
    ∧ preserves_DtDa_DtDaIdeal
    ∧ algebraic_DtDaIdeal_DtDaReferenceIdeal (hDtDaIdeal := hDtDaIdeal) (hDtDaReferenceIdeal := hDtDaReferenceIdeal)
    ∧ preserves_DtDw_DtDwIdeal
    ∧ algebraic_DtDwIdeal_DtDwReferenceIdeal (hDtDwIdeal := hDtDwIdeal) (hDtDwReferenceIdeal := hDtDwReferenceIdeal)
    ∧ preserves_DtFwd_DtFwdIdeal
    ∧ algebraic_DtFwdIdeal_DtFwdReferenceIdeal (hDtFwdIdeal := hDtFwdIdeal) (hDtFwdReferenceIdeal := hDtFwdReferenceIdeal)
    ∧ preserves_SwigluBwd_SwigluBwdIdeal
    ∧ algebraic_SwigluBwdIdeal_SwigluBwdReferenceIdeal_pre_swiglu_finite (hSwigluBwdIdeal := hSwigluBwdIdeal) (hSwigluBwdReferenceIdeal := hSwigluBwdReferenceIdeal) (hPre_swiglu_finite := hPre_swiglu_finite)
    ∧ preserves_PleBwd_PleBwdIdeal
    ∧ algebraic_PleBwdIdeal_PleBwdReferenceIdeal (hPleBwdIdeal := hPleBwdIdeal) (hPleBwdReferenceIdeal := hPleBwdReferenceIdeal)
    ∧ preserves_RmsBwd_RmsBwdIdeal
    ∧ algebraic_RmsBwdIdeal_RmsBwdReferenceIdeal_pre_rms_finite (hRmsBwdIdeal := hRmsBwdIdeal) (hRmsBwdReferenceIdeal := hRmsBwdReferenceIdeal) (hPre_rms_finite := hPre_rms_finite)
    ∧ preserves_GateNormBwd_GateNormBwdIdeal
    ∧ algebraic_GateNormBwdIdeal_GateNormBwdReferenceIdeal_pre_gate_norm_finite (hGateNormBwdIdeal := hGateNormBwdIdeal) (hGateNormBwdReferenceIdeal := hGateNormBwdReferenceIdeal) (hPre_gate_norm_finite := hPre_gate_norm_finite)
    ∧ preserves_SwigluFwd_SwigluFwdIdeal
    ∧ algebraic_SwigluFwdIdeal_SwigluFwdReferenceIdeal (hSwigluFwdIdeal := hSwigluFwdIdeal) (hSwigluFwdReferenceIdeal := hSwigluFwdReferenceIdeal)
    ∧ preserves_PleFwd_PleFwdIdeal
    ∧ algebraic_PleFwdIdeal_PleFwdReferenceIdeal (hPleFwdIdeal := hPleFwdIdeal) (hPleFwdReferenceIdeal := hPleFwdReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_GateNormFwd_GateNormFwdIdeal
    ∧ algebraic_GateNormFwdIdeal_GateNormFwdReferenceIdeal (hGateNormFwdIdeal := hGateNormFwdIdeal) (hGateNormFwdReferenceIdeal := hGateNormFwdReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwQkv_AdamwQkvIdeal
    ∧ algebraic_AdamwQkvIdeal_AdamwQkvReferenceIdeal (hAdamwQkvIdeal := hAdamwQkvIdeal) (hAdamwQkvReferenceIdeal := hAdamwQkvReferenceIdeal)
    ∧ preserves_AdamwGu_AdamwGuIdeal
    ∧ algebraic_AdamwGuIdeal_AdamwGuReferenceIdeal (hAdamwGuIdeal := hAdamwGuIdeal) (hAdamwGuReferenceIdeal := hAdamwGuReferenceIdeal)
    ∧ preserves_AdamwProj_AdamwProjIdeal
    ∧ algebraic_AdamwProjIdeal_AdamwProjReferenceIdeal (hAdamwProjIdeal := hAdamwProjIdeal) (hAdamwProjReferenceIdeal := hAdamwProjReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwO_AdamwOIdeal
    ∧ algebraic_AdamwOIdeal_AdamwOReferenceIdeal (hAdamwOIdeal := hAdamwOIdeal) (hAdamwOReferenceIdeal := hAdamwOReferenceIdeal)
    ∧ preserves_AdamwDown_AdamwDownIdeal
    ∧ algebraic_AdamwDownIdeal_AdamwDownReferenceIdeal (hAdamwDownIdeal := hAdamwDownIdeal) (hAdamwDownReferenceIdeal := hAdamwDownReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_LossFwd_LossFwdIdeal
    ∧ algebraic_LossFwdIdeal_LossFwdReferenceIdeal (hLossFwdIdeal := hLossFwdIdeal) (hLossFwdReferenceIdeal := hLossFwdReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
-- ==== Pre_gate_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bitsLt_bf16_f32 : FTy.bits .bf16 < FTy.bits .f32
  bcast_S_S2048 : S_.BroadcastsInDim S2048 (![] : Fin 0 → Fin S2048.rank)

variable [Facts]

def fn {F : FTy → Type} [FloatOps F] (main_arg0 : FVec F S4096x2048 .f32) (main_arg1 : FVec F S4096x2048 .bf16) (main_arg2 : FVec F S2048 .f32) (main_arg3 : FVec F S4096x2048 .bf16) : IVec S4096x2048 1 × IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := (extf .f32 · bitsLt_bf16_f32) main_arg1
  let main_v4 : FVec F S4096x2048 .f32 := Host.absf main_v3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : FVec F S2048 .f32 := Host.absf main_arg2
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S4096x2048 .f32 := (extf .f32 · bitsLt_bf16_f32) main_arg3
  let main_v11 : FVec F S4096x2048 .f32 := Host.absf main_v10
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  (main_v2, main_v6, main_v9, main_v13)
-- ==== Pre_inputs_finite.lean ====
abbrev S4096x3072 : Shape := ⟨2, ![4096, 3072]⟩
abbrev S4096x32 : Shape := ⟨2, ![4096, 32]⟩
abbrev S32 : Shape := ⟨1, ![32]⟩
abbrev S1x2048 : Shape := ⟨2, ![1, 2048]⟩
abbrev S4x32x512x128 : Shape := ⟨4, ![4, 32, 512, 128]⟩
abbrev S4096x2048 : Shape := ⟨2, ![4096, 2048]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S4096x32 : S_.BroadcastsInDim S4096x32 (![] : Fin 0 → Fin S4096x32.rank)
  bcast_S_S32 : S_.BroadcastsInDim S32 (![] : Fin 0 → Fin S32.rank)
  bcast_S_S1x2048 : S_.BroadcastsInDim S1x2048 (![] : Fin 0 → Fin S1x2048.rank)
  bcast_S_S4096x2048 : S_.BroadcastsInDim S4096x2048 (![] : Fin 0 → Fin S4096x2048.rank)

variable [Facts]

def fn_part1 {F : FTy → Type} [FloatOps F] (main_v3 : IVec S4096x3072 1) (main_v6 : IVec S4096x32 1) (main_v9 : IVec S32 1) (main_v12 : IVec S32 1) (main_v15 : IVec S1x2048 1) (main_v16 : FVec F S4096x2048 .f32) (main_v17 : FVec F S4096x2048 .f32) : IVec S4096x3072 1 × IVec S4096x32 1 × IVec S32 1 × IVec S32 1 × IVec S1x2048 1 × IVec S4096x2048 1 :=
  let main_v18 : IVec S4096x2048 1 := cmpf .olt main_v16 main_v17
  (main_v3, main_v6, main_v9, main_v12, main_v15, main_v18)

def fn {F : FTy → Type} [FloatOps F] (main_arg0 : FVec F S4096x3072 .bf16) (main_arg1 : FVec F S4096x32 .f32) (main_arg2 : FVec F S32 .f32) (main_arg3 : FVec F S32 .f32) (main_arg4 : FVec F S1x2048 .f32) (main_arg5 : FVec F S4x32x512x128 .f32) (main_arg6 : FVec F S4096x2048 .f32) : IVec S4096x3072 1 × IVec S4096x32 1 × IVec S32 1 × IVec S32 1 × IVec S1x2048 1 × IVec S4096x2048 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_v7 : FVec F S32 .f32 := Host.absf main_arg2
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  let main_v10 : FVec F S32 .f32 := Host.absf main_arg3
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_v13 : FVec F S1x2048 .f32 := Host.absf main_arg4
  let main_cst_3 : FVec F S_ .f32 := constant S_ .f32 0x7F800000#32
  let main_v14 : FVec F S1x2048 .f32 := broadcastInDim S1x2048 ![] bcast_S_S1x2048 main_cst_3
  let main_v15 : IVec S1x2048 1 := cmpf .olt main_v13 main_v14
  let main_v16 : FVec F S4096x2048 .f32 := Host.absf main_arg6
  let main_cst_4 : FVec F S_ .f32 := constant S_ .f32 0x7F800000#32
  let main_v17 : FVec F S4096x2048 .f32 := broadcastInDim S4096x2048 ![] bcast_S_S4096x2048 main_cst_4
  fn_part1 (F := F) main_v3 main_v6 main_v9 main_v12 main_v15 main_v16 main_v17
-- ==== Pre_rms_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bitsLt_bf16_f32 : FTy.bits .bf16 < FTy.bits .f32

variable [Facts]

def fn {F : FTy → Type} [FloatOps F] (main_arg0 : FVec F S4096x1024 .f32) (main_arg1 : FVec F S1024 .f32) (main_arg2 : FVec F S4096x1024 .bf16) (main_arg3 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := (extf .f32 · bitsLt_bf16_f32) main_arg2
  let main_v7 : FVec F S4096x1024 .f32 := Host.absf main_v6
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  (main_v2, main_v5, main_v9)
-- ==== Pre_swiglu_finite.lean ====
abbrev S4096x5632 : Shape := ⟨2, ![4096, 5632]⟩
abbrev S4096x2816 : Shape := ⟨2, ![4096, 2816]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S4096x2816 : S_.BroadcastsInDim S4096x2816 (![] : Fin 0 → Fin S4096x2816.rank)

variable [Facts]

def fn {F : FTy → Type} [FloatOps F] (main_arg0 : FVec F S4096x5632 .bf16) (main_arg1 : FVec F S4096x2816 .bf16) : IVec S4096x5632 1 × IVec S4096x2816 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  (main_v3, main_v7)
-- ==== Kernel.lean ====
abbrev S4096x3072 : Shape := ⟨2, ![4096, 3072]⟩
abbrev S4096x32 : Shape := ⟨2, ![4096, 32]⟩
abbrev S32 : Shape := ⟨1, ![32]⟩
abbrev S1x2048 : Shape := ⟨2, ![1, 2048]⟩
abbrev S4x32x512x128 : Shape := ⟨4, ![4, 32, 512, 128]⟩
abbrev S4096x2048 : Shape := ⟨2, ![4096, 2048]⟩
abbrev S32x4096 : Shape := ⟨2, ![32, 4096]⟩
abbrev S4x8x4096 : Shape := ⟨3, ![4, 8, 4096]⟩
abbrev S4x8x1 : Shape := ⟨3, ![4, 8, 1]⟩
abbrev S4096x512 : Shape := ⟨2, ![4096, 512]⟩
abbrev S4x16x128 : Shape := ⟨3, ![4, 16, 128]⟩
abbrev S128x512 : Shape := ⟨2, ![128, 512]⟩
abbrev S128x128 : Shape := ⟨2, ![128, 128]⟩
abbrev S1x8x128 : Shape := ⟨3, ![1, 8, 128]⟩
abbrev S1x8x1 : Shape := ⟨3, ![1, 8, 1]⟩
abbrev S1x512 : Shape := ⟨2, ![1, 512]⟩
abbrev S1x1x512x128 : Shape := ⟨4, ![1, 1, 512, 128]⟩
abbrev S1x16x128 : Shape := ⟨3, ![1, 16, 128]⟩
abbrev S512x128 : Shape := ⟨2, ![512, 128]⟩
abbrev S16x128 : Shape := ⟨2, ![16, 128]⟩
abbrev S8x128 : Shape := ⟨2, ![8, 128]⟩
abbrev S8x1 : Shape := ⟨2, ![8, 1]⟩
abbrev S1x128 : Shape := ⟨2, ![1, 128]⟩
abbrev S128 : Shape := ⟨1, ![128]⟩
abbrev S128x1 : Shape := ⟨2, ![128, 1]⟩
abbrev S1x1 : Shape := ⟨2, ![1, 1]⟩
abbrev S1 : Shape := ⟨1, ![1]⟩
abbrev S64x128 : Shape := ⟨2, ![64, 128]⟩
abbrev S64 : Shape := ⟨1, ![64]⟩
abbrev S64x1 : Shape := ⟨2, ![64, 1]⟩

abbrev nBuf : Space → Nat
  | .hbm => 17
  | .vmem => 33
  | .smem => 0
  | _ => 0

abbrev bufTy : (tb : Table) → Fin (tcTables nBuf tb) → BufTy
  | .hbm, ⟨0, _⟩ => ⟨S4096x3072, .bf16⟩
  | .hbm, ⟨1, _⟩ => ⟨S4096x32, .f32⟩
  | .hbm, ⟨2, _⟩ => ⟨S32, .f32⟩
  | .hbm, ⟨3, _⟩ => ⟨S32, .f32⟩
  | .hbm, ⟨4, _⟩ => ⟨S1x2048, .f32⟩
  | .hbm, ⟨5, _⟩ => ⟨S4x32x512x128, .f32⟩
  | .hbm, ⟨6, _⟩ => ⟨S4096x2048, .f32⟩
  | .hbm, ⟨7, _⟩ => ⟨S32x4096, .f32⟩
  | .hbm, ⟨8, _⟩ => ⟨S4x8x4096, .f32⟩
  | .hbm, ⟨9, _⟩ => ⟨S4x8x1, .f32⟩
  | .hbm, ⟨10, _⟩ => ⟨S4x8x1, .f32⟩
  | .hbm, ⟨11, _⟩ => ⟨S4096x2048, .bf16⟩
  | .hbm, ⟨12, _⟩ => ⟨S4096x512, .bf16⟩
  | .hbm, ⟨13, _⟩ => ⟨S4096x512, .bf16⟩
  | .hbm, ⟨14, _⟩ => ⟨S4x8x4096, .f32⟩
  | .hbm, ⟨15, _⟩ => ⟨S4x16x128, .f32⟩
  | .hbm, ⟨16, _⟩ => ⟨S1x2048, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S1x8x128, .f32⟩
  | .local _ .vmem, ⟨7, _⟩ => ⟨S1x8x128, .f32⟩
  | .local _ .vmem, ⟨8, _⟩ => ⟨S1x8x1, .f32⟩
  | .local _ .vmem, ⟨9, _⟩ => ⟨S1x8x1, .f32⟩
  | .local _ .vmem, ⟨10, _⟩ => ⟨S1x8x1, .f32⟩
  | .local _ .vmem, ⟨11, _⟩ => ⟨S1x8x1, .f32⟩
  | .local _ .vmem, ⟨12, _⟩ => ⟨S1x512, .f32⟩
  | .local _ .vmem, ⟨13, _⟩ => ⟨S1x512, .f32⟩
  | .local _ .vmem, ⟨14, _⟩ => ⟨S1x1x512x128, .f32⟩
  | .local _ .vmem, ⟨15, _⟩ => ⟨S1x1x512x128, .f32⟩
  | .local _ .vmem, ⟨16, _⟩ => ⟨S128x512, .f32⟩
  | .local _ .vmem, ⟨17, _⟩ => ⟨S128x512, .f32⟩
  | .local _ .vmem, ⟨18, _⟩ => ⟨S128x512, .bf16⟩
  | .local _ .vmem, ⟨19, _⟩ => ⟨S128x512, .bf16⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S128x128, .bf16⟩
  | .local _ .vmem, ⟨24, _⟩ => ⟨S1x8x128, .f32⟩
  | .local _ .vmem, ⟨25, _⟩ => ⟨S1x8x128, .f32⟩
  | .local _ .vmem, ⟨26, _⟩ => ⟨S1x16x128, .f32⟩
  | .local _ .vmem, ⟨27, _⟩ => ⟨S1x16x128, .f32⟩
  | .local _ .vmem, ⟨28, _⟩ => ⟨S1x512, .f32⟩
  | .local _ .vmem, ⟨29, _⟩ => ⟨S1x512, .f32⟩
  | .local _ .vmem, ⟨30, _⟩ => ⟨S512x128, .f32⟩
  | .local _ .vmem, ⟨31, _⟩ => ⟨S16x128, .f32⟩
  | .local _ .vmem, ⟨32, _⟩ => ⟨S16x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c20_i32 : BitVec 32 := 20#32
  let v1 : BitVec 32 := Scalar.addi c20_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4096x3072 : Shape := ⟨2, ![4096, 3072]⟩
abbrev S4096x32 : Shape := ⟨2, ![4096, 32]⟩
abbrev S32 : Shape := ⟨1, ![32]⟩
abbrev S1x2048 : Shape := ⟨2, ![1, 2048]⟩
abbrev S4x32x512x128 : Shape := ⟨4, ![4, 32, 512, 128]⟩
abbrev S4096x2048 : Shape := ⟨2, ![4096, 2048]⟩
abbrev S4096x512 : Shape := ⟨2, ![4096, 512]⟩
abbrev S_ : Shape := ⟨0, ![]⟩
abbrev S4096x32x64 : Shape := ⟨3, ![4096, 32, 64]⟩
abbrev S4096x4x128 : Shape := ⟨3, ![4096, 4, 128]⟩
abbrev S1x32 : Shape := ⟨2, ![1, 32]⟩
abbrev S4096x32x1 : Shape := ⟨3, ![4096, 32, 1]⟩
abbrev S32x128x4x8x64 : Shape := ⟨5, ![32, 128, 4, 8, 64]⟩
abbrev S32x128x4x8 : Shape := ⟨4, ![32, 128, 4, 8]⟩
abbrev S32x4x8x128 : Shape := ⟨4, ![32, 4, 8, 128]⟩
abbrev S32x128x4x128 : Shape := ⟨4, ![32, 128, 4, 128]⟩
abbrev S128x128 : Shape := ⟨2, ![128, 128]⟩
abbrev S32x4x8x128x1 : Shape := ⟨5, ![32, 4, 8, 128, 1]⟩
abbrev S32x4x8x1x128 : Shape := ⟨5, ![32, 4, 8, 1, 128]⟩
abbrev S32x4x8x128x128 : Shape := ⟨5, ![32, 4, 8, 128, 128]⟩
abbrev S32x4x128x128 : Shape := ⟨4, ![32, 4, 128, 128]⟩
abbrev S32x4x1x128x128 : Shape := ⟨5, ![32, 4, 1, 128, 128]⟩
abbrev S32x4x8x64x128 : Shape := ⟨5, ![32, 4, 8, 64, 128]⟩
abbrev S32x4x8x1 : Shape := ⟨4, ![32, 4, 8, 1]⟩
abbrev S32x128x4x8x1 : Shape := ⟨5, ![32, 128, 4, 8, 1]⟩
abbrev S32x128x4x512 : Shape := ⟨4, ![32, 128, 4, 512]⟩
abbrev S32x4x512x128 : Shape := ⟨4, ![32, 4, 512, 128]⟩
abbrev S32x4x8 : Shape := ⟨3, ![32, 4, 8]⟩
abbrev S32x4x8x1x1 : Shape := ⟨5, ![32, 4, 8, 1, 1]⟩
abbrev S1x4x8x64x128 : Shape := ⟨5, ![1, 4, 8, 64, 128]⟩
abbrev S1x4x8x1x1 : Shape := ⟨5, ![1, 4, 8, 1, 1]⟩
abbrev S16x4x8x64x128 : Shape := ⟨5, ![16, 4, 8, 64, 128]⟩
abbrev S32x64 : Shape := ⟨2, ![32, 64]⟩
abbrev S1x32x64 : Shape := ⟨3, ![1, 32, 64]⟩

abbrev nBuf : Space → Nat
  | .hbm => 494
  | .vmem => 0
  | .smem => 0
  | _ => 0

abbrev hbmTy0_0 (i : Nat) : BufTy := match i % 128 with
  | 0 => ⟨S4096x3072, .bf16⟩
  | 1 => ⟨S4096x32, .f32⟩
  | 2 => ⟨S32, .f32⟩
  | 3 => ⟨S32, .f32⟩
  | 4 => ⟨S1x2048, .f32⟩
  | 5 => ⟨S4x32x512x128, .f32⟩
  | 6 => ⟨S4096x2048, .f32⟩
  | 7 => ⟨S4096x2048, .bf16⟩
  | 8 => ⟨S4096x512, .bf16⟩
  | 9 => ⟨S4096x2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S4096x2048, .f32⟩
  | 22 => ⟨S4096x2048, .f32⟩
  | 23 => ⟨S4096x32x64, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S4096x512, .f32⟩
  | 37 => ⟨S4096x512, .f32⟩
  | 38 => ⟨S4096x4x128, .f32⟩
  | 39 => ⟨S4096x512, .bf16⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x4x128, .f32⟩
  | 51 => ⟨S1x32, .f32⟩
  | 52 => ⟨S4096x32, .f32⟩
  | 53 => ⟨S4096x32, .f32⟩
  | 54 => ⟨S_, .f32⟩
  | 55 => ⟨S4096x32, .f32⟩
  | 56 => ⟨S4096x32, .f32⟩
  | 57 => ⟨S4096x32, .f32⟩
  | 58 => ⟨S4096x32, .f32⟩
  | 59 => ⟨S4096x32, .i1⟩
  | 60 => ⟨S4096x32, .f32⟩
  | 61 => ⟨S4096x32, .f32⟩
  | 62 => ⟨S4096x32, .f32⟩
  | 63 => ⟨S4096x32, .f32⟩
  | 64 => ⟨S4096x32, .f32⟩
  | 65 => ⟨S4096x32, .f32⟩
  | 66 => ⟨S4096x32, .f32⟩
  | 67 => ⟨S4096x32, .f32⟩
  | 68 => ⟨S32, .f32⟩
  | 69 => ⟨S32, .f32⟩
  | 70 => ⟨S4096x32x1, .f32⟩
  | 71 => ⟨S4096x32x64, .f32⟩
  | 72 => ⟨S4096x32x64, .f32⟩
  | 73 => ⟨S32x128x4x8x64, .f32⟩
  | 74 => ⟨S1x32, .f32⟩
  | 75 => ⟨S4096x32, .f32⟩
  | 76 => ⟨S4096x32, .f32⟩
  | 77 => ⟨S32x128x4x8, .f32⟩
  | 78 => ⟨S32x4x8x128, .f32⟩
  | 79 => ⟨S_, .f32⟩
  | 80 => ⟨S_, .f32⟩
  | 81 => ⟨S32x4x8x128, .f32⟩
  | 82 => ⟨S32x128x4x128, .f32⟩
  | 83 => ⟨S32x128x4x128, .f32⟩
  | 84 => ⟨S_, .i1⟩
  | 85 => ⟨S128x128, .i1⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .i1⟩
  | 93 => ⟨S128x128, .i1⟩
  | 94 => ⟨S128x128, .i1⟩
  | 95 => ⟨S32x4x8x128x1, .f32⟩
  | 96 => ⟨S32x4x8x1x128, .f32⟩
  | 97 => ⟨S32x4x8x128x128, .f32⟩
  | 98 => ⟨S32x4x8x128x128, .f32⟩
  | 99 => ⟨S32x4x8x128x128, .f32⟩
  | 100 => ⟨S_, .f32⟩
  | 101 => ⟨S_, .f32⟩
  | 102 => ⟨S32x4x8x128x128, .i1⟩
  | 103 => ⟨S32x4x8x128x128, .f32⟩
  | 104 => ⟨S32x4x8x128x128, .f32⟩
  | 105 => ⟨S32x4x8x128x128, .f32⟩
  | 106 => ⟨S32x4x128x128, .f32⟩
  | 107 => ⟨S32x4x1x128x128, .f32⟩
  | 108 => ⟨S32x4x8x128x128, .f32⟩
  | 109 => ⟨S32x4x8x128x128, .f32⟩
  | 110 => ⟨S32x4x8x64x128, .f32⟩
  | 111 => ⟨S32x128x4x8x64, .f32⟩
  | 112 => ⟨S32x4x8x1, .f32⟩
  | 113 => ⟨S32x4x8x128, .f32⟩
  | 114 => ⟨S32x4x8x128, .f32⟩
  | 115 => ⟨S32x4x8x128, .f32⟩
  | 116 => ⟨S32x128x4x8, .f32⟩
  | 117 => ⟨S32x128x4x8x1, .f32⟩
  | 118 => ⟨S32x128x4x8x64, .f32⟩
  | 119 => ⟨S32x128x4x8x64, .f32⟩
  | 120 => ⟨S32x128x4x512, .f32⟩
  | 121 => ⟨S32x4x512x128, .f32⟩
  | 122 => ⟨S32x4x8x64x128, .f32⟩
  | 123 => ⟨S32x4x8x1, .f32⟩
  | 124 => ⟨S32x4x8, .f32⟩
  | 125 => ⟨S32x4x8, .f32⟩
  | 126 => ⟨S32x4x8x1x1, .f32⟩
  | 127 => ⟨S_, .f32⟩
  | _ => ⟨S4096x3072, .bf16⟩

abbrev hbmTy0_1 (i : Nat) : BufTy := match i % 128 with
  | 0 => ⟨S1x4x8x64x128, .f32⟩
  | 1 => ⟨S1x4x8x64x128, .f32⟩
  | 2 => ⟨S1x4x8x64x128, .f32⟩
  | 3 => ⟨S1x4x8x64x128, .f32⟩
  | 4 => ⟨S1x4x8x64x128, .f32⟩
  | 5 => ⟨S1x4x8x64x128, .f32⟩
  | 6 => ⟨S1x4x8x64x128, .f32⟩
  | 7 => ⟨S1x4x8x64x128, .f32⟩
  | 8 => ⟨S1x4x8x64x128, .f32⟩
  | 9 => ⟨S1x4x8x64x128, .f32⟩
  | 10 => ⟨S1x4x8x64x128, .f32⟩
  | 11 => ⟨S1x4x8x64x128, .f32⟩
  | 12 => ⟨S1x4x8x64x128, .f32⟩
  | 13 => ⟨S1x4x8x64x128, .f32⟩
  | 14 => ⟨S1x4x8x64x128, .f32⟩
  | 15 => ⟨S1x4x8x64x128, .f32⟩
  | 16 => ⟨S1x4x8x64x128, .f32⟩
  | 17 => ⟨S1x4x8x64x128, .f32⟩
  | 18 => ⟨S1x4x8x64x128, .f32⟩
  | 19 => ⟨S1x4x8x64x128, .f32⟩
  | 20 => ⟨S1x4x8x64x128, .f32⟩
  | 21 => ⟨S1x4x8x64x128, .f32⟩
  | 22 => ⟨S1x4x8x64x128, .f32⟩
  | 23 => ⟨S1x4x8x64x128, .f32⟩
  | 24 => ⟨S1x4x8x64x128, .f32⟩
  | 25 => ⟨S1x4x8x64x128, .f32⟩
  | 26 => ⟨S1x4x8x64x128, .f32⟩
  | 27 => ⟨S1x4x8x64x128, .f32⟩
  | 28 => ⟨S1x4x8x64x128, .f32⟩
  | 29 => ⟨S1x4x8x64x128, .f32⟩
  | 30 => ⟨S1x4x8x64x128, .f32⟩
  | 31 => ⟨S1x4x8x64x128, .f32⟩
  | 32 => ⟨S1x4x8x64x128, .f32⟩
  | 33 => ⟨S1x4x8x1x1, .f32⟩
  | 34 => ⟨S1x4x8x1x1, .f32⟩
  | 35 => ⟨S1x4x8x1x1, .f32⟩
  | 36 => ⟨S1x4x8x1x1, .f32⟩
  | 37 => ⟨S1x4x8x1x1, .f32⟩
  | 38 => ⟨S1x4x8x1x1, .f32⟩
  | 39 => ⟨S1x4x8x1x1, .f32⟩
  | 40 => ⟨S1x4x8x1x1, .f32⟩
  | 41 => ⟨S1x4x8x1x1, .f32⟩
  | 42 => ⟨S1x4x8x1x1, .f32⟩
  | 43 => ⟨S1x4x8x1x1, .f32⟩
  | 44 => ⟨S1x4x8x1x1, .f32⟩
  | 45 => ⟨S1x4x8x1x1, .f32⟩
  | 46 => ⟨S1x4x8x1x1, .f32⟩
  | 47 => ⟨S1x4x8x1x1, .f32⟩
  | 48 => ⟨S1x4x8x1x1, .f32⟩
  | 49 => ⟨S1x4x8x1x1, .f32⟩
  | 50 => ⟨S1x4x8x1x1, .f32⟩
  | 51 => ⟨S1x4x8x1x1, .f32⟩
  | 52 => ⟨S1x4x8x1x1, .f32⟩
  | 53 => ⟨S1x4x8x1x1, .f32⟩
  | 54 => ⟨S1x4x8x1x1, .f32⟩
  | 55 => ⟨S1x4x8x1x1, .f32⟩
  | 56 => ⟨S1x4x8x1x1, .f32⟩
  | 57 => ⟨S1x4x8x1x1, .f32⟩
  | 58 => ⟨S1x4x8x1x1, .f32⟩
  | 59 => ⟨S1x4x8x1x1, .f32⟩
  | 60 => ⟨S1x4x8x1x1, .f32⟩
  | 61 => ⟨S1x4x8x1x1, .f32⟩
  | 62 => ⟨S1x4x8x1x1, .f32⟩
  | 63 => ⟨S1x4x8x1x1, .f32⟩
  | 64 => ⟨S1x4x8x1x1, .f32⟩
  | 65 => ⟨S1x4x8x64x128, .f32⟩
  | 66 => ⟨S1x4x8x64x128, .f32⟩
  | 67 => ⟨S1x4x8x64x128, .f32⟩
  | 68 => ⟨S1x4x8x64x128, .f32⟩
  | 69 => ⟨S1x4x8x64x128, .f32⟩
  | 70 => ⟨S1x4x8x64x128, .f32⟩
  | 71 => ⟨S1x4x8x64x128, .f32⟩
  | 72 => ⟨S1x4x8x64x128, .f32⟩
  | 73 => ⟨S1x4x8x64x128, .f32⟩
  | 74 => ⟨S1x4x8x64x128, .f32⟩
  | 75 => ⟨S1x4x8x64x128, .f32⟩
  | 76 => ⟨S1x4x8x64x128, .f32⟩
  | 77 => ⟨S1x4x8x64x128, .f32⟩
  | 78 => ⟨S1x4x8x64x128, .f32⟩
  | 79 => ⟨S1x4x8x64x128, .f32⟩
  | 80 => ⟨S1x4x8x64x128, .f32⟩
  | 81 => ⟨S1x4x8x64x128, .f32⟩
  | 82 => ⟨S1x4x8x64x128, .f32⟩
  | 83 => ⟨S1x4x8x64x128, .f32⟩
  | 84 => ⟨S1x4x8x64x128, .f32⟩
  | 85 => ⟨S1x4x8x64x128, .f32⟩
  | 86 => ⟨S1x4x8x64x128, .f32⟩
  | 87 => ⟨S1x4x8x64x128, .f32⟩
  | 88 => ⟨S1x4x8x64x128, .f32⟩
  | 89 => ⟨S1x4x8x64x128, .f32⟩
  | 90 => ⟨S1x4x8x64x128, .f32⟩
  | 91 => ⟨S1x4x8x64x128, .f32⟩
  | 92 => ⟨S1x4x8x64x128, .f32⟩
  | 93 => ⟨S1x4x8x64x128, .f32⟩
  | 94 => ⟨S1x4x8x64x128, .f32⟩
  | 95 => ⟨S1x4x8x64x128, .f32⟩
  | 96 => ⟨S1x4x8x64x128, .f32⟩
  | 97 => ⟨S1x4x8x64x128, .f32⟩
  | 98 => ⟨S1x4x8x64x128, .f32⟩
  | 99 => ⟨S1x4x8x64x128, .f32⟩
  | 100 => ⟨S1x4x8x64x128, .f32⟩
  | 101 => ⟨S1x4x8x64x128, .f32⟩
  | 102 => ⟨S1x4x8x64x128, .f32⟩
  | 103 => ⟨S1x4x8x64x128, .f32⟩
  | 104 => ⟨S1x4x8x64x128, .f32⟩
  | 105 => ⟨S1x4x8x64x128, .f32⟩
  | 106 => ⟨S1x4x8x64x128, .f32⟩
  | 107 => ⟨S1x4x8x64x128, .f32⟩
  | 108 => ⟨S1x4x8x64x128, .f32⟩
  | 109 => ⟨S1x4x8x64x128, .f32⟩
  | 110 => ⟨S1x4x8x64x128, .f32⟩
  | 111 => ⟨S1x4x8x64x128, .f32⟩
  | 112 => ⟨S1x4x8x64x128, .f32⟩
  | 113 => ⟨S1x4x8x64x128, .f32⟩
  | 114 => ⟨S1x4x8x64x128, .f32⟩
  | 115 => ⟨S1x4x8x64x128, .f32⟩
  | 116 => ⟨S1x4x8x64x128, .f32⟩
  | 117 => ⟨S1x4x8x64x128, .f32⟩
  | 118 => ⟨S1x4x8x64x128, .f32⟩
  | 119 => ⟨S1x4x8x64x128, .f32⟩
  | 120 => ⟨S1x4x8x64x128, .f32⟩
  | 121 => ⟨S1x4x8x64x128, .f32⟩
  | 122 => ⟨S1x4x8x64x128, .f32⟩
  | 123 => ⟨S1x4x8x64x128, .f32⟩
  | 124 => ⟨S1x4x8x64x128, .f32⟩
  | 125 => ⟨S1x4x8x64x128, .f32⟩
  | 126 => ⟨S1x4x8x64x128, .f32⟩
  | 127 => ⟨S1x4x8x64x128, .f32⟩
  | _ => ⟨S4096x3072, .bf16⟩

abbrev hbmTy0_2 (i : Nat) : BufTy := match i % 128 with
  | 0 => ⟨S1x4x8x64x128, .f32⟩
  | 1 => ⟨S1x4x8x64x128, .f32⟩
  | 2 => ⟨S1x4x8x64x128, .f32⟩
  | 3 => ⟨S1x4x8x64x128, .f32⟩
  | 4 => ⟨S1x4x8x64x128, .f32⟩
  | 5 => ⟨S1x4x8x64x128, .f32⟩
  | 6 => ⟨S1x4x8x64x128, .f32⟩
  | 7 => ⟨S1x4x8x64x128, .f32⟩
  | 8 => ⟨S1x4x8x64x128, .f32⟩
  | 9 => ⟨S1x4x8x64x128, .f32⟩
  | 10 => ⟨S1x4x8x64x128, .f32⟩
  | 11 => ⟨S1x4x8x64x128, .f32⟩
  | 12 => ⟨S1x4x8x64x128, .f32⟩
  | 13 => ⟨S1x4x8x64x128, .f32⟩
  | 14 => ⟨S1x4x8x64x128, .f32⟩
  | 15 => ⟨S1x4x8x64x128, .f32⟩
  | 16 => ⟨S1x4x8x64x128, .f32⟩
  | 17 => ⟨S1x4x8x64x128, .f32⟩
  | 18 => ⟨S1x4x8x64x128, .f32⟩
  | 19 => ⟨S1x4x8x64x128, .f32⟩
  | 20 => ⟨S1x4x8x64x128, .f32⟩
  | 21 => ⟨S1x4x8x64x128, .f32⟩
  | 22 => ⟨S1x4x8x64x128, .f32⟩
  | 23 => ⟨S1x4x8x64x128, .f32⟩
  | 24 => ⟨S1x4x8x64x128, .f32⟩
  | 25 => ⟨S1x4x8x64x128, .f32⟩
  | 26 => ⟨S1x4x8x64x128, .f32⟩
  | 27 => ⟨S1x4x8x64x128, .f32⟩
  | 28 => ⟨S1x4x8x64x128, .f32⟩
  | 29 => ⟨S1x4x8x64x128, .f32⟩
  | 30 => ⟨S1x4x8x64x128, .f32⟩
  | 31 => ⟨S1x4x8x64x128, .f32⟩
  | 32 => ⟨S1x4x8x64x128, .f32⟩
  | 33 => ⟨S16x4x8x64x128, .f32⟩
  | 34 => ⟨S16x4x8x64x128, .f32⟩
  | 35 => ⟨S32x4x8x64x128, .f32⟩
  | 36 => ⟨S_, .f32⟩
  | 37 => ⟨S1x4x8x64x128, .f32⟩
  | 38 => ⟨S32x4x512x128, .f32⟩
  | 39 => ⟨S32x4x512x128, .f32⟩
  | 40 => ⟨S32x128x4x512, .f32⟩
  | 41 => ⟨S32x128x4x8x64, .f32⟩
  | 42 => ⟨S32x4x8x128, .f32⟩
  | 43 => ⟨S32x128x4x8, .f32⟩
  | 44 => ⟨S32x128x4x8x1, .f32⟩
  | 45 => ⟨S32x128x4x8x64, .f32⟩
  | 46 => ⟨S32x128x4x8x64, .f32⟩
  | 47 => ⟨S32x128x4x8x64, .f32⟩
  | 48 => ⟨S4096x32x64, .f32⟩
  | 49 => ⟨S32x64, .f32⟩
  | 50 => ⟨S1x32x64, .f32⟩
  | 51 => ⟨S4096x32x64, .f32⟩
  | 52 => ⟨S4096x32x64, .f32⟩
  | 53 => ⟨S4096x32x64, .f32⟩
  | 54 => ⟨S4096x2048, .f32⟩
  | 55 => ⟨S4096x32x64, .f32⟩
  | 56 => ⟨S4096x32x64, .f32⟩
  | 57 => ⟨S_, .f32⟩
  | 58 => ⟨S32x64, .f32⟩
  | 59 => ⟨S1x32x64, .f32⟩
  | 60 => ⟨S4096x32x64, .f32⟩
  | 61 => ⟨S4096x32x64, .f32⟩
  | 62 => ⟨S_, .f32⟩
  | 63 => ⟨S32x64, .f32⟩
  | 64 => ⟨S1x2048, .f32⟩
  | 65 => ⟨S32x128x4x8x64, .f32⟩
  | 66 => ⟨S32x128x4x8x64, .f32⟩
  | 67 => ⟨S32x128x4x8x64, .f32⟩
  | 68 => ⟨S32x128x4x512, .f32⟩
  | 69 => ⟨S32x4x512x128, .f32⟩
  | 70 => ⟨S32x4x512x128, .f32⟩
  | 71 => ⟨S32x4x8x64x128, .f32⟩
  | 72 => ⟨S1x4x8x64x128, .f32⟩
  | 73 => ⟨S1x4x8x64x128, .f32⟩
  | 74 => ⟨S1x4x8x64x128, .f32⟩
  | 75 => ⟨S1x4x8x64x128, .f32⟩
  | 76 => ⟨S1x4x8x64x128, .f32⟩
  | 77 => ⟨S1x4x8x64x128, .f32⟩
  | 78 => ⟨S1x4x8x64x128, .f32⟩
  | 79 => ⟨S1x4x8x64x128, .f32⟩
  | 80 => ⟨S1x4x8x64x128, .f32⟩
  | 81 => ⟨S1x4x8x64x128, .f32⟩
  | 82 => ⟨S1x4x8x64x128, .f32⟩
  | 83 => ⟨S1x4x8x64x128, .f32⟩
  | 84 => ⟨S1x4x8x64x128, .f32⟩
  | 85 => ⟨S1x4x8x64x128, .f32⟩
  | 86 => ⟨S1x4x8x64x128, .f32⟩
  | 87 => ⟨S1x4x8x64x128, .f32⟩
  | 88 => ⟨S1x4x8x64x128, .f32⟩
  | 89 => ⟨S1x4x8x64x128, .f32⟩
  | 90 => ⟨S1x4x8x64x128, .f32⟩
  | 91 => ⟨S1x4x8x64x128, .f32⟩
  | 92 => ⟨S1x4x8x64x128, .f32⟩
  | 93 => ⟨S1x4x8x64x128, .f32⟩
  | 94 => ⟨S1x4x8x64x128, .f32⟩
  | 95 => ⟨S1x4x8x64x128, .f32⟩
  | 96 => ⟨S1x4x8x64x128, .f32⟩
  | 97 => ⟨S1x4x8x64x128, .f32⟩
  | 98 => ⟨S1x4x8x64x128, .f32⟩
  | 99 => ⟨S1x4x8x64x128, .f32⟩
  | 100 => ⟨S1x4x8x64x128, .f32⟩
  | 101 => ⟨S1x4x8x64x128, .f32⟩
  | 102 => ⟨S1x4x8x64x128, .f32⟩
  | 103 => ⟨S1x4x8x64x128, .f32⟩
  | 104 => ⟨S1x4x8x64x128, .f32⟩
  | 105 => ⟨S1x4x8x64x128, .f32⟩
  | 106 => ⟨S1x4x8x64x128, .f32⟩
  | 107 => ⟨S1x4x8x64x128, .f32⟩
  | 108 => ⟨S1x4x8x64x128, .f32⟩
  | 109 => ⟨S1x4x8x64x128, .f32⟩
  | 110 => ⟨S1x4x8x64x128, .f32⟩
  | 111 => ⟨S1x4x8x64x128, .f32⟩
  | 112 => ⟨S1x4x8x64x128, .f32⟩
  | 113 => ⟨S1x4x8x64x128, .f32⟩
  | 114 => ⟨S1x4x8x64x128, .f32⟩
  | 115 => ⟨S1x4x8x64x128, .f32⟩
  | 116 => ⟨S1x4x8x64x128, .f32⟩
  | 117 => ⟨S1x4x8x64x128, .f32⟩
  | 118 => ⟨S1x4x8x64x128, .f32⟩
  | 119 => ⟨S1x4x8x64x128, .f32⟩
  | 120 => ⟨S1x4x8x64x128, .f32⟩
  | 121 => ⟨S1x4x8x64x128, .f32⟩
  | 122 => ⟨S1x4x8x64x128, .f32⟩
  | 123 => ⟨S1x4x8x64x128, .f32⟩
  | 124 => ⟨S1x4x8x64x128, .f32⟩
  | 125 => ⟨S1x4x8x64x128, .f32⟩
  | 126 => ⟨S1x4x8x64x128, .f32⟩
  | 127 => ⟨S1x4x8x64x128, .f32⟩
  | _ => ⟨S4096x3072, .bf16⟩

abbrev hbmTy0_3 (i : Nat) : BufTy := match i % 128 with
  | 0 => ⟨S1x4x8x64x128, .f32⟩
  | 1 => ⟨S1x4x8x64x128, .f32⟩
  | 2 => ⟨S1x4x8x64x128, .f32⟩
  | 3 => ⟨S1x4x8x64x128, .f32⟩
  | 4 => ⟨S1x4x8x64x128, .f32⟩
  | 5 => ⟨S1x4x8x64x128, .f32⟩
  | 6 => ⟨S1x4x8x64x128, .f32⟩
  | 7 => ⟨S1x4x8x64x128, .f32⟩
  | 8 => ⟨S1x4x8x64x128, .f32⟩
  | 9 => ⟨S1x4x8x64x128, .f32⟩
  | 10 => ⟨S1x4x8x64x128, .f32⟩
  | 11 => ⟨S1x4x8x64x128, .f32⟩
  | 12 => ⟨S1x4x8x64x128, .f32⟩
  | 13 => ⟨S1x4x8x64x128, .f32⟩
  | 14 => ⟨S1x4x8x64x128, .f32⟩
  | 15 => ⟨S1x4x8x64x128, .f32⟩
  | 16 => ⟨S1x4x8x64x128, .f32⟩
  | 17 => ⟨S1x4x8x64x128, .f32⟩
  | 18 => ⟨S1x4x8x64x128, .f32⟩
  | 19 => ⟨S1x4x8x64x128, .f32⟩
  | 20 => ⟨S1x4x8x64x128, .f32⟩
  | 21 => ⟨S1x4x8x64x128, .f32⟩
  | 22 => ⟨S1x4x8x64x128, .f32⟩
  | 23 => ⟨S1x4x8x64x128, .f32⟩
  | 24 => ⟨S1x4x8x64x128, .f32⟩
  | 25 => ⟨S1x4x8x64x128, .f32⟩
  | 26 => ⟨S1x4x8x64x128, .f32⟩
  | 27 => ⟨S1x4x8x64x128, .f32⟩
  | 28 => ⟨S1x4x8x64x128, .f32⟩
  | 29 => ⟨S1x4x8x64x128, .f32⟩
  | 30 => ⟨S1x4x8x64x128, .f32⟩
  | 31 => ⟨S1x4x8x64x128, .f32⟩
  | 32 => ⟨S1x4x8x64x128, .f32⟩
  | 33 => ⟨S1x4x8x64x128, .f32⟩
  | 34 => ⟨S1x4x8x64x128, .f32⟩
  | 35 => ⟨S1x4x8x64x128, .f32⟩
  | 36 => ⟨S1x4x8x64x128, .f32⟩
  | 37 => ⟨S1x4x8x64x128, .f32⟩
  | 38 => ⟨S1x4x8x64x128, .f32⟩
  | 39 => ⟨S1x4x8x64x128, .f32⟩
  | 40 => ⟨S1x4x8x64x128, .f32⟩
  | 41 => ⟨S1x4x8x64x128, .f32⟩
  | 42 => ⟨S1x4x8x64x128, .f32⟩
  | 43 => ⟨S1x4x8x64x128, .f32⟩
  | 44 => ⟨S1x4x8x64x128, .f32⟩
  | 45 => ⟨S1x4x8x64x128, .f32⟩
  | 46 => ⟨S1x4x8x64x128, .f32⟩
  | 47 => ⟨S1x4x8x64x128, .f32⟩
  | 48 => ⟨S1x4x8x64x128, .f32⟩
  | 49 => ⟨S1x4x8x64x128, .f32⟩
  | 50 => ⟨S1x4x8x64x128, .f32⟩
  | 51 => ⟨S1x4x8x64x128, .f32⟩
  | 52 => ⟨S1x4x8x64x128, .f32⟩
  | 53 => ⟨S1x4x8x64x128, .f32⟩
  | 54 => ⟨S1x4x8x64x128, .f32⟩
  | 55 => ⟨S1x4x8x64x128, .f32⟩
  | 56 => ⟨S1x4x8x64x128, .f32⟩
  | 57 => ⟨S1x4x8x64x128, .f32⟩
  | 58 => ⟨S1x4x8x64x128, .f32⟩
  | 59 => ⟨S1x4x8x64x128, .f32⟩
  | 60 => ⟨S1x4x8x64x128, .f32⟩
  | 61 => ⟨S1x4x8x64x128, .f32⟩
  | 62 => ⟨S1x4x8x64x128, .f32⟩
  | 63 => ⟨S1x4x8x64x128, .f32⟩
  | 64 => ⟨S1x4x8x64x128, .f32⟩
  | 65 => ⟨S1x4x8x64x128, .f32⟩
  | 66 => ⟨S_, .f32⟩
  | 67 => ⟨S1x4x8x64x128, .f32⟩
  | 68 => ⟨S16x4x8x64x128, .f32⟩
  | 69 => ⟨S16x4x8x64x128, .f32⟩
  | 70 => ⟨S32x4x8x64x128, .f32⟩
  | 71 => ⟨S32x4x512x128, .f32⟩
  | 72 => ⟨S32x4x128x128, .f32⟩
  | 73 => ⟨S32x128x4x128, .f32⟩
  | 74 => ⟨S32x4x512x128, .f32⟩
  | 75 => ⟨S32x128x4x512, .f32⟩
  | 76 => ⟨S32x128x4x8x64, .f32⟩
  | 77 => ⟨S32x128x4x8x64, .f32⟩
  | 78 => ⟨S32x128x4x8x64, .f32⟩
  | 79 => ⟨S32x4x8x64x128, .f32⟩
  | 80 => ⟨S32x4x8x128x128, .f32⟩
  | 81 => ⟨S32x4x8x64x128, .f32⟩
  | 82 => ⟨S32x128x4x8x64, .f32⟩
  | 83 => ⟨S32x128x4x8x64, .f32⟩
  | 84 => ⟨S32x4x8x128x128, .f32⟩
  | 85 => ⟨S_, .f32⟩
  | 86 => ⟨S32x4x128x128, .f32⟩
  | 87 => ⟨S32x4x1x128x128, .f32⟩
  | 88 => ⟨S_, .f32⟩
  | 89 => ⟨S32x4x128x128, .f32⟩
  | 90 => ⟨S32x4x128x128, .f32⟩
  | 91 => ⟨S32x128x4x128, .f32⟩
  | 92 => ⟨S32x128x4x128, .f32⟩
  | 93 => ⟨S4096x4x128, .f32⟩
  | 94 => ⟨S4096x32x64, .f32⟩
  | 95 => ⟨S4096x32x64, .f32⟩
  | 96 => ⟨S4096x32x64, .f32⟩
  | 97 => ⟨S4096x32x64, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .bf16⟩
  | 104 => ⟨S4096x2048, .f32⟩
  | 105 => ⟨S4096x2048, .f32⟩
  | 106 => ⟨S4096x2048, .f32⟩
  | 107 => ⟨S4096x2048, .f32⟩
  | 108 => ⟨S4096x2048, .f32⟩
  | 109 => ⟨S4096x2048, .bf16⟩
  | _ => ⟨S4096x3072, .bf16⟩

abbrev hbmTy (i : Nat) : BufTy := match i / 128 with
  | 0 => hbmTy0_0 i
  | 1 => hbmTy0_1 i
  | 2 => hbmTy0_2 i
  | 3 => hbmTy0_3 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v3_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v3_1 : Ref sig .tc := ⟨.hbm, 21, rfl⟩
abbrev main_v3_0 : Ref sig .tc := ⟨.hbm, 22, rfl⟩
abbrev main_v4 : Ref sig .tc := ⟨.hbm, 23, rfl⟩
abbrev main_v5 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_v6_2 : Ref sig .tc := ⟨.hbm, 32, rfl⟩
abbrev main_call1_cst_1 : Ref sig .tc := ⟨.hbm, 33, rfl⟩
abbrev main_call1_v6 : Ref sig .tc := ⟨.hbm, 34, rfl⟩
abbrev main_call1_v7 : Ref sig .tc := ⟨.hbm, 35, rfl⟩
abbrev main_v6_1 : Ref sig .tc := ⟨.hbm, 36, rfl⟩
abbrev main_v6_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_call4_call0_cst : Ref sig .tc := ⟨.hbm, 79, rfl⟩
abbrev main_call4_call0_v0 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c : Ref sig .tc := ⟨.hbm, 84, rfl⟩
abbrev main_v30 : Ref sig .tc := ⟨.hbm, 85, rfl⟩
abbrev main_call5_v0 : Ref sig .tc := ⟨.hbm, 86, rfl⟩
abbrev main_call5_c : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_c_0 : Ref sig .tc := ⟨.hbm, 92, rfl⟩
abbrev main_call5_v5 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_0 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_1 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_cst_2 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_cst_3 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_v340 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_v344 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_v364 : Ref sig .tc := ⟨.hbm, 435, rfl⟩
abbrev main_v365 : Ref sig .tc := ⟨.hbm, 436, rfl⟩
abbrev main_v366 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_v378 : Ref sig .tc := ⟨.hbm, 449, rfl⟩
abbrev main_cst_4 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_v391 : Ref sig .tc := ⟨.hbm, 463, rfl⟩
abbrev main_v392 : Ref sig .tc := ⟨.hbm, 464, rfl⟩
abbrev main_v393 : Ref sig .tc := ⟨.hbm, 465, rfl⟩
abbrev main_v394 : Ref sig .tc := ⟨.hbm, 466, rfl⟩
abbrev main_v395 : Ref sig .tc := ⟨.hbm, 467, rfl⟩
abbrev main_v396 : Ref sig .tc := ⟨.hbm, 468, rfl⟩
abbrev main_cst_5 : Ref sig .tc := ⟨.hbm, 469, rfl⟩
abbrev main_v397 : Ref sig .tc := ⟨.hbm, 470, rfl⟩
abbrev main_v398 : Ref sig .tc := ⟨.hbm, 471, rfl⟩
abbrev main_cst_6 : Ref sig .tc := ⟨.hbm, 472, rfl⟩
abbrev main_v399 : Ref sig .tc := ⟨.hbm, 473, rfl⟩
abbrev main_v400 : Ref sig .tc := ⟨.hbm, 474, rfl⟩
abbrev main_v401 : Ref sig .tc := ⟨.hbm, 475, rfl⟩
abbrev main_v402 : Ref sig .tc := ⟨.hbm, 476, rfl⟩
abbrev main_v403 : Ref sig .tc := ⟨.hbm, 477, rfl⟩
abbrev main_v404 : Ref sig .tc := ⟨.hbm, 478, rfl⟩
abbrev main_v405 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_call7_v0 : Ref sig .tc := ⟨.hbm, 483, rfl⟩
abbrev main_call7_v1 : Ref sig .tc := ⟨.hbm, 484, rfl⟩
abbrev main_call7_v2 : Ref sig .tc := ⟨.hbm, 485, rfl⟩
abbrev main_v409 : Ref sig .tc := ⟨.hbm, 486, rfl⟩
abbrev main_v410 : Ref sig .tc := ⟨.hbm, 487, rfl⟩
abbrev main_v411 : Ref sig .tc := ⟨.hbm, 488, rfl⟩
abbrev main_call8_v0 : Ref sig .tc := ⟨.hbm, 489, rfl⟩
abbrev main_call8_v1 : Ref sig .tc := ⟨.hbm, 490, rfl⟩
abbrev main_call8_v2 : Ref sig .tc := ⟨.hbm, 491, rfl⟩
abbrev main_v412 : Ref sig .tc := ⟨.hbm, 492, rfl⟩
abbrev main_v413 : Ref sig .tc := ⟨.hbm, 493, rfl⟩

abbrev nD : Nat := 1
abbrev τ : Topo := Topo.v7x

variable {F : FTy → Type} [FloatOps F]
-- ==== QkvDa.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S9216x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 9], ![false, false, false]⟩

def k0_cond3 (i : grid0.Coords) : BitVec 1 :=
  let arg2 : BitVec 32 := BitVec.ofNat 32 (i 2).val
  let c8_i32_3 : BitVec 32 := 8#32
  let v8 : BitVec 1 := Scalar.cmpi .eq arg2 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDaReferenceIdeal.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S4096x1024, .f32⟩
  | .hbm, ⟨4, _⟩ => ⟨S1024x9216, .f32⟩
  | .hbm, ⟨5, _⟩ => ⟨S4096x9216, .f32⟩
  | .hbm, ⟨6, _⟩ => ⟨S4096x9216, .f32⟩
  | .hbm, ⟨7, _⟩ => ⟨S9216x1024, .f32⟩
  | .hbm, ⟨8, _⟩ => ⟨S1024x9216, .f32⟩
  | .hbm, ⟨9, _⟩ => ⟨S4096x1024, .f32⟩
  | .hbm, ⟨10, _⟩ => ⟨S1024x9216, .bf16⟩
  | .hbm, ⟨11, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QkvDw.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S9216x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwReferenceIdeal.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S1024x9216, .f32⟩
  | .hbm, ⟨4, _⟩ => ⟨S4096x1024, .f32⟩
  | .hbm, ⟨5, _⟩ => ⟨S4096x9216, .f32⟩
  | .hbm, ⟨6, _⟩ => ⟨S4096x9216, .f32⟩
  | .hbm, ⟨7, _⟩ => ⟨S9216x1024, .f32⟩
  | .hbm, ⟨8, _⟩ => ⟨S1024x9216, .f32⟩
  | .hbm, ⟨9, _⟩ => ⟨S4096x1024, .f32⟩
  | .hbm, ⟨10, _⟩ => ⟨S4096x1024, .bf16⟩
  | .hbm, ⟨11, _⟩ => ⟨S9216x1024, .f32⟩
  | .hbm, ⟨12, _⟩ => ⟨S9216x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== QkvFwd.lean ====
abbrev S4096x1024 : Shape := ⟨2, ![4096, 1024]⟩
abbrev S1024x9216 : Shape := ⟨2, ![1024, 9216]⟩
abbrev S9216x1024 : Shape := ⟨2, ![9216, 1024]⟩
abbrev S4096x9216 : Shape := ⟨2, ![4096, 9216]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S9216x1024, .bf16⟩
  | .hbm, ⟨3, _⟩ => ⟨S4096x9216, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvFwdReferenceIdeal.lean ====
abbrev S4096x1024 : Shape := ⟨2, ![4096, 1024]⟩
abbrev S1024x9216 : Shape := ⟨2, ![1024, 9216]⟩
abbrev S4096x9216 : Shape := ⟨2, ![4096, 9216]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x1024, .f32⟩
  | .hbm, ⟨3, _⟩ => ⟨S1024x9216, .f32⟩
  | .hbm, ⟨4, _⟩ => ⟨S4096x9216, .f32⟩
  | .hbm, ⟨5, _⟩ => ⟨S4096x9216, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GuDa.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S5632x1024, .bf16⟩
  | .hbm, ⟨4, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDaReferenceIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S1024x5632, .bf16⟩
  | .hbm, ⟨11, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GuDw.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDwReferenceIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S4096x1024, .bf16⟩
  | .hbm, ⟨11, _⟩ => ⟨S5632x1024, .f32⟩
  | .hbm, ⟨12, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GuFwd.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S5632x1024, .bf16⟩
  | .hbm, ⟨3, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuFwdReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDa.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | .hbm, ⟨9, _⟩ => ⟨S2816x1024, .bf16⟩
  | .hbm, ⟨10, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | .hbm, ⟨9, _⟩ => ⟨S4096x2816, .bf16⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownFwd.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDa.lean ====
abbrev S4096x1024 : Shape := ⟨2, ![4096, 1024]⟩
abbrev S1024x5120 : Shape := ⟨2, ![1024, 5120]⟩
abbrev S4096x5120 : Shape := ⟨2, ![4096, 5120]⟩
abbrev S5120x1024 : Shape := ⟨2, ![5120, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S4096x1024, .f32⟩
  | .hbm, ⟨4, _⟩ => ⟨S5120x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDaReferenceIdeal.lean ====
abbrev S4096x1024 : Shape := ⟨2, ![4096, 1024]⟩
abbrev S1024x5120 : Shape := ⟨2, ![1024, 5120]⟩
abbrev S4096x5120 : Shape := ⟨2, ![4096, 5120]⟩
abbrev S5120x1024 : Shape := ⟨2, ![5120, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S4096x1024, .f32⟩
  | .hbm, ⟨4, _⟩ => ⟨S4096x1024, .f32⟩
  | .hbm, ⟨5, _⟩ => ⟨S1024x5120, .f32⟩
  | .hbm, ⟨6, _⟩ => ⟨S4096x5120, .f32⟩
  | .hbm, ⟨7, _⟩ => ⟨S4096x5120, .f32⟩
  | .hbm, ⟨8, _⟩ => ⟨S5120x1024, .f32⟩
  | .hbm, ⟨9, _⟩ => ⟨S1024x5120, .f32⟩
  | .hbm, ⟨10, _⟩ => ⟨S4096x1024, .f32⟩
  | .hbm, ⟨11, _⟩ => ⟨S1024x5120, .bf16⟩
  | .hbm, ⟨12, _⟩ => ⟨S4096x1024, .f32⟩
  | .hbm, ⟨13, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InDw.lean ====
abbrev S4096x1024 : Shape := ⟨2, ![4096, 1024]⟩
abbrev S1024x5120 : Shape := ⟨2, ![1024, 5120]⟩
abbrev S4096x5120 : Shape := ⟨2, ![4096, 5120]⟩
abbrev S5120x1024 : Shape := ⟨2, ![5120, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S5120x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x1024 : Shape := ⟨2, ![4096, 1024]⟩
abbrev S1024x5120 : Shape := ⟨2, ![1024, 5120]⟩
abbrev S4096x5120 : Shape := ⟨2, ![4096, 5120]⟩
abbrev S5120x1024 : Shape := ⟨2, ![5120, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S4096x1024, .f32⟩
  | .hbm, ⟨10, _⟩ => ⟨S4096x1024, .bf16⟩
  | .hbm, ⟨11, _⟩ => ⟨S5120x1024, .f32⟩
  | .hbm, ⟨12, _⟩ => ⟨S5120x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InFwd.lean ====
abbrev S4096x1024 : Shape := ⟨2, ![4096, 1024]⟩
abbrev S1024x5120 : Shape := ⟨2, ![1024, 5120]⟩
abbrev S5120x1024 : Shape := ⟨2, ![5120, 1024]⟩
abbrev S4096x5120 : Shape := ⟨2, ![4096, 5120]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S5120x1024, .bf16⟩
  | .hbm, ⟨3, _⟩ => ⟨S4096x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdReferenceIdeal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S4096x5120, .f32⟩
  | .hbm, ⟨5, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDa.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaReferenceIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S4096x2048, .f32⟩
  | .hbm, ⟨9, _⟩ => ⟨S2048x1024, .bf16⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDw.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S4096x2048, .f32⟩
  | .hbm, ⟨9, _⟩ => ⟨S4096x2048, .bf16⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutFwd.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGateDa.lean ====
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PleGateDaReferenceIdeal.lean ====
abbrev S4096x1024 : Shape := ⟨2, ![4096, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .bf16⟩
  | .hbm, ⟨11, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PleGateDw.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleGateDwReferenceIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleGateFwd.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateFwdReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ODa.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ODaReferenceIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ODw.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ODwReferenceIdeal.lean ====
abbrev S4096x1024 : Shape := ⟨2, ![4096, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x1024, .bf16⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OFwd.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OFwdReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleProjDw.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .bf16⟩
  | .hbm, ⟨3, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleProjDwReferenceIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .bf16⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S4096x256, .f32⟩
  | .hbm, ⟨9, _⟩ => ⟨S1024x256, .f32⟩
  | .hbm, ⟨10, _⟩ => ⟨S1024x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PleProjFwd.lean ====
abbrev S4096x256 : Shape := ⟨2, ![4096, 256]⟩
abbrev S256x1024 : Shape := ⟨2, ![256, 1024]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S1024x256, .bf16⟩
  | .hbm, ⟨3, _⟩ => ⟨S4096x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjFwdReferenceIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S256x1024, .f32⟩
  | .hbm, ⟨3, _⟩ => ⟨S4096x1024, .f32⟩
  | .hbm, ⟨4, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DtDa.lean ====
abbrev S4096x1024 : Shape := ⟨2, ![4096, 1024]⟩
abbrev S1024x32 : Shape := ⟨2, ![1024, 32]⟩
abbrev S4096x32 : Shape := ⟨2, ![4096, 32]⟩
abbrev S32x1024 : Shape := ⟨2, ![32, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x32, .f32⟩
  | .hbm, ⟨3, _⟩ => ⟨S32x1024, .bf16⟩
  | .hbm, ⟨4, _⟩ => ⟨S4096x1024, .f32⟩
  | .local _ .vmem, ⟨0, _⟩ => ⟨S1024x32, .f32⟩
  | .local _ .vmem, ⟨1, _⟩ => ⟨S1024x32, .f32⟩
  | .local _ .vmem, ⟨2, _⟩ => ⟨S32x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtDaReferenceIdeal.lean ====
abbrev S4096x1024 : Shape := ⟨2, ![4096, 1024]⟩
abbrev S1024x32 : Shape := ⟨2, ![1024, 32]⟩
abbrev S4096x32 : Shape := ⟨2, ![4096, 32]⟩
abbrev S32x1024 : Shape := ⟨2, ![32, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x32, .f32⟩
  | .hbm, ⟨3, _⟩ => ⟨S4096x1024, .f32⟩
  | .hbm, ⟨4, _⟩ => ⟨S1024x32, .f32⟩
  | .hbm, ⟨5, _⟩ => ⟨S4096x32, .f32⟩
  | .hbm, ⟨6, _⟩ => ⟨S32x1024, .f32⟩
  | .hbm, ⟨7, _⟩ => ⟨S1024x32, .f32⟩
  | .hbm, ⟨8, _⟩ => ⟨S4096x1024, .f32⟩
  | .hbm, ⟨9, _⟩ => ⟨S1024x32, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DtDw.lean ====
abbrev S4096x1024 : Shape := ⟨2, ![4096, 1024]⟩
abbrev S1024x32 : Shape := ⟨2, ![1024, 32]⟩
abbrev S4096x32 : Shape := ⟨2, ![4096, 32]⟩
abbrev S32x1024 : Shape := ⟨2, ![32, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x32, .f32⟩
  | .hbm, ⟨3, _⟩ => ⟨S32x1024, .bf16⟩
  | .local _ .vmem, ⟨0, _⟩ => ⟨S1024x32, .f32⟩
  | .local _ .vmem, ⟨1, _⟩ => ⟨S1024x32, .f32⟩
  | .local _ .vmem, ⟨2, _⟩ => ⟨S1024x1024, .bf16⟩
  | .local _ .vmem, ⟨3, _⟩ => ⟨S1024x1024, .bf16⟩
  | .local _ .vmem, ⟨4, _⟩ => ⟨S32x1024, .bf16⟩
  | .local _ .vmem, ⟨5, _⟩ => ⟨S32x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DtDwReferenceIdeal.lean ====
abbrev S4096x1024 : Shape := ⟨2, ![4096, 1024]⟩
abbrev S1024x32 : Shape := ⟨2, ![1024, 32]⟩
abbrev S4096x32 : Shape := ⟨2, ![4096, 32]⟩
abbrev S32x1024 : Shape := ⟨2, ![32, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x32, .f32⟩
  | .hbm, ⟨3, _⟩ => ⟨S1024x32, .f32⟩
  | .hbm, ⟨4, _⟩ => ⟨S4096x1024, .f32⟩
  | .hbm, ⟨5, _⟩ => ⟨S4096x32, .f32⟩
  | .hbm, ⟨6, _⟩ => ⟨S32x1024, .f32⟩
  | .hbm, ⟨7, _⟩ => ⟨S1024x32, .f32⟩
  | .hbm, ⟨8, _⟩ => ⟨S4096x1024, .f32⟩
  | .hbm, ⟨9, _⟩ => ⟨S4096x1024, .bf16⟩
  | .hbm, ⟨10, _⟩ => ⟨S32x1024, .f32⟩
  | .hbm, ⟨11, _⟩ => ⟨S32x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DtFwd.lean ====
abbrev S4096x1024 : Shape := ⟨2, ![4096, 1024]⟩
abbrev S1024x32 : Shape := ⟨2, ![1024, 32]⟩
abbrev S32x1024 : Shape := ⟨2, ![32, 1024]⟩
abbrev S4096x32 : Shape := ⟨2, ![4096, 32]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S32x1024, .bf16⟩
  | .hbm, ⟨3, _⟩ => ⟨S4096x32, .f32⟩
  | .local _ .vmem, ⟨0, _⟩ => ⟨S1024x1024, .bf16⟩
  | .local _ .vmem, ⟨1, _⟩ => ⟨S1024x1024, .bf16⟩
  | .local _ .vmem, ⟨2, _⟩ => ⟨S32x1024, .bf16⟩
  | .local _ .vmem, ⟨3, _⟩ => ⟨S1024x32, .f32⟩
  | .local _ .vmem, ⟨4, _⟩ => ⟨S1024x32, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtFwdReferenceIdeal.lean ====
abbrev S4096x1024 : Shape := ⟨2, ![4096, 1024]⟩
abbrev S1024x32 : Shape := ⟨2, ![1024, 32]⟩
abbrev S4096x32 : Shape := ⟨2, ![4096, 32]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x1024, .f32⟩
  | .hbm, ⟨3, _⟩ => ⟨S1024x32, .f32⟩
  | .hbm, ⟨4, _⟩ => ⟨S4096x32, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SwigluBwd.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluBwdReferenceIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .bf16⟩
  | .hbm, ⟨29, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩

abbrev nD : Nat := 1
abbrev τ : Topo := Topo.v7x

variable {F : FTy → Type} [FloatOps F]
-- ==== PleBwd.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBwdReferenceIdeal.lean ====
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== RmsBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GateNormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S4096x2048, .bf16⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateNormBwdReferenceIdeal.lean ====
abbrev S4096x2048 : Shape := ⟨2, ![4096, 2048]⟩
abbrev S2048 : Shape := ⟨1, ![2048]⟩
abbrev S_ : Shape := ⟨0, ![]⟩
abbrev S4096x4x512 : Shape := ⟨3, ![4096, 4, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩
abbrev S1x2048 : Shape := ⟨2, ![1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x4x512, .f32⟩
  | .hbm, ⟨20, _⟩ => ⟨S4x512, .f32⟩
  | .hbm, ⟨21, _⟩ => ⟨S4096x4x512, .f32⟩
  | .hbm, ⟨22, _⟩ => ⟨S_, .f32⟩
  | .hbm, ⟨23, _⟩ => ⟨S4096x4, .f32⟩
  | .hbm, ⟨24, _⟩ => ⟨S4096x4x1, .f32⟩
  | .hbm, ⟨25, _⟩ => ⟨S_, .f32⟩
  | .hbm, ⟨26, _⟩ => ⟨S4096x4x1, .f32⟩
  | .hbm, ⟨27, _⟩ => ⟨S4096x4x1, .f32⟩
  | .hbm, ⟨28, _⟩ => ⟨S_, .f32⟩
  | .hbm, ⟨29, _⟩ => ⟨S4096x4x1, .f32⟩
  | .hbm, ⟨30, _⟩ => ⟨S4096x4x1, .f32⟩
  | .hbm, ⟨31, _⟩ => ⟨S4096x4x1, .f32⟩
  | .hbm, ⟨32, _⟩ => ⟨S4096x4x1, .f32⟩
  | .hbm, ⟨33, _⟩ => ⟨S_, .f32⟩
  | .hbm, ⟨34, _⟩ => ⟨S4096x4x1, .f32⟩
  | .hbm, ⟨35, _⟩ => ⟨S4096x4x1, .f32⟩
  | .hbm, ⟨36, _⟩ => ⟨S4096x4x512, .f32⟩
  | .hbm, ⟨37, _⟩ => ⟨S4096x4x512, .f32⟩
  | .hbm, ⟨38, _⟩ => ⟨S1x4x512, .f32⟩
  | .hbm, ⟨39, _⟩ => ⟨S4096x4x512, .f32⟩
  | .hbm, ⟨40, _⟩ => ⟨S4096x4x512, .f32⟩
  | .hbm, ⟨41, _⟩ => ⟨S4096x2048, .f32⟩
  | .hbm, ⟨42, _⟩ => ⟨S4096x2048, .f32⟩
  | .hbm, ⟨43, _⟩ => ⟨S4096x4x512, .f32⟩
  | .hbm, ⟨44, _⟩ => ⟨S4096x4x512, .f32⟩
  | .hbm, ⟨45, _⟩ => ⟨S_, .f32⟩
  | .hbm, ⟨46, _⟩ => ⟨S4x512, .f32⟩
  | .hbm, ⟨47, _⟩ => ⟨S1x4x512, .f32⟩
  | .hbm, ⟨48, _⟩ => ⟨S4096x4x512, .f32⟩
  | .hbm, ⟨49, _⟩ => ⟨S4096x4x512, .f32⟩
  | .hbm, ⟨50, _⟩ => ⟨S_, .f32⟩
  | .hbm, ⟨51, _⟩ => ⟨S4x512, .f32⟩
  | .hbm, ⟨52, _⟩ => ⟨S4096x4x512, .f32⟩
  | .hbm, ⟨53, _⟩ => ⟨S_, .f32⟩
  | .hbm, ⟨54, _⟩ => ⟨S4096x4, .f32⟩
  | .hbm, ⟨55, _⟩ => ⟨S4096x4x1, .f32⟩
  | .hbm, ⟨56, _⟩ => ⟨S4096x4x512, .f32⟩
  | .hbm, ⟨57, _⟩ => ⟨S4096x4x512, .f32⟩
  | .hbm, ⟨58, _⟩ => ⟨S4096x4x1, .f32⟩
  | .hbm, ⟨59, _⟩ => ⟨S_, .f32⟩
  | .hbm, ⟨60, _⟩ => ⟨S4096x4x1, .f32⟩
  | .hbm, ⟨61, _⟩ => ⟨S4096x4x1, .f32⟩
  | .hbm, ⟨62, _⟩ => ⟨S_, .f32⟩
  | .hbm, ⟨63, _⟩ => ⟨S4096x4, .f32⟩
  | .hbm, ⟨64, _⟩ => ⟨S4096x4x512, .f32⟩
  | .hbm, ⟨65, _⟩ => ⟨S4096x4x512, .f32⟩
  | .hbm, ⟨66, _⟩ => ⟨S4096x4x512, .f32⟩
  | .hbm, ⟨67, _⟩ => ⟨S4096x4x512, .f32⟩
  | .hbm, ⟨68, _⟩ => ⟨S4096x4x512, .f32⟩
  | .hbm, ⟨69, _⟩ => ⟨S2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .bf16⟩
  | .hbm, ⟨78, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== SwigluFwd.lean ====
abbrev S4096x5632 : Shape := ⟨2, ![4096, 5632]⟩
abbrev S4096x2816 : Shape := ⟨2, ![4096, 2816]⟩
abbrev S512x5632 : Shape := ⟨2, ![512, 5632]⟩
abbrev S512x2816 : Shape := ⟨2, ![512, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S512x5632, .bf16⟩
  | .local _ .vmem, ⟨1, _⟩ => ⟨S512x5632, .bf16⟩
  | .local _ .vmem, ⟨2, _⟩ => ⟨S512x2816, .bf16⟩
  | .local _ .vmem, ⟨3, _⟩ => ⟨S512x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwigluFwdReferenceIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== PleFwd.lean ====
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleFwdReferenceIdeal.lean ====
abbrev S4096x1024 : Shape := ⟨2, ![4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateNormFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateNormFwdReferenceIdeal.lean ====
abbrev S4096x2048 : Shape := ⟨2, ![4096, 2048]⟩
abbrev S2048 : Shape := ⟨1, ![2048]⟩
abbrev S_ : Shape := ⟨0, ![]⟩
abbrev S4096x4x512 : Shape := ⟨3, ![4096, 4, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x4x512, .f32⟩
  | .hbm, ⟨15, _⟩ => ⟨S4x512, .f32⟩
  | .hbm, ⟨16, _⟩ => ⟨S4096x4x512, .f32⟩
  | .hbm, ⟨17, _⟩ => ⟨S_, .f32⟩
  | .hbm, ⟨18, _⟩ => ⟨S4096x4, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S4096x4x1, .f32⟩
  | .hbm, ⟨27, _⟩ => ⟨S4096x4x512, .f32⟩
  | .hbm, ⟨28, _⟩ => ⟨S4096x4x512, .f32⟩
  | .hbm, ⟨29, _⟩ => ⟨S1x4x512, .f32⟩
  | .hbm, ⟨30, _⟩ => ⟨S4096x4x512, .f32⟩
  | .hbm, ⟨31, _⟩ => ⟨S4096x4x512, .f32⟩
  | .hbm, ⟨32, _⟩ => ⟨S4096x2048, .f32⟩
  | .hbm, ⟨33, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== AdamwIn.lean ====
abbrev S1024x644 : Shape := ⟨2, ![1024, 644]⟩
abbrev S256x644 : Shape := ⟨2, ![256, 644]⟩

abbrev nBuf : Space → Nat
  | .hbm => 7
  | .vmem => 14
  | .smem => 0
  | _ => 0

abbrev bufTy : (tb : Table) → Fin (tcTables nBuf tb) → BufTy
  | .hbm, ⟨0, _⟩ => ⟨S1024x644, .f32⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S1024x644, .f32⟩
  | .hbm, ⟨5, _⟩ => ⟨S1024x644, .f32⟩
  | .hbm, ⟨6, _⟩ => ⟨S1024x644, .f32⟩
  | .local _ .vmem, ⟨0, _⟩ => ⟨S256x644, .f32⟩
  | .local _ .vmem, ⟨1, _⟩ => ⟨S256x644, .f32⟩
  | .local _ .vmem, ⟨2, _⟩ => ⟨S256x644, .f32⟩
  | .local _ .vmem, ⟨3, _⟩ => ⟨S256x644, .f32⟩
  | .local _ .vmem, ⟨4, _⟩ => ⟨S256x644, .f32⟩
  | .local _ .vmem, ⟨5, _⟩ => ⟨S256x644, .f32⟩
  | .local _ .vmem, ⟨6, _⟩ => ⟨S256x644, .f32⟩
  | .local _ .vmem, ⟨7, _⟩ => ⟨S256x644, .f32⟩
  | .local _ .vmem, ⟨8, _⟩ => ⟨S256x644, .f32⟩
  | .local _ .vmem, ⟨9, _⟩ => ⟨S256x644, .f32⟩
  | .local _ .vmem, ⟨10, _⟩ => ⟨S256x644, .f32⟩
  | .local _ .vmem, ⟨11, _⟩ => ⟨S256x644, .f32⟩
  | .local _ .vmem, ⟨12, _⟩ => ⟨S256x644, .f32⟩
  | .local _ .vmem, ⟨13, _⟩ => ⟨S256x644, .f32⟩
  | _, _ => ⟨S1024x644, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x644 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x644 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x644 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x644 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x644 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x644 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x644 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInReferenceIdeal.lean ====
abbrev S1024x644 : Shape := ⟨2, ![1024, 644]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x644, .f32⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S_, .f32⟩
  | .hbm, ⟨5, _⟩ => ⟨S1024x644, .f32⟩
  | .hbm, ⟨6, _⟩ => ⟨S1024x644, .f32⟩
  | .hbm, ⟨7, _⟩ => ⟨S_, .f32⟩
  | .hbm, ⟨8, _⟩ => ⟨S1024x644, .f32⟩
  | .hbm, ⟨9, _⟩ => ⟨S1024x644, .f32⟩
  | .hbm, ⟨10, _⟩ => ⟨S1024x644, .f32⟩
  | .hbm, ⟨11, _⟩ => ⟨S_, .f32⟩
  | .hbm, ⟨12, _⟩ => ⟨S1024x644, .f32⟩
  | .hbm, ⟨13, _⟩ => ⟨S1024x644, .f32⟩
  | .hbm, ⟨14, _⟩ => ⟨S1024x644, .f32⟩
  | .hbm, ⟨15, _⟩ => ⟨S_, .f32⟩
  | .hbm, ⟨16, _⟩ => ⟨S1024x644, .f32⟩
  | .hbm, ⟨17, _⟩ => ⟨S1024x644, .f32⟩
  | .hbm, ⟨18, _⟩ => ⟨S1024x644, .f32⟩
  | .hbm, ⟨19, _⟩ => ⟨S_, .f32⟩
  | .hbm, ⟨20, _⟩ => ⟨S1024x644, .f32⟩
  | .hbm, ⟨21, _⟩ => ⟨S1024x644, .f32⟩
  | .hbm, ⟨22, _⟩ => ⟨S_, .f32⟩
  | .hbm, ⟨23, _⟩ => ⟨S1024x644, .f32⟩
  | .hbm, ⟨24, _⟩ => ⟨S1024x644, .f32⟩
  | .hbm, ⟨25, _⟩ => ⟨S1024x644, .f32⟩
  | .hbm, ⟨26, _⟩ => ⟨S_, .f32⟩
  | .hbm, ⟨27, _⟩ => ⟨S1024x644, .f32⟩
  | .hbm, ⟨28, _⟩ => ⟨S1024x644, .f32⟩
  | .hbm, ⟨29, _⟩ => ⟨S1024x644, .f32⟩
  | .hbm, ⟨30, _⟩ => ⟨S_, .f32⟩
  | .hbm, ⟨31, _⟩ => ⟨S1024x644, .f32⟩
  | .hbm, ⟨32, _⟩ => ⟨S1024x644, .f32⟩
  | .hbm, ⟨33, _⟩ => ⟨S1024x644, .f32⟩
  | .hbm, ⟨34, _⟩ => ⟨S_, .f32⟩
  | .hbm, ⟨35, _⟩ => ⟨S1024x644, .f32⟩
  | .hbm, ⟨36, _⟩ => ⟨S1024x644, .f32⟩
  | _, _ => ⟨S1024x644, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwQkv.lean ====
abbrev S1024x1152 : Shape := ⟨2, ![1024, 1152]⟩
abbrev S256x1152 : Shape := ⟨2, ![256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwQkvReferenceIdeal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGu.lean ====
abbrev S2048x352 : Shape := ⟨2, ![2048, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwGuReferenceIdeal.lean ====
abbrev S2048x352 : Shape := ⟨2, ![2048, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S_, .f32⟩
  | .hbm, ⟨5, _⟩ => ⟨S2048x352, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S2048x352, .f32⟩
  | .hbm, ⟨11, _⟩ => ⟨S_, .f32⟩
  | .hbm, ⟨12, _⟩ => ⟨S2048x352, .f32⟩
  | .hbm, ⟨13, _⟩ => ⟨S2048x352, .f32⟩
  | .hbm, ⟨14, _⟩ => ⟨S2048x352, .f32⟩
  | .hbm, ⟨15, _⟩ => ⟨S_, .f32⟩
  | .hbm, ⟨16, _⟩ => ⟨S2048x352, .f32⟩
  | .hbm, ⟨17, _⟩ => ⟨S2048x352, .f32⟩
  | .hbm, ⟨18, _⟩ => ⟨S2048x352, .f32⟩
  | .hbm, ⟨19, _⟩ => ⟨S_, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S2048x352, .f32⟩
  | .hbm, ⟨26, _⟩ => ⟨S_, .f32⟩
  | .hbm, ⟨27, _⟩ => ⟨S2048x352, .f32⟩
  | .hbm, ⟨28, _⟩ => ⟨S2048x352, .f32⟩
  | .hbm, ⟨29, _⟩ => ⟨S2048x352, .f32⟩
  | .hbm, ⟨30, _⟩ => ⟨S_, .f32⟩
  | .hbm, ⟨31, _⟩ => ⟨S2048x352, .f32⟩
  | .hbm, ⟨32, _⟩ => ⟨S2048x352, .f32⟩
  | .hbm, ⟨33, _⟩ => ⟨S2048x352, .f32⟩
  | .hbm, ⟨34, _⟩ => ⟨S_, .f32⟩
  | .hbm, ⟨35, _⟩ => ⟨S2048x352, .f32⟩
  | .hbm, ⟨36, _⟩ => ⟨S2048x352, .f32⟩
  | _, _ => ⟨S2048x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwProj.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwProjReferenceIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwO.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOReferenceIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwDown.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownReferenceIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S88x128 : Shape := ⟨2, ![88, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallReferenceIdeal.lean ====
abbrev S88x128 : Shape := ⟨2, ![88, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S88x128, .f32⟩
  | .hbm, ⟨7, _⟩ => ⟨S_, .f32⟩
  | .hbm, ⟨8, _⟩ => ⟨S88x128, .f32⟩
  | .hbm, ⟨9, _⟩ => ⟨S88x128, .f32⟩
  | .hbm, ⟨10, _⟩ => ⟨S88x128, .f32⟩
  | .hbm, ⟨11, _⟩ => ⟨S_, .f32⟩
  | .hbm, ⟨12, _⟩ => ⟨S88x128, .f32⟩
  | .hbm, ⟨13, _⟩ => ⟨S88x128, .f32⟩
  | .hbm, ⟨14, _⟩ => ⟨S88x128, .f32⟩
  | .hbm, ⟨15, _⟩ => ⟨S_, .f32⟩
  | .hbm, ⟨16, _⟩ => ⟨S88x128, .f32⟩
  | .hbm, ⟨17, _⟩ => ⟨S88x128, .f32⟩
  | .hbm, ⟨18, _⟩ => ⟨S88x128, .f32⟩
  | .hbm, ⟨19, _⟩ => ⟨S_, .f32⟩
  | .hbm, ⟨20, _⟩ => ⟨S88x128, .f32⟩
  | .hbm, ⟨21, _⟩ => ⟨S88x128, .f32⟩
  | .hbm, ⟨22, _⟩ => ⟨S_, .f32⟩
  | .hbm, ⟨23, _⟩ => ⟨S88x128, .f32⟩
  | .hbm, ⟨24, _⟩ => ⟨S88x128, .f32⟩
  | .hbm, ⟨25, _⟩ => ⟨S88x128, .f32⟩
  | .hbm, ⟨26, _⟩ => ⟨S_, .f32⟩
  | .hbm, ⟨27, _⟩ => ⟨S88x128, .f32⟩
  | .hbm, ⟨28, _⟩ => ⟨S88x128, .f32⟩
  | .hbm, ⟨29, _⟩ => ⟨S88x128, .f32⟩
  | .hbm, ⟨30, _⟩ => ⟨S_, .f32⟩
  | .hbm, ⟨31, _⟩ => ⟨S88x128, .f32⟩
  | .hbm, ⟨32, _⟩ => ⟨S88x128, .f32⟩
  | .hbm, ⟨33, _⟩ => ⟨S88x128, .f32⟩
  | .hbm, ⟨34, _⟩ => ⟨S_, .f32⟩
  | .hbm, ⟨35, _⟩ => ⟨S88x128, .f32⟩
  | .hbm, ⟨36, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LossFwd.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossFwdReferenceIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== ConvFwd.lean ====
abbrev S4096x5120 : Shape := ⟨2, ![4096, 5120]⟩
abbrev S4x3072 : Shape := ⟨2, ![4, 3072]⟩
abbrev S3072 : Shape := ⟨1, ![3072]⟩
abbrev S1x3072 : Shape := ⟨2, ![1, 3072]⟩
abbrev S4096x3072 : Shape := ⟨2, ![4096, 3072]⟩
abbrev S512x1024 : Shape := ⟨2, ![512, 1024]⟩
abbrev S16x1024 : Shape := ⟨2, ![16, 1024]⟩
abbrev S4x1024 : Shape := ⟨2, ![4, 1024]⟩
abbrev S1x1024 : Shape := ⟨2, ![1, 1024]⟩
abbrev S528x1024 : Shape := ⟨2, ![528, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFwdReferenceIdeal.lean ====
abbrev S4096x5120 : Shape := ⟨2, ![4096, 5120]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S4099x3072 : Shape := ⟨2, ![4099, 3072]⟩
abbrev S1x3072 : Shape := ⟨2, ![1, 3072]⟩

abbrev nBuf : Space → Nat
  | .hbm => 42
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4x3072, .f32⟩
  | .hbm, ⟨2, _⟩ => ⟨S3072, .f32⟩
  | .hbm, ⟨3, _⟩ => ⟨S4096x3072, .bf16⟩
  | .hbm, ⟨4, _⟩ => ⟨S4096x3072, .f32⟩
  | .hbm, ⟨5, _⟩ => ⟨S_, .i32⟩
  | .hbm, ⟨6, _⟩ => ⟨S_, .f32⟩
  | .hbm, ⟨7, _⟩ => ⟨S4099x3072, .f32⟩
  | .hbm, ⟨8, _⟩ => ⟨S1x3072, .f32⟩
  | .hbm, ⟨9, _⟩ => ⟨S3072, .f32⟩
  | .hbm, ⟨10, _⟩ => ⟨S4096x3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S1x3072, .f32⟩
  | .hbm, ⟨18, _⟩ => ⟨S3072, .f32⟩
  | .hbm, ⟨19, _⟩ => ⟨S4096x3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S1x3072, .f32⟩
  | .hbm, ⟨25, _⟩ => ⟨S3072, .f32⟩
  | .hbm, ⟨26, _⟩ => ⟨S4096x3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S1x3072, .f32⟩
  | .hbm, ⟨32, _⟩ => ⟨S3072, .f32⟩
  | .hbm, ⟨33, _⟩ => ⟨S4096x3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Proof.Spec.lean ====
/-
  What one chunk of the backward pass of the state-space recurrence computes, at an index, over the extended reals.

  `ChunkIn` holds one chunk of one group (128 positions, 8 heads of 64 lanes = 512 columns, 128 state lanes): the
  pre-activations of x, B and C, the raw step sizes with their bias, the logarithm of the decay rate, the skip weights and
  the cotangent of y. From it: the decays inside the chunk, the gradients of x and B before and after the activation, the
  chunk's part of the skip weights' gradient, and the cotangent of the state handed to the chunk before.
-/
module

public import Idealize.ShloMosaic.PureOps.Ideal
public import Mathlib.Data.EReal.Operations

@[expose] public section

noncomputable section

namespace Cert.Ssd

open Idealize.ShloMosaic

/-- The head (inside the group) that column `q` belongs to. -/
def hd (q : Fin 512) : Fin 8 := ⟨q.val / 64, by omega⟩

/-- The column of lane `p` of head `h`. -/
def col (h : Fin 8) (p : Fin 64) : Fin 512 := ⟨64 * h.val + p.val, by omega⟩

/-- The chunk's last position. -/
def lastPos : Fin 128 := ⟨127, by omega⟩

def silu (v : EReal) : EReal := v * Ideal.logistic v

/-- The derivative of `silu`, as the kernel writes it. -/
def siluGrad (v : EReal) : EReal := Ideal.logistic v * (1 + v * (1 - Ideal.logistic v))

/-- `softplus` as `logaddexp z 0`. -/
def softplus (z : EReal) : EReal := max z 0 + Ideal.log1p (Ideal.exp (-(max z (-z))))

structure ChunkIn where
  px : Fin 128 → Fin 512 → EReal
  pb : Fin 128 → Fin 128 → EReal
  pc : Fin 128 → Fin 128 → EReal
  dtr : Fin 8 → Fin 128 → EReal
  bi : Fin 8 → EReal
  al : Fin 8 → EReal
  dsk : Fin 512 → EReal
  dy : Fin 128 → Fin 512 → EReal

namespace ChunkIn

variable (k : ChunkIn)

def x (l : Fin 128) (q : Fin 512) : EReal := silu (k.px l q)
def b (l n : Fin 128) : EReal := silu (k.pb l n)
def c (l n : Fin 128) : EReal := silu (k.pc l n)
def dt (h : Fin 8) (l : Fin 128) : EReal := softplus (k.dtr h l + k.bi h)
def a (h : Fin 8) : EReal := -(Ideal.exp (k.al h))

/-- The running sum of `dt * a` inside the chunk. -/
def cs (h : Fin 8) (l : Fin 128) : EReal := ∑ j : Fin 128, if j ≤ l then k.dt h j * k.a h else 0

/-- The decay from position `s` to position `l`. -/
def lm (h : Fin 8) (l s : Fin 128) : EReal := if s ≤ l then Ideal.exp (k.cs h l - k.cs h s) else 0

/-- The decay from position `l` to the end of the chunk. -/
def ec (h : Fin 8) (l : Fin 128) : EReal := Ideal.exp (k.cs h lastPos - k.cs h l)

def g (l s : Fin 128) : EReal := ∑ n : Fin 128, k.c l n * k.b s n
def xs (l : Fin 128) (q : Fin 512) : EReal := k.x l q * k.dt (hd q) l

/-- The gradient of `x * dt`, given the cotangent `ds` of the state the chunk leaves. -/
def dxd (ds : Fin 512 → Fin 128 → EReal) (l : Fin 128) (q : Fin 512) : EReal :=
  (∑ n : Fin 128, k.b l n * ds q n) * k.ec (hd q) l + ∑ s : Fin 128, k.g s l * k.lm (hd q) s l * k.dy s q

def dxAct (ds : Fin 512 → Fin 128 → EReal) (l : Fin 128) (q : Fin 512) : EReal :=
  k.dxd ds l q * k.dt (hd q) l + k.dy l q * k.dsk q

def dx (ds : Fin 512 → Fin 128 → EReal) (l : Fin 128) (q : Fin 512) : EReal := k.dxAct ds l q * siluGrad (k.px l q)

def dmat (h : Fin 8) (l s : Fin 128) : EReal := ∑ p : Fin 64, k.dy l (col h p) * k.xs s (col h p)

def dg (l s : Fin 128) : EReal := ∑ h : Fin 8, k.dmat h l s * k.lm h l s

def dbAct (ds : Fin 512 → Fin 128 → EReal) (s n : Fin 128) : EReal :=
  ∑ l : Fin 128, k.dg l s * k.c l n + ∑ q : Fin 512, k.xs s q * k.ec (hd q) s * ds q n

def db (ds : Fin 512 → Fin 128 → EReal) (s n : Fin 128) : EReal := k.dbAct ds s n * siluGrad (k.pb s n)

/-- The cotangent of the state that enters the chunk. -/
def dsNext (ds : Fin 512 → Fin 128 → EReal) (q : Fin 512) (n : Fin 128) : EReal :=
  ds q n * Ideal.exp (k.cs (hd q) lastPos) + ∑ l : Fin 128, k.dy l q * Ideal.exp (k.cs (hd q) l) * k.c l n

def ddsk (q : Fin 512) : EReal := ∑ l : Fin 128, k.dy l q * k.x l q

end ChunkIn

/-- The cotangent of the state that chunk `31 - n` leaves: the chunks after it, folded from the last. -/
def dsRev (K : Fin 32 → ChunkIn) : ℕ → Fin 512 → Fin 128 → EReal
  | 0 => fun _ _ => 0
  | n + 1 => (K ⟨31 - n, by omega⟩).dsNext (dsRev K n)

/-- The arguments by their entries. -/
structure Args where
  pre : Fin 4096 → Fin 3072 → EReal
  dtRaw : Fin 4096 → Fin 32 → EReal
  bias : Fin 32 → EReal
  alog : Fin 32 → EReal
  dsk : Fin 2048 → EReal
  dy : Fin 4096 → Fin 2048 → EReal

/-- Position `l` of chunk `c`. -/
def pos (c : Fin 32) (l : Fin 128) : Fin 4096 := ⟨128 * c.val + l.val, by omega⟩

/-- Head `h` of group `g`. -/
def head (g : Fin 4) (h : Fin 8) : Fin 32 := ⟨8 * g.val + h.val, by omega⟩

/-- Column `q` of group `g`. -/
def gcol (g : Fin 4) (q : Fin 512) : Fin 2048 := ⟨512 * g.val + q.val, by omega⟩

/-- Chunk `c` of group `g`. -/
def Args.chunk (A : Args) (g : Fin 4) (c : Fin 32) : ChunkIn where
  px l q := A.pre (pos c l) ⟨512 * g.val + q.val, by omega⟩
  pb l n := A.pre (pos c l) ⟨2048 + 128 * g.val + n.val, by omega⟩
  pc l n := A.pre (pos c l) ⟨2560 + 128 * g.val + n.val, by omega⟩
  dtr h l := A.dtRaw (pos c l) (head g h)
  bi h := A.bias (head g h)
  al h := A.alog (head g h)
  dsk q := A.dsk (gcol g q)
  dy l q := A.dy (pos c l) (gcol g q)

/-- The cotangent of the state chunk `c` of group `g` leaves. -/
def Args.ds (A : Args) (g : Fin 4) (c : Fin 32) : Fin 512 → Fin 128 → EReal := dsRev (A.chunk g) (31 - c.val)

end Cert.Ssd
-- ==== Proof.Finite.lean ====
/-
  On finite arguments every value of Spec.lean is a real number. Two laws follow, which fail at the infinities: the
  derivative of `silu` distributes over its two terms, and the decay's exponent is never positive below the diagonal.
-/
module

public import proofs.«01_k».proof.Proof.Spec

@[expose] public section

noncomputable section

namespace Cert.Ssd

open Idealize.ShloMosaic

/-- `x` is a real number. -/
def IsR (x : EReal) : Prop := ∃ r : ℝ, x = (r : EReal)

namespace IsR

variable {x y : EReal}

theorem coe (r : ℝ) : IsR (r : EReal) := ⟨r, rfl⟩
theorem zero : IsR 0 := ⟨0, rfl⟩
theorem one : IsR 1 := ⟨1, rfl⟩

theorem add : IsR x → IsR y → IsR (x + y) := by
  rintro ⟨r, rfl⟩ ⟨s, rfl⟩; exact ⟨r + s, (EReal.coe_add r s).symm⟩

theorem mul : IsR x → IsR y → IsR (x * y) := by
  rintro ⟨r, rfl⟩ ⟨s, rfl⟩; exact ⟨r * s, (EReal.coe_mul r s).symm⟩

theorem neg : IsR x → IsR (-x) := by
  rintro ⟨r, rfl⟩; exact ⟨-r, (EReal.coe_neg r).symm⟩

theorem sub : IsR x → IsR y → IsR (x - y) := by
  rintro ⟨r, rfl⟩ ⟨s, rfl⟩; exact ⟨r - s, (EReal.coe_sub r s).symm⟩

theorem max : IsR x → IsR y → IsR (max x y) := by
  rintro ⟨r, rfl⟩ ⟨s, rfl⟩
  rcases le_total r s with h | h
  · exact ⟨s, max_eq_right (EReal.coe_le_coe_iff.2 h)⟩
  · exact ⟨r, max_eq_left (EReal.coe_le_coe_iff.2 h)⟩

theorem sum {ι : Type*} (s : Finset ι) {f : ι → EReal} (h : ∀ i, IsR (f i)) : IsR (∑ i ∈ s, f i) := by
  classical
  induction s using Finset.induction_on with
  | empty => exact zero
  | insert a s ha ih => rw [Finset.sum_insert ha]; exact (h a).add ih

theorem ite {p : Prop} [Decidable p] (hx : IsR x) (hy : IsR y) : IsR (if p then x else y) := by
  split <;> assumption

theorem exp : IsR x → IsR (Ideal.exp x) := by
  rintro ⟨r, rfl⟩; exact ⟨Real.exp r, rfl⟩

theorem logistic : IsR x → IsR (Ideal.logistic x) := by
  rintro ⟨r, rfl⟩; exact ⟨_, Ideal.logistic_coe r⟩

theorem log1p_exp : IsR x → IsR (Ideal.log1p (Ideal.exp x)) ∧ 0 ≤ Ideal.log1p (Ideal.exp x) := by
  rintro ⟨r, rfl⟩
  have h : (1 : ℝ) + Real.exp r = ((1 + Real.exp r : ℝ)) := rfl
  have hp := Real.exp_pos r
  have e : Ideal.log1p (Ideal.exp (r : EReal)) = ((Real.log (1 + Real.exp r) : ℝ) : EReal) := by
    rw [Ideal.log1p, Ideal.exp_coe, ← EReal.coe_one, ← EReal.coe_add, Ideal.log_coe, if_neg (by linarith)]
  rw [e]
  exact ⟨⟨_, rfl⟩, EReal.coe_nonneg.2 (Real.log_nonneg (by linarith))⟩

theorem silu (h : IsR x) : IsR (silu x) := h.mul h.logistic
theorem siluGrad (h : IsR x) : IsR (siluGrad x) := h.logistic.mul (one.add (h.mul (one.sub h.logistic)))

theorem softplus (h : IsR x) : IsR (softplus x) := (h.max zero).add (log1p_exp (h.max h.neg).neg).1

theorem softplus_nonneg (h : IsR x) : 0 ≤ Ssd.softplus x :=
  add_nonneg (le_max_right _ _) (log1p_exp (h.max h.neg).neg).2

end IsR

/-- The derivative of `silu` applied to a cotangent, term by term. -/
theorem mul_siluGrad {ct v : EReal} (hc : IsR ct) (hv : IsR v) :
    ct * siluGrad v = ct * Ideal.logistic v + (v * ct) * (Ideal.logistic v * (1 - Ideal.logistic v)) := by
  obtain ⟨c, rfl⟩ := hc
  obtain ⟨s, hs⟩ := hv.logistic
  obtain ⟨r, rfl⟩ := hv
  rw [siluGrad, hs, ← EReal.coe_one]
  simp only [← EReal.coe_mul, ← EReal.coe_sub, ← EReal.coe_add]
  congr 1
  ring

structure ChunkIn.Fin (k : ChunkIn) : Prop where
  px : ∀ l q, IsR (k.px l q)
  pb : ∀ l q, IsR (k.pb l q)
  pc : ∀ l q, IsR (k.pc l q)
  dtr : ∀ h l, IsR (k.dtr h l)
  bi : ∀ h, IsR (k.bi h)
  al : ∀ h, IsR (k.al h)
  dsk : ∀ q, IsR (k.dsk q)
  dy : ∀ l q, IsR (k.dy l q)

namespace ChunkIn.Fin

variable {k : ChunkIn} (f : k.Fin)

include f

theorem x (l q) : IsR (k.x l q) := (f.px l q).silu
theorem b (l q) : IsR (k.b l q) := (f.pb l q).silu
theorem c (l q) : IsR (k.c l q) := (f.pc l q).silu
theorem dt (h l) : IsR (k.dt h l) := ((f.dtr h l).add (f.bi h)).softplus
theorem a (h) : IsR (k.a h) := (f.al h).exp.neg
theorem cs (h l) : IsR (k.cs h l) := IsR.sum _ fun j => ((f.dt h j).mul (f.a h)).ite IsR.zero
theorem lm (h l s) : IsR (k.lm h l s) := ((f.cs h l).sub (f.cs h s)).exp.ite IsR.zero
theorem ec (h l) : IsR (k.ec h l) := ((f.cs h lastPos).sub (f.cs h l)).exp
theorem g (l s) : IsR (k.g l s) := IsR.sum _ fun n => (f.c l n).mul (f.b s n)
theorem xs (l q) : IsR (k.xs l q) := (f.x l q).mul (f.dt _ l)

variable {ds : _root_.Fin 512 → _root_.Fin 128 → EReal} (hd : ∀ q n, IsR (ds q n))

theorem dmat (h l s) : IsR (k.dmat h l s) := IsR.sum _ fun p => (f.dy l _).mul (f.xs s _)
theorem dg (l s) : IsR (k.dg l s) := IsR.sum _ fun h => (f.dmat h l s).mul (f.lm h l s)

include hd

theorem dxd (l q) : IsR (k.dxd ds l q) :=
  ((IsR.sum _ fun n => (f.b l n).mul (hd q n)).mul (f.ec _ l)).add
    (IsR.sum _ fun s => ((f.g s l).mul (f.lm _ s l)).mul (f.dy s q))

theorem dxAct (l q) : IsR (k.dxAct ds l q) := ((f.dxd hd l q).mul (f.dt _ l)).add ((f.dy l q).mul (f.dsk q))

theorem dbAct (s n) : IsR (k.dbAct ds s n) :=
  (IsR.sum _ fun l => (f.dg l s).mul (f.c l n)).add
    (IsR.sum _ fun q => ((f.xs s q).mul (f.ec _ s)).mul (hd q n))

theorem dsNext (q n) : IsR (k.dsNext ds q n) :=
  ((hd q n).mul (f.cs _ _).exp).add (IsR.sum _ fun l => ((f.dy l q).mul (f.cs _ l).exp).mul (f.c l n))

omit hd

/-- The running sum never grows: every step is not negative, every rate not positive. -/
theorem cs_le (h : _root_.Fin 8) {s l : _root_.Fin 128} (hsl : s ≤ l) : k.cs h l ≤ k.cs h s := by
  refine Finset.sum_le_sum fun j _ => ?_
  by_cases hj : j ≤ s
  · rw [if_pos hj, if_pos (hj.trans hsl)]
  · rw [if_neg hj]
    split
    · obtain ⟨u, hu⟩ := f.dt h j
      obtain ⟨v, hv⟩ := (f.al h).exp
      have hu0 : 0 ≤ k.dt h j := ((f.dtr h j).add (f.bi h)).softplus_nonneg
      have hv0 : 0 ≤ Ideal.exp (k.al h) := by
        obtain ⟨w, hw⟩ := f.al h
        rw [hw, Ideal.exp_coe]
        exact EReal.coe_nonneg.2 (Real.exp_pos w).le
      rw [ChunkIn.a, hu, hv, ← EReal.coe_neg, ← EReal.coe_mul]
      rw [hu] at hu0
      rw [hv] at hv0
      have h1 := EReal.coe_nonneg.1 hu0
      have h2 := EReal.coe_nonneg.1 hv0
      rw [← EReal.coe_zero]
      exact EReal.coe_le_coe_iff.2 (by nlinarith)
    · exact le_rfl

/-- Below the diagonal the exponent's bound by zero changes nothing. -/
theorem min_cs (h : _root_.Fin 8) {s l : _root_.Fin 128} (hsl : s ≤ l) :
    min (k.cs h l - k.cs h s) 0 = k.cs h l - k.cs h s := by
  have hle := f.cs_le h hsl
  obtain ⟨u, hu⟩ := f.cs h l
  obtain ⟨v, hv⟩ := f.cs h s
  rw [hu, hv] at hle ⊢
  rw [← EReal.coe_sub, ← EReal.coe_zero]
  have := EReal.coe_le_coe_iff.1 hle
  exact min_eq_left (EReal.coe_le_coe_iff.2 (by linarith))

end ChunkIn.Fin

theorem dsRev_fin {K : Fin 32 → ChunkIn} (f : ∀ c, (K c).Fin) : ∀ n q j, IsR (dsRev K n q j)
  | 0, _, _ => IsR.zero
  | n + 1, q, j => (f _).dsNext (dsRev_fin f n) q j

structure Args.Fin (A : Args) : Prop where
  pre : ∀ i j, IsR (A.pre i j)
  dtRaw : ∀ i j, IsR (A.dtRaw i j)
  bias : ∀ i, IsR (A.bias i)
  alog : ∀ i, IsR (A.alog i)
  dsk : ∀ i, IsR (A.dsk i)
  dy : ∀ i j, IsR (A.dy i j)

theorem Args.Fin.chunk {A : Args} (f : A.Fin) (g : _root_.Fin 4) (c : _root_.Fin 32) : (A.chunk g c).Fin where
  px _ _ := f.pre _ _
  pb _ _ := f.pre _ _
  pc _ _ := f.pre _ _
  dtr _ _ := f.dtRaw _ _
  bi _ := f.bias _
  al _ := f.alog _
  dsk _ := f.dsk _
  dy _ _ := f.dy _ _

theorem Args.Fin.ds {A : Args} (f : A.Fin) (g : _root_.Fin 4) (c : _root_.Fin 32) (q n) : IsR (A.ds g c q n) :=
  dsRev_fin (fun c => f.chunk g c) _ q n

end Cert.Ssd
-- ==== Proof.Vec.lean ====
/-
  The kernel's vector expressions for one pair of heads, each once, and their values at an index. The printed body repeats
  them for four pairs (`Gen.k0_payN`); the repeats are these functions at other slices, by unfolding (Pieces.lean).
-/
module

public import proofs.«01_k».proof.Proof.Finite
public import proofs.«01_k».proof.Proof.Gen.KernelIdeal.Skeleton
public import Idealize.ShloMosaic.Lib.Pointwise

@[expose] public section

noncomputable section

namespace Cert.Ssd

open Cert.KernelIdeal Cert.KernelIdeal.Gen Idealize.ShloMosaic
open Idealize.ShloMosaic.ValueIdx hiding ix1 ix2 ix3 ix4 ix5
open Idealize.ShloMosaic.Pointwise

variable {F : FTy → Type} [FloatOps F]

def laneIota : IVec S1x128 32 := iota .tc S1x128 32 [1] iota_S1x128_d1_w32
def mask0 : IVec S1x128 1 := k0_pay41 laneIota
def mask1 : IVec S1x128 1 := k0_pay55 (k0_pay52 laneIota) (k0_pay53 laneIota) (k0_pay54 laneIota)

def zeroS : F .f32 := Scalar.ofBits .f32 0x00000000#32

/-- The lanes of one head of the pair, the other head's at zero. -/
def half (mk : IVec S1x128 1) (v : FVec F S128x128 .f32) : FVec F S128x128 .f32 :=
  select (broadcastTo S128x128 (shapeCast S1x128 mk shapeCasts_S1x128_S1x128) broadcasts_S1x128_S128x128) v
    (broadcast S128x128 zeroS)

/-- A row as a column. -/
def colOf (r : FVec F S1x128 .f32) : FVec F S128x1 .f32 := k0_pay25 r

/-- The decays inside the chunk, of the row of running sums `r`. -/
def lmV (r : FVec F S1x128 .f32) : FVec F S128x128 .f32 := k0_pay32 k0_pay13 r (colOf r)

def ecol (r : FVec F S1x128 .f32) (e : FVec F S1x1 .f32) : FVec F S128x1 .f32 :=
  exp (subf (broadcastTo S128x1 e broadcasts_S1x1_S128x1) (colOf r))

/-- One column per head, over the head's lanes. -/
def pair (a b : FVec F S128x1 .f32) : FVec F S128x128 .f32 :=
  select
    (broadcastTo S128x128 (shapeCast S1x128 (cmpi .slt laneIota (broadcast S1x128 64#32)) shapeCasts_S1x128_S1x128)
      broadcasts_S1x128_S128x128)
    (broadcastTo S128x128 (shapeCast S128x1 a shapeCasts_S128x1_S128x1) broadcasts_S128x1_S128x128)
    (broadcastTo S128x128 (shapeCast S128x1 b shapeCasts_S128x1_S128x1) broadcasts_S128x1_S128x128)

/-- `x * dt` of the pair. -/
def xdV (xp : FVec F S128x128 .f32) (d0 d1 : FVec F S1x128 .f32) : FVec F S128x128 .f32 := mulf xp (pair (colOf d0) (colOf d1))

def elV (r0 r1 : FVec F S1x128 .f32) (e0 e1 : FVec F S1x1 .f32) : FVec F S128x128 .f32 := pair (ecol r0 e0) (ecol r1 e1)

def dxdHead (m lm dyp acc : FVec F S128x128 .f32) (mk : IVec S1x128 1) : FVec F S128x128 .f32 :=
  addf acc (matmul dot_S128x128_S128x128_S128x128_0_0_1_1_n_n none (truncf .bf16 (mulf m lm) bitsLt_bf16_f32)
    (truncf .bf16 (half mk dyp) bitsLt_bf16_f32) (constant S128x128 .f32 0x00000000#32))

def dxdV (g bp dyp : FVec F S128x128 .f32) (r0 r1 : FVec F S1x128 .f32) (e0 e1 : FVec F S1x1 .f32) : FVec F S128x128 .f32 :=
  dxdHead g (lmV r1) dyp (dxdHead g (lmV r0) dyp (mulf bp (elV r0 r1 e0 e1)) mask0) mask1

/-- The pair's columns of the gradient of the pre-activation of x. -/
def dxV (g bp dyp : FVec F S128x128 .f32) (px : FVec F S128x128 .bf16) (dk r0 r1 d0 d1 : FVec F S1x128 .f32)
    (e0 e1 : FVec F S1x1 .f32) : FVec F S128x128 .bf16 :=
  k0_pay69 dyp (mulf (dxdV g bp dyp r0 r1 e0 e1) (pair (colOf d0) (colOf d1))) dk px

/-- One head's part of the gradient of `C Bᵀ`, added. -/
def dgHead (dyp xd lm acc : FVec F S128x128 .f32) (mk : IVec S1x128 1) : FVec F S128x128 .f32 :=
  addf acc (mulf (matmul dot_S128x128_S128x128_S128x128_1_1_0_0_n_n none (truncf .bf16 (half mk dyp) bitsLt_bf16_f32)
    (truncf .bf16 xd bitsLt_bf16_f32) (constant S128x128 .f32 0x00000000#32)) lm)

def dgV (xp dyp acc : FVec F S128x128 .f32) (r0 r1 d0 d1 : FVec F S1x128 .f32) : FVec F S128x128 .f32 :=
  dgHead dyp (xdV xp d0 d1) (lmV r1) (dgHead dyp (xdV xp d0 d1) (lmV r0) acc mask0) mask1

theorem select_bit {α : Type} (c : BitVec 1) (a b : α) : Scalar.select c a b = if c = 1#1 then a else b := rfl

theorem mask0_apply (u : Fin 1) (l : Fin 128) : mask0 (ix2 u l) = if l.val < 64 then 1#1 else 0#1 := by
  revert u l; decide +kernel

theorem mask1_apply (u : Fin 1) (l : Fin 128) : mask1 (ix2 u l) = if l.val < 64 then 0#1 else 1#1 := by
  revert u l; decide +kernel

theorem lane_lt (l : Fin 128) : IntOp.cmpi .slt (BitVec.ofNat 32 l.val) 64#32 = if l.val < 64 then 1#1 else 0#1 := by
  revert l; decide +kernel

theorem pos_eq (l s : Fin 128) :
    IntOp.cmpi .eq (BitVec.ofNat 32 l.val) (BitVec.ofNat 32 s.val) = if l = s then 1#1 else 0#1 := by
  revert l s; decide +kernel

theorem pos_ge (l s : Fin 128) :
    IntOp.cmpi .sge (BitVec.ofNat 32 l.val) (BitVec.ofNat 32 s.val) = if s ≤ l then 1#1 else 0#1 := by
  revert l s; decide +kernel

theorem select_ite {α : Type} (p : Prop) [Decidable p] (a b : α) :
    Scalar.select (if p then 1#1 else 0#1) a b = if p then a else b := by
  by_cases h : p <;> simp [h, select_bit]

theorem select_ite' {α : Type} (p : Prop) [Decidable p] (a b : α) :
    Scalar.select (if p then 0#1 else 1#1) a b = if p then b else a := by
  by_cases h : p <;> simp [h, select_bit]

theorem half0_apply (v : FVec Ideal S128x128 .f32) (l q : Fin 128) :
    half mask0 v (ix2 l q) = if q.val < 64 then v (ix2 l q) else 0 := by
  pointwise [half, zeroS]
  rw [mask0_apply, select_ite]

theorem half1_apply (v : FVec Ideal S128x128 .f32) (l q : Fin 128) :
    half mask1 v (ix2 l q) = if q.val < 64 then 0 else v (ix2 l q) := by
  pointwise [half, zeroS]
  rw [mask1_apply, select_ite']

theorem colOf_apply (r : FVec Ideal S1x128 .f32) (l : Fin 128) (u : Fin 1) : colOf r (ix2 l u) = r (ix2 0 l) := by
  pointwise [colOf, k0_pay25]
  simp only [pos_eq, select_ite]
  exact (Finset.sum_ite_eq Finset.univ l _).trans (if_pos (Finset.mem_univ l))

theorem lmV_apply (r : FVec Ideal S1x128 .f32) (l s : Fin 128) :
    lmV r (ix2 l s) = if s ≤ l then Ideal.exp (min (r (ix2 0 l) - r (ix2 0 s)) 0) else 0 := by
  pointwise [lmV, k0_pay32, k0_pay13]
  rw [pos_ge, select_ite, colOf_apply]

theorem ecol_apply (r : FVec Ideal S1x128 .f32) (e : FVec Ideal S1x1 .f32) (l : Fin 128) (u : Fin 1) :
    ecol r e (ix2 l u) = Ideal.exp (e (ix2 0 0) - r (ix2 0 l)) := by
  pointwise [ecol]
  rw [colOf_apply]

theorem pair_apply (a b : FVec Ideal S128x1 .f32) (l q : Fin 128) :
    pair a b (ix2 l q) = if q.val < 64 then a (ix2 l 0) else b (ix2 l 0) := by
  pointwise [pair, laneIota]
  rw [lane_lt, select_ite]

theorem xdV_apply (xp : FVec Ideal S128x128 .f32) (d0 d1 : FVec Ideal S1x128 .f32) (l q : Fin 128) :
    xdV xp d0 d1 (ix2 l q) = xp (ix2 l q) * (if q.val < 64 then d0 (ix2 0 l) else d1 (ix2 0 l)) := by
  pointwise [xdV]
  rw [pair_apply, colOf_apply, colOf_apply]

theorem elV_apply (r0 r1 : FVec Ideal S1x128 .f32) (e0 e1 : FVec Ideal S1x1 .f32) (l q : Fin 128) :
    elV r0 r1 e0 e1 (ix2 l q) =
      if q.val < 64 then Ideal.exp (e0 (ix2 0 0) - r0 (ix2 0 l)) else Ideal.exp (e1 (ix2 0 0) - r1 (ix2 0 l)) := by
  rw [elV, pair_apply, ecol_apply, ecol_apply]

theorem dxdHead_apply (m lm dyp acc : FVec Ideal S128x128 .f32) (mk : IVec S1x128 1) (l q : Fin 128) :
    dxdHead m lm dyp acc mk (ix2 l q) = acc (ix2 l q) + ∑ s : Fin 128, m (ix2 s l) * lm (ix2 s l) * half mk dyp (ix2 s q) := by
  pointwise [dxdHead]

theorem sum_mul_ite_zero (f g : Fin 128 → EReal) (p : Prop) [Decidable p] :
    ∑ s : Fin 128, f s * (if p then g s else 0) = if p then ∑ s : Fin 128, f s * g s else 0 := by
  by_cases h : p <;> simp [h]

theorem sum_mul_ite_zero' (f g : Fin 128 → EReal) (p : Prop) [Decidable p] :
    ∑ s : Fin 128, f s * (if p then 0 else g s) = if p then 0 else ∑ s : Fin 128, f s * g s := by
  by_cases h : p <;> simp [h]

/-- A lane of the pair reads its own head's decays. -/
theorem dxdV_apply (g bp dyp : FVec Ideal S128x128 .f32) (r0 r1 : FVec Ideal S1x128 .f32) (e0 e1 : FVec Ideal S1x1 .f32)
    (l q : Fin 128) :
    dxdV g bp dyp r0 r1 e0 e1 (ix2 l q) =
      bp (ix2 l q) * elV r0 r1 e0 e1 (ix2 l q)
        + ∑ s : Fin 128, g (ix2 s l) * lmV (if q.val < 64 then r0 else r1) (ix2 s l) * dyp (ix2 s q) := by
  rw [dxdV, dxdHead_apply, dxdHead_apply]
  simp only [half0_apply, half1_apply, sum_mul_ite_zero, sum_mul_ite_zero']
  have e : mulf bp (elV r0 r1 e0 e1) (ix2 l q) = bp (ix2 l q) * elV r0 r1 e0 e1 (ix2 l q) := rfl
  rw [e]
  by_cases h : q.val < 64 <;> simp [h]

theorem dxV_apply (g bp dyp : FVec Ideal S128x128 .f32) (px : FVec Ideal S128x128 .bf16) (dk r0 r1 d0 d1 : FVec Ideal S1x128 .f32)
    (e0 e1 : FVec Ideal S1x1 .f32) (l q : Fin 128) :
    dxV g bp dyp px dk r0 r1 d0 d1 e0 e1 (ix2 l q) =
      (dxdV g bp dyp r0 r1 e0 e1 (ix2 l q) * (if q.val < 64 then d0 (ix2 0 l) else d1 (ix2 0 l))
        + dyp (ix2 l q) * dk (ix2 0 q)) * siluGrad (px (ix2 l q)) := by
  pointwise [dxV, k0_pay69]
  rw [pair_apply, colOf_apply, colOf_apply]
  simp [siluGrad]

theorem dgHead_apply (dyp xd lm acc : FVec Ideal S128x128 .f32) (mk : IVec S1x128 1) (l s : Fin 128) :
    dgHead dyp xd lm acc mk (ix2 l s) =
      acc (ix2 l s) + (∑ q : Fin 128, half mk dyp (ix2 l q) * xd (ix2 s q)) * lm (ix2 l s) := by
  pointwise [dgHead]

end Cert.Ssd
-- ==== Proof.Rows.lean ====
/-
  The chunk's running sums and step sizes as the body keeps them: stored in one scratch of 16 rows (rows 0–7 the sums, rows
  8–15 the steps) and loaded back row by row.
-/
module

public import proofs.«01_k».proof.Proof.Vec
public import proofs.«01_k».proof.Proof.Gen.KernelIdeal.Frame
public import Idealize.ShloMosaic.Lib.Pipeline.ValueKit
public import Idealize.ShloMosaic.Lib.Pipeline.ReadBack

@[expose] public section

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable {F : FTy → Type} [FloatOps F]

/-- Row `h`. -/
def rowV (v : FVec F S8x128 .f32) (h : Fin 8) : FVec F S1x128 .f32 := fun i => v (ix2 h (i 1))

/-- The last entry of row `h`. -/
def lastV (v : FVec F S8x128 .f32) (h : Fin 8) : FVec F S1x1 .f32 := fun _ => v (ix2 h 127)

/-- The scratch after both stores. -/
def scr (A D : FVec F S8x128 .f32) : List (View.Piece (Elt F) S16x128 .f32) :=
  [⟨Rect.unit ![8, 0] ![8, 128] inb_S16x128_S8x128_8_0, D⟩, ⟨Rect.unit ![0, 0] ![8, 128] inb_S16x128_S8x128_0_0, A⟩]

theorem scr_low (A D : FVec F S8x128 .f32) (y : S16x128.Idx) (h : Fin 8) (k : Fin 128) (h0 : (y 0).val = h.val)
    (h1 : (y 1).val = k.val) : View.canon (scr A D) y = A (ix2 h k) := by
  have e : y = (Rect.unit (s := S16x128) ![0, 0] ![8, 128] inb_S16x128_S8x128_0_0).emb (ix2 h k) := by
    funext a; apply Fin.ext
    refine Eq.trans ?_ (Rect.idx_unit_val (s := S16x128) ![0, 0] ![8, 128] inb_S16x128_S8x128_0_0 (ix2 h k) a).symm
    match a with
    | ⟨0, _⟩ => exact h0.trans (Nat.zero_add _).symm
    | ⟨1, _⟩ => exact h1.trans (Nat.zero_add _).symm
  rw [scr, View.canon_cons_of_not_mem]
  · rw [e]; exact View.canon_cons_emb _ _ _ _
  · rw [Rect.mem_set_unit]
    intro hy
    have := (hy 0).1
    have h8 : (8 : ℕ) ≤ (y 0).val := this
    omega

theorem scr_high (A D : FVec F S8x128 .f32) (y : S16x128.Idx) (h : Fin 8) (k : Fin 128) (h0 : (y 0).val = 8 + h.val)
    (h1 : (y 1).val = k.val) : View.canon (scr A D) y = D (ix2 h k) := by
  have e : y = (Rect.unit (s := S16x128) ![8, 0] ![8, 128] inb_S16x128_S8x128_8_0).emb (ix2 h k) := by
    funext a; apply Fin.ext
    refine Eq.trans ?_ (Rect.idx_unit_val (s := S16x128) ![8, 0] ![8, 128] inb_S16x128_S8x128_8_0 (ix2 h k) a).symm
    match a with
    | ⟨0, _⟩ => exact h0
    | ⟨1, _⟩ => exact h1.trans (Nat.zero_add _).symm
  rw [scr, e]; exact View.canon_cons_emb _ _ _ _

theorem read_row (A D : FVec F S8x128 .f32) (h : ℕ) (inb : ∀ a, (![h, 0] : Fin 2 → ℕ) a + (![1, 128] : Fin 2 → ℕ) a ≤ S16x128.size a)
    (hh : h < 8) :
    View.readCov (Val := Elt F) (View.whole cc0_scratch1) [⟨Rect.unit ![8, 0] ![8, 128] inb_S16x128_S8x128_8_0, D⟩,
      ⟨Rect.unit ![0, 0] ![8, 128] inb_S16x128_S8x128_0_0, A⟩] (Rect.unit ![h, 0] ![1, 128] inb).toLoadRect
      = rowV A ⟨h, hh⟩ := by
  rw [View.readCov_eq_canon']
  funext j
  refine scr_low A D _ _ _ ?_ ?_
  · refine (Rect.idx_unit_val (s := S16x128) ![h, 0] ![1, 128] inb j 0).trans ?_
    have : (j 0).val < 1 := (j 0).isLt
    show h + (j 0).val = h
    omega
  · exact (Rect.idx_unit_val (s := S16x128) ![h, 0] ![1, 128] inb j 1).trans (Nat.zero_add _)

theorem read_step (A D : FVec F S8x128 .f32) (h : ℕ) (inb : ∀ a, (![h, 0] : Fin 2 → ℕ) a + (![1, 128] : Fin 2 → ℕ) a ≤ S16x128.size a)
    (hl : 8 ≤ h) (hh : h - 8 < 8) :
    View.readCov (Val := Elt F) (View.whole cc0_scratch1) [⟨Rect.unit ![8, 0] ![8, 128] inb_S16x128_S8x128_8_0, D⟩,
      ⟨Rect.unit ![0, 0] ![8, 128] inb_S16x128_S8x128_0_0, A⟩] (Rect.unit ![h, 0] ![1, 128] inb).toLoadRect
      = rowV D ⟨h - 8, hh⟩ := by
  rw [View.readCov_eq_canon']
  funext j
  refine scr_high A D _ _ _ ?_ ?_
  · refine (Rect.idx_unit_val (s := S16x128) ![h, 0] ![1, 128] inb j 0).trans ?_
    have : (j 0).val < 1 := (j 0).isLt
    show h + (j 0).val = 8 + (h - 8)
    omega
  · exact (Rect.idx_unit_val (s := S16x128) ![h, 0] ![1, 128] inb j 1).trans (Nat.zero_add _)

theorem read_last (A D : FVec F S8x128 .f32) (h : ℕ) (inb : ∀ a, (![h, 127] : Fin 2 → ℕ) a + (![1, 1] : Fin 2 → ℕ) a ≤ S16x128.size a)
    (hh : h < 8) :
    View.readCov (Val := Elt F) (View.whole cc0_scratch1) [⟨Rect.unit ![8, 0] ![8, 128] inb_S16x128_S8x128_8_0, D⟩,
      ⟨Rect.unit ![0, 0] ![8, 128] inb_S16x128_S8x128_0_0, A⟩] (Rect.unit ![h, 127] ![1, 1] inb).toLoadRect
      = lastV A ⟨h, hh⟩ := by
  rw [View.readCov_eq_canon']
  funext j
  refine scr_low A D _ _ _ ?_ ?_
  · refine (Rect.idx_unit_val (s := S16x128) ![h, 127] ![1, 1] inb j 0).trans ?_
    have : (j 0).val < 1 := (j 0).isLt
    show h + (j 0).val = h
    omega
  · refine (Rect.idx_unit_val (s := S16x128) ![h, 127] ![1, 1] inb j 1).trans ?_
    have : (j 1).val < 1 := (j 1).isLt
    show 127 + (j 1).val = 127
    omega

end Cert.Ssd
-- ==== Proof.Block.lean ====
/-
  One point's blocks as a `ChunkIn`, and the body's values on them at an index.
-/
module

public import proofs.«01_k».proof.Proof.Rows

@[expose] public section

noncomputable section

namespace Cert.Ssd

open Cert.KernelIdeal Cert.KernelIdeal.Gen Idealize.ShloMosaic
open Idealize.ShloMosaic.ValueIdx hiding ix1 ix2 ix3 ix4 ix5
open Idealize.ShloMosaic.Pointwise

/-- The blocks that one point reads. -/
structure Blk where
  px : FVec Ideal S128x512 .bf16
  pb : FVec Ideal S128x128 .bf16
  pc : FVec Ideal S128x128 .bf16
  dtr : FVec Ideal S1x8x128 .f32
  bi : FVec Ideal S1x8x1 .f32
  al : FVec Ideal S1x8x1 .f32
  dk : FVec Ideal S1x512 .f32
  dy : FVec Ideal S128x512 .f32

namespace Blk

variable (B : Blk)

def chunk : ChunkIn where
  px l q := B.px (ix2 l q)
  pb l n := B.pb (ix2 l n)
  pc l n := B.pc (ix2 l n)
  dtr h l := B.dtr (ix3 0 h l)
  bi h := B.bi (ix3 0 h 0)
  al h := B.al (ix3 0 h 0)
  dsk q := B.dk (ix2 0 q)
  dy l q := B.dy (ix2 l q)

theorem dt_apply (h : Fin 8) (l : Fin 128) : k0_pay8 (F := Ideal) B.dtr B.bi (ix2 h l) = B.chunk.dt h l := by
  pointwise [k0_pay8]
  rw [if_neg (not_not.2 rfl), zero_sub]
  rfl

theorem a_apply (h : Fin 8) : k0_pay9 (F := Ideal) B.al (ix2 h 0) = B.chunk.a h := by
  pointwise [k0_pay9]
  simp [ChunkIn.a, chunk]

theorem step_apply (h : Fin 8) (l : Fin 128) : k0_pay11 (F := Ideal) (k0_pay8 B.dtr B.bi) (ix2 h l) = B.chunk.dt h l := by
  rw [← dt_apply]
  pointwise [k0_pay11]

theorem pos_le (l s : Fin 128) :
    IntOp.cmpi .sle (BitVec.ofNat 32 l.val) (BitVec.ofNat 32 s.val) = if l ≤ s then 1#1 else 0#1 := by
  revert l s; decide +kernel

theorem cs_apply (h : Fin 8) (l : Fin 128) : k0_pay10 (F := Ideal) (k0_pay8 B.dtr B.bi) B.al (ix2 h l) = B.chunk.cs h l := by
  pointwise [k0_pay10]
  refine Finset.sum_congr rfl fun x _ => ?_
  rw [pos_le, dt_apply, a_apply]
  by_cases hx : x ≤ l
  · rw [if_pos hx, if_pos hx]
    have e : FloatOps.sitofp (F := Ideal) FTy.f32 (BitVec.setWidth 32 1#1) = (1 : EReal) := by
      show (((BitVec.setWidth 32 1#1).toInt : ℝ) : EReal) = 1
      rw [show (BitVec.setWidth 32 1#1).toInt = 1 by decide]; simp
    rw [e, mul_one]
  · rw [if_neg hx, if_neg hx]
    have e : FloatOps.sitofp (F := Ideal) FTy.f32 (BitVec.setWidth 32 0#1) = (0 : EReal) := by
      show (((BitVec.setWidth 32 0#1).toInt : ℝ) : EReal) = 0
      rw [show (BitVec.setWidth 32 0#1).toInt = 0 by decide]; simp
    rw [e, mul_zero]

theorem x_apply (l : Fin 128) (q : Fin 512) : k0_pay5 (F := Ideal) B.px (ix2 l q) = B.chunk.x l q := by
  pointwise [k0_pay5]
  rfl

theorem b_apply (l n : Fin 128) : k0_pay6 (F := Ideal) B.pb (ix2 l n) = B.chunk.b l n := by
  pointwise [k0_pay6]
  rfl

theorem c_apply (l n : Fin 128) : k0_pay7 (F := Ideal) B.pc (ix2 l n) = B.chunk.c l n := by
  pointwise [k0_pay7]
  rfl

theorem g_apply (l s : Fin 128) : k0_pay12 (F := Ideal) (k0_pay6 B.pb) (k0_pay7 B.pc) (ix2 l s) = B.chunk.g l s := by
  pointwise [k0_pay12]
  simp only [b_apply, c_apply]
  rfl

/-- The cotangent of the state through B. -/
theorem bds_apply (ds : FVec Ideal S512x128 .f32) (l : Fin 128) (q : Fin 512) :
    k0_pay18 (F := Ideal) (k0_pay6 B.pb) ds (ix2 l q) = ∑ n : Fin 128, B.chunk.b l n * ds (ix2 q n) := by
  pointwise [k0_pay18, k0_pay16]
  simp only [b_apply]

end Blk

/-- The lanes of a pair, head by head. -/
theorem sum_lanes (f : Fin 128 → EReal) :
    ∑ q : Fin 128, f q = ∑ p : Fin 64, f ⟨p.val, by omega⟩ + ∑ p : Fin 64, f ⟨64 + p.val, by omega⟩ :=
  Fin.sum_univ_add (a := 64) (b := 64) f

theorem sum_first (f : Fin 128 → EReal) :
    (∑ q : Fin 128, if q.val < 64 then f q else 0) = ∑ p : Fin 64, f ⟨p.val, by omega⟩ := by
  rw [sum_lanes, Finset.sum_congr rfl fun (p : Fin 64) _ => if_pos p.isLt,
    Finset.sum_congr rfl fun (p : Fin 64) _ => if_neg (show ¬ 64 + p.val < 64 by omega), Finset.sum_const_zero, add_zero]

theorem sum_second (f : Fin 128 → EReal) :
    (∑ q : Fin 128, if q.val < 64 then 0 else f q) = ∑ p : Fin 64, f ⟨64 + p.val, by omega⟩ := by
  rw [sum_lanes, Finset.sum_congr rfl fun (p : Fin 64) _ => if_pos p.isLt,
    Finset.sum_congr rfl fun (p : Fin 64) _ => if_neg (show ¬ 64 + p.val < 64 by omega), Finset.sum_const_zero, zero_add]

/-! ## One pair of heads -/

/-- Column `q` of pair `j`. -/
def pcol (j : Fin 4) (q : Fin 128) : Fin 512 := ⟨128 * j.val + q.val, by omega⟩

def head0 (j : Fin 4) : Fin 8 := ⟨2 * j.val, by omega⟩
def head1 (j : Fin 4) : Fin 8 := ⟨2 * j.val + 1, by omega⟩

theorem hd_pcol (j : Fin 4) (q : Fin 128) : hd (pcol j q) = if q.val < 64 then head0 j else head1 j := by
  split <;> (apply Fin.ext; simp only [hd, pcol, head0, head1]; omega)

/-- What the body's vectors of pair `j` hold. -/
structure PairOf (k : ChunkIn) (j : Fin 4) (xp dyp : FVec Ideal S128x128 .f32) (r0 r1 d0 d1 : FVec Ideal S1x128 .f32)
    (e0 e1 : FVec Ideal S1x1 .f32) : Prop where
  x : ∀ l q, xp (ix2 l q) = k.x l (pcol j q)
  dy : ∀ l q, dyp (ix2 l q) = k.dy l (pcol j q)
  r0 : ∀ l, r0 (ix2 0 l) = k.cs (head0 j) l
  r1 : ∀ l, r1 (ix2 0 l) = k.cs (head1 j) l
  d0 : ∀ l, d0 (ix2 0 l) = k.dt (head0 j) l
  d1 : ∀ l, d1 (ix2 0 l) = k.dt (head1 j) l
  e0 : e0 (ix2 0 0) = k.cs (head0 j) lastPos
  e1 : e1 (ix2 0 0) = k.cs (head1 j) lastPos

/-- `dy` times the decay from the chunk's start, of one pair. -/
def dyeV (dyp : FVec Ideal S128x128 .f32) (r0 r1 : FVec Ideal S1x128 .f32) : FVec Ideal S128x128 .bf16 :=
  truncf .bf16 (mulf dyp (pair (exp (colOf r0)) (exp (colOf r1)))) bitsLt_bf16_f32

theorem dyeV_apply (dyp : FVec Ideal S128x128 .f32) (r0 r1 : FVec Ideal S1x128 .f32) (l q : Fin 128) :
    dyeV dyp r0 r1 (ix2 l q) =
      dyp (ix2 l q) * (if q.val < 64 then Ideal.exp (r0 (ix2 0 l)) else Ideal.exp (r1 (ix2 0 l))) := by
  pointwise [dyeV]
  rw [pair_apply]
  pointwise
  rw [colOf_apply, colOf_apply]

/-- The gradient of the pre-activation of B, of the gradient of `C Bᵀ` and of `x * dt` decayed to the chunk's end. -/
def dbV (c16 : FVec Ideal S128x128 .bf16) (ds16 : FVec Ideal S512x128 .bf16) (xe : FVec Ideal S128x512 .bf16)
    (dg : FVec Ideal S128x128 .f32) (pb : FVec Ideal S128x128 .bf16) : FVec Ideal S128x128 .bf16 :=
  have v1514 := extf .f32 pb bitsLt_bf16_f32
  have v1515 := logistic v1514
  truncf .bf16 (mulf (addf (matmul dot_S128x128_S128x128_S128x128_0_0_1_1_n_n none (k0_pay241 dg) c16 (constant S128x128 .f32 0x00000000#32))
    (matmul dot_S128x512_S512x128_S128x128_1_0_0_1_n_n none xe ds16 (constant S128x128 .f32 0x00000000#32)))
    (mulf v1515 (addf (broadcast S128x128 (Scalar.ofBits .f32 0x3F800000#32))
      (mulf v1514 (subf (broadcast S128x128 (Scalar.ofBits .f32 0x3F800000#32)) v1515))))) bitsLt_bf16_f32

namespace PairOf

variable {k : ChunkIn} {j : Fin 4} {xp dyp : FVec Ideal S128x128 .f32} {r0 r1 d0 d1 : FVec Ideal S1x128 .f32}
  {e0 e1 : FVec Ideal S1x1 .f32} (P : PairOf k j xp dyp r0 r1 d0 d1 e0 e1) (hk : k.Fin)

include P

include hk in
theorem lm0 (l s : Fin 128) : lmV r0 (ix2 l s) = k.lm (head0 j) l s := by
  rw [lmV_apply, P.r0, P.r0, ChunkIn.lm]
  split
  · rw [hk.min_cs _ ‹_›]
  · rfl

include hk in
theorem lm1 (l s : Fin 128) : lmV r1 (ix2 l s) = k.lm (head1 j) l s := by
  rw [lmV_apply, P.r1, P.r1, ChunkIn.lm]
  split
  · rw [hk.min_cs _ ‹_›]
  · rfl

theorem dt (l q : Fin 128) : (if q.val < 64 then d0 (ix2 0 l) else d1 (ix2 0 l)) = k.dt (hd (pcol j q)) l := by
  rw [hd_pcol]; split
  · exact P.d0 l
  · exact P.d1 l

theorem el (l q : Fin 128) : elV r0 r1 e0 e1 (ix2 l q) = k.ec (hd (pcol j q)) l := by
  rw [elV_apply, hd_pcol]; split
  · rw [P.e0, P.r0]; rfl
  · rw [P.e1, P.r1]; rfl

include hk in
theorem lmq (l s q : Fin 128) : lmV (if q.val < 64 then r0 else r1) (ix2 l s) = k.lm (hd (pcol j q)) l s := by
  rw [hd_pcol]; split
  · exact P.lm0 hk l s
  · exact P.lm1 hk l s

include hk in
theorem dxd {g bp : FVec Ideal S128x128 .f32} {ds : Fin 512 → Fin 128 → EReal} (hg : ∀ l s, g (ix2 l s) = k.g l s)
    (hb : ∀ l q, bp (ix2 l q) = ∑ n : Fin 128, k.b l n * ds (pcol j q) n) (l q : Fin 128) :
    dxdV g bp dyp r0 r1 e0 e1 (ix2 l q) = k.dxd ds l (pcol j q) := by
  rw [dxdV_apply, hb, P.el, ChunkIn.dxd]
  simp only [hg, P.lmq hk, P.dy]

include hk in
/-- The pair's columns of the gradient of the pre-activation of x. -/
theorem dx {g bp : FVec Ideal S128x128 .f32} {px : FVec Ideal S128x128 .bf16} {dk : FVec Ideal S1x128 .f32}
    {ds : Fin 512 → Fin 128 → EReal} (hg : ∀ l s, g (ix2 l s) = k.g l s)
    (hb : ∀ l q, bp (ix2 l q) = ∑ n : Fin 128, k.b l n * ds (pcol j q) n) (hpx : ∀ l q, px (ix2 l q) = k.px l (pcol j q))
    (hdk : ∀ q, dk (ix2 0 q) = k.dsk (pcol j q)) (l q : Fin 128) :
    dxV g bp dyp px dk r0 r1 d0 d1 e0 e1 (ix2 l q) = k.dx ds l (pcol j q) := by
  rw [dxV_apply, P.dxd hk hg hb, P.dt, P.dy, hpx, hdk]
  rfl

theorem xd (l q : Fin 128) : xdV xp d0 d1 (ix2 l q) = k.xs l (pcol j q) := by
  rw [xdV_apply, P.x, P.dt]; rfl

include hk in
/-- The pair's part of the gradient of `C Bᵀ`, added. -/
theorem dg (acc : FVec Ideal S128x128 .f32) (l s : Fin 128) :
    dgV xp dyp acc r0 r1 d0 d1 (ix2 l s) =
      acc (ix2 l s) + k.dmat (head0 j) l s * k.lm (head0 j) l s + k.dmat (head1 j) l s * k.lm (head1 j) l s := by
  rw [dgV, dgHead_apply, dgHead_apply, P.lm0 hk, P.lm1 hk]
  simp only [half0_apply, half1_apply, P.xd, P.dy, ite_mul, zero_mul]
  rw [sum_first, sum_second]
  have e0 : ∀ p : Fin 64, pcol j ⟨p.val, by omega⟩ = col (head0 j) p := fun p =>
    Fin.ext (by simp only [pcol, col, head0]; omega)
  have e1 : ∀ p : Fin 64, pcol j ⟨64 + p.val, by omega⟩ = col (head1 j) p := fun p =>
    Fin.ext (by simp only [pcol, col, head1]; omega)
  simp only [e0, e1]
  rfl

/-- `dy` times the decay from the chunk's start. -/
theorem dye (l q : Fin 128) : dyeV dyp r0 r1 (ix2 l q) = k.dy l (pcol j q) * Ideal.exp (k.cs (hd (pcol j q)) l) := by
  rw [dyeV_apply, P.dy, hd_pcol]
  split
  · rw [P.r0]
  · rw [P.r1]

/-- `x * dt` times the decay to the chunk's end. -/
theorem xde (l q : Fin 128) :
    mulf (xdV xp d0 d1) (elV r0 r1 e0 e1) (ix2 l q) = k.xs l (pcol j q) * k.ec (hd (pcol j q)) l := by
  rw [← P.xd l q, ← P.el l q]; rfl

theorem dsk (acc : FVec Ideal S1x128 .f32) (q : Fin 128) :
    k0_pay70 xp dyp acc (ix2 0 q) = acc (ix2 0 q) + k.ddsk (pcol j q) := by
  pointwise [k0_pay70]
  simp only [P.x, P.dy]
  rfl

end PairOf

/-! ## The four pairs side by side -/

def cat4 (v0 v1 v2 v3 : FVec Ideal S128x128 .bf16) : FVec Ideal S128x512 .bf16 :=
  concatenate S128x512 1 [⟨S128x128, v0⟩, ⟨S128x128, v1⟩, ⟨S128x128, v2⟩, ⟨S128x128, v3⟩]
    concatenates_S128x128_S128x128_S128x128_S128x128_S128x512_d1

theorem cat4_apply (v0 v1 v2 v3 : FVec Ideal S128x128 .bf16) (f : Fin 128 → Fin 512 → EReal)
    (h0 : ∀ l q, v0 (ix2 l q) = f l (pcol 0 q)) (h1 : ∀ l q, v1 (ix2 l q) = f l (pcol 1 q))
    (h2 : ∀ l q, v2 (ix2 l q) = f l (pcol 2 q)) (h3 : ∀ l q, v3 (ix2 l q) = f l (pcol 3 q)) (l : Fin 128) (q : Fin 512) :
    cat4 v0 v1 v2 v3 (ix2 l q) = f l q := by
  pointwise [cat4]
  by_cases a0 : q.val < 128
  · rw [dif_pos a0, h0]; congr 1; apply Fin.ext; show 128 * 0 + q.val = q.val; omega
  rw [dif_neg a0]
  by_cases a1 : q.val - 128 < 128
  · rw [dif_pos a1, h1]; congr 1; apply Fin.ext; show 128 * 1 + (q.val - 128) = q.val; omega
  rw [dif_neg a1]
  by_cases a2 : q.val - 128 - 128 < 128
  · rw [dif_pos a2, h2]; congr 1; apply Fin.ext; show 128 * 2 + (q.val - 128 - 128) = q.val; omega
  rw [dif_neg a2, h3]; congr 1; apply Fin.ext; show 128 * 3 + (q.val - 128 - 128 - 128) = q.val; omega

namespace Blk

variable (B : Blk)

/-- The gradient of the pre-activation of B. -/
theorem db_apply (ds : FVec Ideal S512x128 .f32) (x0 x1 x2 : FVec Ideal S128x128 .bf16) (x3 dg : FVec Ideal S128x128 .f32)
    (h0 : ∀ l q, x0 (ix2 l q) = B.chunk.xs l (pcol 0 q) * B.chunk.ec (hd (pcol 0 q)) l)
    (h1 : ∀ l q, x1 (ix2 l q) = B.chunk.xs l (pcol 1 q) * B.chunk.ec (hd (pcol 1 q)) l)
    (h2 : ∀ l q, x2 (ix2 l q) = B.chunk.xs l (pcol 2 q) * B.chunk.ec (hd (pcol 2 q)) l)
    (h3 : ∀ l q, x3 (ix2 l q) = B.chunk.xs l (pcol 3 q) * B.chunk.ec (hd (pcol 3 q)) l)
    (hdg : ∀ l s, dg (ix2 l s) = B.chunk.dg l s) (s n : Fin 128) :
    k0_pay243 (k0_pay7 B.pc) (k0_pay16 ds) x0 x1 x2 x3 dg B.pb (ix2 s n) = B.chunk.db (fun q n => ds (ix2 q n)) s n := by
  have hc := cat4_apply x0 x1 x2 (truncf .bf16 x3 bitsLt_bf16_f32) (fun l q => B.chunk.xs l q * B.chunk.ec (hd q) l) h0 h1 h2 h3
  rw [show k0_pay243 (k0_pay7 B.pc) (k0_pay16 ds) x0 x1 x2 x3 dg B.pb =
    dbV (k0_pay7 B.pc) (k0_pay16 ds) (cat4 x0 x1 x2 (truncf .bf16 x3 bitsLt_bf16_f32)) dg B.pb from rfl]
  pointwise [dbV, k0_pay241, k0_pay16]
  simp only [hdg, hc, c_apply]
  rfl

/-- The state's cotangent after one more chunk, one head's rows: the part common to the eight stores. -/
theorem ds_head (ds : FVec Ideal S512x128 .f32) (ye : FVec Ideal S128x512 .bf16) (e : FVec Ideal S1x1 .f32) (h : Fin 8)
    (hy : ∀ l q, ye (ix2 l q) = B.chunk.dy l q * Ideal.exp (B.chunk.cs (hd q) l)) (he : e (ix2 0 0) = B.chunk.cs h lastPos)
    (p : Fin 64) (n : Fin 128) :
    ds (ix2 (col h p) n) * Ideal.exp (e (ix2 0 0)) + k0_pay244 (k0_pay7 B.pc) ye (ix2 (col h p) n) =
      B.chunk.dsNext (fun q n => ds (ix2 q n)) (col h p) n := by
  have eh : hd (col h p) = h := Fin.ext (by simp only [hd, col]; omega)
  pointwise [k0_pay244]
  simp only [hy, c_apply, he, ChunkIn.dsNext, eh]

theorem ds0_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 0 lastPos)
    (p : Fin 64) (n : Fin 128) :
    k0_pay245 (k0_pay7 B.pc) ds ye e (ix2 p n) = B.chunk.dsNext (fun q n => ds (ix2 q n)) (col 0 p) n := by
  refine Eq.trans ?_ (B.ds_head ds ye e 0 hy he p n)
  have e0 : col 0 p = ⟨p.val, by omega⟩ := Fin.ext (by show 64 * 0 + p.val = p.val; omega)
  rw [e0]
  pointwise [k0_pay245]

theorem ds1_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 1 lastPos)
    (p : Fin 64) (n : Fin 128) :
    k0_pay246 (k0_pay7 B.pc) ds ye e (ix2 p n) = B.chunk.dsNext (fun q n => ds (ix2 q n)) (col 1 p) n := by
  refine Eq.trans ?_ (B.ds_head ds ye e 1 hy he p n)
  pointwise [k0_pay246]
  rfl

theorem ds2_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 2 lastPos)
    (p : Fin 64) (n : Fin 128) :
    k0_pay247 (k0_pay7 B.pc) ds ye e (ix2 p n) = B.chunk.dsNext (fun q n => ds (ix2 q n)) (col 2 p) n := by
  refine Eq.trans ?_ (B.ds_head ds ye e 2 hy he p n)
  pointwise [k0_pay247]
  rfl

theorem ds3_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 3 lastPos)
    (p : Fin 64) (n : Fin 128) :
    k0_pay249 (k0_pay248 (k0_pay7 B.pc) ds ye e) (ix2 p n) = B.chunk.dsNext (fun q n => ds (ix2 q n)) (col 3 p) n := by
  refine Eq.trans ?_ (B.ds_head ds ye e 3 hy he p n)
  pointwise [k0_pay249, k0_pay248]
  rfl

theorem ds4_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 4 lastPos)
    (p : Fin 64) (n : Fin 128) :
    k0_pay250 ds (k0_pay244 (k0_pay7 B.pc) ye) e (ix2 p n) = B.chunk.dsNext (fun q n => ds (ix2 q n)) (col 4 p) n := by
  refine Eq.trans ?_ (B.ds_head ds ye e 4 hy he p n)
  pointwise [k0_pay250]
  rfl

theorem ds5_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 5 lastPos)
    (p : Fin 64) (n : Fin 128) :
    k0_pay251 ds (k0_pay244 (k0_pay7 B.pc) ye) e (ix2 p n) = B.chunk.dsNext (fun q n => ds (ix2 q n)) (col 5 p) n := by
  refine Eq.trans ?_ (B.ds_head ds ye e 5 hy he p n)
  pointwise [k0_pay251]
  rfl

theorem ds6_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 6 lastPos)
    (p : Fin 64) (n : Fin 128) :
    k0_pay252 ds (k0_pay244 (k0_pay7 B.pc) ye) e (ix2 p n) = B.chunk.dsNext (fun q n => ds (ix2 q n)) (col 6 p) n := by
  refine Eq.trans ?_ (B.ds_head ds ye e 6 hy he p n)
  pointwise [k0_pay252]
  rfl

theorem ds7_apply (ds : FVec Ideal S512x128 .f32) (ye : FVec Ideal S128x512 .bf16) (e : FVec Ideal S1x1 .f32)
    (hy : ∀ l q, ye (ix2 l q) = B.chunk.dy l q * Ideal.exp (B.chunk.cs (hd q) l)) (he : e (ix2 0 0) = B.chunk.cs 7 lastPos)
    (p : Fin 64) (n : Fin 128) :
    k0_pay254 (k0_pay253 ds (k0_pay244 (k0_pay7 B.pc) ye) e) (ix2 p n) = B.chunk.dsNext (fun q n => ds (ix2 q n)) (col 7 p) n := by
  refine Eq.trans ?_ (B.ds_head ds ye e 7 hy he p n)
  pointwise [k0_pay254, k0_pay253]
  rfl

end Blk

end Cert.Ssd
-- ==== Proof.Pairs.lean ====
/-
  What one point of the grid stores, at an index: the gradients of the pre-activations of x and B, the state's cotangent
  and the skip weights' part. A point that starts a group (`t % 32 = 0`) begins from a state of zeros, any other from what
  the point before it left.
-/
module

public import proofs.«01_k».proof.Proof.Block

@[expose] public section

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

namespace Blk

variable (B : Blk)

/-- The running sums. -/
abbrev csV : FVec Ideal S8x128 .f32 := k0_pay10 (k0_pay8 B.dtr B.bi) B.al

/-- The steps. -/
abbrev dtV : FVec Ideal S8x128 .f32 := k0_pay11 (k0_pay8 B.dtr B.bi)

theorem row_cs (h : Fin 8) (l : Fin 128) : rowV B.csV h (ix2 0 l) = B.chunk.cs h l := B.cs_apply h l
theorem row_dt (h : Fin 8) (l : Fin 128) : rowV B.dtV h (ix2 0 l) = B.chunk.dt h l := B.step_apply h l
theorem last_cs (h : Fin 8) : lastV B.csV h (ix2 0 0) = B.chunk.cs h lastPos := B.cs_apply h _

theorem pair0 : PairOf B.chunk 0 (k0_pay20 (k0_pay5 B.px)) (k0_pay21 B.dy) (rowV B.csV 0) (rowV B.csV 1)
    (rowV B.dtV 0) (rowV B.dtV 1) (lastV B.csV 0) (lastV B.csV 1) where
  x l q := by
    rw [← x_apply]
    pointwise [k0_pay20]
    first | rfl | (congr 2; apply Fin.ext; simp [pcol])
  dy l q := by
    pointwise [k0_pay21]
    first | rfl | (show B.dy _ = B.dy _; congr 2; apply Fin.ext; simp [pcol])
  r0 := B.row_cs 0
  r1 := B.row_cs 1
  d0 := B.row_dt 0
  d1 := B.row_dt 1
  e0 := B.last_cs 0
  e1 := B.last_cs 1

/-- The pair's columns of the state's cotangent through B. -/
def bds0 (d : FVec Ideal S512x128 .f32) : FVec Ideal S128x128 .f32 :=
  extractStridedSlice S128x128 ![0, 0] (k0_pay18 (k0_pay6 B.pb) d) slices_S128x512_o0_0_S128x128

theorem bds0_apply (d : FVec Ideal S512x128 .f32) (l q : Fin 128) :
    B.bds0 d (ix2 l q) = ∑ n : Fin 128, B.chunk.b l n * d (ix2 (pcol 0 q) n) := by
  rw [← bds_apply]
  pointwise [bds0]
  first | rfl | (congr 2; apply Fin.ext; simp [pcol])

theorem pair1 : PairOf B.chunk 1 (k0_pay73 (k0_pay5 B.px)) (k0_pay74 B.dy) (rowV B.csV 2) (rowV B.csV 3)
    (rowV B.dtV 2) (rowV B.dtV 3) (lastV B.csV 2) (lastV B.csV 3) where
  x l q := by
    rw [← x_apply]
    pointwise [k0_pay73]
    first | rfl | (congr 2; apply Fin.ext; simp [pcol])
  dy l q := by
    pointwise [k0_pay74]
    first | rfl | (show B.dy _ = B.dy _; congr 2; apply Fin.ext; simp [pcol])
  r0 := B.row_cs 2
  r1 := B.row_cs 3
  d0 := B.row_dt 2
  d1 := B.row_dt 3
  e0 := B.last_cs 2
  e1 := B.last_cs 3

/-- The pair's columns of the state's cotangent through B. -/
def bds1 (d : FVec Ideal S512x128 .f32) : FVec Ideal S128x128 .f32 :=
  extractStridedSlice S128x128 ![0, 128] (k0_pay18 (k0_pay6 B.pb) d) slices_S128x512_o0_128_S128x128

theorem bds1_apply (d : FVec Ideal S512x128 .f32) (l q : Fin 128) :
    B.bds1 d (ix2 l q) = ∑ n : Fin 128, B.chunk.b l n * d (ix2 (pcol 1 q) n) := by
  rw [← bds_apply]
  pointwise [bds1]
  first | rfl | (congr 2; apply Fin.ext; simp [pcol])

theorem pair2 : PairOf B.chunk 2 (k0_pay129 (k0_pay5 B.px)) (k0_pay130 B.dy) (rowV B.csV 4) (rowV B.csV 5)
    (rowV B.dtV 4) (rowV B.dtV 5) (lastV B.csV 4) (lastV B.csV 5) where
  x l q := by
    rw [← x_apply]
    pointwise [k0_pay129]
    first | rfl | (congr 2; apply Fin.ext; simp [pcol])
  dy l q := by
    pointwise [k0_pay130]
    first | rfl | (show B.dy _ = B.dy _; congr 2; apply Fin.ext; simp [pcol])
  r0 := B.row_cs 4
  r1 := B.row_cs 5
  d0 := B.row_dt 4
  d1 := B.row_dt 5
  e0 := B.last_cs 4
  e1 := B.last_cs 5

/-- The pair's columns of the state's cotangent through B. -/
def bds2 (d : FVec Ideal S512x128 .f32) : FVec Ideal S128x128 .f32 :=
  extractStridedSlice S128x128 ![0, 256] (k0_pay18 (k0_pay6 B.pb) d) slices_S128x512_o0_256_S128x128

theorem bds2_apply (d : FVec Ideal S512x128 .f32) (l q : Fin 128) :
    B.bds2 d (ix2 l q) = ∑ n : Fin 128, B.chunk.b l n * d (ix2 (pcol 2 q) n) := by
  rw [← bds_apply]
  pointwise [bds2]
  first | rfl | (congr 2; apply Fin.ext; simp [pcol])

theorem pair3 : PairOf B.chunk 3 (k0_pay185 (k0_pay5 B.px)) (k0_pay186 B.dy) (rowV B.csV 6) (rowV B.csV 7)
    (rowV B.dtV 6) (rowV B.dtV 7) (lastV B.csV 6) (lastV B.csV 7) where
  x l q := by
    rw [← x_apply]
    pointwise [k0_pay185]
    first | rfl | (congr 2; apply Fin.ext; simp [pcol])
  dy l q := by
    pointwise [k0_pay186]
    first | rfl | (show B.dy _ = B.dy _; congr 2; apply Fin.ext; simp [pcol])
  r0 := B.row_cs 6
  r1 := B.row_cs 7
  d0 := B.row_dt 6
  d1 := B.row_dt 7
  e0 := B.last_cs 6
  e1 := B.last_cs 7

/-- The pair's columns of the state's cotangent through B. -/
def bds3 (d : FVec Ideal S512x128 .f32) : FVec Ideal S128x128 .f32 :=
  extractStridedSlice S128x128 ![0, 384] (k0_pay18 (k0_pay6 B.pb) d) slices_S128x512_o0_384_S128x128

theorem bds3_apply (d : FVec Ideal S512x128 .f32) (l q : Fin 128) :
    B.bds3 d (ix2 l q) = ∑ n : Fin 128, B.chunk.b l n * d (ix2 (pcol 3 q) n) := by
  rw [← bds_apply]
  pointwise [bds3]
  first | rfl | (congr 2; apply Fin.ext; simp [pcol])

/-- The gradient of `C Bᵀ` after pair 0. -/
def dg0 : FVec Ideal S128x128 .f32 :=
  dgV (k0_pay20 (k0_pay5 B.px)) (k0_pay21 B.dy) k0_pay19 (rowV B.csV 0) (rowV B.csV 1) (rowV B.dtV 0) (rowV B.dtV 1)

/-- The gradient of `C Bᵀ` after pair 1. -/
def dg1 : FVec Ideal S128x128 .f32 :=
  dgV (k0_pay73 (k0_pay5 B.px)) (k0_pay74 B.dy) B.dg0 (rowV B.csV 2) (rowV B.csV 3) (rowV B.dtV 2) (rowV B.dtV 3)

/-- The gradient of `C Bᵀ` after pair 2. -/
def dg2 : FVec Ideal S128x128 .f32 :=
  dgV (k0_pay129 (k0_pay5 B.px)) (k0_pay130 B.dy) B.dg1 (rowV B.csV 4) (rowV B.csV 5) (rowV B.dtV 4) (rowV B.dtV 5)

/-- The gradient of `C Bᵀ` after pair 3. -/
def dg3 : FVec Ideal S128x128 .f32 :=
  dgV (k0_pay185 (k0_pay5 B.px)) (k0_pay186 B.dy) B.dg2 (rowV B.csV 6) (rowV B.csV 7) (rowV B.dtV 6) (rowV B.dtV 7)

theorem dg_apply (hk : B.chunk.Fin) (l s : Fin 128) : B.dg3 (ix2 l s) = B.chunk.dg l s := by
  have z : (k0_pay19 : FVec Ideal S128x128 .f32) (ix2 l s) = 0 := by pointwise [k0_pay19]
  rw [dg3, B.pair3.dg hk, dg2, B.pair2.dg hk, dg1, B.pair1.dg hk, dg0, B.pair0.dg hk, z, zero_add, ChunkIn.dg, Fin.sum_univ_eight]
  rfl

/-- `x * dt` of pair 0, decayed to the chunk's end. -/
def xe0 : FVec Ideal S128x128 .f32 :=
  mulf (xdV (k0_pay20 (k0_pay5 B.px)) (rowV B.dtV 0) (rowV B.dtV 1)) (elV (rowV B.csV 0) (rowV B.csV 1) (lastV B.csV 0) (lastV B.csV 1))

/-- `x * dt` of pair 1, decayed to the chunk's end. -/
def xe1 : FVec Ideal S128x128 .f32 :=
  mulf (xdV (k0_pay73 (k0_pay5 B.px)) (rowV B.dtV 2) (rowV B.dtV 3)) (elV (rowV B.csV 2) (rowV B.csV 3) (lastV B.csV 2) (lastV B.csV 3))

/-- `x * dt` of pair 2, decayed to the chunk's end. -/
def xe2 : FVec Ideal S128x128 .f32 :=
  mulf (xdV (k0_pay129 (k0_pay5 B.px)) (rowV B.dtV 4) (rowV B.dtV 5)) (elV (rowV B.csV 4) (rowV B.csV 5) (lastV B.csV 4) (lastV B.csV 5))

/-- `x * dt` of pair 3, decayed to the chunk's end. -/
def xe3 : FVec Ideal S128x128 .f32 :=
  mulf (xdV (k0_pay185 (k0_pay5 B.px)) (rowV B.dtV 6) (rowV B.dtV 7)) (elV (rowV B.csV 6) (rowV B.csV 7) (lastV B.csV 6) (lastV B.csV 7))

/-- `dy` decayed from the chunk's start. -/
def ye : FVec Ideal S128x512 .bf16 :=
  cat4 (dyeV (k0_pay21 B.dy) (rowV B.csV 0) (rowV B.csV 1)) (dyeV (k0_pay74 B.dy) (rowV B.csV 2) (rowV B.csV 3)) (dyeV (k0_pay130 B.dy) (rowV B.csV 4) (rowV B.csV 5)) (dyeV (k0_pay186 B.dy) (rowV B.csV 6) (rowV B.csV 7))

theorem ye_apply (l : Fin 128) (q : Fin 512) : B.ye (ix2 l q) = B.chunk.dy l q * Ideal.exp (B.chunk.cs (hd q) l) :=
  cat4_apply _ _ _ _ (fun l q => B.chunk.dy l q * Ideal.exp (B.chunk.cs (hd q) l)) B.pair0.dye B.pair1.dye B.pair2.dye B.pair3.dye l q

/-- The gradient of the pre-activation of B, as it is stored. -/
def dbOut (d : FVec Ideal S512x128 .f32) : FVec Ideal S128x128 .bf16 :=
  k0_pay243 (k0_pay7 B.pc) (k0_pay16 d) (truncf .bf16 B.xe0 bitsLt_bf16_f32) (truncf .bf16 B.xe1 bitsLt_bf16_f32)
    (truncf .bf16 B.xe2 bitsLt_bf16_f32) B.xe3 B.dg3 B.pb

theorem dbOut_apply (hk : B.chunk.Fin) (d : FVec Ideal S512x128 .f32) (s n : Fin 128) :
    B.dbOut d (ix2 s n) = B.chunk.db (fun q n => d (ix2 q n)) s n :=
  B.db_apply d _ _ _ _ _ B.pair0.xde B.pair1.xde B.pair2.xde B.pair3.xde (B.dg_apply hk) s n

end Blk

end Cert.Ssd
-- ==== Proof.Point.lean ====
/-
  The blocks of one point of the grid, and its loads of parts of them at an index.
-/
module

public import proofs.«01_k».proof.Proof.Pairs

@[expose] public section

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD) (t : Fin cfg0.N)

/-- The blocks of point `t`. -/
def blk : Blk where
  px := iblk m c 0 t
  pb := iblk m c 1 t
  pc := iblk m c 2 t
  dtr := iblk m c 3 t
  bi := iblk m c 4 t
  al := iblk m c 5 t
  dk := iblk m c 6 t
  dy := iblk m c 8 t

/-- What the point before left of the state's cotangent. -/
def carried : FVec Ideal S512x128 .f32 := (outsAt0 m c (t.val - 1) (Nat.lt_of_le_of_lt (Nat.sub_le _ _) t.isLt)).2.2.2.2.2.2

theorem ld_dk (j : ℕ) (inb : ∀ a, (![0, j] : Fin 2 → ℕ) a + (![1, 128] : Fin 2 → ℕ) a ≤ S1x512.size a) (v : FVec Ideal S1x512 .f32)
    (q : Fin 128) (h : j + q.val < 512) :
    View.ld (Val := Elt Ideal) (e' := .f32) v (Rect.unit (s := S1x512) ![0, j] ![1, 128] inb) (ix2 0 q) = v (ix2 0 ⟨j + q.val, h⟩) := by
  refine congrArg v (funext fun a => Fin.ext ?_)
  refine (Rect.idx_unit_val (s := S1x512) ![0, j] ![1, 128] inb _ a).trans ?_
  match a with
  | ⟨0, _⟩ => rfl
  | ⟨1, _⟩ => rfl

theorem ld_px (j : ℕ) (inb : ∀ a, (![0, j] : Fin 2 → ℕ) a + (![128, 128] : Fin 2 → ℕ) a ≤ S128x512.size a) (v : FVec Ideal S128x512 .bf16)
    (l q : Fin 128) (h : j + q.val < 512) :
    View.ld (Val := Elt Ideal) (e' := .bf16) v (Rect.unit (s := S128x512) ![0, j] ![128, 128] inb) (ix2 l q) = v (ix2 l ⟨j + q.val, h⟩) := by
  refine congrArg v (funext fun a => Fin.ext ?_)
  refine (Rect.idx_unit_val (s := S128x512) ![0, j] ![128, 128] inb _ a).trans ?_
  match a with
  | ⟨0, _⟩ => exact Nat.zero_add _
  | ⟨1, _⟩ => rfl

theorem ix2_of {n0 n1 : ℕ} (x : (⟨2, ![n0, n1]⟩ : Shape).Idx) : x = ix2 (x 0) (x 1) := by
  funext a
  match a with
  | ⟨0, _⟩ => rfl
  | ⟨1, _⟩ => rfl

end Cert.Ssd
-- ==== Proof.PointDx.lean ====
/-
  The columns of the gradient of the pre-activation of x that one point stores. A point that starts a group (`t % 32 = 0`)
  begins from a state of zeros, any other from what the point before it left.
-/
module

public import proofs.«01_k».proof.Proof.Point

@[expose] public section

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD) (t : Fin cfg0.N)

set_option maxHeartbeats 4000000 in
theorem dx_A (hk : (blk m c t).chunk.Fin) (h : t.val % 32 = 0) (l : Fin 128) (q : Fin 512) :
    (outsAt0 m c t.val t.isLt).1 (ix2 l q) = (blk m c t).chunk.dx (fun q n => (k0_pay2 : FVec Ideal S512x128 .f32) (ix2 q n)) l q := by
  rw [Gen.outsAt0_A m c t h]
  dsimp only
  frame_out
  simp (disch := decide) only [read_row (F := Ideal), read_step (F := Ideal), read_last (F := Ideal), Nat.reduceSub]
  canon_tiles x hx
  · have e : q = pcol 3 (x 1) := Fin.ext (by show q.val = 128 * 3 + (x 1).val; have : q.val = 384 + (x 1).val := hx1; omega)
    have e' : l = x 0 := Fin.ext hx0
    rw [e, e', ix2_of x]
    exact (blk m c t).pair3.dx hk (g := k0_pay12 (k0_pay6 (blk m c t).pb) (k0_pay7 (blk m c t).pc)) (bp := (blk m c t).bds3 (k0_pay2 : FVec Ideal S512x128 .f32))
      (px := View.ld (iblk m c 0 t) (Rect.unit ![0, 384] ![128, 128] inb_S128x512_S128x128_0_384))
      (dk := View.ld (iblk m c 6 t) (Rect.unit ![0, 384] ![1, 128] inb_S1x512_S1x128_0_384))
      (blk m c t).g_apply ((blk m c t).bds3_apply (k0_pay2 : FVec Ideal S512x128 .f32)) (fun l q => ld_px _ _ _ l q _) (fun q => ld_dk _ _ _ q _) (x 0) (x 1)
  · have e : q = pcol 2 (x 1) := Fin.ext (by show q.val = 128 * 2 + (x 1).val; have : q.val = 256 + (x 1).val := hx1; omega)
    have e' : l = x 0 := Fin.ext hx0
    rw [e, e', ix2_of x]
    exact (blk m c t).pair2.dx hk (g := k0_pay12 (k0_pay6 (blk m c t).pb) (k0_pay7 (blk m c t).pc)) (bp := (blk m c t).bds2 (k0_pay2 : FVec Ideal S512x128 .f32))
      (px := View.ld (iblk m c 0 t) (Rect.unit ![0, 256] ![128, 128] inb_S128x512_S128x128_0_256))
      (dk := View.ld (iblk m c 6 t) (Rect.unit ![0, 256] ![1, 128] inb_S1x512_S1x128_0_256))
      (blk m c t).g_apply ((blk m c t).bds2_apply (k0_pay2 : FVec Ideal S512x128 .f32)) (fun l q => ld_px _ _ _ l q _) (fun q => ld_dk _ _ _ q _) (x 0) (x 1)
  · have e : q = pcol 1 (x 1) := Fin.ext (by show q.val = 128 * 1 + (x 1).val; have : q.val = 128 + (x 1).val := hx1; omega)
    have e' : l = x 0 := Fin.ext hx0
    rw [e, e', ix2_of x]
    exact (blk m c t).pair1.dx hk (g := k0_pay12 (k0_pay6 (blk m c t).pb) (k0_pay7 (blk m c t).pc)) (bp := (blk m c t).bds1 (k0_pay2 : FVec Ideal S512x128 .f32))
      (px := View.ld (iblk m c 0 t) (Rect.unit ![0, 128] ![128, 128] inb_S128x512_S128x128_0_128))
      (dk := View.ld (iblk m c 6 t) (Rect.unit ![0, 128] ![1, 128] inb_S1x512_S1x128_0_128))
      (blk m c t).g_apply ((blk m c t).bds1_apply (k0_pay2 : FVec Ideal S512x128 .f32)) (fun l q => ld_px _ _ _ l q _) (fun q => ld_dk _ _ _ q _) (x 0) (x 1)
  · have e : q = pcol 0 (x 1) := Fin.ext (by show q.val = 128 * 0 + (x 1).val; have : q.val = (x 1).val := hx1; omega)
    have e' : l = x 0 := Fin.ext hx0
    rw [e, e', ix2_of x]
    exact (blk m c t).pair0.dx hk (g := k0_pay12 (k0_pay6 (blk m c t).pb) (k0_pay7 (blk m c t).pc)) (bp := (blk m c t).bds0 (k0_pay2 : FVec Ideal S512x128 .f32))
      (px := View.ld (iblk m c 0 t) (Rect.unit ![0, 0] ![128, 128] inb_S128x512_S128x128_0_0))
      (dk := View.ld (iblk m c 6 t) (Rect.unit ![0, 0] ![1, 128] inb_S1x512_S1x128_0_0))
      (blk m c t).g_apply ((blk m c t).bds0_apply (k0_pay2 : FVec Ideal S512x128 .f32)) (fun l q => ld_px _ _ _ l q _) (fun q => ld_dk _ _ _ q _) (x 0) (x 1)

set_option maxHeartbeats 4000000 in
theorem dx_B (hk : (blk m c t).chunk.Fin) (h : ¬ t.val % 32 = 0) (l : Fin 128) (q : Fin 512) :
    (outsAt0 m c t.val t.isLt).1 (ix2 l q) = (blk m c t).chunk.dx (fun q n => (carried m c t) (ix2 q n)) l q := by
  rw [Gen.outsAt0_B m c t h]
  dsimp only
  frame_out
  simp (disch := decide) only [read_row (F := Ideal), read_step (F := Ideal), read_last (F := Ideal), Nat.reduceSub, read_unread_whole]
  canon_tiles x hx
  · have e : q = pcol 3 (x 1) := Fin.ext (by show q.val = 128 * 3 + (x 1).val; have : q.val = 384 + (x 1).val := hx1; omega)
    have e' : l = x 0 := Fin.ext hx0
    rw [e, e', ix2_of x]
    exact (blk m c t).pair3.dx hk (g := k0_pay12 (k0_pay6 (blk m c t).pb) (k0_pay7 (blk m c t).pc)) (bp := (blk m c t).bds3 (carried m c t))
      (px := View.ld (iblk m c 0 t) (Rect.unit ![0, 384] ![128, 128] inb_S128x512_S128x128_0_384))
      (dk := View.ld (iblk m c 6 t) (Rect.unit ![0, 384] ![1, 128] inb_S1x512_S1x128_0_384))
      (blk m c t).g_apply ((blk m c t).bds3_apply (carried m c t)) (fun l q => ld_px _ _ _ l q _) (fun q => ld_dk _ _ _ q _) (x 0) (x 1)
  · have e : q = pcol 2 (x 1) := Fin.ext (by show q.val = 128 * 2 + (x 1).val; have : q.val = 256 + (x 1).val := hx1; omega)
    have e' : l = x 0 := Fin.ext hx0
    rw [e, e', ix2_of x]
    exact (blk m c t).pair2.dx hk (g := k0_pay12 (k0_pay6 (blk m c t).pb) (k0_pay7 (blk m c t).pc)) (bp := (blk m c t).bds2 (carried m c t))
      (px := View.ld (iblk m c 0 t) (Rect.unit ![0, 256] ![128, 128] inb_S128x512_S128x128_0_256))
      (dk := View.ld (iblk m c 6 t) (Rect.unit ![0, 256] ![1, 128] inb_S1x512_S1x128_0_256))
      (blk m c t).g_apply ((blk m c t).bds2_apply (carried m c t)) (fun l q => ld_px _ _ _ l q _) (fun q => ld_dk _ _ _ q _) (x 0) (x 1)
  · have e : q = pcol 1 (x 1) := Fin.ext (by show q.val = 128 * 1 + (x 1).val; have : q.val = 128 + (x 1).val := hx1; omega)
    have e' : l = x 0 := Fin.ext hx0
    rw [e, e', ix2_of x]
    exact (blk m c t).pair1.dx hk (g := k0_pay12 (k0_pay6 (blk m c t).pb) (k0_pay7 (blk m c t).pc)) (bp := (blk m c t).bds1 (carried m c t))
      (px := View.ld (iblk m c 0 t) (Rect.unit ![0, 128] ![128, 128] inb_S128x512_S128x128_0_128))
      (dk := View.ld (iblk m c 6 t) (Rect.unit ![0, 128] ![1, 128] inb_S1x512_S1x128_0_128))
      (blk m c t).g_apply ((blk m c t).bds1_apply (carried m c t)) (fun l q => ld_px _ _ _ l q _) (fun q => ld_dk _ _ _ q _) (x 0) (x 1)
  · have e : q = pcol 0 (x 1) := Fin.ext (by show q.val = 128 * 0 + (x 1).val; have : q.val = (x 1).val := hx1; omega)
    have e' : l = x 0 := Fin.ext hx0
    rw [e, e', ix2_of x]
    exact (blk m c t).pair0.dx hk (g := k0_pay12 (k0_pay6 (blk m c t).pb) (k0_pay7 (blk m c t).pc)) (bp := (blk m c t).bds0 (carried m c t))
      (px := View.ld (iblk m c 0 t) (Rect.unit ![0, 0] ![128, 128] inb_S128x512_S128x128_0_0))
      (dk := View.ld (iblk m c 6 t) (Rect.unit ![0, 0] ![1, 128] inb_S1x512_S1x128_0_0))
      (blk m c t).g_apply ((blk m c t).bds0_apply (carried m c t)) (fun l q => ld_px _ _ _ l q _) (fun q => ld_dk _ _ _ q _) (x 0) (x 1)

end Cert.Ssd
-- ==== Proof.PointDb.lean ====
/-
  The gradient of the pre-activation of B that one point stores.
-/
module

public import proofs.«01_k».proof.Proof.Point

@[expose] public section

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD) (t : Fin cfg0.N)

set_option maxHeartbeats 4000000 in
theorem db_A (hk : (blk m c t).chunk.Fin) (h : t.val % 32 = 0) (s n : Fin 128) :
    (outsAt0 m c t.val t.isLt).2.1 (ix2 s n) = (blk m c t).chunk.db (fun q n => (k0_pay2 : FVec Ideal S512x128 .f32) (ix2 q n)) s n := by
  rw [Gen.outsAt0_A m c t h]
  dsimp only
  frame_out
  simp (disch := decide) only [read_row (F := Ideal), read_step (F := Ideal), read_last (F := Ideal), Nat.reduceSub]
  exact (blk m c t).dbOut_apply hk (k0_pay2 : FVec Ideal S512x128 .f32) s n

set_option maxHeartbeats 4000000 in
theorem db_B (hk : (blk m c t).chunk.Fin) (h : ¬ t.val % 32 = 0) (s n : Fin 128) :
    (outsAt0 m c t.val t.isLt).2.1 (ix2 s n) = (blk m c t).chunk.db (fun q n => (carried m c t) (ix2 q n)) s n := by
  rw [Gen.outsAt0_B m c t h]
  dsimp only
  frame_out
  simp (disch := decide) only [read_row (F := Ideal), read_step (F := Ideal), read_last (F := Ideal), Nat.reduceSub, read_unread_whole]
  exact (blk m c t).dbOut_apply hk (carried m c t) s n

end Cert.Ssd
-- ==== Proof.PointDs.lean ====
/-
  The state's cotangent that one point leaves for the next.
-/
module

public import proofs.«01_k».proof.Proof.Point

@[expose] public section

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD) (t : Fin cfg0.N)

set_option maxHeartbeats 4000000 in
theorem ds_A (h : t.val % 32 = 0) (q : Fin 512) (n : Fin 128) :
    (outsAt0 m c t.val t.isLt).2.2.2.2.2.2 (ix2 q n) = (blk m c t).chunk.dsNext (fun q n => (k0_pay2 : FVec Ideal S512x128 .f32) (ix2 q n)) q n := by
  rw [Gen.outsAt0_A m c t h]
  dsimp only
  frame_out
  simp (disch := decide) only [read_row (F := Ideal), read_step (F := Ideal), read_last (F := Ideal), Nat.reduceSub]
  refine View.canon_append_of_piecesOf (Val := Elt Ideal) (s := S512x128) (e := .f32) (fun y : S512x128.Idx => (blk m c t).chunk.dsNext (fun q n => (k0_pay2 : FVec Ideal S512x128 .f32) (ix2 q n)) (y 0) (y 1)) [_] [_, _, _, _, _, _, _, _]
    ⟨fun x => ?_, fun x => ?_, fun x => ?_, fun x => ?_, fun x => ?_, fun x => ?_, fun x => ?_, fun x => ?_, trivial⟩ (ix2 q n) ?_
  · have e : (Rect.unit (s := S512x128) ![448, 0] ![64, 128] inb_S512x128_S64x128_448_0).emb x 0 = col 7 (x 0) :=
      Fin.ext ((Rect.idx_unit_val (s := S512x128) ![448, 0] ![64, 128] inb_S512x128_S64x128_448_0 x 0).trans (by show 448 + (x 0).val = 64 * 7 + (x 0).val; omega))
    have e' : (Rect.unit (s := S512x128) ![448, 0] ![64, 128] inb_S512x128_S64x128_448_0).emb x 1 = x 1 :=
      Fin.ext ((Rect.idx_unit_val (s := S512x128) ![448, 0] ![64, 128] inb_S512x128_S64x128_448_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds7_apply (k0_pay2 : FVec Ideal S512x128 .f32) (blk m c t).ye (lastV (blk m c t).csV 7) (blk m c t).ye_apply ((blk m c t).last_cs 7) (x 0) (x 1)
  · have e : (Rect.unit (s := S512x128) ![384, 0] ![64, 128] inb_S512x128_S64x128_384_0).emb x 0 = col 6 (x 0) :=
      Fin.ext ((Rect.idx_unit_val (s := S512x128) ![384, 0] ![64, 128] inb_S512x128_S64x128_384_0 x 0).trans (by show 384 + (x 0).val = 64 * 6 + (x 0).val; omega))
    have e' : (Rect.unit (s := S512x128) ![384, 0] ![64, 128] inb_S512x128_S64x128_384_0).emb x 1 = x 1 :=
      Fin.ext ((Rect.idx_unit_val (s := S512x128) ![384, 0] ![64, 128] inb_S512x128_S64x128_384_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds6_apply (k0_pay2 : FVec Ideal S512x128 .f32) (blk m c t).ye (lastV (blk m c t).csV 6) (blk m c t).ye_apply ((blk m c t).last_cs 6) (x 0) (x 1)
  · have e : (Rect.unit (s := S512x128) ![320, 0] ![64, 128] inb_S512x128_S64x128_320_0).emb x 0 = col 5 (x 0) :=
      Fin.ext ((Rect.idx_unit_val (s := S512x128) ![320, 0] ![64, 128] inb_S512x128_S64x128_320_0 x 0).trans (by show 320 + (x 0).val = 64 * 5 + (x 0).val; omega))
    have e' : (Rect.unit (s := S512x128) ![320, 0] ![64, 128] inb_S512x128_S64x128_320_0).emb x 1 = x 1 :=
      Fin.ext ((Rect.idx_unit_val (s := S512x128) ![320, 0] ![64, 128] inb_S512x128_S64x128_320_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds5_apply (k0_pay2 : FVec Ideal S512x128 .f32) (blk m c t).ye (lastV (blk m c t).csV 5) (blk m c t).ye_apply ((blk m c t).last_cs 5) (x 0) (x 1)
  · have e : (Rect.unit (s := S512x128) ![256, 0] ![64, 128] inb_S512x128_S64x128_256_0).emb x 0 = col 4 (x 0) :=
      Fin.ext ((Rect.idx_unit_val (s := S512x128) ![256, 0] ![64, 128] inb_S512x128_S64x128_256_0 x 0).trans (by show 256 + (x 0).val = 64 * 4 + (x 0).val; omega))
    have e' : (Rect.unit (s := S512x128) ![256, 0] ![64, 128] inb_S512x128_S64x128_256_0).emb x 1 = x 1 :=
      Fin.ext ((Rect.idx_unit_val (s := S512x128) ![256, 0] ![64, 128] inb_S512x128_S64x128_256_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds4_apply (k0_pay2 : FVec Ideal S512x128 .f32) (blk m c t).ye (lastV (blk m c t).csV 4) (blk m c t).ye_apply ((blk m c t).last_cs 4) (x 0) (x 1)
  · have e : (Rect.unit (s := S512x128) ![192, 0] ![64, 128] inb_S512x128_S64x128_192_0).emb x 0 = col 3 (x 0) :=
      Fin.ext ((Rect.idx_unit_val (s := S512x128) ![192, 0] ![64, 128] inb_S512x128_S64x128_192_0 x 0).trans (by show 192 + (x 0).val = 64 * 3 + (x 0).val; omega))
    have e' : (Rect.unit (s := S512x128) ![192, 0] ![64, 128] inb_S512x128_S64x128_192_0).emb x 1 = x 1 :=
      Fin.ext ((Rect.idx_unit_val (s := S512x128) ![192, 0] ![64, 128] inb_S512x128_S64x128_192_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds3_apply (k0_pay2 : FVec Ideal S512x128 .f32) (blk m c t).ye (lastV (blk m c t).csV 3) (blk m c t).ye_apply ((blk m c t).last_cs 3) (x 0) (x 1)
  · have e : (Rect.unit (s := S512x128) ![128, 0] ![64, 128] inb_S512x128_S64x128_128_0).emb x 0 = col 2 (x 0) :=
      Fin.ext ((Rect.idx_unit_val (s := S512x128) ![128, 0] ![64, 128] inb_S512x128_S64x128_128_0 x 0).trans (by show 128 + (x 0).val = 64 * 2 + (x 0).val; omega))
    have e' : (Rect.unit (s := S512x128) ![128, 0] ![64, 128] inb_S512x128_S64x128_128_0).emb x 1 = x 1 :=
      Fin.ext ((Rect.idx_unit_val (s := S512x128) ![128, 0] ![64, 128] inb_S512x128_S64x128_128_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds2_apply (k0_pay2 : FVec Ideal S512x128 .f32) (blk m c t).ye (lastV (blk m c t).csV 2) (blk m c t).ye_apply ((blk m c t).last_cs 2) (x 0) (x 1)
  · have e : (Rect.unit (s := S512x128) ![64, 0] ![64, 128] inb_S512x128_S64x128_64_0).emb x 0 = col 1 (x 0) :=
      Fin.ext ((Rect.idx_unit_val (s := S512x128) ![64, 0] ![64, 128] inb_S512x128_S64x128_64_0 x 0).trans (by show 64 + (x 0).val = 64 * 1 + (x 0).val; omega))
    have e' : (Rect.unit (s := S512x128) ![64, 0] ![64, 128] inb_S512x128_S64x128_64_0).emb x 1 = x 1 :=
      Fin.ext ((Rect.idx_unit_val (s := S512x128) ![64, 0] ![64, 128] inb_S512x128_S64x128_64_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds1_apply (k0_pay2 : FVec Ideal S512x128 .f32) (blk m c t).ye (lastV (blk m c t).csV 1) (blk m c t).ye_apply ((blk m c t).last_cs 1) (x 0) (x 1)
  · have e : (Rect.unit (s := S512x128) ![0, 0] ![64, 128] inb_S512x128_S64x128_0_0).emb x 0 = col 0 (x 0) :=
      Fin.ext ((Rect.idx_unit_val (s := S512x128) ![0, 0] ![64, 128] inb_S512x128_S64x128_0_0 x 0).trans (by show 0 + (x 0).val = 64 * 0 + (x 0).val; omega))
    have e' : (Rect.unit (s := S512x128) ![0, 0] ![64, 128] inb_S512x128_S64x128_0_0).emb x 1 = x 1 :=
      Fin.ext ((Rect.idx_unit_val (s := S512x128) ![0, 0] ![64, 128] inb_S512x128_S64x128_0_0 x 1).trans (Nat.zero_add _))
    refine Eq.trans ?_ (congrArg₂ ((blk m c t).chunk.dsNext fun q n => (k0_pay2 : FVec Ideal S512x128 .f32) (ix2 q n)) e e').symm
    rw [ix2_of x]
    exact (blk m c t).ds0_apply (k0_pay2 : FVec Ideal S512x128 .f32) (blk m c t).ye (lastV (blk m c t).csV 0) (blk m c t).ye_apply ((blk m c t).last_cs 0) (x 0) (x 1)
  · exact View.cover_of_tiledL _ ![64, 128] (by rfl) _

set_option maxHeartbeats 4000000 in
theorem ds_B (h : ¬ t.val % 32 = 0) (q : Fin 512) (n : Fin 128) :
    (outsAt0 m c t.val t.isLt).2.2.2.2.2.2 (ix2 q n) = (blk m c t).chunk.dsNext (fun q n => (carried m c t) (ix2 q n)) q n := by
  rw [Gen.outsAt0_B m c t h]
  dsimp only
  frame_out
  simp (disch := decide) only [read_row (F := Ideal), read_step (F := Ideal), read_last (F := Ideal), Nat.reduceSub, read_unread_whole]
  canon_tiles x hx
  · have e : q = col 7 (x 0) := Fin.ext (by show q.val = 64 * 7 + (x 0).val; have : q.val = 448 + (x 0).val := hx0; omega)
    have e' : n = x 1 := Fin.ext hx1
    rw [e, e', ix2_of x]
    exact (blk m c t).ds7_apply (carried m c t) (blk m c t).ye (lastV (blk m c t).csV 7) (blk m c t).ye_apply ((blk m c t).last_cs 7) (x 0) (x 1)
  · have e : q = col 6 (x 0) := Fin.ext (by show q.val = 64 * 6 + (x 0).val; have : q.val = 384 + (x 0).val := hx0; omega)
    have e' : n = x 1 := Fin.ext hx1
    rw [e, e', ix2_of x]
    exact (blk m c t).ds6_apply (carried m c t) (blk m c t).ye (lastV (blk m c t).csV 6) (blk m c t).ye_apply ((blk m c t).last_cs 6) (x 0) (x 1)
  · have e : q = col 5 (x 0) := Fin.ext (by show q.val = 64 * 5 + (x 0).val; have : q.val = 320 + (x 0).val := hx0; omega)
    have e' : n = x 1 := Fin.ext hx1
    rw [e, e', ix2_of x]
    exact (blk m c t).ds5_apply (carried m c t) (blk m c t).ye (lastV (blk m c t).csV 5) (blk m c t).ye_apply ((blk m c t).last_cs 5) (x 0) (x 1)
  · have e : q = col 4 (x 0) := Fin.ext (by show q.val = 64 * 4 + (x 0).val; have : q.val = 256 + (x 0).val := hx0; omega)
    have e' : n = x 1 := Fin.ext hx1
    rw [e, e', ix2_of x]
    exact (blk m c t).ds4_apply (carried m c t) (blk m c t).ye (lastV (blk m c t).csV 4) (blk m c t).ye_apply ((blk m c t).last_cs 4) (x 0) (x 1)
  · have e : q = col 3 (x 0) := Fin.ext (by show q.val = 64 * 3 + (x 0).val; have : q.val = 192 + (x 0).val := hx0; omega)
    have e' : n = x 1 := Fin.ext hx1
    rw [e, e', ix2_of x]
    exact (blk m c t).ds3_apply (carried m c t) (blk m c t).ye (lastV (blk m c t).csV 3) (blk m c t).ye_apply ((blk m c t).last_cs 3) (x 0) (x 1)
  · have e : q = col 2 (x 0) := Fin.ext (by show q.val = 64 * 2 + (x 0).val; have : q.val = 128 + (x 0).val := hx0; omega)
    have e' : n = x 1 := Fin.ext hx1
    rw [e, e', ix2_of x]
    exact (blk m c t).ds2_apply (carried m c t) (blk m c t).ye (lastV (blk m c t).csV 2) (blk m c t).ye_apply ((blk m c t).last_cs 2) (x 0) (x 1)
  · have e : q = col 1 (x 0) := Fin.ext (by show q.val = 64 * 1 + (x 0).val; have : q.val = 64 + (x 0).val := hx0; omega)
    have e' : n = x 1 := Fin.ext hx1
    rw [e, e', ix2_of x]
    exact (blk m c t).ds1_apply (carried m c t) (blk m c t).ye (lastV (blk m c t).csV 1) (blk m c t).ye_apply ((blk m c t).last_cs 1) (x 0) (x 1)
  · have e : q = col 0 (x 0) := Fin.ext (by show q.val = 64 * 0 + (x 0).val; have : q.val = (x 0).val := hx0; omega)
    have e' : n = x 1 := Fin.ext hx1
    rw [e, e', ix2_of x]
    exact (blk m c t).ds0_apply (carried m c t) (blk m c t).ye (lastV (blk m c t).csV 0) (blk m c t).ye_apply ((blk m c t).last_cs 0) (x 0) (x 1)

end Cert.Ssd
-- ==== Proof.PointDsk.lean ====
/-
  The sum that one point stores for the gradient of the skip weights: its own part, added to zero where a group starts and
  to the sum of the point before elsewhere.
-/
module

public import proofs.«01_k».proof.Proof.Point

@[expose] public section

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD) (t : Fin cfg0.N)

/-- The sum so far of the point before. -/
def dskBefore : FVec Ideal S1x512 .f32 := (outsAt0 m c (t.val - 1) (Nat.lt_of_le_of_lt (Nat.sub_le _ _) t.isLt)).2.2.2.2.2.1

set_option maxHeartbeats 4000000 in
theorem dsk_A (h : t.val % 32 = 0) (q : Fin 512) :
    (outsAt0 m c t.val t.isLt).2.2.2.2.2.1 (ix2 0 q) = (k0_pay4 : FVec Ideal S1x512 .f32) (ix2 0 q) + (blk m c t).chunk.ddsk q := by
  rw [Gen.outsAt0_A m c t h]
  dsimp only
  frame_out
  simp (disch := decide) only [↓ View.readCov_skip, ↓ View.readCov_fill]
  refine View.canon_append_of_piecesOf (Val := Elt Ideal) (s := S1x512) (e := .f32)
    (fun y : S1x512.Idx => (k0_pay4 : FVec Ideal S1x512 .f32) (ix2 0 (y 1)) + (blk m c t).chunk.ddsk (y 1)) [_] [_, _, _, _]
    ⟨fun x => ?_, fun x => ?_, fun x => ?_, fun x => ?_, trivial⟩ (ix2 0 q) ?_
  · have e : (Rect.unit (s := S1x512) ![0, 384] ![1, 128] inb_S1x512_S1x128_0_384).emb x 1 = pcol 3 (x 1) :=
      Fin.ext ((Rect.idx_unit_val (s := S1x512) ![0, 384] ![1, 128] inb_S1x512_S1x128_0_384 x 1).trans (by show 384 + (x 1).val = 128 * 3 + (x 1).val; omega))
    have e0 : x 0 = (0 : Fin 1) := Subsingleton.elim (α := Fin 1) _ _
    refine Eq.trans ?_ (congrArg (fun q => (k0_pay4 : FVec Ideal S1x512 .f32) (ix2 0 q) + (blk m c t).chunk.ddsk q) e).symm
    rw [ix2_of x, e0]
    refine ((blk m c t).pair3.dsk (View.ld (Val := Elt Ideal) (e' := .f32) (k0_pay4 : FVec Ideal S1x512 .f32) (Rect.unit ![0, 384] ![1, 128] inb_S1x512_S1x128_0_384)) (x 1)).trans ?_
    exact congrArg (· + (blk m c t).chunk.ddsk (pcol 3 (x 1))) (ld_dk _ _ _ _ _)
  · have e : (Rect.unit (s := S1x512) ![0, 256] ![1, 128] inb_S1x512_S1x128_0_256).emb x 1 = pcol 2 (x 1) :=
      Fin.ext ((Rect.idx_unit_val (s := S1x512) ![0, 256] ![1, 128] inb_S1x512_S1x128_0_256 x 1).trans (by show 256 + (x 1).val = 128 * 2 + (x 1).val; omega))
    have e0 : x 0 = (0 : Fin 1) := Subsingleton.elim (α := Fin 1) _ _
    refine Eq.trans ?_ (congrArg (fun q => (k0_pay4 : FVec Ideal S1x512 .f32) (ix2 0 q) + (blk m c t).chunk.ddsk q) e).symm
    rw [ix2_of x, e0]
    refine ((blk m c t).pair2.dsk (View.ld (Val := Elt Ideal) (e' := .f32) (k0_pay4 : FVec Ideal S1x512 .f32) (Rect.unit ![0, 256] ![1, 128] inb_S1x512_S1x128_0_256)) (x 1)).trans ?_
    exact congrArg (· + (blk m c t).chunk.ddsk (pcol 2 (x 1))) (ld_dk _ _ _ _ _)
  · have e : (Rect.unit (s := S1x512) ![0, 128] ![1, 128] inb_S1x512_S1x128_0_128).emb x 1 = pcol 1 (x 1) :=
      Fin.ext ((Rect.idx_unit_val (s := S1x512) ![0, 128] ![1, 128] inb_S1x512_S1x128_0_128 x 1).trans (by show 128 + (x 1).val = 128 * 1 + (x 1).val; omega))
    have e0 : x 0 = (0 : Fin 1) := Subsingleton.elim (α := Fin 1) _ _
    refine Eq.trans ?_ (congrArg (fun q => (k0_pay4 : FVec Ideal S1x512 .f32) (ix2 0 q) + (blk m c t).chunk.ddsk q) e).symm
    rw [ix2_of x, e0]
    refine ((blk m c t).pair1.dsk (View.ld (Val := Elt Ideal) (e' := .f32) (k0_pay4 : FVec Ideal S1x512 .f32) (Rect.unit ![0, 128] ![1, 128] inb_S1x512_S1x128_0_128)) (x 1)).trans ?_
    exact congrArg (· + (blk m c t).chunk.ddsk (pcol 1 (x 1))) (ld_dk _ _ _ _ _)
  · have e : (Rect.unit (s := S1x512) ![0, 0] ![1, 128] inb_S1x512_S1x128_0_0).emb x 1 = pcol 0 (x 1) :=
      Fin.ext ((Rect.idx_unit_val (s := S1x512) ![0, 0] ![1, 128] inb_S1x512_S1x128_0_0 x 1).trans (by show 0 + (x 1).val = 128 * 0 + (x 1).val; omega))
    have e0 : x 0 = (0 : Fin 1) := Subsingleton.elim (α := Fin 1) _ _
    refine Eq.trans ?_ (congrArg (fun q => (k0_pay4 : FVec Ideal S1x512 .f32) (ix2 0 q) + (blk m c t).chunk.ddsk q) e).symm
    rw [ix2_of x, e0]
    refine ((blk m c t).pair0.dsk (View.ld (Val := Elt Ideal) (e' := .f32) (k0_pay4 : FVec Ideal S1x512 .f32) (Rect.unit ![0, 0] ![1, 128] inb_S1x512_S1x128_0_0)) (x 1)).trans ?_
    exact congrArg (· + (blk m c t).chunk.ddsk (pcol 0 (x 1))) (ld_dk _ _ _ _ _)
  · exact View.cover_of_tiledL _ ![1, 128] (by rfl) _

set_option maxHeartbeats 4000000 in
theorem dsk_B (h : ¬ t.val % 32 = 0) (q : Fin 512) :
    (outsAt0 m c t.val t.isLt).2.2.2.2.2.1 (ix2 0 q) = (dskBefore m c t) (ix2 0 q) + (blk m c t).chunk.ddsk q := by
  rw [Gen.outsAt0_B m c t h]
  dsimp only
  frame_out
  canon_tiles x hx
  · have e : q = pcol 3 (x 1) := Fin.ext (by show q.val = 128 * 3 + (x 1).val; have : q.val = 384 + (x 1).val := hx1; omega)
    have e0 : x 0 = (0 : Fin 1) := Subsingleton.elim (α := Fin 1) _ _
    rw [e, ix2_of x, e0]
    refine ((blk m c t).pair3.dsk (View.ld (Val := Elt Ideal) (e' := .f32) (dskBefore m c t) (Rect.unit ![0, 384] ![1, 128] inb_S1x512_S1x128_0_384)) (x 1)).trans ?_
    exact congrArg (· + (blk m c t).chunk.ddsk (pcol 3 (x 1))) (ld_dk _ _ _ _ _)
  · have e : q = pcol 2 (x 1) := Fin.ext (by show q.val = 128 * 2 + (x 1).val; have : q.val = 256 + (x 1).val := hx1; omega)
    have e0 : x 0 = (0 : Fin 1) := Subsingleton.elim (α := Fin 1) _ _
    rw [e, ix2_of x, e0]
    refine ((blk m c t).pair2.dsk (View.ld (Val := Elt Ideal) (e' := .f32) (dskBefore m c t) (Rect.unit ![0, 256] ![1, 128] inb_S1x512_S1x128_0_256)) (x 1)).trans ?_
    exact congrArg (· + (blk m c t).chunk.ddsk (pcol 2 (x 1))) (ld_dk _ _ _ _ _)
  · have e : q = pcol 1 (x 1) := Fin.ext (by show q.val = 128 * 1 + (x 1).val; have : q.val = 128 + (x 1).val := hx1; omega)
    have e0 : x 0 = (0 : Fin 1) := Subsingleton.elim (α := Fin 1) _ _
    rw [e, ix2_of x, e0]
    refine ((blk m c t).pair1.dsk (View.ld (Val := Elt Ideal) (e' := .f32) (dskBefore m c t) (Rect.unit ![0, 128] ![1, 128] inb_S1x512_S1x128_0_128)) (x 1)).trans ?_
    exact congrArg (· + (blk m c t).chunk.ddsk (pcol 1 (x 1))) (ld_dk _ _ _ _ _)
  · have e : q = pcol 0 (x 1) := Fin.ext (by show q.val = 128 * 0 + (x 1).val; have : q.val = (x 1).val := hx1; omega)
    have e0 : x 0 = (0 : Fin 1) := Subsingleton.elim (α := Fin 1) _ _
    rw [e, ix2_of x, e0]
    refine ((blk m c t).pair0.dsk (View.ld (Val := Elt Ideal) (e' := .f32) (dskBefore m c t) (Rect.unit ![0, 0] ![1, 128] inb_S1x512_S1x128_0_0)) (x 1)).trans ?_
    exact congrArg (· + (blk m c t).chunk.ddsk (pcol 0 (x 1))) (ld_dk _ _ _ _ _)

end Cert.Ssd
-- ==== Proof.Index.lean ====
/-
  The blocks of point `t` are the chunk `31 - t % 32` of the group `t / 32` of the arguments.
-/
module

public import proofs.«01_k».proof.Proof.Point
public import Idealize.ShloMosaic.Lib.Pipeline.ValueKit

@[expose] public section

set_option maxRecDepth 16384

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD) (t : Fin cfg0.N)

/-- The group of a point. -/
def grp : Fin 4 := ⟨t.val / 32, by have : t.val < 128 := t.isLt; omega⟩

/-- The chunk of a point. -/
def chk : Fin 32 := ⟨31 - t.val % 32, by omega⟩

/-- The kernel's arguments by their entries. -/
def argsOf : Args where
  pre i j := m ((c : Thread nD τ).loc main_arg0) (ix2 i j)
  dtRaw i h := m ((c : Thread nD τ).loc main_arg1) (ix2 i h)
  bias h := m ((c : Thread nD τ).loc main_arg2) (ix1 h)
  alog h := m ((c : Thread nD τ).loc main_arg3) (ix1 h)
  dsk q := m ((c : Thread nD τ).loc main_arg4) (ix2 0 q)
  dy i q := m ((c : Thread nD τ).loc main_arg6) (ix2 i q)

theorem index_of : ∀ t : Fin cfg0.N,
    win0_0.index t = ![31 - t.val % 32, t.val / 32] ∧ win0_1.index t = ![31 - t.val % 32, 16 + t.val / 32]
    ∧ win0_2.index t = ![31 - t.val % 32, 20 + t.val / 32] ∧ win0_3.index t = ![t.val / 32, 0, 31 - t.val % 32]
    ∧ win0_4.index t = ![t.val / 32, 0, 0] ∧ win0_5.index t = ![t.val / 32, 0, 0] ∧ win0_6.index t = ![0, t.val / 32]
    ∧ win0_8.index t = ![31 - t.val % 32, t.val / 32] :=
  (by decide +kernel : ∀ t : Fin grid0.N,
    win0_0.index t = ![31 - t.val % 32, t.val / 32] ∧ win0_1.index t = ![31 - t.val % 32, 16 + t.val / 32]
    ∧ win0_2.index t = ![31 - t.val % 32, 20 + t.val / 32] ∧ win0_3.index t = ![t.val / 32, 0, 31 - t.val % 32]
    ∧ win0_4.index t = ![t.val / 32, 0, 0] ∧ win0_5.index t = ![t.val / 32, 0, 0] ∧ win0_6.index t = ![0, t.val / 32]
    ∧ win0_8.index t = ![31 - t.val % 32, t.val / 32])

theorem px_at (l : Fin 128) (q : Fin 512) : (blk m c t).px (ix2 l q) = ((argsOf m c).chunk (grp t) (chk t)).px l q := by
  have tl : t.val < 128 := t.isLt
  show iblk m c 0 t (ix2 l q) = m ((c : Thread nD τ).loc main_arg0) (ix2 (pos (chk t) l) ⟨512 * (grp t).val + q.val, by omega⟩)
  blk_ext! [iblk, V, index_of t, pos, chk, grp]

theorem pb_at (l n : Fin 128) : (blk m c t).pb (ix2 l n) = ((argsOf m c).chunk (grp t) (chk t)).pb l n := by
  have tl : t.val < 128 := t.isLt
  show iblk m c 1 t (ix2 l n) = m ((c : Thread nD τ).loc main_arg0) (ix2 (pos (chk t) l) ⟨2048 + 128 * (grp t).val + n.val, by omega⟩)
  blk_ext! [iblk, V, index_of t, pos, chk, grp]

theorem pc_at (l n : Fin 128) : (blk m c t).pc (ix2 l n) = ((argsOf m c).chunk (grp t) (chk t)).pc l n := by
  have tl : t.val < 128 := t.isLt
  show iblk m c 2 t (ix2 l n) = m ((c : Thread nD τ).loc main_arg0) (ix2 (pos (chk t) l) ⟨2560 + 128 * (grp t).val + n.val, by omega⟩)
  blk_ext! [iblk, V, index_of t, pos, chk, grp]

theorem dy_at (l : Fin 128) (q : Fin 512) : (blk m c t).dy (ix2 l q) = ((argsOf m c).chunk (grp t) (chk t)).dy l q := by
  have tl : t.val < 128 := t.isLt
  show iblk m c 8 t (ix2 l q) = m ((c : Thread nD τ).loc main_arg6) (ix2 (pos (chk t) l) (gcol (grp t) q))
  blk_ext! [iblk, V, index_of t, pos, chk, grp, gcol]

theorem dk_at (q : Fin 512) : (blk m c t).dk (ix2 0 q) = ((argsOf m c).chunk (grp t) (chk t)).dsk q := by
  have tl : t.val < 128 := t.isLt
  show iblk m c 6 t (ix2 0 q) = m ((c : Thread nD τ).loc main_arg4) (ix2 0 (gcol (grp t) q))
  blk_ext! [iblk, V, index_of t, pos, chk, grp, gcol]

theorem dtr_at (h : Fin 8) (l : Fin 128) : (blk m c t).dtr (ix3 0 h l) = ((argsOf m c).chunk (grp t) (chk t)).dtr h l := by
  have tl : t.val < 128 := t.isLt
  show iblk m c 3 t (ix3 0 h l) = m ((c : Thread nD τ).loc main_arg1) (ix2 (pos (chk t) l) (head (grp t) h))
  blk_ext! [iblk, V, index_of t, pos, chk, grp, head]

theorem bi_at (h : Fin 8) : (blk m c t).bi (ix3 0 h 0) = ((argsOf m c).chunk (grp t) (chk t)).bi h := by
  have tl : t.val < 128 := t.isLt
  show iblk m c 4 t (ix3 0 h 0) = m ((c : Thread nD τ).loc main_arg2) (ix1 (head (grp t) h))
  blk_ext! [iblk, V, index_of t, pos, chk, grp, head]

theorem al_at (h : Fin 8) : (blk m c t).al (ix3 0 h 0) = ((argsOf m c).chunk (grp t) (chk t)).al h := by
  have tl : t.val < 128 := t.isLt
  show iblk m c 5 t (ix3 0 h 0) = m ((c : Thread nD τ).loc main_arg3) (ix1 (head (grp t) h))
  blk_ext! [iblk, V, index_of t, pos, chk, grp, head]

theorem chunk_eq : (blk m c t).chunk = (argsOf m c).chunk (grp t) (chk t) := by
  have h1 := px_at m c t
  have h2 := pb_at m c t
  have h3 := pc_at m c t
  have h4 := dtr_at m c t
  have h5 := bi_at m c t
  have h6 := al_at m c t
  have h7 := dk_at m c t
  have h8 := dy_at m c t
  generalize (argsOf m c).chunk (grp t) (chk t) = K at h1 h2 h3 h4 h5 h6 h7 h8 ⊢
  obtain ⟨px, pb, pc, dtr, bi, al, dsk, dy⟩ := K
  unfold Blk.chunk
  congr 1
  · funext l q; exact h1 l q
  · funext l q; exact h2 l q
  · funext l q; exact h3 l q
  · funext l q; exact h4 l q
  · funext l; exact h5 l
  · funext l; exact h6 l
  · funext l; exact h7 l
  · funext l q; exact h8 l q

end Cert.Ssd
-- ==== Proof.Final.lean ====
/-
  The three gradients that the claim is about, at an index of the whole arrays.
-/
module

public import proofs.«01_k».proof.Proof.Finite

@[expose] public section

noncomputable section

namespace Cert.Ssd

def grpOf (q : Fin 2048) : Fin 4 := ⟨q.val / 512, by omega⟩
def laneOf (q : Fin 2048) : Fin 512 := ⟨q.val % 512, by omega⟩
def grpOfB (n : Fin 512) : Fin 4 := ⟨n.val / 128, by omega⟩
def laneOfB (n : Fin 512) : Fin 128 := ⟨n.val % 128, by omega⟩
def chunkOf (i : Fin 4096) : Fin 32 := ⟨i.val / 128, by omega⟩
def placeOf (i : Fin 4096) : Fin 128 := ⟨i.val % 128, by omega⟩

/-- Lane `n` of group `g` among the columns of B. -/
def gcolB (g : Fin 4) (n : Fin 128) : Fin 512 := ⟨128 * g.val + n.val, by omega⟩

/-- The gradient of the columns of x. -/
def Args.gx (A : Args) (i : _root_.Fin 4096) (q : _root_.Fin 2048) : EReal :=
  (A.chunk (grpOf q) (chunkOf i)).dx (A.ds (grpOf q) (chunkOf i)) (placeOf i) (laneOf q)

/-- The gradient of the columns of B. -/
def Args.gb (A : Args) (i : _root_.Fin 4096) (n : _root_.Fin 512) : EReal :=
  (A.chunk (grpOfB n) (chunkOf i)).db (A.ds (grpOfB n) (chunkOf i)) (placeOf i) (laneOfB n)

/-- The gradient of the skip weights. -/
def Args.gdsk (A : Args) (q : _root_.Fin 2048) : EReal := ∑ k : _root_.Fin 32, (A.chunk (grpOf q) k).ddsk (laneOf q)

theorem grpOf_gcol (g : Fin 4) (q : Fin 512) : grpOf (gcol g q) = g := Fin.ext (by show (512 * g.val + q.val) / 512 = g.val; omega)
theorem laneOf_gcol (g : Fin 4) (q : Fin 512) : laneOf (gcol g q) = q := Fin.ext (by show (512 * g.val + q.val) % 512 = q.val; omega)
theorem grpOfB_gcolB (g : Fin 4) (n : Fin 128) : grpOfB (gcolB g n) = g := Fin.ext (by show (128 * g.val + n.val) / 128 = g.val; omega)
theorem laneOfB_gcolB (g : Fin 4) (n : Fin 128) : laneOfB (gcolB g n) = n := Fin.ext (by show (128 * g.val + n.val) % 128 = n.val; omega)
theorem chunkOf_pos (c : Fin 32) (l : Fin 128) : chunkOf (pos c l) = c := Fin.ext (by show (128 * c.val + l.val) / 128 = c.val; omega)
theorem placeOf_pos (c : Fin 32) (l : Fin 128) : placeOf (pos c l) = l := Fin.ext (by show (128 * c.val + l.val) % 128 = l.val; omega)

end Cert.Ssd
-- ==== Proof.Kernel.lean ====
/-
  The kernel's three arrays after the run, at an index: the gradients of x, of B and of the skip weights that the
  specification names.
-/
module

public import proofs.«01_k».proof.Proof.PointDx
public import proofs.«01_k».proof.Proof.PointDb
public import proofs.«01_k».proof.Proof.PointDs
public import proofs.«01_k».proof.Proof.PointDsk
public import proofs.«01_k».proof.Proof.Index
public import proofs.«01_k».proof.Proof.Final
public import proofs.«01_k».proof.Proof.Gen.KernelIdeal.Value

@[expose] public section

set_option maxRecDepth 16384

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD)

theorem pay2_zero (q : Fin 512) (n : Fin 128) : (k0_pay2 : FVec Ideal S512x128 .f32) (ix2 q n) = 0 := by
  pointwise [k0_pay2]

theorem pay4_zero (q : Fin 512) : (k0_pay4 : FVec Ideal S1x512 .f32) (ix2 0 q) = 0 := by
  pointwise [k0_pay4]

theorem grp_pred (n : ℕ) (hn : n < cfg0.N) (h : ¬ n % 32 = 0) :
    grp (⟨n - 1, Nat.lt_of_le_of_lt (Nat.sub_le _ _) hn⟩ : Fin cfg0.N) = grp ⟨n, hn⟩ := by
  refine Fin.ext ?_
  show (n - 1) / 32 = n / 32
  omega

/-- After point `n` the carried scratch holds the cotangent of the state that enters its chunk. -/
theorem scr_at : ∀ (n : ℕ) (hn : n < cfg0.N) (q : Fin 512) (k : Fin 128),
    (outsAt0 m c n hn).2.2.2.2.2.2 (ix2 q k) = dsRev ((argsOf m c).chunk (grp ⟨n, hn⟩)) (n % 32 + 1) q k := by
  intro n
  induction n using Nat.strong_induction_on with
  | _ n ih =>
    intro hn q k
    by_cases h : n % 32 = 0
    · refine (ds_A m c ⟨n, hn⟩ h q k).trans ?_
      rw [chunk_eq]
      simp only [pay2_zero]
      refine congrArg (fun d => ((argsOf m c).chunk (grp ⟨n, hn⟩) (chk ⟨n, hn⟩)).dsNext d q k) (?_ : _ = dsRev _ (n % 32))
      rw [h]
      rfl
    · refine (ds_B m c ⟨n, hn⟩ h q k).trans ?_
      rw [chunk_eq]
      have e : (fun q k => carried m c ⟨n, hn⟩ (ix2 q k)) = dsRev ((argsOf m c).chunk (grp ⟨n, hn⟩)) (n % 32) := by
        funext q' k'
        refine (ih (n - 1) (by omega) (Nat.lt_of_le_of_lt (Nat.sub_le _ _) hn) q' k').trans ?_
        rw [grp_pred n hn h]
        have e : (n - 1) % 32 + 1 = n % 32 := by omega
        rw [e]
      rw [e]
      rfl

/-- The state's cotangent a point starts from. -/
theorem start_A (t : Fin cfg0.N) (h : t.val % 32 = 0) :
    (fun q n => (k0_pay2 : FVec Ideal S512x128 .f32) (ix2 q n)) = (argsOf m c).ds (grp t) (chk t) := by
  funext q n
  rw [pay2_zero]
  show _ = dsRev _ (31 - (31 - t.val % 32)) q n
  rw [h]
  rfl

theorem start_B (t : Fin cfg0.N) (h : ¬ t.val % 32 = 0) :
    (fun q n => carried m c t (ix2 q n)) = (argsOf m c).ds (grp t) (chk t) := by
  funext q n
  refine (scr_at m c (t.val - 1) (Nat.lt_of_le_of_lt (Nat.sub_le _ _) t.isLt) q n).trans ?_
  rw [grp_pred t.val t.isLt h]
  show _ = dsRev _ (31 - (31 - t.val % 32)) q n
  have e : (t.val - 1) % 32 + 1 = 31 - (31 - t.val % 32) := by omega
  rw [e]

theorem dx_at (hA : (argsOf m c).Fin) (t : Fin cfg0.N) (l : Fin 128) (q : Fin 512) :
    (outsAt0 m c t.val t.isLt).1 (ix2 l q) = ((argsOf m c).chunk (grp t) (chk t)).dx ((argsOf m c).ds (grp t) (chk t)) l q := by
  have hk : (blk m c t).chunk.Fin := by rw [chunk_eq]; exact hA.chunk _ _
  by_cases h : t.val % 32 = 0
  · rw [dx_A m c t hk h, start_A m c t h, chunk_eq]
  · rw [dx_B m c t hk h, start_B m c t h, chunk_eq]

theorem db_at (hA : (argsOf m c).Fin) (t : Fin cfg0.N) (l n : Fin 128) :
    (outsAt0 m c t.val t.isLt).2.1 (ix2 l n) = ((argsOf m c).chunk (grp t) (chk t)).db ((argsOf m c).ds (grp t) (chk t)) l n := by
  have hk : (blk m c t).chunk.Fin := by rw [chunk_eq]; exact hA.chunk _ _
  by_cases h : t.val % 32 = 0
  · rw [db_A m c t hk h, start_A m c t h, chunk_eq]
  · rw [db_B m c t hk h, start_B m c t h, chunk_eq]

/-- After point `n` the block of the skip weights' gradient holds the sum over the chunks done. -/
theorem dsk_at : ∀ (n : ℕ) (hn : n < cfg0.N) (q : Fin 512),
    (outsAt0 m c n hn).2.2.2.2.2.1 (ix2 0 q)
      = ∑ k ∈ Finset.range (n % 32 + 1), ((argsOf m c).chunk (grp ⟨n, hn⟩) ⟨31 - k, by omega⟩).ddsk q := by
  intro n
  induction n using Nat.strong_induction_on with
  | _ n ih =>
    intro hn q
    rw [Finset.sum_range_succ]
    by_cases h : n % 32 = 0
    · refine (dsk_A m c ⟨n, hn⟩ h q).trans ?_
      rw [chunk_eq, pay4_zero]
      refine congrArg₂ (· + ·) ?_ rfl
      rw [h, Finset.sum_range_zero]
    · refine (dsk_B m c ⟨n, hn⟩ h q).trans ?_
      rw [chunk_eq]
      refine congrArg₂ (· + ·) ?_ rfl
      refine (ih (n - 1) (by omega) (Nat.lt_of_le_of_lt (Nat.sub_le _ _) hn) q).trans ?_
      rw [grp_pred n hn h]
      have e : (n - 1) % 32 + 1 = n % 32 := by omega
      rw [e]

theorem sum_rev (f : Fin 32 → EReal) : ∑ k ∈ Finset.range (31 + 1), f ⟨31 - k, by omega⟩ = ∑ k : Fin 32, f k := by
  rw [Finset.sum_range, ← Equiv.sum_comp Fin.revPerm f]
  refine Finset.sum_congr rfl fun k _ => congrArg f (Fin.ext ?_)
  show 31 - k.val = 32 - (k.val + 1)
  omega

theorem dsk_last (t : Fin cfg0.N) (h : t.val % 32 = 31) (q : Fin 512) :
    (outsAt0 m c t.val t.isLt).2.2.2.2.2.1 (ix2 0 q) = ∑ k : Fin 32, ((argsOf m c).chunk (grp t) k).ddsk q := by
  refine (dsk_at m c t.val t.isLt q).trans ?_
  rw [h]
  exact sum_rev fun k => ((argsOf m c).chunk (grp t) k).ddsk q

end Cert.Ssd
-- ==== Proof.Arrays.lean ====
/-
  The kernel's three arrays after the run, at an index of the whole arrays.
-/
module

public import proofs.«01_k».proof.Proof.Kernel

@[expose] public section

set_option maxRecDepth 16384

noncomputable section

namespace Cert.Ssd

open Cert.KernelIdeal Cert.KernelIdeal.Gen Idealize.ShloMosaic Idealize.ShloMosaic.TcCoe Idealize.SL.Sem
open Idealize.ShloMosaic.ValueIdx hiding ix1 ix2 ix3 ix4 ix5
open Idealize.ShloMosaic.Pointwise

variable (m : (ℓ : Loc nD τ sig) → Buf (Elt Ideal) ℓ) (c : Dev nD)

theorem oindex_of : ∀ t : Fin cfg0.N,
    win0_9.index t = ![31 - t.val % 32, t.val / 32] ∧ win0_10.index t = ![31 - t.val % 32, t.val / 32]
    ∧ win0_14.index t = ![0, t.val / 32] :=
  (by decide +kernel : ∀ t : Fin grid0.N,
    win0_9.index t = ![31 - t.val % 32, t.val / 32] ∧ win0_10.index t = ![31 - t.val % 32, t.val / 32]
    ∧ win0_14.index t = ![0, t.val / 32])

theorem arr9 (hA : (argsOf m c).Fin) : (dats m 0 c).arrAt 9 cfg0.N = fun i => (argsOf m c).gx (i 0) (i 1) := by
  refine (dats m 0 c).arrAt_eq_of_covers 9 _ (by decide +kernel) fun t hf y => ?_
  rw [after0_9]
  have key : ∀ (l : Fin 128) (q : Fin 512), (outsAt0 m c t.val t.isLt).1 (ix2 l q) = (argsOf m c).gx (pos (chk t) l) (gcol (grp t) q) := fun l q => by
    rw [dx_at m c hA]
    simp only [Args.gx, grpOf_gcol, laneOf_gcol, chunkOf_pos, placeOf_pos]
  have e0 : ((((cfg0.win 9).blk t).view.emb y) 0 : ℕ) = 128 * (31 - t.val % 32) + (y 0).val := by
    blk_simp [oindex_of t]
    omega
  have e1 : ((((cfg0.win 9).blk t).view.emb y) 1 : ℕ) = 512 * (t.val / 32) + (y 1).val := by
    blk_simp [oindex_of t]
    omega
  refine (congrArg (outsAt0 m c t.val t.isLt).1 (ix2_of (y : S128x512.Idx))).trans ((key (y 0) (y 1)).trans ?_)
  exact congrArg₂ (argsOf m c).gx (Fin.ext e0.symm) (Fin.ext e1.symm)

theorem arr10 (hA : (argsOf m c).Fin) : (dats m 0 c).arrAt 10 cfg0.N = fun i => (argsOf m c).gb (i 0) (i 1) := by
  refine (dats m 0 c).arrAt_eq_of_covers 10 _ (by decide +kernel) fun t hf y => ?_
  rw [after0_10]
  have key : ∀ (l : Fin 128) (q : Fin 128), (outsAt0 m c t.val t.isLt).2.1 (ix2 l q) = (argsOf m c).gb (pos (chk t) l) (gcolB (grp t) q) := fun l q => by
    rw [db_at m c hA]
    simp only [Args.gb, grpOfB_gcolB, laneOfB_gcolB, chunkOf_pos, placeOf_pos]
  have e0 : ((((cfg0.win 10).blk t).view.emb y) 0 : ℕ) = 128 * (31 - t.val % 32) + (y 0).val := by
    blk_simp [oindex_of t]
    omega
  have e1 : ((((cfg0.win 10).blk t).view.emb y) 1 : ℕ) = 128 * (t.val / 32) + (y 1).val := by
    blk_simp [oindex_of t]
    omega
  refine (congrArg (outsAt0 m c t.val t.isLt).2.1 (ix2_of (y : S128x128.Idx))).trans ((key (y 0) (y 1)).trans ?_)
  exact congrArg₂ (argsOf m c).gb (Fin.ext e0.symm) (Fin.ext e1.symm)

theorem arr14 : (dats m 0 c).arrAt 14 cfg0.N = fun i => (argsOf m c).gdsk (i 1) := by
  refine (dats m 0 c).arrAt_eq_of_covers 14 _ (by decide +kernel) fun t hf y => ?_
  rw [after0_14]
  have h31 : t.val % 32 = 31 := (flush0_14 t).mp hf
  have key : ∀ q : Fin 512, (outsAt0 m c t.val t.isLt).2.2.2.2.2.1 (ix2 0 q) = (argsOf m c).gdsk (gcol (grp t) q) := fun q => by
    refine (dsk_last m c t h31 q).trans ?_
    rw [Args.gdsk, grpOf_gcol, laneOf_gcol]
  have e1 : ((((cfg0.win 14).blk t).view.emb y) 1 : ℕ) = 512 * (t.val / 32) + (y 1).val := by
    blk_simp [oindex_of t]
    omega
  have e : y = ix2 (0 : Fin 1) (y 1 : Fin 512) := by
    refine (ix2_of (y : S1x512.Idx)).trans ?_
    exact congrArg (fun u : Fin 1 => ix2 u (y 1 : Fin 512)) (Subsingleton.elim (α := Fin 1) _ _)
  refine (congrArg (outsAt0 m c t.val t.isLt).2.2.2.2.2.1 e).trans ((key (y 1)).trans ?_)
  exact congrArg (argsOf m c).gdsk (Fin.ext e1.symm)

end Cert.Ssd
-- ==== Proof.RefCum.lean ====
/-
  The reference's running sum: a window of 128 over the last axis, padded 127 low, read at an index.
-/
module

public import proofs.«01_k».proof.Proof.Gen.ReferenceIdeal.Read
public import proofs.«01_k».proof.Proof.Final
public import Idealize.ShloMosaic.Lib.Pipeline.ValueKit

@[expose] public section

set_option maxRecDepth 16384

noncomputable section

namespace Cert.Ssd.Ref

open Cert.ReferenceIdeal Cert.ReferenceIdeal.Gen Idealize.ShloMosaic Idealize.ShloMosaic.TcCoe Idealize.SL.Sem
open Idealize.ShloMosaic.ValueIdx hiding ix1 ix2 ix3 ix4 ix5
open Idealize.ShloMosaic.Pointwise

theorem foldl_sum {ι : Type} (f : ι → EReal) : ∀ (l : List ι) (a : EReal), l.foldl (fun r n => r + f n) a = a + (l.map f).sum
  | [], a => by simp
  | n :: l, a => by rw [List.foldl_cons, foldl_sum f l, List.map_cons, List.sum_cons, add_assoc]

/-- The window's positions that lie inside the operand are the places up to `l`. -/
theorem sum_shift (f : Fin 128 → EReal) (l : Fin 128) :
    (∑ n : Fin 128, if h : 127 ≤ l.val + n.val then f ⟨l.val + n.val - 127, by omega⟩ else 0) = ∑ j : Fin 128, if j ≤ l then f j else 0 := by
  rw [← Equiv.sum_comp Fin.revPerm fun n : Fin 128 => if h : 127 ≤ l.val + n.val then f ⟨l.val + n.val - 127, by omega⟩ else 0]
  have e : ∀ n : Fin 128, (if h : 127 ≤ l.val + (Fin.revPerm n).val then f ⟨l.val + (Fin.revPerm n).val - 127, by omega⟩ else 0)
      = if h : n ≤ l then f ⟨l.val - n.val, by omega⟩ else 0 := fun n => by
    have hv : (Fin.revPerm n).val = 127 - n.val := by
      show 128 - (n.val + 1) = 127 - n.val
      omega
    have hn := n.isLt
    by_cases h : n ≤ l
    · have h' : n.val ≤ l.val := h
      rw [dif_pos h, dif_pos (by omega)]
      exact congrArg f (Fin.ext (by show l.val + (Fin.revPerm n).val - 127 = l.val - n.val; omega))
    · have h' : ¬ n.val ≤ l.val := h
      rw [dif_neg h, dif_neg (by omega)]
  rw [Finset.sum_congr rfl fun n _ => e n]
  simp only [← Finset.sum_filter]
  rw [← Finset.sum_filter_add_sum_filter_not Finset.univ (fun n : Fin 128 => n ≤ l),
    Finset.sum_eq_zero (s := Finset.univ.filter fun n : Fin 128 => ¬ n ≤ l) fun n hn => dif_neg (Finset.mem_filter.mp hn).2, add_zero]
  refine Finset.sum_bij' (fun n _ => (⟨l.val - n.val, by omega⟩ : Fin 128)) (fun n _ => (⟨l.val - n.val, by omega⟩ : Fin 128)) ?_ ?_ ?_ ?_ ?_
  · intro n hn
    exact Finset.mem_filter.mpr ⟨Finset.mem_univ _, by show l.val - n.val ≤ l.val; omega⟩
  · intro n hn
    exact Finset.mem_filter.mpr ⟨Finset.mem_univ _, by show l.val - n.val ≤ l.val; omega⟩
  · intro n hn
    have h' : n.val ≤ l.val := (Finset.mem_filter.mp hn).2
    exact Fin.ext (by show l.val - (l.val - n.val) = n.val; omega)
  · intro n hn
    have h' : n.val ≤ l.val := (Finset.mem_filter.mp hn).2
    exact Fin.ext (by show l.val - (l.val - n.val) = n.val; omega)
  · intro n hn
    exact dif_pos (Finset.mem_filter.mp hn).2

/-- The place of the window the fold reads at its n-th step. -/
abbrev winIdx (n : Fin (⟨4, ![1, 1, 1, 128]⟩ : Shape).numel) : (⟨4, ![1, 1, 1, 128]⟩ : Shape).Idx :=
  (⟨4, ![1, 1, 1, 128]⟩ : Shape).rowMajor.symm n

theorem window_sum (x : FVec Ideal S32x4x8x128 .f32) (init : S_.Idx → EReal) (hi : ∀ i, init i = 0)
    (w : S32x4x8x128.ReduceWindows (![1, 1, 1, 128] : Fin 4 → Nat) ![1, 1, 1, 1] ![0, 0, 0, 127] ![0, 0, 0, 0] S32x4x8x128) (hu : 0 < S_.numel)
    (c : Fin 32) (g : Fin 4) (h : Fin 8) (l : Fin 128) :
    Host.reduceWindowAdd (F := Ideal) (φ := .f32) (u := S_) ![1, 1, 1, 128] ![1, 1, 1, 1] ![0, 0, 0, 127] ![0, 0, 0, 0] x init w hu (ix4 c g h l)
      = ∑ j : Fin 128, if j ≤ l then x (ix4 c g h j) else 0 := by
  show Host.reduceWindow (· + ·) ![1, 1, 1, 128] ![1, 1, 1, 1] ![0, 0, 0, 127] ![0, 0, 0, 0] x
    (fun _ : (⟨0, ![]⟩ : Shape).Idx => init (Shape.Idx.first hu)) w (by decide) (ix4 c g h l) = _
  rw [hi]
  unfold Host.reduceWindow
  dsimp only
  rw [foldl_sum, zero_add, ← Fin.sum_univ_def, ← sum_shift fun j => x (ix4 c g h j)]
  have hn : (⟨4, ![1, 1, 1, 128]⟩ : Shape).numel = 128 := by decide
  refine Fintype.sum_equiv (finCongr hn) _ _ fun n => ?_
  have hv := Shape.rowMajor_val_four (winIdx n)
  have hw : (⟨4, ![1, 1, 1, 128]⟩ : Shape).rowMajor (winIdx n) = n := Equiv.apply_symm_apply _ _
  rw [hw] at hv
  have b0 : (winIdx n 0).val < 1 := (winIdx n 0).isLt
  have b1 : (winIdx n 1).val < 1 := (winIdx n 1).isLt
  have b2 : (winIdx n 2).val < 1 := (winIdx n 2).isLt
  have hv' : n.val = (((winIdx n 0).val * 1 + (winIdx n 1).val) * 1 + (winIdx n 2).val) * 128 + (winIdx n 3).val := hv
  have e3 : (winIdx n 3).val = n.val := by omega
  have hc : ((finCongr hn) n).val = n.val := rfl
  have bn : n.val < 128 := Nat.lt_of_lt_of_le n.isLt hn.le
  by_cases hl : 127 ≤ l.val + n.val
  · rw [dif_pos (show 127 ≤ l.val + ((finCongr hn) n).val from hl)]
    rw [dif_pos (fun a => by
      match a with
      | ⟨0, _⟩ => show 0 ≤ c.val * 1 + (winIdx n 0).val ∧ c.val * 1 + (winIdx n 0).val - 0 < 32; omega
      | ⟨1, _⟩ => show 0 ≤ g.val * 1 + (winIdx n 1).val ∧ g.val * 1 + (winIdx n 1).val - 0 < 4; omega
      | ⟨2, _⟩ => show 0 ≤ h.val * 1 + (winIdx n 2).val ∧ h.val * 1 + (winIdx n 2).val - 0 < 8; omega
      | ⟨3, _⟩ => show 127 ≤ l.val * 1 + (winIdx n 3).val ∧ l.val * 1 + (winIdx n 3).val - 127 < 128; omega)]
    refine congrArg x (funext fun a => Fin.ext ?_)
    match a with
    | ⟨0, _⟩ => show c.val * 1 + (winIdx n 0).val - 0 = c.val; omega
    | ⟨1, _⟩ => show g.val * 1 + (winIdx n 1).val - 0 = g.val; omega
    | ⟨2, _⟩ => show h.val * 1 + (winIdx n 2).val - 0 = h.val; omega
    | ⟨3, _⟩ => show l.val * 1 + (winIdx n 3).val - 127 = l.val + n.val - 127; omega
  · rw [dif_neg (show ¬ 127 ≤ l.val + ((finCongr hn) n).val from hl), dif_neg fun hin => by
      have h3 : 127 ≤ l.val * 1 + (winIdx n 3).val ∧ l.val * 1 + (winIdx n 3).val - 127 < 128 := hin 3
      omega]

end Cert.Ssd.Ref
-- ==== Proof.RefBase.lean ====
/-
  The reference's activations, step sizes and running sums, read at an index.
-/
module

public import proofs.«01_k».proof.Proof.RefCum
public import Idealize.ShloMosaic.Lib.IdealHost

@[expose] public section

set_option maxRecDepth 16384

noncomputable section

namespace Cert.Ssd.Ref

open Cert.ReferenceIdeal Cert.ReferenceIdeal.Gen Cert.ReferenceIdeal.Read Idealize.ShloMosaic Idealize.ShloMosaic.TcCoe Idealize.SL.Sem
open Idealize.ShloMosaic.ValueIdx hiding ix1 ix2 ix3 ix4 ix5
open Idealize.ShloMosaic.Pointwise

variable (x0 : (⟨S4096x3072, .bf16⟩ : BufTy).Contents (Elt Ideal)) (x1 : (⟨S4096x32, .f32⟩ : BufTy).Contents (Elt Ideal))
  (x2 x3 : (⟨S32, .f32⟩ : BufTy).Contents (Elt Ideal)) (x4 : (⟨S1x2048, .f32⟩ : BufTy).Contents (Elt Ideal))
  (x6 : (⟨S4096x2048, .f32⟩ : BufTy).Contents (Elt Ideal))

def hcol (h : Fin 32) (p : Fin 64) : Fin 2048 := ⟨64 * h.val + p.val, by omega⟩
def lane (q : Fin 512) : Fin 64 := ⟨q.val % 64, by omega⟩
def headOf (q : Fin 2048) : Fin 32 := ⟨q.val / 64, by omega⟩
def laneH (q : Fin 2048) : Fin 64 := ⟨q.val % 64, by omega⟩

theorem hd_col (h : Fin 8) (p : Fin 64) : hd (col h p) = h := Fin.ext (by show (64 * h.val + p.val) / 64 = h.val; omega)
theorem col_hd (q : Fin 512) : col (hd q) (lane q) = q := Fin.ext (by show 64 * (q.val / 64) + q.val % 64 = q.val; omega)

/-- The reference's arguments by their entries. -/
def refArgs : Args where
  pre i j := x0 (ix2 i j)
  dtRaw i h := x1 (ix2 i h)
  bias h := x2 (ix1 h)
  alog h := x3 (ix1 h)
  dsk q := x4 (ix2 0 q)
  dy i q := x6 (ix2 i q)

theorem pre2 (i : Fin 4096) (q : Fin 2048) : (val_main_v2 (F := Ideal) x0) (ix2 i q) = x0 (ix2 i ⟨q.val, by omega⟩) := by
  rw [val_main_v2_apply, val_main_v0_apply, (show idx_main_v0 (ix2 i q) = (ix2 i ⟨q.val, by omega⟩) from funext fun a => Fin.ext (match a with
      | ⟨0, _⟩ => by show i.val = i.val; omega
      | ⟨1, _⟩ => by show q.val = q.val; omega))]; rfl

theorem pre5 (i : Fin 4096) (n : Fin 512) : (val_main_v5 (F := Ideal) x0) (ix2 i n) = x0 (ix2 i ⟨2048 + n.val, by omega⟩) := by
  rw [val_main_v5_apply, val_main_v1_apply, (show idx_main_v1 (ix2 i n) = (ix2 i ⟨2048 + n.val, by omega⟩) from funext fun a => Fin.ext (match a with
      | ⟨0, _⟩ => by show i.val = i.val; omega
      | ⟨1, _⟩ => by show 2048 + n.val = (2048 + n.val); omega))]; rfl

theorem pre9 (i : Fin 4096) (n : Fin 512) : (val_main_v9 (F := Ideal) x0) (ix2 i n) = x0 (ix2 i ⟨2560 + n.val, by omega⟩) := by
  rw [val_main_v9_apply, val_main_v8_apply, (show idx_main_v8 (ix2 i n) = (ix2 i ⟨2560 + n.val, by omega⟩) from funext fun a => Fin.ext (match a with
      | ⟨0, _⟩ => by show i.val = i.val; omega
      | ⟨1, _⟩ => by show 2560 + n.val = (2560 + n.val); omega))]; rfl

theorem logistic_parts (v : EReal) :
    Ideal.div (Ideal.ofBits .f32 0x3F800000#32) (Ideal.ofBits .f32 0x3F800000#32 + Ideal.exp (-v)) = Ideal.logistic v := by
  rw [Ideal.ofBits_one_f32]; rfl

theorem sig3 (i : S4096x2048.Idx) : (val_main_v3_2 (F := Ideal) x0) i = Ideal.logistic ((val_main_v2 (F := Ideal) x0) i) := by
  rw [val_main_v3_2_apply, val_main_call0_v4_apply, val_main_call0_cst_0_apply, val_main_call0_v3_apply, val_main_call0_v2_apply,
    val_main_call0_cst_apply, val_main_call0_v1_apply, val_main_call0_v0_apply]
  exact logistic_parts _

theorem sig6 (i : S4096x512.Idx) : (val_main_v6_2 (F := Ideal) x0) i = Ideal.logistic ((val_main_v5 (F := Ideal) x0) i) := by
  rw [val_main_v6_2_apply, val_main_call1_v4_apply, val_main_call1_cst_0_apply, val_main_call1_v3_apply, val_main_call1_v2_apply,
    val_main_call1_cst_apply, val_main_call1_v1_apply, val_main_call1_v0_apply]
  exact logistic_parts _

theorem sig10 (i : S4096x512.Idx) : (val_main_call2_v5 (F := Ideal) x0) i = Ideal.logistic ((val_main_v9 (F := Ideal) x0) i) := by
  rw [val_main_call2_v5_apply, val_main_call2_v4_apply, val_main_call2_cst_0_apply, val_main_call2_v3_apply, val_main_call2_v2_apply,
    val_main_call2_cst_apply, val_main_call2_v1_apply, val_main_call2_v0_apply]
  exact logistic_parts _

theorem grad3 (i : S4096x2048.Idx) :
    (val_main_v3_1 (F := Ideal) x0) i = Ideal.logistic ((val_main_v2 (F := Ideal) x0) i) * (1 - Ideal.logistic ((val_main_v2 (F := Ideal) x0) i)) := by
  rw [val_main_v3_1_apply, val_main_call0_v7_apply, val_main_call0_v6_apply, val_main_call0_cst_1_apply, sig3]
  show _ * (Ideal.ofBits .f32 0x3F800000#32 - _) = _
  rw [Ideal.ofBits_one_f32]

theorem grad6 (i : S4096x512.Idx) :
    (val_main_v6_1 (F := Ideal) x0) i = Ideal.logistic ((val_main_v5 (F := Ideal) x0) i) * (1 - Ideal.logistic ((val_main_v5 (F := Ideal) x0) i)) := by
  rw [val_main_v6_1_apply, val_main_call1_v7_apply, val_main_call1_v6_apply, val_main_call1_cst_1_apply, sig6]
  show _ * (Ideal.ofBits .f32 0x3F800000#32 - _) = _
  rw [Ideal.ofBits_one_f32]

theorem at4 (i : Fin 4096) (h : Fin 32) (p : Fin 64) :
    (val_main_v4 (F := Ideal) x0) (ix3 i h p) = silu (x0 (ix2 i ⟨64 * h.val + p.val, by omega⟩)) := by
  rw [val_main_v4_apply, (show idx_main_v4 (ix3 i h p) = (ix2 i (hcol h p)) from funext fun a => Fin.ext (match a with
      | ⟨0, _⟩ => by show ((i.val * 32 + h.val) * 64 + p.val) / 2048 = i.val; omega
      | ⟨1, _⟩ => by show ((i.val * 32 + h.val) * 64 + p.val) % 2048 = (64 * h.val + p.val); omega)), val_main_v3_0_apply, sig3, pre2]
  rfl

theorem at7 (i : Fin 4096) (g : Fin 4) (n : Fin 128) :
    (val_main_v7 (F := Ideal) x0) (ix3 i g n) = silu (x0 (ix2 i ⟨2048 + (128 * g.val + n.val), by omega⟩)) := by
  rw [val_main_v7_apply, (show idx_main_v7 (ix3 i g n) = (ix2 i (gcolB g n)) from funext fun a => Fin.ext (match a with
      | ⟨0, _⟩ => by show ((i.val * 4 + g.val) * 128 + n.val) / 512 = i.val; omega
      | ⟨1, _⟩ => by show ((i.val * 4 + g.val) * 128 + n.val) % 512 = (128 * g.val + n.val); omega)), val_main_v6_0_apply, sig6, pre5]
  rfl

theorem at11 (i : Fin 4096) (g : Fin 4) (n : Fin 128) :
    (val_main_v11 (F := Ideal) x0) (ix3 i g n) = silu (x0 (ix2 i ⟨2560 + (128 * g.val + n.val), by omega⟩)) := by
  rw [val_main_v11_apply, (show idx_main_v11 (ix3 i g n) = (ix2 i (gcolB g n)) from funext fun a => Fin.ext (match a with
      | ⟨0, _⟩ => by show ((i.val * 4 + g.val) * 128 + n.val) / 512 = i.val; omega
      | ⟨1, _⟩ => by show ((i.val * 4 + g.val) * 128 + n.val) % 512 = (128 * g.val + n.val); omega)), val_main_v10_apply, sig10, pre9]
  rfl

theorem at14 (i : Fin 4096) (h : Fin 32) : (val_main_v14 (F := Ideal) x1 x2) (ix2 i h) = x1 (ix2 i h) + x2 (ix1 h) := by
  rw [val_main_v14_apply, val_main_v13_apply, (show idx_main_v13 (ix2 i h) = (ix2 0 h) from funext fun a => Fin.ext (match a with
      | ⟨0, _⟩ => by show 0 = 0; omega
      | ⟨1, _⟩ => by show h.val = h.val; omega)), val_main_v12_apply, (show idx_main_v12 (ix2 0 h) = (ix1 h) from funext fun a => Fin.ext (match a with
      | ⟨0, _⟩ => by show h.val = h.val; omega))]
  rfl

theorem softplus_parts (z o : EReal) (ho : o = 0) :
    Scalar.select (Ideal.cmp .une (z - o) (z - o)) (z + o) (max z o + Ideal.log1p (Ideal.exp (-(max (z - o) (-(z - o))))))
      = softplus z := by
  subst ho
  rw [sub_zero]
  have h : Ideal.cmp .une z z = 0#1 := by simp [Ideal.cmp]
  rw [h]
  rfl

theorem at15 (i : Fin 4096) (h : Fin 32) : (val_main_v15 (F := Ideal) x1 x2) (ix2 i h) = softplus (x1 (ix2 i h) + x2 (ix1 h)) := by
  rw [val_main_v15_apply, val_main_call3_v4_apply, val_main_call3_v6_apply, val_main_call3_v11_apply, val_main_call3_v10_apply,
    val_main_call3_v9_apply, val_main_call3_v8_apply, val_main_call3_v7_apply, val_main_call3_v3_apply, val_main_call3_v1_apply,
    val_main_call3_v0_apply, val_main_call3_v2_apply, val_main_call3_v5_apply, val_main_call3_cst_apply, at14]
  exact softplus_parts _ _ Ideal.ofBits_zero_f32

theorem at18 (i : Fin 4096) (h : Fin 32) : (val_main_v18 (F := Ideal) x1 x2) (ix3 i h 0) = softplus (x1 (ix2 i h) + x2 (ix1 h)) := by
  rw [val_main_v18_apply, (show idx_main_v18 (ix3 i h 0) = (ix2 i h) from funext fun a => Fin.ext (match a with
      | ⟨0, _⟩ => by show i.val = i.val; omega
      | ⟨1, _⟩ => by show h.val = h.val; omega)), at15]

theorem dt_eq (c : Fin 32) (g : Fin 4) (h : Fin 8) (l : Fin 128) :
    softplus (x1 (ix2 (pos c l) (head g h)) + x2 (ix1 (head g h))) = ((refArgs x0 x1 x2 x3 x4 x6).chunk g c).dt h l := rfl

theorem at21 (c : Fin 32) (g : Fin 4) (h : Fin 8) (l : Fin 128) (p : Fin 64) :
    (val_main_v21 (F := Ideal) x0 x1 x2) (ix5 c l g h p) = ((refArgs x0 x1 x2 x3 x4 x6).chunk g c).xs l (col h p) := by
  rw [val_main_v21_apply, (show idx_main_v21 (ix5 c l g h p) = (ix3 (pos c l) (head g h) p) from funext fun a => Fin.ext (match a with
      | ⟨0, _⟩ => by show ((((c.val * 128 + l.val) * 4 + g.val) * 8 + h.val) * 64 + p.val) / 2048 = (128 * c.val + l.val); omega
      | ⟨1, _⟩ => by show ((((c.val * 128 + l.val) * 4 + g.val) * 8 + h.val) * 64 + p.val) / 64 % 32 = (8 * g.val + h.val); omega
      | ⟨2, _⟩ => by show ((((c.val * 128 + l.val) * 4 + g.val) * 8 + h.val) * 64 + p.val) % 64 = p.val; omega)), val_main_v20_apply, at4, val_main_v19_apply, (show idx_main_v19 (ix3 (pos c l) (head g h) p) = (ix3 (pos c l) (head g h) 0) from funext fun a => Fin.ext (match a with
      | ⟨0, _⟩ => by show (128 * c.val + l.val) = (128 * c.val + l.val); omega
      | ⟨1, _⟩ => by show (8 * g.val + h.val) = (8 * g.val + h.val); omega
      | ⟨2, _⟩ => by show 0 = 0; omega)), at18]
  show _ = ((refArgs x0 x1 x2 x3 x4 x6).chunk g c).x l (col h p) * ((refArgs x0 x1 x2 x3 x4 x6).chunk g c).dt (hd (col h p)) l
  rw [hd_col]
  refine congrArg₂ (· * ·) (congrArg (fun j => silu (x0 (ix2 (pos c l) j))) (Fin.ext ?_)) rfl
  show 64 * (8 * g.val + h.val) + p.val = 512 * g.val + (64 * h.val + p.val)
  omega

theorem at26 (c : Fin 32) (g : Fin 4) (h : Fin 8) (l : Fin 128) :
    (val_main_v26 (F := Ideal) x1 x2 x3) (ix4 c g h l) = ((refArgs x0 x1 x2 x3 x4 x6).chunk g c).dt h l * ((refArgs x0 x1 x2 x3 x4 x6).chunk g c).a h := by
  rw [val_main_v26_apply, (show idx_main_v26 (ix4 c g h l) = (ix4 c l g h) from funext fun a => Fin.ext (match a with
      | ⟨0, _⟩ => by show c.val = c.val; omega
      | ⟨1, _⟩ => by show l.val = l.val; omega
      | ⟨2, _⟩ => by show g.val = g.val; omega
      | ⟨3, _⟩ => by show h.val = h.val; omega)), val_main_v25_apply, (show idx_main_v25 (ix4 c l g h) = (ix2 (pos c l) (head g h)) from funext fun a => Fin.ext (match a with
      | ⟨0, _⟩ => by show (((c.val * 128 + l.val) * 4 + g.val) * 8 + h.val) / 32 = (128 * c.val + l.val); omega
      | ⟨1, _⟩ => by show (((c.val * 128 + l.val) * 4 + g.val) * 8 + h.val) % 32 = (8 * g.val + h.val); omega)), val_main_v24_apply, at15, val_main_v23_apply, (show idx_main_v23 (ix2 (pos c l) (head g h)) = (ix2 0 (head g h)) from funext fun a => Fin.ext (match a with
      | ⟨0, _⟩ => by show 0 = 0; omega
      | ⟨1, _⟩ => by show (8 * g.val + h.val) = (8 * g.val + h.val); omega)), val_main_v22_apply, (show idx_main_v22 (ix2 0 (head g h)) = (ix1 (head g h)) from funext fun a => Fin.ext (match a with
      | ⟨0, _⟩ => by show (8 * g.val + h.val) = (8 * g.val + h.val); omega)),
    val_main_v17_apply, val_main_v16_apply]
  rfl

theorem at27 (c : Fin 32) (g : Fin 4) (h : Fin 8) (l : Fin 128) :
    (val_main_v27 (F := Ideal) x1 x2 x3) (ix4 c g h l) = ((refArgs x0 x1 x2 x3 x4 x6).chunk g c).cs h l := by
  refine (window_sum (val_main_v26 (F := Ideal) x1 x2 x3) (val_main_call4_call0_v0 (F := Ideal)) (fun i => ?_) _ _ c g h l).trans ?_
  · rw [val_main_call4_call0_v0_apply, val_main_call4_call0_cst_apply]
    exact Ideal.ofBits_zero_f32
  · exact Finset.sum_congr rfl fun j _ => by rw [at26 x0 x1 x2 x3 x4 x6]

theorem at28 (c : Fin 32) (g : Fin 4) (l n : Fin 128) : (val_main_v28 (F := Ideal) x0) (ix4 c l g n) = ((refArgs x0 x1 x2 x3 x4 x6).chunk g c).b l n := by
  rw [val_main_v28_apply, (show idx_main_v28 (ix4 c l g n) = (ix3 (pos c l) g n) from funext fun a => Fin.ext (match a with
      | ⟨0, _⟩ => by show (((c.val * 128 + l.val) * 4 + g.val) * 128 + n.val) / 512 = (128 * c.val + l.val); omega
      | ⟨1, _⟩ => by show (((c.val * 128 + l.val) * 4 + g.val) * 128 + n.val) / 128 % 4 = g.val; omega
      | ⟨2, _⟩ => by show (((c.val * 128 + l.val) * 4 + g.val) * 128 + n.val) % 128 = n.val; omega)), at7]
  refine congrArg (fun j => silu (x0 (ix2 (pos c l) j))) (Fin.ext ?_)
  show 2048 + (128 * g.val + n.val) = 2048 + 128 * g.val + n.val
  omega

theorem at29 (c : Fin 32) (g : Fin 4) (l n : Fin 128) : (val_main_v29 (F := Ideal) x0) (ix4 c l g n) = ((refArgs x0 x1 x2 x3 x4 x6).chunk g c).c l n := by
  rw [val_main_v29_apply, (show idx_main_v29 (ix4 c l g n) = (ix3 (pos c l) g n) from funext fun a => Fin.ext (match a with
      | ⟨0, _⟩ => by show (((c.val * 128 + l.val) * 4 + g.val) * 128 + n.val) / 512 = (128 * c.val + l.val); omega
      | ⟨1, _⟩ => by show (((c.val * 128 + l.val) * 4 + g.val) * 128 + n.val) / 128 % 4 = g.val; omega
      | ⟨2, _⟩ => by show (((c.val * 128 + l.val) * 4 + g.val) * 128 + n.val) % 128 = n.val; omega)), at11]
  refine congrArg (fun j => silu (x0 (ix2 (pos c l) j))) (Fin.ext ?_)
  show 2560 + (128 * g.val + n.val) = 2560 + 128 * g.val + n.val
  omega

end Cert.Ssd.Ref
-- ==== Proof.RefChunk.lean ====
/-
  The reference's decays, its products inside a chunk and what it carries from chunk to chunk, read at an index.
-/
module

public import proofs.«01_k».proof.Proof.RefBase

@[expose] public section

set_option maxRecDepth 16384

noncomputable section

namespace Cert.Ssd.Ref

open Cert.ReferenceIdeal Cert.ReferenceIdeal.Gen Cert.ReferenceIdeal.Read Idealize.ShloMosaic Idealize.ShloMosaic.TcCoe Idealize.SL.Sem
open Idealize.ShloMosaic.ValueIdx hiding ix1 ix2 ix3 ix4 ix5
open Idealize.ShloMosaic.Pointwise

variable (x0 : (⟨S4096x3072, .bf16⟩ : BufTy).Contents (Elt Ideal)) (x1 : (⟨S4096x32, .f32⟩ : BufTy).Contents (Elt Ideal))
  (x2 x3 : (⟨S32, .f32⟩ : BufTy).Contents (Elt Ideal)) (x4 : (⟨S1x2048, .f32⟩ : BufTy).Contents (Elt Ideal))
  (x6 : (⟨S4096x2048, .f32⟩ : BufTy).Contents (Elt Ideal))

theorem mask_ge (l s : Fin 128) :
    IntOp.cmpi .sge (IntOp.addi (BitVec.ofNat 32 l.val) 0#32) (BitVec.ofNat 32 s.val) = if s ≤ l then 1#1 else 0#1 := by
  revert l s; decide +kernel

theorem at31 (l s : Fin 128) : (val_main_v31 (F := Ideal) ) (ix2 l s) = if s ≤ l then 1#1 else 0#1 := by
  rw [val_main_v31_apply, val_main_call5_v4_apply, val_main_call5_v2_apply, val_main_call5_v0_apply, val_main_call5_v1_apply,
    val_main_call5_c_apply, val_main_call5_v3_apply, val_main_call5_v5_apply, val_main_call5_c_0_apply, val_main_v30_apply,
    val_main_c_apply]
  refine (congrArg (fun b => Scalar.select b 1#1 0#1) (mask_ge l s)).trans ?_
  by_cases h : s ≤ l
  · rw [if_pos h]; rfl
  · rw [if_neg h]; rfl

theorem ninf : Ideal.ofBits .f32 0xFF800000#32 = ⊥ := by simp [Ideal.ofBits, Ideal.ieee]

theorem at36 (c : Fin 32) (g : Fin 4) (h : Fin 8) (l s : Fin 128) :
    (val_main_v36 (F := Ideal) x1 x2 x3) (ix5 c g h l s) = ((refArgs x0 x1 x2 x3 x4 x6).chunk g c).cs h l - ((refArgs x0 x1 x2 x3 x4 x6).chunk g c).cs h s := by
  rw [val_main_v36_apply, val_main_v34_apply, (show idx_main_v34 (ix5 c g h l s) = (ix5 c g h l 0) from funext fun a => Fin.ext (match a with
      | ⟨0, _⟩ => by show c.val = c.val; omega
      | ⟨1, _⟩ => by show g.val = g.val; omega
      | ⟨2, _⟩ => by show h.val = h.val; omega
      | ⟨3, _⟩ => by show l.val = l.val; omega
      | ⟨4, _⟩ => by show 0 = 0; omega)), val_main_v32_apply, (show idx_main_v32 (ix5 c g h l 0) = (ix4 c g h l) from funext fun a => Fin.ext (match a with
      | ⟨0, _⟩ => by show c.val = c.val; omega
      | ⟨1, _⟩ => by show g.val = g.val; omega
      | ⟨2, _⟩ => by show h.val = h.val; omega
      | ⟨3, _⟩ => by show l.val = l.val; omega)), val_main_v35_apply, (show idx_main_v35 (ix5 c g h l s) = (ix5 c g h 0 s) from funext fun a => Fin.ext (match a with
      | ⟨0, _⟩ => by show c.val = c.val; omega
      | ⟨1, _⟩ => by show g.val = g.val; omega
      | ⟨2, _⟩ => by show h.val = h.val; omega
      | ⟨3, _⟩ => by show 0 = 0; omega
      | ⟨4, _⟩ => by show s.val = s.val; omega)),
    val_main_v33_apply, (show idx_main_v33 (ix5 c g h 0 s) = (ix4 c g h s) from funext fun a => Fin.ext (match a with
      | ⟨0, _⟩ => by show c.val = c.val; omega
      | ⟨1, _⟩ => by show g.val = g.val; omega
      | ⟨2, _⟩ => by show h.val = h.val; omega
      | ⟨3, _⟩ => by show s.val = s.val; omega)), at27 x0 x1 x2 x3 x4 x6, at27 x0 x1 x2 x3 x4 x6]
  rfl

theorem at38 (c : Fin 32) (g : Fin 4) (h : Fin 8) (l s : Fin 128) :
    (val_main_v38 (F := Ideal) x1 x2 x3) (ix5 c g h l s) = ((refArgs x0 x1 x2 x3 x4 x6).chunk g c).lm h l s := by
  rw [val_main_v38_apply, val_main_v37_apply, val_main_call6_v1_apply, (show idx_main_call6_v1 (ix5 c g h l s) = (ix2 l s) from funext fun a => Fin.ext (match a with
      | ⟨0, _⟩ => by show l.val = l.val; omega
      | ⟨1, _⟩ => by show s.val = s.val; omega)), at31, at36 x0 x1 x2 x3 x4 x6, val_main_call6_v2_apply, val_main_call6_v0_apply,
    val_main_cst_apply]
  show Ideal.exp (Scalar.select _ _ (Ideal.ofBits .f32 0xFF800000#32)) = (if s ≤ l then _ else _)
  rw [ninf]
  by_cases hs : s ≤ l
  · rw [if_pos hs, if_pos hs]; rfl
  · rw [if_neg hs, if_neg hs]
    exact Ideal.exp_bot

theorem at39 (c : Fin 32) (g : Fin 4) (l s : Fin 128) : (val_main_v39 (F := Ideal) x0) (ix4 c g l s) = ((refArgs x0 x1 x2 x3 x4 x6).chunk g c).g l s := by
  rw [val_main_v39_apply]
  refine Finset.sum_congr rfl fun n _ => ?_
  rw [(show lidx_main_v39 (ix4 c g l s) n = (ix4 c l g n) from funext fun a => Fin.ext (match a with
      | ⟨0, _⟩ => by show c.val = c.val; omega
      | ⟨1, _⟩ => by show l.val = l.val; omega
      | ⟨2, _⟩ => by show g.val = g.val; omega
      | ⟨3, _⟩ => by show n.val = n.val; omega)), (show ridx_main_v39 (ix4 c g l s) n = (ix4 c s g n) from funext fun a => Fin.ext (match a with
      | ⟨0, _⟩ => by show c.val = c.val; omega
      | ⟨1, _⟩ => by show s.val = s.val; omega
      | ⟨2, _⟩ => by show g.val = g.val; omega
      | ⟨3, _⟩ => by show n.val = n.val; omega)), at29 x0 x1 x2 x3 x4 x6, at28 x0 x1 x2 x3 x4 x6]

theorem at42 (c : Fin 32) (g : Fin 4) (h : Fin 8) (l s : Fin 128) :
    (val_main_v42 (F := Ideal) x0 x1 x2 x3) (ix5 c g h l s) = ((refArgs x0 x1 x2 x3 x4 x6).chunk g c).g l s * ((refArgs x0 x1 x2 x3 x4 x6).chunk g c).lm h l s := by
  rw [val_main_v42_apply, val_main_v41_apply, (show idx_main_v41 (ix5 c g h l s) = (ix5 c g 0 l s) from funext fun a => Fin.ext (match a with
      | ⟨0, _⟩ => by show c.val = c.val; omega
      | ⟨1, _⟩ => by show g.val = g.val; omega
      | ⟨2, _⟩ => by show 0 = 0; omega
      | ⟨3, _⟩ => by show l.val = l.val; omega
      | ⟨4, _⟩ => by show s.val = s.val; omega)), val_main_v40_apply, (show idx_main_v40 (ix5 c g 0 l s) = (ix4 c g l s) from funext fun a => Fin.ext (match a with
      | ⟨0, _⟩ => by show c.val = c.val; omega
      | ⟨1, _⟩ => by show g.val = g.val; omega
      | ⟨2, _⟩ => by show l.val = l.val; omega
      | ⟨3, _⟩ => by show s.val = s.val; omega)), at39 x0 x1 x2 x3 x4 x6, at38 x0 x1 x2 x3 x4 x6]
  rfl

theorem at48 (c : Fin 32) (g : Fin 4) (h : Fin 8) (l : Fin 128) : (val_main_v48 (F := Ideal) x1 x2 x3) (ix4 c g h l) = ((refArgs x0 x1 x2 x3 x4 x6).chunk g c).ec h l := by
  rw [val_main_v48_apply, val_main_v47_apply, val_main_v46_apply, (show idx_main_v46 (ix4 c g h l) = (ix4 c g h 0) from funext fun a => Fin.ext (match a with
      | ⟨0, _⟩ => by show c.val = c.val; omega
      | ⟨1, _⟩ => by show g.val = g.val; omega
      | ⟨2, _⟩ => by show h.val = h.val; omega
      | ⟨3, _⟩ => by show 0 = 0; omega)), val_main_v45_apply, (show idx_main_v45 (ix4 c g h 0) = (ix4 c g h lastPos) from funext fun a => Fin.ext (match a with
      | ⟨0, _⟩ => by show c.val = c.val; omega
      | ⟨1, _⟩ => by show g.val = g.val; omega
      | ⟨2, _⟩ => by show h.val = h.val; omega
      | ⟨3, _⟩ => by show 127 + 0 = 127; omega)), at27 x0 x1 x2 x3 x4 x6, at27 x0 x1 x2 x3 x4 x6]
  rfl

theorem at50 (c : Fin 32) (g : Fin 4) (h : Fin 8) (l : Fin 128) : (val_main_v50 (F := Ideal) x1 x2 x3) (ix5 c l g h 0) = ((refArgs x0 x1 x2 x3 x4 x6).chunk g c).ec h l := by
  rw [val_main_v50_apply, (show idx_main_v50 (ix5 c l g h 0) = (ix4 c l g h) from funext fun a => Fin.ext (match a with
      | ⟨0, _⟩ => by show c.val = c.val; omega
      | ⟨1, _⟩ => by show l.val = l.val; omega
      | ⟨2, _⟩ => by show g.val = g.val; omega
      | ⟨3, _⟩ => by show h.val = h.val; omega)), val_main_v49_apply, (show idx_main_v49 (ix4 c l g h) = (ix4 c g h l) from funext fun a => Fin.ext (match a with
      | ⟨0, _⟩ => by show c.val = c.val; omega
      | ⟨1, _⟩ => by show g.val = g.val; omega
      | ⟨2, _⟩ => by show h.val = h.val; omega
      | ⟨3, _⟩ => by show l.val = l.val; omega)), at48 x0 x1 x2 x3 x4 x6]

theorem at52 (c : Fin 32) (g : Fin 4) (h : Fin 8) (l : Fin 128) (p : Fin 64) :
    (val_main_v52 (F := Ideal) x0 x1 x2 x3) (ix5 c l g h p) = ((refArgs x0 x1 x2 x3 x4 x6).chunk g c).xs l (col h p) * ((refArgs x0 x1 x2 x3 x4 x6).chunk g c).ec h l := by
  rw [val_main_v52_apply, val_main_v51_apply, (show idx_main_v51 (ix5 c l g h p) = (ix5 c l g h 0) from funext fun a => Fin.ext (match a with
      | ⟨0, _⟩ => by show c.val = c.val; omega
      | ⟨1, _⟩ => by show l.val = l.val; omega
      | ⟨2, _⟩ => by show g.val = g.val; omega
      | ⟨3, _⟩ => by show h.val = h.val; omega
      | ⟨4, _⟩ => by show 0 = 0; omega)), at21 x0 x1 x2 x3 x4 x6, at50 x0 x1 x2 x3 x4 x6]
  rfl

theorem at53 (c : Fin 32) (g : Fin 4) (l : Fin 128) (q : Fin 512) :
    (val_main_v53 (F := Ideal) x0 x1 x2 x3) (ix4 c l g q) = ((refArgs x0 x1 x2 x3 x4 x6).chunk g c).xs l q * ((refArgs x0 x1 x2 x3 x4 x6).chunk g c).ec (hd q) l := by
  rw [val_main_v53_apply, (show idx_main_v53 (ix4 c l g q) = (ix5 c l g (hd q) (lane q)) from funext fun a => Fin.ext (match a with
      | ⟨0, _⟩ => by show (((c.val * 128 + l.val) * 4 + g.val) * 512 + q.val) / 262144 = c.val; omega
      | ⟨1, _⟩ => by show (((c.val * 128 + l.val) * 4 + g.val) * 512 + q.val) / 2048 % 128 = l.val; omega
      | ⟨2, _⟩ => by show (((c.val * 128 + l.val) * 4 + g.val) * 512 + q.val) / 512 % 4 = g.val; omega
      | ⟨3, _⟩ => by show (((c.val * 128 + l.val) * 4 + g.val) * 512 + q.val) / 64 % 8 = (q.val / 64); omega
      | ⟨4, _⟩ => by show (((c.val * 128 + l.val) * 4 + g.val) * 512 + q.val) % 64 = (q.val % 64); omega)), at52 x0 x1 x2 x3 x4 x6, col_hd]

theorem at59 (c : Fin 32) (g : Fin 4) (h : Fin 8) : (val_main_v59 (F := Ideal) x1 x2 x3) (ix5 c g h 0 0) = Ideal.exp (((refArgs x0 x1 x2 x3 x4 x6).chunk g c).cs h lastPos) := by
  rw [val_main_v59_apply, (show idx_main_v59 (ix5 c g h 0 0) = (ix3 c g h) from funext fun a => Fin.ext (match a with
      | ⟨0, _⟩ => by show c.val = c.val; omega
      | ⟨1, _⟩ => by show g.val = g.val; omega
      | ⟨2, _⟩ => by show h.val = h.val; omega)), val_main_v58_apply, val_main_v57_apply, (show idx_main_v57 (ix3 c g h) = (ix4 c g h 0) from funext fun a => Fin.ext (match a with
      | ⟨0, _⟩ => by show ((c.val * 4 + g.val) * 8 + h.val) / 32 = c.val; omega
      | ⟨1, _⟩ => by show ((c.val * 4 + g.val) * 8 + h.val) / 8 % 4 = g.val; omega
      | ⟨2, _⟩ => by show ((c.val * 4 + g.val) * 8 + h.val) / 1 % 8 = h.val; omega
      | ⟨3, _⟩ => by show 0 = 0; omega)), val_main_v56_apply, (show idx_main_v56 (ix4 c g h 0) = (ix4 c g h lastPos) from funext fun a => Fin.ext (match a with
      | ⟨0, _⟩ => by show c.val = c.val; omega
      | ⟨1, _⟩ => by show g.val = g.val; omega
      | ⟨2, _⟩ => by show h.val = h.val; omega
      | ⟨3, _⟩ => by show 127 + 0 = 127; omega)), at27 x0 x1 x2 x3 x4 x6]
  rfl

theorem at231 (c : Fin 32) (g : Fin 4) (h : Fin 8) (l : Fin 128) : (val_main_v231 (F := Ideal) x1 x2 x3) (ix5 c l g h 0) = Ideal.exp (((refArgs x0 x1 x2 x3 x4 x6).chunk g c).cs h l) := by
  rw [val_main_v231_apply, (show idx_main_v231 (ix5 c l g h 0) = (ix4 c l g h) from funext fun a => Fin.ext (match a with
      | ⟨0, _⟩ => by show c.val = c.val; omega
      | ⟨1, _⟩ => by show l.val = l.val; omega
      | ⟨2, _⟩ => by show g.val = g.val; omega
      | ⟨3, _⟩ => by show h.val = h.val; omega)), val_main_v230_apply, (show idx_main_v230 (ix4 c l g h) = (ix4 c g h l) from funext fun a => Fin.ext (match a with
      | ⟨0, _⟩ => by show c.val = c.val; omega
      | ⟨1, _⟩ => by show g.val = g.val; omega
      | ⟨2, _⟩ => by show h.val = h.val; omega
      | ⟨3, _⟩ => by show l.val = l.val; omega)), val_main_v229_apply, at27 x0 x1 x2 x3 x4 x6]
  rfl

theorem at242 (i : Fin 4096) (h : Fin 32) (p : Fin 64) : (val_main_v242 (F := Ideal) x6) (ix3 i h p) = x6 (ix2 i (hcol h p)) := by
  rw [val_main_v242_apply, (show idx_main_v242 (ix3 i h p) = (ix2 i (hcol h p)) from funext fun a => Fin.ext (match a with
      | ⟨0, _⟩ => by show ((i.val * 32 + h.val) * 64 + p.val) / 2048 = i.val; omega
      | ⟨1, _⟩ => by show ((i.val * 32 + h.val) * 64 + p.val) % 2048 = (64 * h.val + p.val); omega))]

theorem at250 (c : Fin 32) (g : Fin 4) (h : Fin 8) (l : Fin 128) (p : Fin 64) :
    (val_main_v250 (F := Ideal) x6) (ix5 c l g h p) = ((refArgs x0 x1 x2 x3 x4 x6).chunk g c).dy l (col h p) := by
  rw [val_main_v250_apply, (show idx_main_v250 (ix5 c l g h p) = (ix3 (pos c l) (head g h) p) from funext fun a => Fin.ext (match a with
      | ⟨0, _⟩ => by show ((((c.val * 128 + l.val) * 4 + g.val) * 8 + h.val) * 64 + p.val) / 2048 = (128 * c.val + l.val); omega
      | ⟨1, _⟩ => by show ((((c.val * 128 + l.val) * 4 + g.val) * 8 + h.val) * 64 + p.val) / 64 % 32 = (8 * g.val + h.val); omega
      | ⟨2, _⟩ => by show ((((c.val * 128 + l.val) * 4 + g.val) * 8 + h.val) * 64 + p.val) % 64 = p.val; omega)), at242]
  refine congrArg (fun j => x6 (ix2 (pos c l) j)) (Fin.ext ?_)
  show 64 * (8 * g.val + h.val) + p.val = 512 * g.val + (64 * h.val + p.val)
  omega

theorem at252 (c : Fin 32) (g : Fin 4) (h : Fin 8) (l : Fin 128) (p : Fin 64) :
    (val_main_v252 (F := Ideal) x1 x2 x3 x6) (ix5 c l g h p) = ((refArgs x0 x1 x2 x3 x4 x6).chunk g c).dy l (col h p) * Ideal.exp (((refArgs x0 x1 x2 x3 x4 x6).chunk g c).cs h l) := by
  rw [val_main_v252_apply, val_main_v251_apply, (show idx_main_v251 (ix5 c l g h p) = (ix5 c l g h 0) from funext fun a => Fin.ext (match a with
      | ⟨0, _⟩ => by show c.val = c.val; omega
      | ⟨1, _⟩ => by show l.val = l.val; omega
      | ⟨2, _⟩ => by show g.val = g.val; omega
      | ⟨3, _⟩ => by show h.val = h.val; omega
      | ⟨4, _⟩ => by show 0 = 0; omega)), at250 x0 x1 x2 x3 x4 x6, at231 x0 x1 x2 x3 x4 x6]
  rfl

theorem at254 (c : Fin 32) (g : Fin 4) (l : Fin 128) (q : Fin 512) :
    (val_main_v254 (F := Ideal) x1 x2 x3 x6) (ix4 c g q l) = ((refArgs x0 x1 x2 x3 x4 x6).chunk g c).dy l q * Ideal.exp (((refArgs x0 x1 x2 x3 x4 x6).chunk g c).cs (hd q) l) := by
  rw [val_main_v254_apply, (show idx_main_v254 (ix4 c g q l) = (ix4 c l g q) from funext fun a => Fin.ext (match a with
      | ⟨0, _⟩ => by show c.val = c.val; omega
      | ⟨1, _⟩ => by show l.val = l.val; omega
      | ⟨2, _⟩ => by show g.val = g.val; omega
      | ⟨3, _⟩ => by show q.val = q.val; omega)), val_main_v253_apply, (show idx_main_v253 (ix4 c l g q) = (ix5 c l g (hd q) (lane q)) from funext fun a => Fin.ext (match a with
      | ⟨0, _⟩ => by show (((c.val * 128 + l.val) * 4 + g.val) * 512 + q.val) / 262144 = c.val; omega
      | ⟨1, _⟩ => by show (((c.val * 128 + l.val) * 4 + g.val) * 512 + q.val) / 2048 % 128 = l.val; omega
      | ⟨2, _⟩ => by show (((c.val * 128 + l.val) * 4 + g.val) * 512 + q.val) / 512 % 4 = g.val; omega
      | ⟨3, _⟩ => by show (((c.val * 128 + l.val) * 4 + g.val) * 512 + q.val) / 64 % 8 = (q.val / 64); omega
      | ⟨4, _⟩ => by show (((c.val * 128 + l.val) * 4 + g.val) * 512 + q.val) % 64 = (q.val % 64); omega)), at252 x0 x1 x2 x3 x4 x6, col_hd]

theorem at256 (c : Fin 32) (g : Fin 4) (h : Fin 8) (p : Fin 64) (n : Fin 128) :
    (val_main_v256 (F := Ideal) x0 x1 x2 x3 x6) (ix5 c g h p n) = ∑ l : Fin 128,
      ((refArgs x0 x1 x2 x3 x4 x6).chunk g c).dy l (col h p) * Ideal.exp (((refArgs x0 x1 x2 x3 x4 x6).chunk g c).cs (hd (col h p)) l) * ((refArgs x0 x1 x2 x3 x4 x6).chunk g c).c l n := by
  rw [val_main_v256_apply, (show idx_main_v256 (ix5 c g h p n) = (ix4 c g (col h p) n) from funext fun a => Fin.ext (match a with
      | ⟨0, _⟩ => by show ((((c.val * 4 + g.val) * 8 + h.val) * 64 + p.val) * 128 + n.val) / 262144 = c.val; omega
      | ⟨1, _⟩ => by show ((((c.val * 4 + g.val) * 8 + h.val) * 64 + p.val) * 128 + n.val) / 65536 % 4 = g.val; omega
      | ⟨2, _⟩ => by show ((((c.val * 4 + g.val) * 8 + h.val) * 64 + p.val) * 128 + n.val) / 128 % 512 = (64 * h.val + p.val); omega
      | ⟨3, _⟩ => by show ((((c.val * 4 + g.val) * 8 + h.val) * 64 + p.val) * 128 + n.val) % 128 = n.val; omega)), val_main_v255_apply]
  refine Finset.sum_congr rfl fun l _ => ?_
  rw [(show lidx_main_v255 (ix4 c g (col h p) n) l = (ix4 c g (col h p) l) from funext fun a => Fin.ext (match a with
      | ⟨0, _⟩ => by show c.val = c.val; omega
      | ⟨1, _⟩ => by show g.val = g.val; omega
      | ⟨2, _⟩ => by show (64 * h.val + p.val) = (64 * h.val + p.val); omega
      | ⟨3, _⟩ => by show l.val = l.val; omega)), (show ridx_main_v255 (ix4 c g (col h p) n) l = (ix4 c l g n) from funext fun a => Fin.ext (match a with
      | ⟨0, _⟩ => by show c.val = c.val; omega
      | ⟨1, _⟩ => by show l.val = l.val; omega
      | ⟨2, _⟩ => by show g.val = g.val; omega
      | ⟨3, _⟩ => by show n.val = n.val; omega)), at254 x0 x1 x2 x3 x4 x6, at29 x0 x1 x2 x3 x4 x6]

/-- One step of the chain: the chunk's own part, and what the chunk after it hands over. -/
theorem step_eq (k : ChunkIn) (d : Fin 512 → Fin 128 → EReal) (h : Fin 8) (p : Fin 64) (n : Fin 128) :
    (∑ l : Fin 128, k.dy l (col h p) * Ideal.exp (k.cs (hd (col h p)) l) * k.c l n) + d (col h p) n * Ideal.exp (k.cs h lastPos)
      = k.dsNext d (col h p) n := by
  rw [ChunkIn.dsNext, add_comm, hd_col]

theorem car1 (g : Fin 4) (h : Fin 8) (p : Fin 64) (n : Fin 128) :
    (val_main_v288 (F := Ideal) x0 x1 x2 x3 x6) (ix5 0 g h p n) = dsRev ((refArgs x0 x1 x2 x3 x4 x6).chunk g) 1 (col h p) n := by
  rw [val_main_v288_apply, (show idx_main_v288 (ix5 0 g h p n) = (ix5 ⟨31, by omega⟩ g h p n) from funext fun a => Fin.ext (match a with
      | ⟨0, _⟩ => by show 31 + 0 = 31; omega
      | ⟨1, _⟩ => by show g.val = g.val; omega
      | ⟨2, _⟩ => by show h.val = h.val; omega
      | ⟨3, _⟩ => by show p.val = p.val; omega
      | ⟨4, _⟩ => by show n.val = n.val; omega)), at256 x0 x1 x2 x3 x4 x6]
  refine Eq.trans ?_ (step_eq _ (fun _ _ => 0) h p n)
  rw [zero_mul, add_zero]

theorem car2 (g : Fin 4) (h : Fin 8) (p : Fin 64) (n : Fin 128) :
    (val_main_v291 (F := Ideal) x0 x1 x2 x3 x6) (ix5 0 g h p n) = dsRev ((refArgs x0 x1 x2 x3 x4 x6).chunk g) 2 (col h p) n := by
  rw [val_main_v291_apply, val_main_v290_apply, val_main_v289_apply, (show idx_main_v289 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v123_apply, (show idx_main_v123 (ix5 0 g h 0 0) = (ix5 ⟨30, by omega⟩ g h 0 0) from funext fun a => Fin.ext (match a with
      | ⟨0, _⟩ => by show 30 + 0 = 30; omega
      | ⟨1, _⟩ => by show g.val = g.val; omega
      | ⟨2, _⟩ => by show h.val = h.val; omega
      | ⟨3, _⟩ => by show 0 = 0; omega
      | ⟨4, _⟩ => by show 0 = 0; omega)),
    val_main_v287_apply, (show idx_main_v287 (ix5 0 g h p n) = (ix5 ⟨30, by omega⟩ g h p n) from funext fun a => Fin.ext (match a with
      | ⟨0, _⟩ => by show 30 + 0 = 30; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car1]
  exact step_eq _ _ h p n

theorem car3 (g : Fin 4) (h : Fin 8) (p : Fin 64) (n : Fin 128) :
    (val_main_v294 (F := Ideal) x0 x1 x2 x3 x6) (ix5 0 g h p n) = dsRev ((refArgs x0 x1 x2 x3 x4 x6).chunk g) 3 (col h p) n := by
  rw [val_main_v294_apply, val_main_v293_apply, val_main_v292_apply, (show idx_main_v292 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v122_apply, (show idx_main_v122 (ix5 0 g h 0 0) = (ix5 ⟨29, by omega⟩ g h 0 0) from funext fun a => Fin.ext (match a with
      | ⟨0, _⟩ => by show 29 + 0 = 29; omega
      | ⟨1, _⟩ => by show g.val = g.val; omega
      | ⟨2, _⟩ => by show h.val = h.val; omega
      | ⟨3, _⟩ => by show 0 = 0; omega
      | ⟨4, _⟩ => by show 0 = 0; omega)),
    val_main_v286_apply, (show idx_main_v286 (ix5 0 g h p n) = (ix5 ⟨29, by omega⟩ g h p n) from funext fun a => Fin.ext (match a with
      | ⟨0, _⟩ => by show 29 + 0 = 29; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car2]
  exact step_eq _ _ h p n

theorem car4 (g : Fin 4) (h : Fin 8) (p : Fin 64) (n : Fin 128) :
    (val_main_v297 (F := Ideal) x0 x1 x2 x3 x6) (ix5 0 g h p n) = dsRev ((refArgs x0 x1 x2 x3 x4 x6).chunk g) 4 (col h p) n := by
  rw [val_main_v297_apply, val_main_v296_apply, val_main_v295_apply, (show idx_main_v295 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v121_apply, (show idx_main_v121 (ix5 0 g h 0 0) = (ix5 ⟨28, by omega⟩ g h 0 0) from funext fun a => Fin.ext (match a with
      | ⟨0, _⟩ => by show 28 + 0 = 28; omega
      | ⟨1, _⟩ => by show g.val = g.val; omega
      | ⟨2, _⟩ => by show h.val = h.val; omega
      | ⟨3, _⟩ => by show 0 = 0; omega
      | ⟨4, _⟩ => by show 0 = 0; omega)),
    val_main_v285_apply, (show idx_main_v285 (ix5 0 g h p n) = (ix5 ⟨28, by omega⟩ g h p n) from funext fun a => Fin.ext (match a with
      | ⟨0, _⟩ => by show 28 + 0 = 28; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car3]
  exact step_eq _ _ h p n

theorem car5 (g : Fin 4) (h : Fin 8) (p : Fin 64) (n : Fin 128) :
    (val_main_v300 (F := Ideal) x0 x1 x2 x3 x6) (ix5 0 g h p n) = dsRev ((refArgs x0 x1 x2 x3 x4 x6).chunk g) 5 (col h p) n := by
  rw [val_main_v300_apply, val_main_v299_apply, val_main_v298_apply, (show idx_main_v298 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v120_apply, (show idx_main_v120 (ix5 0 g h 0 0) = (ix5 ⟨27, by omega⟩ g h 0 0) from funext fun a => Fin.ext (match a with
      | ⟨0, _⟩ => by show 27 + 0 = 27; omega
      | ⟨1, _⟩ => by show g.val = g.val; omega
      | ⟨2, _⟩ => by show h.val = h.val; omega
      | ⟨3, _⟩ => by show 0 = 0; omega
      | ⟨4, _⟩ => by show 0 = 0; omega)),
    val_main_v284_apply, (show idx_main_v284 (ix5 0 g h p n) = (ix5 ⟨27, by omega⟩ g h p n) from funext fun a => Fin.ext (match a with
      | ⟨0, _⟩ => by show 27 + 0 = 27; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car4]
  exact step_eq _ _ h p n

theorem car6 (g : Fin 4) (h : Fin 8) (p : Fin 64) (n : Fin 128) :
    (val_main_v303 (F := Ideal) x0 x1 x2 x3 x6) (ix5 0 g h p n) = dsRev ((refArgs x0 x1 x2 x3 x4 x6).chunk g) 6 (col h p) n := by
  rw [val_main_v303_apply, val_main_v302_apply, val_main_v301_apply, (show idx_main_v301 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v119_apply, (show idx_main_v119 (ix5 0 g h 0 0) = (ix5 ⟨26, by omega⟩ g h 0 0) from funext fun a => Fin.ext (match a with
      | ⟨0, _⟩ => by show 26 + 0 = 26; omega
      | ⟨1, _⟩ => by show g.val = g.val; omega
      | ⟨2, _⟩ => by show h.val = h.val; omega
      | ⟨3, _⟩ => by show 0 = 0; omega
      | ⟨4, _⟩ => by show 0 = 0; omega)),
    val_main_v283_apply, (show idx_main_v283 (ix5 0 g h p n) = (ix5 ⟨26, by omega⟩ g h p n) from funext fun a => Fin.ext (match a with
      | ⟨0, _⟩ => by show 26 + 0 = 26; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car5]
  exact step_eq _ _ h p n

theorem car7 (g : Fin 4) (h : Fin 8) (p : Fin 64) (n : Fin 128) :
    (val_main_v306 (F := Ideal) x0 x1 x2 x3 x6) (ix5 0 g h p n) = dsRev ((refArgs x0 x1 x2 x3 x4 x6).chunk g) 7 (col h p) n := by
  rw [val_main_v306_apply, val_main_v305_apply, val_main_v304_apply, (show idx_main_v304 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v118_apply, (show idx_main_v118 (ix5 0 g h 0 0) = (ix5 ⟨25, by omega⟩ g h 0 0) from funext fun a => Fin.ext (match a with
      | ⟨0, _⟩ => by show 25 + 0 = 25; omega
      | ⟨1, _⟩ => by show g.val = g.val; omega
      | ⟨2, _⟩ => by show h.val = h.val; omega
      | ⟨3, _⟩ => by show 0 = 0; omega
      | ⟨4, _⟩ => by show 0 = 0; omega)),
    val_main_v282_apply, (show idx_main_v282 (ix5 0 g h p n) = (ix5 ⟨25, by omega⟩ g h p n) from funext fun a => Fin.ext (match a with
      | ⟨0, _⟩ => by show 25 + 0 = 25; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car6]
  exact step_eq _ _ h p n

theorem car8 (g : Fin 4) (h : Fin 8) (p : Fin 64) (n : Fin 128) :
    (val_main_v309 (F := Ideal) x0 x1 x2 x3 x6) (ix5 0 g h p n) = dsRev ((refArgs x0 x1 x2 x3 x4 x6).chunk g) 8 (col h p) n := by
  rw [val_main_v309_apply, val_main_v308_apply, val_main_v307_apply, (show idx_main_v307 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v117_apply, (show idx_main_v117 (ix5 0 g h 0 0) = (ix5 ⟨24, by omega⟩ g h 0 0) from funext fun a => Fin.ext (match a with
      | ⟨0, _⟩ => by show 24 + 0 = 24; omega
      | ⟨1, _⟩ => by show g.val = g.val; omega
      | ⟨2, _⟩ => by show h.val = h.val; omega
      | ⟨3, _⟩ => by show 0 = 0; omega
      | ⟨4, _⟩ => by show 0 = 0; omega)),
    val_main_v281_apply, (show idx_main_v281 (ix5 0 g h p n) = (ix5 ⟨24, by omega⟩ g h p n) from funext fun a => Fin.ext (match a with
      | ⟨0, _⟩ => by show 24 + 0 = 24; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car7]
  exact step_eq _ _ h p n

theorem car9 (g : Fin 4) (h : Fin 8) (p : Fin 64) (n : Fin 128) :
    (val_main_v312 (F := Ideal) x0 x1 x2 x3 x6) (ix5 0 g h p n) = dsRev ((refArgs x0 x1 x2 x3 x4 x6).chunk g) 9 (col h p) n := by
  rw [val_main_v312_apply, val_main_v311_apply, val_main_v310_apply, (show idx_main_v310 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v116_apply, (show idx_main_v116 (ix5 0 g h 0 0) = (ix5 ⟨23, by omega⟩ g h 0 0) from funext fun a => Fin.ext (match a with
      | ⟨0, _⟩ => by show 23 + 0 = 23; omega
      | ⟨1, _⟩ => by show g.val = g.val; omega
      | ⟨2, _⟩ => by show h.val = h.val; omega
      | ⟨3, _⟩ => by show 0 = 0; omega
      | ⟨4, _⟩ => by show 0 = 0; omega)),
    val_main_v280_apply, (show idx_main_v280 (ix5 0 g h p n) = (ix5 ⟨23, by omega⟩ g h p n) from funext fun a => Fin.ext (match a with
      | ⟨0, _⟩ => by show 23 + 0 = 23; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car8]
  exact step_eq _ _ h p n

theorem car10 (g : Fin 4) (h : Fin 8) (p : Fin 64) (n : Fin 128) :
    (val_main_v315 (F := Ideal) x0 x1 x2 x3 x6) (ix5 0 g h p n) = dsRev ((refArgs x0 x1 x2 x3 x4 x6).chunk g) 10 (col h p) n := by
  rw [val_main_v315_apply, val_main_v314_apply, val_main_v313_apply, (show idx_main_v313 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v115_apply, (show idx_main_v115 (ix5 0 g h 0 0) = (ix5 ⟨22, by omega⟩ g h 0 0) from funext fun a => Fin.ext (match a with
      | ⟨0, _⟩ => by show 22 + 0 = 22; omega
      | ⟨1, _⟩ => by show g.val = g.val; omega
      | ⟨2, _⟩ => by show h.val = h.val; omega
      | ⟨3, _⟩ => by show 0 = 0; omega
      | ⟨4, _⟩ => by show 0 = 0; omega)),
    val_main_v279_apply, (show idx_main_v279 (ix5 0 g h p n) = (ix5 ⟨22, by omega⟩ g h p n) from funext fun a => Fin.ext (match a with
      | ⟨0, _⟩ => by show 22 + 0 = 22; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car9]
  exact step_eq _ _ h p n

theorem car11 (g : Fin 4) (h : Fin 8) (p : Fin 64) (n : Fin 128) :
    (val_main_v318 (F := Ideal) x0 x1 x2 x3 x6) (ix5 0 g h p n) = dsRev ((refArgs x0 x1 x2 x3 x4 x6).chunk g) 11 (col h p) n := by
  rw [val_main_v318_apply, val_main_v317_apply, val_main_v316_apply, (show idx_main_v316 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v114_apply, (show idx_main_v114 (ix5 0 g h 0 0) = (ix5 ⟨21, by omega⟩ g h 0 0) from funext fun a => Fin.ext (match a with
      | ⟨0, _⟩ => by show 21 + 0 = 21; omega
      | ⟨1, _⟩ => by show g.val = g.val; omega
      | ⟨2, _⟩ => by show h.val = h.val; omega
      | ⟨3, _⟩ => by show 0 = 0; omega
      | ⟨4, _⟩ => by show 0 = 0; omega)),
    val_main_v278_apply, (show idx_main_v278 (ix5 0 g h p n) = (ix5 ⟨21, by omega⟩ g h p n) from funext fun a => Fin.ext (match a with
      | ⟨0, _⟩ => by show 21 + 0 = 21; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car10]
  exact step_eq _ _ h p n

theorem car12 (g : Fin 4) (h : Fin 8) (p : Fin 64) (n : Fin 128) :
    (val_main_v321 (F := Ideal) x0 x1 x2 x3 x6) (ix5 0 g h p n) = dsRev ((refArgs x0 x1 x2 x3 x4 x6).chunk g) 12 (col h p) n := by
  rw [val_main_v321_apply, val_main_v320_apply, val_main_v319_apply, (show idx_main_v319 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v113_apply, (show idx_main_v113 (ix5 0 g h 0 0) = (ix5 ⟨20, by omega⟩ g h 0 0) from funext fun a => Fin.ext (match a with
      | ⟨0, _⟩ => by show 20 + 0 = 20; omega
      | ⟨1, _⟩ => by show g.val = g.val; omega
      | ⟨2, _⟩ => by show h.val = h.val; omega
      | ⟨3, _⟩ => by show 0 = 0; omega
      | ⟨4, _⟩ => by show 0 = 0; omega)),
    val_main_v277_apply, (show idx_main_v277 (ix5 0 g h p n) = (ix5 ⟨20, by omega⟩ g h p n) from funext fun a => Fin.ext (match a with
      | ⟨0, _⟩ => by show 20 + 0 = 20; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car11]
  exact step_eq _ _ h p n

theorem car13 (g : Fin 4) (h : Fin 8) (p : Fin 64) (n : Fin 128) :
    (val_main_v324 (F := Ideal) x0 x1 x2 x3 x6) (ix5 0 g h p n) = dsRev ((refArgs x0 x1 x2 x3 x4 x6).chunk g) 13 (col h p) n := by
  rw [val_main_v324_apply, val_main_v323_apply, val_main_v322_apply, (show idx_main_v322 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v112_apply, (show idx_main_v112 (ix5 0 g h 0 0) = (ix5 ⟨19, by omega⟩ g h 0 0) from funext fun a => Fin.ext (match a with
      | ⟨0, _⟩ => by show 19 + 0 = 19; omega
      | ⟨1, _⟩ => by show g.val = g.val; omega
      | ⟨2, _⟩ => by show h.val = h.val; omega
      | ⟨3, _⟩ => by show 0 = 0; omega
      | ⟨4, _⟩ => by show 0 = 0; omega)),
    val_main_v276_apply, (show idx_main_v276 (ix5 0 g h p n) = (ix5 ⟨19, by omega⟩ g h p n) from funext fun a => Fin.ext (match a with
      | ⟨0, _⟩ => by show 19 + 0 = 19; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car12]
  exact step_eq _ _ h p n

theorem car14 (g : Fin 4) (h : Fin 8) (p : Fin 64) (n : Fin 128) :
    (val_main_v327 (F := Ideal) x0 x1 x2 x3 x6) (ix5 0 g h p n) = dsRev ((refArgs x0 x1 x2 x3 x4 x6).chunk g) 14 (col h p) n := by
  rw [val_main_v327_apply, val_main_v326_apply, val_main_v325_apply, (show idx_main_v325 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v111_apply, (show idx_main_v111 (ix5 0 g h 0 0) = (ix5 ⟨18, by omega⟩ g h 0 0) from funext fun a => Fin.ext (match a with
      | ⟨0, _⟩ => by show 18 + 0 = 18; omega
      | ⟨1, _⟩ => by show g.val = g.val; omega
      | ⟨2, _⟩ => by show h.val = h.val; omega
      | ⟨3, _⟩ => by show 0 = 0; omega
      | ⟨4, _⟩ => by show 0 = 0; omega)),
    val_main_v275_apply, (show idx_main_v275 (ix5 0 g h p n) = (ix5 ⟨18, by omega⟩ g h p n) from funext fun a => Fin.ext (match a with
      | ⟨0, _⟩ => by show 18 + 0 = 18; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car13]
  exact step_eq _ _ h p n

theorem car15 (g : Fin 4) (h : Fin 8) (p : Fin 64) (n : Fin 128) :
    (val_main_v330 (F := Ideal) x0 x1 x2 x3 x6) (ix5 0 g h p n) = dsRev ((refArgs x0 x1 x2 x3 x4 x6).chunk g) 15 (col h p) n := by
  rw [val_main_v330_apply, val_main_v329_apply, val_main_v328_apply, (show idx_main_v328 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v110_apply, (show idx_main_v110 (ix5 0 g h 0 0) = (ix5 ⟨17, by omega⟩ g h 0 0) from funext fun a => Fin.ext (match a with
      | ⟨0, _⟩ => by show 17 + 0 = 17; omega
      | ⟨1, _⟩ => by show g.val = g.val; omega
      | ⟨2, _⟩ => by show h.val = h.val; omega
      | ⟨3, _⟩ => by show 0 = 0; omega
      | ⟨4, _⟩ => by show 0 = 0; omega)),
    val_main_v274_apply, (show idx_main_v274 (ix5 0 g h p n) = (ix5 ⟨17, by omega⟩ g h p n) from funext fun a => Fin.ext (match a with
      | ⟨0, _⟩ => by show 17 + 0 = 17; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car14]
  exact step_eq _ _ h p n

theorem car16 (g : Fin 4) (h : Fin 8) (p : Fin 64) (n : Fin 128) :
    (val_main_v333 (F := Ideal) x0 x1 x2 x3 x6) (ix5 0 g h p n) = dsRev ((refArgs x0 x1 x2 x3 x4 x6).chunk g) 16 (col h p) n := by
  rw [val_main_v333_apply, val_main_v332_apply, val_main_v331_apply, (show idx_main_v331 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v109_apply, (show idx_main_v109 (ix5 0 g h 0 0) = (ix5 ⟨16, by omega⟩ g h 0 0) from funext fun a => Fin.ext (match a with
      | ⟨0, _⟩ => by show 16 + 0 = 16; omega
      | ⟨1, _⟩ => by show g.val = g.val; omega
      | ⟨2, _⟩ => by show h.val = h.val; omega
      | ⟨3, _⟩ => by show 0 = 0; omega
      | ⟨4, _⟩ => by show 0 = 0; omega)),
    val_main_v273_apply, (show idx_main_v273 (ix5 0 g h p n) = (ix5 ⟨16, by omega⟩ g h p n) from funext fun a => Fin.ext (match a with
      | ⟨0, _⟩ => by show 16 + 0 = 16; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car15]
  exact step_eq _ _ h p n

theorem car17 (g : Fin 4) (h : Fin 8) (p : Fin 64) (n : Fin 128) :
    (val_main_v336 (F := Ideal) x0 x1 x2 x3 x6) (ix5 0 g h p n) = dsRev ((refArgs x0 x1 x2 x3 x4 x6).chunk g) 17 (col h p) n := by
  rw [val_main_v336_apply, val_main_v335_apply, val_main_v334_apply, (show idx_main_v334 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v108_apply, (show idx_main_v108 (ix5 0 g h 0 0) = (ix5 ⟨15, by omega⟩ g h 0 0) from funext fun a => Fin.ext (match a with
      | ⟨0, _⟩ => by show 15 + 0 = 15; omega
      | ⟨1, _⟩ => by show g.val = g.val; omega
      | ⟨2, _⟩ => by show h.val = h.val; omega
      | ⟨3, _⟩ => by show 0 = 0; omega
      | ⟨4, _⟩ => by show 0 = 0; omega)),
    val_main_v272_apply, (show idx_main_v272 (ix5 0 g h p n) = (ix5 ⟨15, by omega⟩ g h p n) from funext fun a => Fin.ext (match a with
      | ⟨0, _⟩ => by show 15 + 0 = 15; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car16]
  exact step_eq _ _ h p n

theorem car18 (g : Fin 4) (h : Fin 8) (p : Fin 64) (n : Fin 128) :
    (val_main_v339 (F := Ideal) x0 x1 x2 x3 x6) (ix5 0 g h p n) = dsRev ((refArgs x0 x1 x2 x3 x4 x6).chunk g) 18 (col h p) n := by
  rw [val_main_v339_apply, val_main_v338_apply, val_main_v337_apply, (show idx_main_v337 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v107_apply, (show idx_main_v107 (ix5 0 g h 0 0) = (ix5 ⟨14, by omega⟩ g h 0 0) from funext fun a => Fin.ext (match a with
      | ⟨0, _⟩ => by show 14 + 0 = 14; omega
      | ⟨1, _⟩ => by show g.val = g.val; omega
      | ⟨2, _⟩ => by show h.val = h.val; omega
      | ⟨3, _⟩ => by show 0 = 0; omega
      | ⟨4, _⟩ => by show 0 = 0; omega)),
    val_main_v271_apply, (show idx_main_v271 (ix5 0 g h p n) = (ix5 ⟨14, by omega⟩ g h p n) from funext fun a => Fin.ext (match a with
      | ⟨0, _⟩ => by show 14 + 0 = 14; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car17]
  exact step_eq _ _ h p n

theorem car19 (g : Fin 4) (h : Fin 8) (p : Fin 64) (n : Fin 128) :
    (val_main_v342 (F := Ideal) x0 x1 x2 x3 x6) (ix5 0 g h p n) = dsRev ((refArgs x0 x1 x2 x3 x4 x6).chunk g) 19 (col h p) n := by
  rw [val_main_v342_apply, val_main_v341_apply, val_main_v340_apply, (show idx_main_v340 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v106_apply, (show idx_main_v106 (ix5 0 g h 0 0) = (ix5 ⟨13, by omega⟩ g h 0 0) from funext fun a => Fin.ext (match a with
      | ⟨0, _⟩ => by show 13 + 0 = 13; omega
      | ⟨1, _⟩ => by show g.val = g.val; omega
      | ⟨2, _⟩ => by show h.val = h.val; omega
      | ⟨3, _⟩ => by show 0 = 0; omega
      | ⟨4, _⟩ => by show 0 = 0; omega)),
    val_main_v270_apply, (show idx_main_v270 (ix5 0 g h p n) = (ix5 ⟨13, by omega⟩ g h p n) from funext fun a => Fin.ext (match a with
      | ⟨0, _⟩ => by show 13 + 0 = 13; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car18]
  exact step_eq _ _ h p n

theorem car20 (g : Fin 4) (h : Fin 8) (p : Fin 64) (n : Fin 128) :
    (val_main_v345 (F := Ideal) x0 x1 x2 x3 x6) (ix5 0 g h p n) = dsRev ((refArgs x0 x1 x2 x3 x4 x6).chunk g) 20 (col h p) n := by
  rw [val_main_v345_apply, val_main_v344_apply, val_main_v343_apply, (show idx_main_v343 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v105_apply, (show idx_main_v105 (ix5 0 g h 0 0) = (ix5 ⟨12, by omega⟩ g h 0 0) from funext fun a => Fin.ext (match a with
      | ⟨0, _⟩ => by show 12 + 0 = 12; omega
      | ⟨1, _⟩ => by show g.val = g.val; omega
      | ⟨2, _⟩ => by show h.val = h.val; omega
      | ⟨3, _⟩ => by show 0 = 0; omega
      | ⟨4, _⟩ => by show 0 = 0; omega)),
    val_main_v269_apply, (show idx_main_v269 (ix5 0 g h p n) = (ix5 ⟨12, by omega⟩ g h p n) from funext fun a => Fin.ext (match a with
      | ⟨0, _⟩ => by show 12 + 0 = 12; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car19]
  exact step_eq _ _ h p n

theorem car21 (g : Fin 4) (h : Fin 8) (p : Fin 64) (n : Fin 128) :
    (val_main_v348 (F := Ideal) x0 x1 x2 x3 x6) (ix5 0 g h p n) = dsRev ((refArgs x0 x1 x2 x3 x4 x6).chunk g) 21 (col h p) n := by
  rw [val_main_v348_apply, val_main_v347_apply, val_main_v346_apply, (show idx_main_v346 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v104_apply, (show idx_main_v104 (ix5 0 g h 0 0) = (ix5 ⟨11, by omega⟩ g h 0 0) from funext fun a => Fin.ext (match a with
      | ⟨0, _⟩ => by show 11 + 0 = 11; omega
      | ⟨1, _⟩ => by show g.val = g.val; omega
      | ⟨2, _⟩ => by show h.val = h.val; omega
      | ⟨3, _⟩ => by show 0 = 0; omega
      | ⟨4, _⟩ => by show 0 = 0; omega)),
    val_main_v268_apply, (show idx_main_v268 (ix5 0 g h p n) = (ix5 ⟨11, by omega⟩ g h p n) from funext fun a => Fin.ext (match a with
      | ⟨0, _⟩ => by show 11 + 0 = 11; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car20]
  exact step_eq _ _ h p n

theorem car22 (g : Fin 4) (h : Fin 8) (p : Fin 64) (n : Fin 128) :
    (val_main_v351 (F := Ideal) x0 x1 x2 x3 x6) (ix5 0 g h p n) = dsRev ((refArgs x0 x1 x2 x3 x4 x6).chunk g) 22 (col h p) n := by
  rw [val_main_v351_apply, val_main_v350_apply, val_main_v349_apply, (show idx_main_v349 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v103_apply, (show idx_main_v103 (ix5 0 g h 0 0) = (ix5 ⟨10, by omega⟩ g h 0 0) from funext fun a => Fin.ext (match a with
      | ⟨0, _⟩ => by show 10 + 0 = 10; omega
      | ⟨1, _⟩ => by show g.val = g.val; omega
      | ⟨2, _⟩ => by show h.val = h.val; omega
      | ⟨3, _⟩ => by show 0 = 0; omega
      | ⟨4, _⟩ => by show 0 = 0; omega)),
    val_main_v267_apply, (show idx_main_v267 (ix5 0 g h p n) = (ix5 ⟨10, by omega⟩ g h p n) from funext fun a => Fin.ext (match a with
      | ⟨0, _⟩ => by show 10 + 0 = 10; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car21]
  exact step_eq _ _ h p n

theorem car23 (g : Fin 4) (h : Fin 8) (p : Fin 64) (n : Fin 128) :
    (val_main_v354 (F := Ideal) x0 x1 x2 x3 x6) (ix5 0 g h p n) = dsRev ((refArgs x0 x1 x2 x3 x4 x6).chunk g) 23 (col h p) n := by
  rw [val_main_v354_apply, val_main_v353_apply, val_main_v352_apply, (show idx_main_v352 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v102_apply, (show idx_main_v102 (ix5 0 g h 0 0) = (ix5 ⟨9, by omega⟩ g h 0 0) from funext fun a => Fin.ext (match a with
      | ⟨0, _⟩ => by show 9 + 0 = 9; omega
      | ⟨1, _⟩ => by show g.val = g.val; omega
      | ⟨2, _⟩ => by show h.val = h.val; omega
      | ⟨3, _⟩ => by show 0 = 0; omega
      | ⟨4, _⟩ => by show 0 = 0; omega)),
    val_main_v266_apply, (show idx_main_v266 (ix5 0 g h p n) = (ix5 ⟨9, by omega⟩ g h p n) from funext fun a => Fin.ext (match a with
      | ⟨0, _⟩ => by show 9 + 0 = 9; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car22]
  exact step_eq _ _ h p n

theorem car24 (g : Fin 4) (h : Fin 8) (p : Fin 64) (n : Fin 128) :
    (val_main_v357 (F := Ideal) x0 x1 x2 x3 x6) (ix5 0 g h p n) = dsRev ((refArgs x0 x1 x2 x3 x4 x6).chunk g) 24 (col h p) n := by
  rw [val_main_v357_apply, val_main_v356_apply, val_main_v355_apply, (show idx_main_v355 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v101_apply, (show idx_main_v101 (ix5 0 g h 0 0) = (ix5 ⟨8, by omega⟩ g h 0 0) from funext fun a => Fin.ext (match a with
      | ⟨0, _⟩ => by show 8 + 0 = 8; omega
      | ⟨1, _⟩ => by show g.val = g.val; omega
      | ⟨2, _⟩ => by show h.val = h.val; omega
      | ⟨3, _⟩ => by show 0 = 0; omega
      | ⟨4, _⟩ => by show 0 = 0; omega)),
    val_main_v265_apply, (show idx_main_v265 (ix5 0 g h p n) = (ix5 ⟨8, by omega⟩ g h p n) from funext fun a => Fin.ext (match a with
      | ⟨0, _⟩ => by show 8 + 0 = 8; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car23]
  exact step_eq _ _ h p n

theorem car25 (g : Fin 4) (h : Fin 8) (p : Fin 64) (n : Fin 128) :
    (val_main_v360 (F := Ideal) x0 x1 x2 x3 x6) (ix5 0 g h p n) = dsRev ((refArgs x0 x1 x2 x3 x4 x6).chunk g) 25 (col h p) n := by
  rw [val_main_v360_apply, val_main_v359_apply, val_main_v358_apply, (show idx_main_v358 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v100_apply, (show idx_main_v100 (ix5 0 g h 0 0) = (ix5 ⟨7, by omega⟩ g h 0 0) from funext fun a => Fin.ext (match a with
      | ⟨0, _⟩ => by show 7 + 0 = 7; omega
      | ⟨1, _⟩ => by show g.val = g.val; omega
      | ⟨2, _⟩ => by show h.val = h.val; omega
      | ⟨3, _⟩ => by show 0 = 0; omega
      | ⟨4, _⟩ => by show 0 = 0; omega)),
    val_main_v264_apply, (show idx_main_v264 (ix5 0 g h p n) = (ix5 ⟨7, by omega⟩ g h p n) from funext fun a => Fin.ext (match a with
      | ⟨0, _⟩ => by show 7 + 0 = 7; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car24]
  exact step_eq _ _ h p n

theorem car26 (g : Fin 4) (h : Fin 8) (p : Fin 64) (n : Fin 128) :
    (val_main_v363 (F := Ideal) x0 x1 x2 x3 x6) (ix5 0 g h p n) = dsRev ((refArgs x0 x1 x2 x3 x4 x6).chunk g) 26 (col h p) n := by
  rw [val_main_v363_apply, val_main_v362_apply, val_main_v361_apply, (show idx_main_v361 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v99_apply, (show idx_main_v99 (ix5 0 g h 0 0) = (ix5 ⟨6, by omega⟩ g h 0 0) from funext fun a => Fin.ext (match a with
      | ⟨0, _⟩ => by show 6 + 0 = 6; omega
      | ⟨1, _⟩ => by show g.val = g.val; omega
      | ⟨2, _⟩ => by show h.val = h.val; omega
      | ⟨3, _⟩ => by show 0 = 0; omega
      | ⟨4, _⟩ => by show 0 = 0; omega)),
    val_main_v263_apply, (show idx_main_v263 (ix5 0 g h p n) = (ix5 ⟨6, by omega⟩ g h p n) from funext fun a => Fin.ext (match a with
      | ⟨0, _⟩ => by show 6 + 0 = 6; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car25]
  exact step_eq _ _ h p n

theorem car27 (g : Fin 4) (h : Fin 8) (p : Fin 64) (n : Fin 128) :
    (val_main_v366 (F := Ideal) x0 x1 x2 x3 x6) (ix5 0 g h p n) = dsRev ((refArgs x0 x1 x2 x3 x4 x6).chunk g) 27 (col h p) n := by
  rw [val_main_v366_apply, val_main_v365_apply, val_main_v364_apply, (show idx_main_v364 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v98_apply, (show idx_main_v98 (ix5 0 g h 0 0) = (ix5 ⟨5, by omega⟩ g h 0 0) from funext fun a => Fin.ext (match a with
      | ⟨0, _⟩ => by show 5 + 0 = 5; omega
      | ⟨1, _⟩ => by show g.val = g.val; omega
      | ⟨2, _⟩ => by show h.val = h.val; omega
      | ⟨3, _⟩ => by show 0 = 0; omega
      | ⟨4, _⟩ => by show 0 = 0; omega)),
    val_main_v262_apply, (show idx_main_v262 (ix5 0 g h p n) = (ix5 ⟨5, by omega⟩ g h p n) from funext fun a => Fin.ext (match a with
      | ⟨0, _⟩ => by show 5 + 0 = 5; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car26]
  exact step_eq _ _ h p n

theorem car28 (g : Fin 4) (h : Fin 8) (p : Fin 64) (n : Fin 128) :
    (val_main_v369 (F := Ideal) x0 x1 x2 x3 x6) (ix5 0 g h p n) = dsRev ((refArgs x0 x1 x2 x3 x4 x6).chunk g) 28 (col h p) n := by
  rw [val_main_v369_apply, val_main_v368_apply, val_main_v367_apply, (show idx_main_v367 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v97_apply, (show idx_main_v97 (ix5 0 g h 0 0) = (ix5 ⟨4, by omega⟩ g h 0 0) from funext fun a => Fin.ext (match a with
      | ⟨0, _⟩ => by show 4 + 0 = 4; omega
      | ⟨1, _⟩ => by show g.val = g.val; omega
      | ⟨2, _⟩ => by show h.val = h.val; omega
      | ⟨3, _⟩ => by show 0 = 0; omega
      | ⟨4, _⟩ => by show 0 = 0; omega)),
    val_main_v261_apply, (show idx_main_v261 (ix5 0 g h p n) = (ix5 ⟨4, by omega⟩ g h p n) from funext fun a => Fin.ext (match a with
      | ⟨0, _⟩ => by show 4 + 0 = 4; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car27]
  exact step_eq _ _ h p n

theorem car29 (g : Fin 4) (h : Fin 8) (p : Fin 64) (n : Fin 128) :
    (val_main_v372 (F := Ideal) x0 x1 x2 x3 x6) (ix5 0 g h p n) = dsRev ((refArgs x0 x1 x2 x3 x4 x6).chunk g) 29 (col h p) n := by
  rw [val_main_v372_apply, val_main_v371_apply, val_main_v370_apply, (show idx_main_v370 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v96_apply, (show idx_main_v96 (ix5 0 g h 0 0) = (ix5 ⟨3, by omega⟩ g h 0 0) from funext fun a => Fin.ext (match a with
      | ⟨0, _⟩ => by show 3 + 0 = 3; omega
      | ⟨1, _⟩ => by show g.val = g.val; omega
      | ⟨2, _⟩ => by show h.val = h.val; omega
      | ⟨3, _⟩ => by show 0 = 0; omega
      | ⟨4, _⟩ => by show 0 = 0; omega)),
    val_main_v260_apply, (show idx_main_v260 (ix5 0 g h p n) = (ix5 ⟨3, by omega⟩ g h p n) from funext fun a => Fin.ext (match a with
      | ⟨0, _⟩ => by show 3 + 0 = 3; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car28]
  exact step_eq _ _ h p n

theorem car30 (g : Fin 4) (h : Fin 8) (p : Fin 64) (n : Fin 128) :
    (val_main_v375 (F := Ideal) x0 x1 x2 x3 x6) (ix5 0 g h p n) = dsRev ((refArgs x0 x1 x2 x3 x4 x6).chunk g) 30 (col h p) n := by
  rw [val_main_v375_apply, val_main_v374_apply, val_main_v373_apply, (show idx_main_v373 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v95_apply, (show idx_main_v95 (ix5 0 g h 0 0) = (ix5 ⟨2, by omega⟩ g h 0 0) from funext fun a => Fin.ext (match a with
      | ⟨0, _⟩ => by show 2 + 0 = 2; omega
      | ⟨1, _⟩ => by show g.val = g.val; omega
      | ⟨2, _⟩ => by show h.val = h.val; omega
      | ⟨3, _⟩ => by show 0 = 0; omega
      | ⟨4, _⟩ => by show 0 = 0; omega)),
    val_main_v259_apply, (show idx_main_v259 (ix5 0 g h p n) = (ix5 ⟨2, by omega⟩ g h p n) from funext fun a => Fin.ext (match a with
      | ⟨0, _⟩ => by show 2 + 0 = 2; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car29]
  exact step_eq _ _ h p n

theorem car31 (g : Fin 4) (h : Fin 8) (p : Fin 64) (n : Fin 128) :
    (val_main_v378 (F := Ideal) x0 x1 x2 x3 x6) (ix5 0 g h p n) = dsRev ((refArgs x0 x1 x2 x3 x4 x6).chunk g) 31 (col h p) n := by
  rw [val_main_v378_apply, val_main_v377_apply, val_main_v376_apply, (show idx_main_v376 (ix5 0 g h p n) = (ix5 0 g h 0 0) from funext fun a => Fin.ext (match a with
      | ⟨0, _⟩ => by show 0 = 0; omega
      | ⟨1, _⟩ => by show g.val = g.val; omega
      | ⟨2, _⟩ => by show h.val = h.val; omega
      | ⟨3, _⟩ => by show 0 = 0; omega
      | ⟨4, _⟩ => by show 0 = 0; omega)), val_main_v94_apply, (show idx_main_v94 (ix5 0 g h 0 0) = (ix5 ⟨1, by omega⟩ g h 0 0) from funext fun a => Fin.ext (match a with
      | ⟨0, _⟩ => by show 1 + 0 = 1; omega
      | ⟨1, _⟩ => by show g.val = g.val; omega
      | ⟨2, _⟩ => by show h.val = h.val; omega
      | ⟨3, _⟩ => by show 0 = 0; omega
      | ⟨4, _⟩ => by show 0 = 0; omega)),
    val_main_v258_apply, (show idx_main_v258 (ix5 0 g h p n) = (ix5 ⟨1, by omega⟩ g h p n) from funext fun a => Fin.ext (match a with
      | ⟨0, _⟩ => by show 1 + 0 = 1; omega
      | ⟨1, _⟩ => by show g.val = g.val; omega
      | ⟨2, _⟩ => by show h.val = h.val; omega
      | ⟨3, _⟩ => by show p.val = p.val; omega
      | ⟨4, _⟩ => by show n.val = n.val; omega)), at59 x0 x1 x2 x3 x4 x6, at256 x0 x1 x2 x3 x4 x6, car30]
  exact step_eq _ _ h p n

def pieces380 : Fin 16 → S1x4x8x64x128.Idx → EReal := ![
  val_main_v378 (F := Ideal) x0 x1 x2 x3 x6,
  val_main_v375 (F := Ideal) x0 x1 x2 x3 x6,
  val_main_v372 (F := Ideal) x0 x1 x2 x3 x6,
  val_main_v369 (F := Ideal) x0 x1 x2 x3 x6,
  val_main_v366 (F := Ideal) x0 x1 x2 x3 x6,
  val_main_v363 (F := Ideal) x0 x1 x2 x3 x6,
  val_main_v360 (F := Ideal) x0 x1 x2 x3 x6,
  val_main_v357 (F := Ideal) x0 x1 x2 x3 x6,
  val_main_v354 (F := Ideal) x0 x1 x2 x3 x6,
  val_main_v351 (F := Ideal) x0 x1 x2 x3 x6,
  val_main_v348 (F := Ideal) x0 x1 x2 x3 x6,
  val_main_v345 (F := Ideal) x0 x1 x2 x3 x6,
  val_main_v342 (F := Ideal) x0 x1 x2 x3 x6,
  val_main_v339 (F := Ideal) x0 x1 x2 x3 x6,
  val_main_v336 (F := Ideal) x0 x1 x2 x3 x6,
  val_main_v333 (F := Ideal) x0 x1 x2 x3 x6]

theorem pieces380_eq (k : Fin 16) (g : Fin 4) (h : Fin 8) (p : Fin 64) (n : Fin 128) :
    pieces380 x0 x1 x2 x3 x6 k (ix5 0 g h p n) = dsRev ((refArgs x0 x1 x2 x3 x4 x6).chunk g) (31 - k.val) (col h p) n := by
  match k with
  | ⟨0, _⟩ => exact car31 x0 x1 x2 x3 x4 x6 g h p n
  | ⟨1, _⟩ => exact car30 x0 x1 x2 x3 x4 x6 g h p n
  | ⟨2, _⟩ => exact car29 x0 x1 x2 x3 x4 x6 g h p n
  | ⟨3, _⟩ => exact car28 x0 x1 x2 x3 x4 x6 g h p n
  | ⟨4, _⟩ => exact car27 x0 x1 x2 x3 x4 x6 g h p n
  | ⟨5, _⟩ => exact car26 x0 x1 x2 x3 x4 x6 g h p n
  | ⟨6, _⟩ => exact car25 x0 x1 x2 x3 x4 x6 g h p n
  | ⟨7, _⟩ => exact car24 x0 x1 x2 x3 x4 x6 g h p n
  | ⟨8, _⟩ => exact car23 x0 x1 x2 x3 x4 x6 g h p n
  | ⟨9, _⟩ => exact car22 x0 x1 x2 x3 x4 x6 g h p n
  | ⟨10, _⟩ => exact car21 x0 x1 x2 x3 x4 x6 g h p n
  | ⟨11, _⟩ => exact car20 x0 x1 x2 x3 x4 x6 g h p n
  | ⟨12, _⟩ => exact car19 x0 x1 x2 x3 x4 x6 g h p n
  | ⟨13, _⟩ => exact car18 x0 x1 x2 x3 x4 x6 g h p n
  | ⟨14, _⟩ => exact car17 x0 x1 x2 x3 x4 x6 g h p n
  | ⟨15, _⟩ => exact car16 x0 x1 x2 x3 x4 x6 g h p n
  | ⟨_ + 16, hk⟩ => exact absurd hk (by omega)

theorem at380 (k : Fin 16) (g : Fin 4) (h : Fin 8) (p : Fin 64) (n : Fin 128) :
    (val_main_v380 (F := Ideal) x0 x1 x2 x3 x6) (ix5 k g h p n) = dsRev ((refArgs x0 x1 x2 x3 x4 x6).chunk g) (31 - k.val) (col h p) n := by
  refine Eq.trans ?_ (pieces380_eq x0 x1 x2 x3 x4 x6 k g h p n)
  exact concatenate_ofFn_unit_apply (t := S16x4x8x64x128) (s₁ := S1x4x8x64x128) 0 (pieces380 x0 x1 x2 x3 x6) _ rfl rfl (ix5 k g h p n) k rfl (ix5 0 g h p n)
    (fun b hb => match b with
      | ⟨0, _⟩ => absurd rfl hb
      | ⟨1, _⟩ => rfl
      | ⟨2, _⟩ => rfl
      | ⟨3, _⟩ => rfl
      | ⟨4, _⟩ => rfl)

def pieces381 : Fin 16 → S1x4x8x64x128.Idx → EReal := ![
  val_main_v330 (F := Ideal) x0 x1 x2 x3 x6,
  val_main_v327 (F := Ideal) x0 x1 x2 x3 x6,
  val_main_v324 (F := Ideal) x0 x1 x2 x3 x6,
  val_main_v321 (F := Ideal) x0 x1 x2 x3 x6,
  val_main_v318 (F := Ideal) x0 x1 x2 x3 x6,
  val_main_v315 (F := Ideal) x0 x1 x2 x3 x6,
  val_main_v312 (F := Ideal) x0 x1 x2 x3 x6,
  val_main_v309 (F := Ideal) x0 x1 x2 x3 x6,
  val_main_v306 (F := Ideal) x0 x1 x2 x3 x6,
  val_main_v303 (F := Ideal) x0 x1 x2 x3 x6,
  val_main_v300 (F := Ideal) x0 x1 x2 x3 x6,
  val_main_v297 (F := Ideal) x0 x1 x2 x3 x6,
  val_main_v294 (F := Ideal) x0 x1 x2 x3 x6,
  val_main_v291 (F := Ideal) x0 x1 x2 x3 x6,
  val_main_v288 (F := Ideal) x0 x1 x2 x3 x6,
  val_main_v379 (F := Ideal)]

theorem pieces381_eq (k : Fin 16) (g : Fin 4) (h : Fin 8) (p : Fin 64) (n : Fin 128) :
    pieces381 x0 x1 x2 x3 x6 k (ix5 0 g h p n) = dsRev ((refArgs x0 x1 x2 x3 x4 x6).chunk g) (15 - k.val) (col h p) n := by
  match k with
  | ⟨0, _⟩ => exact car15 x0 x1 x2 x3 x4 x6 g h p n
  | ⟨1, _⟩ => exact car14 x0 x1 x2 x3 x4 x6 g h p n
  | ⟨2, _⟩ => exact car13 x0 x1 x2 x3 x4 x6 g h p n
  | ⟨3, _⟩ => exact car12 x0 x1 x2 x3 x4 x6 g h p n
  | ⟨4, _⟩ => exact car11 x0 x1 x2 x3 x4 x6 g h p n
  | ⟨5, _⟩ => exact car10 x0 x1 x2 x3 x4 x6 g h p n
  | ⟨6, _⟩ => exact car9 x0 x1 x2 x3 x4 x6 g h p n
  | ⟨7, _⟩ => exact car8 x0 x1 x2 x3 x4 x6 g h p n
  | ⟨8, _⟩ => exact car7 x0 x1 x2 x3 x4 x6 g h p n
  | ⟨9, _⟩ => exact car6 x0 x1 x2 x3 x4 x6 g h p n
  | ⟨10, _⟩ => exact car5 x0 x1 x2 x3 x4 x6 g h p n
  | ⟨11, _⟩ => exact car4 x0 x1 x2 x3 x4 x6 g h p n
  | ⟨12, _⟩ => exact car3 x0 x1 x2 x3 x4 x6 g h p n
  | ⟨13, _⟩ => exact car2 x0 x1 x2 x3 x4 x6 g h p n
  | ⟨14, _⟩ => exact car1 x0 x1 x2 x3 x4 x6 g h p n
  | ⟨15, _⟩ => exact (val_main_v379_apply (F := Ideal) (ix5 0 g h p n)).trans Ideal.ofBits_zero_f32
  | ⟨_ + 16, hk⟩ => exact absurd hk (by omega)

theorem at381 (k : Fin 16) (g : Fin 4) (h : Fin 8) (p : Fin 64) (n : Fin 128) :
    (val_main_v381 (F := Ideal) x0 x1 x2 x3 x6) (ix5 k g h p n) = dsRev ((refArgs x0 x1 x2 x3 x4 x6).chunk g) (15 - k.val) (col h p) n := by
  refine Eq.trans ?_ (pieces381_eq x0 x1 x2 x3 x4 x6 k g h p n)
  exact concatenate_ofFn_unit_apply (t := S16x4x8x64x128) (s₁ := S1x4x8x64x128) 0 (pieces381 x0 x1 x2 x3 x6) _ rfl rfl (ix5 k g h p n) k rfl (ix5 0 g h p n)
    (fun b hb => match b with
      | ⟨0, _⟩ => absurd rfl hb
      | ⟨1, _⟩ => rfl
      | ⟨2, _⟩ => rfl
      | ⟨3, _⟩ => rfl
      | ⟨4, _⟩ => rfl)

theorem at382 (c : Fin 32) (g : Fin 4) (h : Fin 8) (p : Fin 64) (n : Fin 128) :
    (val_main_v382 (F := Ideal) x0 x1 x2 x3 x6) (ix5 c g h p n) = (refArgs x0 x1 x2 x3 x4 x6).ds g c (col h p) n := by
  by_cases hc : c.val < 16
  · refine (concatenate_pair_apply_left (t := S32x4x8x64x128) (s₁ := S16x4x8x64x128) (s₂ := S16x4x8x64x128) 0 _ _ _
      (ix5 c g h p n) rfl (ix5 (⟨c.val, hc⟩ : Fin 16) g h p n) (fun b => match b with
      | ⟨0, _⟩ => rfl
      | ⟨1, _⟩ => rfl
      | ⟨2, _⟩ => rfl
      | ⟨3, _⟩ => rfl
      | ⟨4, _⟩ => rfl)).trans ?_
    exact at380 x0 x1 x2 x3 x4 x6 ⟨c.val, hc⟩ g h p n
  · refine (concatenate_pair_apply_right (t := S32x4x8x64x128) (s₁ := S16x4x8x64x128) (s₂ := S16x4x8x64x128) 0 _ _ _
      (ix5 c g h p n) rfl rfl (ix5 (⟨c.val - 16, by omega⟩ : Fin 16) g h p n) (fun b hb => match b with
      | ⟨0, _⟩ => absurd rfl hb
      | ⟨1, _⟩ => rfl
      | ⟨2, _⟩ => rfl
      | ⟨3, _⟩ => rfl
      | ⟨4, _⟩ => rfl) (by show c.val - 16 + 16 = c.val; omega)).trans ?_
    refine (at381 x0 x1 x2 x3 x4 x6 ⟨c.val - 16, by omega⟩ g h p n).trans ?_
    show dsRev ((refArgs x0 x1 x2 x3 x4 x6).chunk g) (15 - (c.val - 16)) _ _ = dsRev ((refArgs x0 x1 x2 x3 x4 x6).chunk g) (31 - c.val) _ _
    rw [show 15 - (c.val - 16) = 31 - c.val by omega]

theorem at383 (c : Fin 32) (g : Fin 4) (q : Fin 512) (n : Fin 128) :
    (val_main_v383 (F := Ideal) x0 x1 x2 x3 x6) (ix4 c g q n) = (refArgs x0 x1 x2 x3 x4 x6).ds g c q n := by
  rw [val_main_v383_apply, (show idx_main_v383 (ix4 c g q n) = (ix5 c g (hd q) (lane q) n) from funext fun a => Fin.ext (match a with
      | ⟨0, _⟩ => by show (((c.val * 4 + g.val) * 512 + q.val) * 128 + n.val) / 262144 = c.val; omega
      | ⟨1, _⟩ => by show (((c.val * 4 + g.val) * 512 + q.val) * 128 + n.val) / 65536 % 4 = g.val; omega
      | ⟨2, _⟩ => by show (((c.val * 4 + g.val) * 512 + q.val) * 128 + n.val) / 8192 % 8 = (q.val / 64); omega
      | ⟨3, _⟩ => by show (((c.val * 4 + g.val) * 512 + q.val) * 128 + n.val) / 128 % 64 = (q.val % 64); omega
      | ⟨4, _⟩ => by show (((c.val * 4 + g.val) * 512 + q.val) * 128 + n.val) % 128 = n.val; omega)), at382 x0 x1 x2 x3 x4 x6, col_hd]

end Cert.Ssd.Ref
-- ==== Proof.RefGrad.lean ====
/-
  The reference's gradients, read at an index: the same functions of the arguments as the kernel's.
-/
module

public import proofs.«01_k».proof.Proof.RefChunk
public import proofs.«01_k».proof.Proof.Finite

@[expose] public section

set_option maxRecDepth 16384

noncomputable section

namespace Cert.Ssd.Ref

open Cert.ReferenceIdeal Cert.ReferenceIdeal.Gen Cert.ReferenceIdeal.Read Idealize.ShloMosaic Idealize.ShloMosaic.TcCoe Idealize.SL.Sem
open Idealize.ShloMosaic.ValueIdx hiding ix1 ix2 ix3 ix4 ix5
open Idealize.ShloMosaic.Pointwise

variable (x0 : (⟨S4096x3072, .bf16⟩ : BufTy).Contents (Elt Ideal)) (x1 : (⟨S4096x32, .f32⟩ : BufTy).Contents (Elt Ideal))
  (x2 x3 : (⟨S32, .f32⟩ : BufTy).Contents (Elt Ideal)) (x4 : (⟨S1x2048, .f32⟩ : BufTy).Contents (Elt Ideal))
  (x6 : (⟨S4096x2048, .f32⟩ : BufTy).Contents (Elt Ideal))

theorem at385 (c : Fin 32) (g : Fin 4) (l n : Fin 128) :
    (val_main_v385 (F := Ideal) x0 x1 x2 x3 x6) (ix4 c l g n) = ∑ q : Fin 512, ((refArgs x0 x1 x2 x3 x4 x6).chunk g c).xs l q * ((refArgs x0 x1 x2 x3 x4 x6).chunk g c).ec (hd q) l * (refArgs x0 x1 x2 x3 x4 x6).ds g c q n := by
  rw [val_main_v385_apply, (show idx_main_v385 (ix4 c l g n) = (ix4 c g n l) from funext fun a => Fin.ext (match a with
      | ⟨0, _⟩ => by show c.val = c.val; omega
      | ⟨1, _⟩ => by show g.val = g.val; omega
      | ⟨2, _⟩ => by show n.val = n.val; omega
      | ⟨3, _⟩ => by show l.val = l.val; omega)), val_main_v384_apply]
  refine Finset.sum_congr rfl fun q _ => ?_
  rw [(show lidx_main_v384 (ix4 c g n l) q = (ix4 c g q n) from funext fun a => Fin.ext (match a with
      | ⟨0, _⟩ => by show c.val = c.val; omega
      | ⟨1, _⟩ => by show g.val = g.val; omega
      | ⟨2, _⟩ => by show q.val = q.val; omega
      | ⟨3, _⟩ => by show n.val = n.val; omega)), (show ridx_main_v384 (ix4 c g n l) q = (ix4 c l g q) from funext fun a => Fin.ext (match a with
      | ⟨0, _⟩ => by show c.val = c.val; omega
      | ⟨1, _⟩ => by show l.val = l.val; omega
      | ⟨2, _⟩ => by show g.val = g.val; omega
      | ⟨3, _⟩ => by show q.val = q.val; omega)), at383 x0 x1 x2 x3 x4 x6, at53 x0 x1 x2 x3 x4 x6, mul_comm]

theorem at388 (c : Fin 32) (g : Fin 4) (h : Fin 8) (l : Fin 128) (p : Fin 64) :
    (val_main_v388 (F := Ideal) x0 x1 x2 x3 x6) (ix5 c l g h p) = ∑ n : Fin 128, ((refArgs x0 x1 x2 x3 x4 x6).chunk g c).b l n * (refArgs x0 x1 x2 x3 x4 x6).ds g c (col h p) n := by
  rw [val_main_v388_apply, (show idx_main_v388 (ix5 c l g h p) = (ix4 c l g (col h p)) from funext fun a => Fin.ext (match a with
      | ⟨0, _⟩ => by show ((((c.val * 128 + l.val) * 4 + g.val) * 8 + h.val) * 64 + p.val) / 262144 = c.val; omega
      | ⟨1, _⟩ => by show ((((c.val * 128 + l.val) * 4 + g.val) * 8 + h.val) * 64 + p.val) / 2048 % 128 = l.val; omega
      | ⟨2, _⟩ => by show ((((c.val * 128 + l.val) * 4 + g.val) * 8 + h.val) * 64 + p.val) / 512 % 4 = g.val; omega
      | ⟨3, _⟩ => by show ((((c.val * 128 + l.val) * 4 + g.val) * 8 + h.val) * 64 + p.val) % 512 = (64 * h.val + p.val); omega)), val_main_v387_apply, (show idx_main_v387 (ix4 c l g (col h p)) = (ix4 c g (col h p) l) from funext fun a => Fin.ext (match a with
      | ⟨0, _⟩ => by show c.val = c.val; omega
      | ⟨1, _⟩ => by show g.val = g.val; omega
      | ⟨2, _⟩ => by show (64 * h.val + p.val) = (64 * h.val + p.val); omega
      | ⟨3, _⟩ => by show l.val = l.val; omega)), val_main_v386_apply]
  refine Finset.sum_congr rfl fun n _ => ?_
  rw [(show lidx_main_v386 (ix4 c g (col h p) l) n = (ix4 c g (col h p) n) from funext fun a => Fin.ext (match a with
      | ⟨0, _⟩ => by show c.val = c.val; omega
      | ⟨1, _⟩ => by show g.val = g.val; omega
      | ⟨2, _⟩ => by show (64 * h.val + p.val) = (64 * h.val + p.val); omega
      | ⟨3, _⟩ => by show n.val = n.val; omega)), (show ridx_main_v386 (ix4 c g (col h p) l) n = (ix4 c l g n) from funext fun a => Fin.ext (match a with
      | ⟨0, _⟩ => by show c.val = c.val; omega
      | ⟨1, _⟩ => by show l.val = l.val; omega
      | ⟨2, _⟩ => by show g.val = g.val; omega
      | ⟨3, _⟩ => by show n.val = n.val; omega)), at383 x0 x1 x2 x3 x4 x6, at28 x0 x1 x2 x3 x4 x6, mul_comm]

theorem at390 (c : Fin 32) (g : Fin 4) (h : Fin 8) (l : Fin 128) (p : Fin 64) :
    (val_main_v390 (F := Ideal) x0 x1 x2 x3 x6) (ix5 c l g h p) = (∑ n : Fin 128, ((refArgs x0 x1 x2 x3 x4 x6).chunk g c).b l n * (refArgs x0 x1 x2 x3 x4 x6).ds g c (col h p) n) * ((refArgs x0 x1 x2 x3 x4 x6).chunk g c).ec h l := by
  rw [val_main_v390_apply, val_main_v389_apply, (show idx_main_v389 (ix5 c l g h p) = (ix5 c l g h 0) from funext fun a => Fin.ext (match a with
      | ⟨0, _⟩ => by show c.val = c.val; omega
      | ⟨1, _⟩ => by show l.val = l.val; omega
      | ⟨2, _⟩ => by show g.val = g.val; omega
      | ⟨3, _⟩ => by show h.val = h.val; omega
      | ⟨4, _⟩ => by show 0 = 0; omega)), at388 x0 x1 x2 x3 x4 x6, at50 x0 x1 x2 x3 x4 x6]
  rfl

theorem at391 (c : Fin 32) (g : Fin 4) (h : Fin 8) (l : Fin 128) (p : Fin 64) :
    (val_main_v391 (F := Ideal) x6) (ix5 c g h p l) = ((refArgs x0 x1 x2 x3 x4 x6).chunk g c).dy l (col h p) := by
  rw [val_main_v391_apply, (show idx_main_v391 (ix5 c g h p l) = (ix5 c l g h p) from funext fun a => Fin.ext (match a with
      | ⟨0, _⟩ => by show c.val = c.val; omega
      | ⟨1, _⟩ => by show l.val = l.val; omega
      | ⟨2, _⟩ => by show g.val = g.val; omega
      | ⟨3, _⟩ => by show h.val = h.val; omega
      | ⟨4, _⟩ => by show p.val = p.val; omega)), at250 x0 x1 x2 x3 x4 x6]

theorem at392 (c : Fin 32) (g : Fin 4) (h : Fin 8) (l s : Fin 128) :
    (val_main_v392 (F := Ideal) x0 x1 x2 x6) (ix5 c g h l s) = ((refArgs x0 x1 x2 x3 x4 x6).chunk g c).dmat h l s := by
  rw [val_main_v392_apply]
  refine Finset.sum_congr rfl fun p _ => ?_
  rw [(show lidx_main_v392 (ix5 c g h l s) p = (ix5 c g h p l) from funext fun a => Fin.ext (match a with
      | ⟨0, _⟩ => by show c.val = c.val; omega
      | ⟨1, _⟩ => by show g.val = g.val; omega
      | ⟨2, _⟩ => by show h.val = h.val; omega
      | ⟨3, _⟩ => by show p.val = p.val; omega
      | ⟨4, _⟩ => by show l.val = l.val; omega)), (show ridx_main_v392 (ix5 c g h l s) p = (ix5 c s g h p) from funext fun a => Fin.ext (match a with
      | ⟨0, _⟩ => by show c.val = c.val; omega
      | ⟨1, _⟩ => by show s.val = s.val; omega
      | ⟨2, _⟩ => by show g.val = g.val; omega
      | ⟨3, _⟩ => by show h.val = h.val; omega
      | ⟨4, _⟩ => by show p.val = p.val; omega)), at391 x0 x1 x2 x3 x4 x6, at21 x0 x1 x2 x3 x4 x6]

theorem at394 (c : Fin 32) (g : Fin 4) (h : Fin 8) (l : Fin 128) (p : Fin 64) :
    (val_main_v394 (F := Ideal) x0 x1 x2 x3 x6) (ix5 c l g h p)
      = ∑ s : Fin 128, ((refArgs x0 x1 x2 x3 x4 x6).chunk g c).g s l * ((refArgs x0 x1 x2 x3 x4 x6).chunk g c).lm h s l * ((refArgs x0 x1 x2 x3 x4 x6).chunk g c).dy s (col h p) := by
  rw [val_main_v394_apply, (show idx_main_v394 (ix5 c l g h p) = (ix5 c g h p l) from funext fun a => Fin.ext (match a with
      | ⟨0, _⟩ => by show c.val = c.val; omega
      | ⟨1, _⟩ => by show g.val = g.val; omega
      | ⟨2, _⟩ => by show h.val = h.val; omega
      | ⟨3, _⟩ => by show p.val = p.val; omega
      | ⟨4, _⟩ => by show l.val = l.val; omega)), val_main_v393_apply]
  refine Finset.sum_congr rfl fun s _ => ?_
  rw [(show lidx_main_v393 (ix5 c g h p l) s = (ix5 c g h p s) from funext fun a => Fin.ext (match a with
      | ⟨0, _⟩ => by show c.val = c.val; omega
      | ⟨1, _⟩ => by show g.val = g.val; omega
      | ⟨2, _⟩ => by show h.val = h.val; omega
      | ⟨3, _⟩ => by show p.val = p.val; omega
      | ⟨4, _⟩ => by show s.val = s.val; omega)), (show ridx_main_v393 (ix5 c g h p l) s = (ix5 c g h s l) from funext fun a => Fin.ext (match a with
      | ⟨0, _⟩ => by show c.val = c.val; omega
      | ⟨1, _⟩ => by show g.val = g.val; omega
      | ⟨2, _⟩ => by show h.val = h.val; omega
      | ⟨3, _⟩ => by show s.val = s.val; omega
      | ⟨4, _⟩ => by show l.val = l.val; omega)), at391 x0 x1 x2 x3 x4 x6, at42 x0 x1 x2 x3 x4 x6, mul_comm]

theorem at395 (c : Fin 32) (g : Fin 4) (h : Fin 8) (l : Fin 128) (p : Fin 64) :
    (val_main_v395 (F := Ideal) x0 x1 x2 x3 x6) (ix5 c l g h p) = ((refArgs x0 x1 x2 x3 x4 x6).chunk g c).dxd ((refArgs x0 x1 x2 x3 x4 x6).ds g c) l (col h p) := by
  rw [val_main_v395_apply, at390 x0 x1 x2 x3 x4 x6, at394 x0 x1 x2 x3 x4 x6, ChunkIn.dxd, hd_col]
  rfl

theorem at396 (c : Fin 32) (g : Fin 4) (h : Fin 8) (l s : Fin 128) :
    (val_main_v396 (F := Ideal) x0 x1 x2 x3 x6) (ix5 c g h l s) = ((refArgs x0 x1 x2 x3 x4 x6).chunk g c).dmat h l s * ((refArgs x0 x1 x2 x3 x4 x6).chunk g c).lm h l s := by
  rw [val_main_v396_apply, at392 x0 x1 x2 x3 x4 x6, at38 x0 x1 x2 x3 x4 x6]
  rfl

theorem zero_add_of {a b : EReal} (h : a = 0) : a + b = b := by rw [h, zero_add]

theorem at397 (c : Fin 32) (g : Fin 4) (l s : Fin 128) : (val_main_v397 (F := Ideal) x0 x1 x2 x3 x6) (ix4 c g l s) = ((refArgs x0 x1 x2 x3 x4 x6).chunk g c).dg l s := by
  rw [val_main_v397_apply]
  refine (zero_add_of Ideal.ofBits_zero_f32).trans ?_
  refine Finset.sum_congr rfl fun h _ => ?_
  rw [(show idx_main_v397 (ix4 c g l s) h = (ix5 c g h l s) from funext fun a => Fin.ext (match a with
      | ⟨0, _⟩ => by show c.val = c.val; omega
      | ⟨1, _⟩ => by show g.val = g.val; omega
      | ⟨2, _⟩ => by show h.val = h.val; omega
      | ⟨3, _⟩ => by show l.val = l.val; omega
      | ⟨4, _⟩ => by show s.val = s.val; omega)), at396 x0 x1 x2 x3 x4 x6]

theorem at399 (c : Fin 32) (g : Fin 4) (l s : Fin 128) : (val_main_v399 (F := Ideal) x0 x1 x2 x3 x6) (ix4 c g l s) = ((refArgs x0 x1 x2 x3 x4 x6).chunk g c).dg l s := by
  rw [val_main_v399_apply]
  refine (zero_add_of Ideal.ofBits_zero_f32).trans ?_
  refine (Fintype.sum_subsingleton _ (0 : Fin 1)).trans ?_
  rw [(show idx_main_v399 (ix4 c g l s) 0 = (ix5 c g 0 l s) from funext fun a => Fin.ext (match a with
      | ⟨0, _⟩ => by show c.val = c.val; omega
      | ⟨1, _⟩ => by show g.val = g.val; omega
      | ⟨2, _⟩ => by show 0 = 0; omega
      | ⟨3, _⟩ => by show l.val = l.val; omega
      | ⟨4, _⟩ => by show s.val = s.val; omega)), val_main_v398_apply, (show idx_main_v398 (ix5 c g 0 l s) = (ix4 c g l s) from funext fun a => Fin.ext (match a with
      | ⟨0, _⟩ => by show ((((c.val * 4 + g.val) * 1 + 0) * 128 + l.val) * 128 + s.val) / 65536 = c.val; omega
      | ⟨1, _⟩ => by show ((((c.val * 4 + g.val) * 1 + 0) * 128 + l.val) * 128 + s.val) / 16384 % 4 = g.val; omega
      | ⟨2, _⟩ => by show ((((c.val * 4 + g.val) * 1 + 0) * 128 + l.val) * 128 + s.val) / 128 % 128 = l.val; omega
      | ⟨3, _⟩ => by show ((((c.val * 4 + g.val) * 1 + 0) * 128 + l.val) * 128 + s.val) % 128 = s.val; omega)), at397 x0 x1 x2 x3 x4 x6]

theorem at401 (c : Fin 32) (g : Fin 4) (s n : Fin 128) :
    (val_main_v401 (F := Ideal) x0 x1 x2 x3 x6) (ix4 c s g n) = ∑ l : Fin 128, ((refArgs x0 x1 x2 x3 x4 x6).chunk g c).dg l s * ((refArgs x0 x1 x2 x3 x4 x6).chunk g c).c l n := by
  rw [val_main_v401_apply, (show idx_main_v401 (ix4 c s g n) = (ix4 c g s n) from funext fun a => Fin.ext (match a with
      | ⟨0, _⟩ => by show c.val = c.val; omega
      | ⟨1, _⟩ => by show g.val = g.val; omega
      | ⟨2, _⟩ => by show s.val = s.val; omega
      | ⟨3, _⟩ => by show n.val = n.val; omega)), val_main_v400_apply]
  refine Finset.sum_congr rfl fun l _ => ?_
  rw [(show lidx_main_v400 (ix4 c g s n) l = (ix4 c g l s) from funext fun a => Fin.ext (match a with
      | ⟨0, _⟩ => by show c.val = c.val; omega
      | ⟨1, _⟩ => by show g.val = g.val; omega
      | ⟨2, _⟩ => by show l.val = l.val; omega
      | ⟨3, _⟩ => by show s.val = s.val; omega)), (show ridx_main_v400 (ix4 c g s n) l = (ix4 c l g n) from funext fun a => Fin.ext (match a with
      | ⟨0, _⟩ => by show c.val = c.val; omega
      | ⟨1, _⟩ => by show l.val = l.val; omega
      | ⟨2, _⟩ => by show g.val = g.val; omega
      | ⟨3, _⟩ => by show n.val = n.val; omega)), at399 x0 x1 x2 x3 x4 x6, at29 x0 x1 x2 x3 x4 x6]

theorem at402 (c : Fin 32) (g : Fin 4) (s n : Fin 128) :
    (val_main_v402 (F := Ideal) x0 x1 x2 x3 x6) (ix4 c s g n) = ((refArgs x0 x1 x2 x3 x4 x6).chunk g c).dbAct ((refArgs x0 x1 x2 x3 x4 x6).ds g c) s n := by
  rw [val_main_v402_apply, at385 x0 x1 x2 x3 x4 x6, at401 x0 x1 x2 x3 x4 x6]
  exact add_comm _ _

theorem at408 (i : Fin 4096) (n : Fin 512) :
    (val_main_v408 (F := Ideal) x0 x1 x2 x3 x6) (ix2 i n) = ((refArgs x0 x1 x2 x3 x4 x6).chunk (grpOfB n) (chunkOf i)).dbAct ((refArgs x0 x1 x2 x3 x4 x6).ds (grpOfB n) (chunkOf i)) (placeOf i) (laneOfB n) := by
  rw [val_main_v408_apply, (show idx_main_v408 (ix2 i n) = (ix3 i (grpOfB n) (laneOfB n)) from funext fun a => Fin.ext (match a with
      | ⟨0, _⟩ => by show (i.val * 512 + n.val) / 512 = i.val; omega
      | ⟨1, _⟩ => by show (i.val * 512 + n.val) / 128 % 4 = (n.val / 128); omega
      | ⟨2, _⟩ => by show (i.val * 512 + n.val) % 128 = (n.val % 128); omega)), val_main_v403_apply, (show idx_main_v403 (ix3 i (grpOfB n) (laneOfB n)) = (ix4 (chunkOf i) (placeOf i) (grpOfB n) (laneOfB n)) from funext fun a => Fin.ext (match a with
      | ⟨0, _⟩ => by show ((i.val * 4 + (n.val / 128)) * 128 + (n.val % 128)) / 65536 = (i.val / 128); omega
      | ⟨1, _⟩ => by show ((i.val * 4 + (n.val / 128)) * 128 + (n.val % 128)) / 512 % 128 = (i.val % 128); omega
      | ⟨2, _⟩ => by show ((i.val * 4 + (n.val / 128)) * 128 + (n.val % 128)) / 128 % 4 = (n.val / 128); omega
      | ⟨3, _⟩ => by show ((i.val * 4 + (n.val / 128)) * 128 + (n.val % 128)) % 128 = (n.val % 128); omega)), at402 x0 x1 x2 x3 x4 x6]

theorem pb_eq (i : Fin 4096) (n : Fin 512) :
    x0 (ix2 i ⟨2048 + n.val, by omega⟩) = ((refArgs x0 x1 x2 x3 x4 x6).chunk (grpOfB n) (chunkOf i)).pb (placeOf i) (laneOfB n) := by
  refine congrArg x0 (congrArg₂ ix2 (Fin.ext ?_) (Fin.ext ?_))
  · show i.val = 128 * (i.val / 128) + i.val % 128
    omega
  · show 2048 + n.val = 2048 + 128 * (n.val / 128) + n.val % 128
    omega

theorem at410 (hA : (refArgs x0 x1 x2 x3 x4 x6).Fin) (i : Fin 4096) (n : Fin 512) : (val_main_v410 (F := Ideal) x0 x1 x2 x3 x6) (ix2 i n) = (refArgs x0 x1 x2 x3 x4 x6).gb i n := by
  rw [val_main_v410_apply, val_main_v409_apply, val_main_call7_v1_apply, val_main_call7_v2_apply, val_main_call7_v0_apply, at408 x0 x1 x2 x3 x4 x6, sig6,
    grad6, pre5, pb_eq x0 x1 x2 x3 x4 x6]
  exact (mul_siluGrad ((hA.chunk _ _).dbAct (hA.ds _ _) _ _) ((hA.chunk _ _).pb _ _)).symm

theorem at411 (i : Fin 4096) (q : Fin 2048) :
    (val_main_v411 (F := Ideal) x0 x1 x2 x3 x4 x6) (ix2 i q) = ((refArgs x0 x1 x2 x3 x4 x6).chunk (grpOf q) (chunkOf i)).dxAct ((refArgs x0 x1 x2 x3 x4 x6).ds (grpOf q) (chunkOf i)) (placeOf i) (laneOf q) := by
  rw [val_main_v411_apply, (show idx_main_v411 (ix2 i q) = (ix3 i (headOf q) (laneH q)) from funext fun a => Fin.ext (match a with
      | ⟨0, _⟩ => by show (i.val * 2048 + q.val) / 2048 = i.val; omega
      | ⟨1, _⟩ => by show (i.val * 2048 + q.val) / 64 % 32 = (q.val / 64); omega
      | ⟨2, _⟩ => by show (i.val * 2048 + q.val) % 64 = (q.val % 64); omega)), val_main_v407_apply, val_main_v247_apply, val_main_v242_apply, (show idx_main_v242 (ix3 i (headOf q) (laneH q)) = (ix2 i q) from funext fun a => Fin.ext (match a with
      | ⟨0, _⟩ => by show ((i.val * 32 + (q.val / 64)) * 64 + (q.val % 64)) / 2048 = i.val; omega
      | ⟨1, _⟩ => by show ((i.val * 32 + (q.val / 64)) * 64 + (q.val % 64)) % 2048 = q.val; omega)), val_main_v246_apply, (show idx_main_v246 (ix3 i (headOf q) (laneH q)) = (ix3 0 (headOf q) (laneH q)) from funext fun a => Fin.ext (match a with
      | ⟨0, _⟩ => by show 0 = 0; omega
      | ⟨1, _⟩ => by show (q.val / 64) = (q.val / 64); omega
      | ⟨2, _⟩ => by show (q.val % 64) = (q.val % 64); omega)),
    val_main_v237_apply, (show idx_main_v237 (ix3 0 (headOf q) (laneH q)) = (ix2 (headOf q) (laneH q)) from funext fun a => Fin.ext (match a with
      | ⟨0, _⟩ => by show (q.val / 64) = (q.val / 64); omega
      | ⟨1, _⟩ => by show (q.val % 64) = (q.val % 64); omega)), val_main_v236_apply, (show idx_main_v236 (ix2 (headOf q) (laneH q)) = (ix2 0 q) from funext fun a => Fin.ext (match a with
      | ⟨0, _⟩ => by show 0 = 0; omega
      | ⟨1, _⟩ => by show ((q.val / 64) * 64 + (q.val % 64)) % 2048 = q.val; omega)), val_main_v406_apply, val_main_v404_apply, (show idx_main_v404 (ix3 i (headOf q) (laneH q)) = (ix5 (chunkOf i) (placeOf i) (grpOf q) (hd (laneOf q)) (lane (laneOf q))) from funext fun a => Fin.ext (match a with
      | ⟨0, _⟩ => by show ((i.val * 32 + (q.val / 64)) * 64 + (q.val % 64)) / 262144 = (i.val / 128); omega
      | ⟨1, _⟩ => by show ((i.val * 32 + (q.val / 64)) * 64 + (q.val % 64)) / 2048 % 128 = (i.val % 128); omega
      | ⟨2, _⟩ => by show ((i.val * 32 + (q.val / 64)) * 64 + (q.val % 64)) / 512 % 4 = (q.val / 512); omega
      | ⟨3, _⟩ => by show ((i.val * 32 + (q.val / 64)) * 64 + (q.val % 64)) / 64 % 8 = (q.val % 512 / 64); omega
      | ⟨4, _⟩ => by show ((i.val * 32 + (q.val / 64)) * 64 + (q.val % 64)) % 64 = (q.val % 512 % 64); omega)), val_main_v405_apply, (show idx_main_v405 (ix3 i (headOf q) (laneH q)) = (ix3 i (headOf q) 0) from funext fun a => Fin.ext (match a with
      | ⟨0, _⟩ => by show i.val = i.val; omega
      | ⟨1, _⟩ => by show (q.val / 64) = (q.val / 64); omega
      | ⟨2, _⟩ => by show 0 = 0; omega)), at18, at395 x0 x1 x2 x3 x4 x6,
    col_hd]
  refine (add_comm _ _).trans ?_
  have ei : i = pos (chunkOf i) (placeOf i) := Fin.ext (by show i.val = 128 * (i.val / 128) + i.val % 128; omega)
  have eh : headOf q = head (grpOf q) (hd (laneOf q)) := Fin.ext (by show q.val / 64 = 8 * (q.val / 512) + q.val % 512 / 64; omega)
  have eq : q = gcol (grpOf q) (laneOf q) := Fin.ext (by show q.val = 512 * (q.val / 512) + q.val % 512; omega)
  have e1 : softplus (x1 (ix2 i (headOf q)) + x2 (ix1 (headOf q))) = ((refArgs x0 x1 x2 x3 x4 x6).chunk (grpOf q) (chunkOf i)).dt (hd (laneOf q)) (placeOf i) := by
    rw [eh]
    exact congrArg (fun j => softplus (x1 (ix2 j (head (grpOf q) (hd (laneOf q)))) + x2 (ix1 (head (grpOf q) (hd (laneOf q)))))) ei
  have e2 : x6 (ix2 i q) = ((refArgs x0 x1 x2 x3 x4 x6).chunk (grpOf q) (chunkOf i)).dy (placeOf i) (laneOf q) := congrArg x6 (congrArg₂ ix2 ei eq)
  have e3 : x4 (ix2 0 q) = ((refArgs x0 x1 x2 x3 x4 x6).chunk (grpOf q) (chunkOf i)).dsk (laneOf q) := congrArg x4 (congrArg (ix2 0) eq)
  rw [e1, e2, e3]
  rfl

theorem px_eq (i : Fin 4096) (q : Fin 2048) :
    x0 (ix2 i ⟨q.val, by omega⟩) = ((refArgs x0 x1 x2 x3 x4 x6).chunk (grpOf q) (chunkOf i)).px (placeOf i) (laneOf q) := by
  refine congrArg x0 (congrArg₂ ix2 (Fin.ext ?_) (Fin.ext ?_))
  · show i.val = 128 * (i.val / 128) + i.val % 128
    omega
  · show q.val = 512 * (q.val / 512) + q.val % 512
    omega

theorem at413 (hA : (refArgs x0 x1 x2 x3 x4 x6).Fin) (i : Fin 4096) (q : Fin 2048) : (val_main_v413 (F := Ideal) x0 x1 x2 x3 x4 x6) (ix2 i q) = (refArgs x0 x1 x2 x3 x4 x6).gx i q := by
  rw [val_main_v413_apply, val_main_v412_apply, val_main_call8_v1_apply, val_main_call8_v2_apply, val_main_call8_v0_apply, at411 x0 x1 x2 x3 x4 x6, sig3,
    grad3, pre2, px_eq x0 x1 x2 x3 x4 x6]
  exact (mul_siluGrad ((hA.chunk _ _).dxAct (hA.ds _ _) _ _) ((hA.chunk _ _).px _ _)).symm

theorem sum_chunks (f : Fin 4096 → EReal) : ∑ i : Fin 4096, f i = ∑ k : Fin 32, ∑ l : Fin 128, f (pos k l) := by
  rw [← Equiv.sum_comp (finProdFinEquiv (m := 32) (n := 128)) f, Fintype.sum_prod_type]
  refine Finset.sum_congr rfl fun k _ => Finset.sum_congr rfl fun l _ => congrArg f (Fin.ext ?_)
  show l.val + 128 * k.val = 128 * k.val + l.val
  omega

theorem at249 (q : Fin 2048) : (val_main_v249 (F := Ideal) x0 x6) (ix2 0 q) = (refArgs x0 x1 x2 x3 x4 x6).gdsk q := by
  rw [val_main_v249_apply, (show idx_main_v249 (ix2 0 q) = (ix2 (headOf q) (laneH q)) from funext fun a => Fin.ext (match a with
      | ⟨0, _⟩ => by show (0 * 2048 + q.val) / 64 = (q.val / 64); omega
      | ⟨1, _⟩ => by show (0 * 2048 + q.val) % 64 = (q.val % 64); omega)), val_main_v248_apply]
  refine (zero_add_of Ideal.ofBits_zero_f32).trans ?_
  refine (Fintype.sum_subsingleton _ (0 : Fin 1)).trans ?_
  rw [(show idx_main_v248 (ix2 (headOf q) (laneH q)) 0 = (ix3 0 (headOf q) (laneH q)) from funext fun a => Fin.ext (match a with
      | ⟨0, _⟩ => by show 0 = 0; omega
      | ⟨1, _⟩ => by show (q.val / 64) = (q.val / 64); omega
      | ⟨2, _⟩ => by show (q.val % 64) = (q.val % 64); omega)), val_main_v245_apply, (show idx_main_v245 (ix3 0 (headOf q) (laneH q)) = (ix2 (headOf q) (laneH q)) from funext fun a => Fin.ext (match a with
      | ⟨0, _⟩ => by show ((0 * 32 + (q.val / 64)) * 64 + (q.val % 64)) / 64 = (q.val / 64); omega
      | ⟨1, _⟩ => by show ((0 * 32 + (q.val / 64)) * 64 + (q.val % 64)) % 64 = (q.val % 64); omega)), val_main_v244_apply]
  refine (zero_add_of Ideal.ofBits_zero_f32).trans ?_
  refine (sum_chunks _).trans ?_
  refine Finset.sum_congr rfl fun c _ => Finset.sum_congr rfl fun l _ => ?_
  rw [(show idx_main_v244 (ix2 (headOf q) (laneH q)) (pos c l) = (ix3 (pos c l) (headOf q) (laneH q)) from funext fun a => Fin.ext (match a with
      | ⟨0, _⟩ => by show (128 * c.val + l.val) = (128 * c.val + l.val); omega
      | ⟨1, _⟩ => by show (q.val / 64) = (q.val / 64); omega
      | ⟨2, _⟩ => by show (q.val % 64) = (q.val % 64); omega)), val_main_v243_apply, at4, val_main_v242_apply, (show idx_main_v242 (ix3 (pos c l) (headOf q) (laneH q)) = (ix2 (pos c l) q) from funext fun a => Fin.ext (match a with
      | ⟨0, _⟩ => by show (((128 * c.val + l.val) * 32 + (q.val / 64)) * 64 + (q.val % 64)) / 2048 = (128 * c.val + l.val); omega
      | ⟨1, _⟩ => by show (((128 * c.val + l.val) * 32 + (q.val / 64)) * 64 + (q.val % 64)) % 2048 = q.val; omega))]
  refine (mul_comm _ _).trans (congrArg₂ (· * ·) (congrArg x6 (congrArg (ix2 (pos c l)) (Fin.ext ?_)))
    (congrArg silu (congrArg x0 (congrArg (ix2 (pos c l)) (Fin.ext ?_)))))
  · show q.val = 512 * (q.val / 512) + q.val % 512
    omega
  · show 64 * (q.val / 64) + q.val % 64 = 512 * (q.val / 512) + q.val % 512
    omega

end Cert.Ssd.Ref
-- ==== Proof.Row.lean ====
/-
  Facts of the calls that work row by row: a precondition's bit read as a real number, the logistic function by its parts.
-/
module

public import proofs.«01_k».proof.Proof.Finite
public import Idealize.ShloMosaic.Lib.IdealHost

@[expose] public section

noncomputable section

namespace Cert.Ssd

open Idealize.ShloMosaic

theorem isR_of_abs {x : EReal} (h : max x (-x) < ⊤) : IsR x := by
  induction x using EReal.rec with
  | bot => exact absurd h (by simp)
  | coe r => exact ⟨r, rfl⟩
  | top => exact absurd h (by simp)

theorem isR_of_bit {x : EReal} (h : Ideal.cmp .olt (max x (-x)) (Ideal.ofBits .f32 0x7F800000#32) = 1#1) : IsR x := by
  have e : Ideal.ofBits .f32 0x7F800000#32 = (⊤ : EReal) := by simp [Ideal.ofBits, Ideal.ieee]
  rw [e] at h
  refine isR_of_abs ?_
  by_contra hn
  have : Ideal.cmp .olt (max x (-x)) (⊤ : EReal) = 0#1 := by
    simp only [Ideal.cmp, hn, decide_false]
    rfl
  rw [this] at h
  exact absurd h (by decide)

theorem sigmoid_parts (v : EReal) :
    Ideal.div (Ideal.ofBits .f32 0x3F800000#32) (Ideal.ofBits .f32 0x3F800000#32 + Ideal.exp (-v)) = Ideal.logistic v := by
  rw [Ideal.ofBits_one_f32]; rfl

/-- The scale of a norm, from the sum of squares and the number of its terms. -/
def scale (n : BitVec 32) (s : EReal) : EReal := Ideal.rsqrt (Ideal.div s (Ideal.ofBits .f32 n) + Ideal.ofBits .f32 0x358637BD#32)

/-- Column `q` of group `g`. -/
def ncol (g : Fin 4) (q : Fin 512) : Fin 2048 := ⟨g.val * 512 + q.val, by omega⟩

theorem ncol_of (j : Fin 2048) : ncol ⟨j.val / 512, by omega⟩ ⟨j.val % 512, by omega⟩ = j :=
  Fin.ext (by show j.val / 512 * 512 + j.val % 512 = j.val; omega)

/-- A number times the activated gate. -/
def gated (y z : EReal) : EReal := y * silu z

/-- One entry of the gated norm, from its group of a row. -/
def gateNorm (y z : Fin 512 → EReal) (w : EReal) (q : Fin 512) : EReal :=
  gated (y q) (z q) * scale 0x44000000#32 (∑ k : Fin 512, gated (y k) (z k) * gated (y k) (z k)) * w

end Cert.Ssd
-- ==== Proof.Finish.lean ====
/-
  The precondition read at an index: each argument the value claim asks of is a real number everywhere.
-/
module

public import proofs.«01_k».proof.Defs
public import proofs.«01_k».proof.Proof.Arrays
public import proofs.«01_k».proof.Proof.RefGrad
public import proofs.«01_k».proof.Proof.Row

@[expose] public section

noncomputable section

namespace Cert.Ssd

open Idealize.ShloMosaic Idealize.ShloMosaic.TcCoe Idealize.SL.Sem

theorem preFacts : Cert.Pre_inputs_finite.Facts where
  bitsLt_bf16_f32 := by decide
  bcast_S_S4096x3072 := by decide
  bcast_S_S4096x32 := by decide
  bcast_S_S32 := by decide
  bcast_S_S1x2048 := by decide
  bcast_S_S4096x2048 := by decide

theorem fin_of_pre (m : (ℓ : Loc Cert.KernelIdeal.nD Cert.KernelIdeal.τ Cert.KernelIdeal.sig) → Buf (Elt Ideal) ℓ)
    (h : Cert.Pre_KernelIdeal_inputs_finite (hPre_inputs_finite := preFacts) m) (c : Dev Cert.KernelIdeal.nD) :
    (argsOf m c).Fin where
  pre i j := isR_of_bit (congrFun (h c).1 (ix2 i j))
  dtRaw i j := isR_of_bit (congrFun (h c).2.1 (ix2 i j))
  bias i := isR_of_bit (congrFun (h c).2.2.1 (ix1 i))
  alog i := isR_of_bit (congrFun (h c).2.2.2.1 (ix1 i))
  dsk i := isR_of_bit (congrFun (h c).2.2.2.2.1 (ix2 0 i))
  dy i j := isR_of_bit (congrFun (h c).2.2.2.2.2 (ix2 i j))

namespace Ref

open Cert.ReferenceIdeal Cert.ReferenceIdeal.Gen Cert.ReferenceIdeal.Read

variable (x0 : (⟨S4096x3072, .bf16⟩ : BufTy).Contents (Elt Ideal)) (x1 : (⟨S4096x32, .f32⟩ : BufTy).Contents (Elt Ideal))
  (x2 x3 : (⟨S32, .f32⟩ : BufTy).Contents (Elt Ideal)) (x4 : (⟨S1x2048, .f32⟩ : BufTy).Contents (Elt Ideal))
  (x6 : (⟨S4096x2048, .f32⟩ : BufTy).Contents (Elt Ideal))

theorem whole413 (hA : (refArgs x0 x1 x2 x3 x4 x6).Fin) :
    val_main_v413 (F := Ideal) x0 x1 x2 x3 x4 x6 = fun i => (refArgs x0 x1 x2 x3 x4 x6).gx (i 0) (i 1) := by
  funext i
  exact (congrArg (val_main_v413 (F := Ideal) x0 x1 x2 x3 x4 x6) (ix2_of i)).trans (at413 x0 x1 x2 x3 x4 x6 hA (i 0) (i 1))

theorem whole410 (hA : (refArgs x0 x1 x2 x3 x4 x6).Fin) :
    val_main_v410 (F := Ideal) x0 x1 x2 x3 x6 = fun i => (refArgs x0 x1 x2 x3 x4 x6).gb (i 0) (i 1) := by
  funext i
  exact (congrArg (val_main_v410 (F := Ideal) x0 x1 x2 x3 x6) (ix2_of i)).trans (at410 x0 x1 x2 x3 x4 x6 hA (i 0) (i 1))

theorem whole249 : val_main_v249 (F := Ideal) x0 x6 = fun i => (refArgs x0 x1 x2 x3 x4 x6).gdsk (i 1) := by
  funext i
  have e : i = ix2 0 (i 1) := (ix2_of i).trans (congrArg (fun k => ix2 k (i 1)) (Subsingleton.elim (α := Fin 1) (i 0) 0))
  exact (congrArg (val_main_v249 (F := Ideal) x0 x6) e).trans (at249 x0 x1 x2 x3 x4 x6 (i 1))

end Ref

end Cert.Ssd

end
-- ==== Proof.Mm.lean ====
/-
  A product accumulated over blocks of its contraction: the partial sums, and the whole sum they come to. No finiteness is
  needed, a sum of extended reals being associative and commutative.
-/
module

public import Idealize.ShloMosaic.Lib.Pointwise

@[expose] public section

noncomputable section

namespace Cert.Mm

open Finset Idealize.ShloMosaic Idealize.ShloMosaic.Pointwise
open Idealize.ShloMosaic.ValueIdx hiding ix1 ix2 ix3 ix4 ix5

/-- A function of the places of the contraction, at zero past its end. -/
def ext {K : ℕ} (g : Fin K → EReal) (k : ℕ) : EReal := if h : k < K then g ⟨k, h⟩ else 0

/-- The sum over the first `n` blocks of `w` places. -/
def part {K : ℕ} (w : ℕ) (g : Fin K → EReal) (n : ℕ) : EReal := ∑ k ∈ range (w * n), ext g k

theorem ext_of_lt {K : ℕ} (g : Fin K → EReal) {k : ℕ} (h : k < K) : ext g k = g ⟨k, h⟩ := dif_pos h

theorem part_zero {K : ℕ} (w : ℕ) (g : Fin K → EReal) : part w g 0 = 0 := by simp [part]

theorem part_succ {K : ℕ} (w : ℕ) (g : Fin K → EReal) (n : ℕ) (h : w * n + w ≤ K) :
    part w g (n + 1) = part w g n + ∑ q : Fin w, g ⟨w * n + q.val, by omega⟩ := by
  rw [part, part, Nat.mul_succ, sum_range_add, sum_range fun x => ext g (w * n + x)]
  exact congrArg _ (sum_congr rfl fun q _ => ext_of_lt g _)

theorem part_one {K : ℕ} (w : ℕ) (g : Fin K → EReal) (h : w ≤ K) :
    part w g 1 = ∑ q : Fin w, g ⟨w * 0 + q.val, by omega⟩ := by
  rw [part_succ w g 0 (by omega), part_zero, zero_add]

theorem part_all {K : ℕ} (w : ℕ) (g : Fin K → EReal) (n : ℕ) (h : w * n = K) : part w g n = ∑ k, g k := by
  rw [part, h, sum_range]
  exact sum_congr rfl fun k _ => ext_of_lt g _

theorem ix2_of {n0 n1 : ℕ} (x : (⟨2, ![n0, n1]⟩ : Shape).Idx) :
    x = ix2 (x 0) (x 1) := by
  funext a
  match a with
  | ⟨0, _⟩ => rfl
  | ⟨1, _⟩ => rfl

end Cert.Mm
-- ==== Proof.MmQkvDa.lean ====
/-
  The gradient of a product with respect to its left operand, as the kernel accumulates it.
-/
module

public import proofs.«01_k».proof.Defs
public import proofs.«01_k».proof.Proof.Mm
public import proofs.«01_k».proof.Proof.Gen.QkvDa.Frame
public import proofs.«01_k».proof.Proof.Gen.QkvDaIdeal.Value
public import proofs.«01_k».proof.Proof.Gen.QkvDaReferenceIdeal.Read
public import proofs.«01_k».proof.Proof.Gen.QkvDaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.QkvDa

open Cert.QkvDaIdeal Cert.QkvDaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S1024x9216.Idx → EReal) (x2 : S4096x9216.Idx → EReal) (i : Fin 4096) (j : Fin 1024) (k : Fin 9216) : EReal := x2 (ix2 i k) * x1 (ix2 j k)

/-- The product, by its entries. -/
def whole (x1 : S1024x9216.Idx → EReal) (x2 : S4096x9216.Idx → EReal) (y : S4096x1024.Idx) : EReal := (∑ k, terms x1 x2 (y 0) (y 1) k)

theorem ref_at (x1 : S1024x9216.Idx → EReal) (x2 : S4096x9216.Idx → EReal) (i : Fin 4096) (j : Fin 1024) :
    QkvDaReferenceIdeal.Read.val_main_v8 (F := Ideal) x1 x2 (ix2 i j) = whole x1 x2 (ix2 i j) := by
  pointwise [QkvDaReferenceIdeal.Read.val_main_v8, QkvDaReferenceIdeal.Read.val_main_v6, QkvDaReferenceIdeal.Read.val_main_v3, QkvDaReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 9216 → EReal := terms (m ((c : Thread nD τ).loc main_arg1)) (m ((c : Thread nD τ).loc main_arg2))

def row (i : Fin 1024) : Fin 4096 := ⟨1024 * (t.val / 9) + i.val, by have : t.val < 36 := t.isLt; omega⟩
def col (j : Fin 1024) : Fin 1024 := ⟨1024 * (t.val / 9 % 1) + j.val, by omega⟩

theorem index_of : ∀ t : Fin cfg0.N,
    win0_0.index t = ![t.val / 9, t.val % 9] ∧ win0_1.index t = ![t.val % 9, t.val / 9 % 1] ∧ win0_2.index t = ![t.val / 9, t.val / 9 % 1] :=
  (by decide +kernel : ∀ t : Fin grid0.N,
    win0_0.index t = ![t.val / 9, t.val % 9] ∧ win0_1.index t = ![t.val % 9, t.val / 9 % 1] ∧ win0_2.index t = ![t.val / 9, t.val / 9 % 1])

def pa : FVec Ideal S1024x1024 .bf16 := iblk m c 0 t
def pb : FVec Ideal S1024x1024 .bf16 := iblk m c 1 t

theorem pa_at (q : Fin 1024) (i : Fin 1024) :
    pa m c t (ix2 i q) = m ((c : Thread nD τ).loc main_arg2) (ix2 (row t i) ⟨1024 * (t.val % 9) + q.val, by omega⟩) := by
  show iblk m c 0 t (ix2 i q) = _
  blk_ext! [iblk, V, index_of t, row]

theorem pb_at (q : Fin 1024) (j : Fin 1024) :
    pb m c t (ix2 q j) = m ((c : Thread nD τ).loc main_arg1) (ix2 (col t j) ⟨1024 * (t.val % 9) + q.val, by omega⟩) := by
  show iblk m c 1 t (ix2 q j) = _
  blk_ext! [iblk, V, index_of t, col]

theorem dot_at (i : Fin 1024) (j : Fin 1024) (n : ℕ) (h : t.val % 9 = n) :
    ∑ q : Fin 1024, pa m c t (ix2 i q) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 9 = 8 :=
  (by decide +kernel : ∀ t : Fin grid0.N, win0_2.flush t = true → t.val % 9 = 8)

theorem acc_A (h : t.val % 9 = 0) (i : Fin 1024) (j : Fin 1024) :
    (outsAt0 m c t.val t.isLt).2 (ix2 i j) = ∑ q : Fin 1024, pa m c t (ix2 i q) * pb m c t (ix2 q j) := by
  rw [Gen.outsAt0_A m c t h (by omega) (by omega)]
  dsimp only
  frame_out
  pointwise [k0_pay1]
  all_goals rfl

theorem acc_B (h : ¬ t.val % 9 = 0) (h' : ¬ t.val % 9 = 8) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 i q) * pb m c t (ix2 q j) := by
  rw [Gen.outsAt0_B m c t h (by omega) h']
  dsimp only
  frame_out
  pointwise [k0_pay2]
  rw [read_unread_whole]
  rfl

theorem out_last (h : t.val % 9 = 8) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 i q) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 9 = 8) (i : Fin 1024) (j : Fin 1024),
    (outsAt0 m c n hn).2 (ix2 i j) = part 1024 (g m c (row ⟨n, hn⟩ i) (col ⟨n, hn⟩ j)) (n % 9 + 1)
  | n, hn, h3, i, j => by
    by_cases h0 : n % 9 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 9 + 1 = n % 9 := by omega
      rw [er, ec, en] at ih
      rw [acc_B m c ⟨n, hn⟩ h0 h3 i j, dot_at m c ⟨n, hn⟩ i j (n % 9) rfl, part_succ _ _ _ (by omega)]
      exact congrArg (· + _) ih

/-- The last point of a run writes the whole sums. -/
theorem out_at (h : t.val % 9 = 8) (i : Fin 1024) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 9 + 1 = 8 := by omega
  rw [er, ec, en] at ih
  rw [out_last m c t h i j, dot_at m c t i j 8 h, ← part_all 1024 _ 9 rfl, part_succ _ _ 8 (by omega)]
  exact congrArg (· + _) ih

theorem block_at (hf : (cfg0.win 2).flush t = true) (y : S1024x1024.Idx) :
    (outsAt0 m c t.val t.isLt).1 y = whole (m ((c : Thread nD τ).loc main_arg1)) (m ((c : Thread nD τ).loc main_arg2)) (((cfg0.win 2).blk t).view.emb y) := by
  have e0 : ((((cfg0.win 2).blk t).view.emb y) 0 : ℕ) = 1024 * (t.val / 9) + (y 0).val := by
    blk_simp [index_of t]
    omega
  have e1 : ((((cfg0.win 2).blk t).view.emb y) 1 : ℕ) = 1024 * (t.val / 9 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 4096) (j : Fin 1024) => (∑ k, g m c i j k)) (Fin.ext e0.symm) (Fin.ext e1.symm)

theorem arr : (dats m 0 c).arrAt 2 cfg0.N = whole (m ((c : Thread nD τ).loc main_arg1)) (m ((c : Thread nD τ).loc main_arg2)) :=
  (dats m 0 c).arrAt_eq_of_covers 2 _ (by decide +kernel) fun t hf y => (congrFun (after0_2 m c t) y).trans (block_at m c t hf y)

theorem ref_run (m' : (ℓ : Loc QkvDaReferenceIdeal.nD QkvDaReferenceIdeal.τ QkvDaReferenceIdeal.sig) → Buf (Elt Ideal) ℓ) (g' : Dev QkvDaReferenceIdeal.nD → PrngReg) :
    θ_run (QkvDaReferenceIdeal.defs (F := Ideal)) (onTc (τ := QkvDaReferenceIdeal.τ) (QkvDaReferenceIdeal.main (F := Ideal))) ⟨m', fun _ => 0, g'⟩ fun r => ∀ c : Dev QkvDaReferenceIdeal.nD,
      r.2.mem ((c : Thread QkvDaReferenceIdeal.nD QkvDaReferenceIdeal.τ).loc QkvDaReferenceIdeal.main_v8) = whole (m' ((c : Thread QkvDaReferenceIdeal.nD QkvDaReferenceIdeal.τ).loc QkvDaReferenceIdeal.main_arg1)) (m' ((c : Thread QkvDaReferenceIdeal.nD QkvDaReferenceIdeal.τ).loc QkvDaReferenceIdeal.main_arg2))
      ∧ r.2.mem ((c : Thread QkvDaReferenceIdeal.nD QkvDaReferenceIdeal.τ).loc QkvDaReferenceIdeal.main_arg0) = m' ((c : Thread QkvDaReferenceIdeal.nD QkvDaReferenceIdeal.τ).loc QkvDaReferenceIdeal.main_arg0)
      ∧ r.2.mem ((c : Thread QkvDaReferenceIdeal.nD QkvDaReferenceIdeal.τ).loc QkvDaReferenceIdeal.main_arg1) = m' ((c : Thread QkvDaReferenceIdeal.nD QkvDaReferenceIdeal.τ).loc QkvDaReferenceIdeal.main_arg1)
      ∧ r.2.mem ((c : Thread QkvDaReferenceIdeal.nD QkvDaReferenceIdeal.τ).loc QkvDaReferenceIdeal.main_arg2) = m' ((c : Thread QkvDaReferenceIdeal.nD QkvDaReferenceIdeal.τ).loc QkvDaReferenceIdeal.main_arg2) :=
  (θ_run _ _ _).mono (fun r h c => ⟨(h c).1.trans ((QkvDaReferenceIdeal.Read.val_main_v8_eq (F := Ideal) _ _).trans
    (funext fun i => (congrArg (QkvDaReferenceIdeal.Read.val_main_v8 (F := Ideal) _ _) (ix2_of i)).trans ((ref_at _ _ _ _).trans
      (congrArg (whole (m' ((c : Thread QkvDaReferenceIdeal.nD QkvDaReferenceIdeal.τ).loc QkvDaReferenceIdeal.main_arg1)) (m' ((c : Thread QkvDaReferenceIdeal.nD QkvDaReferenceIdeal.τ).loc QkvDaReferenceIdeal.main_arg2))) (ix2_of i).symm)))), (h c).2⟩) (QkvDaReferenceIdeal.Value.run m' g')

theorem ref_frame (m' : (ℓ : Loc QkvDaReferenceIdeal.nD QkvDaReferenceIdeal.τ QkvDaReferenceIdeal.sig) → Buf (Elt Ideal) ℓ) (g' : Dev QkvDaReferenceIdeal.nD → PrngReg) :
    θ_run (QkvDaReferenceIdeal.defs (F := Ideal)) (onTc (τ := QkvDaReferenceIdeal.τ) (QkvDaReferenceIdeal.main (F := Ideal))) ⟨m', fun _ => 0, g'⟩ fun r => (∀ c : Dev QkvDaReferenceIdeal.nD,
      r.2.mem ((c : Thread QkvDaReferenceIdeal.nD QkvDaReferenceIdeal.τ).loc QkvDaReferenceIdeal.main_arg0) = m' ((c : Thread QkvDaReferenceIdeal.nD QkvDaReferenceIdeal.τ).loc QkvDaReferenceIdeal.main_arg0)
      ∧ r.2.mem ((c : Thread QkvDaReferenceIdeal.nD QkvDaReferenceIdeal.τ).loc QkvDaReferenceIdeal.main_arg1) = m' ((c : Thread QkvDaReferenceIdeal.nD QkvDaReferenceIdeal.τ).loc QkvDaReferenceIdeal.main_arg1)
      ∧ r.2.mem ((c : Thread QkvDaReferenceIdeal.nD QkvDaReferenceIdeal.τ).loc QkvDaReferenceIdeal.main_arg2) = m' ((c : Thread QkvDaReferenceIdeal.nD QkvDaReferenceIdeal.τ).loc QkvDaReferenceIdeal.main_arg2))
      ∧ r.2.sem = fun _ => 0 :=
  (θ_run _ _ _).mono (fun r h => ⟨fun c => (h c).2, sem_eq_zero_of_no_sems (by decide) r.2⟩) (QkvDaReferenceIdeal.Value.run m' g')

theorem agrees : algebraic_QkvDaIdeal_QkvDaReferenceIdeal (hQkvDaIdeal := Gen.facts) (hQkvDaReferenceIdeal := QkvDaReferenceIdeal.Gen.facts) := by
  intro m r m' r' _ hm
  refine ⟨fun c => whole (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread QkvDaReferenceIdeal.nD QkvDaReferenceIdeal.τ).loc QkvDaReferenceIdeal.main_arg1)) (m' ((c : Thread QkvDaReferenceIdeal.nD QkvDaReferenceIdeal.τ).loc QkvDaReferenceIdeal.main_arg2)) = whole (m ((c : Thread nD τ).loc main_arg1)) (m ((c : Thread nD τ).loc main_arg2)) := by
    obtain ⟨h0, h1, h2⟩ := hm c
    rw [h1, h2]
  exact ⟨(h c).1.trans e, (h c).2⟩

end Cert.Mm.QkvDa
-- ==== Proof.MmQkvDw.lean ====
/-
  The gradient of a product with respect to the weights, as the kernel accumulates it.
-/
module

public import proofs.«01_k».proof.Defs
public import proofs.«01_k».proof.Proof.Mm
public import proofs.«01_k».proof.Proof.Gen.QkvDw.Frame
public import proofs.«01_k».proof.Proof.Gen.QkvDwIdeal.Value
public import proofs.«01_k».proof.Proof.Gen.QkvDwReferenceIdeal.Read
public import proofs.«01_k».proof.Proof.Gen.QkvDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.QkvDw

open Cert.QkvDwIdeal Cert.QkvDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x2 : S4096x9216.Idx → EReal) (i : Fin 9216) (j : Fin 1024) (k : Fin 4096) : EReal := x2 (ix2 k i) * x0 (ix2 k j)

/-- The product, by its entries. -/
def whole (x0 : S4096x1024.Idx → EReal) (x2 : S4096x9216.Idx → EReal) (y : S9216x1024.Idx) : EReal := (∑ k, terms x0 x2 (y 0) (y 1) k)

theorem ref_at (x0 : S4096x1024.Idx → EReal) (x2 : S4096x9216.Idx → EReal) (i : Fin 9216) (j : Fin 1024) :
    QkvDwReferenceIdeal.Read.val_main_v9 (F := Ideal) x0 x2 (ix2 i j) = whole x0 x2 (ix2 i j) := by
  pointwise [QkvDwReferenceIdeal.Read.val_main_v9, QkvDwReferenceIdeal.Read.val_main_v8, QkvDwReferenceIdeal.Read.val_main_v5, QkvDwReferenceIdeal.Read.val_main_v4, QkvDwReferenceIdeal.Read.val_main_v3, QkvDwReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 9216 → Fin 1024 → Fin 4096 → EReal := terms (m ((c : Thread nD τ).loc main_arg0)) (m ((c : Thread nD τ).loc main_arg2))

def row (i : Fin 1024) : Fin 9216 := ⟨1024 * (t.val / 4) + i.val, by have : t.val < 36 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1024 .bf16 := iblk m c 0 t
def pb : FVec Ideal S1024x1024 .bf16 := iblk m c 1 t

theorem pa_at (q : Fin 1024) (i : Fin 1024) :
    pa m c t (ix2 q i) = m ((c : Thread nD τ).loc main_arg2) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg0) (ix2 ⟨1024 * (t.val % 4) + q.val, by omega⟩ (col t j)) := by
  show iblk m c 1 t (ix2 q j) = _
  blk_ext! [iblk, V, index_of t, col]

theorem dot_at (i : Fin 1024) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1024) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1024) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1024) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1024x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 9216) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc QkvDwReferenceIdeal.nD QkvDwReferenceIdeal.τ QkvDwReferenceIdeal.sig) → Buf (Elt Ideal) ℓ) (g' : Dev QkvDwReferenceIdeal.nD → PrngReg) :
    θ_run (QkvDwReferenceIdeal.defs (F := Ideal)) (onTc (τ := QkvDwReferenceIdeal.τ) (QkvDwReferenceIdeal.main (F := Ideal))) ⟨m', fun _ => 0, g'⟩ fun r => ∀ c : Dev QkvDwReferenceIdeal.nD,
      r.2.mem ((c : Thread QkvDwReferenceIdeal.nD QkvDwReferenceIdeal.τ).loc QkvDwReferenceIdeal.main_v9) = whole (m' ((c : Thread QkvDwReferenceIdeal.nD QkvDwReferenceIdeal.τ).loc QkvDwReferenceIdeal.main_arg0)) (m' ((c : Thread QkvDwReferenceIdeal.nD QkvDwReferenceIdeal.τ).loc QkvDwReferenceIdeal.main_arg2))
      ∧ r.2.mem ((c : Thread QkvDwReferenceIdeal.nD QkvDwReferenceIdeal.τ).loc QkvDwReferenceIdeal.main_arg0) = m' ((c : Thread QkvDwReferenceIdeal.nD QkvDwReferenceIdeal.τ).loc QkvDwReferenceIdeal.main_arg0)
      ∧ r.2.mem ((c : Thread QkvDwReferenceIdeal.nD QkvDwReferenceIdeal.τ).loc QkvDwReferenceIdeal.main_arg1) = m' ((c : Thread QkvDwReferenceIdeal.nD QkvDwReferenceIdeal.τ).loc QkvDwReferenceIdeal.main_arg1)
      ∧ r.2.mem ((c : Thread QkvDwReferenceIdeal.nD QkvDwReferenceIdeal.τ).loc QkvDwReferenceIdeal.main_arg2) = m' ((c : Thread QkvDwReferenceIdeal.nD QkvDwReferenceIdeal.τ).loc QkvDwReferenceIdeal.main_arg2) :=
  (θ_run _ _ _).mono (fun r h c => ⟨(h c).1.trans ((QkvDwReferenceIdeal.Read.val_main_v9_eq (F := Ideal) _ _).trans
    (funext fun i => (congrArg (QkvDwReferenceIdeal.Read.val_main_v9 (F := Ideal) _ _) (ix2_of i)).trans ((ref_at _ _ _ _).trans
      (congrArg (whole (m' ((c : Thread QkvDwReferenceIdeal.nD QkvDwReferenceIdeal.τ).loc QkvDwReferenceIdeal.main_arg0)) (m' ((c : Thread QkvDwReferenceIdeal.nD QkvDwReferenceIdeal.τ).loc QkvDwReferenceIdeal.main_arg2))) (ix2_of i).symm)))), (h c).2⟩) (QkvDwReferenceIdeal.Value.run m' g')

theorem ref_frame (m' : (ℓ : Loc QkvDwReferenceIdeal.nD QkvDwReferenceIdeal.τ QkvDwReferenceIdeal.sig) → Buf (Elt Ideal) ℓ) (g' : Dev QkvDwReferenceIdeal.nD → PrngReg) :
    θ_run (QkvDwReferenceIdeal.defs (F := Ideal)) (onTc (τ := QkvDwReferenceIdeal.τ) (QkvDwReferenceIdeal.main (F := Ideal))) ⟨m', fun _ => 0, g'⟩ fun r => (∀ c : Dev QkvDwReferenceIdeal.nD,
      r.2.mem ((c : Thread QkvDwReferenceIdeal.nD QkvDwReferenceIdeal.τ).loc QkvDwReferenceIdeal.main_arg0) = m' ((c : Thread QkvDwReferenceIdeal.nD QkvDwReferenceIdeal.τ).loc QkvDwReferenceIdeal.main_arg0)
      ∧ r.2.mem ((c : Thread QkvDwReferenceIdeal.nD QkvDwReferenceIdeal.τ).loc QkvDwReferenceIdeal.main_arg1) = m' ((c : Thread QkvDwReferenceIdeal.nD QkvDwReferenceIdeal.τ).loc QkvDwReferenceIdeal.main_arg1)
      ∧ r.2.mem ((c : Thread QkvDwReferenceIdeal.nD QkvDwReferenceIdeal.τ).loc QkvDwReferenceIdeal.main_arg2) = m' ((c : Thread QkvDwReferenceIdeal.nD QkvDwReferenceIdeal.τ).loc QkvDwReferenceIdeal.main_arg2))
      ∧ r.2.sem = fun _ => 0 :=
  (θ_run _ _ _).mono (fun r h => ⟨fun c => (h c).2, sem_eq_zero_of_no_sems (by decide) r.2⟩) (QkvDwReferenceIdeal.Value.run m' g')

theorem agrees : algebraic_QkvDwIdeal_QkvDwReferenceIdeal (hQkvDwIdeal := Gen.facts) (hQkvDwReferenceIdeal := QkvDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread QkvDwReferenceIdeal.nD QkvDwReferenceIdeal.τ).loc QkvDwReferenceIdeal.main_arg0)) (m' ((c : Thread QkvDwReferenceIdeal.nD QkvDwReferenceIdeal.τ).loc QkvDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.QkvDw
-- ==== Proof.MmQkvFwd.lean ====
/-
  A product with the weights, as the kernel accumulates it.
-/
module

public import proofs.«01_k».proof.Defs
public import proofs.«01_k».proof.Proof.Mm
public import proofs.«01_k».proof.Proof.Gen.QkvFwd.Frame
public import proofs.«01_k».proof.Proof.Gen.QkvFwdIdeal.Value
public import proofs.«01_k».proof.Proof.Gen.QkvFwdReferenceIdeal.Read
public import proofs.«01_k».proof.Proof.Gen.QkvFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.QkvFwd

open Cert.QkvFwdIdeal Cert.QkvFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x1 : S1024x9216.Idx → EReal) (i : Fin 4096) (j : Fin 9216) (k : Fin 1024) : EReal := x0 (ix2 i k) * x1 (ix2 k j)

/-- The product, by its entries. -/
def whole (x0 : S4096x1024.Idx → EReal) (x1 : S1024x9216.Idx → EReal) (y : S4096x9216.Idx) : EReal := (∑ k, terms x0 x1 (y 0) (y 1) k)

theorem ref_at (x0 : S4096x1024.Idx → EReal) (x1 : S1024x9216.Idx → EReal) (i : Fin 4096) (j : Fin 9216) :
    QkvFwdReferenceIdeal.Read.val_main_v3 (F := Ideal) x0 x1 (ix2 i j) = whole x0 x1 (ix2 i j) := by
  pointwise [QkvFwdReferenceIdeal.Read.val_main_v3, QkvFwdReferenceIdeal.Read.val_main_v2, QkvFwdReferenceIdeal.Read.val_main_v0, QkvFwdReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 9216 → Fin 1024 → EReal := terms (m ((c : Thread nD τ).loc main_arg0)) (m ((c : Thread nD τ).loc main_arg1))

def row (i : Fin 1024) : Fin 4096 := ⟨1024 * (t.val / 9) + i.val, by have : t.val < 36 := t.isLt; omega⟩
def col (j : Fin 1024) : Fin 9216 := ⟨1024 * (t.val / 1 % 9) + j.val, by omega⟩

theorem index_of : ∀ t : Fin cfg0.N,
    win0_0.index t = ![t.val / 9, t.val % 1] ∧ win0_1.index t = ![t.val / 1 % 9, t.val % 1] ∧ win0_2.index t = ![t.val / 9, t.val / 1 % 9] :=
  (by decide +kernel : ∀ t : Fin grid0.N,
    win0_0.index t = ![t.val / 9, t.val % 1] ∧ win0_1.index t = ![t.val / 1 % 9, t.val % 1] ∧ win0_2.index t = ![t.val / 9, t.val / 1 % 9])

def pa : FVec Ideal S1024x1024 .bf16 := iblk m c 0 t
def pb : FVec Ideal S1024x1024 .bf16 := iblk m c 1 t

theorem pa_at (q : Fin 1024) (i : Fin 1024) :
    pa m c t (ix2 i q) = m ((c : Thread nD τ).loc main_arg0) (ix2 (row t i) ⟨1024 * (t.val % 1) + q.val, by omega⟩) := by
  show iblk m c 0 t (ix2 i q) = _
  blk_ext! [iblk, V, index_of t, row]

theorem pb_at (q : Fin 1024) (j : Fin 1024) :
    pb m c t (ix2 j q) = m ((c : Thread nD τ).loc main_arg1) (ix2 ⟨1024 * (t.val % 1) + q.val, by omega⟩ (col t j)) := by
  show iblk m c 1 t (ix2 j q) = _
  blk_ext! [iblk, V, index_of t, col]

theorem dot_at (i : Fin 1024) (j : Fin 1024) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1024 .bf16 := out0_2 (iblk m c 0 t) (iblk m c 1 t)

theorem out_pt (i : Fin 1024) (j : Fin 1024) :
    po m c t (ix2 i j) = (∑ q : Fin 1024, pa m c t (ix2 i q) * pb m c t (ix2 j q)) := by
  unfold po
  frame_out
  pointwise [k0_pay1]
  all_goals rfl

theorem out_at (i : Fin 1024) (j : Fin 1024) : po m c t (ix2 i j) = (∑ k, g m c (row t i) (col t j) k) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1024.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 1024 * (t.val / 9) + (y 0).val := by
    blk_simp [index_of t]
    omega
  have e1 : ((((cfg0.win 2).blk t).view.emb y) 1 : ℕ) = 1024 * (t.val / 1 % 9) + (y 1).val := by
    blk_simp [index_of t]
    omega
  refine (congrArg (po m c t) (ix2_of y)).trans ((out_at m c t (y 0) (y 1)).trans ?_)
  exact congrArg₂ (fun (i : Fin 4096) (j : Fin 9216) => (∑ k, g m c i j k)) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_run (m' : (ℓ : Loc QkvFwdReferenceIdeal.nD QkvFwdReferenceIdeal.τ QkvFwdReferenceIdeal.sig) → Buf (Elt Ideal) ℓ) (g' : Dev QkvFwdReferenceIdeal.nD → PrngReg) :
    θ_run (QkvFwdReferenceIdeal.defs (F := Ideal)) (onTc (τ := QkvFwdReferenceIdeal.τ) (QkvFwdReferenceIdeal.main (F := Ideal))) ⟨m', fun _ => 0, g'⟩ fun r => ∀ c : Dev QkvFwdReferenceIdeal.nD,
      r.2.mem ((c : Thread QkvFwdReferenceIdeal.nD QkvFwdReferenceIdeal.τ).loc QkvFwdReferenceIdeal.main_v3) = whole (m' ((c : Thread QkvFwdReferenceIdeal.nD QkvFwdReferenceIdeal.τ).loc QkvFwdReferenceIdeal.main_arg0)) (m' ((c : Thread QkvFwdReferenceIdeal.nD QkvFwdReferenceIdeal.τ).loc QkvFwdReferenceIdeal.main_arg1))
      ∧ r.2.mem ((c : Thread QkvFwdReferenceIdeal.nD QkvFwdReferenceIdeal.τ).loc QkvFwdReferenceIdeal.main_arg0) = m' ((c : Thread QkvFwdReferenceIdeal.nD QkvFwdReferenceIdeal.τ).loc QkvFwdReferenceIdeal.main_arg0)
      ∧ r.2.mem ((c : Thread QkvFwdReferenceIdeal.nD QkvFwdReferenceIdeal.τ).loc QkvFwdReferenceIdeal.main_arg1) = m' ((c : Thread QkvFwdReferenceIdeal.nD QkvFwdReferenceIdeal.τ).loc QkvFwdReferenceIdeal.main_arg1) :=
  (θ_run _ _ _).mono (fun r h c => ⟨(h c).1.trans ((QkvFwdReferenceIdeal.Read.val_main_v3_eq (F := Ideal) _ _).trans
    (funext fun i => (congrArg (QkvFwdReferenceIdeal.Read.val_main_v3 (F := Ideal) _ _) (ix2_of i)).trans ((ref_at _ _ _ _).trans
      (congrArg (whole (m' ((c : Thread QkvFwdReferenceIdeal.nD QkvFwdReferenceIdeal.τ).loc QkvFwdReferenceIdeal.main_arg0)) (m' ((c : Thread QkvFwdReferenceIdeal.nD QkvFwdReferenceIdeal.τ).loc QkvFwdReferenceIdeal.main_arg1))) (ix2_of i).symm)))), (h c).2⟩) (QkvFwdReferenceIdeal.Value.run m' g')

theorem ref_frame (m' : (ℓ : Loc QkvFwdReferenceIdeal.nD QkvFwdReferenceIdeal.τ QkvFwdReferenceIdeal.sig) → Buf (Elt Ideal) ℓ) (g' : Dev QkvFwdReferenceIdeal.nD → PrngReg) :
    θ_run (QkvFwdReferenceIdeal.defs (F := Ideal)) (onTc (τ := QkvFwdReferenceIdeal.τ) (QkvFwdReferenceIdeal.main (F := Ideal))) ⟨m', fun _ => 0, g'⟩ fun r => (∀ c : Dev QkvFwdReferenceIdeal.nD,
      r.2.mem ((c : Thread QkvFwdReferenceIdeal.nD QkvFwdReferenceIdeal.τ).loc QkvFwdReferenceIdeal.main_arg0) = m' ((c : Thread QkvFwdReferenceIdeal.nD QkvFwdReferenceIdeal.τ).loc QkvFwdReferenceIdeal.main_arg0)
      ∧ r.2.mem ((c : Thread QkvFwdReferenceIdeal.nD QkvFwdReferenceIdeal.τ).loc QkvFwdReferenceIdeal.main_arg1) = m' ((c : Thread QkvFwdReferenceIdeal.nD QkvFwdReferenceIdeal.τ).loc QkvFwdReferenceIdeal.main_arg1))
      ∧ r.2.sem = fun _ => 0 :=
  (θ_run _ _ _).mono (fun r h => ⟨fun c => (h c).2, sem_eq_zero_of_no_sems (by decide) r.2⟩) (QkvFwdReferenceIdeal.Value.run m' g')

theorem agrees : algebraic_QkvFwdIdeal_QkvFwdReferenceIdeal (hQkvFwdIdeal := Gen.facts) (hQkvFwdReferenceIdeal := QkvFwdReferenceIdeal.Gen.facts) := by
  intro m r m' r' _ hm
  refine ⟨fun c => whole (m ((c : Thread nD τ).loc main_arg0)) (m ((c : Thread nD τ).loc main_arg1)), (θ_run _ _ _).mono (fun _ h c => ⟨(h c).1.trans (arr m c), (h c).2⟩) (Value.run_blocks m r), ?_⟩
  refine (θ_run _ _ _).mono (fun _ h c => ?_) (ref_run m' r')
  have e : whole (m' ((c : Thread QkvFwdReferenceIdeal.nD QkvFwdReferenceIdeal.τ).loc QkvFwdReferenceIdeal.main_arg0)) (m' ((c : Thread QkvFwdReferenceIdeal.nD QkvFwdReferenceIdeal.τ).loc QkvFwdReferenceIdeal.main_arg1)) = whole (m ((c : Thread nD τ).loc main_arg0)) (m ((c : Thread nD τ).loc main_arg1)) := by
    obtain ⟨h0, h1⟩ := hm c
    rw [h0, h1]
  exact ⟨(h c).1.trans e, (h c).2⟩

end Cert.Mm.QkvFwd
-- ==== Proof.MmGuDa.lean ====
/-
  The gradient of a product with respect to its left operand, as the kernel accumulates it.
-/
module

public import proofs.«01_k».proof.Defs
public import proofs.«01_k».proof.Proof.Mm
public import proofs.«01_k».proof.Proof.Gen.GuDa.Frame
public import proofs.«01_k».proof.Proof.Gen.GuDaIdeal.Value
public import proofs.«01_k».proof.Proof.Gen.GuDaReferenceIdeal.Read
public import proofs.«01_k».proof.Proof.Gen.GuDaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.GuDa

open Cert.GuDaIdeal Cert.GuDaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S1024x5632.Idx → EReal) (x2 : S4096x5632.Idx → EReal) (i : Fin 4096) (j : Fin 1024) (k : Fin 5632) : EReal := x2 (ix2 i k) * x1 (ix2 j k)

/-- The product, by its entries. -/
def whole (x1 : S1024x5632.Idx → EReal) (x2 : S4096x5632.Idx → EReal) (y : S4096x1024.Idx) : EReal := (∑ k, terms x1 x2 (y 0) (y 1) k)

theorem ref_at (x1 : S1024x5632.Idx → EReal) (x2 : S4096x5632.Idx → EReal) (i : Fin 4096) (j : Fin 1024) :
    GuDaReferenceIdeal.Read.val_main_v8 (F := Ideal) x1 x2 (ix2 i j) = whole x1 x2 (ix2 i j) := by
  pointwise [GuDaReferenceIdeal.Read.val_main_v8, GuDaReferenceIdeal.Read.val_main_v6, GuDaReferenceIdeal.Read.val_main_v3, GuDaReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 5632 → EReal := terms (m ((c : Thread nD τ).loc main_arg1)) (m ((c : Thread nD τ).loc main_arg2))

def row (i : Fin 1024) : Fin 4096 := ⟨1024 * (t.val / 4) + i.val, by have : t.val < 16 := t.isLt; omega⟩
def col (j : Fin 1024) : Fin 1024 := ⟨1024 * (t.val / 4 % 1) + j.val, by omega⟩

theorem index_of : ∀ t : Fin cfg0.N,
    win0_0.index t = ![t.val / 4, t.val % 4] ∧ win0_1.index t = ![t.val % 4, t.val / 4 % 1] ∧ win0_2.index t = ![t.val / 4, t.val / 4 % 1] :=
  (by decide +kernel : ∀ t : Fin grid0.N,
    win0_0.index t = ![t.val / 4, t.val % 4] ∧ win0_1.index t = ![t.val % 4, t.val / 4 % 1] ∧ win0_2.index t = ![t.val / 4, t.val / 4 % 1])

def pa : FVec Ideal S1024x1408 .bf16 := iblk m c 0 t
def pb : FVec Ideal S1408x1024 .bf16 := iblk m c 1 t

theorem pa_at (q : Fin 1408) (i : Fin 1024) :
    pa m c t (ix2 i q) = m ((c : Thread nD τ).loc main_arg2) (ix2 (row t i) ⟨1408 * (t.val % 4) + q.val, by omega⟩) := by
  show iblk m c 0 t (ix2 i q) = _
  blk_ext! [iblk, V, index_of t, row]

theorem pb_at (q : Fin 1408) (j : Fin 1024) :
    pb m c t (ix2 q j) = m ((c : Thread nD τ).loc main_arg1) (ix2 (col t j) ⟨1408 * (t.val % 4) + q.val, by omega⟩) := by
  show iblk m c 1 t (ix2 q j) = _
  blk_ext! [iblk, V, index_of t, col]

theorem dot_at (i : Fin 1024) (j : Fin 1024) (n : ℕ) (h : t.val % 4 = n) :
    ∑ q : Fin 1408, pa m c t (ix2 i q) * pb m c t (ix2 q j)
      = ∑ q : Fin 1408, g m c (row t i) (col t j) ⟨1408 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1024) (j : Fin 1024) :
    (outsAt0 m c t.val t.isLt).2 (ix2 i j) = ∑ q : Fin 1408, pa m c t (ix2 i q) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1408, pa m c t (ix2 i q) * pb m c t (ix2 q j) := by
  rw [Gen.outsAt0_B m c t h (by omega) h']
  dsimp only
  frame_out
  pointwise [k0_pay2]
  rw [read_unread_whole]
  rfl

theorem out_last (h : t.val % 4 = 3) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1408, pa m c t (ix2 i q) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1024) (j : Fin 1024),
    (outsAt0 m c n hn).2 (ix2 i j) = part 1408 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1024) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1408 _ 4 rfl, part_succ _ _ 3 (by omega)]
  exact congrArg (· + _) ih

theorem block_at (hf : (cfg0.win 2).flush t = true) (y : S1024x1024.Idx) :
    (outsAt0 m c t.val t.isLt).1 y = whole (m ((c : Thread nD τ).loc main_arg1)) (m ((c : Thread nD τ).loc main_arg2)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 4096) (j : Fin 1024) => (∑ k, g m c i j k)) (Fin.ext e0.symm) (Fin.ext e1.symm)

theorem arr : (dats m 0 c).arrAt 2 cfg0.N = whole (m ((c : Thread nD τ).loc main_arg1)) (m ((c : Thread nD τ).loc main_arg2)) :=
  (dats m 0 c).arrAt_eq_of_covers 2 _ (by decide +kernel) fun t hf y => (congrFun (after0_2 m c t) y).trans (block_at m c t hf y)

theorem ref_run (m' : (ℓ : Loc GuDaReferenceIdeal.nD GuDaReferenceIdeal.τ GuDaReferenceIdeal.sig) → Buf (Elt Ideal) ℓ) (g' : Dev GuDaReferenceIdeal.nD → PrngReg) :
    θ_run (GuDaReferenceIdeal.defs (F := Ideal)) (onTc (τ := GuDaReferenceIdeal.τ) (GuDaReferenceIdeal.main (F := Ideal))) ⟨m', fun _ => 0, g'⟩ fun r => ∀ c : Dev GuDaReferenceIdeal.nD,
      r.2.mem ((c : Thread GuDaReferenceIdeal.nD GuDaReferenceIdeal.τ).loc GuDaReferenceIdeal.main_v8) = whole (m' ((c : Thread GuDaReferenceIdeal.nD GuDaReferenceIdeal.τ).loc GuDaReferenceIdeal.main_arg1)) (m' ((c : Thread GuDaReferenceIdeal.nD GuDaReferenceIdeal.τ).loc GuDaReferenceIdeal.main_arg2))
      ∧ r.2.mem ((c : Thread GuDaReferenceIdeal.nD GuDaReferenceIdeal.τ).loc GuDaReferenceIdeal.main_arg0) = m' ((c : Thread GuDaReferenceIdeal.nD GuDaReferenceIdeal.τ).loc GuDaReferenceIdeal.main_arg0)
      ∧ r.2.mem ((c : Thread GuDaReferenceIdeal.nD GuDaReferenceIdeal.τ).loc GuDaReferenceIdeal.main_arg1) = m' ((c : Thread GuDaReferenceIdeal.nD GuDaReferenceIdeal.τ).loc GuDaReferenceIdeal.main_arg1)
      ∧ r.2.mem ((c : Thread GuDaReferenceIdeal.nD GuDaReferenceIdeal.τ).loc GuDaReferenceIdeal.main_arg2) = m' ((c : Thread GuDaReferenceIdeal.nD GuDaReferenceIdeal.τ).loc GuDaReferenceIdeal.main_arg2) :=
  (θ_run _ _ _).mono (fun r h c => ⟨(h c).1.trans ((GuDaReferenceIdeal.Read.val_main_v8_eq (F := Ideal) _ _).trans
    (funext fun i => (congrArg (GuDaReferenceIdeal.Read.val_main_v8 (F := Ideal) _ _) (ix2_of i)).trans ((ref_at _ _ _ _).trans
      (congrArg (whole (m' ((c : Thread GuDaReferenceIdeal.nD GuDaReferenceIdeal.τ).loc GuDaReferenceIdeal.main_arg1)) (m' ((c : Thread GuDaReferenceIdeal.nD GuDaReferenceIdeal.τ).loc GuDaReferenceIdeal.main_arg2))) (ix2_of i).symm)))), (h c).2⟩) (GuDaReferenceIdeal.Value.run m' g')

theorem ref_frame (m' : (ℓ : Loc GuDaReferenceIdeal.nD GuDaReferenceIdeal.τ GuDaReferenceIdeal.sig) → Buf (Elt Ideal) ℓ) (g' : Dev GuDaReferenceIdeal.nD → PrngReg) :
    θ_run (GuDaReferenceIdeal.defs (F := Ideal)) (onTc (τ := GuDaReferenceIdeal.τ) (GuDaReferenceIdeal.main (F := Ideal))) ⟨m', fun _ => 0, g'⟩ fun r => (∀ c : Dev GuDaReferenceIdeal.nD,
      r.2.mem ((c : Thread GuDaReferenceIdeal.nD GuDaReferenceIdeal.τ).loc GuDaReferenceIdeal.main_arg0) = m' ((c : Thread GuDaReferenceIdeal.nD GuDaReferenceIdeal.τ).loc GuDaReferenceIdeal.main_arg0)
      ∧ r.2.mem ((c : Thread GuDaReferenceIdeal.nD GuDaReferenceIdeal.τ).loc GuDaReferenceIdeal.main_arg1) = m' ((c : Thread GuDaReferenceIdeal.nD GuDaReferenceIdeal.τ).loc GuDaReferenceIdeal.main_arg1)
      ∧ r.2.mem ((c : Thread GuDaReferenceIdeal.nD GuDaReferenceIdeal.τ).loc GuDaReferenceIdeal.main_arg2) = m' ((c : Thread GuDaReferenceIdeal.nD GuDaReferenceIdeal.τ).loc GuDaReferenceIdeal.main_arg2))
      ∧ r.2.sem = fun _ => 0 :=
  (θ_run _ _ _).mono (fun r h => ⟨fun c => (h c).2, sem_eq_zero_of_no_sems (by decide) r.2⟩) (GuDaReferenceIdeal.Value.run m' g')

theorem agrees : algebraic_GuDaIdeal_GuDaReferenceIdeal (hGuDaIdeal := Gen.facts) (hGuDaReferenceIdeal := GuDaReferenceIdeal.Gen.facts) := by
  intro m r m' r' _ hm
  refine ⟨fun c => whole (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread GuDaReferenceIdeal.nD GuDaReferenceIdeal.τ).loc GuDaReferenceIdeal.main_arg1)) (m' ((c : Thread GuDaReferenceIdeal.nD GuDaReferenceIdeal.τ).loc GuDaReferenceIdeal.main_arg2)) = whole (m ((c : Thread nD τ).loc main_arg1)) (m ((c : Thread nD τ).loc main_arg2)) := by
    obtain ⟨h0, h1, h2⟩ := hm c
    rw [h1, h2]
  exact ⟨(h c).1.trans e, (h c).2⟩

end Cert.Mm.GuDa
-- ==== Proof.MmGuDw.lean ====
/-
  The gradient of a product with respect to the weights, as the kernel accumulates it.
-/
module

public import proofs.«01_k».proof.Defs
public import proofs.«01_k».proof.Proof.Mm
public import proofs.«01_k».proof.Proof.Gen.GuDw.Frame
public import proofs.«01_k».proof.Proof.Gen.GuDwIdeal.Value
public import proofs.«01_k».proof.Proof.Gen.GuDwReferenceIdeal.Read
public import proofs.«01_k».proof.Proof.Gen.GuDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.GuDw

open Cert.GuDwIdeal Cert.GuDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x2 : S4096x5632.Idx → EReal) (i : Fin 5632) (j : Fin 1024) (k : Fin 4096) : EReal := x2 (ix2 k i) * x0 (ix2 k j)

/-- The product, by its entries. -/
def whole (x0 : S4096x1024.Idx → EReal) (x2 : S4096x5632.Idx → EReal) (y : S5632x1024.Idx) : EReal := (∑ k, terms x0 x2 (y 0) (y 1) k)

theorem ref_at (x0 : S4096x1024.Idx → EReal) (x2 : S4096x5632.Idx → EReal) (i : Fin 5632) (j : Fin 1024) :
    GuDwReferenceIdeal.Read.val_main_v9 (F := Ideal) x0 x2 (ix2 i j) = whole x0 x2 (ix2 i j) := by
  pointwise [GuDwReferenceIdeal.Read.val_main_v9, GuDwReferenceIdeal.Read.val_main_v8, GuDwReferenceIdeal.Read.val_main_v5, GuDwReferenceIdeal.Read.val_main_v4, GuDwReferenceIdeal.Read.val_main_v3, GuDwReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 5632 → Fin 1024 → Fin 4096 → EReal := terms (m ((c : Thread nD τ).loc main_arg0)) (m ((c : Thread nD τ).loc main_arg2))

def row (i : Fin 1408) : Fin 5632 := ⟨1408 * (t.val / 4) + i.val, by have : t.val < 16 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1408 .bf16 := iblk m c 0 t
def pb : FVec Ideal S1024x1024 .bf16 := iblk m c 1 t

theorem pa_at (q : Fin 1024) (i : Fin 1408) :
    pa m c t (ix2 q i) = m ((c : Thread nD τ).loc main_arg2) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg0) (ix2 ⟨1024 * (t.val % 4) + q.val, by omega⟩ (col t j)) := by
  show iblk m c 1 t (ix2 q j) = _
  blk_ext! [iblk, V, index_of t, col]

theorem dot_at (i : Fin 1408) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1408) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1408) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1408) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1408) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1408) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1408x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1408 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 5632) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc GuDwReferenceIdeal.nD GuDwReferenceIdeal.τ GuDwReferenceIdeal.sig) → Buf (Elt Ideal) ℓ) (g' : Dev GuDwReferenceIdeal.nD → PrngReg) :
    θ_run (GuDwReferenceIdeal.defs (F := Ideal)) (onTc (τ := GuDwReferenceIdeal.τ) (GuDwReferenceIdeal.main (F := Ideal))) ⟨m', fun _ => 0, g'⟩ fun r => ∀ c : Dev GuDwReferenceIdeal.nD,
      r.2.mem ((c : Thread GuDwReferenceIdeal.nD GuDwReferenceIdeal.τ).loc GuDwReferenceIdeal.main_v9) = whole (m' ((c : Thread GuDwReferenceIdeal.nD GuDwReferenceIdeal.τ).loc GuDwReferenceIdeal.main_arg0)) (m' ((c : Thread GuDwReferenceIdeal.nD GuDwReferenceIdeal.τ).loc GuDwReferenceIdeal.main_arg2))
      ∧ r.2.mem ((c : Thread GuDwReferenceIdeal.nD GuDwReferenceIdeal.τ).loc GuDwReferenceIdeal.main_arg0) = m' ((c : Thread GuDwReferenceIdeal.nD GuDwReferenceIdeal.τ).loc GuDwReferenceIdeal.main_arg0)
      ∧ r.2.mem ((c : Thread GuDwReferenceIdeal.nD GuDwReferenceIdeal.τ).loc GuDwReferenceIdeal.main_arg1) = m' ((c : Thread GuDwReferenceIdeal.nD GuDwReferenceIdeal.τ).loc GuDwReferenceIdeal.main_arg1)
      ∧ r.2.mem ((c : Thread GuDwReferenceIdeal.nD GuDwReferenceIdeal.τ).loc GuDwReferenceIdeal.main_arg2) = m' ((c : Thread GuDwReferenceIdeal.nD GuDwReferenceIdeal.τ).loc GuDwReferenceIdeal.main_arg2) :=
  (θ_run _ _ _).mono (fun r h c => ⟨(h c).1.trans ((GuDwReferenceIdeal.Read.val_main_v9_eq (F := Ideal) _ _).trans
    (funext fun i => (congrArg (GuDwReferenceIdeal.Read.val_main_v9 (F := Ideal) _ _) (ix2_of i)).trans ((ref_at _ _ _ _).trans
      (congrArg (whole (m' ((c : Thread GuDwReferenceIdeal.nD GuDwReferenceIdeal.τ).loc GuDwReferenceIdeal.main_arg0)) (m' ((c : Thread GuDwReferenceIdeal.nD GuDwReferenceIdeal.τ).loc GuDwReferenceIdeal.main_arg2))) (ix2_of i).symm)))), (h c).2⟩) (GuDwReferenceIdeal.Value.run m' g')

theorem ref_frame (m' : (ℓ : Loc GuDwReferenceIdeal.nD GuDwReferenceIdeal.τ GuDwReferenceIdeal.sig) → Buf (Elt Ideal) ℓ) (g' : Dev GuDwReferenceIdeal.nD → PrngReg) :
    θ_run (GuDwReferenceIdeal.defs (F := Ideal)) (onTc (τ := GuDwReferenceIdeal.τ) (GuDwReferenceIdeal.main (F := Ideal))) ⟨m', fun _ => 0, g'⟩ fun r => (∀ c : Dev GuDwReferenceIdeal.nD,
      r.2.mem ((c : Thread GuDwReferenceIdeal.nD GuDwReferenceIdeal.τ).loc GuDwReferenceIdeal.main_arg0) = m' ((c : Thread GuDwReferenceIdeal.nD GuDwReferenceIdeal.τ).loc GuDwReferenceIdeal.main_arg0)
      ∧ r.2.mem ((c : Thread GuDwReferenceIdeal.nD GuDwReferenceIdeal.τ).loc GuDwReferenceIdeal.main_arg1) = m' ((c : Thread GuDwReferenceIdeal.nD GuDwReferenceIdeal.τ).loc GuDwReferenceIdeal.main_arg1)
      ∧ r.2.mem ((c : Thread GuDwReferenceIdeal.nD GuDwReferenceIdeal.τ).loc GuDwReferenceIdeal.main_arg2) = m' ((c : Thread GuDwReferenceIdeal.nD GuDwReferenceIdeal.τ).loc GuDwReferenceIdeal.main_arg2))
      ∧ r.2.sem = fun _ => 0 :=
  (θ_run _ _ _).mono (fun r h => ⟨fun c => (h c).2, sem_eq_zero_of_no_sems (by decide) r.2⟩) (GuDwReferenceIdeal.Value.run m' g')

theorem agrees : algebraic_GuDwIdeal_GuDwReferenceIdeal (hGuDwIdeal := Gen.facts) (hGuDwReferenceIdeal := GuDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread GuDwReferenceIdeal.nD GuDwReferenceIdeal.τ).loc GuDwReferenceIdeal.main_arg0)) (m' ((c : Thread GuDwReferenceIdeal.nD GuDwReferenceIdeal.τ).loc GuDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.GuDw
-- ==== Proof.MmGuFwd.lean ====
/-
  A product with the weights, as the kernel accumulates it.
-/
module

public import proofs.«01_k».proof.Defs
public import proofs.«01_k».proof.Proof.Mm
public import proofs.«01_k».proof.Proof.Gen.GuFwd.Frame
public import proofs.«01_k».proof.Proof.Gen.GuFwdIdeal.Value
public import proofs.«01_k».proof.Proof.Gen.GuFwdReferenceIdeal.Read
public import proofs.«01_k».proof.Proof.Gen.GuFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.GuFwd

open Cert.GuFwdIdeal Cert.GuFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x1 : S1024x5632.Idx → EReal) (i : Fin 4096) (j : Fin 5632) (k : Fin 1024) : EReal := x0 (ix2 i k) * x1 (ix2 k j)

/-- The product, by its entries. -/
def whole (x0 : S4096x1024.Idx → EReal) (x1 : S1024x5632.Idx → EReal) (y : S4096x5632.Idx) : EReal := (∑ k, terms x0 x1 (y 0) (y 1) k)

theorem ref_at (x0 : S4096x1024.Idx → EReal) (x1 : S1024x5632.Idx → EReal) (i : Fin 4096) (j : Fin 5632) :
    GuFwdReferenceIdeal.Read.val_main_v3 (F := Ideal) x0 x1 (ix2 i j) = whole x0 x1 (ix2 i j) := by
  pointwise [GuFwdReferenceIdeal.Read.val_main_v3, GuFwdReferenceIdeal.Read.val_main_v2, GuFwdReferenceIdeal.Read.val_main_v0, GuFwdReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 5632 → Fin 1024 → EReal := terms (m ((c : Thread nD τ).loc main_arg0)) (m ((c : Thread nD τ).loc main_arg1))

def row (i : Fin 1024) : Fin 4096 := ⟨1024 * (t.val / 4) + i.val, by have : t.val < 16 := t.isLt; omega⟩
def col (j : Fin 1408) : Fin 5632 := ⟨1408 * (t.val / 1 % 4) + j.val, by omega⟩

theorem index_of : ∀ t : Fin cfg0.N,
    win0_0.index t = ![t.val / 4, t.val % 1] ∧ win0_1.index t = ![t.val / 1 % 4, t.val % 1] ∧ win0_2.index t = ![t.val / 4, t.val / 1 % 4] :=
  (by decide +kernel : ∀ t : Fin grid0.N,
    win0_0.index t = ![t.val / 4, t.val % 1] ∧ win0_1.index t = ![t.val / 1 % 4, t.val % 1] ∧ win0_2.index t = ![t.val / 4, t.val / 1 % 4])

def pa : FVec Ideal S1024x1024 .bf16 := iblk m c 0 t
def pb : FVec Ideal S1408x1024 .bf16 := iblk m c 1 t

theorem pa_at (q : Fin 1024) (i : Fin 1024) :
    pa m c t (ix2 i q) = m ((c : Thread nD τ).loc main_arg0) (ix2 (row t i) ⟨1024 * (t.val % 1) + q.val, by omega⟩) := by
  show iblk m c 0 t (ix2 i q) = _
  blk_ext! [iblk, V, index_of t, row]

theorem pb_at (q : Fin 1024) (j : Fin 1408) :
    pb m c t (ix2 j q) = m ((c : Thread nD τ).loc main_arg1) (ix2 ⟨1024 * (t.val % 1) + q.val, by omega⟩ (col t j)) := by
  show iblk m c 1 t (ix2 j q) = _
  blk_ext! [iblk, V, index_of t, col]

theorem dot_at (i : Fin 1024) (j : Fin 1408) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1408 .bf16 := out0_2 (iblk m c 0 t) (iblk m c 1 t)

theorem out_pt (i : Fin 1024) (j : Fin 1408) :
    po m c t (ix2 i j) = (∑ q : Fin 1024, pa m c t (ix2 i q) * pb m c t (ix2 j q)) := by
  unfold po
  frame_out
  pointwise [k0_pay1]
  all_goals rfl

theorem out_at (i : Fin 1024) (j : Fin 1408) : po m c t (ix2 i j) = (∑ k, g m c (row t i) (col t j) k) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1408.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 1408 * (t.val / 1 % 4) + (y 1).val := by
    blk_simp [index_of t]
    omega
  refine (congrArg (po m c t) (ix2_of y)).trans ((out_at m c t (y 0) (y 1)).trans ?_)
  exact congrArg₂ (fun (i : Fin 4096) (j : Fin 5632) => (∑ k, g m c i j k)) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_run (m' : (ℓ : Loc GuFwdReferenceIdeal.nD GuFwdReferenceIdeal.τ GuFwdReferenceIdeal.sig) → Buf (Elt Ideal) ℓ) (g' : Dev GuFwdReferenceIdeal.nD → PrngReg) :
    θ_run (GuFwdReferenceIdeal.defs (F := Ideal)) (onTc (τ := GuFwdReferenceIdeal.τ) (GuFwdReferenceIdeal.main (F := Ideal))) ⟨m', fun _ => 0, g'⟩ fun r => ∀ c : Dev GuFwdReferenceIdeal.nD,
      r.2.mem ((c : Thread GuFwdReferenceIdeal.nD GuFwdReferenceIdeal.τ).loc GuFwdReferenceIdeal.main_v3) = whole (m' ((c : Thread GuFwdReferenceIdeal.nD GuFwdReferenceIdeal.τ).loc GuFwdReferenceIdeal.main_arg0)) (m' ((c : Thread GuFwdReferenceIdeal.nD GuFwdReferenceIdeal.τ).loc GuFwdReferenceIdeal.main_arg1))
      ∧ r.2.mem ((c : Thread GuFwdReferenceIdeal.nD GuFwdReferenceIdeal.τ).loc GuFwdReferenceIdeal.main_arg0) = m' ((c : Thread GuFwdReferenceIdeal.nD GuFwdReferenceIdeal.τ).loc GuFwdReferenceIdeal.main_arg0)
      ∧ r.2.mem ((c : Thread GuFwdReferenceIdeal.nD GuFwdReferenceIdeal.τ).loc GuFwdReferenceIdeal.main_arg1) = m' ((c : Thread GuFwdReferenceIdeal.nD GuFwdReferenceIdeal.τ).loc GuFwdReferenceIdeal.main_arg1) :=
  (θ_run _ _ _).mono (fun r h c => ⟨(h c).1.trans ((GuFwdReferenceIdeal.Read.val_main_v3_eq (F := Ideal) _ _).trans
    (funext fun i => (congrArg (GuFwdReferenceIdeal.Read.val_main_v3 (F := Ideal) _ _) (ix2_of i)).trans ((ref_at _ _ _ _).trans
      (congrArg (whole (m' ((c : Thread GuFwdReferenceIdeal.nD GuFwdReferenceIdeal.τ).loc GuFwdReferenceIdeal.main_arg0)) (m' ((c : Thread GuFwdReferenceIdeal.nD GuFwdReferenceIdeal.τ).loc GuFwdReferenceIdeal.main_arg1))) (ix2_of i).symm)))), (h c).2⟩) (GuFwdReferenceIdeal.Value.run m' g')

theorem ref_frame (m' : (ℓ : Loc GuFwdReferenceIdeal.nD GuFwdReferenceIdeal.τ GuFwdReferenceIdeal.sig) → Buf (Elt Ideal) ℓ) (g' : Dev GuFwdReferenceIdeal.nD → PrngReg) :
    θ_run (GuFwdReferenceIdeal.defs (F := Ideal)) (onTc (τ := GuFwdReferenceIdeal.τ) (GuFwdReferenceIdeal.main (F := Ideal))) ⟨m', fun _ => 0, g'⟩ fun r => (∀ c : Dev GuFwdReferenceIdeal.nD,
      r.2.mem ((c : Thread GuFwdReferenceIdeal.nD GuFwdReferenceIdeal.τ).loc GuFwdReferenceIdeal.main_arg0) = m' ((c : Thread GuFwdReferenceIdeal.nD GuFwdReferenceIdeal.τ).loc GuFwdReferenceIdeal.main_arg0)
      ∧ r.2.mem ((c : Thread GuFwdReferenceIdeal.nD GuFwdReferenceIdeal.τ).loc GuFwdReferenceIdeal.main_arg1) = m' ((c : Thread GuFwdReferenceIdeal.nD GuFwdReferenceIdeal.τ).loc GuFwdReferenceIdeal.main_arg1))
      ∧ r.2.sem = fun _ => 0 :=
  (θ_run _ _ _).mono (fun r h => ⟨fun c => (h c).2, sem_eq_zero_of_no_sems (by decide) r.2⟩) (GuFwdReferenceIdeal.Value.run m' g')

theorem agrees : algebraic_GuFwdIdeal_GuFwdReferenceIdeal (hGuFwdIdeal := Gen.facts) (hGuFwdReferenceIdeal := GuFwdReferenceIdeal.Gen.facts) := by
  intro m r m' r' _ hm
  refine ⟨fun c => whole (m ((c : Thread nD τ).loc main_arg0)) (m ((c : Thread nD τ).loc main_arg1)), (θ_run _ _ _).mono (fun _ h c => ⟨(h c).1.trans (arr m c), (h c).2⟩) (Value.run_blocks m r), ?_⟩
  refine (θ_run _ _ _).mono (fun _ h c => ?_) (ref_run m' r')
  have e : whole (m' ((c : Thread GuFwdReferenceIdeal.nD GuFwdReferenceIdeal.τ).loc GuFwdReferenceIdeal.main_arg0)) (m' ((c : Thread GuFwdReferenceIdeal.nD GuFwdReferenceIdeal.τ).loc GuFwdReferenceIdeal.main_arg1)) = whole (m ((c : Thread nD τ).loc main_arg0)) (m ((c : Thread nD τ).loc main_arg1)) := by
    obtain ⟨h0, h1⟩ := hm c
    rw [h0, h1]
  exact ⟨(h c).1.trans e, (h c).2⟩

end Cert.Mm.GuFwd
-- ==== Proof.MmDownDa.lean ====
/-
  The gradient of a product with respect to its left operand, as the kernel accumulates it.
-/
module

public import proofs.«01_k».proof.Defs
public import proofs.«01_k».proof.Proof.Mm
public import proofs.«01_k».proof.Proof.Gen.DownDa.Frame
public import proofs.«01_k».proof.Proof.Gen.DownDaIdeal.Value
public import proofs.«01_k».proof.Proof.Gen.DownDaReferenceIdeal.Read
public import proofs.«01_k».proof.Proof.Gen.DownDaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.DownDa

open Cert.DownDaIdeal Cert.DownDaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S2816x1024.Idx → EReal) (x2 : S4096x1024.Idx → EReal) (i : Fin 4096) (j : Fin 2816) (k : Fin 1024) : EReal := x2 (ix2 i k) * x1 (ix2 j k)

/-- The product, by its entries. -/
def whole (x1 : S2816x1024.Idx → EReal) (x2 : S4096x1024.Idx → EReal) (y : S4096x2816.Idx) : EReal := (∑ k, terms x1 x2 (y 0) (y 1) k)

theorem ref_at (x1 : S2816x1024.Idx → EReal) (x2 : S4096x1024.Idx → EReal) (i : Fin 4096) (j : Fin 2816) :
    DownDaReferenceIdeal.Read.val_main_v7 (F := Ideal) x1 x2 (ix2 i j) = whole x1 x2 (ix2 i j) := by
  pointwise [DownDaReferenceIdeal.Read.val_main_v7, DownDaReferenceIdeal.Read.val_main_v5, DownDaReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 2816 → Fin 1024 → EReal := terms (m ((c : Thread nD τ).loc main_arg1)) (m ((c : Thread nD τ).loc main_arg2))

def row (i : Fin 1024) : Fin 4096 := ⟨1024 * (t.val / 2) + i.val, by have : t.val < 8 := t.isLt; omega⟩
def col (j : Fin 1408) : Fin 2816 := ⟨1408 * (t.val / 1 % 2) + j.val, by omega⟩

theorem index_of : ∀ t : Fin cfg0.N,
    win0_0.index t = ![t.val / 2, t.val % 1] ∧ win0_1.index t = ![t.val / 1 % 2, t.val % 1] ∧ win0_2.index t = ![t.val / 2, t.val / 1 % 2] :=
  (by decide +kernel : ∀ t : Fin grid0.N,
    win0_0.index t = ![t.val / 2, t.val % 1] ∧ win0_1.index t = ![t.val / 1 % 2, t.val % 1] ∧ win0_2.index t = ![t.val / 2, t.val / 1 % 2])

def pa : FVec Ideal S1024x1024 .f32 := iblk m c 0 t
def pb : FVec Ideal S1408x1024 .bf16 := iblk m c 1 t

theorem pa_at (q : Fin 1024) (i : Fin 1024) :
    pa m c t (ix2 i q) = m ((c : Thread nD τ).loc main_arg2) (ix2 (row t i) ⟨1024 * (t.val % 1) + q.val, by omega⟩) := by
  show iblk m c 0 t (ix2 i q) = _
  blk_ext! [iblk, V, index_of t, row]

theorem pb_at (q : Fin 1024) (j : Fin 1408) :
    pb m c t (ix2 j q) = m ((c : Thread nD τ).loc main_arg1) (ix2 (col t j) ⟨1024 * (t.val % 1) + q.val, by omega⟩) := by
  show iblk m c 1 t (ix2 j q) = _
  blk_ext! [iblk, V, index_of t, col]

theorem dot_at (i : Fin 1024) (j : Fin 1408) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1408 .bf16 := out0_2 (iblk m c 0 t) (iblk m c 1 t)

theorem out_pt (i : Fin 1024) (j : Fin 1408) :
    po m c t (ix2 i j) = (∑ q : Fin 1024, pa m c t (ix2 i q) * pb m c t (ix2 j q)) := by
  unfold po
  frame_out
  pointwise [k0_pay1]
  all_goals rfl

theorem out_at (i : Fin 1024) (j : Fin 1408) : po m c t (ix2 i j) = (∑ k, g m c (row t i) (col t j) k) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1408.Idx) :
    (po m c t) y = whole (m ((c : Thread nD τ).loc main_arg1)) (m ((c : Thread nD τ).loc main_arg2)) (((cfg0.win 2).blk t).view.emb y) := by
  have e0 : ((((cfg0.win 2).blk t).view.emb y) 0 : ℕ) = 1024 * (t.val / 2) + (y 0).val := by
    blk_simp [index_of t]
    omega
  have e1 : ((((cfg0.win 2).blk t).view.emb y) 1 : ℕ) = 1408 * (t.val / 1 % 2) + (y 1).val := by
    blk_simp [index_of t]
    omega
  refine (congrArg (po m c t) (ix2_of y)).trans ((out_at m c t (y 0) (y 1)).trans ?_)
  exact congrArg₂ (fun (i : Fin 4096) (j : Fin 2816) => (∑ k, g m c i j k)) (Fin.ext e0.symm) (Fin.ext e1.symm)

theorem arr : (dats m 0 c).arrAt 2 cfg0.N = whole (m ((c : Thread nD τ).loc main_arg1)) (m ((c : Thread nD τ).loc main_arg2)) :=
  (dats m 0 c).arrAt_eq_of_covers 2 _ (by decide +kernel) fun t hf y => (congrFun (after0_2 m c t) y).trans (block_at m c t y)

theorem ref_run (m' : (ℓ : Loc DownDaReferenceIdeal.nD DownDaReferenceIdeal.τ DownDaReferenceIdeal.sig) → Buf (Elt Ideal) ℓ) (g' : Dev DownDaReferenceIdeal.nD → PrngReg) :
    θ_run (DownDaReferenceIdeal.defs (F := Ideal)) (onTc (τ := DownDaReferenceIdeal.τ) (DownDaReferenceIdeal.main (F := Ideal))) ⟨m', fun _ => 0, g'⟩ fun r => ∀ c : Dev DownDaReferenceIdeal.nD,
      r.2.mem ((c : Thread DownDaReferenceIdeal.nD DownDaReferenceIdeal.τ).loc DownDaReferenceIdeal.main_v7) = whole (m' ((c : Thread DownDaReferenceIdeal.nD DownDaReferenceIdeal.τ).loc DownDaReferenceIdeal.main_arg1)) (m' ((c : Thread DownDaReferenceIdeal.nD DownDaReferenceIdeal.τ).loc DownDaReferenceIdeal.main_arg2))
      ∧ r.2.mem ((c : Thread DownDaReferenceIdeal.nD DownDaReferenceIdeal.τ).loc DownDaReferenceIdeal.main_arg0) = m' ((c : Thread DownDaReferenceIdeal.nD DownDaReferenceIdeal.τ).loc DownDaReferenceIdeal.main_arg0)
      ∧ r.2.mem ((c : Thread DownDaReferenceIdeal.nD DownDaReferenceIdeal.τ).loc DownDaReferenceIdeal.main_arg1) = m' ((c : Thread DownDaReferenceIdeal.nD DownDaReferenceIdeal.τ).loc DownDaReferenceIdeal.main_arg1)
      ∧ r.2.mem ((c : Thread DownDaReferenceIdeal.nD DownDaReferenceIdeal.τ).loc DownDaReferenceIdeal.main_arg2) = m' ((c : Thread DownDaReferenceIdeal.nD DownDaReferenceIdeal.τ).loc DownDaReferenceIdeal.main_arg2) :=
  (θ_run _ _ _).mono (fun r h c => ⟨(h c).1.trans ((DownDaReferenceIdeal.Read.val_main_v7_eq (F := Ideal) _ _).trans
    (funext fun i => (congrArg (DownDaReferenceIdeal.Read.val_main_v7 (F := Ideal) _ _) (ix2_of i)).trans ((ref_at _ _ _ _).trans
      (congrArg (whole (m' ((c : Thread DownDaReferenceIdeal.nD DownDaReferenceIdeal.τ).loc DownDaReferenceIdeal.main_arg1)) (m' ((c : Thread DownDaReferenceIdeal.nD DownDaReferenceIdeal.τ).loc DownDaReferenceIdeal.main_arg2))) (ix2_of i).symm)))), (h c).2⟩) (DownDaReferenceIdeal.Value.run m' g')

theorem ref_frame (m' : (ℓ : Loc DownDaReferenceIdeal.nD DownDaReferenceIdeal.τ DownDaReferenceIdeal.sig) → Buf (Elt Ideal) ℓ) (g' : Dev DownDaReferenceIdeal.nD → PrngReg) :
    θ_run (DownDaReferenceIdeal.defs (F := Ideal)) (onTc (τ := DownDaReferenceIdeal.τ) (DownDaReferenceIdeal.main (F := Ideal))) ⟨m', fun _ => 0, g'⟩ fun r => (∀ c : Dev DownDaReferenceIdeal.nD,
      r.2.mem ((c : Thread DownDaReferenceIdeal.nD DownDaReferenceIdeal.τ).loc DownDaReferenceIdeal.main_arg0) = m' ((c : Thread DownDaReferenceIdeal.nD DownDaReferenceIdeal.τ).loc DownDaReferenceIdeal.main_arg0)
      ∧ r.2.mem ((c : Thread DownDaReferenceIdeal.nD DownDaReferenceIdeal.τ).loc DownDaReferenceIdeal.main_arg1) = m' ((c : Thread DownDaReferenceIdeal.nD DownDaReferenceIdeal.τ).loc DownDaReferenceIdeal.main_arg1)
      ∧ r.2.mem ((c : Thread DownDaReferenceIdeal.nD DownDaReferenceIdeal.τ).loc DownDaReferenceIdeal.main_arg2) = m' ((c : Thread DownDaReferenceIdeal.nD DownDaReferenceIdeal.τ).loc DownDaReferenceIdeal.main_arg2))
      ∧ r.2.sem = fun _ => 0 :=
  (θ_run _ _ _).mono (fun r h => ⟨fun c => (h c).2, sem_eq_zero_of_no_sems (by decide) r.2⟩) (DownDaReferenceIdeal.Value.run m' g')

theorem agrees : algebraic_DownDaIdeal_DownDaReferenceIdeal (hDownDaIdeal := Gen.facts) (hDownDaReferenceIdeal := DownDaReferenceIdeal.Gen.facts) := by
  intro m r m' r' _ hm
  refine ⟨fun c => whole (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread DownDaReferenceIdeal.nD DownDaReferenceIdeal.τ).loc DownDaReferenceIdeal.main_arg1)) (m' ((c : Thread DownDaReferenceIdeal.nD DownDaReferenceIdeal.τ).loc DownDaReferenceIdeal.main_arg2)) = whole (m ((c : Thread nD τ).loc main_arg1)) (m ((c : Thread nD τ).loc main_arg2)) := by
    obtain ⟨h0, h1, h2⟩ := hm c
    rw [h1, h2]
  exact ⟨(h c).1.trans e, (h c).2⟩

end Cert.Mm.DownDa
-- ==== Proof.MmDownDw.lean ====
/-
  The gradient of a product with respect to the weights, as the kernel accumulates it.
-/
module

public import proofs.«01_k».proof.Defs
public import proofs.«01_k».proof.Proof.Mm
public import proofs.«01_k».proof.Proof.Gen.DownDw.Frame
public import proofs.«01_k».proof.Proof.Gen.DownDwIdeal.Value
public import proofs.«01_k».proof.Proof.Gen.DownDwReferenceIdeal.Read
public import proofs.«01_k».proof.Proof.Gen.DownDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.DownDw

open Cert.DownDwIdeal Cert.DownDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x2816.Idx → EReal) (x2 : S4096x1024.Idx → EReal) (i : Fin 2816) (j : Fin 1024) (k : Fin 4096) : EReal := x0 (ix2 k i) * x2 (ix2 k j)

/-- The product, by its entries. -/
def whole (x0 : S4096x2816.Idx → EReal) (x2 : S4096x1024.Idx → EReal) (y : S2816x1024.Idx) : EReal := (∑ k, terms x0 x2 (y 0) (y 1) k)

theorem ref_at (x0 : S4096x2816.Idx → EReal) (x2 : S4096x1024.Idx → EReal) (i : Fin 2816) (j : Fin 1024) :
    DownDwReferenceIdeal.Read.val_main_v7 (F := Ideal) x0 x2 (ix2 i j) = whole x0 x2 (ix2 i j) := by
  pointwise [DownDwReferenceIdeal.Read.val_main_v7, DownDwReferenceIdeal.Read.val_main_v4, DownDwReferenceIdeal.Read.val_main_v3, DownDwReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 2816 → Fin 1024 → Fin 4096 → EReal := terms (m ((c : Thread nD τ).loc main_arg0)) (m ((c : Thread nD τ).loc main_arg2))

def row (i : Fin 1408) : Fin 2816 := ⟨1408 * (t.val / 4) + i.val, by have : t.val < 8 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1408 .bf16 := iblk m c 0 t
def pb : FVec Ideal S1024x1024 .f32 := iblk m c 1 t

theorem pa_at (q : Fin 1024) (i : Fin 1408) :
    pa m c t (ix2 q i) = m ((c : Thread nD τ).loc main_arg0) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg2) (ix2 ⟨1024 * (t.val % 4) + q.val, by omega⟩ (col t j)) := by
  show iblk m c 1 t (ix2 q j) = _
  blk_ext! [iblk, V, index_of t, col]

theorem dot_at (i : Fin 1408) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1408) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1408) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1408) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1408) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1408) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1408x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1408 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 2816) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc DownDwReferenceIdeal.nD DownDwReferenceIdeal.τ DownDwReferenceIdeal.sig) → Buf (Elt Ideal) ℓ) (g' : Dev DownDwReferenceIdeal.nD → PrngReg) :
    θ_run (DownDwReferenceIdeal.defs (F := Ideal)) (onTc (τ := DownDwReferenceIdeal.τ) (DownDwReferenceIdeal.main (F := Ideal))) ⟨m', fun _ => 0, g'⟩ fun r => ∀ c : Dev DownDwReferenceIdeal.nD,
      r.2.mem ((c : Thread DownDwReferenceIdeal.nD DownDwReferenceIdeal.τ).loc DownDwReferenceIdeal.main_v7) = whole (m' ((c : Thread DownDwReferenceIdeal.nD DownDwReferenceIdeal.τ).loc DownDwReferenceIdeal.main_arg0)) (m' ((c : Thread DownDwReferenceIdeal.nD DownDwReferenceIdeal.τ).loc DownDwReferenceIdeal.main_arg2))
      ∧ r.2.mem ((c : Thread DownDwReferenceIdeal.nD DownDwReferenceIdeal.τ).loc DownDwReferenceIdeal.main_arg0) = m' ((c : Thread DownDwReferenceIdeal.nD DownDwReferenceIdeal.τ).loc DownDwReferenceIdeal.main_arg0)
      ∧ r.2.mem ((c : Thread DownDwReferenceIdeal.nD DownDwReferenceIdeal.τ).loc DownDwReferenceIdeal.main_arg1) = m' ((c : Thread DownDwReferenceIdeal.nD DownDwReferenceIdeal.τ).loc DownDwReferenceIdeal.main_arg1)
      ∧ r.2.mem ((c : Thread DownDwReferenceIdeal.nD DownDwReferenceIdeal.τ).loc DownDwReferenceIdeal.main_arg2) = m' ((c : Thread DownDwReferenceIdeal.nD DownDwReferenceIdeal.τ).loc DownDwReferenceIdeal.main_arg2) :=
  (θ_run _ _ _).mono (fun r h c => ⟨(h c).1.trans ((DownDwReferenceIdeal.Read.val_main_v7_eq (F := Ideal) _ _).trans
    (funext fun i => (congrArg (DownDwReferenceIdeal.Read.val_main_v7 (F := Ideal) _ _) (ix2_of i)).trans ((ref_at _ _ _ _).trans
      (congrArg (whole (m' ((c : Thread DownDwReferenceIdeal.nD DownDwReferenceIdeal.τ).loc DownDwReferenceIdeal.main_arg0)) (m' ((c : Thread DownDwReferenceIdeal.nD DownDwReferenceIdeal.τ).loc DownDwReferenceIdeal.main_arg2))) (ix2_of i).symm)))), (h c).2⟩) (DownDwReferenceIdeal.Value.run m' g')

theorem ref_frame (m' : (ℓ : Loc DownDwReferenceIdeal.nD DownDwReferenceIdeal.τ DownDwReferenceIdeal.sig) → Buf (Elt Ideal) ℓ) (g' : Dev DownDwReferenceIdeal.nD → PrngReg) :
    θ_run (DownDwReferenceIdeal.defs (F := Ideal)) (onTc (τ := DownDwReferenceIdeal.τ) (DownDwReferenceIdeal.main (F := Ideal))) ⟨m', fun _ => 0, g'⟩ fun r => (∀ c : Dev DownDwReferenceIdeal.nD,
      r.2.mem ((c : Thread DownDwReferenceIdeal.nD DownDwReferenceIdeal.τ).loc DownDwReferenceIdeal.main_arg0) = m' ((c : Thread DownDwReferenceIdeal.nD DownDwReferenceIdeal.τ).loc DownDwReferenceIdeal.main_arg0)
      ∧ r.2.mem ((c : Thread DownDwReferenceIdeal.nD DownDwReferenceIdeal.τ).loc DownDwReferenceIdeal.main_arg1) = m' ((c : Thread DownDwReferenceIdeal.nD DownDwReferenceIdeal.τ).loc DownDwReferenceIdeal.main_arg1)
      ∧ r.2.mem ((c : Thread DownDwReferenceIdeal.nD DownDwReferenceIdeal.τ).loc DownDwReferenceIdeal.main_arg2) = m' ((c : Thread DownDwReferenceIdeal.nD DownDwReferenceIdeal.τ).loc DownDwReferenceIdeal.main_arg2))
      ∧ r.2.sem = fun _ => 0 :=
  (θ_run _ _ _).mono (fun r h => ⟨fun c => (h c).2, sem_eq_zero_of_no_sems (by decide) r.2⟩) (DownDwReferenceIdeal.Value.run m' g')

theorem agrees : algebraic_DownDwIdeal_DownDwReferenceIdeal (hDownDwIdeal := Gen.facts) (hDownDwReferenceIdeal := DownDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread DownDwReferenceIdeal.nD DownDwReferenceIdeal.τ).loc DownDwReferenceIdeal.main_arg0)) (m' ((c : Thread DownDwReferenceIdeal.nD DownDwReferenceIdeal.τ).loc DownDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.DownDw
-- ==== Proof.MmDownFwd.lean ====
/-
  A product with the weights, as the kernel accumulates it.
-/
module

public import proofs.«01_k».proof.Defs
public import proofs.«01_k».proof.Proof.Mm
public import proofs.«01_k».proof.Proof.Gen.DownFwd.Frame
public import proofs.«01_k».proof.Proof.Gen.DownFwdIdeal.Value
public import proofs.«01_k».proof.Proof.Gen.DownFwdReferenceIdeal.Read
public import proofs.«01_k».proof.Proof.Gen.DownFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.DownFwd

open Cert.DownFwdIdeal Cert.DownFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x2816.Idx → EReal) (x1 : S2816x1024.Idx → EReal) (x2 : S4096x1024.Idx → EReal) (i : Fin 4096) (j : Fin 1024) (k : Fin 2816) : EReal := x0 (ix2 i k) * x1 (ix2 k j)

/-- The product and what is added to it, by its entries. -/
def whole (x0 : S4096x2816.Idx → EReal) (x1 : S2816x1024.Idx → EReal) (x2 : S4096x1024.Idx → EReal) (y : S4096x1024.Idx) : EReal := (∑ k, terms x0 x1 x2 (y 0) (y 1) k) + x2 (ix2 (y 0) (y 1))

theorem ref_at (x0 : S4096x2816.Idx → EReal) (x1 : S2816x1024.Idx → EReal) (x2 : S4096x1024.Idx → EReal) (i : Fin 4096) (j : Fin 1024) :
    DownFwdReferenceIdeal.Read.val_main_v3 (F := Ideal) x0 x1 x2 (ix2 i j) = whole x0 x1 x2 (ix2 i j) := by
  pointwise [DownFwdReferenceIdeal.Read.val_main_v3, DownFwdReferenceIdeal.Read.val_main_v2, DownFwdReferenceIdeal.Read.val_main_v0, DownFwdReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 2816 → EReal := terms (m ((c : Thread nD τ).loc main_arg0)) (m ((c : Thread nD τ).loc main_arg1)) (m ((c : Thread nD τ).loc main_arg2))

def row (i : Fin 1024) : Fin 4096 := ⟨1024 * (t.val / 2) + i.val, by have : t.val < 8 := t.isLt; omega⟩
def col (j : Fin 1024) : Fin 1024 := ⟨1024 * (t.val / 2 % 1) + j.val, by omega⟩

theorem index_of : ∀ t : Fin cfg0.N,
    win0_0.index t = ![t.val / 2, t.val % 2] ∧ win0_1.index t = ![t.val % 2, t.val / 2 % 1] ∧ win0_2.index t = ![t.val / 2, t.val / 2 % 1] ∧ win0_3.index t = ![t.val / 2, t.val / 2 % 1] :=
  (by decide +kernel : ∀ t : Fin grid0.N,
    win0_0.index t = ![t.val / 2, t.val % 2] ∧ win0_1.index t = ![t.val % 2, t.val / 2 % 1] ∧ win0_2.index t = ![t.val / 2, t.val / 2 % 1] ∧ win0_3.index t = ![t.val / 2, t.val / 2 % 1])

def pa : FVec Ideal S1024x1408 .bf16 := iblk m c 0 t
def pb : FVec Ideal S1408x1024 .bf16 := iblk m c 1 t
def pc : FVec Ideal S1024x1024 .f32 := iblk m c 2 t

theorem pa_at (q : Fin 1408) (i : Fin 1024) :
    pa m c t (ix2 i q) = m ((c : Thread nD τ).loc main_arg0) (ix2 (row t i) ⟨1408 * (t.val % 2) + q.val, by omega⟩) := by
  show iblk m c 0 t (ix2 i q) = _
  blk_ext! [iblk, V, index_of t, row]

theorem pb_at (q : Fin 1408) (j : Fin 1024) :
    pb m c t (ix2 q j) = m ((c : Thread nD τ).loc main_arg1) (ix2 ⟨1408 * (t.val % 2) + q.val, by omega⟩ (col t j)) := by
  show iblk m c 1 t (ix2 q j) = _
  blk_ext! [iblk, V, index_of t, col]

theorem pc_at (i : Fin 1024) (j : Fin 1024) : pc m c t (ix2 i j) = m ((c : Thread nD τ).loc main_arg2) (ix2 (row t i) (col t j)) := by
  show iblk m c 2 t (ix2 i j) = _
  blk_ext! [iblk, V, index_of t, row, col]

theorem dot_at (i : Fin 1024) (j : Fin 1024) (n : ℕ) (h : t.val % 2 = n) :
    ∑ q : Fin 1408, pa m c t (ix2 i q) * pb m c t (ix2 q j)
      = ∑ q : Fin 1408, g m c (row t i) (col t j) ⟨1408 * n + q.val, by omega⟩ := by
  subst h
  exact Finset.sum_congr rfl fun q _ => congrArg₂ (· * ·) (pa_at m c t q i) (pb_at m c t q j)

theorem flush_of : ∀ t : Fin cfg0.N, (cfg0.win 3).flush t = true → t.val % 2 = 1 :=
  (by decide +kernel : ∀ t : Fin grid0.N, win0_3.flush t = true → t.val % 2 = 1)

theorem acc_A (h : t.val % 2 = 0) (i : Fin 1024) (j : Fin 1024) :
    (outsAt0 m c t.val t.isLt).2 (ix2 i j) = ∑ q : Fin 1408, pa m c t (ix2 i q) * pb m c t (ix2 q j) := by
  rw [Gen.outsAt0_A m c t h (by omega)]
  dsimp only
  frame_out
  pointwise [k0_pay1]
  all_goals rfl

theorem out_last (h : t.val % 2 = 1) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1408, pa m c t (ix2 i q) * pb m c t (ix2 q j)) + pc m c t (ix2 i j) := by
  rw [Gen.outsAt0_B m c t (by omega) h]
  dsimp only
  frame_out
  pointwise [k0_pay3]
  rw [read_unread_whole]
  rfl

/-- After the first points of a run the scratch holds the partial sums. -/
theorem scratch_at : ∀ (n : ℕ) (hn : n < cfg0.N) (_ : ¬ n % 2 = 1) (i : Fin 1024) (j : Fin 1024),
    (outsAt0 m c n hn).2 (ix2 i j) = part 1408 (g m c (row ⟨n, hn⟩ i) (col ⟨n, hn⟩ j)) (n % 2 + 1)
  | n, hn, h3, i, j => by
    have h0 : n % 2 = 0 := by omega
    rw [acc_A m c ⟨n, hn⟩ h0 i j, dot_at m c ⟨n, hn⟩ i j 0 h0, h0, part_one _ _ (by omega)]

/-- The last point of a run writes the whole sums. -/
theorem out_at (h : t.val % 2 = 1) (i : Fin 1024) (j : Fin 1024) :
    (outsAt0 m c t.val t.isLt).1 (ix2 i j) = (∑ k, g m c (row t i) (col t j) k) + m ((c : Thread nD τ).loc main_arg2) (ix2 (row t i) (col t j)) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 2 + 1 = 1 := by omega
  rw [er, ec, en] at ih
  rw [out_last m c t h i j, dot_at m c t i j 1 h, ← part_all 1408 _ 2 rfl, part_succ _ _ 1 (by omega)]
  exact congrArg₂ (· + ·) (congrArg (· + _) ih) (pc_at m c t i j)

theorem block_at (hf : (cfg0.win 3).flush t = true) (y : S1024x1024.Idx) :
    (outsAt0 m c t.val t.isLt).1 y = whole (m ((c : Thread nD τ).loc main_arg0)) (m ((c : Thread nD τ).loc main_arg1)) (m ((c : Thread nD τ).loc main_arg2)) (((cfg0.win 3).blk t).view.emb y) := by
  have e0 : ((((cfg0.win 3).blk t).view.emb y) 0 : ℕ) = 1024 * (t.val / 2) + (y 0).val := by
    blk_simp [index_of t]
    omega
  have e1 : ((((cfg0.win 3).blk t).view.emb y) 1 : ℕ) = 1024 * (t.val / 2 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 4096) (j : Fin 1024) => (∑ k, g m c i j k) + m ((c : Thread nD τ).loc main_arg2) (ix2 i j)) (Fin.ext e0.symm) (Fin.ext e1.symm)

theorem arr : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t hf y => (congrFun (after0_3 m c t) y).trans (block_at m c t hf y)

theorem ref_run (m' : (ℓ : Loc DownFwdReferenceIdeal.nD DownFwdReferenceIdeal.τ DownFwdReferenceIdeal.sig) → Buf (Elt Ideal) ℓ) (g' : Dev DownFwdReferenceIdeal.nD → PrngReg) :
    θ_run (DownFwdReferenceIdeal.defs (F := Ideal)) (onTc (τ := DownFwdReferenceIdeal.τ) (DownFwdReferenceIdeal.main (F := Ideal))) ⟨m', fun _ => 0, g'⟩ fun r => ∀ c : Dev DownFwdReferenceIdeal.nD,
      r.2.mem ((c : Thread DownFwdReferenceIdeal.nD DownFwdReferenceIdeal.τ).loc DownFwdReferenceIdeal.main_v3) = whole (m' ((c : Thread DownFwdReferenceIdeal.nD DownFwdReferenceIdeal.τ).loc DownFwdReferenceIdeal.main_arg0)) (m' ((c : Thread DownFwdReferenceIdeal.nD DownFwdReferenceIdeal.τ).loc DownFwdReferenceIdeal.main_arg1)) (m' ((c : Thread DownFwdReferenceIdeal.nD DownFwdReferenceIdeal.τ).loc DownFwdReferenceIdeal.main_arg2))
      ∧ r.2.mem ((c : Thread DownFwdReferenceIdeal.nD DownFwdReferenceIdeal.τ).loc DownFwdReferenceIdeal.main_arg0) = m' ((c : Thread DownFwdReferenceIdeal.nD DownFwdReferenceIdeal.τ).loc DownFwdReferenceIdeal.main_arg0)
      ∧ r.2.mem ((c : Thread DownFwdReferenceIdeal.nD DownFwdReferenceIdeal.τ).loc DownFwdReferenceIdeal.main_arg1) = m' ((c : Thread DownFwdReferenceIdeal.nD DownFwdReferenceIdeal.τ).loc DownFwdReferenceIdeal.main_arg1)
      ∧ r.2.mem ((c : Thread DownFwdReferenceIdeal.nD DownFwdReferenceIdeal.τ).loc DownFwdReferenceIdeal.main_arg2) = m' ((c : Thread DownFwdReferenceIdeal.nD DownFwdReferenceIdeal.τ).loc DownFwdReferenceIdeal.main_arg2) :=
  (θ_run _ _ _).mono (fun r h c => ⟨(h c).1.trans ((DownFwdReferenceIdeal.Read.val_main_v3_eq (F := Ideal) _ _ _).trans
    (funext fun i => (congrArg (DownFwdReferenceIdeal.Read.val_main_v3 (F := Ideal) _ _ _) (ix2_of i)).trans ((ref_at _ _ _ _ _).trans
      (congrArg (whole (m' ((c : Thread DownFwdReferenceIdeal.nD DownFwdReferenceIdeal.τ).loc DownFwdReferenceIdeal.main_arg0)) (m' ((c : Thread DownFwdReferenceIdeal.nD DownFwdReferenceIdeal.τ).loc DownFwdReferenceIdeal.main_arg1)) (m' ((c : Thread DownFwdReferenceIdeal.nD DownFwdReferenceIdeal.τ).loc DownFwdReferenceIdeal.main_arg2))) (ix2_of i).symm)))), (h c).2⟩) (DownFwdReferenceIdeal.Value.run m' g')

theorem ref_frame (m' : (ℓ : Loc DownFwdReferenceIdeal.nD DownFwdReferenceIdeal.τ DownFwdReferenceIdeal.sig) → Buf (Elt Ideal) ℓ) (g' : Dev DownFwdReferenceIdeal.nD → PrngReg) :
    θ_run (DownFwdReferenceIdeal.defs (F := Ideal)) (onTc (τ := DownFwdReferenceIdeal.τ) (DownFwdReferenceIdeal.main (F := Ideal))) ⟨m', fun _ => 0, g'⟩ fun r => (∀ c : Dev DownFwdReferenceIdeal.nD,
      r.2.mem ((c : Thread DownFwdReferenceIdeal.nD DownFwdReferenceIdeal.τ).loc DownFwdReferenceIdeal.main_arg0) = m' ((c : Thread DownFwdReferenceIdeal.nD DownFwdReferenceIdeal.τ).loc DownFwdReferenceIdeal.main_arg0)
      ∧ r.2.mem ((c : Thread DownFwdReferenceIdeal.nD DownFwdReferenceIdeal.τ).loc DownFwdReferenceIdeal.main_arg1) = m' ((c : Thread DownFwdReferenceIdeal.nD DownFwdReferenceIdeal.τ).loc DownFwdReferenceIdeal.main_arg1)
      ∧ r.2.mem ((c : Thread DownFwdReferenceIdeal.nD DownFwdReferenceIdeal.τ).loc DownFwdReferenceIdeal.main_arg2) = m' ((c : Thread DownFwdReferenceIdeal.nD DownFwdReferenceIdeal.τ).loc DownFwdReferenceIdeal.main_arg2))
      ∧ r.2.sem = fun _ => 0 :=
  (θ_run _ _ _).mono (fun r h => ⟨fun c => (h c).2, sem_eq_zero_of_no_sems (by decide) r.2⟩) (DownFwdReferenceIdeal.Value.run m' g')

theorem agrees : algebraic_DownFwdIdeal_DownFwdReferenceIdeal (hDownFwdIdeal := Gen.facts) (hDownFwdReferenceIdeal := DownFwdReferenceIdeal.Gen.facts) := by
  intro m r m' r' _ hm
  refine ⟨fun c => whole (m ((c : Thread nD τ).loc main_arg0)) (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread DownFwdReferenceIdeal.nD DownFwdReferenceIdeal.τ).loc DownFwdReferenceIdeal.main_arg0)) (m' ((c : Thread DownFwdReferenceIdeal.nD DownFwdReferenceIdeal.τ).loc DownFwdReferenceIdeal.main_arg1)) (m' ((c : Thread DownFwdReferenceIdeal.nD DownFwdReferenceIdeal.τ).loc DownFwdReferenceIdeal.main_arg2)) = whole (m ((c : Thread nD τ).loc main_arg0)) (m ((c : Thread nD τ).loc main_arg1)) (m ((c : Thread nD τ).loc main_arg2)) := by
    obtain ⟨h0, h1, h2⟩ := hm c
    rw [h0, h1, h2]
  exact ⟨(h c).1.trans e, (h c).2⟩

end Cert.Mm.DownFwd
-- ==== Proof.MmInDa.lean ====
/-
  The gradient of a product with respect to its left operand, as the kernel accumulates it.
-/
module

public import proofs.«01_k».proof.Defs
public import proofs.«01_k».proof.Proof.Mm
public import proofs.«01_k».proof.Proof.Gen.InDa.Frame
public import proofs.«01_k».proof.Proof.Gen.InDaIdeal.Value
public import proofs.«01_k».proof.Proof.Gen.InDaReferenceIdeal.Read
public import proofs.«01_k».proof.Proof.Gen.InDaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.InDa

open Cert.InDaIdeal Cert.InDaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S1024x5120.Idx → EReal) (x2 : S4096x5120.Idx → EReal) (x3 : S4096x1024.Idx → EReal) (i : Fin 4096) (j : Fin 1024) (k : Fin 5120) : EReal := x2 (ix2 i k) * x1 (ix2 j k)

/-- The product and what is added to it, by its entries. -/
def whole (x1 : S1024x5120.Idx → EReal) (x2 : S4096x5120.Idx → EReal) (x3 : S4096x1024.Idx → EReal) (y : S4096x1024.Idx) : EReal := (∑ k, terms x1 x2 x3 (y 0) (y 1) k) + x3 (ix2 (y 0) (y 1))

theorem ref_at (x1 : S1024x5120.Idx → EReal) (x2 : S4096x5120.Idx → EReal) (x3 : S4096x1024.Idx → EReal) (i : Fin 4096) (j : Fin 1024) :
    InDaReferenceIdeal.Read.val_main_v9 (F := Ideal) x1 x2 x3 (ix2 i j) = whole x1 x2 x3 (ix2 i j) := by
  pointwise [InDaReferenceIdeal.Read.val_main_v9, InDaReferenceIdeal.Read.val_main_v8, InDaReferenceIdeal.Read.val_main_v6, InDaReferenceIdeal.Read.val_main_v3, InDaReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 5120 → EReal := terms (m ((c : Thread nD τ).loc main_arg1)) (m ((c : Thread nD τ).loc main_arg2)) (m ((c : Thread nD τ).loc main_arg3))

def row (i : Fin 1024) : Fin 4096 := ⟨1024 * (t.val / 5) + i.val, by have : t.val < 20 := t.isLt; omega⟩
def col (j : Fin 1024) : Fin 1024 := ⟨1024 * (t.val / 5 % 1) + j.val, by omega⟩

theorem index_of : ∀ t : Fin cfg0.N,
    win0_0.index t = ![t.val / 5, t.val % 5] ∧ win0_1.index t = ![t.val % 5, t.val / 5 % 1] ∧ win0_2.index t = ![t.val / 5, t.val / 5 % 1] ∧ win0_3.index t = ![t.val / 5, t.val / 5 % 1] :=
  (by decide +kernel : ∀ t : Fin grid0.N,
    win0_0.index t = ![t.val / 5, t.val % 5] ∧ win0_1.index t = ![t.val % 5, t.val / 5 % 1] ∧ win0_2.index t = ![t.val / 5, t.val / 5 % 1] ∧ win0_3.index t = ![t.val / 5, t.val / 5 % 1])

def pa : FVec Ideal S1024x1024 .bf16 := iblk m c 0 t
def pb : FVec Ideal S1024x1024 .bf16 := iblk m c 1 t
def pc : FVec Ideal S1024x1024 .f32 := iblk m c 2 t

theorem pa_at (q : Fin 1024) (i : Fin 1024) :
    pa m c t (ix2 i q) = m ((c : Thread nD τ).loc main_arg2) (ix2 (row t i) ⟨1024 * (t.val % 5) + q.val, by omega⟩) := by
  show iblk m c 0 t (ix2 i q) = _
  blk_ext! [iblk, V, index_of t, row]

theorem pb_at (q : Fin 1024) (j : Fin 1024) :
    pb m c t (ix2 q j) = m ((c : Thread nD τ).loc main_arg1) (ix2 (col t j) ⟨1024 * (t.val % 5) + q.val, by omega⟩) := by
  show iblk m c 1 t (ix2 q j) = _
  blk_ext! [iblk, V, index_of t, col]

theorem pc_at (i : Fin 1024) (j : Fin 1024) : pc m c t (ix2 i j) = m ((c : Thread nD τ).loc main_arg3) (ix2 (row t i) (col t j)) := by
  show iblk m c 2 t (ix2 i j) = _
  blk_ext! [iblk, V, index_of t, row, col]

theorem dot_at (i : Fin 1024) (j : Fin 1024) (n : ℕ) (h : t.val % 5 = n) :
    ∑ q : Fin 1024, pa m c t (ix2 i q) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 3).flush t = true → t.val % 5 = 4 :=
  (by decide +kernel : ∀ t : Fin grid0.N, win0_3.flush t = true → t.val % 5 = 4)

theorem acc_A (h : t.val % 5 = 0) (i : Fin 1024) (j : Fin 1024) :
    (outsAt0 m c t.val t.isLt).2 (ix2 i j) = ∑ q : Fin 1024, pa m c t (ix2 i q) * pb m c t (ix2 q j) := by
  rw [Gen.outsAt0_A m c t h (by omega) (by omega)]
  dsimp only
  frame_out
  pointwise [k0_pay1]
  all_goals rfl

theorem acc_B (h : ¬ t.val % 5 = 0) (h' : ¬ t.val % 5 = 4) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 i q) * pb m c t (ix2 q j) := by
  rw [Gen.outsAt0_B m c t h (by omega) h']
  dsimp only
  frame_out
  pointwise [k0_pay2]
  rw [read_unread_whole]
  rfl

theorem out_last (h : t.val % 5 = 4) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 i q) * pb m c t (ix2 q j)) + pc m c t (ix2 i j) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 5 = 4) (i : Fin 1024) (j : Fin 1024),
    (outsAt0 m c n hn).2 (ix2 i j) = part 1024 (g m c (row ⟨n, hn⟩ i) (col ⟨n, hn⟩ j)) (n % 5 + 1)
  | n, hn, h3, i, j => by
    by_cases h0 : n % 5 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 5 + 1 = n % 5 := by omega
      rw [er, ec, en] at ih
      rw [acc_B m c ⟨n, hn⟩ h0 h3 i j, dot_at m c ⟨n, hn⟩ i j (n % 5) rfl, part_succ _ _ _ (by omega)]
      exact congrArg (· + _) ih

/-- The last point of a run writes the whole sums. -/
theorem out_at (h : t.val % 5 = 4) (i : Fin 1024) (j : Fin 1024) :
    (outsAt0 m c t.val t.isLt).1 (ix2 i j) = (∑ k, g m c (row t i) (col t j) k) + m ((c : Thread nD τ).loc main_arg3) (ix2 (row t i) (col t j)) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 5 + 1 = 4 := by omega
  rw [er, ec, en] at ih
  rw [out_last m c t h i j, dot_at m c t i j 4 h, ← part_all 1024 _ 5 rfl, part_succ _ _ 4 (by omega)]
  exact congrArg₂ (· + ·) (congrArg (· + _) ih) (pc_at m c t i j)

theorem block_at (hf : (cfg0.win 3).flush t = true) (y : S1024x1024.Idx) :
    (outsAt0 m c t.val t.isLt).1 y = whole (m ((c : Thread nD τ).loc main_arg1)) (m ((c : Thread nD τ).loc main_arg2)) (m ((c : Thread nD τ).loc main_arg3)) (((cfg0.win 3).blk t).view.emb y) := by
  have e0 : ((((cfg0.win 3).blk t).view.emb y) 0 : ℕ) = 1024 * (t.val / 5) + (y 0).val := by
    blk_simp [index_of t]
    omega
  have e1 : ((((cfg0.win 3).blk t).view.emb y) 1 : ℕ) = 1024 * (t.val / 5 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 4096) (j : Fin 1024) => (∑ k, g m c i j k) + m ((c : Thread nD τ).loc main_arg3) (ix2 i j)) (Fin.ext e0.symm) (Fin.ext e1.symm)

theorem arr : (dats m 0 c).arrAt 3 cfg0.N = whole (m ((c : Thread nD τ).loc main_arg1)) (m ((c : Thread nD τ).loc main_arg2)) (m ((c : Thread nD τ).loc main_arg3)) :=
  (dats m 0 c).arrAt_eq_of_covers 3 _ (by decide +kernel) fun t hf y => (congrFun (after0_3 m c t) y).trans (block_at m c t hf y)

theorem ref_run (m' : (ℓ : Loc InDaReferenceIdeal.nD InDaReferenceIdeal.τ InDaReferenceIdeal.sig) → Buf (Elt Ideal) ℓ) (g' : Dev InDaReferenceIdeal.nD → PrngReg) :
    θ_run (InDaReferenceIdeal.defs (F := Ideal)) (onTc (τ := InDaReferenceIdeal.τ) (InDaReferenceIdeal.main (F := Ideal))) ⟨m', fun _ => 0, g'⟩ fun r => ∀ c : Dev InDaReferenceIdeal.nD,
      r.2.mem ((c : Thread InDaReferenceIdeal.nD InDaReferenceIdeal.τ).loc InDaReferenceIdeal.main_v9) = whole (m' ((c : Thread InDaReferenceIdeal.nD InDaReferenceIdeal.τ).loc InDaReferenceIdeal.main_arg1)) (m' ((c : Thread InDaReferenceIdeal.nD InDaReferenceIdeal.τ).loc InDaReferenceIdeal.main_arg2)) (m' ((c : Thread InDaReferenceIdeal.nD InDaReferenceIdeal.τ).loc InDaReferenceIdeal.main_arg3))
      ∧ r.2.mem ((c : Thread InDaReferenceIdeal.nD InDaReferenceIdeal.τ).loc InDaReferenceIdeal.main_arg0) = m' ((c : Thread InDaReferenceIdeal.nD InDaReferenceIdeal.τ).loc InDaReferenceIdeal.main_arg0)
      ∧ r.2.mem ((c : Thread InDaReferenceIdeal.nD InDaReferenceIdeal.τ).loc InDaReferenceIdeal.main_arg1) = m' ((c : Thread InDaReferenceIdeal.nD InDaReferenceIdeal.τ).loc InDaReferenceIdeal.main_arg1)
      ∧ r.2.mem ((c : Thread InDaReferenceIdeal.nD InDaReferenceIdeal.τ).loc InDaReferenceIdeal.main_arg2) = m' ((c : Thread InDaReferenceIdeal.nD InDaReferenceIdeal.τ).loc InDaReferenceIdeal.main_arg2)
      ∧ r.2.mem ((c : Thread InDaReferenceIdeal.nD InDaReferenceIdeal.τ).loc InDaReferenceIdeal.main_arg3) = m' ((c : Thread InDaReferenceIdeal.nD InDaReferenceIdeal.τ).loc InDaReferenceIdeal.main_arg3) :=
  (θ_run _ _ _).mono (fun r h c => ⟨(h c).1.trans ((InDaReferenceIdeal.Read.val_main_v9_eq (F := Ideal) _ _ _).trans
    (funext fun i => (congrArg (InDaReferenceIdeal.Read.val_main_v9 (F := Ideal) _ _ _) (ix2_of i)).trans ((ref_at _ _ _ _ _).trans
      (congrArg (whole (m' ((c : Thread InDaReferenceIdeal.nD InDaReferenceIdeal.τ).loc InDaReferenceIdeal.main_arg1)) (m' ((c : Thread InDaReferenceIdeal.nD InDaReferenceIdeal.τ).loc InDaReferenceIdeal.main_arg2)) (m' ((c : Thread InDaReferenceIdeal.nD InDaReferenceIdeal.τ).loc InDaReferenceIdeal.main_arg3))) (ix2_of i).symm)))), (h c).2⟩) (InDaReferenceIdeal.Value.run m' g')

theorem ref_frame (m' : (ℓ : Loc InDaReferenceIdeal.nD InDaReferenceIdeal.τ InDaReferenceIdeal.sig) → Buf (Elt Ideal) ℓ) (g' : Dev InDaReferenceIdeal.nD → PrngReg) :
    θ_run (InDaReferenceIdeal.defs (F := Ideal)) (onTc (τ := InDaReferenceIdeal.τ) (InDaReferenceIdeal.main (F := Ideal))) ⟨m', fun _ => 0, g'⟩ fun r => (∀ c : Dev InDaReferenceIdeal.nD,
      r.2.mem ((c : Thread InDaReferenceIdeal.nD InDaReferenceIdeal.τ).loc InDaReferenceIdeal.main_arg0) = m' ((c : Thread InDaReferenceIdeal.nD InDaReferenceIdeal.τ).loc InDaReferenceIdeal.main_arg0)
      ∧ r.2.mem ((c : Thread InDaReferenceIdeal.nD InDaReferenceIdeal.τ).loc InDaReferenceIdeal.main_arg1) = m' ((c : Thread InDaReferenceIdeal.nD InDaReferenceIdeal.τ).loc InDaReferenceIdeal.main_arg1)
      ∧ r.2.mem ((c : Thread InDaReferenceIdeal.nD InDaReferenceIdeal.τ).loc InDaReferenceIdeal.main_arg2) = m' ((c : Thread InDaReferenceIdeal.nD InDaReferenceIdeal.τ).loc InDaReferenceIdeal.main_arg2)
      ∧ r.2.mem ((c : Thread InDaReferenceIdeal.nD InDaReferenceIdeal.τ).loc InDaReferenceIdeal.main_arg3) = m' ((c : Thread InDaReferenceIdeal.nD InDaReferenceIdeal.τ).loc InDaReferenceIdeal.main_arg3))
      ∧ r.2.sem = fun _ => 0 :=
  (θ_run _ _ _).mono (fun r h => ⟨fun c => (h c).2, sem_eq_zero_of_no_sems (by decide) r.2⟩) (InDaReferenceIdeal.Value.run m' g')

theorem agrees : algebraic_InDaIdeal_InDaReferenceIdeal (hInDaIdeal := Gen.facts) (hInDaReferenceIdeal := InDaReferenceIdeal.Gen.facts) := by
  intro m r m' r' _ hm
  refine ⟨fun c => whole (m ((c : Thread nD τ).loc main_arg1)) (m ((c : Thread nD τ).loc main_arg2)) (m ((c : Thread nD τ).loc main_arg3)), (θ_run _ _ _).mono (fun _ h c => ⟨(h c).1.trans (arr m c), (h c).2⟩) (Value.run_blocks m r), ?_⟩
  refine (θ_run _ _ _).mono (fun _ h c => ?_) (ref_run m' r')
  have e : whole (m' ((c : Thread InDaReferenceIdeal.nD InDaReferenceIdeal.τ).loc InDaReferenceIdeal.main_arg1)) (m' ((c : Thread InDaReferenceIdeal.nD InDaReferenceIdeal.τ).loc InDaReferenceIdeal.main_arg2)) (m' ((c : Thread InDaReferenceIdeal.nD InDaReferenceIdeal.τ).loc InDaReferenceIdeal.main_arg3)) = whole (m ((c : Thread nD τ).loc main_arg1)) (m ((c : Thread nD τ).loc main_arg2)) (m ((c : Thread nD τ).loc main_arg3)) := by
    obtain ⟨h0, h1, h2, h3⟩ := hm c
    rw [h1, h2, h3]
  exact ⟨(h c).1.trans e, (h c).2⟩

end Cert.Mm.InDa
-- ==== Proof.MmInDw.lean ====
/-
  The gradient of a product with respect to the weights, as the kernel accumulates it.
-/
module

public import proofs.«01_k».proof.Defs
public import proofs.«01_k».proof.Proof.Mm
public import proofs.«01_k».proof.Proof.Gen.InDw.Frame
public import proofs.«01_k».proof.Proof.Gen.InDwIdeal.Value
public import proofs.«01_k».proof.Proof.Gen.InDwReferenceIdeal.Read
public import proofs.«01_k».proof.Proof.Gen.InDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.InDw

open Cert.InDwIdeal Cert.InDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x2 : S4096x5120.Idx → EReal) (i : Fin 5120) (j : Fin 1024) (k : Fin 4096) : EReal := x2 (ix2 k i) * x0 (ix2 k j)

/-- The product, by its entries. -/
def whole (x0 : S4096x1024.Idx → EReal) (x2 : S4096x5120.Idx → EReal) (y : S5120x1024.Idx) : EReal := (∑ k, terms x0 x2 (y 0) (y 1) k)

theorem ref_at (x0 : S4096x1024.Idx → EReal) (x2 : S4096x5120.Idx → EReal) (i : Fin 5120) (j : Fin 1024) :
    InDwReferenceIdeal.Read.val_main_v9 (F := Ideal) x0 x2 (ix2 i j) = whole x0 x2 (ix2 i j) := by
  pointwise [InDwReferenceIdeal.Read.val_main_v9, InDwReferenceIdeal.Read.val_main_v8, InDwReferenceIdeal.Read.val_main_v5, InDwReferenceIdeal.Read.val_main_v4, InDwReferenceIdeal.Read.val_main_v3, InDwReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 5120 → Fin 1024 → Fin 4096 → EReal := terms (m ((c : Thread nD τ).loc main_arg0)) (m ((c : Thread nD τ).loc main_arg2))

def row (i : Fin 1024) : Fin 5120 := ⟨1024 * (t.val / 4) + i.val, by have : t.val < 20 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1024 .bf16 := iblk m c 0 t
def pb : FVec Ideal S1024x1024 .bf16 := iblk m c 1 t

theorem pa_at (q : Fin 1024) (i : Fin 1024) :
    pa m c t (ix2 q i) = m ((c : Thread nD τ).loc main_arg2) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg0) (ix2 ⟨1024 * (t.val % 4) + q.val, by omega⟩ (col t j)) := by
  show iblk m c 1 t (ix2 q j) = _
  blk_ext! [iblk, V, index_of t, col]

theorem dot_at (i : Fin 1024) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1024) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1024) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1024) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1024x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 5120) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc InDwReferenceIdeal.nD InDwReferenceIdeal.τ InDwReferenceIdeal.sig) → Buf (Elt Ideal) ℓ) (g' : Dev InDwReferenceIdeal.nD → PrngReg) :
    θ_run (InDwReferenceIdeal.defs (F := Ideal)) (onTc (τ := InDwReferenceIdeal.τ) (InDwReferenceIdeal.main (F := Ideal))) ⟨m', fun _ => 0, g'⟩ fun r => ∀ c : Dev InDwReferenceIdeal.nD,
      r.2.mem ((c : Thread InDwReferenceIdeal.nD InDwReferenceIdeal.τ).loc InDwReferenceIdeal.main_v9) = whole (m' ((c : Thread InDwReferenceIdeal.nD InDwReferenceIdeal.τ).loc InDwReferenceIdeal.main_arg0)) (m' ((c : Thread InDwReferenceIdeal.nD InDwReferenceIdeal.τ).loc InDwReferenceIdeal.main_arg2))
      ∧ r.2.mem ((c : Thread InDwReferenceIdeal.nD InDwReferenceIdeal.τ).loc InDwReferenceIdeal.main_arg0) = m' ((c : Thread InDwReferenceIdeal.nD InDwReferenceIdeal.τ).loc InDwReferenceIdeal.main_arg0)
      ∧ r.2.mem ((c : Thread InDwReferenceIdeal.nD InDwReferenceIdeal.τ).loc InDwReferenceIdeal.main_arg1) = m' ((c : Thread InDwReferenceIdeal.nD InDwReferenceIdeal.τ).loc InDwReferenceIdeal.main_arg1)
      ∧ r.2.mem ((c : Thread InDwReferenceIdeal.nD InDwReferenceIdeal.τ).loc InDwReferenceIdeal.main_arg2) = m' ((c : Thread InDwReferenceIdeal.nD InDwReferenceIdeal.τ).loc InDwReferenceIdeal.main_arg2) :=
  (θ_run _ _ _).mono (fun r h c => ⟨(h c).1.trans ((InDwReferenceIdeal.Read.val_main_v9_eq (F := Ideal) _ _).trans
    (funext fun i => (congrArg (InDwReferenceIdeal.Read.val_main_v9 (F := Ideal) _ _) (ix2_of i)).trans ((ref_at _ _ _ _).trans
      (congrArg (whole (m' ((c : Thread InDwReferenceIdeal.nD InDwReferenceIdeal.τ).loc InDwReferenceIdeal.main_arg0)) (m' ((c : Thread InDwReferenceIdeal.nD InDwReferenceIdeal.τ).loc InDwReferenceIdeal.main_arg2))) (ix2_of i).symm)))), (h c).2⟩) (InDwReferenceIdeal.Value.run m' g')

theorem ref_frame (m' : (ℓ : Loc InDwReferenceIdeal.nD InDwReferenceIdeal.τ InDwReferenceIdeal.sig) → Buf (Elt Ideal) ℓ) (g' : Dev InDwReferenceIdeal.nD → PrngReg) :
    θ_run (InDwReferenceIdeal.defs (F := Ideal)) (onTc (τ := InDwReferenceIdeal.τ) (InDwReferenceIdeal.main (F := Ideal))) ⟨m', fun _ => 0, g'⟩ fun r => (∀ c : Dev InDwReferenceIdeal.nD,
      r.2.mem ((c : Thread InDwReferenceIdeal.nD InDwReferenceIdeal.τ).loc InDwReferenceIdeal.main_arg0) = m' ((c : Thread InDwReferenceIdeal.nD InDwReferenceIdeal.τ).loc InDwReferenceIdeal.main_arg0)
      ∧ r.2.mem ((c : Thread InDwReferenceIdeal.nD InDwReferenceIdeal.τ).loc InDwReferenceIdeal.main_arg1) = m' ((c : Thread InDwReferenceIdeal.nD InDwReferenceIdeal.τ).loc InDwReferenceIdeal.main_arg1)
      ∧ r.2.mem ((c : Thread InDwReferenceIdeal.nD InDwReferenceIdeal.τ).loc InDwReferenceIdeal.main_arg2) = m' ((c : Thread InDwReferenceIdeal.nD InDwReferenceIdeal.τ).loc InDwReferenceIdeal.main_arg2))
      ∧ r.2.sem = fun _ => 0 :=
  (θ_run _ _ _).mono (fun r h => ⟨fun c => (h c).2, sem_eq_zero_of_no_sems (by decide) r.2⟩) (InDwReferenceIdeal.Value.run m' g')

theorem agrees : algebraic_InDwIdeal_InDwReferenceIdeal (hInDwIdeal := Gen.facts) (hInDwReferenceIdeal := InDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread InDwReferenceIdeal.nD InDwReferenceIdeal.τ).loc InDwReferenceIdeal.main_arg0)) (m' ((c : Thread InDwReferenceIdeal.nD InDwReferenceIdeal.τ).loc InDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.InDw
-- ==== Proof.MmInFwd.lean ====
/-
  A product with the weights, as the kernel accumulates it.
-/
module

public import proofs.«01_k».proof.Defs
public import proofs.«01_k».proof.Proof.Mm
public import proofs.«01_k».proof.Proof.Gen.InFwd.Frame
public import proofs.«01_k».proof.Proof.Gen.InFwdIdeal.Value
public import proofs.«01_k».proof.Proof.Gen.InFwdReferenceIdeal.Read
public import proofs.«01_k».proof.Proof.Gen.InFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.InFwd

open Cert.InFwdIdeal Cert.InFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x1 : S1024x5120.Idx → EReal) (i : Fin 4096) (j : Fin 5120) (k : Fin 1024) : EReal := x0 (ix2 i k) * x1 (ix2 k j)

/-- The product, by its entries. -/
def whole (x0 : S4096x1024.Idx → EReal) (x1 : S1024x5120.Idx → EReal) (y : S4096x5120.Idx) : EReal := (∑ k, terms x0 x1 (y 0) (y 1) k)

theorem ref_at (x0 : S4096x1024.Idx → EReal) (x1 : S1024x5120.Idx → EReal) (i : Fin 4096) (j : Fin 5120) :
    InFwdReferenceIdeal.Read.val_main_v3 (F := Ideal) x0 x1 (ix2 i j) = whole x0 x1 (ix2 i j) := by
  pointwise [InFwdReferenceIdeal.Read.val_main_v3, InFwdReferenceIdeal.Read.val_main_v2, InFwdReferenceIdeal.Read.val_main_v0, InFwdReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 5120 → Fin 1024 → EReal := terms (m ((c : Thread nD τ).loc main_arg0)) (m ((c : Thread nD τ).loc main_arg1))

def row (i : Fin 1024) : Fin 4096 := ⟨1024 * (t.val / 5) + i.val, by have : t.val < 20 := t.isLt; omega⟩
def col (j : Fin 1024) : Fin 5120 := ⟨1024 * (t.val / 1 % 5) + j.val, by omega⟩

theorem index_of : ∀ t : Fin cfg0.N,
    win0_0.index t = ![t.val / 5, t.val % 1] ∧ win0_1.index t = ![t.val / 1 % 5, t.val % 1] ∧ win0_2.index t = ![t.val / 5, t.val / 1 % 5] :=
  (by decide +kernel : ∀ t : Fin grid0.N,
    win0_0.index t = ![t.val / 5, t.val % 1] ∧ win0_1.index t = ![t.val / 1 % 5, t.val % 1] ∧ win0_2.index t = ![t.val / 5, t.val / 1 % 5])

def pa : FVec Ideal S1024x1024 .bf16 := iblk m c 0 t
def pb : FVec Ideal S1024x1024 .bf16 := iblk m c 1 t

theorem pa_at (q : Fin 1024) (i : Fin 1024) :
    pa m c t (ix2 i q) = m ((c : Thread nD τ).loc main_arg0) (ix2 (row t i) ⟨1024 * (t.val % 1) + q.val, by omega⟩) := by
  show iblk m c 0 t (ix2 i q) = _
  blk_ext! [iblk, V, index_of t, row]

theorem pb_at (q : Fin 1024) (j : Fin 1024) :
    pb m c t (ix2 j q) = m ((c : Thread nD τ).loc main_arg1) (ix2 ⟨1024 * (t.val % 1) + q.val, by omega⟩ (col t j)) := by
  show iblk m c 1 t (ix2 j q) = _
  blk_ext! [iblk, V, index_of t, col]

theorem dot_at (i : Fin 1024) (j : Fin 1024) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1024 .bf16 := out0_2 (iblk m c 0 t) (iblk m c 1 t)

theorem out_pt (i : Fin 1024) (j : Fin 1024) :
    po m c t (ix2 i j) = (∑ q : Fin 1024, pa m c t (ix2 i q) * pb m c t (ix2 j q)) := by
  unfold po
  frame_out
  pointwise [k0_pay1]
  all_goals rfl

theorem out_at (i : Fin 1024) (j : Fin 1024) : po m c t (ix2 i j) = (∑ k, g m c (row t i) (col t j) k) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1024.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 1024 * (t.val / 5) + (y 0).val := by
    blk_simp [index_of t]
    omega
  have e1 : ((((cfg0.win 2).blk t).view.emb y) 1 : ℕ) = 1024 * (t.val / 1 % 5) + (y 1).val := by
    blk_simp [index_of t]
    omega
  refine (congrArg (po m c t) (ix2_of y)).trans ((out_at m c t (y 0) (y 1)).trans ?_)
  exact congrArg₂ (fun (i : Fin 4096) (j : Fin 5120) => (∑ k, g m c i j k)) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_run (m' : (ℓ : Loc InFwdReferenceIdeal.nD InFwdReferenceIdeal.τ InFwdReferenceIdeal.sig) → Buf (Elt Ideal) ℓ) (g' : Dev InFwdReferenceIdeal.nD → PrngReg) :
    θ_run (InFwdReferenceIdeal.defs (F := Ideal)) (onTc (τ := InFwdReferenceIdeal.τ) (InFwdReferenceIdeal.main (F := Ideal))) ⟨m', fun _ => 0, g'⟩ fun r => ∀ c : Dev InFwdReferenceIdeal.nD,
      r.2.mem ((c : Thread InFwdReferenceIdeal.nD InFwdReferenceIdeal.τ).loc InFwdReferenceIdeal.main_v3) = whole (m' ((c : Thread InFwdReferenceIdeal.nD InFwdReferenceIdeal.τ).loc InFwdReferenceIdeal.main_arg0)) (m' ((c : Thread InFwdReferenceIdeal.nD InFwdReferenceIdeal.τ).loc InFwdReferenceIdeal.main_arg1))
      ∧ r.2.mem ((c : Thread InFwdReferenceIdeal.nD InFwdReferenceIdeal.τ).loc InFwdReferenceIdeal.main_arg0) = m' ((c : Thread InFwdReferenceIdeal.nD InFwdReferenceIdeal.τ).loc InFwdReferenceIdeal.main_arg0)
      ∧ r.2.mem ((c : Thread InFwdReferenceIdeal.nD InFwdReferenceIdeal.τ).loc InFwdReferenceIdeal.main_arg1) = m' ((c : Thread InFwdReferenceIdeal.nD InFwdReferenceIdeal.τ).loc InFwdReferenceIdeal.main_arg1) :=
  (θ_run _ _ _).mono (fun r h c => ⟨(h c).1.trans ((InFwdReferenceIdeal.Read.val_main_v3_eq (F := Ideal) _ _).trans
    (funext fun i => (congrArg (InFwdReferenceIdeal.Read.val_main_v3 (F := Ideal) _ _) (ix2_of i)).trans ((ref_at _ _ _ _).trans
      (congrArg (whole (m' ((c : Thread InFwdReferenceIdeal.nD InFwdReferenceIdeal.τ).loc InFwdReferenceIdeal.main_arg0)) (m' ((c : Thread InFwdReferenceIdeal.nD InFwdReferenceIdeal.τ).loc InFwdReferenceIdeal.main_arg1))) (ix2_of i).symm)))), (h c).2⟩) (InFwdReferenceIdeal.Value.run m' g')

theorem ref_frame (m' : (ℓ : Loc InFwdReferenceIdeal.nD InFwdReferenceIdeal.τ InFwdReferenceIdeal.sig) → Buf (Elt Ideal) ℓ) (g' : Dev InFwdReferenceIdeal.nD → PrngReg) :
    θ_run (InFwdReferenceIdeal.defs (F := Ideal)) (onTc (τ := InFwdReferenceIdeal.τ) (InFwdReferenceIdeal.main (F := Ideal))) ⟨m', fun _ => 0, g'⟩ fun r => (∀ c : Dev InFwdReferenceIdeal.nD,
      r.2.mem ((c : Thread InFwdReferenceIdeal.nD InFwdReferenceIdeal.τ).loc InFwdReferenceIdeal.main_arg0) = m' ((c : Thread InFwdReferenceIdeal.nD InFwdReferenceIdeal.τ).loc InFwdReferenceIdeal.main_arg0)
      ∧ r.2.mem ((c : Thread InFwdReferenceIdeal.nD InFwdReferenceIdeal.τ).loc InFwdReferenceIdeal.main_arg1) = m' ((c : Thread InFwdReferenceIdeal.nD InFwdReferenceIdeal.τ).loc InFwdReferenceIdeal.main_arg1))
      ∧ r.2.sem = fun _ => 0 :=
  (θ_run _ _ _).mono (fun r h => ⟨fun c => (h c).2, sem_eq_zero_of_no_sems (by decide) r.2⟩) (InFwdReferenceIdeal.Value.run m' g')

theorem agrees : algebraic_InFwdIdeal_InFwdReferenceIdeal (hInFwdIdeal := Gen.facts) (hInFwdReferenceIdeal := InFwdReferenceIdeal.Gen.facts) := by
  intro m r m' r' _ hm
  refine ⟨fun c => whole (m ((c : Thread nD τ).loc main_arg0)) (m ((c : Thread nD τ).loc main_arg1)), (θ_run _ _ _).mono (fun _ h c => ⟨(h c).1.trans (arr m c), (h c).2⟩) (Value.run_blocks m r), ?_⟩
  refine (θ_run _ _ _).mono (fun _ h c => ?_) (ref_run m' r')
  have e : whole (m' ((c : Thread InFwdReferenceIdeal.nD InFwdReferenceIdeal.τ).loc InFwdReferenceIdeal.main_arg0)) (m' ((c : Thread InFwdReferenceIdeal.nD InFwdReferenceIdeal.τ).loc InFwdReferenceIdeal.main_arg1)) = whole (m ((c : Thread nD τ).loc main_arg0)) (m ((c : Thread nD τ).loc main_arg1)) := by
    obtain ⟨h0, h1⟩ := hm c
    rw [h0, h1]
  exact ⟨(h c).1.trans e, (h c).2⟩

end Cert.Mm.InFwd
-- ==== Proof.MmOutDa.lean ====
/-
  The gradient of a product with respect to its left operand, as the kernel accumulates it.
-/
module

public import proofs.«01_k».proof.Defs
public import proofs.«01_k».proof.Proof.Mm
public import proofs.«01_k».proof.Proof.Gen.OutDa.Frame
public import proofs.«01_k».proof.Proof.Gen.OutDaIdeal.Value
public import proofs.«01_k».proof.Proof.Gen.OutDaReferenceIdeal.Read
public import proofs.«01_k».proof.Proof.Gen.OutDaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.OutDa

open Cert.OutDaIdeal Cert.OutDaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S2048x1024.Idx → EReal) (x2 : S4096x1024.Idx → EReal) (i : Fin 4096) (j : Fin 2048) (k : Fin 1024) : EReal := x2 (ix2 i k) * x1 (ix2 j k)

/-- The product, by its entries. -/
def whole (x1 : S2048x1024.Idx → EReal) (x2 : S4096x1024.Idx → EReal) (y : S4096x2048.Idx) : EReal := (∑ k, terms x1 x2 (y 0) (y 1) k)

theorem ref_at (x1 : S2048x1024.Idx → EReal) (x2 : S4096x1024.Idx → EReal) (i : Fin 4096) (j : Fin 2048) :
    OutDaReferenceIdeal.Read.val_main_v7 (F := Ideal) x1 x2 (ix2 i j) = whole x1 x2 (ix2 i j) := by
  pointwise [OutDaReferenceIdeal.Read.val_main_v7, OutDaReferenceIdeal.Read.val_main_v5, OutDaReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 2048 → Fin 1024 → EReal := terms (m ((c : Thread nD τ).loc main_arg1)) (m ((c : Thread nD τ).loc main_arg2))

def row (i : Fin 1024) : Fin 4096 := ⟨1024 * (t.val / 2) + i.val, by have : t.val < 8 := t.isLt; omega⟩
def col (j : Fin 1024) : Fin 2048 := ⟨1024 * (t.val / 1 % 2) + j.val, by omega⟩

theorem index_of : ∀ t : Fin cfg0.N,
    win0_0.index t = ![t.val / 2, t.val % 1] ∧ win0_1.index t = ![t.val / 1 % 2, t.val % 1] ∧ win0_2.index t = ![t.val / 2, t.val / 1 % 2] :=
  (by decide +kernel : ∀ t : Fin grid0.N,
    win0_0.index t = ![t.val / 2, t.val % 1] ∧ win0_1.index t = ![t.val / 1 % 2, t.val % 1] ∧ win0_2.index t = ![t.val / 2, t.val / 1 % 2])

def pa : FVec Ideal S1024x1024 .f32 := iblk m c 0 t
def pb : FVec Ideal S1024x1024 .bf16 := iblk m c 1 t

theorem pa_at (q : Fin 1024) (i : Fin 1024) :
    pa m c t (ix2 i q) = m ((c : Thread nD τ).loc main_arg2) (ix2 (row t i) ⟨1024 * (t.val % 1) + q.val, by omega⟩) := by
  show iblk m c 0 t (ix2 i q) = _
  blk_ext! [iblk, V, index_of t, row]

theorem pb_at (q : Fin 1024) (j : Fin 1024) :
    pb m c t (ix2 j q) = m ((c : Thread nD τ).loc main_arg1) (ix2 (col t j) ⟨1024 * (t.val % 1) + q.val, by omega⟩) := by
  show iblk m c 1 t (ix2 j q) = _
  blk_ext! [iblk, V, index_of t, col]

theorem dot_at (i : Fin 1024) (j : Fin 1024) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1024 .bf16 := out0_2 (iblk m c 0 t) (iblk m c 1 t)

theorem out_pt (i : Fin 1024) (j : Fin 1024) :
    po m c t (ix2 i j) = (∑ q : Fin 1024, pa m c t (ix2 i q) * pb m c t (ix2 j q)) := by
  unfold po
  frame_out
  pointwise [k0_pay1]
  all_goals rfl

theorem out_at (i : Fin 1024) (j : Fin 1024) : po m c t (ix2 i j) = (∑ k, g m c (row t i) (col t j) k) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1024.Idx) :
    (po m c t) y = whole (m ((c : Thread nD τ).loc main_arg1)) (m ((c : Thread nD τ).loc main_arg2)) (((cfg0.win 2).blk t).view.emb y) := by
  have e0 : ((((cfg0.win 2).blk t).view.emb y) 0 : ℕ) = 1024 * (t.val / 2) + (y 0).val := by
    blk_simp [index_of t]
    omega
  have e1 : ((((cfg0.win 2).blk t).view.emb y) 1 : ℕ) = 1024 * (t.val / 1 % 2) + (y 1).val := by
    blk_simp [index_of t]
    omega
  refine (congrArg (po m c t) (ix2_of y)).trans ((out_at m c t (y 0) (y 1)).trans ?_)
  exact congrArg₂ (fun (i : Fin 4096) (j : Fin 2048) => (∑ k, g m c i j k)) (Fin.ext e0.symm) (Fin.ext e1.symm)

theorem arr : (dats m 0 c).arrAt 2 cfg0.N = whole (m ((c : Thread nD τ).loc main_arg1)) (m ((c : Thread nD τ).loc main_arg2)) :=
  (dats m 0 c).arrAt_eq_of_covers 2 _ (by decide +kernel) fun t hf y => (congrFun (after0_2 m c t) y).trans (block_at m c t y)

theorem ref_run (m' : (ℓ : Loc OutDaReferenceIdeal.nD OutDaReferenceIdeal.τ OutDaReferenceIdeal.sig) → Buf (Elt Ideal) ℓ) (g' : Dev OutDaReferenceIdeal.nD → PrngReg) :
    θ_run (OutDaReferenceIdeal.defs (F := Ideal)) (onTc (τ := OutDaReferenceIdeal.τ) (OutDaReferenceIdeal.main (F := Ideal))) ⟨m', fun _ => 0, g'⟩ fun r => ∀ c : Dev OutDaReferenceIdeal.nD,
      r.2.mem ((c : Thread OutDaReferenceIdeal.nD OutDaReferenceIdeal.τ).loc OutDaReferenceIdeal.main_v7) = whole (m' ((c : Thread OutDaReferenceIdeal.nD OutDaReferenceIdeal.τ).loc OutDaReferenceIdeal.main_arg1)) (m' ((c : Thread OutDaReferenceIdeal.nD OutDaReferenceIdeal.τ).loc OutDaReferenceIdeal.main_arg2))
      ∧ r.2.mem ((c : Thread OutDaReferenceIdeal.nD OutDaReferenceIdeal.τ).loc OutDaReferenceIdeal.main_arg0) = m' ((c : Thread OutDaReferenceIdeal.nD OutDaReferenceIdeal.τ).loc OutDaReferenceIdeal.main_arg0)
      ∧ r.2.mem ((c : Thread OutDaReferenceIdeal.nD OutDaReferenceIdeal.τ).loc OutDaReferenceIdeal.main_arg1) = m' ((c : Thread OutDaReferenceIdeal.nD OutDaReferenceIdeal.τ).loc OutDaReferenceIdeal.main_arg1)
      ∧ r.2.mem ((c : Thread OutDaReferenceIdeal.nD OutDaReferenceIdeal.τ).loc OutDaReferenceIdeal.main_arg2) = m' ((c : Thread OutDaReferenceIdeal.nD OutDaReferenceIdeal.τ).loc OutDaReferenceIdeal.main_arg2) :=
  (θ_run _ _ _).mono (fun r h c => ⟨(h c).1.trans ((OutDaReferenceIdeal.Read.val_main_v7_eq (F := Ideal) _ _).trans
    (funext fun i => (congrArg (OutDaReferenceIdeal.Read.val_main_v7 (F := Ideal) _ _) (ix2_of i)).trans ((ref_at _ _ _ _).trans
      (congrArg (whole (m' ((c : Thread OutDaReferenceIdeal.nD OutDaReferenceIdeal.τ).loc OutDaReferenceIdeal.main_arg1)) (m' ((c : Thread OutDaReferenceIdeal.nD OutDaReferenceIdeal.τ).loc OutDaReferenceIdeal.main_arg2))) (ix2_of i).symm)))), (h c).2⟩) (OutDaReferenceIdeal.Value.run m' g')

theorem ref_frame (m' : (ℓ : Loc OutDaReferenceIdeal.nD OutDaReferenceIdeal.τ OutDaReferenceIdeal.sig) → Buf (Elt Ideal) ℓ) (g' : Dev OutDaReferenceIdeal.nD → PrngReg) :
    θ_run (OutDaReferenceIdeal.defs (F := Ideal)) (onTc (τ := OutDaReferenceIdeal.τ) (OutDaReferenceIdeal.main (F := Ideal))) ⟨m', fun _ => 0, g'⟩ fun r => (∀ c : Dev OutDaReferenceIdeal.nD,
      r.2.mem ((c : Thread OutDaReferenceIdeal.nD OutDaReferenceIdeal.τ).loc OutDaReferenceIdeal.main_arg0) = m' ((c : Thread OutDaReferenceIdeal.nD OutDaReferenceIdeal.τ).loc OutDaReferenceIdeal.main_arg0)
      ∧ r.2.mem ((c : Thread OutDaReferenceIdeal.nD OutDaReferenceIdeal.τ).loc OutDaReferenceIdeal.main_arg1) = m' ((c : Thread OutDaReferenceIdeal.nD OutDaReferenceIdeal.τ).loc OutDaReferenceIdeal.main_arg1)
      ∧ r.2.mem ((c : Thread OutDaReferenceIdeal.nD OutDaReferenceIdeal.τ).loc OutDaReferenceIdeal.main_arg2) = m' ((c : Thread OutDaReferenceIdeal.nD OutDaReferenceIdeal.τ).loc OutDaReferenceIdeal.main_arg2))
      ∧ r.2.sem = fun _ => 0 :=
  (θ_run _ _ _).mono (fun r h => ⟨fun c => (h c).2, sem_eq_zero_of_no_sems (by decide) r.2⟩) (OutDaReferenceIdeal.Value.run m' g')

theorem agrees : algebraic_OutDaIdeal_OutDaReferenceIdeal (hOutDaIdeal := Gen.facts) (hOutDaReferenceIdeal := OutDaReferenceIdeal.Gen.facts) := by
  intro m r m' r' _ hm
  refine ⟨fun c => whole (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread OutDaReferenceIdeal.nD OutDaReferenceIdeal.τ).loc OutDaReferenceIdeal.main_arg1)) (m' ((c : Thread OutDaReferenceIdeal.nD OutDaReferenceIdeal.τ).loc OutDaReferenceIdeal.main_arg2)) = whole (m ((c : Thread nD τ).loc main_arg1)) (m ((c : Thread nD τ).loc main_arg2)) := by
    obtain ⟨h0, h1, h2⟩ := hm c
    rw [h1, h2]
  exact ⟨(h c).1.trans e, (h c).2⟩

end Cert.Mm.OutDa
-- ==== Proof.MmOutDw.lean ====
/-
  The gradient of a product with respect to the weights, as the kernel accumulates it.
-/
module

public import proofs.«01_k».proof.Defs
public import proofs.«01_k».proof.Proof.Mm
public import proofs.«01_k».proof.Proof.Gen.OutDw.Frame
public import proofs.«01_k».proof.Proof.Gen.OutDwIdeal.Value
public import proofs.«01_k».proof.Proof.Gen.OutDwReferenceIdeal.Read
public import proofs.«01_k».proof.Proof.Gen.OutDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.OutDw

open Cert.OutDwIdeal Cert.OutDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x2048.Idx → EReal) (x2 : S4096x1024.Idx → EReal) (i : Fin 2048) (j : Fin 1024) (k : Fin 4096) : EReal := x0 (ix2 k i) * x2 (ix2 k j)

/-- The product, by its entries. -/
def whole (x0 : S4096x2048.Idx → EReal) (x2 : S4096x1024.Idx → EReal) (y : S2048x1024.Idx) : EReal := (∑ k, terms x0 x2 (y 0) (y 1) k)

theorem ref_at (x0 : S4096x2048.Idx → EReal) (x2 : S4096x1024.Idx → EReal) (i : Fin 2048) (j : Fin 1024) :
    OutDwReferenceIdeal.Read.val_main_v7 (F := Ideal) x0 x2 (ix2 i j) = whole x0 x2 (ix2 i j) := by
  pointwise [OutDwReferenceIdeal.Read.val_main_v7, OutDwReferenceIdeal.Read.val_main_v4, OutDwReferenceIdeal.Read.val_main_v3, OutDwReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 2048 → Fin 1024 → Fin 4096 → EReal := terms (m ((c : Thread nD τ).loc main_arg0)) (m ((c : Thread nD τ).loc main_arg2))

def row (i : Fin 1024) : Fin 2048 := ⟨1024 * (t.val / 4) + i.val, by have : t.val < 8 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1024 .bf16 := iblk m c 0 t
def pb : FVec Ideal S1024x1024 .f32 := iblk m c 1 t

theorem pa_at (q : Fin 1024) (i : Fin 1024) :
    pa m c t (ix2 q i) = m ((c : Thread nD τ).loc main_arg0) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg2) (ix2 ⟨1024 * (t.val % 4) + q.val, by omega⟩ (col t j)) := by
  show iblk m c 1 t (ix2 q j) = _
  blk_ext! [iblk, V, index_of t, col]

theorem dot_at (i : Fin 1024) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1024) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1024) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1024) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1024x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 2048) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc OutDwReferenceIdeal.nD OutDwReferenceIdeal.τ OutDwReferenceIdeal.sig) → Buf (Elt Ideal) ℓ) (g' : Dev OutDwReferenceIdeal.nD → PrngReg) :
    θ_run (OutDwReferenceIdeal.defs (F := Ideal)) (onTc (τ := OutDwReferenceIdeal.τ) (OutDwReferenceIdeal.main (F := Ideal))) ⟨m', fun _ => 0, g'⟩ fun r => ∀ c : Dev OutDwReferenceIdeal.nD,
      r.2.mem ((c : Thread OutDwReferenceIdeal.nD OutDwReferenceIdeal.τ).loc OutDwReferenceIdeal.main_v7) = whole (m' ((c : Thread OutDwReferenceIdeal.nD OutDwReferenceIdeal.τ).loc OutDwReferenceIdeal.main_arg0)) (m' ((c : Thread OutDwReferenceIdeal.nD OutDwReferenceIdeal.τ).loc OutDwReferenceIdeal.main_arg2))
      ∧ r.2.mem ((c : Thread OutDwReferenceIdeal.nD OutDwReferenceIdeal.τ).loc OutDwReferenceIdeal.main_arg0) = m' ((c : Thread OutDwReferenceIdeal.nD OutDwReferenceIdeal.τ).loc OutDwReferenceIdeal.main_arg0)
      ∧ r.2.mem ((c : Thread OutDwReferenceIdeal.nD OutDwReferenceIdeal.τ).loc OutDwReferenceIdeal.main_arg1) = m' ((c : Thread OutDwReferenceIdeal.nD OutDwReferenceIdeal.τ).loc OutDwReferenceIdeal.main_arg1)
      ∧ r.2.mem ((c : Thread OutDwReferenceIdeal.nD OutDwReferenceIdeal.τ).loc OutDwReferenceIdeal.main_arg2) = m' ((c : Thread OutDwReferenceIdeal.nD OutDwReferenceIdeal.τ).loc OutDwReferenceIdeal.main_arg2) :=
  (θ_run _ _ _).mono (fun r h c => ⟨(h c).1.trans ((OutDwReferenceIdeal.Read.val_main_v7_eq (F := Ideal) _ _).trans
    (funext fun i => (congrArg (OutDwReferenceIdeal.Read.val_main_v7 (F := Ideal) _ _) (ix2_of i)).trans ((ref_at _ _ _ _).trans
      (congrArg (whole (m' ((c : Thread OutDwReferenceIdeal.nD OutDwReferenceIdeal.τ).loc OutDwReferenceIdeal.main_arg0)) (m' ((c : Thread OutDwReferenceIdeal.nD OutDwReferenceIdeal.τ).loc OutDwReferenceIdeal.main_arg2))) (ix2_of i).symm)))), (h c).2⟩) (OutDwReferenceIdeal.Value.run m' g')

theorem ref_frame (m' : (ℓ : Loc OutDwReferenceIdeal.nD OutDwReferenceIdeal.τ OutDwReferenceIdeal.sig) → Buf (Elt Ideal) ℓ) (g' : Dev OutDwReferenceIdeal.nD → PrngReg) :
    θ_run (OutDwReferenceIdeal.defs (F := Ideal)) (onTc (τ := OutDwReferenceIdeal.τ) (OutDwReferenceIdeal.main (F := Ideal))) ⟨m', fun _ => 0, g'⟩ fun r => (∀ c : Dev OutDwReferenceIdeal.nD,
      r.2.mem ((c : Thread OutDwReferenceIdeal.nD OutDwReferenceIdeal.τ).loc OutDwReferenceIdeal.main_arg0) = m' ((c : Thread OutDwReferenceIdeal.nD OutDwReferenceIdeal.τ).loc OutDwReferenceIdeal.main_arg0)
      ∧ r.2.mem ((c : Thread OutDwReferenceIdeal.nD OutDwReferenceIdeal.τ).loc OutDwReferenceIdeal.main_arg1) = m' ((c : Thread OutDwReferenceIdeal.nD OutDwReferenceIdeal.τ).loc OutDwReferenceIdeal.main_arg1)
      ∧ r.2.mem ((c : Thread OutDwReferenceIdeal.nD OutDwReferenceIdeal.τ).loc OutDwReferenceIdeal.main_arg2) = m' ((c : Thread OutDwReferenceIdeal.nD OutDwReferenceIdeal.τ).loc OutDwReferenceIdeal.main_arg2))
      ∧ r.2.sem = fun _ => 0 :=
  (θ_run _ _ _).mono (fun r h => ⟨fun c => (h c).2, sem_eq_zero_of_no_sems (by decide) r.2⟩) (OutDwReferenceIdeal.Value.run m' g')

theorem agrees : algebraic_OutDwIdeal_OutDwReferenceIdeal (hOutDwIdeal := Gen.facts) (hOutDwReferenceIdeal := OutDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread OutDwReferenceIdeal.nD OutDwReferenceIdeal.τ).loc OutDwReferenceIdeal.main_arg0)) (m' ((c : Thread OutDwReferenceIdeal.nD OutDwReferenceIdeal.τ).loc OutDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.OutDw
-- ==== Proof.MmOutFwd.lean ====
/-
  A product with the weights, as the kernel accumulates it.
-/
module

public import proofs.«01_k».proof.Defs
public import proofs.«01_k».proof.Proof.Mm
public import proofs.«01_k».proof.Proof.Gen.OutFwd.Frame
public import proofs.«01_k».proof.Proof.Gen.OutFwdIdeal.Value
public import proofs.«01_k».proof.Proof.Gen.OutFwdReferenceIdeal.Read
public import proofs.«01_k».proof.Proof.Gen.OutFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.OutFwd

open Cert.OutFwdIdeal Cert.OutFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x2048.Idx → EReal) (x1 : S2048x1024.Idx → EReal) (x2 : S4096x1024.Idx → EReal) (i : Fin 4096) (j : Fin 1024) (k : Fin 2048) : EReal := x0 (ix2 i k) * x1 (ix2 k j)

/-- The product and what is added to it, by its entries. -/
def whole (x0 : S4096x2048.Idx → EReal) (x1 : S2048x1024.Idx → EReal) (x2 : S4096x1024.Idx → EReal) (y : S4096x1024.Idx) : EReal := (∑ k, terms x0 x1 x2 (y 0) (y 1) k) + x2 (ix2 (y 0) (y 1))

theorem ref_at (x0 : S4096x2048.Idx → EReal) (x1 : S2048x1024.Idx → EReal) (x2 : S4096x1024.Idx → EReal) (i : Fin 4096) (j : Fin 1024) :
    OutFwdReferenceIdeal.Read.val_main_v3 (F := Ideal) x0 x1 x2 (ix2 i j) = whole x0 x1 x2 (ix2 i j) := by
  pointwise [OutFwdReferenceIdeal.Read.val_main_v3, OutFwdReferenceIdeal.Read.val_main_v2, OutFwdReferenceIdeal.Read.val_main_v0, OutFwdReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 2048 → EReal := terms (m ((c : Thread nD τ).loc main_arg0)) (m ((c : Thread nD τ).loc main_arg1)) (m ((c : Thread nD τ).loc main_arg2))

def row (i : Fin 1024) : Fin 4096 := ⟨1024 * (t.val / 2) + i.val, by have : t.val < 8 := t.isLt; omega⟩
def col (j : Fin 1024) : Fin 1024 := ⟨1024 * (t.val / 2 % 1) + j.val, by omega⟩

theorem index_of : ∀ t : Fin cfg0.N,
    win0_0.index t = ![t.val / 2, t.val % 2] ∧ win0_1.index t = ![t.val % 2, t.val / 2 % 1] ∧ win0_2.index t = ![t.val / 2, t.val / 2 % 1] ∧ win0_3.index t = ![t.val / 2, t.val / 2 % 1] :=
  (by decide +kernel : ∀ t : Fin grid0.N,
    win0_0.index t = ![t.val / 2, t.val % 2] ∧ win0_1.index t = ![t.val % 2, t.val / 2 % 1] ∧ win0_2.index t = ![t.val / 2, t.val / 2 % 1] ∧ win0_3.index t = ![t.val / 2, t.val / 2 % 1])

def pa : FVec Ideal S1024x1024 .bf16 := iblk m c 0 t
def pb : FVec Ideal S1024x1024 .bf16 := iblk m c 1 t
def pc : FVec Ideal S1024x1024 .f32 := iblk m c 2 t

theorem pa_at (q : Fin 1024) (i : Fin 1024) :
    pa m c t (ix2 i q) = m ((c : Thread nD τ).loc main_arg0) (ix2 (row t i) ⟨1024 * (t.val % 2) + q.val, by omega⟩) := by
  show iblk m c 0 t (ix2 i q) = _
  blk_ext! [iblk, V, index_of t, row]

theorem pb_at (q : Fin 1024) (j : Fin 1024) :
    pb m c t (ix2 q j) = m ((c : Thread nD τ).loc main_arg1) (ix2 ⟨1024 * (t.val % 2) + q.val, by omega⟩ (col t j)) := by
  show iblk m c 1 t (ix2 q j) = _
  blk_ext! [iblk, V, index_of t, col]

theorem pc_at (i : Fin 1024) (j : Fin 1024) : pc m c t (ix2 i j) = m ((c : Thread nD τ).loc main_arg2) (ix2 (row t i) (col t j)) := by
  show iblk m c 2 t (ix2 i j) = _
  blk_ext! [iblk, V, index_of t, row, col]

theorem dot_at (i : Fin 1024) (j : Fin 1024) (n : ℕ) (h : t.val % 2 = n) :
    ∑ q : Fin 1024, pa m c t (ix2 i q) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 3).flush t = true → t.val % 2 = 1 :=
  (by decide +kernel : ∀ t : Fin grid0.N, win0_3.flush t = true → t.val % 2 = 1)

theorem acc_A (h : t.val % 2 = 0) (i : Fin 1024) (j : Fin 1024) :
    (outsAt0 m c t.val t.isLt).2 (ix2 i j) = ∑ q : Fin 1024, pa m c t (ix2 i q) * pb m c t (ix2 q j) := by
  rw [Gen.outsAt0_A m c t h (by omega)]
  dsimp only
  frame_out
  pointwise [k0_pay1]
  all_goals rfl

theorem out_last (h : t.val % 2 = 1) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 i q) * pb m c t (ix2 q j)) + pc m c t (ix2 i j) := by
  rw [Gen.outsAt0_B m c t (by omega) h]
  dsimp only
  frame_out
  pointwise [k0_pay3]
  rw [read_unread_whole]
  rfl

/-- After the first points of a run the scratch holds the partial sums. -/
theorem scratch_at : ∀ (n : ℕ) (hn : n < cfg0.N) (_ : ¬ n % 2 = 1) (i : Fin 1024) (j : Fin 1024),
    (outsAt0 m c n hn).2 (ix2 i j) = part 1024 (g m c (row ⟨n, hn⟩ i) (col ⟨n, hn⟩ j)) (n % 2 + 1)
  | n, hn, h3, i, j => by
    have h0 : n % 2 = 0 := by omega
    rw [acc_A m c ⟨n, hn⟩ h0 i j, dot_at m c ⟨n, hn⟩ i j 0 h0, h0, part_one _ _ (by omega)]

/-- The last point of a run writes the whole sums. -/
theorem out_at (h : t.val % 2 = 1) (i : Fin 1024) (j : Fin 1024) :
    (outsAt0 m c t.val t.isLt).1 (ix2 i j) = (∑ k, g m c (row t i) (col t j) k) + m ((c : Thread nD τ).loc main_arg2) (ix2 (row t i) (col t j)) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 2 + 1 = 1 := by omega
  rw [er, ec, en] at ih
  rw [out_last m c t h i j, dot_at m c t i j 1 h, ← part_all 1024 _ 2 rfl, part_succ _ _ 1 (by omega)]
  exact congrArg₂ (· + ·) (congrArg (· + _) ih) (pc_at m c t i j)

theorem block_at (hf : (cfg0.win 3).flush t = true) (y : S1024x1024.Idx) :
    (outsAt0 m c t.val t.isLt).1 y = whole (m ((c : Thread nD τ).loc main_arg0)) (m ((c : Thread nD τ).loc main_arg1)) (m ((c : Thread nD τ).loc main_arg2)) (((cfg0.win 3).blk t).view.emb y) := by
  have e0 : ((((cfg0.win 3).blk t).view.emb y) 0 : ℕ) = 1024 * (t.val / 2) + (y 0).val := by
    blk_simp [index_of t]
    omega
  have e1 : ((((cfg0.win 3).blk t).view.emb y) 1 : ℕ) = 1024 * (t.val / 2 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 4096) (j : Fin 1024) => (∑ k, g m c i j k) + m ((c : Thread nD τ).loc main_arg2) (ix2 i j)) (Fin.ext e0.symm) (Fin.ext e1.symm)

theorem arr : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t hf y => (congrFun (after0_3 m c t) y).trans (block_at m c t hf y)

theorem ref_run (m' : (ℓ : Loc OutFwdReferenceIdeal.nD OutFwdReferenceIdeal.τ OutFwdReferenceIdeal.sig) → Buf (Elt Ideal) ℓ) (g' : Dev OutFwdReferenceIdeal.nD → PrngReg) :
    θ_run (OutFwdReferenceIdeal.defs (F := Ideal)) (onTc (τ := OutFwdReferenceIdeal.τ) (OutFwdReferenceIdeal.main (F := Ideal))) ⟨m', fun _ => 0, g'⟩ fun r => ∀ c : Dev OutFwdReferenceIdeal.nD,
      r.2.mem ((c : Thread OutFwdReferenceIdeal.nD OutFwdReferenceIdeal.τ).loc OutFwdReferenceIdeal.main_v3) = whole (m' ((c : Thread OutFwdReferenceIdeal.nD OutFwdReferenceIdeal.τ).loc OutFwdReferenceIdeal.main_arg0)) (m' ((c : Thread OutFwdReferenceIdeal.nD OutFwdReferenceIdeal.τ).loc OutFwdReferenceIdeal.main_arg1)) (m' ((c : Thread OutFwdReferenceIdeal.nD OutFwdReferenceIdeal.τ).loc OutFwdReferenceIdeal.main_arg2))
      ∧ r.2.mem ((c : Thread OutFwdReferenceIdeal.nD OutFwdReferenceIdeal.τ).loc OutFwdReferenceIdeal.main_arg0) = m' ((c : Thread OutFwdReferenceIdeal.nD OutFwdReferenceIdeal.τ).loc OutFwdReferenceIdeal.main_arg0)
      ∧ r.2.mem ((c : Thread OutFwdReferenceIdeal.nD OutFwdReferenceIdeal.τ).loc OutFwdReferenceIdeal.main_arg1) = m' ((c : Thread OutFwdReferenceIdeal.nD OutFwdReferenceIdeal.τ).loc OutFwdReferenceIdeal.main_arg1)
      ∧ r.2.mem ((c : Thread OutFwdReferenceIdeal.nD OutFwdReferenceIdeal.τ).loc OutFwdReferenceIdeal.main_arg2) = m' ((c : Thread OutFwdReferenceIdeal.nD OutFwdReferenceIdeal.τ).loc OutFwdReferenceIdeal.main_arg2) :=
  (θ_run _ _ _).mono (fun r h c => ⟨(h c).1.trans ((OutFwdReferenceIdeal.Read.val_main_v3_eq (F := Ideal) _ _ _).trans
    (funext fun i => (congrArg (OutFwdReferenceIdeal.Read.val_main_v3 (F := Ideal) _ _ _) (ix2_of i)).trans ((ref_at _ _ _ _ _).trans
      (congrArg (whole (m' ((c : Thread OutFwdReferenceIdeal.nD OutFwdReferenceIdeal.τ).loc OutFwdReferenceIdeal.main_arg0)) (m' ((c : Thread OutFwdReferenceIdeal.nD OutFwdReferenceIdeal.τ).loc OutFwdReferenceIdeal.main_arg1)) (m' ((c : Thread OutFwdReferenceIdeal.nD OutFwdReferenceIdeal.τ).loc OutFwdReferenceIdeal.main_arg2))) (ix2_of i).symm)))), (h c).2⟩) (OutFwdReferenceIdeal.Value.run m' g')

theorem ref_frame (m' : (ℓ : Loc OutFwdReferenceIdeal.nD OutFwdReferenceIdeal.τ OutFwdReferenceIdeal.sig) → Buf (Elt Ideal) ℓ) (g' : Dev OutFwdReferenceIdeal.nD → PrngReg) :
    θ_run (OutFwdReferenceIdeal.defs (F := Ideal)) (onTc (τ := OutFwdReferenceIdeal.τ) (OutFwdReferenceIdeal.main (F := Ideal))) ⟨m', fun _ => 0, g'⟩ fun r => (∀ c : Dev OutFwdReferenceIdeal.nD,
      r.2.mem ((c : Thread OutFwdReferenceIdeal.nD OutFwdReferenceIdeal.τ).loc OutFwdReferenceIdeal.main_arg0) = m' ((c : Thread OutFwdReferenceIdeal.nD OutFwdReferenceIdeal.τ).loc OutFwdReferenceIdeal.main_arg0)
      ∧ r.2.mem ((c : Thread OutFwdReferenceIdeal.nD OutFwdReferenceIdeal.τ).loc OutFwdReferenceIdeal.main_arg1) = m' ((c : Thread OutFwdReferenceIdeal.nD OutFwdReferenceIdeal.τ).loc OutFwdReferenceIdeal.main_arg1)
      ∧ r.2.mem ((c : Thread OutFwdReferenceIdeal.nD OutFwdReferenceIdeal.τ).loc OutFwdReferenceIdeal.main_arg2) = m' ((c : Thread OutFwdReferenceIdeal.nD OutFwdReferenceIdeal.τ).loc OutFwdReferenceIdeal.main_arg2))
      ∧ r.2.sem = fun _ => 0 :=
  (θ_run _ _ _).mono (fun r h => ⟨fun c => (h c).2, sem_eq_zero_of_no_sems (by decide) r.2⟩) (OutFwdReferenceIdeal.Value.run m' g')

theorem agrees : algebraic_OutFwdIdeal_OutFwdReferenceIdeal (hOutFwdIdeal := Gen.facts) (hOutFwdReferenceIdeal := OutFwdReferenceIdeal.Gen.facts) := by
  intro m r m' r' _ hm
  refine ⟨fun c => whole (m ((c : Thread nD τ).loc main_arg0)) (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread OutFwdReferenceIdeal.nD OutFwdReferenceIdeal.τ).loc OutFwdReferenceIdeal.main_arg0)) (m' ((c : Thread OutFwdReferenceIdeal.nD OutFwdReferenceIdeal.τ).loc OutFwdReferenceIdeal.main_arg1)) (m' ((c : Thread OutFwdReferenceIdeal.nD OutFwdReferenceIdeal.τ).loc OutFwdReferenceIdeal.main_arg2)) = whole (m ((c : Thread nD τ).loc main_arg0)) (m ((c : Thread nD τ).loc main_arg1)) (m ((c : Thread nD τ).loc main_arg2)) := by
    obtain ⟨h0, h1, h2⟩ := hm c
    rw [h0, h1, h2]
  exact ⟨(h c).1.trans e, (h c).2⟩

end Cert.Mm.OutFwd
-- ==== Proof.MmPleGateDa.lean ====
/-
  The gradient of a product with respect to its left operand, as the kernel accumulates it.
-/
module

public import proofs.«01_k».proof.Defs
public import proofs.«01_k».proof.Proof.Mm
public import proofs.«01_k».proof.Proof.Gen.PleGateDa.Frame
public import proofs.«01_k».proof.Proof.Gen.PleGateDaIdeal.Value
public import proofs.«01_k».proof.Proof.Gen.PleGateDaReferenceIdeal.Read
public import proofs.«01_k».proof.Proof.Gen.PleGateDaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.PleGateDa

open Cert.PleGateDaIdeal Cert.PleGateDaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S1024x1024.Idx → EReal) (x2 : S4096x1024.Idx → EReal) (x3 : S4096x1024.Idx → EReal) (i : Fin 4096) (j : Fin 1024) (k : Fin 1024) : EReal := x2 (ix2 i k) * x1 (ix2 j k)

/-- The product and what is added to it, by its entries. -/
def whole (x1 : S1024x1024.Idx → EReal) (x2 : S4096x1024.Idx → EReal) (x3 : S4096x1024.Idx → EReal) (y : S4096x1024.Idx) : EReal := (∑ k, terms x1 x2 x3 (y 0) (y 1) k) + x3 (ix2 (y 0) (y 1))

theorem ref_at (x1 : S1024x1024.Idx → EReal) (x2 : S4096x1024.Idx → EReal) (x3 : S4096x1024.Idx → EReal) (i : Fin 4096) (j : Fin 1024) :
    PleGateDaReferenceIdeal.Read.val_main_v7 (F := Ideal) x1 x2 x3 (ix2 i j) = whole x1 x2 x3 (ix2 i j) := by
  pointwise [PleGateDaReferenceIdeal.Read.val_main_v7, PleGateDaReferenceIdeal.Read.val_main_v5, PleGateDaReferenceIdeal.Read.val_main_v2, PleGateDaReferenceIdeal.Read.val_main_v0, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 1024 → EReal := terms (m ((c : Thread nD τ).loc main_arg1)) (m ((c : Thread nD τ).loc main_arg2)) (m ((c : Thread nD τ).loc main_arg3))

def row (i : Fin 1024) : Fin 4096 := ⟨1024 * (t.val / 1) + i.val, by have : t.val < 4 := t.isLt; omega⟩
def col (j : Fin 1024) : Fin 1024 := ⟨1024 * (t.val / 1 % 1) + j.val, by omega⟩

theorem index_of : ∀ t : Fin cfg0.N,
    win0_0.index t = ![t.val / 1, t.val % 1] ∧ win0_1.index t = ![t.val / 1 % 1, t.val % 1] ∧ win0_2.index t = ![t.val / 1, t.val / 1 % 1] ∧ win0_3.index t = ![t.val / 1, t.val / 1 % 1] :=
  (by decide +kernel : ∀ t : Fin grid0.N,
    win0_0.index t = ![t.val / 1, t.val % 1] ∧ win0_1.index t = ![t.val / 1 % 1, t.val % 1] ∧ win0_2.index t = ![t.val / 1, t.val / 1 % 1] ∧ win0_3.index t = ![t.val / 1, t.val / 1 % 1])

def pa : FVec Ideal S1024x1024 .bf16 := iblk m c 0 t
def pb : FVec Ideal S1024x1024 .bf16 := iblk m c 1 t
def pc : FVec Ideal S1024x1024 .f32 := iblk m c 2 t

theorem pa_at (q : Fin 1024) (i : Fin 1024) :
    pa m c t (ix2 i q) = m ((c : Thread nD τ).loc main_arg2) (ix2 (row t i) ⟨1024 * (t.val % 1) + q.val, by omega⟩) := by
  show iblk m c 0 t (ix2 i q) = _
  blk_ext! [iblk, V, index_of t, row]

theorem pb_at (q : Fin 1024) (j : Fin 1024) :
    pb m c t (ix2 j q) = m ((c : Thread nD τ).loc main_arg1) (ix2 (col t j) ⟨1024 * (t.val % 1) + q.val, by omega⟩) := by
  show iblk m c 1 t (ix2 j q) = _
  blk_ext! [iblk, V, index_of t, col]

theorem pc_at (i : Fin 1024) (j : Fin 1024) : pc m c t (ix2 i j) = m ((c : Thread nD τ).loc main_arg3) (ix2 (row t i) (col t j)) := by
  show iblk m c 2 t (ix2 i j) = _
  blk_ext! [iblk, V, index_of t, row, col]

theorem dot_at (i : Fin 1024) (j : Fin 1024) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1024 .f32 := out0_3 (iblk m c 0 t) (iblk m c 1 t) (iblk m c 2 t)

theorem out_pt (i : Fin 1024) (j : Fin 1024) :
    po m c t (ix2 i j) = (∑ q : Fin 1024, pa m c t (ix2 i q) * pb m c t (ix2 j q)) + pc m c t (ix2 i j) := by
  unfold po
  frame_out
  pointwise [k0_pay1]
  all_goals rfl

theorem out_at (i : Fin 1024) (j : Fin 1024) : po m c t (ix2 i j) = (∑ k, g m c (row t i) (col t j) k) + m ((c : Thread nD τ).loc main_arg3) (ix2 (row t i) (col t j)) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e, pc_at]

theorem block_at (y : S1024x1024.Idx) :
    (po m c t) y = whole (m ((c : Thread nD τ).loc main_arg1)) (m ((c : Thread nD τ).loc main_arg2)) (m ((c : Thread nD τ).loc main_arg3)) (((cfg0.win 3).blk t).view.emb y) := by
  have e0 : ((((cfg0.win 3).blk t).view.emb y) 0 : ℕ) = 1024 * (t.val / 1) + (y 0).val := by
    blk_simp [index_of t]
    omega
  have e1 : ((((cfg0.win 3).blk t).view.emb y) 1 : ℕ) = 1024 * (t.val / 1 % 1) + (y 1).val := by
    blk_simp [index_of t]
    omega
  refine (congrArg (po m c t) (ix2_of y)).trans ((out_at m c t (y 0) (y 1)).trans ?_)
  exact congrArg₂ (fun (i : Fin 4096) (j : Fin 1024) => (∑ k, g m c i j k) + m ((c : Thread nD τ).loc main_arg3) (ix2 i j)) (Fin.ext e0.symm) (Fin.ext e1.symm)

theorem arr : (dats m 0 c).arrAt 3 cfg0.N = whole (m ((c : Thread nD τ).loc main_arg1)) (m ((c : Thread nD τ).loc main_arg2)) (m ((c : Thread nD τ).loc main_arg3)) :=
  (dats m 0 c).arrAt_eq_of_covers 3 _ (by decide +kernel) fun t hf y => (congrFun (after0_3 m c t) y).trans (block_at m c t y)

theorem ref_run (m' : (ℓ : Loc PleGateDaReferenceIdeal.nD PleGateDaReferenceIdeal.τ PleGateDaReferenceIdeal.sig) → Buf (Elt Ideal) ℓ) (g' : Dev PleGateDaReferenceIdeal.nD → PrngReg) :
    θ_run (PleGateDaReferenceIdeal.defs (F := Ideal)) (onTc (τ := PleGateDaReferenceIdeal.τ) (PleGateDaReferenceIdeal.main (F := Ideal))) ⟨m', fun _ => 0, g'⟩ fun r => ∀ c : Dev PleGateDaReferenceIdeal.nD,
      r.2.mem ((c : Thread PleGateDaReferenceIdeal.nD PleGateDaReferenceIdeal.τ).loc PleGateDaReferenceIdeal.main_v7) = whole (m' ((c : Thread PleGateDaReferenceIdeal.nD PleGateDaReferenceIdeal.τ).loc PleGateDaReferenceIdeal.main_arg1)) (m' ((c : Thread PleGateDaReferenceIdeal.nD PleGateDaReferenceIdeal.τ).loc PleGateDaReferenceIdeal.main_arg2)) (m' ((c : Thread PleGateDaReferenceIdeal.nD PleGateDaReferenceIdeal.τ).loc PleGateDaReferenceIdeal.main_arg3))
      ∧ r.2.mem ((c : Thread PleGateDaReferenceIdeal.nD PleGateDaReferenceIdeal.τ).loc PleGateDaReferenceIdeal.main_arg0) = m' ((c : Thread PleGateDaReferenceIdeal.nD PleGateDaReferenceIdeal.τ).loc PleGateDaReferenceIdeal.main_arg0)
      ∧ r.2.mem ((c : Thread PleGateDaReferenceIdeal.nD PleGateDaReferenceIdeal.τ).loc PleGateDaReferenceIdeal.main_arg1) = m' ((c : Thread PleGateDaReferenceIdeal.nD PleGateDaReferenceIdeal.τ).loc PleGateDaReferenceIdeal.main_arg1)
      ∧ r.2.mem ((c : Thread PleGateDaReferenceIdeal.nD PleGateDaReferenceIdeal.τ).loc PleGateDaReferenceIdeal.main_arg2) = m' ((c : Thread PleGateDaReferenceIdeal.nD PleGateDaReferenceIdeal.τ).loc PleGateDaReferenceIdeal.main_arg2)
      ∧ r.2.mem ((c : Thread PleGateDaReferenceIdeal.nD PleGateDaReferenceIdeal.τ).loc PleGateDaReferenceIdeal.main_arg3) = m' ((c : Thread PleGateDaReferenceIdeal.nD PleGateDaReferenceIdeal.τ).loc PleGateDaReferenceIdeal.main_arg3) :=
  (θ_run _ _ _).mono (fun r h c => ⟨(h c).1.trans ((PleGateDaReferenceIdeal.Read.val_main_v7_eq (F := Ideal) _ _ _).trans
    (funext fun i => (congrArg (PleGateDaReferenceIdeal.Read.val_main_v7 (F := Ideal) _ _ _) (ix2_of i)).trans ((ref_at _ _ _ _ _).trans
      (congrArg (whole (m' ((c : Thread PleGateDaReferenceIdeal.nD PleGateDaReferenceIdeal.τ).loc PleGateDaReferenceIdeal.main_arg1)) (m' ((c : Thread PleGateDaReferenceIdeal.nD PleGateDaReferenceIdeal.τ).loc PleGateDaReferenceIdeal.main_arg2)) (m' ((c : Thread PleGateDaReferenceIdeal.nD PleGateDaReferenceIdeal.τ).loc PleGateDaReferenceIdeal.main_arg3))) (ix2_of i).symm)))), (h c).2⟩) (PleGateDaReferenceIdeal.Value.run m' g')

theorem ref_frame (m' : (ℓ : Loc PleGateDaReferenceIdeal.nD PleGateDaReferenceIdeal.τ PleGateDaReferenceIdeal.sig) → Buf (Elt Ideal) ℓ) (g' : Dev PleGateDaReferenceIdeal.nD → PrngReg) :
    θ_run (PleGateDaReferenceIdeal.defs (F := Ideal)) (onTc (τ := PleGateDaReferenceIdeal.τ) (PleGateDaReferenceIdeal.main (F := Ideal))) ⟨m', fun _ => 0, g'⟩ fun r => (∀ c : Dev PleGateDaReferenceIdeal.nD,
      r.2.mem ((c : Thread PleGateDaReferenceIdeal.nD PleGateDaReferenceIdeal.τ).loc PleGateDaReferenceIdeal.main_arg0) = m' ((c : Thread PleGateDaReferenceIdeal.nD PleGateDaReferenceIdeal.τ).loc PleGateDaReferenceIdeal.main_arg0)
      ∧ r.2.mem ((c : Thread PleGateDaReferenceIdeal.nD PleGateDaReferenceIdeal.τ).loc PleGateDaReferenceIdeal.main_arg1) = m' ((c : Thread PleGateDaReferenceIdeal.nD PleGateDaReferenceIdeal.τ).loc PleGateDaReferenceIdeal.main_arg1)
      ∧ r.2.mem ((c : Thread PleGateDaReferenceIdeal.nD PleGateDaReferenceIdeal.τ).loc PleGateDaReferenceIdeal.main_arg2) = m' ((c : Thread PleGateDaReferenceIdeal.nD PleGateDaReferenceIdeal.τ).loc PleGateDaReferenceIdeal.main_arg2)
      ∧ r.2.mem ((c : Thread PleGateDaReferenceIdeal.nD PleGateDaReferenceIdeal.τ).loc PleGateDaReferenceIdeal.main_arg3) = m' ((c : Thread PleGateDaReferenceIdeal.nD PleGateDaReferenceIdeal.τ).loc PleGateDaReferenceIdeal.main_arg3))
      ∧ r.2.sem = fun _ => 0 :=
  (θ_run _ _ _).mono (fun r h => ⟨fun c => (h c).2, sem_eq_zero_of_no_sems (by decide) r.2⟩) (PleGateDaReferenceIdeal.Value.run m' g')

theorem agrees : algebraic_PleGateDaIdeal_PleGateDaReferenceIdeal (hPleGateDaIdeal := Gen.facts) (hPleGateDaReferenceIdeal := PleGateDaReferenceIdeal.Gen.facts) := by
  intro m r m' r' _ hm
  refine ⟨fun c => whole (m ((c : Thread nD τ).loc main_arg1)) (m ((c : Thread nD τ).loc main_arg2)) (m ((c : Thread nD τ).loc main_arg3)), (θ_run _ _ _).mono (fun _ h c => ⟨(h c).1.trans (arr m c), (h c).2⟩) (Value.run_blocks m r), ?_⟩
  refine (θ_run _ _ _).mono (fun _ h c => ?_) (ref_run m' r')
  have e : whole (m' ((c : Thread PleGateDaReferenceIdeal.nD PleGateDaReferenceIdeal.τ).loc PleGateDaReferenceIdeal.main_arg1)) (m' ((c : Thread PleGateDaReferenceIdeal.nD PleGateDaReferenceIdeal.τ).loc PleGateDaReferenceIdeal.main_arg2)) (m' ((c : Thread PleGateDaReferenceIdeal.nD PleGateDaReferenceIdeal.τ).loc PleGateDaReferenceIdeal.main_arg3)) = whole (m ((c : Thread nD τ).loc main_arg1)) (m ((c : Thread nD τ).loc main_arg2)) (m ((c : Thread nD τ).loc main_arg3)) := by
    obtain ⟨h0, h1, h2, h3⟩ := hm c
    rw [h1, h2, h3]
  exact ⟨(h c).1.trans e, (h c).2⟩

end Cert.Mm.PleGateDa
-- ==== Proof.MmPleGateDw.lean ====
/-
  The gradient of a product with respect to the weights, as the kernel accumulates it.
-/
module

public import proofs.«01_k».proof.Defs
public import proofs.«01_k».proof.Proof.Mm
public import proofs.«01_k».proof.Proof.Gen.PleGateDw.Frame
public import proofs.«01_k».proof.Proof.Gen.PleGateDwIdeal.Value
public import proofs.«01_k».proof.Proof.Gen.PleGateDwReferenceIdeal.Read
public import proofs.«01_k».proof.Proof.Gen.PleGateDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.PleGateDw

open Cert.PleGateDwIdeal Cert.PleGateDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x2 : S4096x1024.Idx → EReal) (i : Fin 1024) (j : Fin 1024) (k : Fin 4096) : EReal := x0 (ix2 k i) * x2 (ix2 k j)

/-- The product, by its entries. -/
def whole (x0 : S4096x1024.Idx → EReal) (x2 : S4096x1024.Idx → EReal) (y : S1024x1024.Idx) : EReal := (∑ k, terms x0 x2 (y 0) (y 1) k)

theorem ref_at (x0 : S4096x1024.Idx → EReal) (x2 : S4096x1024.Idx → EReal) (i : Fin 1024) (j : Fin 1024) :
    PleGateDwReferenceIdeal.Read.val_main_v6 (F := Ideal) x0 x2 (ix2 i j) = whole x0 x2 (ix2 i j) := by
  pointwise [PleGateDwReferenceIdeal.Read.val_main_v6, PleGateDwReferenceIdeal.Read.val_main_v4, PleGateDwReferenceIdeal.Read.val_main_v3, PleGateDwReferenceIdeal.Read.val_main_v2, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 1024 → Fin 1024 → Fin 4096 → EReal := terms (m ((c : Thread nD τ).loc main_arg0)) (m ((c : Thread nD τ).loc main_arg2))

def row (i : Fin 1024) : Fin 1024 := ⟨1024 * (t.val / 4) + i.val, by have : t.val < 4 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1024 .f32 := iblk m c 0 t
def pb : FVec Ideal S1024x1024 .bf16 := iblk m c 1 t

theorem pa_at (q : Fin 1024) (i : Fin 1024) :
    pa m c t (ix2 q i) = m ((c : Thread nD τ).loc main_arg0) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg2) (ix2 ⟨1024 * (t.val % 4) + q.val, by omega⟩ (col t j)) := by
  show iblk m c 1 t (ix2 q j) = _
  blk_ext! [iblk, V, index_of t, col]

theorem dot_at (i : Fin 1024) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1024) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1024) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1024) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1024x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 1024) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc PleGateDwReferenceIdeal.nD PleGateDwReferenceIdeal.τ PleGateDwReferenceIdeal.sig) → Buf (Elt Ideal) ℓ) (g' : Dev PleGateDwReferenceIdeal.nD → PrngReg) :
    θ_run (PleGateDwReferenceIdeal.defs (F := Ideal)) (onTc (τ := PleGateDwReferenceIdeal.τ) (PleGateDwReferenceIdeal.main (F := Ideal))) ⟨m', fun _ => 0, g'⟩ fun r => ∀ c : Dev PleGateDwReferenceIdeal.nD,
      r.2.mem ((c : Thread PleGateDwReferenceIdeal.nD PleGateDwReferenceIdeal.τ).loc PleGateDwReferenceIdeal.main_v6) = whole (m' ((c : Thread PleGateDwReferenceIdeal.nD PleGateDwReferenceIdeal.τ).loc PleGateDwReferenceIdeal.main_arg0)) (m' ((c : Thread PleGateDwReferenceIdeal.nD PleGateDwReferenceIdeal.τ).loc PleGateDwReferenceIdeal.main_arg2))
      ∧ r.2.mem ((c : Thread PleGateDwReferenceIdeal.nD PleGateDwReferenceIdeal.τ).loc PleGateDwReferenceIdeal.main_arg0) = m' ((c : Thread PleGateDwReferenceIdeal.nD PleGateDwReferenceIdeal.τ).loc PleGateDwReferenceIdeal.main_arg0)
      ∧ r.2.mem ((c : Thread PleGateDwReferenceIdeal.nD PleGateDwReferenceIdeal.τ).loc PleGateDwReferenceIdeal.main_arg1) = m' ((c : Thread PleGateDwReferenceIdeal.nD PleGateDwReferenceIdeal.τ).loc PleGateDwReferenceIdeal.main_arg1)
      ∧ r.2.mem ((c : Thread PleGateDwReferenceIdeal.nD PleGateDwReferenceIdeal.τ).loc PleGateDwReferenceIdeal.main_arg2) = m' ((c : Thread PleGateDwReferenceIdeal.nD PleGateDwReferenceIdeal.τ).loc PleGateDwReferenceIdeal.main_arg2) :=
  (θ_run _ _ _).mono (fun r h c => ⟨(h c).1.trans ((PleGateDwReferenceIdeal.Read.val_main_v6_eq (F := Ideal) _ _).trans
    (funext fun i => (congrArg (PleGateDwReferenceIdeal.Read.val_main_v6 (F := Ideal) _ _) (ix2_of i)).trans ((ref_at _ _ _ _).trans
      (congrArg (whole (m' ((c : Thread PleGateDwReferenceIdeal.nD PleGateDwReferenceIdeal.τ).loc PleGateDwReferenceIdeal.main_arg0)) (m' ((c : Thread PleGateDwReferenceIdeal.nD PleGateDwReferenceIdeal.τ).loc PleGateDwReferenceIdeal.main_arg2))) (ix2_of i).symm)))), (h c).2⟩) (PleGateDwReferenceIdeal.Value.run m' g')

theorem ref_frame (m' : (ℓ : Loc PleGateDwReferenceIdeal.nD PleGateDwReferenceIdeal.τ PleGateDwReferenceIdeal.sig) → Buf (Elt Ideal) ℓ) (g' : Dev PleGateDwReferenceIdeal.nD → PrngReg) :
    θ_run (PleGateDwReferenceIdeal.defs (F := Ideal)) (onTc (τ := PleGateDwReferenceIdeal.τ) (PleGateDwReferenceIdeal.main (F := Ideal))) ⟨m', fun _ => 0, g'⟩ fun r => (∀ c : Dev PleGateDwReferenceIdeal.nD,
      r.2.mem ((c : Thread PleGateDwReferenceIdeal.nD PleGateDwReferenceIdeal.τ).loc PleGateDwReferenceIdeal.main_arg0) = m' ((c : Thread PleGateDwReferenceIdeal.nD PleGateDwReferenceIdeal.τ).loc PleGateDwReferenceIdeal.main_arg0)
      ∧ r.2.mem ((c : Thread PleGateDwReferenceIdeal.nD PleGateDwReferenceIdeal.τ).loc PleGateDwReferenceIdeal.main_arg1) = m' ((c : Thread PleGateDwReferenceIdeal.nD PleGateDwReferenceIdeal.τ).loc PleGateDwReferenceIdeal.main_arg1)
      ∧ r.2.mem ((c : Thread PleGateDwReferenceIdeal.nD PleGateDwReferenceIdeal.τ).loc PleGateDwReferenceIdeal.main_arg2) = m' ((c : Thread PleGateDwReferenceIdeal.nD PleGateDwReferenceIdeal.τ).loc PleGateDwReferenceIdeal.main_arg2))
      ∧ r.2.sem = fun _ => 0 :=
  (θ_run _ _ _).mono (fun r h => ⟨fun c => (h c).2, sem_eq_zero_of_no_sems (by decide) r.2⟩) (PleGateDwReferenceIdeal.Value.run m' g')

theorem agrees : algebraic_PleGateDwIdeal_PleGateDwReferenceIdeal (hPleGateDwIdeal := Gen.facts) (hPleGateDwReferenceIdeal := PleGateDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread PleGateDwReferenceIdeal.nD PleGateDwReferenceIdeal.τ).loc PleGateDwReferenceIdeal.main_arg0)) (m' ((c : Thread PleGateDwReferenceIdeal.nD PleGateDwReferenceIdeal.τ).loc PleGateDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.PleGateDw
-- ==== Proof.MmPleGateFwd.lean ====
/-
  A product with the weights, as the kernel accumulates it.
-/
module

public import proofs.«01_k».proof.Defs
public import proofs.«01_k».proof.Proof.Mm
public import proofs.«01_k».proof.Proof.Gen.PleGateFwd.Frame
public import proofs.«01_k».proof.Proof.Gen.PleGateFwdIdeal.Value
public import proofs.«01_k».proof.Proof.Gen.PleGateFwdReferenceIdeal.Read
public import proofs.«01_k».proof.Proof.Gen.PleGateFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.PleGateFwd

open Cert.PleGateFwdIdeal Cert.PleGateFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x1 : S1024x1024.Idx → EReal) (i : Fin 4096) (j : Fin 1024) (k : Fin 1024) : EReal := x0 (ix2 i k) * x1 (ix2 k j)

/-- The product, by its entries. -/
def whole (x0 : S4096x1024.Idx → EReal) (x1 : S1024x1024.Idx → EReal) (y : S4096x1024.Idx) : EReal := (∑ k, terms x0 x1 (y 0) (y 1) k)

theorem ref_at (x0 : S4096x1024.Idx → EReal) (x1 : S1024x1024.Idx → EReal) (i : Fin 4096) (j : Fin 1024) :
    PleGateFwdReferenceIdeal.Read.val_main_v2 (F := Ideal) x0 x1 (ix2 i j) = whole x0 x1 (ix2 i j) := by
  pointwise [PleGateFwdReferenceIdeal.Read.val_main_v2, PleGateFwdReferenceIdeal.Read.val_main_v1, PleGateFwdReferenceIdeal.Read.val_main_v0, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 1024 → EReal := terms (m ((c : Thread nD τ).loc main_arg0)) (m ((c : Thread nD τ).loc main_arg1))

def row (i : Fin 1024) : Fin 4096 := ⟨1024 * (t.val / 1) + i.val, by have : t.val < 4 := t.isLt; omega⟩
def col (j : Fin 1024) : Fin 1024 := ⟨1024 * (t.val / 1 % 1) + j.val, by omega⟩

theorem index_of : ∀ t : Fin cfg0.N,
    win0_0.index t = ![t.val / 1, t.val % 1] ∧ win0_1.index t = ![t.val % 1, t.val / 1 % 1] ∧ win0_2.index t = ![t.val / 1, t.val / 1 % 1] :=
  (by decide +kernel : ∀ t : Fin grid0.N,
    win0_0.index t = ![t.val / 1, t.val % 1] ∧ win0_1.index t = ![t.val % 1, t.val / 1 % 1] ∧ win0_2.index t = ![t.val / 1, t.val / 1 % 1])

def pa : FVec Ideal S1024x1024 .f32 := iblk m c 0 t
def pb : FVec Ideal S1024x1024 .bf16 := iblk m c 1 t

theorem pa_at (q : Fin 1024) (i : Fin 1024) :
    pa m c t (ix2 i q) = m ((c : Thread nD τ).loc main_arg0) (ix2 (row t i) ⟨1024 * (t.val % 1) + q.val, by omega⟩) := by
  show iblk m c 0 t (ix2 i q) = _
  blk_ext! [iblk, V, index_of t, row]

theorem pb_at (q : Fin 1024) (j : Fin 1024) :
    pb m c t (ix2 q j) = m ((c : Thread nD τ).loc main_arg1) (ix2 ⟨1024 * (t.val % 1) + q.val, by omega⟩ (col t j)) := by
  show iblk m c 1 t (ix2 q j) = _
  blk_ext! [iblk, V, index_of t, col]

theorem dot_at (i : Fin 1024) (j : Fin 1024) (n : ℕ) (h : t.val % 1 = n) :
    ∑ q : Fin 1024, pa m c t (ix2 i q) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1024 .bf16 := out0_2 (iblk m c 0 t) (iblk m c 1 t)

theorem out_pt (i : Fin 1024) (j : Fin 1024) :
    po m c t (ix2 i j) = (∑ q : Fin 1024, pa m c t (ix2 i q) * pb m c t (ix2 q j)) := by
  unfold po
  frame_out
  pointwise [k0_pay1]
  all_goals rfl

theorem out_at (i : Fin 1024) (j : Fin 1024) : po m c t (ix2 i j) = (∑ k, g m c (row t i) (col t j) k) := by
  have e : ∑ q : Fin 1024, pa m c t (ix2 i q) * pb m c t (ix2 q j) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1024.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 1024 * (t.val / 1) + (y 0).val := by
    blk_simp [index_of t]
    omega
  have e1 : ((((cfg0.win 2).blk t).view.emb y) 1 : ℕ) = 1024 * (t.val / 1 % 1) + (y 1).val := by
    blk_simp [index_of t]
    omega
  refine (congrArg (po m c t) (ix2_of y)).trans ((out_at m c t (y 0) (y 1)).trans ?_)
  exact congrArg₂ (fun (i : Fin 4096) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_run (m' : (ℓ : Loc PleGateFwdReferenceIdeal.nD PleGateFwdReferenceIdeal.τ PleGateFwdReferenceIdeal.sig) → Buf (Elt Ideal) ℓ) (g' : Dev PleGateFwdReferenceIdeal.nD → PrngReg) :
    θ_run (PleGateFwdReferenceIdeal.defs (F := Ideal)) (onTc (τ := PleGateFwdReferenceIdeal.τ) (PleGateFwdReferenceIdeal.main (F := Ideal))) ⟨m', fun _ => 0, g'⟩ fun r => ∀ c : Dev PleGateFwdReferenceIdeal.nD,
      r.2.mem ((c : Thread PleGateFwdReferenceIdeal.nD PleGateFwdReferenceIdeal.τ).loc PleGateFwdReferenceIdeal.main_v2) = whole (m' ((c : Thread PleGateFwdReferenceIdeal.nD PleGateFwdReferenceIdeal.τ).loc PleGateFwdReferenceIdeal.main_arg0)) (m' ((c : Thread PleGateFwdReferenceIdeal.nD PleGateFwdReferenceIdeal.τ).loc PleGateFwdReferenceIdeal.main_arg1))
      ∧ r.2.mem ((c : Thread PleGateFwdReferenceIdeal.nD PleGateFwdReferenceIdeal.τ).loc PleGateFwdReferenceIdeal.main_arg0) = m' ((c : Thread PleGateFwdReferenceIdeal.nD PleGateFwdReferenceIdeal.τ).loc PleGateFwdReferenceIdeal.main_arg0)
      ∧ r.2.mem ((c : Thread PleGateFwdReferenceIdeal.nD PleGateFwdReferenceIdeal.τ).loc PleGateFwdReferenceIdeal.main_arg1) = m' ((c : Thread PleGateFwdReferenceIdeal.nD PleGateFwdReferenceIdeal.τ).loc PleGateFwdReferenceIdeal.main_arg1) :=
  (θ_run _ _ _).mono (fun r h c => ⟨(h c).1.trans ((PleGateFwdReferenceIdeal.Read.val_main_v2_eq (F := Ideal) _ _).trans
    (funext fun i => (congrArg (PleGateFwdReferenceIdeal.Read.val_main_v2 (F := Ideal) _ _) (ix2_of i)).trans ((ref_at _ _ _ _).trans
      (congrArg (whole (m' ((c : Thread PleGateFwdReferenceIdeal.nD PleGateFwdReferenceIdeal.τ).loc PleGateFwdReferenceIdeal.main_arg0)) (m' ((c : Thread PleGateFwdReferenceIdeal.nD PleGateFwdReferenceIdeal.τ).loc PleGateFwdReferenceIdeal.main_arg1))) (ix2_of i).symm)))), (h c).2⟩) (PleGateFwdReferenceIdeal.Value.run m' g')

theorem ref_frame (m' : (ℓ : Loc PleGateFwdReferenceIdeal.nD PleGateFwdReferenceIdeal.τ PleGateFwdReferenceIdeal.sig) → Buf (Elt Ideal) ℓ) (g' : Dev PleGateFwdReferenceIdeal.nD → PrngReg) :
    θ_run (PleGateFwdReferenceIdeal.defs (F := Ideal)) (onTc (τ := PleGateFwdReferenceIdeal.τ) (PleGateFwdReferenceIdeal.main (F := Ideal))) ⟨m', fun _ => 0, g'⟩ fun r => (∀ c : Dev PleGateFwdReferenceIdeal.nD,
      r.2.mem ((c : Thread PleGateFwdReferenceIdeal.nD PleGateFwdReferenceIdeal.τ).loc PleGateFwdReferenceIdeal.main_arg0) = m' ((c : Thread PleGateFwdReferenceIdeal.nD PleGateFwdReferenceIdeal.τ).loc PleGateFwdReferenceIdeal.main_arg0)
      ∧ r.2.mem ((c : Thread PleGateFwdReferenceIdeal.nD PleGateFwdReferenceIdeal.τ).loc PleGateFwdReferenceIdeal.main_arg1) = m' ((c : Thread PleGateFwdReferenceIdeal.nD PleGateFwdReferenceIdeal.τ).loc PleGateFwdReferenceIdeal.main_arg1))
      ∧ r.2.sem = fun _ => 0 :=
  (θ_run _ _ _).mono (fun r h => ⟨fun c => (h c).2, sem_eq_zero_of_no_sems (by decide) r.2⟩) (PleGateFwdReferenceIdeal.Value.run m' g')

theorem agrees : algebraic_PleGateFwdIdeal_PleGateFwdReferenceIdeal (hPleGateFwdIdeal := Gen.facts) (hPleGateFwdReferenceIdeal := PleGateFwdReferenceIdeal.Gen.facts) := by
  intro m r m' r' _ hm
  refine ⟨fun c => whole (m ((c : Thread nD τ).loc main_arg0)) (m ((c : Thread nD τ).loc main_arg1)), (θ_run _ _ _).mono (fun _ h c => ⟨(h c).1.trans (arr m c), (h c).2⟩) (Value.run_blocks m r), ?_⟩
  refine (θ_run _ _ _).mono (fun _ h c => ?_) (ref_run m' r')
  have e : whole (m' ((c : Thread PleGateFwdReferenceIdeal.nD PleGateFwdReferenceIdeal.τ).loc PleGateFwdReferenceIdeal.main_arg0)) (m' ((c : Thread PleGateFwdReferenceIdeal.nD PleGateFwdReferenceIdeal.τ).loc PleGateFwdReferenceIdeal.main_arg1)) = whole (m ((c : Thread nD τ).loc main_arg0)) (m ((c : Thread nD τ).loc main_arg1)) := by
    obtain ⟨h0, h1⟩ := hm c
    rw [h0, h1]
  exact ⟨(h c).1.trans e, (h c).2⟩

end Cert.Mm.PleGateFwd
-- ==== Proof.MmODa.lean ====
/-
  The gradient of a product with respect to its left operand, as the kernel accumulates it.
-/
module

public import proofs.«01_k».proof.Defs
public import proofs.«01_k».proof.Proof.Mm
public import proofs.«01_k».proof.Proof.Gen.ODa.Frame
public import proofs.«01_k».proof.Proof.Gen.ODaIdeal.Value
public import proofs.«01_k».proof.Proof.Gen.ODaReferenceIdeal.Read
public import proofs.«01_k».proof.Proof.Gen.ODaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.ODa

open Cert.ODaIdeal Cert.ODaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S1024x1024.Idx → EReal) (x2 : S4096x1024.Idx → EReal) (i : Fin 4096) (j : Fin 1024) (k : Fin 1024) : EReal := x2 (ix2 i k) * x1 (ix2 j k)

/-- The product, by its entries. -/
def whole (x1 : S1024x1024.Idx → EReal) (x2 : S4096x1024.Idx → EReal) (y : S4096x1024.Idx) : EReal := (∑ k, terms x1 x2 (y 0) (y 1) k)

theorem ref_at (x1 : S1024x1024.Idx → EReal) (x2 : S4096x1024.Idx → EReal) (i : Fin 4096) (j : Fin 1024) :
    ODaReferenceIdeal.Read.val_main_v5 (F := Ideal) x1 x2 (ix2 i j) = whole x1 x2 (ix2 i j) := by
  pointwise [ODaReferenceIdeal.Read.val_main_v5, ODaReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 1024 → EReal := terms (m ((c : Thread nD τ).loc main_arg1)) (m ((c : Thread nD τ).loc main_arg2))

def row (i : Fin 1024) : Fin 4096 := ⟨1024 * (t.val / 1) + i.val, by have : t.val < 4 := t.isLt; omega⟩
def col (j : Fin 1024) : Fin 1024 := ⟨1024 * (t.val / 1 % 1) + j.val, by omega⟩

theorem index_of : ∀ t : Fin cfg0.N,
    win0_0.index t = ![t.val / 1, t.val % 1] ∧ win0_1.index t = ![t.val / 1 % 1, t.val % 1] ∧ win0_2.index t = ![t.val / 1, t.val / 1 % 1] :=
  (by decide +kernel : ∀ t : Fin grid0.N,
    win0_0.index t = ![t.val / 1, t.val % 1] ∧ win0_1.index t = ![t.val / 1 % 1, t.val % 1] ∧ win0_2.index t = ![t.val / 1, t.val / 1 % 1])

def pa : FVec Ideal S1024x1024 .f32 := iblk m c 0 t
def pb : FVec Ideal S1024x1024 .bf16 := iblk m c 1 t

theorem pa_at (q : Fin 1024) (i : Fin 1024) :
    pa m c t (ix2 i q) = m ((c : Thread nD τ).loc main_arg2) (ix2 (row t i) ⟨1024 * (t.val % 1) + q.val, by omega⟩) := by
  show iblk m c 0 t (ix2 i q) = _
  blk_ext! [iblk, V, index_of t, row]

theorem pb_at (q : Fin 1024) (j : Fin 1024) :
    pb m c t (ix2 j q) = m ((c : Thread nD τ).loc main_arg1) (ix2 (col t j) ⟨1024 * (t.val % 1) + q.val, by omega⟩) := by
  show iblk m c 1 t (ix2 j q) = _
  blk_ext! [iblk, V, index_of t, col]

theorem dot_at (i : Fin 1024) (j : Fin 1024) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1024 .f32 := out0_2 (iblk m c 0 t) (iblk m c 1 t)

theorem out_pt (i : Fin 1024) (j : Fin 1024) :
    po m c t (ix2 i j) = (∑ q : Fin 1024, pa m c t (ix2 i q) * pb m c t (ix2 j q)) := by
  unfold po
  frame_out
  pointwise [k0_pay1]
  all_goals rfl

theorem out_at (i : Fin 1024) (j : Fin 1024) : po m c t (ix2 i j) = (∑ k, g m c (row t i) (col t j) k) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1024.Idx) :
    (po m c t) y = whole (m ((c : Thread nD τ).loc main_arg1)) (m ((c : Thread nD τ).loc main_arg2)) (((cfg0.win 2).blk t).view.emb y) := by
  have e0 : ((((cfg0.win 2).blk t).view.emb y) 0 : ℕ) = 1024 * (t.val / 1) + (y 0).val := by
    blk_simp [index_of t]
    omega
  have e1 : ((((cfg0.win 2).blk t).view.emb y) 1 : ℕ) = 1024 * (t.val / 1 % 1) + (y 1).val := by
    blk_simp [index_of t]
    omega
  refine (congrArg (po m c t) (ix2_of y)).trans ((out_at m c t (y 0) (y 1)).trans ?_)
  exact congrArg₂ (fun (i : Fin 4096) (j : Fin 1024) => (∑ k, g m c i j k)) (Fin.ext e0.symm) (Fin.ext e1.symm)

theorem arr : (dats m 0 c).arrAt 2 cfg0.N = whole (m ((c : Thread nD τ).loc main_arg1)) (m ((c : Thread nD τ).loc main_arg2)) :=
  (dats m 0 c).arrAt_eq_of_covers 2 _ (by decide +kernel) fun t hf y => (congrFun (after0_2 m c t) y).trans (block_at m c t y)

theorem ref_run (m' : (ℓ : Loc ODaReferenceIdeal.nD ODaReferenceIdeal.τ ODaReferenceIdeal.sig) → Buf (Elt Ideal) ℓ) (g' : Dev ODaReferenceIdeal.nD → PrngReg) :
    θ_run (ODaReferenceIdeal.defs (F := Ideal)) (onTc (τ := ODaReferenceIdeal.τ) (ODaReferenceIdeal.main (F := Ideal))) ⟨m', fun _ => 0, g'⟩ fun r => ∀ c : Dev ODaReferenceIdeal.nD,
      r.2.mem ((c : Thread ODaReferenceIdeal.nD ODaReferenceIdeal.τ).loc ODaReferenceIdeal.main_v5) = whole (m' ((c : Thread ODaReferenceIdeal.nD ODaReferenceIdeal.τ).loc ODaReferenceIdeal.main_arg1)) (m' ((c : Thread ODaReferenceIdeal.nD ODaReferenceIdeal.τ).loc ODaReferenceIdeal.main_arg2))
      ∧ r.2.mem ((c : Thread ODaReferenceIdeal.nD ODaReferenceIdeal.τ).loc ODaReferenceIdeal.main_arg0) = m' ((c : Thread ODaReferenceIdeal.nD ODaReferenceIdeal.τ).loc ODaReferenceIdeal.main_arg0)
      ∧ r.2.mem ((c : Thread ODaReferenceIdeal.nD ODaReferenceIdeal.τ).loc ODaReferenceIdeal.main_arg1) = m' ((c : Thread ODaReferenceIdeal.nD ODaReferenceIdeal.τ).loc ODaReferenceIdeal.main_arg1)
      ∧ r.2.mem ((c : Thread ODaReferenceIdeal.nD ODaReferenceIdeal.τ).loc ODaReferenceIdeal.main_arg2) = m' ((c : Thread ODaReferenceIdeal.nD ODaReferenceIdeal.τ).loc ODaReferenceIdeal.main_arg2) :=
  (θ_run _ _ _).mono (fun r h c => ⟨(h c).1.trans ((ODaReferenceIdeal.Read.val_main_v5_eq (F := Ideal) _ _).trans
    (funext fun i => (congrArg (ODaReferenceIdeal.Read.val_main_v5 (F := Ideal) _ _) (ix2_of i)).trans ((ref_at _ _ _ _).trans
      (congrArg (whole (m' ((c : Thread ODaReferenceIdeal.nD ODaReferenceIdeal.τ).loc ODaReferenceIdeal.main_arg1)) (m' ((c : Thread ODaReferenceIdeal.nD ODaReferenceIdeal.τ).loc ODaReferenceIdeal.main_arg2))) (ix2_of i).symm)))), (h c).2⟩) (ODaReferenceIdeal.Value.run m' g')

theorem ref_frame (m' : (ℓ : Loc ODaReferenceIdeal.nD ODaReferenceIdeal.τ ODaReferenceIdeal.sig) → Buf (Elt Ideal) ℓ) (g' : Dev ODaReferenceIdeal.nD → PrngReg) :
    θ_run (ODaReferenceIdeal.defs (F := Ideal)) (onTc (τ := ODaReferenceIdeal.τ) (ODaReferenceIdeal.main (F := Ideal))) ⟨m', fun _ => 0, g'⟩ fun r => (∀ c : Dev ODaReferenceIdeal.nD,
      r.2.mem ((c : Thread ODaReferenceIdeal.nD ODaReferenceIdeal.τ).loc ODaReferenceIdeal.main_arg0) = m' ((c : Thread ODaReferenceIdeal.nD ODaReferenceIdeal.τ).loc ODaReferenceIdeal.main_arg0)
      ∧ r.2.mem ((c : Thread ODaReferenceIdeal.nD ODaReferenceIdeal.τ).loc ODaReferenceIdeal.main_arg1) = m' ((c : Thread ODaReferenceIdeal.nD ODaReferenceIdeal.τ).loc ODaReferenceIdeal.main_arg1)
      ∧ r.2.mem ((c : Thread ODaReferenceIdeal.nD ODaReferenceIdeal.τ).loc ODaReferenceIdeal.main_arg2) = m' ((c : Thread ODaReferenceIdeal.nD ODaReferenceIdeal.τ).loc ODaReferenceIdeal.main_arg2))
      ∧ r.2.sem = fun _ => 0 :=
  (θ_run _ _ _).mono (fun r h => ⟨fun c => (h c).2, sem_eq_zero_of_no_sems (by decide) r.2⟩) (ODaReferenceIdeal.Value.run m' g')

theorem agrees : algebraic_ODaIdeal_ODaReferenceIdeal (hODaIdeal := Gen.facts) (hODaReferenceIdeal := ODaReferenceIdeal.Gen.facts) := by
  intro m r m' r' _ hm
  refine ⟨fun c => whole (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread ODaReferenceIdeal.nD ODaReferenceIdeal.τ).loc ODaReferenceIdeal.main_arg1)) (m' ((c : Thread ODaReferenceIdeal.nD ODaReferenceIdeal.τ).loc ODaReferenceIdeal.main_arg2)) = whole (m ((c : Thread nD τ).loc main_arg1)) (m ((c : Thread nD τ).loc main_arg2)) := by
    obtain ⟨h0, h1, h2⟩ := hm c
    rw [h1, h2]
  exact ⟨(h c).1.trans e, (h c).2⟩

end Cert.Mm.ODa
-- ==== Proof.MmODw.lean ====
/-
  The gradient of a product with respect to the weights, as the kernel accumulates it.
-/
module

public import proofs.«01_k».proof.Defs
public import proofs.«01_k».proof.Proof.Mm
public import proofs.«01_k».proof.Proof.Gen.ODw.Frame
public import proofs.«01_k».proof.Proof.Gen.ODwIdeal.Value
public import proofs.«01_k».proof.Proof.Gen.ODwReferenceIdeal.Read
public import proofs.«01_k».proof.Proof.Gen.ODwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.ODw

open Cert.ODwIdeal Cert.ODwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x2 : S4096x1024.Idx → EReal) (i : Fin 1024) (j : Fin 1024) (k : Fin 4096) : EReal := x0 (ix2 k i) * x2 (ix2 k j)

/-- The product, by its entries. -/
def whole (x0 : S4096x1024.Idx → EReal) (x2 : S4096x1024.Idx → EReal) (y : S1024x1024.Idx) : EReal := (∑ k, terms x0 x2 (y 0) (y 1) k)

theorem ref_at (x0 : S4096x1024.Idx → EReal) (x2 : S4096x1024.Idx → EReal) (i : Fin 1024) (j : Fin 1024) :
    ODwReferenceIdeal.Read.val_main_v7 (F := Ideal) x0 x2 (ix2 i j) = whole x0 x2 (ix2 i j) := by
  pointwise [ODwReferenceIdeal.Read.val_main_v7, ODwReferenceIdeal.Read.val_main_v4, ODwReferenceIdeal.Read.val_main_v3, ODwReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 1024 → Fin 1024 → Fin 4096 → EReal := terms (m ((c : Thread nD τ).loc main_arg0)) (m ((c : Thread nD τ).loc main_arg2))

def row (i : Fin 1024) : Fin 1024 := ⟨1024 * (t.val / 4) + i.val, by have : t.val < 4 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1024 .bf16 := iblk m c 0 t
def pb : FVec Ideal S1024x1024 .f32 := iblk m c 1 t

theorem pa_at (q : Fin 1024) (i : Fin 1024) :
    pa m c t (ix2 q i) = m ((c : Thread nD τ).loc main_arg0) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg2) (ix2 ⟨1024 * (t.val % 4) + q.val, by omega⟩ (col t j)) := by
  show iblk m c 1 t (ix2 q j) = _
  blk_ext! [iblk, V, index_of t, col]

theorem dot_at (i : Fin 1024) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1024) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1024) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1024) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1024) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1024) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1024x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 1024) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc ODwReferenceIdeal.nD ODwReferenceIdeal.τ ODwReferenceIdeal.sig) → Buf (Elt Ideal) ℓ) (g' : Dev ODwReferenceIdeal.nD → PrngReg) :
    θ_run (ODwReferenceIdeal.defs (F := Ideal)) (onTc (τ := ODwReferenceIdeal.τ) (ODwReferenceIdeal.main (F := Ideal))) ⟨m', fun _ => 0, g'⟩ fun r => ∀ c : Dev ODwReferenceIdeal.nD,
      r.2.mem ((c : Thread ODwReferenceIdeal.nD ODwReferenceIdeal.τ).loc ODwReferenceIdeal.main_v7) = whole (m' ((c : Thread ODwReferenceIdeal.nD ODwReferenceIdeal.τ).loc ODwReferenceIdeal.main_arg0)) (m' ((c : Thread ODwReferenceIdeal.nD ODwReferenceIdeal.τ).loc ODwReferenceIdeal.main_arg2))
      ∧ r.2.mem ((c : Thread ODwReferenceIdeal.nD ODwReferenceIdeal.τ).loc ODwReferenceIdeal.main_arg0) = m' ((c : Thread ODwReferenceIdeal.nD ODwReferenceIdeal.τ).loc ODwReferenceIdeal.main_arg0)
      ∧ r.2.mem ((c : Thread ODwReferenceIdeal.nD ODwReferenceIdeal.τ).loc ODwReferenceIdeal.main_arg1) = m' ((c : Thread ODwReferenceIdeal.nD ODwReferenceIdeal.τ).loc ODwReferenceIdeal.main_arg1)
      ∧ r.2.mem ((c : Thread ODwReferenceIdeal.nD ODwReferenceIdeal.τ).loc ODwReferenceIdeal.main_arg2) = m' ((c : Thread ODwReferenceIdeal.nD ODwReferenceIdeal.τ).loc ODwReferenceIdeal.main_arg2) :=
  (θ_run _ _ _).mono (fun r h c => ⟨(h c).1.trans ((ODwReferenceIdeal.Read.val_main_v7_eq (F := Ideal) _ _).trans
    (funext fun i => (congrArg (ODwReferenceIdeal.Read.val_main_v7 (F := Ideal) _ _) (ix2_of i)).trans ((ref_at _ _ _ _).trans
      (congrArg (whole (m' ((c : Thread ODwReferenceIdeal.nD ODwReferenceIdeal.τ).loc ODwReferenceIdeal.main_arg0)) (m' ((c : Thread ODwReferenceIdeal.nD ODwReferenceIdeal.τ).loc ODwReferenceIdeal.main_arg2))) (ix2_of i).symm)))), (h c).2⟩) (ODwReferenceIdeal.Value.run m' g')

theorem ref_frame (m' : (ℓ : Loc ODwReferenceIdeal.nD ODwReferenceIdeal.τ ODwReferenceIdeal.sig) → Buf (Elt Ideal) ℓ) (g' : Dev ODwReferenceIdeal.nD → PrngReg) :
    θ_run (ODwReferenceIdeal.defs (F := Ideal)) (onTc (τ := ODwReferenceIdeal.τ) (ODwReferenceIdeal.main (F := Ideal))) ⟨m', fun _ => 0, g'⟩ fun r => (∀ c : Dev ODwReferenceIdeal.nD,
      r.2.mem ((c : Thread ODwReferenceIdeal.nD ODwReferenceIdeal.τ).loc ODwReferenceIdeal.main_arg0) = m' ((c : Thread ODwReferenceIdeal.nD ODwReferenceIdeal.τ).loc ODwReferenceIdeal.main_arg0)
      ∧ r.2.mem ((c : Thread ODwReferenceIdeal.nD ODwReferenceIdeal.τ).loc ODwReferenceIdeal.main_arg1) = m' ((c : Thread ODwReferenceIdeal.nD ODwReferenceIdeal.τ).loc ODwReferenceIdeal.main_arg1)
      ∧ r.2.mem ((c : Thread ODwReferenceIdeal.nD ODwReferenceIdeal.τ).loc ODwReferenceIdeal.main_arg2) = m' ((c : Thread ODwReferenceIdeal.nD ODwReferenceIdeal.τ).loc ODwReferenceIdeal.main_arg2))
      ∧ r.2.sem = fun _ => 0 :=
  (θ_run _ _ _).mono (fun r h => ⟨fun c => (h c).2, sem_eq_zero_of_no_sems (by decide) r.2⟩) (ODwReferenceIdeal.Value.run m' g')

theorem agrees : algebraic_ODwIdeal_ODwReferenceIdeal (hODwIdeal := Gen.facts) (hODwReferenceIdeal := ODwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread ODwReferenceIdeal.nD ODwReferenceIdeal.τ).loc ODwReferenceIdeal.main_arg0)) (m' ((c : Thread ODwReferenceIdeal.nD ODwReferenceIdeal.τ).loc ODwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.ODw
-- ==== Proof.MmOFwd.lean ====
/-
  A product with the weights, as the kernel accumulates it.
-/
module

public import proofs.«01_k».proof.Defs
public import proofs.«01_k».proof.Proof.Mm
public import proofs.«01_k».proof.Proof.Gen.OFwd.Frame
public import proofs.«01_k».proof.Proof.Gen.OFwdIdeal.Value
public import proofs.«01_k».proof.Proof.Gen.OFwdReferenceIdeal.Read
public import proofs.«01_k».proof.Proof.Gen.OFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.OFwd

open Cert.OFwdIdeal Cert.OFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x1 : S1024x1024.Idx → EReal) (x2 : S4096x1024.Idx → EReal) (i : Fin 4096) (j : Fin 1024) (k : Fin 1024) : EReal := x0 (ix2 i k) * x1 (ix2 k j)

/-- The product and what is added to it, by its entries. -/
def whole (x0 : S4096x1024.Idx → EReal) (x1 : S1024x1024.Idx → EReal) (x2 : S4096x1024.Idx → EReal) (y : S4096x1024.Idx) : EReal := (∑ k, terms x0 x1 x2 (y 0) (y 1) k) + x2 (ix2 (y 0) (y 1))

theorem ref_at (x0 : S4096x1024.Idx → EReal) (x1 : S1024x1024.Idx → EReal) (x2 : S4096x1024.Idx → EReal) (i : Fin 4096) (j : Fin 1024) :
    OFwdReferenceIdeal.Read.val_main_v3 (F := Ideal) x0 x1 x2 (ix2 i j) = whole x0 x1 x2 (ix2 i j) := by
  pointwise [OFwdReferenceIdeal.Read.val_main_v3, OFwdReferenceIdeal.Read.val_main_v2, OFwdReferenceIdeal.Read.val_main_v0, OFwdReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 1024 → EReal := terms (m ((c : Thread nD τ).loc main_arg0)) (m ((c : Thread nD τ).loc main_arg1)) (m ((c : Thread nD τ).loc main_arg2))

def row (i : Fin 1024) : Fin 4096 := ⟨1024 * (t.val / 1) + i.val, by have : t.val < 4 := t.isLt; omega⟩
def col (j : Fin 1024) : Fin 1024 := ⟨1024 * (t.val / 1 % 1) + j.val, by omega⟩

theorem index_of : ∀ t : Fin cfg0.N,
    win0_0.index t = ![t.val / 1, t.val % 1] ∧ win0_1.index t = ![t.val % 1, t.val / 1 % 1] ∧ win0_2.index t = ![t.val / 1, t.val / 1 % 1] ∧ win0_3.index t = ![t.val / 1, t.val / 1 % 1] :=
  (by decide +kernel : ∀ t : Fin grid0.N,
    win0_0.index t = ![t.val / 1, t.val % 1] ∧ win0_1.index t = ![t.val % 1, t.val / 1 % 1] ∧ win0_2.index t = ![t.val / 1, t.val / 1 % 1] ∧ win0_3.index t = ![t.val / 1, t.val / 1 % 1])

def pa : FVec Ideal S1024x1024 .bf16 := iblk m c 0 t
def pb : FVec Ideal S1024x1024 .bf16 := iblk m c 1 t
def pc : FVec Ideal S1024x1024 .f32 := iblk m c 2 t

theorem pa_at (q : Fin 1024) (i : Fin 1024) :
    pa m c t (ix2 i q) = m ((c : Thread nD τ).loc main_arg0) (ix2 (row t i) ⟨1024 * (t.val % 1) + q.val, by omega⟩) := by
  show iblk m c 0 t (ix2 i q) = _
  blk_ext! [iblk, V, index_of t, row]

theorem pb_at (q : Fin 1024) (j : Fin 1024) :
    pb m c t (ix2 q j) = m ((c : Thread nD τ).loc main_arg1) (ix2 ⟨1024 * (t.val % 1) + q.val, by omega⟩ (col t j)) := by
  show iblk m c 1 t (ix2 q j) = _
  blk_ext! [iblk, V, index_of t, col]

theorem pc_at (i : Fin 1024) (j : Fin 1024) : pc m c t (ix2 i j) = m ((c : Thread nD τ).loc main_arg2) (ix2 (row t i) (col t j)) := by
  show iblk m c 2 t (ix2 i j) = _
  blk_ext! [iblk, V, index_of t, row, col]

theorem dot_at (i : Fin 1024) (j : Fin 1024) (n : ℕ) (h : t.val % 1 = n) :
    ∑ q : Fin 1024, pa m c t (ix2 i q) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x1024 .f32 := out0_3 (iblk m c 0 t) (iblk m c 1 t) (iblk m c 2 t)

theorem out_pt (i : Fin 1024) (j : Fin 1024) :
    po m c t (ix2 i j) = (∑ q : Fin 1024, pa m c t (ix2 i q) * pb m c t (ix2 q j)) + pc m c t (ix2 i j) := by
  unfold po
  frame_out
  pointwise [k0_pay1]
  all_goals rfl

theorem out_at (i : Fin 1024) (j : Fin 1024) : po m c t (ix2 i j) = (∑ k, g m c (row t i) (col t j) k) + m ((c : Thread nD τ).loc main_arg2) (ix2 (row t i) (col t j)) := by
  have e : ∑ q : Fin 1024, pa m c t (ix2 i q) * pb m c t (ix2 q j) = ∑ k, g m c (row t i) (col t j) k :=
    (dot_at m c t i j 0 (Nat.mod_one _)).trans (Finset.sum_congr rfl fun q _ => congrArg (g m c (row t i) (col t j)) (Fin.ext (by simp)))
  rw [out_pt, e, pc_at]

theorem block_at (y : S1024x1024.Idx) :
    (po m c t) y = whole (m ((c : Thread nD τ).loc main_arg0)) (m ((c : Thread nD τ).loc main_arg1)) (m ((c : Thread nD τ).loc main_arg2)) (((cfg0.win 3).blk t).view.emb y) := by
  have e0 : ((((cfg0.win 3).blk t).view.emb y) 0 : ℕ) = 1024 * (t.val / 1) + (y 0).val := by
    blk_simp [index_of t]
    omega
  have e1 : ((((cfg0.win 3).blk t).view.emb y) 1 : ℕ) = 1024 * (t.val / 1 % 1) + (y 1).val := by
    blk_simp [index_of t]
    omega
  refine (congrArg (po m c t) (ix2_of y)).trans ((out_at m c t (y 0) (y 1)).trans ?_)
  exact congrArg₂ (fun (i : Fin 4096) (j : Fin 1024) => (∑ k, g m c i j k) + m ((c : Thread nD τ).loc main_arg2) (ix2 i j)) (Fin.ext e0.symm) (Fin.ext e1.symm)

theorem arr : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t hf y => (congrFun (after0_3 m c t) y).trans (block_at m c t y)

theorem ref_run (m' : (ℓ : Loc OFwdReferenceIdeal.nD OFwdReferenceIdeal.τ OFwdReferenceIdeal.sig) → Buf (Elt Ideal) ℓ) (g' : Dev OFwdReferenceIdeal.nD → PrngReg) :
    θ_run (OFwdReferenceIdeal.defs (F := Ideal)) (onTc (τ := OFwdReferenceIdeal.τ) (OFwdReferenceIdeal.main (F := Ideal))) ⟨m', fun _ => 0, g'⟩ fun r => ∀ c : Dev OFwdReferenceIdeal.nD,
      r.2.mem ((c : Thread OFwdReferenceIdeal.nD OFwdReferenceIdeal.τ).loc OFwdReferenceIdeal.main_v3) = whole (m' ((c : Thread OFwdReferenceIdeal.nD OFwdReferenceIdeal.τ).loc OFwdReferenceIdeal.main_arg0)) (m' ((c : Thread OFwdReferenceIdeal.nD OFwdReferenceIdeal.τ).loc OFwdReferenceIdeal.main_arg1)) (m' ((c : Thread OFwdReferenceIdeal.nD OFwdReferenceIdeal.τ).loc OFwdReferenceIdeal.main_arg2))
      ∧ r.2.mem ((c : Thread OFwdReferenceIdeal.nD OFwdReferenceIdeal.τ).loc OFwdReferenceIdeal.main_arg0) = m' ((c : Thread OFwdReferenceIdeal.nD OFwdReferenceIdeal.τ).loc OFwdReferenceIdeal.main_arg0)
      ∧ r.2.mem ((c : Thread OFwdReferenceIdeal.nD OFwdReferenceIdeal.τ).loc OFwdReferenceIdeal.main_arg1) = m' ((c : Thread OFwdReferenceIdeal.nD OFwdReferenceIdeal.τ).loc OFwdReferenceIdeal.main_arg1)
      ∧ r.2.mem ((c : Thread OFwdReferenceIdeal.nD OFwdReferenceIdeal.τ).loc OFwdReferenceIdeal.main_arg2) = m' ((c : Thread OFwdReferenceIdeal.nD OFwdReferenceIdeal.τ).loc OFwdReferenceIdeal.main_arg2) :=
  (θ_run _ _ _).mono (fun r h c => ⟨(h c).1.trans ((OFwdReferenceIdeal.Read.val_main_v3_eq (F := Ideal) _ _ _).trans
    (funext fun i => (congrArg (OFwdReferenceIdeal.Read.val_main_v3 (F := Ideal) _ _ _) (ix2_of i)).trans ((ref_at _ _ _ _ _).trans
      (congrArg (whole (m' ((c : Thread OFwdReferenceIdeal.nD OFwdReferenceIdeal.τ).loc OFwdReferenceIdeal.main_arg0)) (m' ((c : Thread OFwdReferenceIdeal.nD OFwdReferenceIdeal.τ).loc OFwdReferenceIdeal.main_arg1)) (m' ((c : Thread OFwdReferenceIdeal.nD OFwdReferenceIdeal.τ).loc OFwdReferenceIdeal.main_arg2))) (ix2_of i).symm)))), (h c).2⟩) (OFwdReferenceIdeal.Value.run m' g')

theorem ref_frame (m' : (ℓ : Loc OFwdReferenceIdeal.nD OFwdReferenceIdeal.τ OFwdReferenceIdeal.sig) → Buf (Elt Ideal) ℓ) (g' : Dev OFwdReferenceIdeal.nD → PrngReg) :
    θ_run (OFwdReferenceIdeal.defs (F := Ideal)) (onTc (τ := OFwdReferenceIdeal.τ) (OFwdReferenceIdeal.main (F := Ideal))) ⟨m', fun _ => 0, g'⟩ fun r => (∀ c : Dev OFwdReferenceIdeal.nD,
      r.2.mem ((c : Thread OFwdReferenceIdeal.nD OFwdReferenceIdeal.τ).loc OFwdReferenceIdeal.main_arg0) = m' ((c : Thread OFwdReferenceIdeal.nD OFwdReferenceIdeal.τ).loc OFwdReferenceIdeal.main_arg0)
      ∧ r.2.mem ((c : Thread OFwdReferenceIdeal.nD OFwdReferenceIdeal.τ).loc OFwdReferenceIdeal.main_arg1) = m' ((c : Thread OFwdReferenceIdeal.nD OFwdReferenceIdeal.τ).loc OFwdReferenceIdeal.main_arg1)
      ∧ r.2.mem ((c : Thread OFwdReferenceIdeal.nD OFwdReferenceIdeal.τ).loc OFwdReferenceIdeal.main_arg2) = m' ((c : Thread OFwdReferenceIdeal.nD OFwdReferenceIdeal.τ).loc OFwdReferenceIdeal.main_arg2))
      ∧ r.2.sem = fun _ => 0 :=
  (θ_run _ _ _).mono (fun r h => ⟨fun c => (h c).2, sem_eq_zero_of_no_sems (by decide) r.2⟩) (OFwdReferenceIdeal.Value.run m' g')

theorem agrees : algebraic_OFwdIdeal_OFwdReferenceIdeal (hOFwdIdeal := Gen.facts) (hOFwdReferenceIdeal := OFwdReferenceIdeal.Gen.facts) := by
  intro m r m' r' _ hm
  refine ⟨fun c => whole (m ((c : Thread nD τ).loc main_arg0)) (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread OFwdReferenceIdeal.nD OFwdReferenceIdeal.τ).loc OFwdReferenceIdeal.main_arg0)) (m' ((c : Thread OFwdReferenceIdeal.nD OFwdReferenceIdeal.τ).loc OFwdReferenceIdeal.main_arg1)) (m' ((c : Thread OFwdReferenceIdeal.nD OFwdReferenceIdeal.τ).loc OFwdReferenceIdeal.main_arg2)) = whole (m ((c : Thread nD τ).loc main_arg0)) (m ((c : Thread nD τ).loc main_arg1)) (m ((c : Thread nD τ).loc main_arg2)) := by
    obtain ⟨h0, h1, h2⟩ := hm c
    rw [h0, h1, h2]
  exact ⟨(h c).1.trans e, (h c).2⟩

end Cert.Mm.OFwd
-- ==== Proof.MmPleProjDw.lean ====
/-
  The gradient of a product with respect to the weights, as the kernel accumulates it.
-/
module

public import proofs.«01_k».proof.Defs
public import proofs.«01_k».proof.Proof.Mm
public import proofs.«01_k».proof.Proof.Gen.PleProjDw.Frame
public import proofs.«01_k».proof.Proof.Gen.PleProjDwIdeal.Value
public import proofs.«01_k».proof.Proof.Gen.PleProjDwReferenceIdeal.Read
public import proofs.«01_k».proof.Proof.Gen.PleProjDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.PleProjDw

open Cert.PleProjDwIdeal Cert.PleProjDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x256.Idx → EReal) (x2 : S4096x1024.Idx → EReal) (i : Fin 1024) (j : Fin 256) (k : Fin 4096) : EReal := x2 (ix2 k i) * x0 (ix2 k j)

/-- The product, by its entries. -/
def whole (x0 : S4096x256.Idx → EReal) (x2 : S4096x1024.Idx → EReal) (y : S1024x256.Idx) : EReal := (∑ k, terms x0 x2 (y 0) (y 1) k)

theorem ref_at (x0 : S4096x256.Idx → EReal) (x2 : S4096x1024.Idx → EReal) (i : Fin 1024) (j : Fin 256) :
    PleProjDwReferenceIdeal.Read.val_main_v7 (F := Ideal) x0 x2 (ix2 i j) = whole x0 x2 (ix2 i j) := by
  pointwise [PleProjDwReferenceIdeal.Read.val_main_v7, PleProjDwReferenceIdeal.Read.val_main_v6, PleProjDwReferenceIdeal.Read.val_main_v4, PleProjDwReferenceIdeal.Read.val_main_v3, PleProjDwReferenceIdeal.Read.val_main_v2, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 1024 → Fin 256 → Fin 4096 → EReal := terms (m ((c : Thread nD τ).loc main_arg0)) (m ((c : Thread nD τ).loc main_arg2))

def row (i : Fin 1024) : Fin 1024 := ⟨1024 * (t.val / 4) + i.val, by have : t.val < 4 := t.isLt; omega⟩
def col (j : Fin 256) : Fin 256 := ⟨256 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x1024 .bf16 := iblk m c 0 t
def pb : FVec Ideal S1024x256 .f32 := iblk m c 1 t

theorem pa_at (q : Fin 1024) (i : Fin 1024) :
    pa m c t (ix2 q i) = m ((c : Thread nD τ).loc main_arg2) (ix2 ⟨1024 * (t.val % 4) + q.val, by omega⟩ (row t i)) := by
  show iblk m c 0 t (ix2 q i) = _
  blk_ext! [iblk, V, index_of t, row]

theorem pb_at (q : Fin 1024) (j : Fin 256) :
    pb m c t (ix2 q j) = m ((c : Thread nD τ).loc main_arg0) (ix2 ⟨1024 * (t.val % 4) + q.val, by omega⟩ (col t j)) := by
  show iblk m c 1 t (ix2 q j) = _
  blk_ext! [iblk, V, index_of t, col]

theorem dot_at (i : Fin 1024) (j : Fin 256) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 1024) (j : Fin 256) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 1024) (j : Fin 256) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 1024) (j : Fin 256) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 1024) (j : Fin 256),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 1024) (j : Fin 256) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S1024x256.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 1024 * (t.val / 4) + (y 0).val := by
    blk_simp [index_of t]
    omega
  have e1 : ((((cfg0.win 2).blk t).view.emb y) 1 : ℕ) = 256 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 1024) (j : Fin 256) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc PleProjDwReferenceIdeal.nD PleProjDwReferenceIdeal.τ PleProjDwReferenceIdeal.sig) → Buf (Elt Ideal) ℓ) (g' : Dev PleProjDwReferenceIdeal.nD → PrngReg) :
    θ_run (PleProjDwReferenceIdeal.defs (F := Ideal)) (onTc (τ := PleProjDwReferenceIdeal.τ) (PleProjDwReferenceIdeal.main (F := Ideal))) ⟨m', fun _ => 0, g'⟩ fun r => ∀ c : Dev PleProjDwReferenceIdeal.nD,
      r.2.mem ((c : Thread PleProjDwReferenceIdeal.nD PleProjDwReferenceIdeal.τ).loc PleProjDwReferenceIdeal.main_v7) = whole (m' ((c : Thread PleProjDwReferenceIdeal.nD PleProjDwReferenceIdeal.τ).loc PleProjDwReferenceIdeal.main_arg0)) (m' ((c : Thread PleProjDwReferenceIdeal.nD PleProjDwReferenceIdeal.τ).loc PleProjDwReferenceIdeal.main_arg2))
      ∧ r.2.mem ((c : Thread PleProjDwReferenceIdeal.nD PleProjDwReferenceIdeal.τ).loc PleProjDwReferenceIdeal.main_arg0) = m' ((c : Thread PleProjDwReferenceIdeal.nD PleProjDwReferenceIdeal.τ).loc PleProjDwReferenceIdeal.main_arg0)
      ∧ r.2.mem ((c : Thread PleProjDwReferenceIdeal.nD PleProjDwReferenceIdeal.τ).loc PleProjDwReferenceIdeal.main_arg1) = m' ((c : Thread PleProjDwReferenceIdeal.nD PleProjDwReferenceIdeal.τ).loc PleProjDwReferenceIdeal.main_arg1)
      ∧ r.2.mem ((c : Thread PleProjDwReferenceIdeal.nD PleProjDwReferenceIdeal.τ).loc PleProjDwReferenceIdeal.main_arg2) = m' ((c : Thread PleProjDwReferenceIdeal.nD PleProjDwReferenceIdeal.τ).loc PleProjDwReferenceIdeal.main_arg2) :=
  (θ_run _ _ _).mono (fun r h c => ⟨(h c).1.trans ((PleProjDwReferenceIdeal.Read.val_main_v7_eq (F := Ideal) _ _).trans
    (funext fun i => (congrArg (PleProjDwReferenceIdeal.Read.val_main_v7 (F := Ideal) _ _) (ix2_of i)).trans ((ref_at _ _ _ _).trans
      (congrArg (whole (m' ((c : Thread PleProjDwReferenceIdeal.nD PleProjDwReferenceIdeal.τ).loc PleProjDwReferenceIdeal.main_arg0)) (m' ((c : Thread PleProjDwReferenceIdeal.nD PleProjDwReferenceIdeal.τ).loc PleProjDwReferenceIdeal.main_arg2))) (ix2_of i).symm)))), (h c).2⟩) (PleProjDwReferenceIdeal.Value.run m' g')

theorem ref_frame (m' : (ℓ : Loc PleProjDwReferenceIdeal.nD PleProjDwReferenceIdeal.τ PleProjDwReferenceIdeal.sig) → Buf (Elt Ideal) ℓ) (g' : Dev PleProjDwReferenceIdeal.nD → PrngReg) :
    θ_run (PleProjDwReferenceIdeal.defs (F := Ideal)) (onTc (τ := PleProjDwReferenceIdeal.τ) (PleProjDwReferenceIdeal.main (F := Ideal))) ⟨m', fun _ => 0, g'⟩ fun r => (∀ c : Dev PleProjDwReferenceIdeal.nD,
      r.2.mem ((c : Thread PleProjDwReferenceIdeal.nD PleProjDwReferenceIdeal.τ).loc PleProjDwReferenceIdeal.main_arg0) = m' ((c : Thread PleProjDwReferenceIdeal.nD PleProjDwReferenceIdeal.τ).loc PleProjDwReferenceIdeal.main_arg0)
      ∧ r.2.mem ((c : Thread PleProjDwReferenceIdeal.nD PleProjDwReferenceIdeal.τ).loc PleProjDwReferenceIdeal.main_arg1) = m' ((c : Thread PleProjDwReferenceIdeal.nD PleProjDwReferenceIdeal.τ).loc PleProjDwReferenceIdeal.main_arg1)
      ∧ r.2.mem ((c : Thread PleProjDwReferenceIdeal.nD PleProjDwReferenceIdeal.τ).loc PleProjDwReferenceIdeal.main_arg2) = m' ((c : Thread PleProjDwReferenceIdeal.nD PleProjDwReferenceIdeal.τ).loc PleProjDwReferenceIdeal.main_arg2))
      ∧ r.2.sem = fun _ => 0 :=
  (θ_run _ _ _).mono (fun r h => ⟨fun c => (h c).2, sem_eq_zero_of_no_sems (by decide) r.2⟩) (PleProjDwReferenceIdeal.Value.run m' g')

theorem agrees : algebraic_PleProjDwIdeal_PleProjDwReferenceIdeal (hPleProjDwIdeal := Gen.facts) (hPleProjDwReferenceIdeal := PleProjDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread PleProjDwReferenceIdeal.nD PleProjDwReferenceIdeal.τ).loc PleProjDwReferenceIdeal.main_arg0)) (m' ((c : Thread PleProjDwReferenceIdeal.nD PleProjDwReferenceIdeal.τ).loc PleProjDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.PleProjDw
-- ==== Proof.MmPleProjFwd.lean ====
/-
  A product with the weights, as the kernel accumulates it.
-/
module

public import proofs.«01_k».proof.Defs
public import proofs.«01_k».proof.Proof.Mm
public import proofs.«01_k».proof.Proof.Gen.PleProjFwd.Frame
public import proofs.«01_k».proof.Proof.Gen.PleProjFwdIdeal.Value
public import proofs.«01_k».proof.Proof.Gen.PleProjFwdReferenceIdeal.Read
public import proofs.«01_k».proof.Proof.Gen.PleProjFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.PleProjFwd

open Cert.PleProjFwdIdeal Cert.PleProjFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x256.Idx → EReal) (x1 : S256x1024.Idx → EReal) (i : Fin 4096) (j : Fin 1024) (k : Fin 256) : EReal := x0 (ix2 i k) * x1 (ix2 k j)

/-- The product, by its entries. -/
def whole (x0 : S4096x256.Idx → EReal) (x1 : S256x1024.Idx → EReal) (y : S4096x1024.Idx) : EReal := (∑ k, terms x0 x1 (y 0) (y 1) k)

theorem ref_at (x0 : S4096x256.Idx → EReal) (x1 : S256x1024.Idx → EReal) (i : Fin 4096) (j : Fin 1024) :
    PleProjFwdReferenceIdeal.Read.val_main_v2 (F := Ideal) x0 x1 (ix2 i j) = whole x0 x1 (ix2 i j) := by
  pointwise [PleProjFwdReferenceIdeal.Read.val_main_v2, PleProjFwdReferenceIdeal.Read.val_main_v1, PleProjFwdReferenceIdeal.Read.val_main_v0, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 256 → EReal := terms (m ((c : Thread nD τ).loc main_arg0)) (m ((c : Thread nD τ).loc main_arg1))

def row (i : Fin 1024) : Fin 4096 := ⟨1024 * (t.val / 1) + i.val, by have : t.val < 4 := t.isLt; omega⟩
def col (j : Fin 1024) : Fin 1024 := ⟨1024 * (t.val / 1 % 1) + j.val, by omega⟩

theorem index_of : ∀ t : Fin cfg0.N,
    win0_0.index t = ![t.val / 1, t.val % 1] ∧ win0_1.index t = ![t.val / 1 % 1, t.val % 1] ∧ win0_2.index t = ![t.val / 1, t.val / 1 % 1] :=
  (by decide +kernel : ∀ t : Fin grid0.N,
    win0_0.index t = ![t.val / 1, t.val % 1] ∧ win0_1.index t = ![t.val / 1 % 1, t.val % 1] ∧ win0_2.index t = ![t.val / 1, t.val / 1 % 1])

def pa : FVec Ideal S1024x256 .f32 := iblk m c 0 t
def pb : FVec Ideal S1024x256 .bf16 := iblk m c 1 t

theorem pa_at (q : Fin 256) (i : Fin 1024) :
    pa m c t (ix2 i q) = m ((c : Thread nD τ).loc main_arg0) (ix2 (row t i) ⟨256 * (t.val % 1) + q.val, by omega⟩) := by
  show iblk m c 0 t (ix2 i q) = _
  blk_ext! [iblk, V, index_of t, row]

theorem pb_at (q : Fin 256) (j : Fin 1024) :
    pb m c t (ix2 j q) = m ((c : Thread nD τ).loc main_arg1) (ix2 ⟨256 * (t.val % 1) + q.val, by omega⟩ (col t j)) := by
  show iblk m c 1 t (ix2 j q) = _
  blk_ext! [iblk, V, index_of t, col]

theorem dot_at (i : Fin 1024) (j : Fin 1024) (n : ℕ) (h : t.val % 1 = n) :
    ∑ q : Fin 256, pa m c t (ix2 i q) * pb m c t (ix2 j q)
      = ∑ q : Fin 256, g m c (row t i) (col t j) ⟨256 * n + q.val, by omega⟩ := by
  subst h
  exact Finset.sum_congr rfl fun q _ => congrArg₂ (· * ·) (pa_at m c t q i) (pb_at m c t q j)

/-- What point `t` writes. -/
def po : FVec Ideal S1024x1024 .bf16 := out0_2 (iblk m c 0 t) (iblk m c 1 t)

theorem out_pt (i : Fin 1024) (j : Fin 1024) :
    po m c t (ix2 i j) = (∑ q : Fin 256, pa m c t (ix2 i q) * pb m c t (ix2 j q)) := by
  unfold po
  frame_out
  pointwise [k0_pay1]
  all_goals rfl

theorem out_at (i : Fin 1024) (j : Fin 1024) : po m c t (ix2 i j) = (∑ k, g m c (row t i) (col t j) k) := by
  have e : ∑ q : Fin 256, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1024.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 1024 * (t.val / 1) + (y 0).val := by
    blk_simp [index_of t]
    omega
  have e1 : ((((cfg0.win 2).blk t).view.emb y) 1 : ℕ) = 1024 * (t.val / 1 % 1) + (y 1).val := by
    blk_simp [index_of t]
    omega
  refine (congrArg (po m c t) (ix2_of y)).trans ((out_at m c t (y 0) (y 1)).trans ?_)
  exact congrArg₂ (fun (i : Fin 4096) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_run (m' : (ℓ : Loc PleProjFwdReferenceIdeal.nD PleProjFwdReferenceIdeal.τ PleProjFwdReferenceIdeal.sig) → Buf (Elt Ideal) ℓ) (g' : Dev PleProjFwdReferenceIdeal.nD → PrngReg) :
    θ_run (PleProjFwdReferenceIdeal.defs (F := Ideal)) (onTc (τ := PleProjFwdReferenceIdeal.τ) (PleProjFwdReferenceIdeal.main (F := Ideal))) ⟨m', fun _ => 0, g'⟩ fun r => ∀ c : Dev PleProjFwdReferenceIdeal.nD,
      r.2.mem ((c : Thread PleProjFwdReferenceIdeal.nD PleProjFwdReferenceIdeal.τ).loc PleProjFwdReferenceIdeal.main_v2) = whole (m' ((c : Thread PleProjFwdReferenceIdeal.nD PleProjFwdReferenceIdeal.τ).loc PleProjFwdReferenceIdeal.main_arg0)) (m' ((c : Thread PleProjFwdReferenceIdeal.nD PleProjFwdReferenceIdeal.τ).loc PleProjFwdReferenceIdeal.main_arg1))
      ∧ r.2.mem ((c : Thread PleProjFwdReferenceIdeal.nD PleProjFwdReferenceIdeal.τ).loc PleProjFwdReferenceIdeal.main_arg0) = m' ((c : Thread PleProjFwdReferenceIdeal.nD PleProjFwdReferenceIdeal.τ).loc PleProjFwdReferenceIdeal.main_arg0)
      ∧ r.2.mem ((c : Thread PleProjFwdReferenceIdeal.nD PleProjFwdReferenceIdeal.τ).loc PleProjFwdReferenceIdeal.main_arg1) = m' ((c : Thread PleProjFwdReferenceIdeal.nD PleProjFwdReferenceIdeal.τ).loc PleProjFwdReferenceIdeal.main_arg1) :=
  (θ_run _ _ _).mono (fun r h c => ⟨(h c).1.trans ((PleProjFwdReferenceIdeal.Read.val_main_v2_eq (F := Ideal) _ _).trans
    (funext fun i => (congrArg (PleProjFwdReferenceIdeal.Read.val_main_v2 (F := Ideal) _ _) (ix2_of i)).trans ((ref_at _ _ _ _).trans
      (congrArg (whole (m' ((c : Thread PleProjFwdReferenceIdeal.nD PleProjFwdReferenceIdeal.τ).loc PleProjFwdReferenceIdeal.main_arg0)) (m' ((c : Thread PleProjFwdReferenceIdeal.nD PleProjFwdReferenceIdeal.τ).loc PleProjFwdReferenceIdeal.main_arg1))) (ix2_of i).symm)))), (h c).2⟩) (PleProjFwdReferenceIdeal.Value.run m' g')

theorem ref_frame (m' : (ℓ : Loc PleProjFwdReferenceIdeal.nD PleProjFwdReferenceIdeal.τ PleProjFwdReferenceIdeal.sig) → Buf (Elt Ideal) ℓ) (g' : Dev PleProjFwdReferenceIdeal.nD → PrngReg) :
    θ_run (PleProjFwdReferenceIdeal.defs (F := Ideal)) (onTc (τ := PleProjFwdReferenceIdeal.τ) (PleProjFwdReferenceIdeal.main (F := Ideal))) ⟨m', fun _ => 0, g'⟩ fun r => (∀ c : Dev PleProjFwdReferenceIdeal.nD,
      r.2.mem ((c : Thread PleProjFwdReferenceIdeal.nD PleProjFwdReferenceIdeal.τ).loc PleProjFwdReferenceIdeal.main_arg0) = m' ((c : Thread PleProjFwdReferenceIdeal.nD PleProjFwdReferenceIdeal.τ).loc PleProjFwdReferenceIdeal.main_arg0)
      ∧ r.2.mem ((c : Thread PleProjFwdReferenceIdeal.nD PleProjFwdReferenceIdeal.τ).loc PleProjFwdReferenceIdeal.main_arg1) = m' ((c : Thread PleProjFwdReferenceIdeal.nD PleProjFwdReferenceIdeal.τ).loc PleProjFwdReferenceIdeal.main_arg1))
      ∧ r.2.sem = fun _ => 0 :=
  (θ_run _ _ _).mono (fun r h => ⟨fun c => (h c).2, sem_eq_zero_of_no_sems (by decide) r.2⟩) (PleProjFwdReferenceIdeal.Value.run m' g')

theorem agrees : algebraic_PleProjFwdIdeal_PleProjFwdReferenceIdeal (hPleProjFwdIdeal := Gen.facts) (hPleProjFwdReferenceIdeal := PleProjFwdReferenceIdeal.Gen.facts) := by
  intro m r m' r' _ hm
  refine ⟨fun c => whole (m ((c : Thread nD τ).loc main_arg0)) (m ((c : Thread nD τ).loc main_arg1)), (θ_run _ _ _).mono (fun _ h c => ⟨(h c).1.trans (arr m c), (h c).2⟩) (Value.run_blocks m r), ?_⟩
  refine (θ_run _ _ _).mono (fun _ h c => ?_) (ref_run m' r')
  have e : whole (m' ((c : Thread PleProjFwdReferenceIdeal.nD PleProjFwdReferenceIdeal.τ).loc PleProjFwdReferenceIdeal.main_arg0)) (m' ((c : Thread PleProjFwdReferenceIdeal.nD PleProjFwdReferenceIdeal.τ).loc PleProjFwdReferenceIdeal.main_arg1)) = whole (m ((c : Thread nD τ).loc main_arg0)) (m ((c : Thread nD τ).loc main_arg1)) := by
    obtain ⟨h0, h1⟩ := hm c
    rw [h0, h1]
  exact ⟨(h c).1.trans e, (h c).2⟩

end Cert.Mm.PleProjFwd
-- ==== Proof.MmDtDa.lean ====
/-
  The gradient of a product with respect to its left operand, as the kernel accumulates it.
-/
module

public import proofs.«01_k».proof.Defs
public import proofs.«01_k».proof.Proof.Mm
public import proofs.«01_k».proof.Proof.Gen.DtDa.Frame
public import proofs.«01_k».proof.Proof.Gen.DtDaIdeal.Value
public import proofs.«01_k».proof.Proof.Gen.DtDaReferenceIdeal.Read
public import proofs.«01_k».proof.Proof.Gen.DtDaReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.DtDa

open Cert.DtDaIdeal Cert.DtDaIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x1 : S1024x32.Idx → EReal) (x2 : S4096x32.Idx → EReal) (i : Fin 4096) (j : Fin 1024) (k : Fin 32) : EReal := x2 (ix2 i k) * x1 (ix2 j k)

/-- The product, by its entries. -/
def whole (x1 : S1024x32.Idx → EReal) (x2 : S4096x32.Idx → EReal) (y : S4096x1024.Idx) : EReal := (∑ k, terms x1 x2 (y 0) (y 1) k)

theorem ref_at (x1 : S1024x32.Idx → EReal) (x2 : S4096x32.Idx → EReal) (i : Fin 4096) (j : Fin 1024) :
    DtDaReferenceIdeal.Read.val_main_v5 (F := Ideal) x1 x2 (ix2 i j) = whole x1 x2 (ix2 i j) := by
  pointwise [DtDaReferenceIdeal.Read.val_main_v5, DtDaReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 1024 → Fin 32 → EReal := terms (m ((c : Thread nD τ).loc main_arg1)) (m ((c : Thread nD τ).loc main_arg2))

def row (i : Fin 1024) : Fin 4096 := ⟨1024 * (t.val / 1) + i.val, by have : t.val < 4 := t.isLt; omega⟩
def col (j : Fin 1024) : Fin 1024 := ⟨1024 * (t.val / 1 % 1) + j.val, by omega⟩

theorem index_of : ∀ t : Fin cfg0.N,
    win0_0.index t = ![t.val / 1, t.val % 1] ∧ win0_1.index t = ![t.val % 1, t.val / 1 % 1] ∧ win0_2.index t = ![t.val / 1, t.val / 1 % 1] :=
  (by decide +kernel : ∀ t : Fin grid0.N,
    win0_0.index t = ![t.val / 1, t.val % 1] ∧ win0_1.index t = ![t.val % 1, t.val / 1 % 1] ∧ win0_2.index t = ![t.val / 1, t.val / 1 % 1])

def pa : FVec Ideal S1024x32 .f32 := iblk m c 0 t
def pb : FVec Ideal S32x1024 .bf16 := iblk m c 1 t

theorem pa_at (q : Fin 32) (i : Fin 1024) :
    pa m c t (ix2 i q) = m ((c : Thread nD τ).loc main_arg2) (ix2 (row t i) ⟨32 * (t.val % 1) + q.val, by omega⟩) := by
  show iblk m c 0 t (ix2 i q) = _
  blk_ext! [iblk, V, index_of t, row]

theorem pb_at (q : Fin 32) (j : Fin 1024) :
    pb m c t (ix2 q j) = m ((c : Thread nD τ).loc main_arg1) (ix2 (col t j) ⟨32 * (t.val % 1) + q.val, by omega⟩) := by
  show iblk m c 1 t (ix2 q j) = _
  blk_ext! [iblk, V, index_of t, col]

theorem dot_at (i : Fin 1024) (j : Fin 1024) (n : ℕ) (h : t.val % 1 = n) :
    ∑ q : Fin 32, pa m c t (ix2 i q) * pb m c t (ix2 q j)
      = ∑ q : Fin 32, g m c (row t i) (col t j) ⟨32 * n + q.val, by omega⟩ := by
  subst h
  exact Finset.sum_congr rfl fun q _ => congrArg₂ (· * ·) (pa_at m c t q i) (pb_at m c t q j)

/-- What point `t` writes. -/
def po : FVec Ideal S1024x1024 .f32 := out0_2 (iblk m c 0 t) (iblk m c 1 t)

theorem out_pt (i : Fin 1024) (j : Fin 1024) :
    po m c t (ix2 i j) = (∑ q : Fin 32, pa m c t (ix2 i q) * pb m c t (ix2 q j)) := by
  unfold po
  frame_out
  pointwise [k0_pay1]
  all_goals rfl

theorem out_at (i : Fin 1024) (j : Fin 1024) : po m c t (ix2 i j) = (∑ k, g m c (row t i) (col t j) k) := by
  have e : ∑ q : Fin 32, pa m c t (ix2 i q) * pb m c t (ix2 q j) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x1024.Idx) :
    (po m c t) y = whole (m ((c : Thread nD τ).loc main_arg1)) (m ((c : Thread nD τ).loc main_arg2)) (((cfg0.win 2).blk t).view.emb y) := by
  have e0 : ((((cfg0.win 2).blk t).view.emb y) 0 : ℕ) = 1024 * (t.val / 1) + (y 0).val := by
    blk_simp [index_of t]
    omega
  have e1 : ((((cfg0.win 2).blk t).view.emb y) 1 : ℕ) = 1024 * (t.val / 1 % 1) + (y 1).val := by
    blk_simp [index_of t]
    omega
  refine (congrArg (po m c t) (ix2_of y)).trans ((out_at m c t (y 0) (y 1)).trans ?_)
  exact congrArg₂ (fun (i : Fin 4096) (j : Fin 1024) => (∑ k, g m c i j k)) (Fin.ext e0.symm) (Fin.ext e1.symm)

theorem arr : (dats m 0 c).arrAt 2 cfg0.N = whole (m ((c : Thread nD τ).loc main_arg1)) (m ((c : Thread nD τ).loc main_arg2)) :=
  (dats m 0 c).arrAt_eq_of_covers 2 _ (by decide +kernel) fun t hf y => (congrFun (after0_2 m c t) y).trans (block_at m c t y)

theorem ref_run (m' : (ℓ : Loc DtDaReferenceIdeal.nD DtDaReferenceIdeal.τ DtDaReferenceIdeal.sig) → Buf (Elt Ideal) ℓ) (g' : Dev DtDaReferenceIdeal.nD → PrngReg) :
    θ_run (DtDaReferenceIdeal.defs (F := Ideal)) (onTc (τ := DtDaReferenceIdeal.τ) (DtDaReferenceIdeal.main (F := Ideal))) ⟨m', fun _ => 0, g'⟩ fun r => ∀ c : Dev DtDaReferenceIdeal.nD,
      r.2.mem ((c : Thread DtDaReferenceIdeal.nD DtDaReferenceIdeal.τ).loc DtDaReferenceIdeal.main_v5) = whole (m' ((c : Thread DtDaReferenceIdeal.nD DtDaReferenceIdeal.τ).loc DtDaReferenceIdeal.main_arg1)) (m' ((c : Thread DtDaReferenceIdeal.nD DtDaReferenceIdeal.τ).loc DtDaReferenceIdeal.main_arg2))
      ∧ r.2.mem ((c : Thread DtDaReferenceIdeal.nD DtDaReferenceIdeal.τ).loc DtDaReferenceIdeal.main_arg0) = m' ((c : Thread DtDaReferenceIdeal.nD DtDaReferenceIdeal.τ).loc DtDaReferenceIdeal.main_arg0)
      ∧ r.2.mem ((c : Thread DtDaReferenceIdeal.nD DtDaReferenceIdeal.τ).loc DtDaReferenceIdeal.main_arg1) = m' ((c : Thread DtDaReferenceIdeal.nD DtDaReferenceIdeal.τ).loc DtDaReferenceIdeal.main_arg1)
      ∧ r.2.mem ((c : Thread DtDaReferenceIdeal.nD DtDaReferenceIdeal.τ).loc DtDaReferenceIdeal.main_arg2) = m' ((c : Thread DtDaReferenceIdeal.nD DtDaReferenceIdeal.τ).loc DtDaReferenceIdeal.main_arg2) :=
  (θ_run _ _ _).mono (fun r h c => ⟨(h c).1.trans ((DtDaReferenceIdeal.Read.val_main_v5_eq (F := Ideal) _ _).trans
    (funext fun i => (congrArg (DtDaReferenceIdeal.Read.val_main_v5 (F := Ideal) _ _) (ix2_of i)).trans ((ref_at _ _ _ _).trans
      (congrArg (whole (m' ((c : Thread DtDaReferenceIdeal.nD DtDaReferenceIdeal.τ).loc DtDaReferenceIdeal.main_arg1)) (m' ((c : Thread DtDaReferenceIdeal.nD DtDaReferenceIdeal.τ).loc DtDaReferenceIdeal.main_arg2))) (ix2_of i).symm)))), (h c).2⟩) (DtDaReferenceIdeal.Value.run m' g')

theorem ref_frame (m' : (ℓ : Loc DtDaReferenceIdeal.nD DtDaReferenceIdeal.τ DtDaReferenceIdeal.sig) → Buf (Elt Ideal) ℓ) (g' : Dev DtDaReferenceIdeal.nD → PrngReg) :
    θ_run (DtDaReferenceIdeal.defs (F := Ideal)) (onTc (τ := DtDaReferenceIdeal.τ) (DtDaReferenceIdeal.main (F := Ideal))) ⟨m', fun _ => 0, g'⟩ fun r => (∀ c : Dev DtDaReferenceIdeal.nD,
      r.2.mem ((c : Thread DtDaReferenceIdeal.nD DtDaReferenceIdeal.τ).loc DtDaReferenceIdeal.main_arg0) = m' ((c : Thread DtDaReferenceIdeal.nD DtDaReferenceIdeal.τ).loc DtDaReferenceIdeal.main_arg0)
      ∧ r.2.mem ((c : Thread DtDaReferenceIdeal.nD DtDaReferenceIdeal.τ).loc DtDaReferenceIdeal.main_arg1) = m' ((c : Thread DtDaReferenceIdeal.nD DtDaReferenceIdeal.τ).loc DtDaReferenceIdeal.main_arg1)
      ∧ r.2.mem ((c : Thread DtDaReferenceIdeal.nD DtDaReferenceIdeal.τ).loc DtDaReferenceIdeal.main_arg2) = m' ((c : Thread DtDaReferenceIdeal.nD DtDaReferenceIdeal.τ).loc DtDaReferenceIdeal.main_arg2))
      ∧ r.2.sem = fun _ => 0 :=
  (θ_run _ _ _).mono (fun r h => ⟨fun c => (h c).2, sem_eq_zero_of_no_sems (by decide) r.2⟩) (DtDaReferenceIdeal.Value.run m' g')

theorem agrees : algebraic_DtDaIdeal_DtDaReferenceIdeal (hDtDaIdeal := Gen.facts) (hDtDaReferenceIdeal := DtDaReferenceIdeal.Gen.facts) := by
  intro m r m' r' _ hm
  refine ⟨fun c => whole (m ((c : Thread nD τ).loc main_arg1)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread DtDaReferenceIdeal.nD DtDaReferenceIdeal.τ).loc DtDaReferenceIdeal.main_arg1)) (m' ((c : Thread DtDaReferenceIdeal.nD DtDaReferenceIdeal.τ).loc DtDaReferenceIdeal.main_arg2)) = whole (m ((c : Thread nD τ).loc main_arg1)) (m ((c : Thread nD τ).loc main_arg2)) := by
    obtain ⟨h0, h1, h2⟩ := hm c
    rw [h1, h2]
  exact ⟨(h c).1.trans e, (h c).2⟩

end Cert.Mm.DtDa
-- ==== Proof.MmDtDw.lean ====
/-
  The gradient of a product with respect to the weights, as the kernel accumulates it.
-/
module

public import proofs.«01_k».proof.Defs
public import proofs.«01_k».proof.Proof.Mm
public import proofs.«01_k».proof.Proof.Gen.DtDw.Frame
public import proofs.«01_k».proof.Proof.Gen.DtDwIdeal.Value
public import proofs.«01_k».proof.Proof.Gen.DtDwReferenceIdeal.Read
public import proofs.«01_k».proof.Proof.Gen.DtDwReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.DtDw

open Cert.DtDwIdeal Cert.DtDwIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x2 : S4096x32.Idx → EReal) (i : Fin 32) (j : Fin 1024) (k : Fin 4096) : EReal := x2 (ix2 k i) * x0 (ix2 k j)

/-- The product, by its entries. -/
def whole (x0 : S4096x1024.Idx → EReal) (x2 : S4096x32.Idx → EReal) (y : S32x1024.Idx) : EReal := (∑ k, terms x0 x2 (y 0) (y 1) k)

theorem ref_at (x0 : S4096x1024.Idx → EReal) (x2 : S4096x32.Idx → EReal) (i : Fin 32) (j : Fin 1024) :
    DtDwReferenceIdeal.Read.val_main_v8 (F := Ideal) x0 x2 (ix2 i j) = whole x0 x2 (ix2 i j) := by
  pointwise [DtDwReferenceIdeal.Read.val_main_v8, DtDwReferenceIdeal.Read.val_main_v7, DtDwReferenceIdeal.Read.val_main_v4, DtDwReferenceIdeal.Read.val_main_v3, DtDwReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 32 → Fin 1024 → Fin 4096 → EReal := terms (m ((c : Thread nD τ).loc main_arg0)) (m ((c : Thread nD τ).loc main_arg2))

def row (i : Fin 32) : Fin 32 := ⟨32 * (t.val / 4) + i.val, by have : t.val < 4 := t.isLt; omega⟩
def col (j : Fin 1024) : Fin 1024 := ⟨1024 * (t.val / 4 % 1) + j.val, by omega⟩

theorem index_of : ∀ t : Fin cfg0.N,
    win0_0.index t = ![t.val % 4, t.val / 4] ∧ win0_1.index t = ![t.val % 4, t.val / 4 % 1] ∧ win0_2.index t = ![t.val / 4, t.val / 4 % 1] :=
  (by decide +kernel : ∀ t : Fin grid0.N,
    win0_0.index t = ![t.val % 4, t.val / 4] ∧ win0_1.index t = ![t.val % 4, t.val / 4 % 1] ∧ win0_2.index t = ![t.val / 4, t.val / 4 % 1])

def pa : FVec Ideal S1024x32 .f32 := iblk m c 0 t
def pb : FVec Ideal S1024x1024 .bf16 := iblk m c 1 t

theorem pa_at (q : Fin 1024) (i : Fin 32) :
    pa m c t (ix2 q i) = m ((c : Thread nD τ).loc main_arg2) (ix2 ⟨1024 * (t.val % 4) + q.val, by omega⟩ (row t i)) := by
  show iblk m c 0 t (ix2 q i) = _
  blk_ext! [iblk, V, index_of t, row]

theorem pb_at (q : Fin 1024) (j : Fin 1024) :
    pb m c t (ix2 q j) = m ((c : Thread nD τ).loc main_arg0) (ix2 ⟨1024 * (t.val % 4) + q.val, by omega⟩ (col t j)) := by
  show iblk m c 1 t (ix2 q j) = _
  blk_ext! [iblk, V, index_of t, col]

theorem dot_at (i : Fin 32) (j : Fin 1024) (n : ℕ) (h : t.val % 4 = n) :
    ∑ q : Fin 1024, pa m c t (ix2 q i) * pb m c t (ix2 q j)
      = ∑ q : Fin 1024, g m c (row t i) (col t j) ⟨1024 * n + q.val, by omega⟩ := by
  subst h
  exact Finset.sum_congr rfl fun q _ => congrArg₂ (· * ·) (pa_at m c t q i) (pb_at m c t q j)

theorem flush_of : ∀ t : Fin cfg0.N, (cfg0.win 2).flush t = true → t.val % 4 = 3 :=
  (by decide +kernel : ∀ t : Fin grid0.N, win0_2.flush t = true → t.val % 4 = 3)

theorem acc_A (h : t.val % 4 = 0) (i : Fin 32) (j : Fin 1024) :
    (outsAt0 m c t.val t.isLt).2 (ix2 i j) = ∑ q : Fin 1024, pa m c t (ix2 q i) * pb m c t (ix2 q j) := by
  rw [Gen.outsAt0_A m c t h (by omega) (by omega)]
  dsimp only
  frame_out
  pointwise [k0_pay1]
  all_goals rfl

theorem acc_B (h : ¬ t.val % 4 = 0) (h' : ¬ t.val % 4 = 3) (i : Fin 32) (j : Fin 1024) :
    (outsAt0 m c t.val t.isLt).2 (ix2 i j)
      = (outsAt0 m c (t.val - 1) (Nat.lt_of_le_of_lt (Nat.sub_le _ _) t.isLt)).2 (ix2 i j)
        + ∑ q : Fin 1024, pa m c t (ix2 q i) * pb m c t (ix2 q j) := by
  rw [Gen.outsAt0_B m c t h (by omega) h']
  dsimp only
  frame_out
  pointwise [k0_pay2]
  rw [read_unread_whole]
  rfl

theorem out_last (h : t.val % 4 = 3) (i : Fin 32) (j : Fin 1024) :
    (outsAt0 m c t.val t.isLt).1 (ix2 i j)
      = ((outsAt0 m c (t.val - 1) (Nat.lt_of_le_of_lt (Nat.sub_le _ _) t.isLt)).2 (ix2 i j)
        + ∑ q : Fin 1024, pa m c t (ix2 q i) * pb m c t (ix2 q j)) := by
  rw [Gen.outsAt0_C m c t (by omega) (by omega) h]
  dsimp only
  frame_out
  pointwise [k0_pay3]
  rw [read_unread_whole]
  rfl

/-- After the first points of a run the scratch holds the partial sums. -/
theorem scratch_at : ∀ (n : ℕ) (hn : n < cfg0.N) (_ : ¬ n % 4 = 3) (i : Fin 32) (j : Fin 1024),
    (outsAt0 m c n hn).2 (ix2 i j) = part 1024 (g m c (row ⟨n, hn⟩ i) (col ⟨n, hn⟩ j)) (n % 4 + 1)
  | n, hn, h3, i, j => by
    by_cases h0 : n % 4 = 0
    · rw [acc_A m c ⟨n, hn⟩ h0 i j, dot_at m c ⟨n, hn⟩ i j 0 h0, h0, part_one _ _ (by omega)]
    · have hp : n - 1 < cfg0.N := Nat.lt_of_le_of_lt (Nat.sub_le _ _) hn
      have ih := scratch_at (n - 1) hp (by omega) i j
      have er : row ⟨n - 1, hp⟩ i = row ⟨n, hn⟩ i := Fin.ext (by simp only [row]; omega)
      have ec : col ⟨n - 1, hp⟩ j = col ⟨n, hn⟩ j := Fin.ext (by simp only [col]; omega)
      have en : (n - 1) % 4 + 1 = n % 4 := by omega
      rw [er, ec, en] at ih
      rw [acc_B m c ⟨n, hn⟩ h0 h3 i j, dot_at m c ⟨n, hn⟩ i j (n % 4) rfl, part_succ _ _ _ (by omega)]
      exact congrArg (· + _) ih

/-- The last point of a run writes the whole sums. -/
theorem out_at (h : t.val % 4 = 3) (i : Fin 32) (j : Fin 1024) :
    (outsAt0 m c t.val t.isLt).1 (ix2 i j) = (∑ k, g m c (row t i) (col t j) k) := by
  have hp : t.val - 1 < cfg0.N := Nat.lt_of_le_of_lt (Nat.sub_le _ _) t.isLt
  have ih := scratch_at m c (t.val - 1) hp (by omega) i j
  have er : row ⟨t.val - 1, hp⟩ i = row t i := Fin.ext (by simp only [row]; omega)
  have ec : col ⟨t.val - 1, hp⟩ j = col t j := Fin.ext (by simp only [col]; omega)
  have en : (t.val - 1) % 4 + 1 = 3 := by omega
  rw [er, ec, en] at ih
  rw [out_last m c t h i j, dot_at m c t i j 3 h, ← part_all 1024 _ 4 rfl, part_succ _ _ 3 (by omega)]
  exact congrArg (· + _) ih

theorem block_at (hf : (cfg0.win 2).flush t = true) (y : S32x1024.Idx) :
    (outsAt0 m c t.val t.isLt).1 y = whole (m ((c : Thread nD τ).loc main_arg0)) (m ((c : Thread nD τ).loc main_arg2)) (((cfg0.win 2).blk t).view.emb y) := by
  have e0 : ((((cfg0.win 2).blk t).view.emb y) 0 : ℕ) = 32 * (t.val / 4) + (y 0).val := by
    blk_simp [index_of t]
    omega
  have e1 : ((((cfg0.win 2).blk t).view.emb y) 1 : ℕ) = 1024 * (t.val / 4 % 1) + (y 1).val := by
    blk_simp [index_of t]
    omega
  refine (congrArg (outsAt0 m c t.val t.isLt).1 (ix2_of y)).trans ((out_at m c t (flush_of t hf) (y 0) (y 1)).trans ?_)
  exact congrArg₂ (fun (i : Fin 32) (j : Fin 1024) => (∑ k, g m c i j k)) (Fin.ext e0.symm) (Fin.ext e1.symm)

theorem arr : (dats m 0 c).arrAt 2 cfg0.N = whole (m ((c : Thread nD τ).loc main_arg0)) (m ((c : Thread nD τ).loc main_arg2)) :=
  (dats m 0 c).arrAt_eq_of_covers 2 _ (by decide +kernel) fun t hf y => (congrFun (after0_2 m c t) y).trans (block_at m c t hf y)

theorem ref_run (m' : (ℓ : Loc DtDwReferenceIdeal.nD DtDwReferenceIdeal.τ DtDwReferenceIdeal.sig) → Buf (Elt Ideal) ℓ) (g' : Dev DtDwReferenceIdeal.nD → PrngReg) :
    θ_run (DtDwReferenceIdeal.defs (F := Ideal)) (onTc (τ := DtDwReferenceIdeal.τ) (DtDwReferenceIdeal.main (F := Ideal))) ⟨m', fun _ => 0, g'⟩ fun r => ∀ c : Dev DtDwReferenceIdeal.nD,
      r.2.mem ((c : Thread DtDwReferenceIdeal.nD DtDwReferenceIdeal.τ).loc DtDwReferenceIdeal.main_v8) = whole (m' ((c : Thread DtDwReferenceIdeal.nD DtDwReferenceIdeal.τ).loc DtDwReferenceIdeal.main_arg0)) (m' ((c : Thread DtDwReferenceIdeal.nD DtDwReferenceIdeal.τ).loc DtDwReferenceIdeal.main_arg2))
      ∧ r.2.mem ((c : Thread DtDwReferenceIdeal.nD DtDwReferenceIdeal.τ).loc DtDwReferenceIdeal.main_arg0) = m' ((c : Thread DtDwReferenceIdeal.nD DtDwReferenceIdeal.τ).loc DtDwReferenceIdeal.main_arg0)
      ∧ r.2.mem ((c : Thread DtDwReferenceIdeal.nD DtDwReferenceIdeal.τ).loc DtDwReferenceIdeal.main_arg1) = m' ((c : Thread DtDwReferenceIdeal.nD DtDwReferenceIdeal.τ).loc DtDwReferenceIdeal.main_arg1)
      ∧ r.2.mem ((c : Thread DtDwReferenceIdeal.nD DtDwReferenceIdeal.τ).loc DtDwReferenceIdeal.main_arg2) = m' ((c : Thread DtDwReferenceIdeal.nD DtDwReferenceIdeal.τ).loc DtDwReferenceIdeal.main_arg2) :=
  (θ_run _ _ _).mono (fun r h c => ⟨(h c).1.trans ((DtDwReferenceIdeal.Read.val_main_v8_eq (F := Ideal) _ _).trans
    (funext fun i => (congrArg (DtDwReferenceIdeal.Read.val_main_v8 (F := Ideal) _ _) (ix2_of i)).trans ((ref_at _ _ _ _).trans
      (congrArg (whole (m' ((c : Thread DtDwReferenceIdeal.nD DtDwReferenceIdeal.τ).loc DtDwReferenceIdeal.main_arg0)) (m' ((c : Thread DtDwReferenceIdeal.nD DtDwReferenceIdeal.τ).loc DtDwReferenceIdeal.main_arg2))) (ix2_of i).symm)))), (h c).2⟩) (DtDwReferenceIdeal.Value.run m' g')

theorem ref_frame (m' : (ℓ : Loc DtDwReferenceIdeal.nD DtDwReferenceIdeal.τ DtDwReferenceIdeal.sig) → Buf (Elt Ideal) ℓ) (g' : Dev DtDwReferenceIdeal.nD → PrngReg) :
    θ_run (DtDwReferenceIdeal.defs (F := Ideal)) (onTc (τ := DtDwReferenceIdeal.τ) (DtDwReferenceIdeal.main (F := Ideal))) ⟨m', fun _ => 0, g'⟩ fun r => (∀ c : Dev DtDwReferenceIdeal.nD,
      r.2.mem ((c : Thread DtDwReferenceIdeal.nD DtDwReferenceIdeal.τ).loc DtDwReferenceIdeal.main_arg0) = m' ((c : Thread DtDwReferenceIdeal.nD DtDwReferenceIdeal.τ).loc DtDwReferenceIdeal.main_arg0)
      ∧ r.2.mem ((c : Thread DtDwReferenceIdeal.nD DtDwReferenceIdeal.τ).loc DtDwReferenceIdeal.main_arg1) = m' ((c : Thread DtDwReferenceIdeal.nD DtDwReferenceIdeal.τ).loc DtDwReferenceIdeal.main_arg1)
      ∧ r.2.mem ((c : Thread DtDwReferenceIdeal.nD DtDwReferenceIdeal.τ).loc DtDwReferenceIdeal.main_arg2) = m' ((c : Thread DtDwReferenceIdeal.nD DtDwReferenceIdeal.τ).loc DtDwReferenceIdeal.main_arg2))
      ∧ r.2.sem = fun _ => 0 :=
  (θ_run _ _ _).mono (fun r h => ⟨fun c => (h c).2, sem_eq_zero_of_no_sems (by decide) r.2⟩) (DtDwReferenceIdeal.Value.run m' g')

theorem agrees : algebraic_DtDwIdeal_DtDwReferenceIdeal (hDtDwIdeal := Gen.facts) (hDtDwReferenceIdeal := DtDwReferenceIdeal.Gen.facts) := by
  intro m r m' r' _ hm
  refine ⟨fun c => whole (m ((c : Thread nD τ).loc main_arg0)) (m ((c : Thread nD τ).loc main_arg2)), (θ_run _ _ _).mono (fun _ h c => ⟨(h c).1.trans (arr m c), (h c).2⟩) (Value.run_blocks m r), ?_⟩
  refine (θ_run _ _ _).mono (fun _ h c => ?_) (ref_run m' r')
  have e : whole (m' ((c : Thread DtDwReferenceIdeal.nD DtDwReferenceIdeal.τ).loc DtDwReferenceIdeal.main_arg0)) (m' ((c : Thread DtDwReferenceIdeal.nD DtDwReferenceIdeal.τ).loc DtDwReferenceIdeal.main_arg2)) = whole (m ((c : Thread nD τ).loc main_arg0)) (m ((c : Thread nD τ).loc main_arg2)) := by
    obtain ⟨h0, h1, h2⟩ := hm c
    rw [h0, h2]
  exact ⟨(h c).1.trans e, (h c).2⟩

end Cert.Mm.DtDw
-- ==== Proof.MmDtFwd.lean ====
/-
  A product with the weights, as the kernel accumulates it.
-/
module

public import proofs.«01_k».proof.Defs
public import proofs.«01_k».proof.Proof.Mm
public import proofs.«01_k».proof.Proof.Gen.DtFwd.Frame
public import proofs.«01_k».proof.Proof.Gen.DtFwdIdeal.Value
public import proofs.«01_k».proof.Proof.Gen.DtFwdReferenceIdeal.Read
public import proofs.«01_k».proof.Proof.Gen.DtFwdReferenceIdeal.Run
public import Idealize.ShloMosaic.Adequacy
public import Idealize.ShloMosaic.Lib.Pipeline.ValueKit
public import Idealize.ShloMosaic.Lib.Pipeline.ReadBack

@[expose] public section

set_option maxRecDepth 16384

noncomputable section

namespace Cert.Mm.DtFwd

open Cert.DtFwdIdeal Cert.DtFwdIdeal.Gen Idealize.ShloMosaic Idealize.ShloMosaic.TcCoe Idealize.SL.Sem
open Idealize.ShloMosaic.ValueIdx hiding ix1 ix2 ix3 ix4 ix5
open Idealize.ShloMosaic.Pointwise

/-- The product's terms, of the arrays of arguments. -/
def terms (x0 : S4096x1024.Idx → EReal) (x1 : S1024x32.Idx → EReal) (i : Fin 4096) (j : Fin 32) (k : Fin 1024) : EReal := x0 (ix2 i k) * x1 (ix2 k j)

/-- The product, by its entries. -/
def whole (x0 : S4096x1024.Idx → EReal) (x1 : S1024x32.Idx → EReal) (y : S4096x32.Idx) : EReal := (∑ k, terms x0 x1 (y 0) (y 1) k)

theorem ref_at (x0 : S4096x1024.Idx → EReal) (x1 : S1024x32.Idx → EReal) (i : Fin 4096) (j : Fin 32) :
    DtFwdReferenceIdeal.Read.val_main_v2 (F := Ideal) x0 x1 (ix2 i j) = whole x0 x1 (ix2 i j) := by
  pointwise [DtFwdReferenceIdeal.Read.val_main_v2, DtFwdReferenceIdeal.Read.val_main_v0, DtFwdReferenceIdeal.Read.val_main_v1, whole, terms]
  all_goals first | rfl | exact Finset.sum_congr rfl fun _ _ => mul_comm _ _ | exact add_comm _ _

variable (m : (ℓ : Loc nD τ sig) → Buf (Elt Ideal) ℓ) (c : Dev nD) (t : Fin cfg0.N)

/-- The terms of the arguments of device `c`. -/
def g : Fin 4096 → Fin 32 → Fin 1024 → EReal := terms (m ((c : Thread nD τ).loc main_arg0)) (m ((c : Thread nD τ).loc main_arg1))

def row (i : Fin 1024) : Fin 4096 := ⟨1024 * (t.val / 1) + i.val, by have : t.val < 4 := t.isLt; omega⟩
def col (j : Fin 32) : Fin 32 := ⟨32 * (t.val / 1 % 1) + j.val, by omega⟩

theorem index_of : ∀ t : Fin cfg0.N,
    win0_0.index t = ![t.val / 1, t.val % 1] ∧ win0_1.index t = ![t.val / 1 % 1, t.val % 1] ∧ win0_2.index t = ![t.val / 1, t.val / 1 % 1] :=
  (by decide +kernel : ∀ t : Fin grid0.N,
    win0_0.index t = ![t.val / 1, t.val % 1] ∧ win0_1.index t = ![t.val / 1 % 1, t.val % 1] ∧ win0_2.index t = ![t.val / 1, t.val / 1 % 1])

def pa : FVec Ideal S1024x1024 .bf16 := iblk m c 0 t
def pb : FVec Ideal S32x1024 .bf16 := iblk m c 1 t

theorem pa_at (q : Fin 1024) (i : Fin 1024) :
    pa m c t (ix2 i q) = m ((c : Thread nD τ).loc main_arg0) (ix2 (row t i) ⟨1024 * (t.val % 1) + q.val, by omega⟩) := by
  show iblk m c 0 t (ix2 i q) = _
  blk_ext! [iblk, V, index_of t, row]

theorem pb_at (q : Fin 1024) (j : Fin 32) :
    pb m c t (ix2 j q) = m ((c : Thread nD τ).loc main_arg1) (ix2 ⟨1024 * (t.val % 1) + q.val, by omega⟩ (col t j)) := by
  show iblk m c 1 t (ix2 j q) = _
  blk_ext! [iblk, V, index_of t, col]

theorem dot_at (i : Fin 1024) (j : Fin 32) (n : ℕ) (h : t.val % 1 = n) :
    ∑ q : Fin 1024, pa m c t (ix2 i q) * pb m c t (ix2 j q)
      = ∑ q : Fin 1024, g m c (row t i) (col t j) ⟨1024 * n + q.val, by omega⟩ := by
  subst h
  exact Finset.sum_congr rfl fun q _ => congrArg₂ (· * ·) (pa_at m c t q i) (pb_at m c t q j)

/-- What point `t` writes. -/
def po : FVec Ideal S1024x32 .f32 := out0_2 (iblk m c 0 t) (iblk m c 1 t)

theorem out_pt (i : Fin 1024) (j : Fin 32) :
    po m c t (ix2 i j) = (∑ q : Fin 1024, pa m c t (ix2 i q) * pb m c t (ix2 j q)) := by
  unfold po
  frame_out
  pointwise [k0_pay1]
  all_goals rfl

theorem out_at (i : Fin 1024) (j : Fin 32) : po m c t (ix2 i j) = (∑ k, g m c (row t i) (col t j) k) := by
  have e : ∑ q : Fin 1024, pa m c t (ix2 i q) * pb m c t (ix2 j q) = ∑ k, g m c (row t i) (col t j) k :=
    (dot_at m c t i j 0 (Nat.mod_one _)).trans (Finset.sum_congr rfl fun q _ => congrArg (g m c (row t i) (col t j)) (Fin.ext (by simp)))
  rw [out_pt, e]

theorem block_at (y : S1024x32.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 1024 * (t.val / 1) + (y 0).val := by
    blk_simp [index_of t]
    omega
  have e1 : ((((cfg0.win 2).blk t).view.emb y) 1 : ℕ) = 32 * (t.val / 1 % 1) + (y 1).val := by
    blk_simp [index_of t]
    omega
  refine (congrArg (po m c t) (ix2_of y)).trans ((out_at m c t (y 0) (y 1)).trans ?_)
  exact congrArg₂ (fun (i : Fin 4096) (j : Fin 32) => (∑ k, g m c i j k)) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_run (m' : (ℓ : Loc DtFwdReferenceIdeal.nD DtFwdReferenceIdeal.τ DtFwdReferenceIdeal.sig) → Buf (Elt Ideal) ℓ) (g' : Dev DtFwdReferenceIdeal.nD → PrngReg) :
    θ_run (DtFwdReferenceIdeal.defs (F := Ideal)) (onTc (τ := DtFwdReferenceIdeal.τ) (DtFwdReferenceIdeal.main (F := Ideal))) ⟨m', fun _ => 0, g'⟩ fun r => ∀ c : Dev DtFwdReferenceIdeal.nD,
      r.2.mem ((c : Thread DtFwdReferenceIdeal.nD DtFwdReferenceIdeal.τ).loc DtFwdReferenceIdeal.main_v2) = whole (m' ((c : Thread DtFwdReferenceIdeal.nD DtFwdReferenceIdeal.τ).loc DtFwdReferenceIdeal.main_arg0)) (m' ((c : Thread DtFwdReferenceIdeal.nD DtFwdReferenceIdeal.τ).loc DtFwdReferenceIdeal.main_arg1))
      ∧ r.2.mem ((c : Thread DtFwdReferenceIdeal.nD DtFwdReferenceIdeal.τ).loc DtFwdReferenceIdeal.main_arg0) = m' ((c : Thread DtFwdReferenceIdeal.nD DtFwdReferenceIdeal.τ).loc DtFwdReferenceIdeal.main_arg0)
      ∧ r.2.mem ((c : Thread DtFwdReferenceIdeal.nD DtFwdReferenceIdeal.τ).loc DtFwdReferenceIdeal.main_arg1) = m' ((c : Thread DtFwdReferenceIdeal.nD DtFwdReferenceIdeal.τ).loc DtFwdReferenceIdeal.main_arg1) :=
  (θ_run _ _ _).mono (fun r h c => ⟨(h c).1.trans ((DtFwdReferenceIdeal.Read.val_main_v2_eq (F := Ideal) _ _).trans
    (funext fun i => (congrArg (DtFwdReferenceIdeal.Read.val_main_v2 (F := Ideal) _ _) (ix2_of i)).trans ((ref_at _ _ _ _).trans
      (congrArg (whole (m' ((c : Thread DtFwdReferenceIdeal.nD DtFwdReferenceIdeal.τ).loc DtFwdReferenceIdeal.main_arg0)) (m' ((c : Thread DtFwdReferenceIdeal.nD DtFwdReferenceIdeal.τ).loc DtFwdReferenceIdeal.main_arg1))) (ix2_of i).symm)))), (h c).2⟩) (DtFwdReferenceIdeal.Value.run m' g')

theorem ref_frame (m' : (ℓ : Loc DtFwdReferenceIdeal.nD DtFwdReferenceIdeal.τ DtFwdReferenceIdeal.sig) → Buf (Elt Ideal) ℓ) (g' : Dev DtFwdReferenceIdeal.nD → PrngReg) :
    θ_run (DtFwdReferenceIdeal.defs (F := Ideal)) (onTc (τ := DtFwdReferenceIdeal.τ) (DtFwdReferenceIdeal.main (F := Ideal))) ⟨m', fun _ => 0, g'⟩ fun r => (∀ c : Dev DtFwdReferenceIdeal.nD,
      r.2.mem ((c : Thread DtFwdReferenceIdeal.nD DtFwdReferenceIdeal.τ).loc DtFwdReferenceIdeal.main_arg0) = m' ((c : Thread DtFwdReferenceIdeal.nD DtFwdReferenceIdeal.τ).loc DtFwdReferenceIdeal.main_arg0)
      ∧ r.2.mem ((c : Thread DtFwdReferenceIdeal.nD DtFwdReferenceIdeal.τ).loc DtFwdReferenceIdeal.main_arg1) = m' ((c : Thread DtFwdReferenceIdeal.nD DtFwdReferenceIdeal.τ).loc DtFwdReferenceIdeal.main_arg1))
      ∧ r.2.sem = fun _ => 0 :=
  (θ_run _ _ _).mono (fun r h => ⟨fun c => (h c).2, sem_eq_zero_of_no_sems (by decide) r.2⟩) (DtFwdReferenceIdeal.Value.run m' g')

theorem agrees : algebraic_DtFwdIdeal_DtFwdReferenceIdeal (hDtFwdIdeal := Gen.facts) (hDtFwdReferenceIdeal := DtFwdReferenceIdeal.Gen.facts) := by
  intro m r m' r' _ hm
  refine ⟨fun c => whole (m ((c : Thread nD τ).loc main_arg0)) (m ((c : Thread nD τ).loc main_arg1)), (θ_run _ _ _).mono (fun _ h c => ⟨(h c).1.trans (arr m c), (h c).2⟩) (Value.run_blocks m r), ?_⟩
  refine (θ_run _ _ _).mono (fun _ h c => ?_) (ref_run m' r')
  have e : whole (m' ((c : Thread DtFwdReferenceIdeal.nD DtFwdReferenceIdeal.τ).loc DtFwdReferenceIdeal.main_arg0)) (m' ((c : Thread DtFwdReferenceIdeal.nD DtFwdReferenceIdeal.τ).loc DtFwdReferenceIdeal.main_arg1)) = whole (m ((c : Thread nD τ).loc main_arg0)) (m ((c : Thread nD τ).loc main_arg1)) := by
    obtain ⟨h0, h1⟩ := hm c
    rw [h0, h1]
  exact ⟨(h c).1.trans e, (h c).2⟩

end Cert.Mm.DtFwd
-- ==== Proof.RwSwigluBwd.lean ====
/-
  The gradient of the gated unit, entry by entry: the gate's columns, then the up-projection's.
-/
module

public import proofs.«01_k».proof.Defs
public import proofs.«01_k».proof.Proof.Mm
public import proofs.«01_k».proof.Proof.Gen.SwigluBwd.Frame
public import proofs.«01_k».proof.Proof.Gen.SwigluBwdIdeal.Value
public import proofs.«01_k».proof.Proof.Gen.SwigluBwdReferenceIdeal.Read
public import proofs.«01_k».proof.Proof.Gen.SwigluBwdReferenceIdeal.Run
public import proofs.«01_k».proof.Proof.Row
public import Idealize.ShloMosaic.Lib.Pipeline.ValueKit
@[expose] public section

set_option maxRecDepth 16384

noncomputable section

namespace Cert.Rw.SwigluBwd

open Cert.SwigluBwdIdeal Cert.SwigluBwdIdeal.Gen Idealize.ShloMosaic Idealize.ShloMosaic.TcCoe Idealize.SL.Sem
open Idealize.ShloMosaic.ValueIdx hiding ix1 ix2 ix3 ix4 ix5
open Idealize.ShloMosaic.Pointwise
open Cert.Ssd (IsR silu siluGrad mul_siluGrad isR_of_bit)
open Cert.Mm (ix2_of)

/-- The reference's memory. -/
abbrev RMem := (ℓ : Loc SwigluBwdReferenceIdeal.nD SwigluBwdReferenceIdeal.τ SwigluBwdReferenceIdeal.sig) → Buf (Elt Ideal) ℓ
/-- The kernel's memory. -/
abbrev KMem := (ℓ : Loc nD τ sig) → Buf (Elt Ideal) ℓ

/-- The gate's gradient and the up-projection's, of one row's entries. -/
def gateGrad (g u d : EReal) : EReal := d * u * siluGrad g
def upGrad (g d : EReal) : EReal := d * silu g

/-- The gradient by its entries. -/
def entry (x0 : S4096x5632.Idx → EReal) (x1 : S4096x2816.Idx → EReal) (i : Fin 4096) (j : Fin 5632) : EReal :=
  if h : j.val < 2816 then gateGrad (x0 (ix2 i j)) (x0 (ix2 i ⟨2816 + j.val, by omega⟩)) (x1 (ix2 i ⟨j.val, h⟩))
  else upGrad (x0 (ix2 i ⟨j.val - 2816, by omega⟩)) (x1 (ix2 i ⟨j.val - 2816, by omega⟩))

def whole (x0 : S4096x5632.Idx → EReal) (x1 : S4096x2816.Idx → EReal) (y : S4096x5632.Idx) : EReal := entry x0 x1 (y 0) (y 1)

section
open SwigluBwdReferenceIdeal.Read

theorem gate_at (x0 : S4096x5632.Idx → EReal) (x1 : S4096x2816.Idx → EReal) (h0 : ∀ i, IsR (x0 i)) (h1 : ∀ i, IsR (x1 i)) (i : Fin 4096) (j : Fin 2816) :
    val_main_v11 (F := Ideal) x0 x1 (ix2 i j) = gateGrad (x0 (ix2 i ⟨j.val, by omega⟩)) (x0 (ix2 i ⟨2816 + j.val, by omega⟩)) (x1 (ix2 i j)) := by
  refine Eq.trans ?_ (mul_siluGrad ((h1 _).mul (h0 _)) (h0 _)).symm
  pointwise [val_main_v11, val_main_v10, val_main_v9, val_main_v8, val_main_v7, val_main_v6, val_main_v5, val_main_v4, val_main_v3_0, val_main_v3_1, val_main_v3_2, val_main_v2, val_main_v1, val_main_v0, val_main_call1_v2, val_main_call1_v1, val_main_call1_v0, val_main_call0_v7, val_main_call0_v6, val_main_call0_cst_1, val_main_call0_v4, val_main_call0_cst_0, val_main_call0_v3, val_main_call0_v2, val_main_call0_cst, val_main_call0_v1, val_main_call0_v0]
  all_goals rfl

theorem up_at (x0 : S4096x5632.Idx → EReal) (x1 : S4096x2816.Idx → EReal) (i : Fin 4096) (j : Fin 2816) :
    val_main_v9 (F := Ideal) x0 x1 (ix2 i j) = upGrad (x0 (ix2 i ⟨j.val, by omega⟩)) (x1 (ix2 i j)) := by
  refine Eq.trans ?_ (mul_comm (silu (x0 (ix2 i ⟨j.val, by omega⟩))) (x1 (ix2 i j)))
  pointwise [val_main_v11, val_main_v10, val_main_v9, val_main_v8, val_main_v7, val_main_v6, val_main_v5, val_main_v4, val_main_v3_0, val_main_v3_1, val_main_v3_2, val_main_v2, val_main_v1, val_main_v0, val_main_call1_v2, val_main_call1_v1, val_main_call1_v0, val_main_call0_v7, val_main_call0_v6, val_main_call0_cst_1, val_main_call0_v4, val_main_call0_cst_0, val_main_call0_v3, val_main_call0_v2, val_main_call0_cst, val_main_call0_v1, val_main_call0_v0, silu]
  all_goals rfl

theorem ref_at (x0 : S4096x5632.Idx → EReal) (x1 : S4096x2816.Idx → EReal) (h0 : ∀ i, IsR (x0 i)) (h1 : ∀ i, IsR (x1 i)) (i : Fin 4096) (j : Fin 5632) :
    val_main_v12 (F := Ideal) x0 x1 (ix2 i j) = entry x0 x1 i j := by
  unfold entry
  split
  · rename_i h
    refine Eq.trans ?_ (gate_at x0 x1 h0 h1 i ⟨j.val, h⟩)
    unfold val_main_v12
    generalize val_main_v11 (F := Ideal) x0 x1 = a
    generalize val_main_v9 (F := Ideal) x0 x1 = b
    pointwise []
    rw [dif_pos h]
  · rename_i h
    refine Eq.trans ?_ (up_at x0 x1 i ⟨j.val - 2816, by omega⟩)
    unfold val_main_v12
    generalize val_main_v11 (F := Ideal) x0 x1 = a
    generalize val_main_v9 (F := Ideal) x0 x1 = b
    pointwise []
    rw [dif_neg h]

theorem ref_eq (x0 : S4096x5632.Idx → EReal) (x1 : S4096x2816.Idx → EReal) (h0 : ∀ i, IsR (x0 i)) (h1 : ∀ i, IsR (x1 i)) :
    val_main_v12 (F := Ideal) x0 x1 = whole x0 x1 := funext fun i =>
  (congrArg (val_main_v12 (F := Ideal) x0 x1) (ix2_of i)).trans (ref_at x0 x1 h0 h1 (i 0) (i 1))

end

variable (m : KMem) (c : Dev nD) (t : Fin cfg0.N)

def row (i : Fin 256) : Fin 4096 := ⟨256 * t.val + i.val, by have : t.val < 16 := t.isLt; omega⟩

theorem index_of : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

def pa : FVec Ideal S256x5632 .bf16 := iblk m c 0 t
def pb : FVec Ideal S256x2816 .bf16 := iblk m c 1 t

theorem pa_at (i : Fin 256) (q : Fin 5632) : pa m c t (ix2 i q) = m ((c : Thread nD τ).loc main_arg0) (ix2 (row t i) q) := by
  show iblk m c 0 t (ix2 i q) = _
  blk_ext! [iblk, V, index_of t, row]

theorem pb_at (i : Fin 256) (q : Fin 2816) : pb m c t (ix2 i q) = m ((c : Thread nD τ).loc main_arg1) (ix2 (row t i) q) := by
  show iblk m c 1 t (ix2 i q) = _
  blk_ext! [iblk, V, index_of t, row]

theorem pay3_at (g u d : FVec Ideal S256x2816 .bf16) (x : S256x2816.Idx) : k0_pay3 (F := Ideal) g u d x = gateGrad (g x) (u x) (d x) := by
  pointwise [k0_pay3, k0_pay2, k0_pay1, gateGrad, siluGrad]
  all_goals rfl

theorem pay4_at (g d : FVec Ideal S256x2816 .bf16) (x : S256x2816.Idx) : k0_pay4 (F := Ideal) g d x = upGrad (g x) (d x) := by
  pointwise [k0_pay4, k0_pay2, k0_pay1, upGrad, silu]
  all_goals rfl

def po : FVec Ideal S256x5632 .bf16 := out0_2 (iblk m c 0 t) (iblk m c 1 t)

theorem ld_at (x : FVec Ideal S256x5632 .bf16) (i : Fin 256) (q : Fin 2816) (b : ℕ) (h) (j : Fin 5632) (hj : j.val = b + q.val) :
    View.ld (Val := Elt Ideal) (e' := .bf16) x (Rect.unit (s := S256x5632) ![0, b] S256x2816.size h) (ix2 i q) = x (ix2 i j) :=
  congrArg x (funext fun a => Fin.ext (by
    match a with
    | ⟨0, _⟩ => show 0 + 1 * i.val = i.val; omega
    | ⟨1, _⟩ => show b + 1 * q.val = j.val; omega))

theorem lb_at (x : FVec Ideal S256x2816 .bf16) (i : Fin 256) (q : Fin 2816) (j : Fin 2816) (hj : j.val = q.val) :
    View.ld (Val := Elt Ideal) (e' := .bf16) x r0_2 (ix2 i q) = x (ix2 i j) :=
  congrArg x (funext fun a => Fin.ext (by
    match a with
    | ⟨0, _⟩ => show 0 + 1 * i.val = i.val; omega
    | ⟨1, _⟩ => show 0 + 1 * q.val = j.val; omega))

theorem out_pt (i : Fin 256) (j : Fin 5632) : po m c t (ix2 i j) =
    if h : j.val < 2816 then gateGrad (pa m c t (ix2 i j)) (pa m c t (ix2 i ⟨2816 + j.val, by omega⟩)) (pb m c t (ix2 i ⟨j.val, h⟩))
    else upGrad (pa m c t (ix2 i ⟨j.val - 2816, by omega⟩)) (pb m c t (ix2 i ⟨j.val - 2816, by omega⟩)) := by
  unfold po out0_2
  have ea : iblk m c 0 t = pa m c t := rfl
  have eb : iblk m c 1 t = pb m c t := rfl
  rw [ea, eb]
  generalize pa m c t = a
  generalize pb m c t = b
  canon_tiles x hx
  · have e0 : i = x 0 := Fin.ext hx0
    have e1 : j.val = 2816 + (x 1).val := hx1
    have hl : (x 1).val < 2816 := (x 1).isLt
    rw [dif_neg (by omega), pay4_at]
    subst e0
    refine congrArg₂ upGrad ?_ ?_
    · exact (congrArg (View.ld (Val := Elt Ideal) (e' := .bf16) a r0_0) (ix2_of x)).trans (ld_at a (x 0) (x 1) 0 _ _ (by show j.val - 2816 = 0 + (x 1).val; omega))
    · exact (congrArg (View.ld (Val := Elt Ideal) (e' := .bf16) b r0_2) (ix2_of x)).trans (lb_at b (x 0) (x 1) _ (by show j.val - 2816 = (x 1).val; omega))
  · have e0 : i = x 0 := Fin.ext hx0
    have e1 : j.val = (x 1).val := hx1
    have hl : (x 1).val < 2816 := (x 1).isLt
    rw [dif_pos (by omega), pay3_at]
    subst e0
    refine (congrArg₂ (fun p q : EReal => gateGrad p q _) ?_ ?_).trans (congrArg (gateGrad _ _) ?_)
    · exact (congrArg (View.ld (Val := Elt Ideal) (e' := .bf16) a r0_0) (ix2_of x)).trans (ld_at a (x 0) (x 1) 0 _ j (by omega))
    · exact (congrArg (View.ld (Val := Elt Ideal) (e' := .bf16) a r0_1) (ix2_of x)).trans (ld_at a (x 0) (x 1) 2816 _ ⟨2816 + j.val, by omega⟩ (by show 2816 + j.val = 2816 + (x 1).val; omega))
    · exact (congrArg (View.ld (Val := Elt Ideal) (e' := .bf16) b r0_2) (ix2_of x)).trans (lb_at b (x 0) (x 1) _ e1)

theorem out_at (i : Fin 256) (j : Fin 5632) :
    po m c t (ix2 i j) = entry (m ((c : Thread nD τ).loc main_arg0)) (m ((c : Thread nD τ).loc main_arg1)) (row t i) j := by
  rw [out_pt]
  unfold entry
  split
  · exact (congrArg₂ (fun p q : EReal => gateGrad p q _) (pa_at m c t i _) (pa_at m c t i _)).trans (congrArg (gateGrad _ _) (pb_at m c t i _))
  · exact congrArg₂ upGrad (pa_at m c t i _) (pb_at m c t i _)

theorem block_at (y : S256x5632.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 256 * t.val + (y 0).val := by
    blk_simp [index_of t]
    omega
  have e1 : ((((cfg0.win 2).blk t).view.emb y) 1 : ℕ) = (y 1).val := by
    blk_simp [index_of t]
  refine (congrArg (po m c t) (ix2_of y)).trans ((out_at m c t (y 0) (y 1)).trans ?_)
  exact congrArg₂ (entry (m ((c : Thread nD τ).loc main_arg0)) (m ((c : Thread nD τ).loc main_arg1))) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_frame (m' : RMem) (g' : Dev SwigluBwdReferenceIdeal.nD → PrngReg) :
    θ_run (SwigluBwdReferenceIdeal.defs (F := Ideal)) (onTc (τ := SwigluBwdReferenceIdeal.τ) (SwigluBwdReferenceIdeal.main (F := Ideal))) ⟨m', fun _ => 0, g'⟩ fun r => (∀ c : Dev SwigluBwdReferenceIdeal.nD,
      r.2.mem ((c : Thread SwigluBwdReferenceIdeal.nD SwigluBwdReferenceIdeal.τ).loc SwigluBwdReferenceIdeal.main_arg0) = m' ((c : Thread SwigluBwdReferenceIdeal.nD SwigluBwdReferenceIdeal.τ).loc SwigluBwdReferenceIdeal.main_arg0)
      ∧ r.2.mem ((c : Thread SwigluBwdReferenceIdeal.nD SwigluBwdReferenceIdeal.τ).loc SwigluBwdReferenceIdeal.main_arg1) = m' ((c : Thread SwigluBwdReferenceIdeal.nD SwigluBwdReferenceIdeal.τ).loc SwigluBwdReferenceIdeal.main_arg1))
      ∧ r.2.sem = fun _ => 0 :=
  (θ_run _ _ _).mono (fun r h => ⟨fun c => (h c).2, sem_eq_zero_of_no_sems (by decide) r.2⟩) (SwigluBwdReferenceIdeal.Value.run m' g')

instance preFacts : Cert.Pre_swiglu_finite.Facts where
  bitsLt_bf16_f32 := by decide
  bcast_S_S4096x5632 := by decide
  bcast_S_S4096x2816 := by decide

theorem fin0 (h : Cert.Pre_SwigluBwdIdeal_swiglu_finite (hPre_swiglu_finite := preFacts) m) (y : S4096x5632.Idx) : IsR (m ((c : Thread nD τ).loc main_arg0) y) :=
  isR_of_bit (congrFun (h c).1 y)

theorem fin1 (h : Cert.Pre_SwigluBwdIdeal_swiglu_finite (hPre_swiglu_finite := preFacts) m) (y : S4096x2816.Idx) : IsR (m ((c : Thread nD τ).loc main_arg1) y) :=
  isR_of_bit (congrFun (h c).2 y)

theorem agrees : algebraic_SwigluBwdIdeal_SwigluBwdReferenceIdeal_pre_swiglu_finite (hSwigluBwdIdeal := Gen.facts) (hSwigluBwdReferenceIdeal := SwigluBwdReferenceIdeal.Gen.facts)
    (hPre_swiglu_finite := preFacts) := by
  intro m r m' r' hp hm
  refine ⟨fun c => whole (m ((c : Thread nD τ).loc main_arg0)) (m ((c : Thread nD τ).loc main_arg1)),
    (θ_run _ _ _).mono (fun _ h c => ⟨(h c).1.trans (arr m c), (h c).2⟩) (Value.run_blocks m r),
    (θ_run _ _ _).mono (fun _ h c => ⟨(h c).1.trans ((SwigluBwdReferenceIdeal.Read.val_main_v12_eq (F := Ideal) _ _).trans ?_), (h c).2⟩) (SwigluBwdReferenceIdeal.Value.run m' r')⟩
  obtain ⟨e0, e1⟩ := hm c
  rw [e0, e1]
  exact ref_eq _ _ (fin0 m c hp) (fin1 m c hp)

end Cert.Rw.SwigluBwd
-- ==== Proof.RwPleBwd.lean ====
/-
  The gradient of the gated embedding, entry by entry.
-/
module

public import proofs.«01_k».proof.Defs
public import proofs.«01_k».proof.Proof.Mm
public import proofs.«01_k».proof.Proof.Gen.PleBwd.Frame
public import proofs.«01_k».proof.Proof.Gen.PleBwdIdeal.Value
public import proofs.«01_k».proof.Proof.Gen.PleBwdReferenceIdeal.Read
public import proofs.«01_k».proof.Proof.Gen.PleBwdReferenceIdeal.Run
public import proofs.«01_k».proof.Proof.Row
@[expose] public section

set_option maxRecDepth 16384

noncomputable section

namespace Cert.Rw.PleBwd

open Cert.PleBwdIdeal Cert.PleBwdIdeal.Gen Idealize.ShloMosaic Idealize.ShloMosaic.TcCoe Idealize.SL.Sem
open Cert.Ssd (sigmoid_parts)

/-- The reference's memory. -/
abbrev RMem := (ℓ : Loc PleBwdReferenceIdeal.nD PleBwdReferenceIdeal.τ PleBwdReferenceIdeal.sig) → Buf (Elt Ideal) ℓ
/-- The kernel's memory. -/
abbrev KMem := (ℓ : Loc nD τ sig) → Buf (Elt Ideal) ℓ

theorem g3_eq (x0 x1 : (⟨PleBwdReferenceIdeal.S4096x1024, .bf16⟩ : BufTy).Contents (Elt Ideal)) (x2 : (⟨PleBwdReferenceIdeal.S4096x1024, .f32⟩ : BufTy).Contents (Elt Ideal)) :
    PleBwdReferenceIdeal.Read.val_main_v16 (F := Ideal) x0 x1 x2 = Value.G3 (F := Ideal) x0 x2 x1 := by
  funext i
  show (x2 i * x1 i : EReal) * ((Ideal.div (Ideal.ofBits .f32 0x3F800000#32) (Ideal.ofBits .f32 0x3F800000#32 + Ideal.exp (-x0 i))) * (Ideal.ofBits .f32 0x3F800000#32 - (Ideal.div (Ideal.ofBits .f32 0x3F800000#32) (Ideal.ofBits .f32 0x3F800000#32 + Ideal.exp (-x0 i))))) = ((x2 i * x1 i) * Ideal.logistic (x0 i)) * (Ideal.ofBits .f32 0x3F800000#32 - Ideal.logistic (x0 i))
  rw [sigmoid_parts]
  exact (mul_assoc _ _ _).symm

theorem g4_eq (x0 : (⟨PleBwdReferenceIdeal.S4096x1024, .bf16⟩ : BufTy).Contents (Elt Ideal)) (x2 : (⟨PleBwdReferenceIdeal.S4096x1024, .f32⟩ : BufTy).Contents (Elt Ideal)) :
    PleBwdReferenceIdeal.Read.val_main_v14 (F := Ideal) x0 x2 = Value.G4 (F := Ideal) x0 x2 := by
  funext i
  show ((Ideal.div (Ideal.ofBits .f32 0x3F800000#32) (Ideal.ofBits .f32 0x3F800000#32 + Ideal.exp (-x0 i))) * x2 i : EReal) = x2 i * Ideal.logistic (x0 i)
  rw [sigmoid_parts, mul_comm]

theorem ref_frame (m' : RMem) (g' : Dev PleBwdReferenceIdeal.nD → PrngReg) :
    θ_run (PleBwdReferenceIdeal.defs (F := Ideal)) (onTc (τ := PleBwdReferenceIdeal.τ) (PleBwdReferenceIdeal.main (F := Ideal))) ⟨m', fun _ => 0, g'⟩ fun r => (∀ c : Dev PleBwdReferenceIdeal.nD,
      r.2.mem ((c : Thread PleBwdReferenceIdeal.nD PleBwdReferenceIdeal.τ).loc PleBwdReferenceIdeal.main_arg0) = m' ((c : Thread PleBwdReferenceIdeal.nD PleBwdReferenceIdeal.τ).loc PleBwdReferenceIdeal.main_arg0)
      ∧ r.2.mem ((c : Thread PleBwdReferenceIdeal.nD PleBwdReferenceIdeal.τ).loc PleBwdReferenceIdeal.main_arg1) = m' ((c : Thread PleBwdReferenceIdeal.nD PleBwdReferenceIdeal.τ).loc PleBwdReferenceIdeal.main_arg1)
      ∧ r.2.mem ((c : Thread PleBwdReferenceIdeal.nD PleBwdReferenceIdeal.τ).loc PleBwdReferenceIdeal.main_arg2) = m' ((c : Thread PleBwdReferenceIdeal.nD PleBwdReferenceIdeal.τ).loc PleBwdReferenceIdeal.main_arg2))
      ∧ r.2.sem = fun _ => 0 :=
  (θ_run _ _ _).mono (fun r h => ⟨fun c => (h c).2.2, sem_eq_zero_of_no_sems (by decide) r.2⟩) (PleBwdReferenceIdeal.Value.run m' g')

theorem agrees : algebraic_PleBwdIdeal_PleBwdReferenceIdeal (hPleBwdIdeal := Gen.facts) (hPleBwdReferenceIdeal := PleBwdReferenceIdeal.Gen.facts) := by
  intro m r m' r' _ hm
  exact ⟨fun c => Value.G3 (m ((c : Thread nD τ).loc main_arg0)) (m ((c : Thread nD τ).loc main_arg2)) (m ((c : Thread nD τ).loc main_arg1)), fun c => Value.G4 (m ((c : Thread nD τ).loc main_arg0)) (m ((c : Thread nD τ).loc main_arg2)), Value.run m r, (θ_run _ _ _).mono (fun _ h c => ⟨(h c).1.trans ((PleBwdReferenceIdeal.Read.val_main_v16_eq (F := Ideal) _ _ _).trans ((g3_eq _ _ _).trans (by rw [(hm c).1, (hm c).2.2, (hm c).2.1]))),
    (h c).2.1.trans ((PleBwdReferenceIdeal.Read.val_main_v14_eq (F := Ideal) _ _).trans ((g4_eq _ _).trans (by rw [(hm c).1, (hm c).2.2]))),
    (h c).2.2⟩) (PleBwdReferenceIdeal.Value.run m' r')⟩

end Cert.Rw.PleBwd
-- ==== Proof.NormGrad.lean ====
/-
  The gradient of a root-mean-square norm with respect to the normalised numbers: the chain rule's terms, as automatic differentiation
  leaves them, are the closed form the kernels use, at real arguments.
-/
module

public import proofs.«01_k».proof.Proof.Row

@[expose] public section

noncomputable section

namespace Cert.Ssd

open Idealize.ShloMosaic

theorem bits_half : Ideal.ofBits .f32 0xBF000000#32 = ((-(1 / 2) : ℝ) : EReal) := by
  simp [Ideal.ofBits, Ideal.ieee, ← EReal.coe_mul]
  norm_num

theorem bits_512 : Ideal.ofBits .f32 0x44000000#32 = ((512 : ℝ) : EReal) := by
  simp [Ideal.ofBits, Ideal.ieee, ← EReal.coe_mul]
  norm_num

theorem bits_1024 : Ideal.ofBits .f32 0x44800000#32 = ((1024 : ℝ) : EReal) := by
  simp [Ideal.ofBits, Ideal.ieee, ← EReal.coe_mul]
  norm_num

theorem bits_eps : ∃ e : ℝ, 0 < e ∧ Ideal.ofBits .f32 0x358637BD#32 = (e : EReal) := by
  refine ⟨8796093 * (1 / 2 ^ 43), by norm_num, ?_⟩
  simp [Ideal.ofBits, Ideal.ieee, ← EReal.coe_mul]

theorem div_real (a b : ℝ) (h : b ≠ 0) : Ideal.div (a : EReal) (b : EReal) = ((a / b : ℝ) : EReal) := by
  rw [Ideal.div, if_neg (by exact_mod_cast h), ← EReal.coe_inv, ← EReal.coe_mul, div_eq_mul_inv]

theorem sum_real {K : ℕ} (f : Fin K → ℝ) : ∑ k, (f k : EReal) = ((∑ k, f k : ℝ) : EReal) := by
  induction K with
  | zero => simp
  | succ n ih => rw [Fin.sum_univ_succ, Fin.sum_univ_succ, ih, EReal.coe_add]

/-- The gradient at one of the normalised numbers, the cotangents `a` already multiplied by the gain. -/
def normGrad (nb : BitVec 32) {K : ℕ} (x a : Fin K → EReal) (j : Fin K) : EReal :=
  scale nb (∑ k, x k * x k) * (a j - x j * scale nb (∑ k, x k * x k)
    * Ideal.div (∑ k, a k * (x k * scale nb (∑ k, x k * x k))) (Ideal.ofBits .f32 nb))

/-- What each of the numbers contributes through the mean of squares. -/
def viaMean (nb : BitVec 32) {K : ℕ} (x a : Fin K → EReal) : EReal :=
  Ideal.div ((∑ k, x k * a k) * (Ideal.ofBits .f32 0xBF000000#32 * Ideal.div (scale nb (∑ k, x k * x k))
    (Ideal.div (∑ k, x k * x k) (Ideal.ofBits .f32 nb) + Ideal.ofBits .f32 0x358637BD#32))) (Ideal.ofBits .f32 nb)

section
variable {nb : BitVec 32} {N : ℝ} (hN : Ideal.ofBits .f32 nb = (N : EReal)) (hp : 0 < N) {K : ℕ} (x a : Fin K → ℝ)
include hN hp

theorem scale_real : ∃ R U : ℝ, R * R * U = 1 ∧ scale nb (∑ k, (x k : EReal) * x k) = (R : EReal)
    ∧ Ideal.div (∑ k, (x k : EReal) * x k) (Ideal.ofBits .f32 nb) + Ideal.ofBits .f32 0x358637BD#32 = (U : EReal) := by
  obtain ⟨e, he, hb⟩ := bits_eps
  have hs : (∑ k, (x k : EReal) * x k) = ((∑ k, x k * x k : ℝ) : EReal) := by
    rw [← sum_real]; exact Finset.sum_congr rfl fun k _ => (EReal.coe_mul _ _).symm
  have h0 : 0 ≤ ∑ k, x k * x k := Finset.sum_nonneg fun k _ => mul_self_nonneg _
  have hU : 0 < (∑ k, x k * x k) / N + e := add_pos_of_nonneg_of_pos (div_nonneg h0 hp.le) he
  have eU : Ideal.div (∑ k, (x k : EReal) * x k) (Ideal.ofBits .f32 nb) + Ideal.ofBits .f32 0x358637BD#32 = (((∑ k, x k * x k) / N + e : ℝ) : EReal) := by
    rw [hs, hN, hb, div_real _ _ hp.ne', EReal.coe_add]
  refine ⟨(Real.sqrt ((∑ k, x k * x k) / N + e))⁻¹, _, ?_, ?_, eU⟩
  · rw [← mul_inv, Real.mul_self_sqrt hU.le, inv_mul_cancel₀ hU.ne']
  · unfold scale
    rw [eU, Ideal.rsqrt_coe, if_neg (not_lt.2 hU.le), if_neg hU.ne']

theorem norm_real (j : Fin K) : ∃ G : ℝ, normGrad nb (fun k => (x k : EReal)) (fun k => (a k : EReal)) j = (G : EReal)
    ∧ (a j : EReal) * scale nb (∑ k, (x k : EReal) * x k) + x j * viaMean nb (fun k => (x k : EReal)) (fun k => (a k : EReal))
      + viaMean nb (fun k => (x k : EReal)) (fun k => (a k : EReal)) * x j = (G : EReal) := by
  obtain ⟨R, U, hRU, hR, hU⟩ := scale_real hN hp x
  have hU0 : U ≠ 0 := fun h => by rw [h, mul_zero] at hRU; exact zero_ne_one hRU
  have hs : (∑ k, (x k : EReal) * a k) = ((∑ k, x k * a k : ℝ) : EReal) := by
    rw [← sum_real]; exact Finset.sum_congr rfl fun k _ => (EReal.coe_mul _ _).symm
  have ht : (∑ k, (a k : EReal) * (x k * R)) = ((∑ k, a k * (x k * R) : ℝ) : EReal) := by
    rw [← sum_real]; exact Finset.sum_congr rfl fun k _ => by rw [EReal.coe_mul, EReal.coe_mul]
  have hq : (∑ k, a k * (x k * R)) = R * ∑ k, x k * a k := by
    rw [Finset.mul_sum]; exact Finset.sum_congr rfl fun k _ => by ring
  unfold normGrad viaMean
  refine ⟨R * (a j - x j * R * ((∑ k, a k * (x k * R)) / N)), ?_, ?_⟩
  · rw [hR, hN, ht, div_real _ _ hp.ne', ← EReal.coe_mul, ← EReal.coe_mul, ← EReal.coe_sub, ← EReal.coe_mul]
  · rw [hR, hU, hN, hs, bits_half, div_real _ _ hU0, ← EReal.coe_mul (-(1 / 2)), ← EReal.coe_mul (∑ k, x k * a k), div_real _ _ hp.ne', ← EReal.coe_mul, ← EReal.coe_mul,
      ← EReal.coe_mul, ← EReal.coe_add, ← EReal.coe_add]
    refine congrArg _ ?_
    have hd : R / U = R * R * R := by rw [div_eq_iff hU0]; linear_combination (-R) * hRU
    rw [hq, hd]
    ring

end

section
variable {nb : BitVec 32} {N : ℝ} (hN : Ideal.ofBits .f32 nb = (N : EReal)) (hp : 0 < N) {K : ℕ} {x a : Fin K → EReal} (hx : ∀ k, IsR (x k)) (ha : ∀ k, IsR (a k))
include hN hp hx ha

theorem norm_grad (j : Fin K) : a j * scale nb (∑ k, x k * x k) + x j * viaMean nb x a + viaMean nb x a * x j = normGrad nb x a j := by
  choose xr hxr using hx
  choose ar har using ha
  obtain rfl : x = fun k => (xr k : EReal) := funext hxr
  obtain rfl : a = fun k => (ar k : EReal) := funext har
  obtain ⟨G, h, h'⟩ := norm_real hN hp xr ar j
  exact h'.trans h.symm

theorem IsR.normGrad (j : Fin K) : IsR (normGrad nb x a j) := by
  choose xr hxr using hx
  choose ar har using ha
  obtain rfl : x = fun k => (xr k : EReal) := funext hxr
  obtain rfl : a = fun k => (ar k : EReal) := funext har
  obtain ⟨G, h, _⟩ := norm_real hN hp xr ar j
  exact ⟨G, h⟩

end

end Cert.Ssd
-- ==== Proof.RwRmsBwd.lean ====
/-
  The root-mean-square norm's gradient, entry by entry: the hidden row's, added to the residual's, and the gain's, accumulated over the rows.
-/
module

public import proofs.«01_k».proof.Defs
public import proofs.«01_k».proof.Proof.Mm
public import proofs.«01_k».proof.Proof.Gen.RmsBwd.Frame
public import proofs.«01_k».proof.Proof.Gen.RmsBwdIdeal.Value
public import proofs.«01_k».proof.Proof.Gen.RmsBwdReferenceIdeal.Read
public import proofs.«01_k».proof.Proof.Gen.RmsBwdReferenceIdeal.Run
public import proofs.«01_k».proof.Proof.NormGrad
public import Idealize.ShloMosaic.Lib.Pipeline.ValueKit
public import Idealize.ShloMosaic.Lib.Pipeline.ReadBack
@[expose] public section

set_option maxRecDepth 16384

noncomputable section

namespace Cert.Rw.RmsBwd

open Cert.RmsBwdIdeal Cert.RmsBwdIdeal.Gen Idealize.ShloMosaic Idealize.ShloMosaic.TcCoe Idealize.SL.Sem
open Idealize.ShloMosaic.ValueIdx hiding ix1 ix2 ix3 ix4 ix5
open Idealize.ShloMosaic.Pointwise
open Cert.Mm (ix2_of part part_one part_succ part_all)
open Cert.Ssd (scale normGrad viaMean norm_grad IsR isR_of_bit bits_1024)

/-- The reference's memory. -/
abbrev RMem := (ℓ : Loc RmsBwdReferenceIdeal.nD RmsBwdReferenceIdeal.τ RmsBwdReferenceIdeal.sig) → Buf (Elt Ideal) ℓ
/-- The kernel's memory. -/
abbrev KMem := (ℓ : Loc nD τ sig) → Buf (Elt Ideal) ℓ

/-- The gradient of the hidden rows by its entries. -/
def entry (x0 : S4096x1024.Idx → EReal) (x1 : S1024.Idx → EReal) (x2 x3 : S4096x1024.Idx → EReal) (i : Fin 4096) (j : Fin 1024) : EReal :=
  x3 (ix2 i j) + normGrad 0x44800000#32 (fun k : Fin 1024 => x0 (ix2 i k)) (fun k => x2 (ix2 i k) * x1 (ix1 k)) j

def whole (x0 : S4096x1024.Idx → EReal) (x1 : S1024.Idx → EReal) (x2 x3 : S4096x1024.Idx → EReal) (y : S4096x1024.Idx) : EReal := entry x0 x1 x2 x3 (y 0) (y 1)

/-- What one row contributes to the gain's gradient. -/
def terms (x0 x2 : S4096x1024.Idx → EReal) (j : Fin 1024) (i : Fin 4096) : EReal :=
  x2 (ix2 i j) * (x0 (ix2 i j) * scale 0x44800000#32 (∑ k : Fin 1024, x0 (ix2 i k) * x0 (ix2 i k)))

def gain (x0 x2 : S4096x1024.Idx → EReal) (y : S1x1024.Idx) : EReal := ∑ i, terms x0 x2 (y 1) i

section
open RmsBwdReferenceIdeal.Read
variable (x0 : S4096x1024.Idx → EReal) (x1 : S1024.Idx → EReal) (x2 x3 : S4096x1024.Idx → EReal)

theorem scale_at (i : Fin 4096) (j : Fin 1) : val_main_v7 (F := Ideal) x0 (ix2 i j) = scale 0x44800000#32 (∑ k : Fin 1024, x0 (ix2 i k) * x0 (ix2 i k)) := by
  pointwise [val_main_v7, val_main_v6, val_main_v5, val_main_v4, val_main_v3, val_main_v2, val_main_v1, val_main_v0, val_main_cst, val_main_cst_0, val_main_cst_1, scale]
  all_goals rfl

theorem via_at (i : Fin 4096) : val_main_v31 (F := Ideal) x0 x1 x2 (ix1 i)
    = viaMean 0x44800000#32 (fun k : Fin 1024 => x0 (ix2 i k)) (fun k => x2 (ix2 i k) * x1 (ix1 k)) := by
  pointwise [val_main_v31, val_main_v30, val_main_v29, val_main_v28, val_main_v25, val_main_v24, val_main_v23, val_main_v21, val_main_v20, val_main_v16, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, scale, viaMean]
  all_goals exact Fin.sum_univ_one _

theorem ref_at (h0 : ∀ i, IsR (x0 i)) (h1 : ∀ i, IsR (x1 i)) (h2 : ∀ i, IsR (x2 i)) (i : Fin 4096) (j : Fin 1024) :
    val_main_v37 (F := Ideal) x0 x1 x2 x3 (ix2 i j) = entry x0 x1 x2 x3 i j := by
  have e := norm_grad bits_1024 (by norm_num) (x := fun k : Fin 1024 => x0 (ix2 i k)) (a := fun k => x2 (ix2 i k) * x1 (ix1 k)) (fun k => h0 _) (fun k => (h2 _).mul (h1 _)) j
  refine Eq.trans ?_ (congrArg (x3 (ix2 i j) + ·) e)
  have ev := via_at x0 x1 x2 i
  have es := scale_at x0 i 0
  refine Eq.trans ?_ (congrArg₂ (fun s v : EReal => x3 (ix2 i j) + (x2 (ix2 i j) * x1 (ix1 j) * s + x0 (ix2 i j) * v + v * x0 (ix2 i j))) es ev)
  unfold val_main_v37 val_main_v36 val_main_v35 val_main_v34 val_main_v33 val_main_v32 val_main_v27 val_main_v26
  generalize val_main_v31 (F := Ideal) x0 x1 x2 = v
  generalize val_main_v7 (F := Ideal) x0 = s
  pointwise [val_main_v21, val_main_v20, val_main_v16, val_main_v13]
  all_goals rfl

theorem gain_at (i : Fin 1) (j : Fin 1024) : val_main_v38 (F := Ideal) x0 x2 (ix2 i j) = ∑ i, terms x0 x2 j i := by
  pointwise [val_main_v38, val_main_v22, val_main_v19, val_main_v18, val_main_v17, val_main_v16, val_main_v12, val_main_v11, val_main_v7, val_main_v6, val_main_v5, val_main_v4, val_main_v3, val_main_v2, val_main_v1, val_main_v0, val_main_cst, val_main_cst_0, val_main_cst_1, val_main_cst_3, val_main_cst_4, terms, scale]
  refine (Fin.sum_univ_one _).trans ?_
  exact Finset.sum_congr rfl fun k _ => mul_comm (_ : EReal) _

theorem ref_eq (h0 : ∀ i, IsR (x0 i)) (h1 : ∀ i, IsR (x1 i)) (h2 : ∀ i, IsR (x2 i)) :
    val_main_v37 (F := Ideal) x0 x1 x2 x3 = whole x0 x1 x2 x3 := funext fun i =>
  (congrArg (val_main_v37 (F := Ideal) x0 x1 x2 x3) (ix2_of i)).trans (ref_at x0 x1 x2 x3 h0 h1 h2 (i 0) (i 1))

theorem gain_eq : val_main_v38 (F := Ideal) x0 x2 = gain x0 x2 := funext fun i =>
  (congrArg (val_main_v38 (F := Ideal) x0 x2) (ix2_of i)).trans (gain_at x0 x2 (i 0) (i 1))

end

variable (m : KMem) (c : Dev nD) (t : Fin cfg0.N)

def row (i : Fin 512) : Fin 4096 := ⟨512 * t.val + i.val, by have : t.val < 8 := t.isLt; omega⟩

theorem index_of : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![0, 0])

def pa : FVec Ideal S512x1024 .f32 := iblk m c 0 t
def pb : FVec Ideal S1x1024 .f32 := iblk m c 1 t
def pd : FVec Ideal S512x1024 .bf16 := iblk m c 2 t
def pe : FVec Ideal S512x1024 .f32 := iblk m c 3 t

theorem pa_at (i : Fin 512) (q : Fin 1024) : pa m c t (ix2 i q) = m ((c : Thread nD τ).loc main_arg0) (ix2 (row t i) q) := by
  show iblk m c 0 t (ix2 i q) = _
  blk_ext! [iblk, V, index_of t, row]

theorem pb_at (q : Fin 1024) : pb m c t (ix2 0 q) = m ((c : Thread nD τ).loc main_arg1) (ix1 q) := by
  show iblk m c 1 t (ix2 0 q) = _
  blk_ext! [iblk, V, index_of t]

theorem pd_at (i : Fin 512) (q : Fin 1024) : pd m c t (ix2 i q) = m ((c : Thread nD τ).loc main_arg2) (ix2 (row t i) q) := by
  show iblk m c 2 t (ix2 i q) = _
  blk_ext! [iblk, V, index_of t, row]

theorem pe_at (i : Fin 512) (q : Fin 1024) : pe m c t (ix2 i q) = m ((c : Thread nD τ).loc main_arg3) (ix2 (row t i) q) := by
  show iblk m c 3 t (ix2 i q) = _
  blk_ext! [iblk, V, index_of t, row]

theorem out_pt (i : Fin 512) (j : Fin 1024) : (outsAt0 m c t.val t.isLt).1 (ix2 i j) =
    pe m c t (ix2 i j) + normGrad 0x44800000#32 (fun k : Fin 1024 => pa m c t (ix2 i k)) (fun k => pd m c t (ix2 i k) * pb m c t (ix2 0 k)) j := by
  by_cases h : t.val % 8 = 0
  · rw [Gen.outsAt0_A m c t h]
    dsimp only
    frame_out
    pointwise [k0_pay1, k0_pay3, k0_pay4, k0_pay5, k0_pay7, k0_pay8, scale, normGrad]
    all_goals rfl
  · rw [Gen.outsAt0_B m c t h]
    dsimp only
    frame_out
    pointwise [k0_pay1, k0_pay3, k0_pay4, k0_pay5, k0_pay7, k0_pay8, scale, normGrad]
    all_goals rfl

theorem out_at (i : Fin 512) (j : Fin 1024) : (outsAt0 m c t.val t.isLt).1 (ix2 i j) = entry (m ((c : Thread nD τ).loc main_arg0)) (m ((c : Thread nD τ).loc main_arg1)) (m ((c : Thread nD τ).loc main_arg2)) (m ((c : Thread nD τ).loc main_arg3)) (row t i) j := by
  rw [out_pt]
  unfold entry
  rw [funext fun k : Fin 1024 => pa_at m c t i k,
    funext fun k : Fin 1024 => congrArg₂ (fun a b : EReal => a * b) (pd_at m c t i k) (pb_at m c t k)]
  exact congrArg (fun a : EReal => a + _) (pe_at m c t i j)

theorem block_at (y : S512x1024.Idx) :
    (outsAt0 m c t.val t.isLt).1 y = whole (m ((c : Thread nD τ).loc main_arg0)) (m ((c : Thread nD τ).loc main_arg1)) (m ((c : Thread nD τ).loc main_arg2)) (m ((c : Thread nD τ).loc main_arg3)) (((cfg0.win 4).blk t).view.emb y) := by
  have e0 : ((((cfg0.win 4).blk t).view.emb y) 0 : ℕ) = 512 * t.val + (y 0).val := by
    blk_simp [index_of t]
    omega
  have e1 : ((((cfg0.win 4).blk t).view.emb y) 1 : ℕ) = (y 1).val := by
    blk_simp [index_of t]
  refine (congrArg (outsAt0 m c t.val t.isLt).1 (ix2_of y)).trans ((out_at m c t (y 0) (y 1)).trans ?_)
  exact congrArg₂ (entry (m ((c : Thread nD τ).loc main_arg0)) (m ((c : Thread nD τ).loc main_arg1)) (m ((c : Thread nD τ).loc main_arg2)) (m ((c : Thread nD τ).loc main_arg3))) (Fin.ext e0.symm) (Fin.ext e1.symm)

theorem arr : (dats m 0 c).arrAt 4 cfg0.N = whole (m ((c : Thread nD τ).loc main_arg0)) (m ((c : Thread nD τ).loc main_arg1)) (m ((c : Thread nD τ).loc main_arg2)) (m ((c : Thread nD τ).loc main_arg3)) :=
  (dats m 0 c).arrAt_eq_of_covers 4 _ (by decide +kernel) fun t hf y => (congrFun (after0_4 m c t) y).trans (block_at m c t y)

/-- The rows of a point. -/
def here (j : Fin 1024) (i : Fin 512) : EReal :=
  pd m c t (ix2 i j) * (pa m c t (ix2 i j) * scale 0x44800000#32 (∑ k : Fin 1024, pa m c t (ix2 i k) * pa m c t (ix2 i k)))

theorem here_at (j : Fin 1024) (n : ℕ) (h : t.val = n) :
    ∑ i : Fin 512, here m c t j i = ∑ i : Fin 512, terms (m ((c : Thread nD τ).loc main_arg0)) (m ((c : Thread nD τ).loc main_arg2)) j ⟨512 * n + i.val, by have : t.val < 8 := t.isLt; omega⟩ := by
  subst h
  refine Finset.sum_congr rfl fun i _ => ?_
  unfold here
  rw [Finset.sum_congr rfl fun k _ => congrArg₂ (fun a b : EReal => a * b) (pa_at m c t i k) (pa_at m c t i k)]
  exact congrArg₂ (fun a b : EReal => a * (b * _)) (pd_at m c t i j) (pa_at m c t i j)

theorem acc_A (h : t.val % 8 = 0) (i : Fin 1) (j : Fin 1024) :
    (outsAt0 m c t.val t.isLt).2 (ix2 i j) = ∑ i : Fin 512, here m c t j i := by
  rw [Gen.outsAt0_A m c t h]
  dsimp only
  frame_out
  pointwise [k0_pay2, k0_pay3, k0_pay4, k0_pay5, k0_pay6, scale, here]
  all_goals rfl

theorem acc_B (h : ¬ t.val % 8 = 0) (i : Fin 1) (j : Fin 1024) :
    (outsAt0 m c t.val t.isLt).2 (ix2 i j)
      = (outsAt0 m c (t.val - 1) (Nat.lt_of_le_of_lt (Nat.sub_le _ _) t.isLt)).2 (ix2 0 j) + ∑ i : Fin 512, here m c t j i := by
  obtain rfl : i = 0 := Subsingleton.elim _ _
  rw [Gen.outsAt0_B m c t h]
  dsimp only
  frame_out
  pointwise [k0_pay3, k0_pay4, k0_pay5, k0_pay6, scale, here]
  rfl

theorem acc_at : ∀ (n : ℕ) (hn : n < cfg0.N) (i : Fin 1) (j : Fin 1024),
    (outsAt0 m c n hn).2 (ix2 i j) = part 512 (terms (m ((c : Thread nD τ).loc main_arg0)) (m ((c : Thread nD τ).loc main_arg2)) j) (n + 1)
  | n, hn, i, j => by
    have h8 : n < 8 := hn
    by_cases h0 : n = 0
    · subst h0
      rw [acc_A m c ⟨0, hn⟩ rfl i j, here_at m c ⟨0, hn⟩ j 0 rfl, part_one _ _ (by omega)]
    · have hp : n - 1 < cfg0.N := Nat.lt_of_le_of_lt (Nat.sub_le _ _) hn
      have ih := acc_at (n - 1) hp 0 j
      rw [Nat.sub_add_cancel (by omega)] at ih
      rw [acc_B m c ⟨n, hn⟩ (by show ¬ n % 8 = 0; omega) i j, here_at m c ⟨n, hn⟩ j n rfl, part_succ _ _ _ (by omega)]
      exact congrArg (· + _) ih

theorem flush_of : ∀ t : Fin cfg0.N, (cfg0.win 5).flush t = true → t.val = 7 :=
  (by decide +kernel : ∀ t : Fin grid0.N, win0_5.flush t = true → t.val = 7)

theorem gain_block (hf : (cfg0.win 5).flush t = true) (y : S1x1024.Idx) :
    (outsAt0 m c t.val t.isLt).2 y = gain (m ((c : Thread nD τ).loc main_arg0)) (m ((c : Thread nD τ).loc main_arg2)) (((cfg0.win 5).blk t).view.emb y) := by
  have e1 : ((((cfg0.win 5).blk t).view.emb y) 1 : ℕ) = (y 1).val := by
    blk_simp [index_of t]
  refine (congrArg (outsAt0 m c t.val t.isLt).2 (ix2_of y)).trans ((acc_at m c t.val t.isLt (y 0) (y 1)).trans ?_)
  rw [flush_of t hf]
  refine (part_all 512 _ 8 rfl).trans ?_
  exact congrArg (fun j : Fin 1024 => ∑ i, terms (m ((c : Thread nD τ).loc main_arg0)) (m ((c : Thread nD τ).loc main_arg2)) j i) (Fin.ext e1.symm)

theorem gain_arr : (dats m 0 c).arrAt 5 cfg0.N = gain (m ((c : Thread nD τ).loc main_arg0)) (m ((c : Thread nD τ).loc main_arg2)) :=
  (dats m 0 c).arrAt_eq_of_covers 5 _ (by decide +kernel) fun t hf y => (congrFun (after0_5 m c t) y).trans (gain_block m c t hf y)

theorem ref_frame (m' : RMem) (g' : Dev RmsBwdReferenceIdeal.nD → PrngReg) :
    θ_run (RmsBwdReferenceIdeal.defs (F := Ideal)) (onTc (τ := RmsBwdReferenceIdeal.τ) (RmsBwdReferenceIdeal.main (F := Ideal))) ⟨m', fun _ => 0, g'⟩ fun r => (∀ c : Dev RmsBwdReferenceIdeal.nD,
      r.2.mem ((c : Thread RmsBwdReferenceIdeal.nD RmsBwdReferenceIdeal.τ).loc RmsBwdReferenceIdeal.main_arg0) = m' ((c : Thread RmsBwdReferenceIdeal.nD RmsBwdReferenceIdeal.τ).loc RmsBwdReferenceIdeal.main_arg0)
      ∧ r.2.mem ((c : Thread RmsBwdReferenceIdeal.nD RmsBwdReferenceIdeal.τ).loc RmsBwdReferenceIdeal.main_arg1) = m' ((c : Thread RmsBwdReferenceIdeal.nD RmsBwdReferenceIdeal.τ).loc RmsBwdReferenceIdeal.main_arg1)
      ∧ r.2.mem ((c : Thread RmsBwdReferenceIdeal.nD RmsBwdReferenceIdeal.τ).loc RmsBwdReferenceIdeal.main_arg2) = m' ((c : Thread RmsBwdReferenceIdeal.nD RmsBwdReferenceIdeal.τ).loc RmsBwdReferenceIdeal.main_arg2)
      ∧ r.2.mem ((c : Thread RmsBwdReferenceIdeal.nD RmsBwdReferenceIdeal.τ).loc RmsBwdReferenceIdeal.main_arg3) = m' ((c : Thread RmsBwdReferenceIdeal.nD RmsBwdReferenceIdeal.τ).loc RmsBwdReferenceIdeal.main_arg3))
      ∧ r.2.sem = fun _ => 0 :=
  (θ_run _ _ _).mono (fun r h => ⟨fun c => (h c).2.2, sem_eq_zero_of_no_sems (by decide) r.2⟩) (RmsBwdReferenceIdeal.Value.run m' g')

instance preFacts : Cert.Pre_rms_finite.Facts where
  bcast_S_S4096x1024 := by decide
  bcast_S_S1024 := by decide
  bitsLt_bf16_f32 := by decide

variable (hp : Cert.Pre_RmsBwdIdeal_rms_finite (hPre_rms_finite := preFacts) m)
include hp

theorem fin0 (y : S4096x1024.Idx) : IsR (m ((c : Thread nD τ).loc main_arg0) y) := isR_of_bit (congrFun (hp c).1 y)
theorem fin1 (y : S1024.Idx) : IsR (m ((c : Thread nD τ).loc main_arg1) y) := isR_of_bit (congrFun (hp c).2.1 y)
theorem fin2 (y : S4096x1024.Idx) : IsR (m ((c : Thread nD τ).loc main_arg2) y) := isR_of_bit (congrFun (hp c).2.2 y)

omit hp in
theorem agrees : algebraic_RmsBwdIdeal_RmsBwdReferenceIdeal_pre_rms_finite (hRmsBwdIdeal := Gen.facts) (hRmsBwdReferenceIdeal := RmsBwdReferenceIdeal.Gen.facts)
    (hPre_rms_finite := preFacts) := by
  intro m r m' r' hp hm
  refine ⟨fun c => whole (m ((c : Thread nD τ).loc main_arg0)) (m ((c : Thread nD τ).loc main_arg1)) (m ((c : Thread nD τ).loc main_arg2)) (m ((c : Thread nD τ).loc main_arg3)), fun c => gain (m ((c : Thread nD τ).loc main_arg0)) (m ((c : Thread nD τ).loc main_arg2)),
    (θ_run _ _ _).mono (fun _ h c => ⟨(h c).1.trans (arr m c), (h c).2.1.trans (gain_arr m c), (h c).2.2⟩) (Value.run_blocks m r),
    (θ_run _ _ _).mono (fun _ h c => ⟨(h c).1.trans ((RmsBwdReferenceIdeal.Read.val_main_v37_eq (F := Ideal) _ _ _ _).trans ?_),
      (h c).2.1.trans ((RmsBwdReferenceIdeal.Read.val_main_v38_eq (F := Ideal) _ _).trans ?_), (h c).2.2⟩) (RmsBwdReferenceIdeal.Value.run m' r')⟩
  · obtain ⟨e0, e1, e2, e3⟩ := hm c
    rw [e0, e1, e2, e3]
    exact ref_eq _ _ _ _ (fin0 m c hp) (fin1 m c hp) (fin2 m c hp)
  · obtain ⟨e0, _, e2, _⟩ := hm c
    rw [e0, e2]
    exact gain_eq _ _

end Cert.Rw.RmsBwd
-- ==== Proof.RwGateNormBwd.lean ====
/-
  The gated norm's gradient, entry by entry: of the normalised numbers, of the gate, and of the gain, accumulated over the rows.
-/
module

public import proofs.«01_k».proof.Defs
public import proofs.«01_k».proof.Proof.Mm
public import proofs.«01_k».proof.Proof.Gen.GateNormBwd.Frame
public import proofs.«01_k».proof.Proof.Gen.GateNormBwdIdeal.Value
public import proofs.«01_k».proof.Proof.Gen.GateNormBwdReferenceIdeal.Read
public import proofs.«01_k».proof.Proof.Gen.GateNormBwdReferenceIdeal.Run
public import proofs.«01_k».proof.Proof.NormGrad
public import Idealize.ShloMosaic.Lib.Pipeline.ValueKit
public import Idealize.ShloMosaic.Lib.Pipeline.ReadBack
@[expose] public section

set_option maxRecDepth 16384

noncomputable section

namespace Cert.Rw.GateNormBwd

open Cert.GateNormBwdIdeal Cert.GateNormBwdIdeal.Gen Idealize.ShloMosaic Idealize.ShloMosaic.TcCoe Idealize.SL.Sem
open Idealize.ShloMosaic.ValueIdx hiding ix1 ix2 ix3 ix4 ix5
open Idealize.ShloMosaic.Pointwise
open Cert.Mm (ix2_of part part_one part_succ part_all)
open Cert.Ssd (scale silu siluGrad mul_siluGrad ncol ncol_of gated normGrad viaMean norm_grad IsR isR_of_bit bits_512)

/-- The reference's memory. -/
abbrev RMem := (ℓ : Loc GateNormBwdReferenceIdeal.nD GateNormBwdReferenceIdeal.τ GateNormBwdReferenceIdeal.sig) → Buf (Elt Ideal) ℓ
/-- The kernel's memory. -/
abbrev KMem := (ℓ : Loc nD τ sig) → Buf (Elt Ideal) ℓ

/-- The gradient of the gated numbers of a group of a row. -/
def gv (y z d w : Fin 512 → EReal) (q : Fin 512) : EReal := normGrad 0x44000000#32 (fun k => gated (y k) (z k)) (fun k => d k * w k) q
/-- The gradients of the numbers, and of the gate. -/
def gy (y z d w : Fin 512 → EReal) (q : Fin 512) : EReal := gv y z d w q * silu (z q)
def gz (y z d w : Fin 512 → EReal) (q : Fin 512) : EReal := gv y z d w q * y q * siluGrad (z q)
/-- What one row contributes to the gain's gradient. -/
def gw (y z : Fin 512 → EReal) (d : EReal) (q : Fin 512) : EReal :=
  d * (gated (y q) (z q) * scale 0x44000000#32 (∑ k : Fin 512, gated (y k) (z k) * gated (y k) (z k)))

/-- The group of a column, and its place there. -/
def grp (j : Fin 2048) : Fin 4 := ⟨j.val / 512, by omega⟩
def lane (j : Fin 2048) : Fin 512 := ⟨j.val % 512, by omega⟩

def entryY (x0 x1 : S4096x2048.Idx → EReal) (x2 : S2048.Idx → EReal) (x3 : S4096x2048.Idx → EReal) (i : Fin 4096) (j : Fin 2048) : EReal :=
  gy (fun k => x0 (ix2 i (ncol (grp j) k))) (fun k => x1 (ix2 i (ncol (grp j) k))) (fun k => x3 (ix2 i (ncol (grp j) k))) (fun k => x2 (ix1 (ncol (grp j) k))) (lane j)
def entryZ (x0 x1 : S4096x2048.Idx → EReal) (x2 : S2048.Idx → EReal) (x3 : S4096x2048.Idx → EReal) (i : Fin 4096) (j : Fin 2048) : EReal :=
  gz (fun k => x0 (ix2 i (ncol (grp j) k))) (fun k => x1 (ix2 i (ncol (grp j) k))) (fun k => x3 (ix2 i (ncol (grp j) k))) (fun k => x2 (ix1 (ncol (grp j) k))) (lane j)
def wholeY (x0 x1 : S4096x2048.Idx → EReal) (x2 : S2048.Idx → EReal) (x3 : S4096x2048.Idx → EReal) (y : S4096x2048.Idx) : EReal := entryY x0 x1 x2 x3 (y 0) (y 1)
def wholeZ (x0 x1 : S4096x2048.Idx → EReal) (x2 : S2048.Idx → EReal) (x3 : S4096x2048.Idx → EReal) (y : S4096x2048.Idx) : EReal := entryZ x0 x1 x2 x3 (y 0) (y 1)
def terms (x0 x1 x3 : S4096x2048.Idx → EReal) (j : Fin 2048) (i : Fin 4096) : EReal :=
  gw (fun k => x0 (ix2 i (ncol (grp j) k))) (fun k => x1 (ix2 i (ncol (grp j) k))) (x3 (ix2 i j)) (lane j)
def gain (x0 x1 x3 : S4096x2048.Idx → EReal) (y : S1x2048.Idx) : EReal := ∑ i, terms x0 x1 x3 (y 1) i

section
open GateNormBwdReferenceIdeal.Read
variable (x0 x1 : S4096x2048.Idx → EReal) (x2 : S2048.Idx → EReal) (x3 : S4096x2048.Idx → EReal)

theorem v2_at (i : Fin 4096) (j : Fin 2048) : val_main_v2 (F := Ideal) x0 x1 (ix2 i j) = gated (x0 (ix2 i j)) (x1 (ix2 i j)) := by
  pointwise [val_main_v2, val_main_v1_0, val_main_v1_2, val_main_v0, val_main_call0_v4, val_main_call0_cst_0, val_main_call0_v3, val_main_call0_v2, val_main_call0_cst, val_main_call0_v1, val_main_call0_v0, gated, silu]
  all_goals rfl

theorem v3_at (i : Fin 4096) (g : Fin 4) (q : Fin 512) :
    val_main_v3 (F := Ideal) x0 x1 (ix3 i g q) = gated (x0 (ix2 i (ncol g q))) (x1 (ix2 i (ncol g q))) := by
  refine Eq.trans ?_ (v2_at x0 x1 i (ncol g q))
  unfold val_main_v3
  generalize val_main_v2 (F := Ideal) x0 x1 = a
  pointwise [ncol]

theorem v28_at (i : Fin 4096) (g : Fin 4) (q : Fin 512) :
    val_main_v28 (F := Ideal) x2 x3 (ix3 i g q) = x3 (ix2 i (ncol g q)) * x2 (ix1 (ncol g q)) := by
  pointwise [val_main_v28, val_main_v27, val_main_v23, val_main_v22, val_main_v18, val_main_v4, ncol]
  all_goals rfl

theorem v12_at (i : Fin 4096) (g : Fin 4) (j : Fin 1) : val_main_v12 (F := Ideal) x0 x1 (ix3 i g j)
    = scale 0x44000000#32 (∑ k : Fin 512, val_main_v3 (F := Ideal) x0 x1 (ix3 i g k) * val_main_v3 (F := Ideal) x0 x1 (ix3 i g k)) := by
  unfold val_main_v12 val_main_v11 val_main_v10 val_main_v9 val_main_v8 val_main_v7 val_main_v6 val_main_v5 val_main_cst val_main_cst_0 val_main_cst_1
  generalize val_main_v3 (F := Ideal) x0 x1 = a
  pointwise [scale]
  all_goals rfl

theorem v38_at (i : Fin 4096) (g : Fin 4) : val_main_v38 (F := Ideal) x0 x1 x2 x3 (ix2 i g)
    = viaMean 0x44000000#32 (fun k : Fin 512 => val_main_v3 (F := Ideal) x0 x1 (ix3 i g k)) (fun k => val_main_v28 (F := Ideal) x2 x3 (ix3 i g k)) := by
  unfold val_main_v38 val_main_v37 val_main_v36 val_main_v35 val_main_v32 val_main_v31 val_main_v30 val_main_v15 val_main_v14 val_main_v13 val_main_v12 val_main_v11 val_main_v10 val_main_v9 val_main_v8 val_main_v7 val_main_v6 val_main_v5 val_main_cst val_main_cst_0 val_main_cst_1 val_main_cst_2 val_main_cst_5 val_main_cst_6 val_main_cst_7
  generalize val_main_v3 (F := Ideal) x0 x1 = a
  generalize val_main_v28 (F := Ideal) x2 x3 = b
  pointwise [scale, viaMean]
  all_goals exact Fin.sum_univ_one _

theorem v43_at (h0 : ∀ i, IsR (x0 i)) (h1 : ∀ i, IsR (x1 i)) (h2 : ∀ i, IsR (x2 i)) (h3 : ∀ i, IsR (x3 i)) (i : Fin 4096) (g : Fin 4) (q : Fin 512) :
    val_main_v43 (F := Ideal) x0 x1 x2 x3 (ix3 i g q)
      = gv (fun k => x0 (ix2 i (ncol g k))) (fun k => x1 (ix2 i (ncol g k))) (fun k => x3 (ix2 i (ncol g k))) (fun k => x2 (ix1 (ncol g k))) q := by
  have e := norm_grad bits_512 (by norm_num) (x := fun k : Fin 512 => gated (x0 (ix2 i (ncol g k))) (x1 (ix2 i (ncol g k))))
    (a := fun k => x3 (ix2 i (ncol g k)) * x2 (ix1 (ncol g k))) (fun k => (h0 _).mul (h1 _).silu) (fun k => (h3 _).mul (h2 _)) q
  refine Eq.trans ?_ e
  have ev := v38_at x0 x1 x2 x3 i g
  have es := v12_at x0 x1 i g 0
  have e3 := v3_at x0 x1 i g
  have e28 := v28_at x2 x3 i g
  simp only [e3, e28] at ev es
  refine Eq.trans ?_ (congrArg₂ (fun s v : EReal => x3 (ix2 i (ncol g q)) * x2 (ix1 (ncol g q)) * s + gated (x0 (ix2 i (ncol g q))) (x1 (ix2 i (ncol g q))) * v
    + v * gated (x0 (ix2 i (ncol g q))) (x1 (ix2 i (ncol g q)))) es ev)
  rw [← e3 q, ← e28 q]
  unfold val_main_v43 val_main_v42 val_main_v41 val_main_v40 val_main_v39 val_main_v34 val_main_v33
  generalize val_main_v38 (F := Ideal) x0 x1 x2 x3 = v
  generalize val_main_v12 (F := Ideal) x0 x1 = s
  generalize val_main_v3 (F := Ideal) x0 x1 = a
  generalize val_main_v28 (F := Ideal) x2 x3 = b
  pointwise []

theorem at_grp (j : Fin 2048) : ncol (grp j) (lane j) = j := Fin.ext (by show j.val / 512 * 512 + j.val % 512 = j.val; omega)

theorem v45_at (h0 : ∀ i, IsR (x0 i)) (h1 : ∀ i, IsR (x1 i)) (h2 : ∀ i, IsR (x2 i)) (h3 : ∀ i, IsR (x3 i)) (i : Fin 4096) (j : Fin 2048) :
    val_main_v45 (F := Ideal) x0 x1 x2 x3 (ix2 i j)
      = gv (fun k => x0 (ix2 i (ncol (grp j) k))) (fun k => x1 (ix2 i (ncol (grp j) k))) (fun k => x3 (ix2 i (ncol (grp j) k))) (fun k => x2 (ix1 (ncol (grp j) k))) (lane j) := by
  refine Eq.trans ?_ (v43_at x0 x1 x2 x3 h0 h1 h2 h3 i (grp j) (lane j))
  unfold val_main_v45
  generalize val_main_v43 (F := Ideal) x0 x1 x2 x3 = a
  pointwise [grp, lane]

theorem v47_at (h0 : ∀ i, IsR (x0 i)) (h1 : ∀ i, IsR (x1 i)) (h2 : ∀ i, IsR (x2 i)) (h3 : ∀ i, IsR (x3 i)) (i : Fin 4096) (j : Fin 2048) :
    val_main_v47 (F := Ideal) x0 x1 x2 x3 (ix2 i j) = entryY x0 x1 x2 x3 i j := by
  unfold entryY gy
  beta_reduce
  rw [at_grp j]
  refine Eq.trans ?_ (congrArg (fun v : EReal => v * silu (x1 (ix2 i j))) (v45_at x0 x1 x2 x3 h0 h1 h2 h3 i j))
  unfold val_main_v47
  generalize val_main_v45 (F := Ideal) x0 x1 x2 x3 = a
  pointwise [val_main_v1_0, val_main_v1_2, val_main_v0, val_main_call0_v4, val_main_call0_cst_0, val_main_call0_v3, val_main_call0_v2, val_main_call0_cst, val_main_call0_v1, val_main_call0_v0, silu]
  all_goals rfl

theorem v49_at (h0 : ∀ i, IsR (x0 i)) (h1 : ∀ i, IsR (x1 i)) (h2 : ∀ i, IsR (x2 i)) (h3 : ∀ i, IsR (x3 i)) (i : Fin 4096) (j : Fin 2048) :
    val_main_v49 (F := Ideal) x0 x1 x2 x3 (ix2 i j) = entryZ x0 x1 x2 x3 i j := by
  have e := v45_at x0 x1 x2 x3 h0 h1 h2 h3 i j
  have hv : IsR (val_main_v45 (F := Ideal) x0 x1 x2 x3 (ix2 i j)) := by
    rw [e]
    exact IsR.normGrad bits_512 (by norm_num) (fun k => (h0 _).mul (h1 _).silu) (fun k => (h3 _).mul (h2 _)) _
  unfold entryZ gz
  beta_reduce
  rw [at_grp j, ← e, mul_comm (val_main_v45 (F := Ideal) x0 x1 x2 x3 (ix2 i j) : EReal) (x0 (ix2 i j)), mul_siluGrad ((h0 (ix2 i j)).mul hv) (h1 (ix2 i j))]
  unfold val_main_v49 val_main_v48 val_main_call1_v2 val_main_call1_v1 val_main_call1_v0 val_main_v46
  generalize val_main_v45 (F := Ideal) x0 x1 x2 x3 = a
  pointwise [val_main_v1_1, val_main_v1_2, val_main_v0, val_main_call0_v7, val_main_call0_v6, val_main_call0_cst_1, val_main_call0_v4, val_main_call0_cst_0, val_main_call0_v3, val_main_call0_v2, val_main_call0_cst, val_main_call0_v1, val_main_call0_v0]
  all_goals rfl

theorem v25_at (g : Fin 4) (q : Fin 512) : val_main_v25 (F := Ideal) x0 x1 x3 (ix2 g q)
    = ∑ i : Fin 4096, gw (fun k => x0 (ix2 i (ncol g k))) (fun k => x1 (ix2 i (ncol g k))) (x3 (ix2 i (ncol g q))) q := by
  have es : ∀ i : Fin 4096, gw (fun k => x0 (ix2 i (ncol g k))) (fun k => x1 (ix2 i (ncol g k))) (x3 (ix2 i (ncol g q))) q
      = x3 (ix2 i (ncol g q)) * (val_main_v3 (F := Ideal) x0 x1 (ix3 i g q) * val_main_v12 (F := Ideal) x0 x1 (ix3 i g 0)) := fun i => by
    have e3 := v3_at x0 x1 i g
    have e := v12_at x0 x1 i g 0
    simp only [e3] at e
    rw [e3 q, e]
    rfl
  refine Eq.trans ?_ (Finset.sum_congr rfl fun i _ => ((es i).trans (mul_comm (_ : EReal) _)).symm)
  unfold val_main_v25 val_main_v24 val_main_v17 val_main_v16
  generalize val_main_v12 (F := Ideal) x0 x1 = s
  generalize val_main_v3 (F := Ideal) x0 x1 = a
  pointwise [val_main_cst_3, val_main_v23, val_main_v22, ncol]
  all_goals rfl

theorem v50_at (i : Fin 1) (j : Fin 2048) : val_main_v50 (F := Ideal) x0 x1 x3 (ix2 i j) = ∑ i, terms x0 x1 x3 j i := by
  unfold terms
  refine Eq.trans ?_ ((v25_at x0 x1 x3 (grp j) (lane j)).trans (Finset.sum_congr rfl fun i _ => congrArg (fun k : Fin 2048 => gw _ _ (x3 (ix2 i k)) _) (at_grp j)))
  unfold val_main_v50 val_main_v44 val_main_v29 val_main_v26 val_main_cst_4
  generalize val_main_v25 (F := Ideal) x0 x1 x3 = a
  pointwise [grp, lane]
  all_goals exact Fin.sum_univ_one _

theorem dy_eq (h0 : ∀ i, IsR (x0 i)) (h1 : ∀ i, IsR (x1 i)) (h2 : ∀ i, IsR (x2 i)) (h3 : ∀ i, IsR (x3 i)) :
    val_main_v47 (F := Ideal) x0 x1 x2 x3 = wholeY x0 x1 x2 x3 := funext fun i =>
  (congrArg (val_main_v47 (F := Ideal) x0 x1 x2 x3) (ix2_of i)).trans (v47_at x0 x1 x2 x3 h0 h1 h2 h3 (i 0) (i 1))

theorem dz_eq (h0 : ∀ i, IsR (x0 i)) (h1 : ∀ i, IsR (x1 i)) (h2 : ∀ i, IsR (x2 i)) (h3 : ∀ i, IsR (x3 i)) :
    val_main_v49 (F := Ideal) x0 x1 x2 x3 = wholeZ x0 x1 x2 x3 := funext fun i =>
  (congrArg (val_main_v49 (F := Ideal) x0 x1 x2 x3) (ix2_of i)).trans (v49_at x0 x1 x2 x3 h0 h1 h2 h3 (i 0) (i 1))

theorem dw_eq : val_main_v50 (F := Ideal) x0 x1 x3 = gain x0 x1 x3 := funext fun i =>
  (congrArg (val_main_v50 (F := Ideal) x0 x1 x3) (ix2_of i)).trans (v50_at x0 x1 x3 (i 0) (i 1))

end

variable (m : KMem) (c : Dev nD) (t : Fin cfg0.N)

def row (i : Fin 256) : Fin 4096 := ⟨256 * t.val + i.val, by have : t.val < 16 := t.isLt; omega⟩

theorem index_of : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0])

def pa : FVec Ideal S256x2048 .f32 := iblk m c 0 t
def pb : FVec Ideal S256x2048 .bf16 := iblk m c 1 t
def pc : FVec Ideal S1x2048 .f32 := iblk m c 2 t
def pd : FVec Ideal S256x2048 .bf16 := iblk m c 3 t

theorem pa_at (i : Fin 256) (q : Fin 2048) : pa m c t (ix2 i q) = (m ((c : Thread nD τ).loc main_arg0)) (ix2 (row t i) q) := by
  show iblk m c 0 t (ix2 i q) = _
  blk_ext! [iblk, V, index_of t, row]

theorem pb_at (i : Fin 256) (q : Fin 2048) : pb m c t (ix2 i q) = (m ((c : Thread nD τ).loc main_arg1)) (ix2 (row t i) q) := by
  show iblk m c 1 t (ix2 i q) = _
  blk_ext! [iblk, V, index_of t, row]

theorem pc_at (q : Fin 2048) : pc m c t (ix2 0 q) = (m ((c : Thread nD τ).loc main_arg2)) (ix1 q) := by
  show iblk m c 2 t (ix2 0 q) = _
  blk_ext! [iblk, V, index_of t]

theorem pd_at (i : Fin 256) (q : Fin 2048) : pd m c t (ix2 i q) = (m ((c : Thread nD τ).loc main_arg3)) (ix2 (row t i) q) := by
  show iblk m c 3 t (ix2 i q) = _
  blk_ext! [iblk, V, index_of t, row]

section
variable (y : FVec Ideal S256x512 .f32) (z d : FVec Ideal S256x512 .bf16) (w acc : FVec Ideal S1x512 .f32) (i : Fin 256) (q : Fin 512)

def tY : EReal := gy (fun k => y (ix2 i k)) (fun k => z (ix2 i k)) (fun k => d (ix2 i k)) (fun k => w (ix2 0 k)) q
def tZ : EReal := gz (fun k => y (ix2 i k)) (fun k => z (ix2 i k)) (fun k => d (ix2 i k)) (fun k => w (ix2 0 k)) q
def tW : EReal := ∑ i : Fin 256, gw (fun k => y (ix2 i k)) (fun k => z (ix2 i k)) (d (ix2 i q)) q

theorem pY0 : k0_pay15 (F := Ideal) (k0_pay6 z) (k0_pay8 y z) (k0_pay9 y z) (k0_pay12 d w) (k0_pay13 y z d w) (ix2 i q) = tY y z d w i q := by
  pointwise [k0_pay5, k0_pay6, k0_pay7, k0_pay8, k0_pay9, k0_pay10, k0_pay11, k0_pay12, k0_pay13, k0_pay14, k0_pay15, k0_pay16, tY, gy, gv, normGrad, gated, scale, silu]
  all_goals rfl
theorem pZ0 : k0_pay16 (F := Ideal) y (k0_pay5 z) (k0_pay8 y z) (k0_pay9 y z) (k0_pay12 d w) (k0_pay13 y z d w) (ix2 i q) = tZ y z d w i q := by
  pointwise [k0_pay5, k0_pay6, k0_pay7, k0_pay8, k0_pay9, k0_pay10, k0_pay11, k0_pay12, k0_pay13, k0_pay14, k0_pay15, k0_pay16, tZ, gz, gv, normGrad, gated, scale, silu, siluGrad]
  all_goals rfl
theorem pW0 : k0_pay11 (F := Ideal) y z d acc (ix2 0 q) = acc (ix2 0 q) + tW y z d q := by
  pointwise [k0_pay5, k0_pay6, k0_pay7, k0_pay8, k0_pay9, k0_pay10, k0_pay11, k0_pay12, k0_pay13, k0_pay14, k0_pay15, k0_pay16, tW, gw, gated, scale, silu]
  all_goals rfl
theorem pY1 : k0_pay27 (F := Ideal) (k0_pay18 z) (k0_pay20 y z) (k0_pay21 y z) (k0_pay22 d) w (ix2 i q) = tY y z d w i q := by
  pointwise [k0_pay17, k0_pay18, k0_pay19, k0_pay20, k0_pay21, k0_pay22, k0_pay23, k0_pay24, k0_pay25, k0_pay26, k0_pay27, k0_pay28, tY, gy, gv, normGrad, gated, scale, silu]
  all_goals rfl
theorem pZ1 : k0_pay28 (F := Ideal) y (k0_pay17 z) (k0_pay20 y z) (k0_pay21 y z) (k0_pay22 d) w (ix2 i q) = tZ y z d w i q := by
  pointwise [k0_pay17, k0_pay18, k0_pay19, k0_pay20, k0_pay21, k0_pay22, k0_pay23, k0_pay24, k0_pay25, k0_pay26, k0_pay27, k0_pay28, tZ, gz, gv, normGrad, gated, scale, silu, siluGrad]
  all_goals rfl
theorem pW1 : k0_pay25 (F := Ideal) (k0_pay23 acc) (k0_pay24 y z d) (ix2 0 q) = acc (ix2 0 q) + tW y z d q := by
  pointwise [k0_pay17, k0_pay18, k0_pay19, k0_pay20, k0_pay21, k0_pay22, k0_pay23, k0_pay24, k0_pay25, k0_pay26, k0_pay27, k0_pay28, tW, gw, gated, scale, silu]
  all_goals rfl
theorem pY2 : k0_pay38 (F := Ideal) (k0_pay30 z) (k0_pay31 y z) (k0_pay32 y z) (Scalar.ofBits (F := Ideal) .f32 0x44000000#32) d w (ix2 i q) = tY y z d w i q := by
  pointwise [k0_pay29, k0_pay30, k0_pay31, k0_pay32, k0_pay33, k0_pay34, k0_pay35, k0_pay36, k0_pay37, k0_pay38, k0_pay39, tY, gy, gv, normGrad, gated, scale, silu]
  all_goals rfl
theorem pZ2 : k0_pay39 (F := Ideal) y (k0_pay29 z) (k0_pay31 y z) (k0_pay32 y z) (Scalar.ofBits (F := Ideal) .f32 0x44000000#32) d w (ix2 i q) = tZ y z d w i q := by
  pointwise [k0_pay29, k0_pay30, k0_pay31, k0_pay32, k0_pay33, k0_pay34, k0_pay35, k0_pay36, k0_pay37, k0_pay38, k0_pay39, tZ, gz, gv, normGrad, gated, scale, silu, siluGrad]
  all_goals rfl
theorem pW2 : k0_pay36 (F := Ideal) (k0_pay31 y z) (k0_pay32 y z) (Scalar.ofBits (F := Ideal) .f32 0x44000000#32) d acc (ix2 0 q) = acc (ix2 0 q) + tW y z d q := by
  pointwise [k0_pay29, k0_pay30, k0_pay31, k0_pay32, k0_pay33, k0_pay34, k0_pay35, k0_pay36, k0_pay37, k0_pay38, k0_pay39, tW, gw, gated, scale, silu]
  all_goals rfl
theorem pY3 : k0_pay2 (F := Ideal) (k0_pay41 z) (k0_pay43 y z) (k0_pay47 y z d w) (ix2 i q) = tY y z d w i q := by
  pointwise [k0_pay1, k0_pay2, k0_pay3, k0_pay40, k0_pay41, k0_pay42, k0_pay43, k0_pay44, k0_pay45, k0_pay46, k0_pay47, tY, gy, gv, normGrad, gated, scale, silu]
  all_goals rfl
theorem pZ3 : k0_pay3 (F := Ideal) y (k0_pay40 z) (k0_pay43 y z) (k0_pay47 y z d w) (ix2 i q) = tZ y z d w i q := by
  pointwise [k0_pay1, k0_pay2, k0_pay3, k0_pay40, k0_pay41, k0_pay42, k0_pay43, k0_pay44, k0_pay45, k0_pay46, k0_pay47, tZ, gz, gv, normGrad, gated, scale, silu, siluGrad]
  all_goals rfl
theorem pW3 : k0_pay46 (F := Ideal) y z d acc (ix2 0 q) = acc (ix2 0 q) + tW y z d q := by
  pointwise [k0_pay1, k0_pay2, k0_pay3, k0_pay40, k0_pay41, k0_pay42, k0_pay43, k0_pay44, k0_pay45, k0_pay46, k0_pay47, tW, gw, gated, scale, silu]
  all_goals rfl
end

theorem lda (x : FVec Ideal S256x2048 .f32) (i : Fin 256) (q : Fin 512) (b : ℕ) (h) (j : Fin 2048) (hj : j.val = b + q.val) :
    View.ld (Val := Elt Ideal) (e' := .f32) x (Rect.unit (s := S256x2048) ![0, b] S256x512.size h) (ix2 i q) = x (ix2 i j) :=
  congrArg x (funext fun a => Fin.ext (by
    match a with
    | ⟨0, _⟩ => show 0 + 1 * i.val = i.val; omega
    | ⟨1, _⟩ => show b + 1 * q.val = j.val; omega))

theorem ldb (x : FVec Ideal S256x2048 .bf16) (i : Fin 256) (q : Fin 512) (b : ℕ) (h) (j : Fin 2048) (hj : j.val = b + q.val) :
    View.ld (Val := Elt Ideal) (e' := .bf16) x (Rect.unit (s := S256x2048) ![0, b] S256x512.size h) (ix2 i q) = x (ix2 i j) :=
  congrArg x (funext fun a => Fin.ext (by
    match a with
    | ⟨0, _⟩ => show 0 + 1 * i.val = i.val; omega
    | ⟨1, _⟩ => show b + 1 * q.val = j.val; omega))

theorem ldc (x : FVec Ideal S1x2048 .f32) (q : Fin 512) (b : ℕ) (h) (j : Fin 2048) (hj : j.val = b + q.val) :
    View.ld (Val := Elt Ideal) (e' := .f32) x (Rect.unit (s := S1x2048) ![0, b] S1x512.size h) (ix2 0 q) = x (ix2 0 j) :=
  congrArg x (funext fun a => Fin.ext (by
    match a with
    | ⟨0, _⟩ => rfl
    | ⟨1, _⟩ => show b + 1 * q.val = j.val; omega))

section
variable (x0 : FVec Ideal S256x2048 .f32) (x1 : FVec Ideal S256x2048 .bf16) (x2 : FVec Ideal S1x2048 .f32) (x3 : FVec Ideal S256x2048 .bf16)

def bY (i : Fin 256) (j : Fin 2048) : EReal :=
  gy (fun k => x0 (ix2 i (ncol (grp j) k))) (fun k => x1 (ix2 i (ncol (grp j) k))) (fun k => x3 (ix2 i (ncol (grp j) k))) (fun k => x2 (ix2 0 (ncol (grp j) k))) (lane j)
def bZ (i : Fin 256) (j : Fin 2048) : EReal :=
  gz (fun k => x0 (ix2 i (ncol (grp j) k))) (fun k => x1 (ix2 i (ncol (grp j) k))) (fun k => x3 (ix2 i (ncol (grp j) k))) (fun k => x2 (ix2 0 (ncol (grp j) k))) (lane j)
def bW (j : Fin 2048) : EReal :=
  ∑ i : Fin 256, gw (fun k => x0 (ix2 i (ncol (grp j) k))) (fun k => x1 (ix2 i (ncol (grp j) k))) (x3 (ix2 i j)) (lane j)

variable (b : ℕ) (h0) (h1) (h2) (h3) (g : Fin 4) (hb : b = g.val * 512)
include hb

theorem grp_eq (j : Fin 2048) (q : Fin 512) (hj : j.val = b + q.val) : grp j = g := Fin.ext (by show j.val / 512 = g.val; omega)
theorem lane_eq (j : Fin 2048) (q : Fin 512) (hj : j.val = b + q.val) : lane j = q := Fin.ext (by show j.val % 512 = q.val; omega)

theorem ldY (i : Fin 256) (q : Fin 512) (j : Fin 2048) (hj : j.val = b + q.val) :
    tY (View.ld (Val := Elt Ideal) (e' := .f32) x0 (Rect.unit (s := S256x2048) ![0, b] S256x512.size h0))
      (View.ld (Val := Elt Ideal) (e' := .bf16) x1 (Rect.unit (s := S256x2048) ![0, b] S256x512.size h1))
      (View.ld (Val := Elt Ideal) (e' := .bf16) x3 (Rect.unit (s := S256x2048) ![0, b] S256x512.size h3))
      (View.ld (Val := Elt Ideal) (e' := .f32) x2 (Rect.unit (s := S1x2048) ![0, b] S1x512.size h2)) i q = bY x0 x1 x2 x3 i j := by
  have ej : ∀ k : Fin 512, (ncol g k).val = b + k.val := fun k => by rw [hb]; rfl
  unfold bY
  rw [grp_eq b g hb j q hj, lane_eq b g hb j q hj]
  refine (congrArg₂ (fun u v => gy u v _ _ q) (funext fun k => lda x0 i k b h0 _ (ej k)) (funext fun k => ldb x1 i k b h1 _ (ej k))).trans ?_
  exact congrArg₂ (fun u v => gy _ _ u v q) (funext fun k => ldb x3 i k b h3 _ (ej k)) (funext fun k => ldc x2 k b h2 _ (ej k))

theorem ldZ (i : Fin 256) (q : Fin 512) (j : Fin 2048) (hj : j.val = b + q.val) :
    tZ (View.ld (Val := Elt Ideal) (e' := .f32) x0 (Rect.unit (s := S256x2048) ![0, b] S256x512.size h0))
      (View.ld (Val := Elt Ideal) (e' := .bf16) x1 (Rect.unit (s := S256x2048) ![0, b] S256x512.size h1))
      (View.ld (Val := Elt Ideal) (e' := .bf16) x3 (Rect.unit (s := S256x2048) ![0, b] S256x512.size h3))
      (View.ld (Val := Elt Ideal) (e' := .f32) x2 (Rect.unit (s := S1x2048) ![0, b] S1x512.size h2)) i q = bZ x0 x1 x2 x3 i j := by
  have ej : ∀ k : Fin 512, (ncol g k).val = b + k.val := fun k => by rw [hb]; rfl
  unfold bZ
  rw [grp_eq b g hb j q hj, lane_eq b g hb j q hj]
  refine (congrArg₂ (fun u v => gz u v _ _ q) (funext fun k => lda x0 i k b h0 _ (ej k)) (funext fun k => ldb x1 i k b h1 _ (ej k))).trans ?_
  exact congrArg₂ (fun u v => gz _ _ u v q) (funext fun k => ldb x3 i k b h3 _ (ej k)) (funext fun k => ldc x2 k b h2 _ (ej k))

theorem ldW (q : Fin 512) (j : Fin 2048) (hj : j.val = b + q.val) :
    tW (View.ld (Val := Elt Ideal) (e' := .f32) x0 (Rect.unit (s := S256x2048) ![0, b] S256x512.size h0))
      (View.ld (Val := Elt Ideal) (e' := .bf16) x1 (Rect.unit (s := S256x2048) ![0, b] S256x512.size h1))
      (View.ld (Val := Elt Ideal) (e' := .bf16) x3 (Rect.unit (s := S256x2048) ![0, b] S256x512.size h3)) q = bW x0 x1 x3 j := by
  have ej : ∀ k : Fin 512, (ncol g k).val = b + k.val := fun k => by rw [hb]; rfl
  unfold bW
  rw [grp_eq b g hb j q hj, lane_eq b g hb j q hj]
  refine Finset.sum_congr rfl fun i _ => ?_
  refine (congrArg₂ (fun u v => gw u v _ q) (funext fun k => lda x0 i k b h0 _ (ej k)) (funext fun k => ldb x1 i k b h1 _ (ej k))).trans ?_
  exact congrArg (fun u => gw _ _ u q) (ldb x3 i q b h3 j hj)

end

theorem outY_pt (i : Fin 256) (j : Fin 2048) : (outsAt0 m c t.val t.isLt).1 (ix2 i j) = bY (pa m c t) (pb m c t) (pc m c t) (pd m c t) i j := by
  by_cases h : t.val % 16 = 0
  · rw [Gen.outsAt0_A m c t h]
    dsimp only
    frame_out
    canon_tiles x hx
    · have e0 : i = x 0 := Fin.ext hx0
      rw [e0]
      exact (congrArg _ (ix2_of x)).trans ((pY3 _ _ _ _ (x 0) (x 1)).trans (ldY (pa m c t) (pb m c t) (pc m c t) (pd m c t) 1536 _ _ _ _ 3 rfl (x 0) (x 1) j hx1))
    · have e0 : i = x 0 := Fin.ext hx0
      rw [e0]
      exact (congrArg _ (ix2_of x)).trans ((pY2 _ _ _ _ (x 0) (x 1)).trans (ldY (pa m c t) (pb m c t) (pc m c t) (pd m c t) 1024 _ _ _ _ 2 rfl (x 0) (x 1) j hx1))
    · have e0 : i = x 0 := Fin.ext hx0
      rw [e0]
      exact (congrArg _ (ix2_of x)).trans ((pY1 _ _ _ _ (x 0) (x 1)).trans (ldY (pa m c t) (pb m c t) (pc m c t) (pd m c t) 512 _ _ _ _ 1 rfl (x 0) (x 1) j hx1))
    · have e0 : i = x 0 := Fin.ext hx0
      rw [e0]
      exact (congrArg _ (ix2_of x)).trans ((pY0 _ _ _ _ (x 0) (x 1)).trans (ldY (pa m c t) (pb m c t) (pc m c t) (pd m c t) 0 _ _ _ _ 0 rfl (x 0) (x 1) j (by have : j.val = (x 1).val := hx1; omega)))
  · rw [Gen.outsAt0_B m c t h]
    dsimp only
    frame_out
    canon_tiles x hx
    · have e0 : i = x 0 := Fin.ext hx0
      rw [e0]
      exact (congrArg _ (ix2_of x)).trans ((pY3 _ _ _ _ (x 0) (x 1)).trans (ldY (pa m c t) (pb m c t) (pc m c t) (pd m c t) 1536 _ _ _ _ 3 rfl (x 0) (x 1) j hx1))
    · have e0 : i = x 0 := Fin.ext hx0
      rw [e0]
      exact (congrArg _ (ix2_of x)).trans ((pY2 _ _ _ _ (x 0) (x 1)).trans (ldY (pa m c t) (pb m c t) (pc m c t) (pd m c t) 1024 _ _ _ _ 2 rfl (x 0) (x 1) j hx1))
    · have e0 : i = x 0 := Fin.ext hx0
      rw [e0]
      exact (congrArg _ (ix2_of x)).trans ((pY1 _ _ _ _ (x 0) (x 1)).trans (ldY (pa m c t) (pb m c t) (pc m c t) (pd m c t) 512 _ _ _ _ 1 rfl (x 0) (x 1) j hx1))
    · have e0 : i = x 0 := Fin.ext hx0
      rw [e0]
      exact (congrArg _ (ix2_of x)).trans ((pY0 _ _ _ _ (x 0) (x 1)).trans (ldY (pa m c t) (pb m c t) (pc m c t) (pd m c t) 0 _ _ _ _ 0 rfl (x 0) (x 1) j (by have : j.val = (x 1).val := hx1; omega)))

theorem outZ_pt (i : Fin 256) (j : Fin 2048) : (outsAt0 m c t.val t.isLt).2.1 (ix2 i j) = bZ (pa m c t) (pb m c t) (pc m c t) (pd m c t) i j := by
  by_cases h : t.val % 16 = 0
  · rw [Gen.outsAt0_A m c t h]
    dsimp only
    frame_out
    canon_tiles x hx
    · have e0 : i = x 0 := Fin.ext hx0
      rw [e0]
      exact (congrArg _ (ix2_of x)).trans ((pZ3 _ _ _ _ (x 0) (x 1)).trans (ldZ (pa m c t) (pb m c t) (pc m c t) (pd m c t) 1536 _ _ _ _ 3 rfl (x 0) (x 1) j hx1))
    · have e0 : i = x 0 := Fin.ext hx0
      rw [e0]
      exact (congrArg _ (ix2_of x)).trans ((pZ2 _ _ _ _ (x 0) (x 1)).trans (ldZ (pa m c t) (pb m c t) (pc m c t) (pd m c t) 1024 _ _ _ _ 2 rfl (x 0) (x 1) j hx1))
    · have e0 : i = x 0 := Fin.ext hx0
      rw [e0]
      exact (congrArg _ (ix2_of x)).trans ((pZ1 _ _ _ _ (x 0) (x 1)).trans (ldZ (pa m c t) (pb m c t) (pc m c t) (pd m c t) 512 _ _ _ _ 1 rfl (x 0) (x 1) j hx1))
    · have e0 : i = x 0 := Fin.ext hx0
      rw [e0]
      exact (congrArg _ (ix2_of x)).trans ((pZ0 _ _ _ _ (x 0) (x 1)).trans (ldZ (pa m c t) (pb m c t) (pc m c t) (pd m c t) 0 _ _ _ _ 0 rfl (x 0) (x 1) j (by have : j.val = (x 1).val := hx1; omega)))
  · rw [Gen.outsAt0_B m c t h]
    dsimp only
    frame_out
    canon_tiles x hx
    · have e0 : i = x 0 := Fin.ext hx0
      rw [e0]
      exact (congrArg _ (ix2_of x)).trans ((pZ3 _ _ _ _ (x 0) (x 1)).trans (ldZ (pa m c t) (pb m c t) (pc m c t) (pd m c t) 1536 _ _ _ _ 3 rfl (x 0) (x 1) j hx1))
    · have e0 : i = x 0 := Fin.ext hx0
      rw [e0]
      exact (congrArg _ (ix2_of x)).trans ((pZ2 _ _ _ _ (x 0) (x 1)).trans (ldZ (pa m c t) (pb m c t) (pc m c t) (pd m c t) 1024 _ _ _ _ 2 rfl (x 0) (x 1) j hx1))
    · have e0 : i = x 0 := Fin.ext hx0
      rw [e0]
      exact (congrArg _ (ix2_of x)).trans ((pZ1 _ _ _ _ (x 0) (x 1)).trans (ldZ (pa m c t) (pb m c t) (pc m c t) (pd m c t) 512 _ _ _ _ 1 rfl (x 0) (x 1) j hx1))
    · have e0 : i = x 0 := Fin.ext hx0
      rw [e0]
      exact (congrArg _ (ix2_of x)).trans ((pZ0 _ _ _ _ (x 0) (x 1)).trans (ldZ (pa m c t) (pb m c t) (pc m c t) (pd m c t) 0 _ _ _ _ 0 rfl (x 0) (x 1) j (by have : j.val = (x 1).val := hx1; omega)))

section
variable (acc : FVec Ideal S1x2048 .f32) (x : S1x512.Idx) (j : Fin 2048)

theorem piece0 (h0) (h1) (h2) (h3) (hj : j.val = 0 + (x 1).val) :
    k0_pay11 (F := Ideal) (View.ld (Val := Elt Ideal) (e' := .f32) (pa m c t) (Rect.unit (s := S256x2048) ![0, 0] S256x512.size h0)) (View.ld (Val := Elt Ideal) (e' := .bf16) (pb m c t) (Rect.unit (s := S256x2048) ![0, 0] S256x512.size h1)) (View.ld (Val := Elt Ideal) (e' := .bf16) (pd m c t) (Rect.unit (s := S256x2048) ![0, 0] S256x512.size h3)) (View.ld (Val := Elt Ideal) (e' := .f32) acc (Rect.unit (s := S1x2048) ![0, 0] S1x512.size h2)) x = acc (ix2 0 j) + bW (pa m c t) (pb m c t) (pd m c t) j := by
  have e0 : x 0 = (0 : Fin 1) := Subsingleton.elim (α := Fin 1) _ _
  rw [ix2_of x, e0]
  refine (pW0 _ _ _ _ (x 1)).trans ?_
  exact congrArg₂ (· + ·) (ldc acc (x 1) 0 h2 j hj) (ldW (pa m c t) (pb m c t) (pd m c t) 0 h0 h1 h3 0 rfl (x 1) j hj)

theorem piece1 (h0) (h1) (h2) (h3) (hj : j.val = 512 + (x 1).val) :
    k0_pay25 (F := Ideal) (k0_pay23 (View.ld (Val := Elt Ideal) (e' := .f32) acc (Rect.unit (s := S1x2048) ![0, 512] S1x512.size h2))) (k0_pay24 (View.ld (Val := Elt Ideal) (e' := .f32) (pa m c t) (Rect.unit (s := S256x2048) ![0, 512] S256x512.size h0)) (View.ld (Val := Elt Ideal) (e' := .bf16) (pb m c t) (Rect.unit (s := S256x2048) ![0, 512] S256x512.size h1)) (View.ld (Val := Elt Ideal) (e' := .bf16) (pd m c t) (Rect.unit (s := S256x2048) ![0, 512] S256x512.size h3))) x = acc (ix2 0 j) + bW (pa m c t) (pb m c t) (pd m c t) j := by
  have e0 : x 0 = (0 : Fin 1) := Subsingleton.elim (α := Fin 1) _ _
  rw [ix2_of x, e0]
  refine (pW1 _ _ _ _ (x 1)).trans ?_
  exact congrArg₂ (· + ·) (ldc acc (x 1) 512 h2 j hj) (ldW (pa m c t) (pb m c t) (pd m c t) 512 h0 h1 h3 1 rfl (x 1) j hj)

theorem piece2 (h0) (h1) (h2) (h3) (hj : j.val = 1024 + (x 1).val) :
    k0_pay36 (F := Ideal) (k0_pay31 (View.ld (Val := Elt Ideal) (e' := .f32) (pa m c t) (Rect.unit (s := S256x2048) ![0, 1024] S256x512.size h0)) (View.ld (Val := Elt Ideal) (e' := .bf16) (pb m c t) (Rect.unit (s := S256x2048) ![0, 1024] S256x512.size h1))) (k0_pay32 (View.ld (Val := Elt Ideal) (e' := .f32) (pa m c t) (Rect.unit (s := S256x2048) ![0, 1024] S256x512.size h0)) (View.ld (Val := Elt Ideal) (e' := .bf16) (pb m c t) (Rect.unit (s := S256x2048) ![0, 1024] S256x512.size h1))) (Scalar.ofBits (F := Ideal) .f32 0x44000000#32) (View.ld (Val := Elt Ideal) (e' := .bf16) (pd m c t) (Rect.unit (s := S256x2048) ![0, 1024] S256x512.size h3)) (View.ld (Val := Elt Ideal) (e' := .f32) acc (Rect.unit (s := S1x2048) ![0, 1024] S1x512.size h2)) x = acc (ix2 0 j) + bW (pa m c t) (pb m c t) (pd m c t) j := by
  have e0 : x 0 = (0 : Fin 1) := Subsingleton.elim (α := Fin 1) _ _
  rw [ix2_of x, e0]
  refine (pW2 _ _ _ _ (x 1)).trans ?_
  exact congrArg₂ (· + ·) (ldc acc (x 1) 1024 h2 j hj) (ldW (pa m c t) (pb m c t) (pd m c t) 1024 h0 h1 h3 2 rfl (x 1) j hj)

theorem piece3 (h0) (h1) (h2) (h3) (hj : j.val = 1536 + (x 1).val) :
    k0_pay46 (F := Ideal) (View.ld (Val := Elt Ideal) (e' := .f32) (pa m c t) (Rect.unit (s := S256x2048) ![0, 1536] S256x512.size h0)) (View.ld (Val := Elt Ideal) (e' := .bf16) (pb m c t) (Rect.unit (s := S256x2048) ![0, 1536] S256x512.size h1)) (View.ld (Val := Elt Ideal) (e' := .bf16) (pd m c t) (Rect.unit (s := S256x2048) ![0, 1536] S256x512.size h3)) (View.ld (Val := Elt Ideal) (e' := .f32) acc (Rect.unit (s := S1x2048) ![0, 1536] S1x512.size h2)) x = acc (ix2 0 j) + bW (pa m c t) (pb m c t) (pd m c t) j := by
  have e0 : x 0 = (0 : Fin 1) := Subsingleton.elim (α := Fin 1) _ _
  rw [ix2_of x, e0]
  refine (pW3 _ _ _ _ (x 1)).trans ?_
  exact congrArg₂ (· + ·) (ldc acc (x 1) 1536 h2 j hj) (ldW (pa m c t) (pb m c t) (pd m c t) 1536 h0 h1 h3 3 rfl (x 1) j hj)

end

/-- The gain's gradient so far of the point before. -/
def before : FVec Ideal S1x2048 .f32 := (outsAt0 m c (t.val - 1) (Nat.lt_of_le_of_lt (Nat.sub_le _ _) t.isLt)).2.2

set_option maxHeartbeats 4000000 in
theorem acc_A (h : t.val % 16 = 0) (j : Fin 2048) :
    (outsAt0 m c t.val t.isLt).2.2 (ix2 0 j) = bW (pa m c t) (pb m c t) (pd m c t) j := by
  refine Eq.trans ?_ (zero_add _)
  rw [Gen.outsAt0_A m c t h]
  dsimp only
  frame_out
  simp (disch := decide) only [↓ View.readCov_skip, ↓ View.readCov_fill]
  have ez : ∀ j : Fin 2048, (k0_pay4 : FVec Ideal S1x2048 .f32) (ix2 0 j) = 0 := fun j => by pointwise [k0_pay4]
  rw [← ez j]
  refine View.canon_append_of_piecesOf (Val := Elt Ideal) (s := S1x2048) (e := .f32)
    (fun y : S1x2048.Idx => (k0_pay4 : FVec Ideal S1x2048 .f32) (ix2 0 (y 1)) + bW (pa m c t) (pb m c t) (pd m c t) (y 1)) [_] [_, _, _, _]
    ⟨fun x => ?_, fun x => ?_, fun x => ?_, fun x => ?_, trivial⟩ (ix2 0 j) ?_
  · exact piece3 m c t k0_pay4 x ((Rect.unit (s := S1x2048) ![0, 1536] S1x512.size inb_S1x2048_S1x512_0_1536).emb x 1) _ _ _ _
      (Rect.idx_unit_val (s := S1x2048) ![0, 1536] S1x512.size inb_S1x2048_S1x512_0_1536 x 1)
  · exact piece2 m c t k0_pay4 x ((Rect.unit (s := S1x2048) ![0, 1024] S1x512.size inb_S1x2048_S1x512_0_1024).emb x 1) _ _ _ _
      (Rect.idx_unit_val (s := S1x2048) ![0, 1024] S1x512.size inb_S1x2048_S1x512_0_1024 x 1)
  · exact piece1 m c t k0_pay4 x ((Rect.unit (s := S1x2048) ![0, 512] S1x512.size inb_S1x2048_S1x512_0_512).emb x 1) _ _ _ _
      (Rect.idx_unit_val (s := S1x2048) ![0, 512] S1x512.size inb_S1x2048_S1x512_0_512 x 1)
  · exact piece0 m c t k0_pay4 x ((Rect.unit (s := S1x2048) ![0, 0] S1x512.size inb_S1x2048_S1x512_0_0).emb x 1) _ _ _ _
      (Rect.idx_unit_val (s := S1x2048) ![0, 0] S1x512.size inb_S1x2048_S1x512_0_0 x 1)
  · exact View.cover_of_tiledL _ ![1, 512] (by rfl) _

set_option maxHeartbeats 4000000 in
theorem acc_B (h : ¬ t.val % 16 = 0) (j : Fin 2048) :
    (outsAt0 m c t.val t.isLt).2.2 (ix2 0 j) = before m c t (ix2 0 j) + bW (pa m c t) (pb m c t) (pd m c t) j := by
  rw [Gen.outsAt0_B m c t h]
  dsimp only
  frame_out
  canon_tiles x hx
  · exact piece3 m c t (before m c t) x j _ _ _ _ hx1
  · exact piece2 m c t (before m c t) x j _ _ _ _ hx1
  · exact piece1 m c t (before m c t) x j _ _ _ _ hx1
  · exact piece0 m c t (before m c t) x j _ _ _ _ (by have : j.val = (x 1).val := hx1; omega)

theorem bW_at (j : Fin 2048) (n : ℕ) (h : t.val = n) :
    bW (pa m c t) (pb m c t) (pd m c t) j = ∑ i : Fin 256, terms (m ((c : Thread nD τ).loc main_arg0)) (m ((c : Thread nD τ).loc main_arg1)) (m ((c : Thread nD τ).loc main_arg3)) j ⟨256 * n + i.val, by have : t.val < 16 := t.isLt; omega⟩ := by
  subst h
  refine Finset.sum_congr rfl fun i _ => ?_
  refine (congrArg₂ (fun u v => gw u v _ _) (funext fun k => pa_at m c t i _) (funext fun k => pb_at m c t i _)).trans ?_
  exact congrArg (fun u => gw _ _ u _) (pd_at m c t i j)

theorem acc_at : ∀ (n : ℕ) (hn : n < cfg0.N) (j : Fin 2048), (outsAt0 m c n hn).2.2 (ix2 0 j) = part 256 (terms (m ((c : Thread nD τ).loc main_arg0)) (m ((c : Thread nD τ).loc main_arg1)) (m ((c : Thread nD τ).loc main_arg3)) j) (n + 1)
  | n, hn, j => by
    have h8 : n < 16 := hn
    by_cases h0 : n = 0
    · subst h0
      rw [acc_A m c ⟨0, hn⟩ rfl j, bW_at m c ⟨0, hn⟩ j 0 rfl, part_one _ _ (by omega)]
    · have hp : n - 1 < cfg0.N := Nat.lt_of_le_of_lt (Nat.sub_le _ _) hn
      have ih := acc_at (n - 1) hp j
      rw [Nat.sub_add_cancel (by omega)] at ih
      rw [acc_B m c ⟨n, hn⟩ (by show ¬ n % 16 = 0; omega) j, bW_at m c ⟨n, hn⟩ j n rfl, part_succ _ _ _ (by omega)]
      exact congrArg (· + _) ih

theorem flush_of : ∀ t : Fin cfg0.N, (cfg0.win 6).flush t = true → t.val = 15 :=
  (by decide +kernel : ∀ t : Fin grid0.N, win0_6.flush t = true → t.val = 15)

theorem gain_block (hf : (cfg0.win 6).flush t = true) (y : S1x2048.Idx) :
    (outsAt0 m c t.val t.isLt).2.2 y = gain (m ((c : Thread nD τ).loc main_arg0)) (m ((c : Thread nD τ).loc main_arg1)) (m ((c : Thread nD τ).loc main_arg3)) (((cfg0.win 6).blk t).view.emb y) := by
  have e1 : ((((cfg0.win 6).blk t).view.emb y) 1 : ℕ) = (y 1).val := by
    blk_simp [index_of t]
  have e0 : y 0 = (0 : Fin 1) := Subsingleton.elim (α := Fin 1) _ _
  refine (congrArg (outsAt0 m c t.val t.isLt).2.2 ((ix2_of y).trans (congrArg (fun a : Fin 1 => ix2 a (y 1)) e0))).trans ((acc_at m c t.val t.isLt (y 1)).trans ?_)
  rw [flush_of t hf]
  refine (part_all 256 _ 16 rfl).trans ?_
  exact congrArg (fun j : Fin 2048 => ∑ i, terms (m ((c : Thread nD τ).loc main_arg0)) (m ((c : Thread nD τ).loc main_arg1)) (m ((c : Thread nD τ).loc main_arg3)) j i) (Fin.ext e1.symm)

theorem gain_arr : (dats m 0 c).arrAt 6 cfg0.N = gain (m ((c : Thread nD τ).loc main_arg0)) (m ((c : Thread nD τ).loc main_arg1)) (m ((c : Thread nD τ).loc main_arg3)) :=
  (dats m 0 c).arrAt_eq_of_covers 6 _ (by decide +kernel) fun t hf y => (congrFun (after0_6 m c t) y).trans (gain_block m c t hf y)

theorem outY_at (i : Fin 256) (j : Fin 2048) : (outsAt0 m c t.val t.isLt).1 (ix2 i j) = entryY (m ((c : Thread nD τ).loc main_arg0)) (m ((c : Thread nD τ).loc main_arg1)) (m ((c : Thread nD τ).loc main_arg2)) (m ((c : Thread nD τ).loc main_arg3)) (row t i) j := by
  rw [outY_pt]
  refine (congrArg₂ (fun u v => gy u v _ _ _) (funext fun k => pa_at m c t i _) (funext fun k => pb_at m c t i _)).trans ?_
  exact congrArg₂ (fun u v => gy _ _ u v _) (funext fun k => pd_at m c t i _) (funext fun k => pc_at m c t _)

theorem blockY_at (y : S256x2048.Idx) :
    (outsAt0 m c t.val t.isLt).1 y = wholeY (m ((c : Thread nD τ).loc main_arg0)) (m ((c : Thread nD τ).loc main_arg1)) (m ((c : Thread nD τ).loc main_arg2)) (m ((c : Thread nD τ).loc main_arg3)) (((cfg0.win 4).blk t).view.emb y) := by
  have e0 : ((((cfg0.win 4).blk t).view.emb y) 0 : ℕ) = 256 * t.val + (y 0).val := by
    blk_simp [index_of t]
    omega
  have e1 : ((((cfg0.win 4).blk t).view.emb y) 1 : ℕ) = (y 1).val := by
    blk_simp [index_of t]
  refine (congrArg (outsAt0 m c t.val t.isLt).1 (ix2_of y)).trans ((outY_at m c t (y 0) (y 1)).trans ?_)
  exact congrArg₂ (entryY (m ((c : Thread nD τ).loc main_arg0)) (m ((c : Thread nD τ).loc main_arg1)) (m ((c : Thread nD τ).loc main_arg2)) (m ((c : Thread nD τ).loc main_arg3))) (Fin.ext e0.symm) (Fin.ext e1.symm)

theorem arrY : (dats m 0 c).arrAt 4 cfg0.N = wholeY (m ((c : Thread nD τ).loc main_arg0)) (m ((c : Thread nD τ).loc main_arg1)) (m ((c : Thread nD τ).loc main_arg2)) (m ((c : Thread nD τ).loc main_arg3)) :=
  (dats m 0 c).arrAt_eq_of_covers 4 _ (by decide +kernel) fun t hf y => (congrFun (after0_4 m c t) y).trans (blockY_at m c t y)

theorem outZ_at (i : Fin 256) (j : Fin 2048) : (outsAt0 m c t.val t.isLt).2.1 (ix2 i j) = entryZ (m ((c : Thread nD τ).loc main_arg0)) (m ((c : Thread nD τ).loc main_arg1)) (m ((c : Thread nD τ).loc main_arg2)) (m ((c : Thread nD τ).loc main_arg3)) (row t i) j := by
  rw [outZ_pt]
  refine (congrArg₂ (fun u v => gz u v _ _ _) (funext fun k => pa_at m c t i _) (funext fun k => pb_at m c t i _)).trans ?_
  exact congrArg₂ (fun u v => gz _ _ u v _) (funext fun k => pd_at m c t i _) (funext fun k => pc_at m c t _)

theorem blockZ_at (y : S256x2048.Idx) :
    (outsAt0 m c t.val t.isLt).2.1 y = wholeZ (m ((c : Thread nD τ).loc main_arg0)) (m ((c : Thread nD τ).loc main_arg1)) (m ((c : Thread nD τ).loc main_arg2)) (m ((c : Thread nD τ).loc main_arg3)) (((cfg0.win 5).blk t).view.emb y) := by
  have e0 : ((((cfg0.win 5).blk t).view.emb y) 0 : ℕ) = 256 * t.val + (y 0).val := by
    blk_simp [index_of t]
    omega
  have e1 : ((((cfg0.win 5).blk t).view.emb y) 1 : ℕ) = (y 1).val := by
    blk_simp [index_of t]
  refine (congrArg (outsAt0 m c t.val t.isLt).2.1 (ix2_of y)).trans ((outZ_at m c t (y 0) (y 1)).trans ?_)
  exact congrArg₂ (entryZ (m ((c : Thread nD τ).loc main_arg0)) (m ((c : Thread nD τ).loc main_arg1)) (m ((c : Thread nD τ).loc main_arg2)) (m ((c : Thread nD τ).loc main_arg3))) (Fin.ext e0.symm) (Fin.ext e1.symm)

theorem arrZ : (dats m 0 c).arrAt 5 cfg0.N = wholeZ (m ((c : Thread nD τ).loc main_arg0)) (m ((c : Thread nD τ).loc main_arg1)) (m ((c : Thread nD τ).loc main_arg2)) (m ((c : Thread nD τ).loc main_arg3)) :=
  (dats m 0 c).arrAt_eq_of_covers 5 _ (by decide +kernel) fun t hf y => (congrFun (after0_5 m c t) y).trans (blockZ_at m c t y)

theorem ref_frame (m' : RMem) (g' : Dev GateNormBwdReferenceIdeal.nD → PrngReg) :
    θ_run (GateNormBwdReferenceIdeal.defs (F := Ideal)) (onTc (τ := GateNormBwdReferenceIdeal.τ) (GateNormBwdReferenceIdeal.main (F := Ideal))) ⟨m', fun _ => 0, g'⟩ fun r => (∀ c : Dev GateNormBwdReferenceIdeal.nD,
      r.2.mem ((c : Thread GateNormBwdReferenceIdeal.nD GateNormBwdReferenceIdeal.τ).loc GateNormBwdReferenceIdeal.main_arg0) = m' ((c : Thread GateNormBwdReferenceIdeal.nD GateNormBwdReferenceIdeal.τ).loc GateNormBwdReferenceIdeal.main_arg0)
      ∧ r.2.mem ((c : Thread GateNormBwdReferenceIdeal.nD GateNormBwdReferenceIdeal.τ).loc GateNormBwdReferenceIdeal.main_arg1) = m' ((c : Thread GateNormBwdReferenceIdeal.nD GateNormBwdReferenceIdeal.τ).loc GateNormBwdReferenceIdeal.main_arg1)
      ∧ r.2.mem ((c : Thread GateNormBwdReferenceIdeal.nD GateNormBwdReferenceIdeal.τ).loc GateNormBwdReferenceIdeal.main_arg2) = m' ((c : Thread GateNormBwdReferenceIdeal.nD GateNormBwdReferenceIdeal.τ).loc GateNormBwdReferenceIdeal.main_arg2)
      ∧ r.2.mem ((c : Thread GateNormBwdReferenceIdeal.nD GateNormBwdReferenceIdeal.τ).loc GateNormBwdReferenceIdeal.main_arg3) = m' ((c : Thread GateNormBwdReferenceIdeal.nD GateNormBwdReferenceIdeal.τ).loc GateNormBwdReferenceIdeal.main_arg3))
      ∧ r.2.sem = fun _ => 0 :=
  (θ_run _ _ _).mono (fun r h => ⟨fun c => (h c).2.2.2, sem_eq_zero_of_no_sems (by decide) r.2⟩) (GateNormBwdReferenceIdeal.Value.run m' g')

instance preFacts : Cert.Pre_gate_norm_finite.Facts where
  bcast_S_S4096x2048 := by decide
  bitsLt_bf16_f32 := by decide
  bcast_S_S2048 := by decide

section
variable (hp : Cert.Pre_GateNormBwdIdeal_gate_norm_finite (hPre_gate_norm_finite := preFacts) m)
include hp

theorem fin0 (y : S4096x2048.Idx) : IsR ((m ((c : Thread nD τ).loc main_arg0)) y) := isR_of_bit (congrFun (hp c).1 y)
theorem fin1 (y : S4096x2048.Idx) : IsR ((m ((c : Thread nD τ).loc main_arg1)) y) := isR_of_bit (congrFun (hp c).2.1 y)
theorem fin2 (y : S2048.Idx) : IsR ((m ((c : Thread nD τ).loc main_arg2)) y) := isR_of_bit (congrFun (hp c).2.2.1 y)
theorem fin3 (y : S4096x2048.Idx) : IsR ((m ((c : Thread nD τ).loc main_arg3)) y) := isR_of_bit (congrFun (hp c).2.2.2 y)

end

theorem agrees : algebraic_GateNormBwdIdeal_GateNormBwdReferenceIdeal_pre_gate_norm_finite (hGateNormBwdIdeal := Gen.facts) (hGateNormBwdReferenceIdeal := GateNormBwdReferenceIdeal.Gen.facts)
    (hPre_gate_norm_finite := preFacts) := by
  intro m r m' r' hp hm
  have key : ∀ c : Dev nD, ∀ b0 b1 b2 b3, b0 = (m ((c : Thread nD τ).loc main_arg0)) → b1 = (m ((c : Thread nD τ).loc main_arg1)) → b2 = (m ((c : Thread nD τ).loc main_arg2)) → b3 = (m ((c : Thread nD τ).loc main_arg3)) →
      GateNormBwdReferenceIdeal.Read.val_main_v47 (F := Ideal) b0 b1 b2 b3 = wholeY (m ((c : Thread nD τ).loc main_arg0)) (m ((c : Thread nD τ).loc main_arg1)) (m ((c : Thread nD τ).loc main_arg2)) (m ((c : Thread nD τ).loc main_arg3))
      ∧ GateNormBwdReferenceIdeal.Read.val_main_v49 (F := Ideal) b0 b1 b2 b3 = wholeZ (m ((c : Thread nD τ).loc main_arg0)) (m ((c : Thread nD τ).loc main_arg1)) (m ((c : Thread nD τ).loc main_arg2)) (m ((c : Thread nD τ).loc main_arg3))
      ∧ GateNormBwdReferenceIdeal.Read.val_main_v50 (F := Ideal) b0 b1 b3 = gain (m ((c : Thread nD τ).loc main_arg0)) (m ((c : Thread nD τ).loc main_arg1)) (m ((c : Thread nD τ).loc main_arg3)) := by
    rintro c _ _ _ _ rfl rfl rfl rfl
    exact ⟨dy_eq _ _ _ _ (fin0 m c hp) (fin1 m c hp) (fin2 m c hp) (fin3 m c hp), dz_eq _ _ _ _ (fin0 m c hp) (fin1 m c hp) (fin2 m c hp) (fin3 m c hp), dw_eq _ _ _⟩
  have at_ := fun c => key c _ _ _ _ (hm c).1 (hm c).2.1 (hm c).2.2.1 (hm c).2.2.2
  exact ⟨fun c => wholeY (m ((c : Thread nD τ).loc main_arg0)) (m ((c : Thread nD τ).loc main_arg1)) (m ((c : Thread nD τ).loc main_arg2)) (m ((c : Thread nD τ).loc main_arg3)), fun c => wholeZ (m ((c : Thread nD τ).loc main_arg0)) (m ((c : Thread nD τ).loc main_arg1)) (m ((c : Thread nD τ).loc main_arg2)) (m ((c : Thread nD τ).loc main_arg3)), fun c => gain (m ((c : Thread nD τ).loc main_arg0)) (m ((c : Thread nD τ).loc main_arg1)) (m ((c : Thread nD τ).loc main_arg3)),
    (θ_run _ _ _).mono (fun _ h c => ⟨(h c).1.trans (arrY m c), (h c).2.1.trans (arrZ m c), (h c).2.2.1.trans (gain_arr m c), (h c).2.2.2⟩) (Value.run_blocks m r),
    (θ_run _ _ _).mono (fun _ h c => ⟨(h c).1.trans ((GateNormBwdReferenceIdeal.Read.val_main_v47_eq (F := Ideal) m' c).trans (at_ c).1),
      (h c).2.1.trans ((GateNormBwdReferenceIdeal.Read.val_main_v49_eq (F := Ideal) m' c).trans (at_ c).2.1),
      (h c).2.2.1.trans ((GateNormBwdReferenceIdeal.Read.val_main_v50_eq (F := Ideal) _ _ _).trans (at_ c).2.2), (h c).2.2.2⟩) (GateNormBwdReferenceIdeal.Value.run m' r')⟩

end Cert.Rw.GateNormBwd
-- ==== Proof.RwSwigluFwd.lean ====
/-
  The gated unit forward, entry by entry.
-/
module

public import proofs.«01_k».proof.Defs
public import proofs.«01_k».proof.Proof.Mm
public import proofs.«01_k».proof.Proof.Gen.SwigluFwd.Frame
public import proofs.«01_k».proof.Proof.Gen.SwigluFwdIdeal.Value
public import proofs.«01_k».proof.Proof.Gen.SwigluFwdReferenceIdeal.Read
public import proofs.«01_k».proof.Proof.Gen.SwigluFwdReferenceIdeal.Run
public import proofs.«01_k».proof.Proof.Row
public import Idealize.ShloMosaic.Lib.Pipeline.ValueKit
@[expose] public section

set_option maxRecDepth 16384

noncomputable section

namespace Cert.Rw.SwigluFwd

open Cert.SwigluFwdIdeal Cert.SwigluFwdIdeal.Gen Idealize.ShloMosaic Idealize.ShloMosaic.TcCoe Idealize.SL.Sem
open Idealize.ShloMosaic.ValueIdx hiding ix1 ix2 ix3 ix4 ix5
open Idealize.ShloMosaic.Pointwise
open Cert.Ssd (sigmoid_parts silu)
open Cert.Mm (ix2_of)

/-- The reference's memory. -/
abbrev RMem := (ℓ : Loc SwigluFwdReferenceIdeal.nD SwigluFwdReferenceIdeal.τ SwigluFwdReferenceIdeal.sig) → Buf (Elt Ideal) ℓ
/-- The kernel's memory. -/
abbrev KMem := (ℓ : Loc nD τ sig) → Buf (Elt Ideal) ℓ

/-- The gated unit by its entries. -/
def entry (x0 : S4096x5632.Idx → EReal) (i : Fin 4096) (j : Fin 2816) : EReal :=
  silu (x0 (ix2 i ⟨j.val, by omega⟩)) * x0 (ix2 i ⟨2816 + j.val, by omega⟩)

def whole (x0 : S4096x5632.Idx → EReal) (y : S4096x2816.Idx) : EReal := entry x0 (y 0) (y 1)

theorem ref_at (x0 : S4096x5632.Idx → EReal) (i : Fin 4096) (j : Fin 2816) :
    SwigluFwdReferenceIdeal.Read.val_main_v6 (F := Ideal) x0 (ix2 i j) = entry x0 i j := by
  pointwise [SwigluFwdReferenceIdeal.Read.val_main_v6, SwigluFwdReferenceIdeal.Read.val_main_v5,SwigluFwdReferenceIdeal.Read.val_main_v4,SwigluFwdReferenceIdeal.Read.val_main_v3,SwigluFwdReferenceIdeal.Read.val_main_v2,SwigluFwdReferenceIdeal.Read.val_main_v1,SwigluFwdReferenceIdeal.Read.val_main_v0, SwigluFwdReferenceIdeal.Read.val_main_call0_v5, SwigluFwdReferenceIdeal.Read.val_main_call0_v4, SwigluFwdReferenceIdeal.Read.val_main_call0_v3, SwigluFwdReferenceIdeal.Read.val_main_call0_v2, SwigluFwdReferenceIdeal.Read.val_main_call0_v1, SwigluFwdReferenceIdeal.Read.val_main_call0_v0, SwigluFwdReferenceIdeal.Read.val_main_call0_cst, SwigluFwdReferenceIdeal.Read.val_main_call0_cst_0, entry, silu]
  all_goals rfl

variable (m : KMem) (c : Dev nD) (t : Fin cfg0.N)

def row (i : Fin 512) : Fin 4096 := ⟨512 * t.val + i.val, by have : t.val < 8 := t.isLt; omega⟩

theorem index_of : ∀ t : Fin cfg0.N, win0_0.index t = ![t.val, 0] ∧ win0_1.index t = ![t.val, 0] :=
  (by decide +kernel : ∀ t : Fin grid0.N, win0_0.index t = ![t.val, 0] ∧ win0_1.index t = ![t.val, 0])

def pa : FVec Ideal S512x5632 .bf16 := iblk m c 0 t

theorem pa_at (i : Fin 512) (q : Fin 5632) : pa m c t (ix2 i q) = m ((c : Thread nD τ).loc main_arg0) (ix2 (row t i) q) := by
  show iblk m c 0 t (ix2 i q) = _
  blk_ext! [iblk, V, index_of t, row]

def po : FVec Ideal S512x2816 .bf16 := out0_1 (iblk m c 0 t)

theorem out_pt (i : Fin 512) (j : Fin 2816) : po m c t (ix2 i j) = silu (pa m c t (ix2 i ⟨j.val, by omega⟩)) * pa m c t (ix2 i ⟨2816 + j.val, by omega⟩) := by
  unfold po
  frame_out
  pointwise [k0_pay1, silu]
  all_goals rfl

theorem block_at (y : S512x2816.Idx) :
    (po m c t) y = whole (m ((c : Thread nD τ).loc main_arg0)) (((cfg0.win 1).blk t).view.emb y) := by
  have e0 : ((((cfg0.win 1).blk t).view.emb y) 0 : ℕ) = 512 * t.val + (y 0).val := by
    blk_simp [index_of t]
    omega
  have e1 : ((((cfg0.win 1).blk t).view.emb y) 1 : ℕ) = (y 1).val := by
    blk_simp [index_of t]
  refine (congrArg (po m c t) (ix2_of y)).trans ((out_pt m c t (y 0) (y 1)).trans ?_)
  refine (congrArg₂ (fun a b : EReal => silu a * b) (pa_at m c t (y 0) ⟨(y 1).val, _⟩) (pa_at m c t (y 0) ⟨2816 + (y 1).val, _⟩)).trans ?_
  exact congrArg₂ (entry (m ((c : Thread nD τ).loc main_arg0))) (Fin.ext e0.symm) (Fin.ext e1.symm)

theorem arr : (dats m 0 c).arrAt 1 cfg0.N = whole (m ((c : Thread nD τ).loc main_arg0)) :=
  (dats m 0 c).arrAt_eq_of_covers 1 _ (by decide +kernel) fun t hf y => (congrFun (after0_1 m c t) y).trans (block_at m c t y)

theorem ref_eq (x0 : S4096x5632.Idx → EReal) : SwigluFwdReferenceIdeal.Read.val_main_v6 (F := Ideal) x0 = whole x0 := funext fun i =>
  (congrArg (SwigluFwdReferenceIdeal.Read.val_main_v6 (F := Ideal) x0) (ix2_of i)).trans (ref_at x0 (i 0) (i 1))

theorem ref_frame (m' : RMem) (g' : Dev SwigluFwdReferenceIdeal.nD → PrngReg) :
    θ_run (SwigluFwdReferenceIdeal.defs (F := Ideal)) (onTc (τ := SwigluFwdReferenceIdeal.τ) (SwigluFwdReferenceIdeal.main (F := Ideal))) ⟨m', fun _ => 0, g'⟩ fun r => (∀ c : Dev SwigluFwdReferenceIdeal.nD,
      r.2.mem ((c : Thread SwigluFwdReferenceIdeal.nD SwigluFwdReferenceIdeal.τ).loc SwigluFwdReferenceIdeal.main_arg0) = m' ((c : Thread SwigluFwdReferenceIdeal.nD SwigluFwdReferenceIdeal.τ).loc SwigluFwdReferenceIdeal.main_arg0))
      ∧ r.2.sem = fun _ => 0 :=
  (θ_run _ _ _).mono (fun r h => ⟨fun c => (h c).2, sem_eq_zero_of_no_sems (by decide) r.2⟩) (SwigluFwdReferenceIdeal.Value.run m' g')

theorem agrees : algebraic_SwigluFwdIdeal_SwigluFwdReferenceIdeal (hSwigluFwdIdeal := Gen.facts) (hSwigluFwdReferenceIdeal := SwigluFwdReferenceIdeal.Gen.facts) := by
  intro m r m' r' _ hm
  exact ⟨fun c => whole (m ((c : Thread nD τ).loc main_arg0)), (θ_run _ _ _).mono (fun _ h c => ⟨(h c).1.trans (arr m c), (h c).2⟩) (Value.run_blocks m r),
    (θ_run _ _ _).mono (fun _ h c => ⟨(h c).1.trans ((SwigluFwdReferenceIdeal.Read.val_main_v6_eq (F := Ideal) _).trans ((ref_eq _).trans (by rw [hm c]))), (h c).2⟩) (SwigluFwdReferenceIdeal.Value.run m' r')⟩

end Cert.Rw.SwigluFwd
-- ==== Proof.RwPleFwd.lean ====
/-
  The gated embedding added to the residual, entry by entry.
-/
module

public import proofs.«01_k».proof.Defs
public import proofs.«01_k».proof.Proof.Mm
public import proofs.«01_k».proof.Proof.Gen.PleFwd.Frame
public import proofs.«01_k».proof.Proof.Gen.PleFwdIdeal.Value
public import proofs.«01_k».proof.Proof.Gen.PleFwdReferenceIdeal.Read
public import proofs.«01_k».proof.Proof.Gen.PleFwdReferenceIdeal.Run
public import proofs.«01_k».proof.Proof.Row
@[expose] public section

set_option maxRecDepth 16384

noncomputable section

namespace Cert.Rw.PleFwd

open Cert.PleFwdIdeal Cert.PleFwdIdeal.Gen Idealize.ShloMosaic Idealize.ShloMosaic.TcCoe Idealize.SL.Sem
open Cert.Ssd (sigmoid_parts)

/-- The reference's memory. -/
abbrev RMem := (ℓ : Loc PleFwdReferenceIdeal.nD PleFwdReferenceIdeal.τ PleFwdReferenceIdeal.sig) → Buf (Elt Ideal) ℓ
/-- The kernel's memory. -/
abbrev KMem := (ℓ : Loc nD τ sig) → Buf (Elt Ideal) ℓ

theorem g3_eq (x0 : (⟨PleFwdReferenceIdeal.S4096x1024, .f32⟩ : BufTy).Contents (Elt Ideal)) (x1 x2 : (⟨PleFwdReferenceIdeal.S4096x1024, .bf16⟩ : BufTy).Contents (Elt Ideal)) :
    PleFwdReferenceIdeal.Read.val_main_v9 (F := Ideal) x0 x1 x2 = Value.G3 (F := Ideal) x0 x1 x2 := by
  funext i
  show (x0 i + (Ideal.div (Ideal.ofBits .f32 0x3F800000#32) (Ideal.ofBits .f32 0x3F800000#32 + Ideal.exp (-x1 i))) * x2 i : EReal) = x0 i + Ideal.logistic (x1 i) * x2 i
  rw [sigmoid_parts]

theorem ref_frame (m' : RMem) (g' : Dev PleFwdReferenceIdeal.nD → PrngReg) :
    θ_run (PleFwdReferenceIdeal.defs (F := Ideal)) (onTc (τ := PleFwdReferenceIdeal.τ) (PleFwdReferenceIdeal.main (F := Ideal))) ⟨m', fun _ => 0, g'⟩ fun r => (∀ c : Dev PleFwdReferenceIdeal.nD,
      r.2.mem ((c : Thread PleFwdReferenceIdeal.nD PleFwdReferenceIdeal.τ).loc PleFwdReferenceIdeal.main_arg0) = m' ((c : Thread PleFwdReferenceIdeal.nD PleFwdReferenceIdeal.τ).loc PleFwdReferenceIdeal.main_arg0)
      ∧ r.2.mem ((c : Thread PleFwdReferenceIdeal.nD PleFwdReferenceIdeal.τ).loc PleFwdReferenceIdeal.main_arg1) = m' ((c : Thread PleFwdReferenceIdeal.nD PleFwdReferenceIdeal.τ).loc PleFwdReferenceIdeal.main_arg1)
      ∧ r.2.mem ((c : Thread PleFwdReferenceIdeal.nD PleFwdReferenceIdeal.τ).loc PleFwdReferenceIdeal.main_arg2) = m' ((c : Thread PleFwdReferenceIdeal.nD PleFwdReferenceIdeal.τ).loc PleFwdReferenceIdeal.main_arg2))
      ∧ r.2.sem = fun _ => 0 :=
  (θ_run _ _ _).mono (fun r h => ⟨fun c => (h c).2, sem_eq_zero_of_no_sems (by decide) r.2⟩) (PleFwdReferenceIdeal.Value.run m' g')

theorem agrees : algebraic_PleFwdIdeal_PleFwdReferenceIdeal (hPleFwdIdeal := Gen.facts) (hPleFwdReferenceIdeal := PleFwdReferenceIdeal.Gen.facts) := by
  intro m r m' r' _ hm
  exact ⟨fun c => Value.G3 (m ((c : Thread nD τ).loc main_arg0)) (m ((c : Thread nD τ).loc main_arg1)) (m ((c : Thread nD τ).loc main_arg2)), Value.run m r, (θ_run _ _ _).mono (fun _ h c => ⟨(h c).1.trans ((PleFwdReferenceIdeal.Read.val_main_v9_eq (F := Ideal) _ _ _).trans ((g3_eq _ _ _).trans (by rw [(hm c).1, (hm c).2.1, (hm c).2.2]))),
    (h c).2⟩) (PleFwdReferenceIdeal.Value.run m' r')⟩

end Cert.Rw.PleFwd
-- ==== Proof.RwRmsFwd.lean ====
/-
  The root-mean-square norm, entry by entry.
-/
module

public import proofs.«01_k».proof.Defs
public import proofs.«01_k».proof.Proof.Mm
public import proofs.«01_k».proof.Proof.Gen.RmsFwd.Frame
public import proofs.«01_k».proof.Proof.Gen.RmsFwdIdeal.Value
public import proofs.«01_k».proof.Proof.Gen.RmsFwdReferenceIdeal.Read
public import proofs.«01_k».proof.Proof.Gen.RmsFwdReferenceIdeal.Run
public import proofs.«01_k».proof.Proof.Row
public import Idealize.ShloMosaic.Lib.Pipeline.ValueKit
@[expose] public section

set_option maxRecDepth 16384

noncomputable section

namespace Cert.Rw.RmsFwd

open Cert.RmsFwdIdeal Cert.RmsFwdIdeal.Gen Idealize.ShloMosaic Idealize.ShloMosaic.TcCoe Idealize.SL.Sem
open Idealize.ShloMosaic.ValueIdx hiding ix1 ix2 ix3 ix4 ix5
open Idealize.ShloMosaic.Pointwise
open Cert.Mm (ix2_of)
open Cert.Ssd (scale)

/-- The reference's memory. -/
abbrev RMem := (ℓ : Loc RmsFwdReferenceIdeal.nD RmsFwdReferenceIdeal.τ RmsFwdReferenceIdeal.sig) → Buf (Elt Ideal) ℓ
/-- The kernel's memory. -/
abbrev KMem := (ℓ : Loc nD τ sig) → Buf (Elt Ideal) ℓ

/-- The norm by its entries. -/
def entry (x0 : S4096x1024.Idx → EReal) (x1 : S1024.Idx → EReal) (i : Fin 4096) (j : Fin 1024) : EReal :=
  x0 (ix2 i j) * scale 0x44800000#32 (∑ k : Fin 1024, x0 (ix2 i k) * x0 (ix2 i k)) * x1 (ix1 j)

def whole (x0 : S4096x1024.Idx → EReal) (x1 : S1024.Idx → EReal) (y : S4096x1024.Idx) : EReal := entry x0 x1 (y 0) (y 1)

section
open RmsFwdReferenceIdeal.Read

theorem ref_at (x0 : S4096x1024.Idx → EReal) (x1 : S1024.Idx → EReal) (i : Fin 4096) (j : Fin 1024) :
    val_main_v13 (F := Ideal) x0 x1 (ix2 i j) = entry x0 x1 i j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, entry, scale]
  all_goals rfl

theorem ref_eq (x0 : S4096x1024.Idx → EReal) (x1 : S1024.Idx → EReal) :
    val_main_v13 (F := Ideal) x0 x1 = whole x0 x1 := funext fun i =>
  (congrArg (val_main_v13 (F := Ideal) x0 x1) (ix2_of i)).trans (ref_at x0 x1 (i 0) (i 1))

end

variable (m : KMem) (c : Dev nD) (t : Fin cfg0.N)

def row (i : Fin 512) : Fin 4096 := ⟨512 * t.val + i.val, by have : t.val < 8 := t.isLt; omega⟩

theorem index_of : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

def pa : FVec Ideal S512x1024 .f32 := iblk m c 0 t
def pb : FVec Ideal S1x1024 .f32 := iblk m c 1 t

theorem pa_at (i : Fin 512) (q : Fin 1024) : pa m c t (ix2 i q) = m ((c : Thread nD τ).loc main_arg0) (ix2 (row t i) q) := by
  show iblk m c 0 t (ix2 i q) = _
  blk_ext! [iblk, V, index_of t, row]

theorem pb_at (q : Fin 1024) : pb m c t (ix2 0 q) = m ((c : Thread nD τ).loc main_arg1) (ix1 q) := by
  show iblk m c 1 t (ix2 0 q) = _
  blk_ext! [iblk, V, index_of t]

def po : FVec Ideal S512x1024 .bf16 := out0_2 (iblk m c 0 t) (iblk m c 1 t)

theorem out_pt (i : Fin 512) (j : Fin 1024) : po m c t (ix2 i j) =
    pa m c t (ix2 i j) * scale 0x44800000#32 (∑ k : Fin 1024, pa m c t (ix2 i k) * pa m c t (ix2 i k)) * pb m c t (ix2 0 j) := by
  unfold po
  frame_out
  pointwise [k0_pay1, scale]
  all_goals rfl

theorem out_at (i : Fin 512) (j : Fin 1024) :
    po m c t (ix2 i j) = entry (m ((c : Thread nD τ).loc main_arg0)) (m ((c : Thread nD τ).loc main_arg1)) (row t i) j := by
  rw [out_pt]
  refine congrArg₂ (· * ·) (congrArg₂ (· * ·) (pa_at m c t i j) (congrArg (scale _) ?_)) (pb_at m c t j)
  exact Finset.sum_congr rfl fun k _ => congrArg₂ (· * ·) (pa_at m c t i k) (pa_at m c t i k)

theorem block_at (y : S512x1024.Idx) :
    (po m c t) y = whole (m ((c : Thread nD τ).loc main_arg0)) (m ((c : Thread nD τ).loc main_arg1)) (((cfg0.win 2).blk t).view.emb y) := by
  have e0 : ((((cfg0.win 2).blk t).view.emb y) 0 : ℕ) = 512 * t.val + (y 0).val := by
    blk_simp [index_of t]
    omega
  have e1 : ((((cfg0.win 2).blk t).view.emb y) 1 : ℕ) = (y 1).val := by
    blk_simp [index_of t]
  refine (congrArg (po m c t) (ix2_of y)).trans ((out_at m c t (y 0) (y 1)).trans ?_)
  exact congrArg₂ (entry (m ((c : Thread nD τ).loc main_arg0)) (m ((c : Thread nD τ).loc main_arg1))) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

theorem ref_frame (m' : RMem) (g' : Dev RmsFwdReferenceIdeal.nD → PrngReg) :
    θ_run (RmsFwdReferenceIdeal.defs (F := Ideal)) (onTc (τ := RmsFwdReferenceIdeal.τ) (RmsFwdReferenceIdeal.main (F := Ideal))) ⟨m', fun _ => 0, g'⟩ fun r => (∀ c : Dev RmsFwdReferenceIdeal.nD,
      r.2.mem ((c : Thread RmsFwdReferenceIdeal.nD RmsFwdReferenceIdeal.τ).loc RmsFwdReferenceIdeal.main_arg0) = m' ((c : Thread RmsFwdReferenceIdeal.nD RmsFwdReferenceIdeal.τ).loc RmsFwdReferenceIdeal.main_arg0)
      ∧ r.2.mem ((c : Thread RmsFwdReferenceIdeal.nD RmsFwdReferenceIdeal.τ).loc RmsFwdReferenceIdeal.main_arg1) = m' ((c : Thread RmsFwdReferenceIdeal.nD RmsFwdReferenceIdeal.τ).loc RmsFwdReferenceIdeal.main_arg1))
      ∧ r.2.sem = fun _ => 0 :=
  (θ_run _ _ _).mono (fun r h => ⟨fun c => (h c).2, sem_eq_zero_of_no_sems (by decide) r.2⟩) (RmsFwdReferenceIdeal.Value.run m' g')

theorem agrees : algebraic_RmsFwdIdeal_RmsFwdReferenceIdeal (hRmsFwdIdeal := Gen.facts) (hRmsFwdReferenceIdeal := RmsFwdReferenceIdeal.Gen.facts) := by
  intro m r m' r' _ hm
  refine ⟨fun c => whole (m ((c : Thread nD τ).loc main_arg0)) (m ((c : Thread nD τ).loc main_arg1)),
    (θ_run _ _ _).mono (fun _ h c => ⟨(h c).1.trans (arr m c), (h c).2⟩) (Value.run_blocks m r),
    (θ_run _ _ _).mono (fun _ h c => ⟨(h c).1.trans ((RmsFwdReferenceIdeal.Read.val_main_v13_eq (F := Ideal) _ _).trans ?_), (h c).2⟩) (RmsFwdReferenceIdeal.Value.run m' r')⟩
  obtain ⟨e0, e1⟩ := hm c
  rw [e0, e1]
  exact ref_eq _ _

end Cert.Rw.RmsFwd
-- ==== Proof.RwGateNormFwd.lean ====
/-
  The gated norm, entry by entry: four groups of 512 columns, each with a scale of its own.
-/
module

public import proofs.«01_k».proof.Defs
public import proofs.«01_k».proof.Proof.Mm
public import proofs.«01_k».proof.Proof.Gen.GateNormFwd.Frame
public import proofs.«01_k».proof.Proof.Gen.GateNormFwdIdeal.Value
public import proofs.«01_k».proof.Proof.Gen.GateNormFwdReferenceIdeal.Read
public import proofs.«01_k».proof.Proof.Gen.GateNormFwdReferenceIdeal.Run
public import proofs.«01_k».proof.Proof.Row
public import Idealize.ShloMosaic.Lib.Pipeline.ValueKit
@[expose] public section

set_option maxRecDepth 16384

noncomputable section

namespace Cert.Rw.GateNormFwd

open Cert.GateNormFwdIdeal Cert.GateNormFwdIdeal.Gen Idealize.ShloMosaic Idealize.ShloMosaic.TcCoe Idealize.SL.Sem
open Idealize.ShloMosaic.ValueIdx hiding ix1 ix2 ix3 ix4 ix5
open Idealize.ShloMosaic.Pointwise
open Cert.Mm (ix2_of)
open Cert.Ssd (scale silu ncol ncol_of gated gateNorm)

/-- The reference's memory. -/
abbrev RMem := (ℓ : Loc GateNormFwdReferenceIdeal.nD GateNormFwdReferenceIdeal.τ GateNormFwdReferenceIdeal.sig) → Buf (Elt Ideal) ℓ
/-- The kernel's memory. -/
abbrev KMem := (ℓ : Loc nD τ sig) → Buf (Elt Ideal) ℓ

/-- The gated norm by its entries. -/
def entry (x0 x1 : S4096x2048.Idx → EReal) (x2 : S2048.Idx → EReal) (i : Fin 4096) (g : Fin 4) (q : Fin 512) : EReal :=
  gateNorm (fun k => x0 (ix2 i (ncol g k))) (fun k => x1 (ix2 i (ncol g k))) (x2 (ix1 (ncol g q))) q

def whole (x0 x1 : S4096x2048.Idx → EReal) (x2 : S2048.Idx → EReal) (y : S4096x2048.Idx) : EReal :=
  entry x0 x1 x2 (y 0) ⟨(y 1).val / 512, by have : (y 1).val < 2048 := (y 1).isLt; omega⟩ ⟨(y 1).val % 512, by omega⟩

section
open GateNormFwdReferenceIdeal.Read

theorem v2_at (x0 x1 : S4096x2048.Idx → EReal) (i : Fin 4096) (j : Fin 2048) : val_main_v2 (F := Ideal) x0 x1 (ix2 i j) = gated (x0 (ix2 i j)) (x1 (ix2 i j)) := by
  pointwise [val_main_v2, val_main_v1, val_main_v0, val_main_call0_v5, val_main_call0_v4, val_main_call0_cst_0, val_main_call0_v3, val_main_call0_v2, val_main_call0_cst, val_main_call0_v1, val_main_call0_v0, gated, silu]
  all_goals rfl

theorem v3_at (x0 x1 : S4096x2048.Idx → EReal) (i : Fin 4096) (g : Fin 4) (q : Fin 512) :
    val_main_v3 (F := Ideal) x0 x1 (ix3 i g q) = gated (x0 (ix2 i (ncol g q))) (x1 (ix2 i (ncol g q))) := by
  refine Eq.trans ?_ (v2_at x0 x1 i (ncol g q))
  unfold val_main_v3
  generalize val_main_v2 (F := Ideal) x0 x1 = a
  pointwise [ncol]

theorem v17_at (x0 x1 : S4096x2048.Idx → EReal) (x2 : S2048.Idx → EReal) (i : Fin 4096) (g : Fin 4) (q : Fin 512) :
    val_main_v17 (F := Ideal) x0 x1 x2 (ix3 i g q) = entry x0 x1 x2 i g q := by
  have e := v3_at x0 x1 i g
  unfold entry gateNorm
  simp only [← e]
  unfold val_main_v17 val_main_v16 val_main_v15 val_main_v14 val_main_v13 val_main_v12 val_main_v11 val_main_v10 val_main_v9 val_main_v8 val_main_v7 val_main_v6 val_main_v5 val_main_v4 val_main_cst val_main_cst_0 val_main_cst_1
  generalize val_main_v3 (F := Ideal) x0 x1 = a
  pointwise [ncol, scale]

theorem ref_at (x0 x1 : S4096x2048.Idx → EReal) (x2 : S2048.Idx → EReal) (i : Fin 4096) (j : Fin 2048) :
    val_main_v19 (F := Ideal) x0 x1 x2 (ix2 i j) = whole x0 x1 x2 (ix2 i j) := by
  refine Eq.trans ?_ (v17_at x0 x1 x2 i ⟨j.val / 512, by omega⟩ ⟨j.val % 512, by omega⟩)
  unfold val_main_v19 val_main_v18
  generalize val_main_v17 (F := Ideal) x0 x1 x2 = a
  pointwise []

theorem ref_eq (x0 x1 : S4096x2048.Idx → EReal) (x2 : S2048.Idx → EReal) :
    val_main_v19 (F := Ideal) x0 x1 x2 = whole x0 x1 x2 := funext fun i =>
  (congrArg (val_main_v19 (F := Ideal) x0 x1 x2) (ix2_of i)).trans ((ref_at x0 x1 x2 (i 0) (i 1)).trans (congrArg (whole x0 x1 x2) (ix2_of i).symm))

end

variable (m : KMem) (c : Dev nD) (t : Fin cfg0.N)

def row (i : Fin 256) : Fin 4096 := ⟨256 * t.val + i.val, by have : t.val < 16 := t.isLt; omega⟩

theorem index_of : ∀ t : Fin cfg0.N, win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0])

def pa : FVec Ideal S256x2048 .f32 := iblk m c 0 t
def pb : FVec Ideal S256x2048 .bf16 := iblk m c 1 t
def pc : FVec Ideal S1x2048 .f32 := iblk m c 2 t

theorem pa_at (i : Fin 256) (q : Fin 2048) : pa m c t (ix2 i q) = m ((c : Thread nD τ).loc main_arg0) (ix2 (row t i) q) := by
  show iblk m c 0 t (ix2 i q) = _
  blk_ext! [iblk, V, index_of t, row]

theorem pb_at (i : Fin 256) (q : Fin 2048) : pb m c t (ix2 i q) = m ((c : Thread nD τ).loc main_arg1) (ix2 (row t i) q) := by
  show iblk m c 1 t (ix2 i q) = _
  blk_ext! [iblk, V, index_of t, row]

theorem pc_at (q : Fin 2048) : pc m c t (ix2 0 q) = m ((c : Thread nD τ).loc main_arg2) (ix1 q) := by
  show iblk m c 2 t (ix2 0 q) = _
  blk_ext! [iblk, V, index_of t]

section
variable (a : FVec Ideal S256x512 .f32) (b : FVec Ideal S256x512 .bf16) (w : FVec Ideal S1x512 .f32) (i : Fin 256) (q : Fin 512)

def one : EReal := gateNorm (fun k => a (ix2 i k)) (fun k => b (ix2 i k)) (w (ix2 0 q)) q

theorem p2 : k0_pay2 (F := Ideal) a b w (ix2 i q) = one a b w i q := by
  pointwise [k0_pay2, one, gateNorm, gated, scale, silu]
  all_goals rfl
theorem p4 : k0_pay4 (F := Ideal) (k0_pay3 a b) w (ix2 i q) = one a b w i q := by
  pointwise [k0_pay4, k0_pay3, one, gateNorm, gated, scale, silu]
  all_goals rfl
theorem p5 : k0_pay5 (F := Ideal) a b w (ix2 i q) = one a b w i q := by
  pointwise [k0_pay5, one, gateNorm, gated, scale, silu]
  all_goals rfl
theorem p1 : k0_pay1 (F := Ideal) (k0_pay6 a b) (k0_pay7 a b) w (ix2 i q) = one a b w i q := by
  pointwise [k0_pay1, k0_pay6, k0_pay7, one, gateNorm, gated, scale, silu]
  all_goals rfl
end

theorem lda (x : FVec Ideal S256x2048 .f32) (i : Fin 256) (q : Fin 512) (b : ℕ) (h) (j : Fin 2048) (hj : j.val = b + q.val) :
    View.ld (Val := Elt Ideal) (e' := .f32) x (Rect.unit (s := S256x2048) ![0, b] S256x512.size h) (ix2 i q) = x (ix2 i j) :=
  congrArg x (funext fun a => Fin.ext (by
    match a with
    | ⟨0, _⟩ => show 0 + 1 * i.val = i.val; omega
    | ⟨1, _⟩ => show b + 1 * q.val = j.val; omega))

theorem ldb (x : FVec Ideal S256x2048 .bf16) (i : Fin 256) (q : Fin 512) (b : ℕ) (h) (j : Fin 2048) (hj : j.val = b + q.val) :
    View.ld (Val := Elt Ideal) (e' := .bf16) x (Rect.unit (s := S256x2048) ![0, b] S256x512.size h) (ix2 i q) = x (ix2 i j) :=
  congrArg x (funext fun a => Fin.ext (by
    match a with
    | ⟨0, _⟩ => show 0 + 1 * i.val = i.val; omega
    | ⟨1, _⟩ => show b + 1 * q.val = j.val; omega))

theorem ldc (x : FVec Ideal S1x2048 .f32) (q : Fin 512) (b : ℕ) (h) (j : Fin 2048) (hj : j.val = b + q.val) :
    View.ld (Val := Elt Ideal) (e' := .f32) x (Rect.unit (s := S1x2048) ![0, b] S1x512.size h) (ix2 0 q) = x (ix2 0 j) :=
  congrArg x (funext fun a => Fin.ext (by
    match a with
    | ⟨0, _⟩ => rfl
    | ⟨1, _⟩ => show b + 1 * q.val = j.val; omega))

theorem one_ld (x0 : FVec Ideal S256x2048 .f32) (x1 : FVec Ideal S256x2048 .bf16) (x2 : FVec Ideal S1x2048 .f32) (b : ℕ) (h0) (h1) (h2) (g : Fin 4) (hb : b = g.val * 512)
    (i : Fin 256) (q : Fin 512) :
    one (View.ld (Val := Elt Ideal) (e' := .f32) x0 (Rect.unit (s := S256x2048) ![0, b] S256x512.size h0))
      (View.ld (Val := Elt Ideal) (e' := .bf16) x1 (Rect.unit (s := S256x2048) ![0, b] S256x512.size h1))
      (View.ld (Val := Elt Ideal) (e' := .f32) x2 (Rect.unit (s := S1x2048) ![0, b] S1x512.size h2)) i q
      = gateNorm (fun k => x0 (ix2 i (ncol g k))) (fun k => x1 (ix2 i (ncol g k))) (x2 (ix2 0 (ncol g q))) q := by
  have ej : ∀ k : Fin 512, (ncol g k).val = b + k.val := fun k => by rw [hb]; rfl
  refine (congrArg₂ (fun u v => gateNorm u v _ q) (funext fun k => lda x0 i k b h0 _ (ej k)) (funext fun k => ldb x1 i k b h1 _ (ej k))).trans ?_
  exact congrArg (fun u => gateNorm _ _ u q) (ldc x2 q b h2 _ (ej q))

def po : FVec Ideal S256x2048 .bf16 := out0_3 (iblk m c 0 t) (iblk m c 1 t) (iblk m c 2 t)

theorem out_pt (i : Fin 256) (g : Fin 4) (q : Fin 512) : po m c t (ix2 i (ncol g q)) =
    gateNorm (fun k => pa m c t (ix2 i (ncol g k))) (fun k => pb m c t (ix2 i (ncol g k))) (pc m c t (ix2 0 (ncol g q))) q := by
  unfold po out0_3
  have ea : iblk m c 0 t = pa m c t := rfl
  have eb : iblk m c 1 t = pb m c t := rfl
  have ec : iblk m c 2 t = pc m c t := rfl
  rw [ea, eb, ec]
  generalize pa m c t = a
  generalize pb m c t = b
  generalize pc m c t = w
  canon_tiles x hx
  · have e0 : i = x 0 := Fin.ext hx0
    have e1 : g.val * 512 + q.val = 1536 + (x 1).val := hx1
    have hl : (x 1).val < 512 := (x 1).isLt
    have eg : g = 3 := Fin.ext (by show g.val = 3; omega)
    have eq : q = x 1 := Fin.ext (by rw [eg] at e1; have e1 : 3 * 512 + q.val = 1536 + (x 1).val := e1; omega)
    rw [e0, eg, eq]
    exact (congrArg _ (ix2_of x)).trans ((p1 _ _ _ (x 0) (x 1)).trans (one_ld a b w 1536 _ _ _ 3 rfl (x 0) (x 1)))
  · have e0 : i = x 0 := Fin.ext hx0
    have e1 : g.val * 512 + q.val = 1024 + (x 1).val := hx1
    have hl : (x 1).val < 512 := (x 1).isLt
    have eg : g = 2 := Fin.ext (by show g.val = 2; omega)
    have eq : q = x 1 := Fin.ext (by rw [eg] at e1; have e1 : 2 * 512 + q.val = 1024 + (x 1).val := e1; omega)
    rw [e0, eg, eq]
    exact (congrArg _ (ix2_of x)).trans ((p5 _ _ _ (x 0) (x 1)).trans (one_ld a b w 1024 _ _ _ 2 rfl (x 0) (x 1)))
  · have e0 : i = x 0 := Fin.ext hx0
    have e1 : g.val * 512 + q.val = 512 + (x 1).val := hx1
    have hl : (x 1).val < 512 := (x 1).isLt
    have eg : g = 1 := Fin.ext (by show g.val = 1; omega)
    have eq : q = x 1 := Fin.ext (by rw [eg] at e1; have e1 : 1 * 512 + q.val = 512 + (x 1).val := e1; omega)
    rw [e0, eg, eq]
    exact (congrArg _ (ix2_of x)).trans ((p4 _ _ _ (x 0) (x 1)).trans (one_ld a b w 512 _ _ _ 1 rfl (x 0) (x 1)))
  · have e0 : i = x 0 := Fin.ext hx0
    have e1 : g.val * 512 + q.val = (x 1).val := hx1
    have hl : (x 1).val < 512 := (x 1).isLt
    have eg : g = 0 := Fin.ext (by show g.val = 0; omega)
    have eq : q = x 1 := Fin.ext (by rw [eg] at e1; have e1 : 0 * 512 + q.val = (x 1).val := e1; omega)
    rw [e0, eg, eq]
    exact (congrArg _ (ix2_of x)).trans ((p2 _ _ _ (x 0) (x 1)).trans (one_ld a b w 0 _ _ _ 0 rfl (x 0) (x 1)))

theorem out_at (i : Fin 256) (g : Fin 4) (q : Fin 512) :
    po m c t (ix2 i (ncol g q)) = entry (m ((c : Thread nD τ).loc main_arg0)) (m ((c : Thread nD τ).loc main_arg1)) (m ((c : Thread nD τ).loc main_arg2)) (row t i) g q := by
  rw [out_pt]
  unfold entry
  refine (congrArg₂ (fun u v => gateNorm u v _ q) (funext fun k => pa_at m c t i _) (funext fun k => pb_at m c t i _)).trans ?_
  exact congrArg (fun u => gateNorm _ _ u q) (pc_at m c t _)

theorem block_at (y : S256x2048.Idx) :
    (po m c t) y = whole (m ((c : Thread nD τ).loc main_arg0)) (m ((c : Thread nD τ).loc main_arg1)) (m ((c : Thread nD τ).loc main_arg2)) (((cfg0.win 3).blk t).view.emb y) := by
  have e0 : ((((cfg0.win 3).blk t).view.emb y) 0 : ℕ) = 256 * t.val + (y 0).val := by
    blk_simp [index_of t]
    omega
  have e1 : ((((cfg0.win 3).blk t).view.emb y) 1 : ℕ) = (y 1).val := by
    blk_simp [index_of t]
  have hl : (y 1).val < 2048 := (y 1).isLt
  have ey : y = ix2 (y 0) (ncol ⟨(y 1).val / 512, by omega⟩ ⟨(y 1).val % 512, by omega⟩) :=
    (ix2_of y).trans (congrArg (ix2 (y 0)) (ncol_of (y 1)).symm)
  refine (congrArg (po m c t) ey).trans ((out_at m c t (y 0) _ _).trans ?_)
  unfold whole
  refine Eq.trans (congrArg (fun i => entry _ _ _ i _ _) (Fin.ext e0.symm)) ?_
  exact congrArg₂ (entry _ _ _ _) (Fin.ext (congrArg (· / 512) e1.symm)) (Fin.ext (congrArg (· % 512) e1.symm))

theorem arr : (dats m 0 c).arrAt 3 cfg0.N = whole (m ((c : Thread nD τ).loc main_arg0)) (m ((c : Thread nD τ).loc main_arg1)) (m ((c : Thread nD τ).loc main_arg2)) :=
  (dats m 0 c).arrAt_eq_of_covers 3 _ (by decide +kernel) fun t hf y => (congrFun (after0_3 m c t) y).trans (block_at m c t y)

theorem ref_frame (m' : RMem) (g' : Dev GateNormFwdReferenceIdeal.nD → PrngReg) :
    θ_run (GateNormFwdReferenceIdeal.defs (F := Ideal)) (onTc (τ := GateNormFwdReferenceIdeal.τ) (GateNormFwdReferenceIdeal.main (F := Ideal))) ⟨m', fun _ => 0, g'⟩ fun r => (∀ c : Dev GateNormFwdReferenceIdeal.nD,
      r.2.mem ((c : Thread GateNormFwdReferenceIdeal.nD GateNormFwdReferenceIdeal.τ).loc GateNormFwdReferenceIdeal.main_arg0) = m' ((c : Thread GateNormFwdReferenceIdeal.nD GateNormFwdReferenceIdeal.τ).loc GateNormFwdReferenceIdeal.main_arg0)
      ∧ r.2.mem ((c : Thread GateNormFwdReferenceIdeal.nD GateNormFwdReferenceIdeal.τ).loc GateNormFwdReferenceIdeal.main_arg1) = m' ((c : Thread GateNormFwdReferenceIdeal.nD GateNormFwdReferenceIdeal.τ).loc GateNormFwdReferenceIdeal.main_arg1)
      ∧ r.2.mem ((c : Thread GateNormFwdReferenceIdeal.nD GateNormFwdReferenceIdeal.τ).loc GateNormFwdReferenceIdeal.main_arg2) = m' ((c : Thread GateNormFwdReferenceIdeal.nD GateNormFwdReferenceIdeal.τ).loc GateNormFwdReferenceIdeal.main_arg2))
      ∧ r.2.sem = fun _ => 0 :=
  (θ_run _ _ _).mono (fun r h => ⟨fun c => (h c).2, sem_eq_zero_of_no_sems (by decide) r.2⟩) (GateNormFwdReferenceIdeal.Value.run m' g')

theorem agrees : algebraic_GateNormFwdIdeal_GateNormFwdReferenceIdeal (hGateNormFwdIdeal := Gen.facts) (hGateNormFwdReferenceIdeal := GateNormFwdReferenceIdeal.Gen.facts) := by
  intro m r m' r' _ hm
  refine ⟨fun c => whole (m ((c : Thread nD τ).loc main_arg0)) (m ((c : Thread nD τ).loc main_arg1)) (m ((c : Thread nD τ).loc main_arg2)),
    (θ_run _ _ _).mono (fun _ h c => ⟨(h c).1.trans (arr m c), (h c).2⟩) (Value.run_blocks m r),
    (θ_run _ _ _).mono (fun _ h c => ⟨(h c).1.trans ((GateNormFwdReferenceIdeal.Read.val_main_v19_eq (F := Ideal) _ _ _).trans ?_), (h c).2⟩) (GateNormFwdReferenceIdeal.Value.run m' r')⟩
  obtain ⟨e0, e1, e2⟩ := hm c
  rw [e0, e1, e2]
  exact ref_eq _ _ _

end Cert.Rw.GateNormFwd
-- ==== Proof.RwAdamwIn.lean ====
/-
  The optimiser's step, entry by entry.
-/
module

public import proofs.«01_k».proof.Defs
public import proofs.«01_k».proof.Proof.Mm
public import proofs.«01_k».proof.Proof.Gen.AdamwIn.Frame
public import proofs.«01_k».proof.Proof.Gen.AdamwInIdeal.Value
public import proofs.«01_k».proof.Proof.Gen.AdamwInReferenceIdeal.Read
public import proofs.«01_k».proof.Proof.Gen.AdamwInReferenceIdeal.Run
@[expose] public section

set_option maxRecDepth 16384

noncomputable section

namespace Cert.Rw.AdamwIn

open Cert.AdamwInIdeal Cert.AdamwInIdeal.Gen Idealize.ShloMosaic Idealize.ShloMosaic.TcCoe Idealize.SL.Sem

/-- The reference's memory. -/
abbrev RMem := (ℓ : Loc AdamwInReferenceIdeal.nD AdamwInReferenceIdeal.τ AdamwInReferenceIdeal.sig) → Buf (Elt Ideal) ℓ
/-- The kernel's memory. -/
abbrev KMem := (ℓ : Loc nD τ sig) → Buf (Elt Ideal) ℓ

theorem g4_eq (x0 x1 x2 x3 : (⟨AdamwInReferenceIdeal.S1024x644, .f32⟩ : BufTy).Contents (Elt Ideal)) :
    AdamwInReferenceIdeal.Read.val_main_v23 (F := Ideal) x0 x1 x2 x3 = Value.G4 (F := Ideal) x1 x2 x3 x0 := rfl

theorem g5_eq (x1 x2 : (⟨AdamwInReferenceIdeal.S1024x644, .f32⟩ : BufTy).Contents (Elt Ideal)) :
    AdamwInReferenceIdeal.Read.val_main_v4 (F := Ideal) x1 x2 = Value.G5 (F := Ideal) x1 x2 := rfl

theorem g6_eq (x1 x3 : (⟨AdamwInReferenceIdeal.S1024x644, .f32⟩ : BufTy).Contents (Elt Ideal)) :
    AdamwInReferenceIdeal.Read.val_main_v10 (F := Ideal) x1 x3 = Value.G6 (F := Ideal) x1 x3 := rfl

theorem ref_frame (m' : RMem) (g' : Dev AdamwInReferenceIdeal.nD → PrngReg) :
    θ_run (AdamwInReferenceIdeal.defs (F := Ideal)) (onTc (τ := AdamwInReferenceIdeal.τ) (AdamwInReferenceIdeal.main (F := Ideal))) ⟨m', fun _ => 0, g'⟩ fun r => (∀ c : Dev AdamwInReferenceIdeal.nD,
      r.2.mem ((c : Thread AdamwInReferenceIdeal.nD AdamwInReferenceIdeal.τ).loc AdamwInReferenceIdeal.main_arg0) = m' ((c : Thread AdamwInReferenceIdeal.nD AdamwInReferenceIdeal.τ).loc AdamwInReferenceIdeal.main_arg0)
      ∧ r.2.mem ((c : Thread AdamwInReferenceIdeal.nD AdamwInReferenceIdeal.τ).loc AdamwInReferenceIdeal.main_arg1) = m' ((c : Thread AdamwInReferenceIdeal.nD AdamwInReferenceIdeal.τ).loc AdamwInReferenceIdeal.main_arg1)
      ∧ r.2.mem ((c : Thread AdamwInReferenceIdeal.nD AdamwInReferenceIdeal.τ).loc AdamwInReferenceIdeal.main_arg2) = m' ((c : Thread AdamwInReferenceIdeal.nD AdamwInReferenceIdeal.τ).loc AdamwInReferenceIdeal.main_arg2)
      ∧ r.2.mem ((c : Thread AdamwInReferenceIdeal.nD AdamwInReferenceIdeal.τ).loc AdamwInReferenceIdeal.main_arg3) = m' ((c : Thread AdamwInReferenceIdeal.nD AdamwInReferenceIdeal.τ).loc AdamwInReferenceIdeal.main_arg3))
      ∧ r.2.sem = fun _ => 0 :=
  (θ_run _ _ _).mono (fun r h => ⟨fun c => (h c).2.2.2, sem_eq_zero_of_no_sems (by decide) r.2⟩) (AdamwInReferenceIdeal.Value.run m' g')

theorem agrees : algebraic_AdamwInIdeal_AdamwInReferenceIdeal (hAdamwInIdeal := Gen.facts) (hAdamwInReferenceIdeal := AdamwInReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwInReferenceIdeal.Read.val_main_v23_eq (F := Ideal) _ _ _ _).trans ((g4_eq _ _ _ _).trans (by rw [(hm c).2.1, (hm c).2.2.1, (hm c).2.2.2, (hm c).1]))),
    (h c).2.1.trans ((AdamwInReferenceIdeal.Read.val_main_v4_eq (F := Ideal) _ _).trans ((g5_eq _ _).trans (by rw [(hm c).2.1, (hm c).2.2.1]))),
    (h c).2.2.1.trans ((AdamwInReferenceIdeal.Read.val_main_v10_eq (F := Ideal) _ _).trans ((g6_eq _ _).trans (by rw [(hm c).2.1, (hm c).2.2.2]))),
    (h c).2.2.2⟩) (AdamwInReferenceIdeal.Value.run m' r')⟩

end Cert.Rw.AdamwIn
-- ==== Proof.RwAdamwQkv.lean ====
/-
  The optimiser's step, entry by entry.
-/
module

public import proofs.«01_k».proof.Defs
public import proofs.«01_k».proof.Proof.Mm
public import proofs.«01_k».proof.Proof.Gen.AdamwQkv.Frame
public import proofs.«01_k».proof.Proof.Gen.AdamwQkvIdeal.Value
public import proofs.«01_k».proof.Proof.Gen.AdamwQkvReferenceIdeal.Read
public import proofs.«01_k».proof.Proof.Gen.AdamwQkvReferenceIdeal.Run
@[expose] public section

set_option maxRecDepth 16384

noncomputable section

namespace Cert.Rw.AdamwQkv

open Cert.AdamwQkvIdeal Cert.AdamwQkvIdeal.Gen Idealize.ShloMosaic Idealize.ShloMosaic.TcCoe Idealize.SL.Sem

/-- The reference's memory. -/
abbrev RMem := (ℓ : Loc AdamwQkvReferenceIdeal.nD AdamwQkvReferenceIdeal.τ AdamwQkvReferenceIdeal.sig) → Buf (Elt Ideal) ℓ
/-- The kernel's memory. -/
abbrev KMem := (ℓ : Loc nD τ sig) → Buf (Elt Ideal) ℓ

theorem g4_eq (x0 x1 x2 x3 : (⟨AdamwQkvReferenceIdeal.S1024x1152, .f32⟩ : BufTy).Contents (Elt Ideal)) :
    AdamwQkvReferenceIdeal.Read.val_main_v23 (F := Ideal) x0 x1 x2 x3 = Value.G4 (F := Ideal) x1 x2 x3 x0 := rfl

theorem g5_eq (x1 x2 : (⟨AdamwQkvReferenceIdeal.S1024x1152, .f32⟩ : BufTy).Contents (Elt Ideal)) :
    AdamwQkvReferenceIdeal.Read.val_main_v4 (F := Ideal) x1 x2 = Value.G5 (F := Ideal) x1 x2 := rfl

theorem g6_eq (x1 x3 : (⟨AdamwQkvReferenceIdeal.S1024x1152, .f32⟩ : BufTy).Contents (Elt Ideal)) :
    AdamwQkvReferenceIdeal.Read.val_main_v10 (F := Ideal) x1 x3 = Value.G6 (F := Ideal) x1 x3 := rfl

theorem ref_frame (m' : RMem) (g' : Dev AdamwQkvReferenceIdeal.nD → PrngReg) :
    θ_run (AdamwQkvReferenceIdeal.defs (F := Ideal)) (onTc (τ := AdamwQkvReferenceIdeal.τ) (AdamwQkvReferenceIdeal.main (F := Ideal))) ⟨m', fun _ => 0, g'⟩ fun r => (∀ c : Dev AdamwQkvReferenceIdeal.nD,
      r.2.mem ((c : Thread AdamwQkvReferenceIdeal.nD AdamwQkvReferenceIdeal.τ).loc AdamwQkvReferenceIdeal.main_arg0) = m' ((c : Thread AdamwQkvReferenceIdeal.nD AdamwQkvReferenceIdeal.τ).loc AdamwQkvReferenceIdeal.main_arg0)
      ∧ r.2.mem ((c : Thread AdamwQkvReferenceIdeal.nD AdamwQkvReferenceIdeal.τ).loc AdamwQkvReferenceIdeal.main_arg1) = m' ((c : Thread AdamwQkvReferenceIdeal.nD AdamwQkvReferenceIdeal.τ).loc AdamwQkvReferenceIdeal.main_arg1)
      ∧ r.2.mem ((c : Thread AdamwQkvReferenceIdeal.nD AdamwQkvReferenceIdeal.τ).loc AdamwQkvReferenceIdeal.main_arg2) = m' ((c : Thread AdamwQkvReferenceIdeal.nD AdamwQkvReferenceIdeal.τ).loc AdamwQkvReferenceIdeal.main_arg2)
      ∧ r.2.mem ((c : Thread AdamwQkvReferenceIdeal.nD AdamwQkvReferenceIdeal.τ).loc AdamwQkvReferenceIdeal.main_arg3) = m' ((c : Thread AdamwQkvReferenceIdeal.nD AdamwQkvReferenceIdeal.τ).loc AdamwQkvReferenceIdeal.main_arg3))
      ∧ r.2.sem = fun _ => 0 :=
  (θ_run _ _ _).mono (fun r h => ⟨fun c => (h c).2.2.2, sem_eq_zero_of_no_sems (by decide) r.2⟩) (AdamwQkvReferenceIdeal.Value.run m' g')

theorem agrees : algebraic_AdamwQkvIdeal_AdamwQkvReferenceIdeal (hAdamwQkvIdeal := Gen.facts) (hAdamwQkvReferenceIdeal := AdamwQkvReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwQkvReferenceIdeal.Read.val_main_v23_eq (F := Ideal) _ _ _ _).trans ((g4_eq _ _ _ _).trans (by rw [(hm c).2.1, (hm c).2.2.1, (hm c).2.2.2, (hm c).1]))),
    (h c).2.1.trans ((AdamwQkvReferenceIdeal.Read.val_main_v4_eq (F := Ideal) _ _).trans ((g5_eq _ _).trans (by rw [(hm c).2.1, (hm c).2.2.1]))),
    (h c).2.2.1.trans ((AdamwQkvReferenceIdeal.Read.val_main_v10_eq (F := Ideal) _ _).trans ((g6_eq _ _).trans (by rw [(hm c).2.1, (hm c).2.2.2]))),
    (h c).2.2.2⟩) (AdamwQkvReferenceIdeal.Value.run m' r')⟩

end Cert.Rw.AdamwQkv
-- ==== Proof.RwAdamwGu.lean ====
/-
  The optimiser's step, entry by entry.
-/
module

public import proofs.«01_k».proof.Defs
public import proofs.«01_k».proof.Proof.Mm
public import proofs.«01_k».proof.Proof.Gen.AdamwGu.Frame
public import proofs.«01_k».proof.Proof.Gen.AdamwGuIdeal.Value
public import proofs.«01_k».proof.Proof.Gen.AdamwGuReferenceIdeal.Read
public import proofs.«01_k».proof.Proof.Gen.AdamwGuReferenceIdeal.Run
@[expose] public section

set_option maxRecDepth 16384

noncomputable section

namespace Cert.Rw.AdamwGu

open Cert.AdamwGuIdeal Cert.AdamwGuIdeal.Gen Idealize.ShloMosaic Idealize.ShloMosaic.TcCoe Idealize.SL.Sem

/-- The reference's memory. -/
abbrev RMem := (ℓ : Loc AdamwGuReferenceIdeal.nD AdamwGuReferenceIdeal.τ AdamwGuReferenceIdeal.sig) → Buf (Elt Ideal) ℓ
/-- The kernel's memory. -/
abbrev KMem := (ℓ : Loc nD τ sig) → Buf (Elt Ideal) ℓ

theorem g4_eq (x0 x1 x2 x3 : (⟨AdamwGuReferenceIdeal.S2048x352, .f32⟩ : BufTy).Contents (Elt Ideal)) :
    AdamwGuReferenceIdeal.Read.val_main_v23 (F := Ideal) x0 x1 x2 x3 = Value.G4 (F := Ideal) x1 x2 x3 x0 := rfl

theorem g5_eq (x1 x2 : (⟨AdamwGuReferenceIdeal.S2048x352, .f32⟩ : BufTy).Contents (Elt Ideal)) :
    AdamwGuReferenceIdeal.Read.val_main_v4 (F := Ideal) x1 x2 = Value.G5 (F := Ideal) x1 x2 := rfl

theorem g6_eq (x1 x3 : (⟨AdamwGuReferenceIdeal.S2048x352, .f32⟩ : BufTy).Contents (Elt Ideal)) :
    AdamwGuReferenceIdeal.Read.val_main_v10 (F := Ideal) x1 x3 = Value.G6 (F := Ideal) x1 x3 := rfl

theorem ref_frame (m' : RMem) (g' : Dev AdamwGuReferenceIdeal.nD → PrngReg) :
    θ_run (AdamwGuReferenceIdeal.defs (F := Ideal)) (onTc (τ := AdamwGuReferenceIdeal.τ) (AdamwGuReferenceIdeal.main (F := Ideal))) ⟨m', fun _ => 0, g'⟩ fun r => (∀ c : Dev AdamwGuReferenceIdeal.nD,
      r.2.mem ((c : Thread AdamwGuReferenceIdeal.nD AdamwGuReferenceIdeal.τ).loc AdamwGuReferenceIdeal.main_arg0) = m' ((c : Thread AdamwGuReferenceIdeal.nD AdamwGuReferenceIdeal.τ).loc AdamwGuReferenceIdeal.main_arg0)
      ∧ r.2.mem ((c : Thread AdamwGuReferenceIdeal.nD AdamwGuReferenceIdeal.τ).loc AdamwGuReferenceIdeal.main_arg1) = m' ((c : Thread AdamwGuReferenceIdeal.nD AdamwGuReferenceIdeal.τ).loc AdamwGuReferenceIdeal.main_arg1)
      ∧ r.2.mem ((c : Thread AdamwGuReferenceIdeal.nD AdamwGuReferenceIdeal.τ).loc AdamwGuReferenceIdeal.main_arg2) = m' ((c : Thread AdamwGuReferenceIdeal.nD AdamwGuReferenceIdeal.τ).loc AdamwGuReferenceIdeal.main_arg2)
      ∧ r.2.mem ((c : Thread AdamwGuReferenceIdeal.nD AdamwGuReferenceIdeal.τ).loc AdamwGuReferenceIdeal.main_arg3) = m' ((c : Thread AdamwGuReferenceIdeal.nD AdamwGuReferenceIdeal.τ).loc AdamwGuReferenceIdeal.main_arg3))
      ∧ r.2.sem = fun _ => 0 :=
  (θ_run _ _ _).mono (fun r h => ⟨fun c => (h c).2.2.2, sem_eq_zero_of_no_sems (by decide) r.2⟩) (AdamwGuReferenceIdeal.Value.run m' g')

theorem agrees : algebraic_AdamwGuIdeal_AdamwGuReferenceIdeal (hAdamwGuIdeal := Gen.facts) (hAdamwGuReferenceIdeal := AdamwGuReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwGuReferenceIdeal.Read.val_main_v23_eq (F := Ideal) _ _ _ _).trans ((g4_eq _ _ _ _).trans (by rw [(hm c).2.1, (hm c).2.2.1, (hm c).2.2.2, (hm c).1]))),
    (h c).2.1.trans ((AdamwGuReferenceIdeal.Read.val_main_v4_eq (F := Ideal) _ _).trans ((g5_eq _ _).trans (by rw [(hm c).2.1, (hm c).2.2.1]))),
    (h c).2.2.1.trans ((AdamwGuReferenceIdeal.Read.val_main_v10_eq (F := Ideal) _ _).trans ((g6_eq _ _).trans (by rw [(hm c).2.1, (hm c).2.2.2]))),
    (h c).2.2.2⟩) (AdamwGuReferenceIdeal.Value.run m' r')⟩

end Cert.Rw.AdamwGu
-- ==== Proof.RwAdamwProj.lean ====
/-
  The optimiser's step, entry by entry.
-/
module

public import proofs.«01_k».proof.Defs
public import proofs.«01_k».proof.Proof.Mm
public import proofs.«01_k».proof.Proof.Gen.AdamwProj.Frame
public import proofs.«01_k».proof.Proof.Gen.AdamwProjIdeal.Value
public import proofs.«01_k».proof.Proof.Gen.AdamwProjReferenceIdeal.Read
public import proofs.«01_k».proof.Proof.Gen.AdamwProjReferenceIdeal.Run
@[expose] public section

set_option maxRecDepth 16384

noncomputable section

namespace Cert.Rw.AdamwProj

open Cert.AdamwProjIdeal Cert.AdamwProjIdeal.Gen Idealize.ShloMosaic Idealize.ShloMosaic.TcCoe Idealize.SL.Sem

/-- The reference's memory. -/
abbrev RMem := (ℓ : Loc AdamwProjReferenceIdeal.nD AdamwProjReferenceIdeal.τ AdamwProjReferenceIdeal.sig) → Buf (Elt Ideal) ℓ
/-- The kernel's memory. -/
abbrev KMem := (ℓ : Loc nD τ sig) → Buf (Elt Ideal) ℓ

theorem g4_eq (x0 x1 x2 x3 : (⟨AdamwProjReferenceIdeal.S512x128, .f32⟩ : BufTy).Contents (Elt Ideal)) :
    AdamwProjReferenceIdeal.Read.val_main_v23 (F := Ideal) x0 x1 x2 x3 = Value.G4 (F := Ideal) x1 x2 x3 x0 := rfl

theorem g5_eq (x1 x2 : (⟨AdamwProjReferenceIdeal.S512x128, .f32⟩ : BufTy).Contents (Elt Ideal)) :
    AdamwProjReferenceIdeal.Read.val_main_v4 (F := Ideal) x1 x2 = Value.G5 (F := Ideal) x1 x2 := rfl

theorem g6_eq (x1 x3 : (⟨AdamwProjReferenceIdeal.S512x128, .f32⟩ : BufTy).Contents (Elt Ideal)) :
    AdamwProjReferenceIdeal.Read.val_main_v10 (F := Ideal) x1 x3 = Value.G6 (F := Ideal) x1 x3 := rfl

theorem ref_frame (m' : RMem) (g' : Dev AdamwProjReferenceIdeal.nD → PrngReg) :
    θ_run (AdamwProjReferenceIdeal.defs (F := Ideal)) (onTc (τ := AdamwProjReferenceIdeal.τ) (AdamwProjReferenceIdeal.main (F := Ideal))) ⟨m', fun _ => 0, g'⟩ fun r => (∀ c : Dev AdamwProjReferenceIdeal.nD,
      r.2.mem ((c : Thread AdamwProjReferenceIdeal.nD AdamwProjReferenceIdeal.τ).loc AdamwProjReferenceIdeal.main_arg0) = m' ((c : Thread AdamwProjReferenceIdeal.nD AdamwProjReferenceIdeal.τ).loc AdamwProjReferenceIdeal.main_arg0)
      ∧ r.2.mem ((c : Thread AdamwProjReferenceIdeal.nD AdamwProjReferenceIdeal.τ).loc AdamwProjReferenceIdeal.main_arg1) = m' ((c : Thread AdamwProjReferenceIdeal.nD AdamwProjReferenceIdeal.τ).loc AdamwProjReferenceIdeal.main_arg1)
      ∧ r.2.mem ((c : Thread AdamwProjReferenceIdeal.nD AdamwProjReferenceIdeal.τ).loc AdamwProjReferenceIdeal.main_arg2) = m' ((c : Thread AdamwProjReferenceIdeal.nD AdamwProjReferenceIdeal.τ).loc AdamwProjReferenceIdeal.main_arg2)
      ∧ r.2.mem ((c : Thread AdamwProjReferenceIdeal.nD AdamwProjReferenceIdeal.τ).loc AdamwProjReferenceIdeal.main_arg3) = m' ((c : Thread AdamwProjReferenceIdeal.nD AdamwProjReferenceIdeal.τ).loc AdamwProjReferenceIdeal.main_arg3))
      ∧ r.2.sem = fun _ => 0 :=
  (θ_run _ _ _).mono (fun r h => ⟨fun c => (h c).2.2.2, sem_eq_zero_of_no_sems (by decide) r.2⟩) (AdamwProjReferenceIdeal.Value.run m' g')

theorem agrees : algebraic_AdamwProjIdeal_AdamwProjReferenceIdeal (hAdamwProjIdeal := Gen.facts) (hAdamwProjReferenceIdeal := AdamwProjReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwProjReferenceIdeal.Read.val_main_v23_eq (F := Ideal) _ _ _ _).trans ((g4_eq _ _ _ _).trans (by rw [(hm c).2.1, (hm c).2.2.1, (hm c).2.2.2, (hm c).1]))),
    (h c).2.1.trans ((AdamwProjReferenceIdeal.Read.val_main_v4_eq (F := Ideal) _ _).trans ((g5_eq _ _).trans (by rw [(hm c).2.1, (hm c).2.2.1]))),
    (h c).2.2.1.trans ((AdamwProjReferenceIdeal.Read.val_main_v10_eq (F := Ideal) _ _).trans ((g6_eq _ _).trans (by rw [(hm c).2.1, (hm c).2.2.2]))),
    (h c).2.2.2⟩) (AdamwProjReferenceIdeal.Value.run m' r')⟩

end Cert.Rw.AdamwProj
-- ==== Proof.RwAdamwOut.lean ====
/-
  The optimiser's step, entry by entry.
-/
module

public import proofs.«01_k».proof.Defs
public import proofs.«01_k».proof.Proof.Mm
public import proofs.«01_k».proof.Proof.Gen.AdamwOut.Frame
public import proofs.«01_k».proof.Proof.Gen.AdamwOutIdeal.Value
public import proofs.«01_k».proof.Proof.Gen.AdamwOutReferenceIdeal.Read
public import proofs.«01_k».proof.Proof.Gen.AdamwOutReferenceIdeal.Run
@[expose] public section

set_option maxRecDepth 16384

noncomputable section

namespace Cert.Rw.AdamwOut

open Cert.AdamwOutIdeal Cert.AdamwOutIdeal.Gen Idealize.ShloMosaic Idealize.ShloMosaic.TcCoe Idealize.SL.Sem

/-- The reference's memory. -/
abbrev RMem := (ℓ : Loc AdamwOutReferenceIdeal.nD AdamwOutReferenceIdeal.τ AdamwOutReferenceIdeal.sig) → Buf (Elt Ideal) ℓ
/-- The kernel's memory. -/
abbrev KMem := (ℓ : Loc nD τ sig) → Buf (Elt Ideal) ℓ

theorem g4_eq (x0 x1 x2 x3 : (⟨AdamwOutReferenceIdeal.S256x1024, .f32⟩ : BufTy).Contents (Elt Ideal)) :
    AdamwOutReferenceIdeal.Read.val_main_v23 (F := Ideal) x0 x1 x2 x3 = Value.G4 (F := Ideal) x1 x2 x3 x0 := rfl

theorem g5_eq (x1 x2 : (⟨AdamwOutReferenceIdeal.S256x1024, .f32⟩ : BufTy).Contents (Elt Ideal)) :
    AdamwOutReferenceIdeal.Read.val_main_v4 (F := Ideal) x1 x2 = Value.G5 (F := Ideal) x1 x2 := rfl

theorem g6_eq (x1 x3 : (⟨AdamwOutReferenceIdeal.S256x1024, .f32⟩ : BufTy).Contents (Elt Ideal)) :
    AdamwOutReferenceIdeal.Read.val_main_v10 (F := Ideal) x1 x3 = Value.G6 (F := Ideal) x1 x3 := rfl

theorem ref_frame (m' : RMem) (g' : Dev AdamwOutReferenceIdeal.nD → PrngReg) :
    θ_run (AdamwOutReferenceIdeal.defs (F := Ideal)) (onTc (τ := AdamwOutReferenceIdeal.τ) (AdamwOutReferenceIdeal.main (F := Ideal))) ⟨m', fun _ => 0, g'⟩ fun r => (∀ c : Dev AdamwOutReferenceIdeal.nD,
      r.2.mem ((c : Thread AdamwOutReferenceIdeal.nD AdamwOutReferenceIdeal.τ).loc AdamwOutReferenceIdeal.main_arg0) = m' ((c : Thread AdamwOutReferenceIdeal.nD AdamwOutReferenceIdeal.τ).loc AdamwOutReferenceIdeal.main_arg0)
      ∧ r.2.mem ((c : Thread AdamwOutReferenceIdeal.nD AdamwOutReferenceIdeal.τ).loc AdamwOutReferenceIdeal.main_arg1) = m' ((c : Thread AdamwOutReferenceIdeal.nD AdamwOutReferenceIdeal.τ).loc AdamwOutReferenceIdeal.main_arg1)
      ∧ r.2.mem ((c : Thread AdamwOutReferenceIdeal.nD AdamwOutReferenceIdeal.τ).loc AdamwOutReferenceIdeal.main_arg2) = m' ((c : Thread AdamwOutReferenceIdeal.nD AdamwOutReferenceIdeal.τ).loc AdamwOutReferenceIdeal.main_arg2)
      ∧ r.2.mem ((c : Thread AdamwOutReferenceIdeal.nD AdamwOutReferenceIdeal.τ).loc AdamwOutReferenceIdeal.main_arg3) = m' ((c : Thread AdamwOutReferenceIdeal.nD AdamwOutReferenceIdeal.τ).loc AdamwOutReferenceIdeal.main_arg3))
      ∧ r.2.sem = fun _ => 0 :=
  (θ_run _ _ _).mono (fun r h => ⟨fun c => (h c).2.2.2, sem_eq_zero_of_no_sems (by decide) r.2⟩) (AdamwOutReferenceIdeal.Value.run m' g')

theorem agrees : algebraic_AdamwOutIdeal_AdamwOutReferenceIdeal (hAdamwOutIdeal := Gen.facts) (hAdamwOutReferenceIdeal := AdamwOutReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwOutReferenceIdeal.Read.val_main_v23_eq (F := Ideal) _ _ _ _).trans ((g4_eq _ _ _ _).trans (by rw [(hm c).2.1, (hm c).2.2.1, (hm c).2.2.2, (hm c).1]))),
    (h c).2.1.trans ((AdamwOutReferenceIdeal.Read.val_main_v4_eq (F := Ideal) _ _).trans ((g5_eq _ _).trans (by rw [(hm c).2.1, (hm c).2.2.1]))),
    (h c).2.2.1.trans ((AdamwOutReferenceIdeal.Read.val_main_v10_eq (F := Ideal) _ _).trans ((g6_eq _ _).trans (by rw [(hm c).2.1, (hm c).2.2.2]))),
    (h c).2.2.2⟩) (AdamwOutReferenceIdeal.Value.run m' r')⟩

end Cert.Rw.AdamwOut
-- ==== Proof.RwAdamwO.lean ====
/-
  The optimiser's step, entry by entry.
-/
module

public import proofs.«01_k».proof.Defs
public import proofs.«01_k».proof.Proof.Mm
public import proofs.«01_k».proof.Proof.Gen.AdamwO.Frame
public import proofs.«01_k».proof.Proof.Gen.AdamwOIdeal.Value
public import proofs.«01_k».proof.Proof.Gen.AdamwOReferenceIdeal.Read
public import proofs.«01_k».proof.Proof.Gen.AdamwOReferenceIdeal.Run
@[expose] public section

set_option maxRecDepth 16384

noncomputable section

namespace Cert.Rw.AdamwO

open Cert.AdamwOIdeal Cert.AdamwOIdeal.Gen Idealize.ShloMosaic Idealize.ShloMosaic.TcCoe Idealize.SL.Sem

/-- The reference's memory. -/
abbrev RMem := (ℓ : Loc AdamwOReferenceIdeal.nD AdamwOReferenceIdeal.τ AdamwOReferenceIdeal.sig) → Buf (Elt Ideal) ℓ
/-- The kernel's memory. -/
abbrev KMem := (ℓ : Loc nD τ sig) → Buf (Elt Ideal) ℓ

theorem g4_eq (x0 x1 x2 x3 : (⟨AdamwOReferenceIdeal.S128x1024, .f32⟩ : BufTy).Contents (Elt Ideal)) :
    AdamwOReferenceIdeal.Read.val_main_v23 (F := Ideal) x0 x1 x2 x3 = Value.G4 (F := Ideal) x1 x2 x3 x0 := rfl

theorem g5_eq (x1 x2 : (⟨AdamwOReferenceIdeal.S128x1024, .f32⟩ : BufTy).Contents (Elt Ideal)) :
    AdamwOReferenceIdeal.Read.val_main_v4 (F := Ideal) x1 x2 = Value.G5 (F := Ideal) x1 x2 := rfl

theorem g6_eq (x1 x3 : (⟨AdamwOReferenceIdeal.S128x1024, .f32⟩ : BufTy).Contents (Elt Ideal)) :
    AdamwOReferenceIdeal.Read.val_main_v10 (F := Ideal) x1 x3 = Value.G6 (F := Ideal) x1 x3 := rfl

theorem ref_frame (m' : RMem) (g' : Dev AdamwOReferenceIdeal.nD → PrngReg) :
    θ_run (AdamwOReferenceIdeal.defs (F := Ideal)) (onTc (τ := AdamwOReferenceIdeal.τ) (AdamwOReferenceIdeal.main (F := Ideal))) ⟨m', fun _ => 0, g'⟩ fun r => (∀ c : Dev AdamwOReferenceIdeal.nD,
      r.2.mem ((c : Thread AdamwOReferenceIdeal.nD AdamwOReferenceIdeal.τ).loc AdamwOReferenceIdeal.main_arg0) = m' ((c : Thread AdamwOReferenceIdeal.nD AdamwOReferenceIdeal.τ).loc AdamwOReferenceIdeal.main_arg0)
      ∧ r.2.mem ((c : Thread AdamwOReferenceIdeal.nD AdamwOReferenceIdeal.τ).loc AdamwOReferenceIdeal.main_arg1) = m' ((c : Thread AdamwOReferenceIdeal.nD AdamwOReferenceIdeal.τ).loc AdamwOReferenceIdeal.main_arg1)
      ∧ r.2.mem ((c : Thread AdamwOReferenceIdeal.nD AdamwOReferenceIdeal.τ).loc AdamwOReferenceIdeal.main_arg2) = m' ((c : Thread AdamwOReferenceIdeal.nD AdamwOReferenceIdeal.τ).loc AdamwOReferenceIdeal.main_arg2)
      ∧ r.2.mem ((c : Thread AdamwOReferenceIdeal.nD AdamwOReferenceIdeal.τ).loc AdamwOReferenceIdeal.main_arg3) = m' ((c : Thread AdamwOReferenceIdeal.nD AdamwOReferenceIdeal.τ).loc AdamwOReferenceIdeal.main_arg3))
      ∧ r.2.sem = fun _ => 0 :=
  (θ_run _ _ _).mono (fun r h => ⟨fun c => (h c).2.2.2, sem_eq_zero_of_no_sems (by decide) r.2⟩) (AdamwOReferenceIdeal.Value.run m' g')

theorem agrees : algebraic_AdamwOIdeal_AdamwOReferenceIdeal (hAdamwOIdeal := Gen.facts) (hAdamwOReferenceIdeal := AdamwOReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwOReferenceIdeal.Read.val_main_v23_eq (F := Ideal) _ _ _ _).trans ((g4_eq _ _ _ _).trans (by rw [(hm c).2.1, (hm c).2.2.1, (hm c).2.2.2, (hm c).1]))),
    (h c).2.1.trans ((AdamwOReferenceIdeal.Read.val_main_v4_eq (F := Ideal) _ _).trans ((g5_eq _ _).trans (by rw [(hm c).2.1, (hm c).2.2.1]))),
    (h c).2.2.1.trans ((AdamwOReferenceIdeal.Read.val_main_v10_eq (F := Ideal) _ _).trans ((g6_eq _ _).trans (by rw [(hm c).2.1, (hm c).2.2.2]))),
    (h c).2.2.2⟩) (AdamwOReferenceIdeal.Value.run m' r')⟩

end Cert.Rw.AdamwO
-- ==== Proof.RwAdamwDown.lean ====
/-
  The optimiser's step, entry by entry.
-/
module

public import proofs.«01_k».proof.Defs
public import proofs.«01_k».proof.Proof.Mm
public import proofs.«01_k».proof.Proof.Gen.AdamwDown.Frame
public import proofs.«01_k».proof.Proof.Gen.AdamwDownIdeal.Value
public import proofs.«01_k».proof.Proof.Gen.AdamwDownReferenceIdeal.Read
public import proofs.«01_k».proof.Proof.Gen.AdamwDownReferenceIdeal.Run
@[expose] public section

set_option maxRecDepth 16384

noncomputable section

namespace Cert.Rw.AdamwDown

open Cert.AdamwDownIdeal Cert.AdamwDownIdeal.Gen Idealize.ShloMosaic Idealize.ShloMosaic.TcCoe Idealize.SL.Sem

/-- The reference's memory. -/
abbrev RMem := (ℓ : Loc AdamwDownReferenceIdeal.nD AdamwDownReferenceIdeal.τ AdamwDownReferenceIdeal.sig) → Buf (Elt Ideal) ℓ
/-- The kernel's memory. -/
abbrev KMem := (ℓ : Loc nD τ sig) → Buf (Elt Ideal) ℓ

theorem g4_eq (x0 x1 x2 x3 : (⟨AdamwDownReferenceIdeal.S704x1024, .f32⟩ : BufTy).Contents (Elt Ideal)) :
    AdamwDownReferenceIdeal.Read.val_main_v23 (F := Ideal) x0 x1 x2 x3 = Value.G4 (F := Ideal) x1 x2 x3 x0 := rfl

theorem g5_eq (x1 x2 : (⟨AdamwDownReferenceIdeal.S704x1024, .f32⟩ : BufTy).Contents (Elt Ideal)) :
    AdamwDownReferenceIdeal.Read.val_main_v4 (F := Ideal) x1 x2 = Value.G5 (F := Ideal) x1 x2 := rfl

theorem g6_eq (x1 x3 : (⟨AdamwDownReferenceIdeal.S704x1024, .f32⟩ : BufTy).Contents (Elt Ideal)) :
    AdamwDownReferenceIdeal.Read.val_main_v10 (F := Ideal) x1 x3 = Value.G6 (F := Ideal) x1 x3 := rfl

theorem ref_frame (m' : RMem) (g' : Dev AdamwDownReferenceIdeal.nD → PrngReg) :
    θ_run (AdamwDownReferenceIdeal.defs (F := Ideal)) (onTc (τ := AdamwDownReferenceIdeal.τ) (AdamwDownReferenceIdeal.main (F := Ideal))) ⟨m', fun _ => 0, g'⟩ fun r => (∀ c : Dev AdamwDownReferenceIdeal.nD,
      r.2.mem ((c : Thread AdamwDownReferenceIdeal.nD AdamwDownReferenceIdeal.τ).loc AdamwDownReferenceIdeal.main_arg0) = m' ((c : Thread AdamwDownReferenceIdeal.nD AdamwDownReferenceIdeal.τ).loc AdamwDownReferenceIdeal.main_arg0)
      ∧ r.2.mem ((c : Thread AdamwDownReferenceIdeal.nD AdamwDownReferenceIdeal.τ).loc AdamwDownReferenceIdeal.main_arg1) = m' ((c : Thread AdamwDownReferenceIdeal.nD AdamwDownReferenceIdeal.τ).loc AdamwDownReferenceIdeal.main_arg1)
      ∧ r.2.mem ((c : Thread AdamwDownReferenceIdeal.nD AdamwDownReferenceIdeal.τ).loc AdamwDownReferenceIdeal.main_arg2) = m' ((c : Thread AdamwDownReferenceIdeal.nD AdamwDownReferenceIdeal.τ).loc AdamwDownReferenceIdeal.main_arg2)
      ∧ r.2.mem ((c : Thread AdamwDownReferenceIdeal.nD AdamwDownReferenceIdeal.τ).loc AdamwDownReferenceIdeal.main_arg3) = m' ((c : Thread AdamwDownReferenceIdeal.nD AdamwDownReferenceIdeal.τ).loc AdamwDownReferenceIdeal.main_arg3))
      ∧ r.2.sem = fun _ => 0 :=
  (θ_run _ _ _).mono (fun r h => ⟨fun c => (h c).2.2.2, sem_eq_zero_of_no_sems (by decide) r.2⟩) (AdamwDownReferenceIdeal.Value.run m' g')

theorem agrees : algebraic_AdamwDownIdeal_AdamwDownReferenceIdeal (hAdamwDownIdeal := Gen.facts) (hAdamwDownReferenceIdeal := AdamwDownReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwDownReferenceIdeal.Read.val_main_v23_eq (F := Ideal) _ _ _ _).trans ((g4_eq _ _ _ _).trans (by rw [(hm c).2.1, (hm c).2.2.1, (hm c).2.2.2, (hm c).1]))),
    (h c).2.1.trans ((AdamwDownReferenceIdeal.Read.val_main_v4_eq (F := Ideal) _ _).trans ((g5_eq _ _).trans (by rw [(hm c).2.1, (hm c).2.2.1]))),
    (h c).2.2.1.trans ((AdamwDownReferenceIdeal.Read.val_main_v10_eq (F := Ideal) _ _).trans ((g6_eq _ _).trans (by rw [(hm c).2.1, (hm c).2.2.2]))),
    (h c).2.2.2⟩) (AdamwDownReferenceIdeal.Value.run m' r')⟩

end Cert.Rw.AdamwDown
-- ==== Proof.RwAdamwSmall.lean ====
/-
  The optimiser's step, entry by entry.
-/
module

public import proofs.«01_k».proof.Defs
public import proofs.«01_k».proof.Proof.Mm
public import proofs.«01_k».proof.Proof.Gen.AdamwSmall.Frame
public import proofs.«01_k».proof.Proof.Gen.AdamwSmallIdeal.Value
public import proofs.«01_k».proof.Proof.Gen.AdamwSmallReferenceIdeal.Read
public import proofs.«01_k».proof.Proof.Gen.AdamwSmallReferenceIdeal.Run
@[expose] public section

set_option maxRecDepth 16384

noncomputable section

namespace Cert.Rw.AdamwSmall

open Cert.AdamwSmallIdeal Cert.AdamwSmallIdeal.Gen Idealize.ShloMosaic Idealize.ShloMosaic.TcCoe Idealize.SL.Sem

/-- The reference's memory. -/
abbrev RMem := (ℓ : Loc AdamwSmallReferenceIdeal.nD AdamwSmallReferenceIdeal.τ AdamwSmallReferenceIdeal.sig) → Buf (Elt Ideal) ℓ
/-- The kernel's memory. -/
abbrev KMem := (ℓ : Loc nD τ sig) → Buf (Elt Ideal) ℓ

theorem g4_eq (x0 x1 x2 x3 : (⟨AdamwSmallReferenceIdeal.S88x128, .f32⟩ : BufTy).Contents (Elt Ideal)) :
    AdamwSmallReferenceIdeal.Read.val_main_v23 (F := Ideal) x0 x1 x2 x3 = Value.G4 (F := Ideal) x1 x2 x3 x0 := rfl

theorem g5_eq (x1 x2 : (⟨AdamwSmallReferenceIdeal.S88x128, .f32⟩ : BufTy).Contents (Elt Ideal)) :
    AdamwSmallReferenceIdeal.Read.val_main_v4 (F := Ideal) x1 x2 = Value.G5 (F := Ideal) x1 x2 := rfl

theorem g6_eq (x1 x3 : (⟨AdamwSmallReferenceIdeal.S88x128, .f32⟩ : BufTy).Contents (Elt Ideal)) :
    AdamwSmallReferenceIdeal.Read.val_main_v10 (F := Ideal) x1 x3 = Value.G6 (F := Ideal) x1 x3 := rfl

theorem ref_frame (m' : RMem) (g' : Dev AdamwSmallReferenceIdeal.nD → PrngReg) :
    θ_run (AdamwSmallReferenceIdeal.defs (F := Ideal)) (onTc (τ := AdamwSmallReferenceIdeal.τ) (AdamwSmallReferenceIdeal.main (F := Ideal))) ⟨m', fun _ => 0, g'⟩ fun r => (∀ c : Dev AdamwSmallReferenceIdeal.nD,
      r.2.mem ((c : Thread AdamwSmallReferenceIdeal.nD AdamwSmallReferenceIdeal.τ).loc AdamwSmallReferenceIdeal.main_arg0) = m' ((c : Thread AdamwSmallReferenceIdeal.nD AdamwSmallReferenceIdeal.τ).loc AdamwSmallReferenceIdeal.main_arg0)
      ∧ r.2.mem ((c : Thread AdamwSmallReferenceIdeal.nD AdamwSmallReferenceIdeal.τ).loc AdamwSmallReferenceIdeal.main_arg1) = m' ((c : Thread AdamwSmallReferenceIdeal.nD AdamwSmallReferenceIdeal.τ).loc AdamwSmallReferenceIdeal.main_arg1)
      ∧ r.2.mem ((c : Thread AdamwSmallReferenceIdeal.nD AdamwSmallReferenceIdeal.τ).loc AdamwSmallReferenceIdeal.main_arg2) = m' ((c : Thread AdamwSmallReferenceIdeal.nD AdamwSmallReferenceIdeal.τ).loc AdamwSmallReferenceIdeal.main_arg2)
      ∧ r.2.mem ((c : Thread AdamwSmallReferenceIdeal.nD AdamwSmallReferenceIdeal.τ).loc AdamwSmallReferenceIdeal.main_arg3) = m' ((c : Thread AdamwSmallReferenceIdeal.nD AdamwSmallReferenceIdeal.τ).loc AdamwSmallReferenceIdeal.main_arg3))
      ∧ r.2.sem = fun _ => 0 :=
  (θ_run _ _ _).mono (fun r h => ⟨fun c => (h c).2.2.2, sem_eq_zero_of_no_sems (by decide) r.2⟩) (AdamwSmallReferenceIdeal.Value.run m' g')

theorem agrees : algebraic_AdamwSmallIdeal_AdamwSmallReferenceIdeal (hAdamwSmallIdeal := Gen.facts) (hAdamwSmallReferenceIdeal := AdamwSmallReferenceIdeal.Gen.facts) := by
  intro m r m' r' _ hm
  exact ⟨fun c => Value.G4 (m ((c : Thread nD τ).loc main_arg1)) (m ((c : Thread nD τ).loc main_arg2)) (m ((c : Thread nD τ).loc main_arg3)) (m ((c : Thread nD τ).loc main_arg0)), fun c => Value.G5 (m ((c : Thread nD τ).loc main_arg1)) (m ((c : Thread nD τ).loc main_arg2)), fun c => Value.G6 (m ((c : Thread nD τ).loc main_arg1)) (m ((c : Thread nD τ).loc main_arg3)), Value.run m r, (θ_run _ _ _).mono (fun _ h c => ⟨(h c).1.trans ((AdamwSmallReferenceIdeal.Read.val_main_v23_eq (F := Ideal) _ _ _ _).trans ((g4_eq _ _ _ _).trans (by rw [(hm c).2.1, (hm c).2.2.1, (hm c).2.2.2, (hm c).1]))),
    (h c).2.1.trans ((AdamwSmallReferenceIdeal.Read.val_main_v4_eq (F := Ideal) _ _).trans ((g5_eq _ _).trans (by rw [(hm c).2.1, (hm c).2.2.1]))),
    (h c).2.2.1.trans ((AdamwSmallReferenceIdeal.Read.val_main_v10_eq (F := Ideal) _ _).trans ((g6_eq _ _).trans (by rw [(hm c).2.1, (hm c).2.2.2]))),
    (h c).2.2.2⟩) (AdamwSmallReferenceIdeal.Value.run m' r')⟩

end Cert.Rw.AdamwSmall
-- ==== Proof.RwLossFwd.lean ====
/-
  The loss head: the loss, accumulated over the rows, and the gradient of the last rows.
-/
module

public import proofs.«01_k».proof.Defs
public import proofs.«01_k».proof.Proof.Mm
public import proofs.«01_k».proof.Proof.Gen.LossFwd.Frame
public import proofs.«01_k».proof.Proof.Gen.LossFwdIdeal.Value
public import proofs.«01_k».proof.Proof.Gen.LossFwdReferenceIdeal.Read
public import proofs.«01_k».proof.Proof.Gen.LossFwdReferenceIdeal.Run
public import proofs.«01_k».proof.Proof.NormGrad
public import Idealize.ShloMosaic.Lib.Pipeline.ValueKit
public import Idealize.ShloMosaic.Lib.Pipeline.ReadBack
@[expose] public section

set_option maxRecDepth 16384

noncomputable section

namespace Cert.Rw.LossFwd

open Cert.LossFwdIdeal Cert.LossFwdIdeal.Gen Idealize.ShloMosaic Idealize.ShloMosaic.TcCoe Idealize.SL.Sem
open Idealize.ShloMosaic.ValueIdx hiding ix1 ix2 ix3 ix4 ix5
open Idealize.ShloMosaic.Pointwise
open Cert.Mm (ix2_of part part_one part_succ part_all)
open Cert.Ssd (bits_1024 div_real)

/-- The reference's memory. -/
abbrev RMem := (ℓ : Loc LossFwdReferenceIdeal.nD LossFwdReferenceIdeal.τ LossFwdReferenceIdeal.sig) → Buf (Elt Ideal) ℓ
/-- The kernel's memory. -/
abbrev KMem := (ℓ : Loc nD τ sig) → Buf (Elt Ideal) ℓ

theorem bits_c : Ideal.ofBits .f32 0x3A000000#32 = ((1 / 2048 : ℝ) : EReal) := by
  simp [Ideal.ofBits, Ideal.ieee, ← EReal.coe_mul]
  norm_num

theorem bits_inv : Ideal.ofBits .f32 0x3A800000#32 = ((1 / 1024 : ℝ) : EReal) := by
  simp [Ideal.ofBits, Ideal.ieee, ← EReal.coe_mul]
  norm_num

theorem bits_half : Ideal.ofBits .f32 0x3F000000#32 = ((1 / 2 : ℝ) : EReal) := by
  simp [Ideal.ofBits, Ideal.ieee, ← EReal.coe_mul]
  norm_num

theorem bits_two : Ideal.ofBits .f32 0x40000000#32 = ((2 : ℝ) : EReal) := by
  simp [Ideal.ofBits, Ideal.ieee, ← EReal.coe_mul]
  norm_num

theorem bits_one : Ideal.ofBits .f32 0x3F800000#32 = ((1 : ℝ) : EReal) := by
  simp [Ideal.ofBits, Ideal.ieee, ← EReal.coe_mul]
  norm_num

/-- A real factor that is not negative goes into a sum. -/
theorem mul_sum_real {K : ℕ} (r : ℝ) (hr : 0 ≤ r) (f : Fin K → EReal) : (r : EReal) * ∑ k, f k = ∑ k, (r : EReal) * f k := by
  induction K with
  | zero => simp
  | succ n ih =>
    rw [Fin.sum_univ_succ, Fin.sum_univ_succ, EReal.left_distrib_of_nonneg_of_ne_top (EReal.coe_nonneg.2 hr) (EReal.coe_ne_top _), ih]

theorem half_mean (s : EReal) : ((1 / 2 : ℝ) : EReal) * Ideal.div s ((1024 : ℝ) : EReal) = s * ((1 / 2048 : ℝ) : EReal) := by
  rw [Ideal.div, if_neg (by norm_num), ← EReal.coe_inv, mul_left_comm, ← EReal.coe_mul]
  congr 2
  norm_num

theorem grad_const (e : EReal) : Ideal.div (((1 / 2 : ℝ) : EReal) * ((1 : ℝ) : EReal)) ((1024 : ℝ) : EReal) * (((2 : ℝ) : EReal) * e) = e * ((1 / 1024 : ℝ) : EReal) := by
  rw [← EReal.coe_mul, div_real _ _ (by norm_num), ← mul_assoc, ← EReal.coe_mul, mul_comm]
  congr 2
  norm_num

/-- What one row adds to the loss. -/
def terms (x0 x1 : S4096x1024.Idx → EReal) (i : Fin 4096) : EReal :=
  (∑ k : Fin 1024, (x0 (ix2 i k) - x1 (ix2 i k)) * (x0 (ix2 i k) - x1 (ix2 i k))) * ((1 / 2048 : ℝ) : EReal)

/-- The loss, in every place of the block the kernel leaves it in. -/
def loss (x0 x1 : S4096x1024.Idx → EReal) (_ : S8x128.Idx) : EReal := ∑ i, terms x0 x1 i

/-- The gradient of the last rows. -/
def entry (x0 x1 : S4096x1024.Idx → EReal) (i : Fin 4096) (j : Fin 1024) : EReal := (x0 (ix2 i j) - x1 (ix2 i j)) * ((1 / 1024 : ℝ) : EReal)
def whole (x0 x1 : S4096x1024.Idx → EReal) (y : S4096x1024.Idx) : EReal := entry x0 x1 (y 0) (y 1)

section
open LossFwdReferenceIdeal.Read
variable (x0 x1 : S4096x1024.Idx → EReal)

theorem ref_at (i : Fin 4096) (j : Fin 1024) : val_main_v15 (F := Ideal) x0 x1 (ix2 i j) = entry x0 x1 i j := by
  refine Eq.trans ?_ (grad_const _)
  rw [← bits_half, ← bits_one, ← bits_1024, ← bits_two]
  pointwise [val_main_v15, val_main_v14, val_main_v13, val_main_v12, val_main_v11, val_main_v10, val_main_v3, val_main_v2, val_main_v0, val_main_cst, val_main_cst_4, val_main_cst_5, val_main_cst_6]
  all_goals rfl

theorem loss_at (i : Fin 8) (j : Fin 128) : val_main_v9 (F := Ideal) x0 x1 (ix2 i j) = ∑ i, terms x0 x1 i := by
  refine Eq.trans ?_ (Finset.sum_congr rfl fun i _ => half_mean _)
  refine Eq.trans ?_ (mul_sum_real (1 / 2) (by norm_num) _)
  rw [← bits_half, ← bits_1024]
  pointwise [val_main_v9, val_main_v8, val_main_v7, val_main_v6, val_main_v5, val_main_v4, val_main_v1, val_main_v0, val_main_cst_0, val_main_cst_1, val_main_cst_2, val_main_cst_3]
  all_goals rfl

theorem ref_eq : val_main_v15 (F := Ideal) x0 x1 = whole x0 x1 := funext fun i =>
  (congrArg (val_main_v15 (F := Ideal) x0 x1) (ix2_of i)).trans (ref_at x0 x1 (i 0) (i 1))

theorem loss_eq : val_main_v9 (F := Ideal) x0 x1 = loss x0 x1 := funext fun i =>
  (congrArg (val_main_v9 (F := Ideal) x0 x1) (ix2_of i)).trans (loss_at x0 x1 (i 0) (i 1))

end

variable (m : KMem) (c : Dev nD) (t : Fin cfg0.N)

def row (i : Fin 512) : Fin 4096 := ⟨512 * t.val + i.val, by have : t.val < 8 := t.isLt; omega⟩

theorem index_of : ∀ t : Fin cfg0.N, win0_0.index t = ![t.val, 0] ∧ win0_1.index t = ![t.val, 0] ∧ win0_2.index t = ![t.val, 0] ∧ win0_3.index t = ![0, 0] :=
  (by decide +kernel : ∀ t : Fin grid0.N, win0_0.index t = ![t.val, 0] ∧ win0_1.index t = ![t.val, 0] ∧ win0_2.index t = ![t.val, 0] ∧ win0_3.index t = ![0, 0])

def pa : FVec Ideal S512x1024 .f32 := iblk m c 0 t
def pb : FVec Ideal S512x1024 .f32 := iblk m c 1 t

theorem pa_at (i : Fin 512) (q : Fin 1024) : pa m c t (ix2 i q) = (m ((c : Thread nD τ).loc main_arg0)) (ix2 (row t i) q) := by
  show iblk m c 0 t (ix2 i q) = _
  blk_ext! [iblk, V, index_of t, row]

theorem pb_at (i : Fin 512) (q : Fin 1024) : pb m c t (ix2 i q) = (m ((c : Thread nD τ).loc main_arg1)) (ix2 (row t i) q) := by
  show iblk m c 1 t (ix2 i q) = _
  blk_ext! [iblk, V, index_of t, row]

theorem out_pt (i : Fin 512) (j : Fin 1024) : (outsAt0 m c t.val t.isLt).1 (ix2 i j) = (pa m c t (ix2 i j) - pb m c t (ix2 i j)) * ((1 / 1024 : ℝ) : EReal) := by
  rw [← bits_inv]
  by_cases h : t.val % 8 = 0
  · rw [Gen.outsAt0_A m c t h]
    dsimp only
    frame_out
    pointwise [k0_pay2, k0_pay3]
    all_goals rfl
  · rw [Gen.outsAt0_B m c t h]
    dsimp only
    frame_out
    pointwise [k0_pay2, k0_pay3]
    all_goals rfl

theorem out_at (i : Fin 512) (j : Fin 1024) : (outsAt0 m c t.val t.isLt).1 (ix2 i j) = entry (m ((c : Thread nD τ).loc main_arg0)) (m ((c : Thread nD τ).loc main_arg1)) (row t i) j := by
  rw [out_pt, pa_at, pb_at]
  rfl

theorem block_at (y : S512x1024.Idx) : (outsAt0 m c t.val t.isLt).1 y = whole (m ((c : Thread nD τ).loc main_arg0)) (m ((c : Thread nD τ).loc main_arg1)) (((cfg0.win 2).blk t).view.emb y) := by
  have e0 : ((((cfg0.win 2).blk t).view.emb y) 0 : ℕ) = 512 * t.val + (y 0).val := by
    blk_simp [index_of t]
    omega
  have e1 : ((((cfg0.win 2).blk t).view.emb y) 1 : ℕ) = (y 1).val := by
    blk_simp [index_of t]
  refine (congrArg (outsAt0 m c t.val t.isLt).1 (ix2_of y)).trans ((out_at m c t (y 0) (y 1)).trans ?_)
  exact congrArg₂ (entry (m ((c : Thread nD τ).loc main_arg0)) (m ((c : Thread nD τ).loc main_arg1))) (Fin.ext e0.symm) (Fin.ext e1.symm)

theorem arr : (dats m 0 c).arrAt 2 cfg0.N = whole (m ((c : Thread nD τ).loc main_arg0)) (m ((c : Thread nD τ).loc main_arg1)) :=
  (dats m 0 c).arrAt_eq_of_covers 2 _ (by decide +kernel) fun t hf y => (congrFun (after0_2 m c t) y).trans (block_at m c t y)

/-- The rows of a point. -/
def here : EReal :=
  (∑ i : Fin 512, ∑ k : Fin 1024, (pa m c t (ix2 i k) - pb m c t (ix2 i k)) * (pa m c t (ix2 i k) - pb m c t (ix2 i k))) * ((1 / 2048 : ℝ) : EReal)

theorem here_at (n : ℕ) (h : t.val = n) : here m c t = ∑ i : Fin 512, terms (m ((c : Thread nD τ).loc main_arg0)) (m ((c : Thread nD τ).loc main_arg1)) ⟨512 * n + i.val, by have : t.val < 8 := t.isLt; omega⟩ := by
  subst h
  unfold here
  rw [mul_comm, mul_sum_real _ (by norm_num)]
  refine Finset.sum_congr rfl fun i _ => (mul_comm (_ : EReal) _).trans ?_
  unfold terms
  rw [Finset.sum_congr rfl fun k _ => congrArg₂ (fun a b : EReal => (a - b) * (a - b)) (pa_at m c t i k) (pb_at m c t i k)]
  rfl

theorem acc_A (h : t.val % 8 = 0) (i : Fin 8) (j : Fin 128) : (outsAt0 m c t.val t.isLt).2 (ix2 i j) = here m c t := by
  unfold here
  rw [← bits_c, Gen.outsAt0_A m c t h]
  dsimp only
  frame_out
  pointwise [k0_pay1, k0_pay2, k0_pay4]
  all_goals rfl

theorem acc_B (h : ¬ t.val % 8 = 0) (i : Fin 8) (j : Fin 128) :
    (outsAt0 m c t.val t.isLt).2 (ix2 i j)
      = (outsAt0 m c (t.val - 1) (Nat.lt_of_le_of_lt (Nat.sub_le _ _) t.isLt)).2 (ix2 i j) + here m c t := by
  unfold here
  rw [← bits_c, Gen.outsAt0_B m c t h]
  dsimp only
  frame_out
  pointwise [k0_pay2, k0_pay4]
  all_goals rfl

theorem acc_at : ∀ (n : ℕ) (hn : n < cfg0.N) (i : Fin 8) (j : Fin 128), (outsAt0 m c n hn).2 (ix2 i j) = part 512 (terms (m ((c : Thread nD τ).loc main_arg0)) (m ((c : Thread nD τ).loc main_arg1))) (n + 1)
  | n, hn, i, j => by
    have h8 : n < 8 := hn
    by_cases h0 : n = 0
    · subst h0
      rw [acc_A m c ⟨0, hn⟩ rfl i j, here_at m c ⟨0, hn⟩ 0 rfl, part_one _ _ (by omega)]
    · have hp : n - 1 < cfg0.N := Nat.lt_of_le_of_lt (Nat.sub_le _ _) hn
      have ih := acc_at (n - 1) hp i j
      rw [Nat.sub_add_cancel (by omega)] at ih
      rw [acc_B m c ⟨n, hn⟩ (by show ¬ n % 8 = 0; omega) i j, here_at m c ⟨n, hn⟩ n rfl, part_succ _ _ _ (by omega)]
      exact congrArg (· + _) ih

theorem flush_of : ∀ t : Fin cfg0.N, (cfg0.win 3).flush t = true → t.val = 7 :=
  (by decide +kernel : ∀ t : Fin grid0.N, win0_3.flush t = true → t.val = 7)

theorem loss_block (hf : (cfg0.win 3).flush t = true) (y : S8x128.Idx) :
    (outsAt0 m c t.val t.isLt).2 y = loss (m ((c : Thread nD τ).loc main_arg0)) (m ((c : Thread nD τ).loc main_arg1)) (((cfg0.win 3).blk t).view.emb y) := by
  refine (congrArg (outsAt0 m c t.val t.isLt).2 (ix2_of y)).trans ((acc_at m c t.val t.isLt (y 0) (y 1)).trans ?_)
  rw [flush_of t hf]
  exact part_all 512 _ 8 rfl

theorem loss_arr : (dats m 0 c).arrAt 3 cfg0.N = loss (m ((c : Thread nD τ).loc main_arg0)) (m ((c : Thread nD τ).loc main_arg1)) :=
  (dats m 0 c).arrAt_eq_of_covers 3 _ (by decide +kernel) fun t hf y => (congrFun (after0_3 m c t) y).trans (loss_block m c t hf y)

theorem ref_frame (m' : RMem) (g' : Dev LossFwdReferenceIdeal.nD → PrngReg) :
    θ_run (LossFwdReferenceIdeal.defs (F := Ideal)) (onTc (τ := LossFwdReferenceIdeal.τ) (LossFwdReferenceIdeal.main (F := Ideal))) ⟨m', fun _ => 0, g'⟩ fun r => (∀ c : Dev LossFwdReferenceIdeal.nD,
      r.2.mem ((c : Thread LossFwdReferenceIdeal.nD LossFwdReferenceIdeal.τ).loc LossFwdReferenceIdeal.main_arg0) = m' ((c : Thread LossFwdReferenceIdeal.nD LossFwdReferenceIdeal.τ).loc LossFwdReferenceIdeal.main_arg0)
      ∧ r.2.mem ((c : Thread LossFwdReferenceIdeal.nD LossFwdReferenceIdeal.τ).loc LossFwdReferenceIdeal.main_arg1) = m' ((c : Thread LossFwdReferenceIdeal.nD LossFwdReferenceIdeal.τ).loc LossFwdReferenceIdeal.main_arg1))
      ∧ r.2.sem = fun _ => 0 :=
  (θ_run _ _ _).mono (fun r h => ⟨fun c => (h c).2.2, sem_eq_zero_of_no_sems (by decide) r.2⟩) (LossFwdReferenceIdeal.Value.run m' g')

theorem agrees : algebraic_LossFwdIdeal_LossFwdReferenceIdeal (hLossFwdIdeal := Gen.facts) (hLossFwdReferenceIdeal := LossFwdReferenceIdeal.Gen.facts) := by
  intro m r m' r' _ hm
  refine ⟨fun c => loss (m ((c : Thread nD τ).loc main_arg0)) (m ((c : Thread nD τ).loc main_arg1)), fun c => whole (m ((c : Thread nD τ).loc main_arg0)) (m ((c : Thread nD τ).loc main_arg1)),
    (θ_run _ _ _).mono (fun _ h c => ⟨(h c).2.1.trans (loss_arr m c), (h c).1.trans (arr m c), (h c).2.2⟩) (Value.run_blocks m r),
    (θ_run _ _ _).mono (fun _ h c => ⟨(h c).1.trans ((LossFwdReferenceIdeal.Read.val_main_v9_eq (F := Ideal) _ _).trans ?_),
      (h c).2.1.trans ((LossFwdReferenceIdeal.Read.val_main_v15_eq (F := Ideal) _ _).trans ?_), (h c).2.2⟩) (LossFwdReferenceIdeal.Value.run m' r')⟩
  · obtain ⟨e0, e1⟩ := hm c
    rw [e0, e1]
    exact loss_eq _ _
  · obtain ⟨e0, e1⟩ := hm c
    rw [e0, e1]
    exact ref_eq _ _

end Cert.Rw.LossFwd
-- ==== Proof.RwConvFwd.lean ====
/-
  The causal depthwise convolution of width four, entry by entry.
-/
module

public import proofs.«01_k».proof.Defs
public import proofs.«01_k».proof.Proof.Mm
public import proofs.«01_k».proof.Proof.Gen.ConvFwd.Frame
public import proofs.«01_k».proof.Proof.Gen.ConvFwdIdeal.Value
public import proofs.«01_k».proof.Proof.Gen.ConvFwdReferenceIdeal.Read
public import proofs.«01_k».proof.Proof.Gen.ConvFwdReferenceIdeal.Run
public import proofs.«01_k».proof.Proof.Row
public import Idealize.ShloMosaic.Lib.Pipeline.ValueKit
public import Idealize.ShloMosaic.Lib.KernelVsHost
@[expose] public section

set_option maxRecDepth 16384

noncomputable section

namespace Cert.Rw.ConvFwd

open Cert.ConvFwdIdeal Cert.ConvFwdIdeal.Gen Idealize.ShloMosaic Idealize.ShloMosaic.TcCoe Idealize.SL.Sem
open Idealize.ShloMosaic.ValueIdx hiding ix1 ix2 ix3 ix4 ix5
open Idealize.ShloMosaic.Pointwise
open Cert.Mm (ix2_of)

/-- The reference's memory. -/
abbrev RMem := (ℓ : Loc ConvFwdReferenceIdeal.nD ConvFwdReferenceIdeal.τ ConvFwdReferenceIdeal.sig) → Buf (Elt Ideal) ℓ
/-- The kernel's memory. -/
abbrev KMem := (ℓ : Loc nD τ sig) → Buf (Elt Ideal) ℓ

/-- The columns the convolution reads, with three rows of zeros before them. -/
def ext (x0 : S4096x5120.Idx → EReal) (n : ℕ) (j : Fin 3072) : EReal :=
  if h : 3 ≤ n ∧ n - 3 < 4096 then x0 (ix2 ⟨n - 3, h.2⟩ ⟨2048 + j.val, by omega⟩) else 0

/-- The convolution by its entries. -/
def entry (x0 : S4096x5120.Idx → EReal) (x1 : S4x3072.Idx → EReal) (x2 : S3072.Idx → EReal) (i : Fin 4096) (j : Fin 3072) : EReal :=
  x2 (ix1 j) + x1 (ix2 0 j) * ext x0 i.val j + x1 (ix2 1 j) * ext x0 (i.val + 1) j + x1 (ix2 2 j) * ext x0 (i.val + 2) j
    + x1 (ix2 3 j) * ext x0 (i.val + 3) j

def whole (x0 : S4096x5120.Idx → EReal) (x1 : S4x3072.Idx → EReal) (x2 : S3072.Idx → EReal) (y : S4096x3072.Idx) : EReal := entry x0 x1 x2 (y 0) (y 1)

section
open ConvFwdReferenceIdeal.Read
variable (x0 : S4096x5120.Idx → EReal) (x1 : S4x3072.Idx → EReal) (x2 : S3072.Idx → EReal)

theorem v2_at (n : Fin 4099) (j : Fin 3072) : val_main_v2 (F := Ideal) x0 (ix2 n j) = ext x0 n.val j := by
  unfold ext
  split
  · next h =>
    unfold val_main_v2
    refine (pad_apply_of_inside _ _ _ _ _ _ _ (ix2 n j) (ix2 ⟨n.val - 3, h.2⟩ j) ?_).trans ?_
    · intro a
      match a with
      | ⟨0, _⟩ => show n.val = 3 + (n.val - 3) * (0 + 1); omega
      | ⟨1, _⟩ => show j.val = 0 + j.val * (0 + 1); omega
    · pointwise [val_main_v1, val_main_v0]
  · next h =>
    unfold val_main_v2
    refine (pad_apply_of_not_inside _ _ _ _ _ _ _ (ix2 n j) 0 ?_).trans ?_
    · rintro ⟨h0, -, h2⟩
      have h0' : 3 ≤ n.val := h0
      have h2' : (n.val - 3) / (0 + 1) < 4096 := h2
      exact h ⟨h0', by omega⟩
    · pointwise [val_main_call0_v0, val_main_c]
      exact sitofp_zero (φ := .f32)

theorem ref_at (i : Fin 4096) (j : Fin 3072) : val_main_v35 (F := Ideal) x0 x1 x2 (ix2 i j) = entry x0 x1 x2 i j := by
  have e := fun n => v2_at x0 n j
  unfold entry
  rw [Nat.add_comm i.val 1, Nat.add_comm i.val 2, Nat.add_comm i.val 3, ← e ⟨i.val, by omega⟩, ← e ⟨1 + i.val, by omega⟩, ← e ⟨2 + i.val, by omega⟩, ← e ⟨3 + i.val, by omega⟩]
  unfold val_main_v35 val_main_v34 val_main_v31 val_main_v30 val_main_v27 val_main_v24 val_main_v23 val_main_v20 val_main_v17 val_main_v16 val_main_v13 val_main_v10 val_main_v8 val_main_v5
  generalize val_main_v2 (F := Ideal) x0 = u
  pointwise [val_main_v33, val_main_v32, val_main_v29, val_main_v28, val_main_v26, val_main_v25, val_main_v22, val_main_v21, val_main_v19, val_main_v18, val_main_v15, val_main_v14, val_main_v12, val_main_v11, val_main_v9, val_main_cst, val_main_v7, val_main_v6, val_main_v4, val_main_v3]
  all_goals simp only [zero_add, add_assoc]
  all_goals rfl

theorem ref_eq : val_main_v35 (F := Ideal) x0 x1 x2 = whole x0 x1 x2 := funext fun i =>
  (congrArg (val_main_v35 (F := Ideal) x0 x1 x2) (ix2_of i)).trans (ref_at x0 x1 x2 (i 0) (i 1))

end

/-- Whether a point has rows before it. -/
def cond (i : grid0.Coords) : BitVec 1 := Scalar.cmpi .sgt (BitVec.ofNat 32 (i 1).val) 0#32

theorem cond_of : ∀ t : Fin cfg0.N, cond (grid0.coords t) = if t.val % 8 = 0 then 0#1 else 1#1 :=
  (by decide +kernel : ∀ t : Fin grid0.N, cond (grid0.coords t) = if t.val % 8 = 0 then 0#1 else 1#1)

section
variable (b : BitVec 1) (h : FVec Ideal S16x1024 .bf16) (x : FVec Ideal S512x1024 .bf16)

/-- A point's rows after the sixteen before them. -/
def rows : FVec Ideal S528x1024 .f32 :=
  concatenate S528x1024 0 [⟨S16x1024, Scalar.select b (extf .f32 h bitsLt_bf16_f32) (broadcast S16x1024 (Scalar.ofBits (F := Ideal) .f32 0x00000000#32))⟩, ⟨S512x1024, extf .f32 x bitsLt_bf16_f32⟩]
    concatenates_S16x1024_S512x1024_S528x1024_d0

theorem rows_lo (n : Fin 528) (hn : n.val < 16) (q : Fin 1024) : rows b h x (ix2 n q) = if b = 1#1 then h (ix2 ⟨n.val, hn⟩ q) else 0 := by
  unfold rows
  refine (concatenate_pair_apply (t := S528x1024) (s₁ := S16x1024) (s₂ := S512x1024) 0 _ _ _ (ix2 n q)).trans ?_
  refine (dif_pos hn).trans ?_
  obtain rfl | rfl : b = 1#1 ∨ b = 0#1 := by revert b; decide
  · pointwise []
  · rw [if_neg (by decide)]
    pointwise []

theorem rows_hi (n : Fin 528) (hn : 16 ≤ n.val) (q : Fin 1024) : rows b h x (ix2 n q) = x (ix2 ⟨n.val - 16, by omega⟩ q) := by
  unfold rows
  refine (concatenate_pair_apply (t := S528x1024) (s₁ := S16x1024) (s₂ := S512x1024) 0 _ _ _ (ix2 n q)).trans ?_
  refine (dif_neg (by show ¬ n.val < 16; omega)).trans ?_
  pointwise []

theorem rot (y : FVec Ideal S528x1024 .f32) (sb : BitVec 32) (s : ℕ) (hs : sb.toNat = s) (h16 : s ≤ 16) (hr) (p : Fin 512) (q : Fin 1024) :
    dynamicRotate 0 sb none y hr (ix2 ⟨16 + p.val, by omega⟩ q) = y (ix2 ⟨16 + p.val - s, by omega⟩ q) :=
  dynamicRotate_apply 0 sb y hr _ _ fun a => by
    match a with
    | ⟨0, _⟩ =>
      show 16 + p.val - s = (16 + p.val + 528 - sb.toNat % 528) % 528
      rw [hs]
      omega
    | ⟨1, _⟩ => rfl

theorem pay_at (i : grid0.Coords) (v w0 w1 w2 w3 : FVec Ideal S1x1024 .f32) (p : Fin 512) (q : Fin 1024) :
    k0_pay1 (F := Ideal) i h x v w0 w1 w2 w3 (ix2 p q)
      = v (ix2 0 q) + w0 (ix2 0 q) * rows (cond i) h x (ix2 ⟨16 + p.val - 3, by omega⟩ q) + w1 (ix2 0 q) * rows (cond i) h x (ix2 ⟨16 + p.val - 2, by omega⟩ q)
        + w2 (ix2 0 q) * rows (cond i) h x (ix2 ⟨16 + p.val - 1, by omega⟩ q) + w3 (ix2 0 q) * rows (cond i) h x (ix2 ⟨16 + p.val - 0, by omega⟩ q) := by
  rw [← rot (rows (cond i) h x) 3#32 3 rfl (by omega) rotates_S528x1024_d0 p q, ← rot (rows (cond i) h x) 2#32 2 rfl (by omega) rotates_S528x1024_d0 p q, ← rot (rows (cond i) h x) 1#32 1 rfl (by omega) rotates_S528x1024_d0 p q]
  unfold k0_pay1
  dsimp only
  rw [← rows.eq_1, ← cond.eq_1]
  generalize rows (cond i) h x = y
  pointwise []
  all_goals rfl
end

variable (m : KMem) (c : Dev nD) (t : Fin cfg0.N)

theorem lt_t : t.val < 24 := t.isLt
def row (p : Fin 512) : Fin 4096 := ⟨512 * (t.val % 8) + p.val, by omega⟩
def col (q : Fin 1024) : Fin 3072 := ⟨1024 * (t.val / 8) + q.val, by have : t.val < 24 := t.isLt; omega⟩

theorem index_of : ∀ t : Fin cfg0.N, win0_0.index t = ![t.val % 8, 2 + t.val / 8] ∧ win0_1.index t = ![32 * (t.val % 8) - 1, 2 + t.val / 8] ∧ win0_2.index t = ![0, t.val / 8] ∧ win0_3.index t = ![0, t.val / 8]
    ∧ win0_4.index t = ![t.val % 8, t.val / 8] :=
  (by decide +kernel : ∀ t : Fin grid0.N, win0_0.index t = ![t.val % 8, 2 + t.val / 8] ∧ win0_1.index t = ![32 * (t.val % 8) - 1, 2 + t.val / 8] ∧ win0_2.index t = ![0, t.val / 8] ∧ win0_3.index t = ![0, t.val / 8]
    ∧ win0_4.index t = ![t.val % 8, t.val / 8])

def px : FVec Ideal S512x1024 .bf16 := iblk m c 0 t
def ph : FVec Ideal S16x1024 .bf16 := iblk m c 1 t
def pw : FVec Ideal S4x1024 .f32 := iblk m c 2 t
def pv : FVec Ideal S1x1024 .f32 := iblk m c 3 t

theorem px_at (p : Fin 512) (q : Fin 1024) : px m c t (ix2 p q) = (m ((c : Thread nD τ).loc main_arg0)) (ix2 (row t p) ⟨2048 + (col t q).val, by omega⟩) := by
  have := lt_t t
  show iblk m c 0 t (ix2 p q) = _
  blk_ext! [iblk, V, index_of t, row, col]

theorem ph_at (hr : t.val % 8 ≠ 0) (n : Fin 16) (q : Fin 1024) :
    ph m c t (ix2 n q) = (m ((c : Thread nD τ).loc main_arg0)) (ix2 ⟨512 * (t.val % 8) + n.val - 16, by omega⟩ ⟨2048 + (col t q).val, by omega⟩) := by
  have := lt_t t
  show iblk m c 1 t (ix2 n q) = _
  blk_ext! [iblk, V, index_of t, col]

theorem pw_at (k : Fin 4) (q : Fin 1024) : pw m c t (ix2 k q) = (m ((c : Thread nD τ).loc main_arg1)) (ix2 k (col t q)) := by
  have := lt_t t
  show iblk m c 2 t (ix2 k q) = _
  blk_ext! [iblk, V, index_of t, col]

theorem pv_at (q : Fin 1024) : pv m c t (ix2 0 q) = (m ((c : Thread nD τ).loc main_arg2)) (ix1 (col t q)) := by
  have := lt_t t
  show iblk m c 3 t (ix2 0 q) = _
  blk_ext! [iblk, V, index_of t, col]

theorem cell (s : ℕ) (hs : s ≤ 3) (p : Fin 512) (q : Fin 1024) :
    rows (cond (grid0.coords t)) (ph m c t) (px m c t) (ix2 ⟨16 + p.val - s, by omega⟩ q) = ext (m ((c : Thread nD τ).loc main_arg0)) ((row t p).val + (3 - s)) (col t q) := by
  have hrow : (row t p).val = 512 * (t.val % 8) + p.val := rfl
  unfold ext
  by_cases hp : s ≤ p.val
  · rw [rows_hi _ _ _ _ (by show 16 ≤ 16 + p.val - s; omega), px_at, dif_pos ⟨by omega, by omega⟩]
    refine congrArg (m ((c : Thread nD τ).loc main_arg0)) (congrArg (fun n : Fin 4096 => ix2 n _) (Fin.ext ?_))
    show 512 * (t.val % 8) + (16 + p.val - s - 16) = (row t p).val + (3 - s) - 3
    omega
  · rw [rows_lo _ _ _ _ (by show 16 + p.val - s < 16; omega), cond_of t]
    by_cases hr : t.val % 8 = 0
    · rw [if_pos hr, if_neg (by decide), dif_neg (by omega)]
    · rw [if_neg hr, if_pos rfl, ph_at m c t hr, dif_pos ⟨by omega, by omega⟩]
      refine congrArg (m ((c : Thread nD τ).loc main_arg0)) (congrArg (fun n : Fin 4096 => ix2 n _) (Fin.ext ?_))
      show 512 * (t.val % 8) + (16 + p.val - s) - 16 = (row t p).val + (3 - s) - 3
      omega

theorem ldw (x : FVec Ideal S4x1024 .f32) (q : Fin 1024) (k : ℕ) (h) (hk : k < 4) :
    View.ld (Val := Elt Ideal) (e' := .f32) x (Rect.unit (s := S4x1024) ![k, 0] S1x1024.size h) (ix2 0 q) = x (ix2 ⟨k, hk⟩ q) :=
  congrArg x (funext fun a => Fin.ext (by
    match a with
    | ⟨0, _⟩ => show k + 1 * 0 = k; omega
    | ⟨1, _⟩ => show 0 + 1 * q.val = q.val; omega))

def po : FVec Ideal S512x1024 .bf16 := out0_4 (grid0.coords t) (iblk m c 0 t) (iblk m c 1 t) (iblk m c 2 t) (iblk m c 3 t)

theorem out_at (p : Fin 512) (q : Fin 1024) : po m c t (ix2 p q) = entry (m ((c : Thread nD τ).loc main_arg0)) (m ((c : Thread nD τ).loc main_arg1)) (m ((c : Thread nD τ).loc main_arg2)) (row t p) (col t q) := by
  unfold po
  have ea : iblk m c 0 t = px m c t := rfl
  have eb : iblk m c 1 t = ph m c t := rfl
  have ec : iblk m c 2 t = pw m c t := rfl
  have ed : iblk m c 3 t = pv m c t := rfl
  rw [ea, eb, ec, ed]
  frame_out
  refine (pay_at _ _ _ _ _ _ _ _ p q).trans ?_
  unfold entry
  rw [cell m c t 3 (by omega), cell m c t 2 (by omega), cell m c t 1 (by omega), cell m c t 0 (by omega),
    ldw _ q 0 _ (by omega), ldw _ q 1 _ (by omega), ldw _ q 2 _ (by omega), ldw _ q 3 _ (by omega), pw_at, pw_at, pw_at, pw_at, pv_at]
  rfl

theorem block_at (y : S512x1024.Idx) : po m c t y = whole (m ((c : Thread nD τ).loc main_arg0)) (m ((c : Thread nD τ).loc main_arg1)) (m ((c : Thread nD τ).loc main_arg2)) (((cfg0.win 4).blk t).view.emb y) := by
  have := lt_t t
  have e0 : ((((cfg0.win 4).blk t).view.emb y) 0 : ℕ) = 512 * (t.val % 8) + (y 0).val := by
    blk_simp [index_of t]
    omega
  have e1 : ((((cfg0.win 4).blk t).view.emb y) 1 : ℕ) = 1024 * (t.val / 8) + (y 1).val := by
    blk_simp [index_of t]
    omega
  refine (congrArg (po m c t) (ix2_of y)).trans ((out_at m c t (y 0) (y 1)).trans ?_)
  exact congrArg₂ (entry (m ((c : Thread nD τ).loc main_arg0)) (m ((c : Thread nD τ).loc main_arg1)) (m ((c : Thread nD τ).loc main_arg2))) (Fin.ext e0.symm) (Fin.ext e1.symm)

theorem arr : (dats m 0 c).arrAt 4 cfg0.N = whole (m ((c : Thread nD τ).loc main_arg0)) (m ((c : Thread nD τ).loc main_arg1)) (m ((c : Thread nD τ).loc main_arg2)) :=
  (dats m 0 c).arrAt_eq_of_covers 4 _ (by decide +kernel) fun t hf y => (congrFun (after0_4 m c t) y).trans (block_at m c t y)

theorem ref_frame (m' : RMem) (g' : Dev ConvFwdReferenceIdeal.nD → PrngReg) :
    θ_run (ConvFwdReferenceIdeal.defs (F := Ideal)) (onTc (τ := ConvFwdReferenceIdeal.τ) (ConvFwdReferenceIdeal.main (F := Ideal))) ⟨m', fun _ => 0, g'⟩ fun r => (∀ c : Dev ConvFwdReferenceIdeal.nD,
      r.2.mem ((c : Thread ConvFwdReferenceIdeal.nD ConvFwdReferenceIdeal.τ).loc ConvFwdReferenceIdeal.main_arg0) = m' ((c : Thread ConvFwdReferenceIdeal.nD ConvFwdReferenceIdeal.τ).loc ConvFwdReferenceIdeal.main_arg0)
      ∧ r.2.mem ((c : Thread ConvFwdReferenceIdeal.nD ConvFwdReferenceIdeal.τ).loc ConvFwdReferenceIdeal.main_arg1) = m' ((c : Thread ConvFwdReferenceIdeal.nD ConvFwdReferenceIdeal.τ).loc ConvFwdReferenceIdeal.main_arg1)
      ∧ r.2.mem ((c : Thread ConvFwdReferenceIdeal.nD ConvFwdReferenceIdeal.τ).loc ConvFwdReferenceIdeal.main_arg2) = m' ((c : Thread ConvFwdReferenceIdeal.nD ConvFwdReferenceIdeal.τ).loc ConvFwdReferenceIdeal.main_arg2))
      ∧ r.2.sem = fun _ => 0 :=
  (θ_run _ _ _).mono (fun r h => ⟨fun c => (h c).2, sem_eq_zero_of_no_sems (by decide) r.2⟩) (ConvFwdReferenceIdeal.Value.run m' g')

theorem agrees : algebraic_ConvFwdIdeal_ConvFwdReferenceIdeal (hConvFwdIdeal := Gen.facts) (hConvFwdReferenceIdeal := ConvFwdReferenceIdeal.Gen.facts) := by
  intro m r m' r' _ hm
  refine ⟨fun c => whole (m ((c : Thread nD τ).loc main_arg0)) (m ((c : Thread nD τ).loc main_arg1)) (m ((c : Thread nD τ).loc main_arg2)),
    (θ_run _ _ _).mono (fun _ h c => ⟨(h c).1.trans (arr m c), (h c).2⟩) (Value.run_blocks m r),
    (θ_run _ _ _).mono (fun _ h c => ⟨(h c).1.trans ((ConvFwdReferenceIdeal.Read.val_main_v35_eq (F := Ideal) _ _ _).trans ?_), (h c).2⟩) (ConvFwdReferenceIdeal.Value.run m' r')⟩
  obtain ⟨e0, e1, e2⟩ := hm c
  rw [e0, e1, e2]
  exact ref_eq _ _ _

end Cert.Rw.ConvFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Finish
public import proofs.«01_k».proof.Proof.MmQkvDa
public import proofs.«01_k».proof.Proof.MmQkvDw
public import proofs.«01_k».proof.Proof.MmQkvFwd
public import proofs.«01_k».proof.Proof.MmGuDa
public import proofs.«01_k».proof.Proof.MmGuDw
public import proofs.«01_k».proof.Proof.MmGuFwd
public import proofs.«01_k».proof.Proof.MmDownDa
public import proofs.«01_k».proof.Proof.MmDownDw
public import proofs.«01_k».proof.Proof.MmDownFwd
public import proofs.«01_k».proof.Proof.MmInDa
public import proofs.«01_k».proof.Proof.MmInDw
public import proofs.«01_k».proof.Proof.MmInFwd
public import proofs.«01_k».proof.Proof.MmOutDa
public import proofs.«01_k».proof.Proof.MmOutDw
public import proofs.«01_k».proof.Proof.MmOutFwd
public import proofs.«01_k».proof.Proof.MmPleGateDa
public import proofs.«01_k».proof.Proof.MmPleGateDw
public import proofs.«01_k».proof.Proof.MmPleGateFwd
public import proofs.«01_k».proof.Proof.MmODa
public import proofs.«01_k».proof.Proof.MmODw
public import proofs.«01_k».proof.Proof.MmOFwd
public import proofs.«01_k».proof.Proof.MmPleProjDw
public import proofs.«01_k».proof.Proof.MmPleProjFwd
public import proofs.«01_k».proof.Proof.MmDtDa
public import proofs.«01_k».proof.Proof.MmDtDw
public import proofs.«01_k».proof.Proof.MmDtFwd
public import proofs.«01_k».proof.Proof.RwSwigluBwd
public import proofs.«01_k».proof.Proof.RwPleBwd
public import proofs.«01_k».proof.Proof.RwRmsBwd
public import proofs.«01_k».proof.Proof.RwGateNormBwd
public import proofs.«01_k».proof.Proof.RwSwigluFwd
public import proofs.«01_k».proof.Proof.RwPleFwd
public import proofs.«01_k».proof.Proof.RwRmsFwd
public import proofs.«01_k».proof.Proof.RwGateNormFwd
public import proofs.«01_k».proof.Proof.RwAdamwIn
public import proofs.«01_k».proof.Proof.RwAdamwQkv
public import proofs.«01_k».proof.Proof.RwAdamwGu
public import proofs.«01_k».proof.Proof.RwAdamwProj
public import proofs.«01_k».proof.Proof.RwAdamwOut
public import proofs.«01_k».proof.Proof.RwAdamwO
public import proofs.«01_k».proof.Proof.RwAdamwDown
public import proofs.«01_k».proof.Proof.RwAdamwSmall
public import proofs.«01_k».proof.Proof.RwLossFwd
public import proofs.«01_k».proof.Proof.RwConvFwd

@[expose] public section

noncomputable section

namespace Cert.Proof

open Idealize.ShloMosaic Idealize.ShloMosaic.TcCoe Idealize.SL.Sem
open Cert.Ssd (argsOf arr9 arr10 arr14 preFacts fin_of_pre)

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The arrays of arguments the reference's run reads. -/
abbrev refOf (m' : RMem) (c : Dev Cert.ReferenceIdeal.nD) : Cert.Ssd.Args :=
  Cert.Ssd.Ref.refArgs (m' ((c : Thread Cert.ReferenceIdeal.nD Cert.ReferenceIdeal.τ).loc Cert.ReferenceIdeal.main_arg0))
    (m' ((c : Thread Cert.ReferenceIdeal.nD Cert.ReferenceIdeal.τ).loc Cert.ReferenceIdeal.main_arg1))
    (m' ((c : Thread Cert.ReferenceIdeal.nD Cert.ReferenceIdeal.τ).loc Cert.ReferenceIdeal.main_arg2))
    (m' ((c : Thread Cert.ReferenceIdeal.nD Cert.ReferenceIdeal.τ).loc Cert.ReferenceIdeal.main_arg3))
    (m' ((c : Thread Cert.ReferenceIdeal.nD Cert.ReferenceIdeal.τ).loc Cert.ReferenceIdeal.main_arg4))
    (m' ((c : Thread Cert.ReferenceIdeal.nD Cert.ReferenceIdeal.τ).loc Cert.ReferenceIdeal.main_arg6))

/-- The reference's three results, at finite arguments. -/
theorem refRun (m' : RMem) (g' : Dev Cert.ReferenceIdeal.nD → PrngReg)
    (hA : ∀ c, (refOf m' c).Fin) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
        r.2.mem ((c : Thread Cert.ReferenceIdeal.nD Cert.ReferenceIdeal.τ).loc Cert.ReferenceIdeal.main_v413)
            = (fun i => (refOf m' c).gx (i 0) (i 1))
        ∧ r.2.mem ((c : Thread Cert.ReferenceIdeal.nD Cert.ReferenceIdeal.τ).loc Cert.ReferenceIdeal.main_v410)
            = (fun i => (refOf m' c).gb (i 0) (i 1))
        ∧ r.2.mem ((c : Thread Cert.ReferenceIdeal.nD Cert.ReferenceIdeal.τ).loc Cert.ReferenceIdeal.main_v249)
            = (fun i => (refOf m' c).gdsk (i 1))
        ∧ r.2.mem ((c : Thread Cert.ReferenceIdeal.nD Cert.ReferenceIdeal.τ).loc Cert.ReferenceIdeal.main_arg0) = m' ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m' ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m' ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m' ((c : Thread Cert.ReferenceIdeal.nD Cert.ReferenceIdeal.τ).loc Cert.ReferenceIdeal.main_arg3)
        ∧ r.2.mem ((c : Thread Cert.ReferenceIdeal.nD Cert.ReferenceIdeal.τ).loc Cert.ReferenceIdeal.main_arg4) = m' ((c : Thread Cert.ReferenceIdeal.nD Cert.ReferenceIdeal.τ).loc Cert.ReferenceIdeal.main_arg4)
        ∧ r.2.mem ((c : Thread Cert.ReferenceIdeal.nD Cert.ReferenceIdeal.τ).loc Cert.ReferenceIdeal.main_arg5) = m' ((c : Thread Cert.ReferenceIdeal.nD Cert.ReferenceIdeal.τ).loc Cert.ReferenceIdeal.main_arg5)
        ∧ r.2.mem ((c : Thread Cert.ReferenceIdeal.nD Cert.ReferenceIdeal.τ).loc Cert.ReferenceIdeal.main_arg6) = m' ((c : Thread Cert.ReferenceIdeal.nD Cert.ReferenceIdeal.τ).loc Cert.ReferenceIdeal.main_arg6) := by
  refine (θ_run _ _ _).mono (fun r h c => ?_) (Cert.ReferenceIdeal.Value.run m' g')
  refine ⟨(h c).1.trans ((Cert.ReferenceIdeal.Read.val_main_v413_eq (StableHlo.launchContents m' c)).trans ?_),
    (h c).2.1.trans ((Cert.ReferenceIdeal.Read.val_main_v410_eq (StableHlo.launchContents m' c)).trans ?_),
    (h c).2.2.1.trans ((Cert.ReferenceIdeal.Read.val_main_v249_eq (StableHlo.launchContents m' c)).trans ?_), (h c).2.2.2⟩
  · exact Cert.Ssd.Ref.whole413 _ _ _ _ _ _ (hA c)
  · exact Cert.Ssd.Ref.whole410 _ _ _ _ _ _ (hA c)
  · exact Cert.Ssd.Ref.whole249 _ _ _ _ _ _

/-- The kernel's three results, at finite arguments. -/
theorem kerRun (m : KMem) (g : Dev Cert.KernelIdeal.nD → PrngReg) (hA : ∀ c, (argsOf m c).Fin) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem ((c : Thread Cert.KernelIdeal.nD Cert.KernelIdeal.τ).loc Cert.KernelIdeal.main_v4_0)
            = (fun i => (argsOf m c).gx (i 0) (i 1))
        ∧ r.2.mem ((c : Thread Cert.KernelIdeal.nD Cert.KernelIdeal.τ).loc Cert.KernelIdeal.main_v4_1)
            = (fun i => (argsOf m c).gb (i 0) (i 1))
        ∧ r.2.mem ((c : Thread Cert.KernelIdeal.nD Cert.KernelIdeal.τ).loc Cert.KernelIdeal.main_v4_5)
            = (fun i => (argsOf m c).gdsk (i 1))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
        ∧ r.2.mem ((c : Thread Cert.KernelIdeal.nD Cert.KernelIdeal.τ).loc Cert.KernelIdeal.main_arg5) = m ((c : Thread Cert.KernelIdeal.nD Cert.KernelIdeal.τ).loc Cert.KernelIdeal.main_arg5)
        ∧ r.2.mem ((c : Thread Cert.KernelIdeal.nD Cert.KernelIdeal.τ).loc Cert.KernelIdeal.main_arg6) = m ((c : Thread Cert.KernelIdeal.nD Cert.KernelIdeal.τ).loc Cert.KernelIdeal.main_arg6) :=
  (θ_run _ _ _).mono (fun r h c => ⟨(h c).1.trans (arr9 m c (hA c)), (h c).2.1.trans (arr10 m c (hA c)),
      (h c).2.2.2.2.2.1.trans (arr14 m c), (h c).2.2.2.2.2.2⟩) (Cert.KernelIdeal.Value.run_blocks m g)

theorem algebraic : Cert.algebraic_KernelIdeal_ReferenceIdeal_pre_inputs_finite (hKernelIdeal := Cert.KernelIdeal.Gen.facts)
    (hReferenceIdeal := Cert.ReferenceIdeal.Gen.facts) (hPre_inputs_finite := preFacts) := by
  intro m g m' g' hp hm
  have hA := fin_of_pre m hp
  have e : ∀ c, refOf m' c = argsOf m c := fun c => by
    obtain ⟨h0, h1, h2, h3, h4, _, h6⟩ := hm c
    show Cert.Ssd.Ref.refArgs _ _ _ _ _ _ = _
    rw [h0, h1, h2, h3, h4, h6]
    rfl
  refine ⟨fun c i => (argsOf m c).gx (i 0) (i 1), fun c i => (argsOf m c).gb (i 0) (i 1), fun c i => (argsOf m c).gdsk (i 1),
    kerRun m g hA, ?_⟩
  refine (θ_run _ _ _).mono (fun r h c => ?_) (refRun m' g' fun c => by rw [e c]; exact hA c)
  have h := h c
  rw [e c] at h
  exact h

theorem frameRef (m : RMem) (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
         r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3)
        ∧ r.2.mem ((c : Thread Cert.ReferenceIdeal.nD Cert.ReferenceIdeal.τ).loc Cert.ReferenceIdeal.main_arg4) = m ((c : Thread Cert.ReferenceIdeal.nD Cert.ReferenceIdeal.τ).loc Cert.ReferenceIdeal.main_arg4)
        ∧ r.2.mem ((c : Thread Cert.ReferenceIdeal.nD Cert.ReferenceIdeal.τ).loc Cert.ReferenceIdeal.main_arg5) = m ((c : Thread Cert.ReferenceIdeal.nD Cert.ReferenceIdeal.τ).loc Cert.ReferenceIdeal.main_arg5)
        ∧ r.2.mem ((c : Thread Cert.ReferenceIdeal.nD Cert.ReferenceIdeal.τ).loc Cert.ReferenceIdeal.main_arg6) = m ((c : Thread Cert.ReferenceIdeal.nD Cert.ReferenceIdeal.τ).loc Cert.ReferenceIdeal.main_arg6)) ∧ r.2.sem = fun _ => 0 :=
  (θ_run _ _ _).mono (fun r h => ⟨fun c => (h c).2.2.2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.QkvDa.Gen.facts, Cert.QkvDaIdeal.Gen.facts, Cert.QkvDaReferenceIdeal.Gen.facts,
  Cert.QkvDw.Gen.facts, Cert.QkvDwIdeal.Gen.facts, Cert.QkvDwReferenceIdeal.Gen.facts,
  Cert.QkvFwd.Gen.facts, Cert.QkvFwdIdeal.Gen.facts, Cert.QkvFwdReferenceIdeal.Gen.facts,
  Cert.GuDa.Gen.facts, Cert.GuDaIdeal.Gen.facts, Cert.GuDaReferenceIdeal.Gen.facts,
  Cert.GuDw.Gen.facts, Cert.GuDwIdeal.Gen.facts, Cert.GuDwReferenceIdeal.Gen.facts,
  Cert.GuFwd.Gen.facts, Cert.GuFwdIdeal.Gen.facts, Cert.GuFwdReferenceIdeal.Gen.facts,
  Cert.DownDa.Gen.facts, Cert.DownDaIdeal.Gen.facts, Cert.DownDaReferenceIdeal.Gen.facts,
  Cert.DownDw.Gen.facts, Cert.DownDwIdeal.Gen.facts, Cert.DownDwReferenceIdeal.Gen.facts,
  Cert.DownFwd.Gen.facts, Cert.DownFwdIdeal.Gen.facts, Cert.DownFwdReferenceIdeal.Gen.facts,
  Cert.InDa.Gen.facts, Cert.InDaIdeal.Gen.facts, Cert.InDaReferenceIdeal.Gen.facts,
  Cert.InDw.Gen.facts, Cert.InDwIdeal.Gen.facts, Cert.InDwReferenceIdeal.Gen.facts,
  Cert.InFwd.Gen.facts, Cert.InFwdIdeal.Gen.facts, Cert.InFwdReferenceIdeal.Gen.facts,
  Cert.OutDa.Gen.facts, Cert.OutDaIdeal.Gen.facts, Cert.OutDaReferenceIdeal.Gen.facts,
  Cert.OutDw.Gen.facts, Cert.OutDwIdeal.Gen.facts, Cert.OutDwReferenceIdeal.Gen.facts,
  Cert.OutFwd.Gen.facts, Cert.OutFwdIdeal.Gen.facts, Cert.OutFwdReferenceIdeal.Gen.facts,
  Cert.PleGateDa.Gen.facts, Cert.PleGateDaIdeal.Gen.facts, Cert.PleGateDaReferenceIdeal.Gen.facts,
  Cert.PleGateDw.Gen.facts, Cert.PleGateDwIdeal.Gen.facts, Cert.PleGateDwReferenceIdeal.Gen.facts,
  Cert.PleGateFwd.Gen.facts, Cert.PleGateFwdIdeal.Gen.facts, Cert.PleGateFwdReferenceIdeal.Gen.facts,
  Cert.ODa.Gen.facts, Cert.ODaIdeal.Gen.facts, Cert.ODaReferenceIdeal.Gen.facts,
  Cert.ODw.Gen.facts, Cert.ODwIdeal.Gen.facts, Cert.ODwReferenceIdeal.Gen.facts,
  Cert.OFwd.Gen.facts, Cert.OFwdIdeal.Gen.facts, Cert.OFwdReferenceIdeal.Gen.facts,
  Cert.PleProjDw.Gen.facts, Cert.PleProjDwIdeal.Gen.facts, Cert.PleProjDwReferenceIdeal.Gen.facts,
  Cert.PleProjFwd.Gen.facts, Cert.PleProjFwdIdeal.Gen.facts, Cert.PleProjFwdReferenceIdeal.Gen.facts,
  Cert.DtDa.Gen.facts, Cert.DtDaIdeal.Gen.facts, Cert.DtDaReferenceIdeal.Gen.facts,
  Cert.DtDw.Gen.facts, Cert.DtDwIdeal.Gen.facts, Cert.DtDwReferenceIdeal.Gen.facts,
  Cert.DtFwd.Gen.facts, Cert.DtFwdIdeal.Gen.facts, Cert.DtFwdReferenceIdeal.Gen.facts,
  Cert.SwigluBwd.Gen.facts, Cert.SwigluBwdIdeal.Gen.facts, Cert.SwigluBwdReferenceIdeal.Gen.facts,
  Cert.PleBwd.Gen.facts, Cert.PleBwdIdeal.Gen.facts, Cert.PleBwdReferenceIdeal.Gen.facts,
  Cert.RmsBwd.Gen.facts, Cert.RmsBwdIdeal.Gen.facts, Cert.RmsBwdReferenceIdeal.Gen.facts,
  Cert.GateNormBwd.Gen.facts, Cert.GateNormBwdIdeal.Gen.facts, Cert.GateNormBwdReferenceIdeal.Gen.facts,
  Cert.SwigluFwd.Gen.facts, Cert.SwigluFwdIdeal.Gen.facts, Cert.SwigluFwdReferenceIdeal.Gen.facts,
  Cert.PleFwd.Gen.facts, Cert.PleFwdIdeal.Gen.facts, Cert.PleFwdReferenceIdeal.Gen.facts,
  Cert.RmsFwd.Gen.facts, Cert.RmsFwdIdeal.Gen.facts, Cert.RmsFwdReferenceIdeal.Gen.facts,
  Cert.GateNormFwd.Gen.facts, Cert.GateNormFwdIdeal.Gen.facts, Cert.GateNormFwdReferenceIdeal.Gen.facts,
  Cert.AdamwIn.Gen.facts, Cert.AdamwInIdeal.Gen.facts, Cert.AdamwInReferenceIdeal.Gen.facts,
  Cert.AdamwQkv.Gen.facts, Cert.AdamwQkvIdeal.Gen.facts, Cert.AdamwQkvReferenceIdeal.Gen.facts,
  Cert.AdamwGu.Gen.facts, Cert.AdamwGuIdeal.Gen.facts, Cert.AdamwGuReferenceIdeal.Gen.facts,
  Cert.AdamwProj.Gen.facts, Cert.AdamwProjIdeal.Gen.facts, Cert.AdamwProjReferenceIdeal.Gen.facts,
  Cert.AdamwOut.Gen.facts, Cert.AdamwOutIdeal.Gen.facts, Cert.AdamwOutReferenceIdeal.Gen.facts,
  Cert.AdamwO.Gen.facts, Cert.AdamwOIdeal.Gen.facts, Cert.AdamwOReferenceIdeal.Gen.facts,
  Cert.AdamwDown.Gen.facts, Cert.AdamwDownIdeal.Gen.facts, Cert.AdamwDownReferenceIdeal.Gen.facts,
  Cert.AdamwSmall.Gen.facts, Cert.AdamwSmallIdeal.Gen.facts, Cert.AdamwSmallReferenceIdeal.Gen.facts,
  Cert.LossFwd.Gen.facts, Cert.LossFwdIdeal.Gen.facts, Cert.LossFwdReferenceIdeal.Gen.facts,
  Cert.ConvFwd.Gen.facts, Cert.ConvFwdIdeal.Gen.facts, Cert.ConvFwdReferenceIdeal.Gen.facts,
  preFacts, Cert.Rw.SwigluBwd.preFacts, Cert.Rw.RmsBwd.preFacts, Cert.Rw.GateNormBwd.preFacts,
  fun m g _ => Cert.Kernel.Gen.frame m g, fun m g _ => Cert.KernelIdeal.Gen.frame m g, fun m g _ => Cert.KernelIdeal.Gen.frame m g,
  fun m g _ => frameRef m g, fun m g _ => frameRef m g,
  fun m g _ => Cert.QkvDa.Gen.frame m g, fun m g _ => Cert.QkvDaIdeal.Gen.frame m g, fun m g _ => Cert.Mm.QkvDa.ref_frame m g,
  fun m g _ => Cert.QkvDw.Gen.frame m g, fun m g _ => Cert.QkvDwIdeal.Gen.frame m g, fun m g _ => Cert.Mm.QkvDw.ref_frame m g,
  fun m g _ => Cert.QkvFwd.Gen.frame m g, fun m g _ => Cert.QkvFwdIdeal.Gen.frame m g, fun m g _ => Cert.Mm.QkvFwd.ref_frame m g,
  fun m g _ => Cert.GuDa.Gen.frame m g, fun m g _ => Cert.GuDaIdeal.Gen.frame m g, fun m g _ => Cert.Mm.GuDa.ref_frame m g,
  fun m g _ => Cert.GuDw.Gen.frame m g, fun m g _ => Cert.GuDwIdeal.Gen.frame m g, fun m g _ => Cert.Mm.GuDw.ref_frame m g,
  fun m g _ => Cert.GuFwd.Gen.frame m g, fun m g _ => Cert.GuFwdIdeal.Gen.frame m g, fun m g _ => Cert.Mm.GuFwd.ref_frame m g,
  fun m g _ => Cert.DownDa.Gen.frame m g, fun m g _ => Cert.DownDaIdeal.Gen.frame m g, fun m g _ => Cert.Mm.DownDa.ref_frame m g,
  fun m g _ => Cert.DownDw.Gen.frame m g, fun m g _ => Cert.DownDwIdeal.Gen.frame m g, fun m g _ => Cert.Mm.DownDw.ref_frame m g,
  fun m g _ => Cert.DownFwd.Gen.frame m g, fun m g _ => Cert.DownFwdIdeal.Gen.frame m g, fun m g _ => Cert.Mm.DownFwd.ref_frame m g,
  fun m g _ => Cert.InDa.Gen.frame m g, fun m g _ => Cert.InDaIdeal.Gen.frame m g, fun m g _ => Cert.Mm.InDa.ref_frame m g,
  fun m g _ => Cert.InDw.Gen.frame m g, fun m g _ => Cert.InDwIdeal.Gen.frame m g, fun m g _ => Cert.Mm.InDw.ref_frame m g,
  fun m g _ => Cert.InFwd.Gen.frame m g, fun m g _ => Cert.InFwdIdeal.Gen.frame m g, fun m g _ => Cert.Mm.InFwd.ref_frame m g,
  fun m g _ => Cert.OutDa.Gen.frame m g, fun m g _ => Cert.OutDaIdeal.Gen.frame m g, fun m g _ => Cert.Mm.OutDa.ref_frame m g,
  fun m g _ => Cert.OutDw.Gen.frame m g, fun m g _ => Cert.OutDwIdeal.Gen.frame m g, fun m g _ => Cert.Mm.OutDw.ref_frame m g,
  fun m g _ => Cert.OutFwd.Gen.frame m g, fun m g _ => Cert.OutFwdIdeal.Gen.frame m g, fun m g _ => Cert.Mm.OutFwd.ref_frame m g,
  fun m g _ => Cert.PleGateDa.Gen.frame m g, fun m g _ => Cert.PleGateDaIdeal.Gen.frame m g, fun m g _ => Cert.Mm.PleGateDa.ref_frame m g,
  fun m g _ => Cert.PleGateDw.Gen.frame m g, fun m g _ => Cert.PleGateDwIdeal.Gen.frame m g, fun m g _ => Cert.Mm.PleGateDw.ref_frame m g,
  fun m g _ => Cert.PleGateFwd.Gen.frame m g, fun m g _ => Cert.PleGateFwdIdeal.Gen.frame m g, fun m g _ => Cert.Mm.PleGateFwd.ref_frame m g,
  fun m g _ => Cert.ODa.Gen.frame m g, fun m g _ => Cert.ODaIdeal.Gen.frame m g, fun m g _ => Cert.Mm.ODa.ref_frame m g,
  fun m g _ => Cert.ODw.Gen.frame m g, fun m g _ => Cert.ODwIdeal.Gen.frame m g, fun m g _ => Cert.Mm.ODw.ref_frame m g,
  fun m g _ => Cert.OFwd.Gen.frame m g, fun m g _ => Cert.OFwdIdeal.Gen.frame m g, fun m g _ => Cert.Mm.OFwd.ref_frame m g,
  fun m g _ => Cert.PleProjDw.Gen.frame m g, fun m g _ => Cert.PleProjDwIdeal.Gen.frame m g, fun m g _ => Cert.Mm.PleProjDw.ref_frame m g,
  fun m g _ => Cert.PleProjFwd.Gen.frame m g, fun m g _ => Cert.PleProjFwdIdeal.Gen.frame m g, fun m g _ => Cert.Mm.PleProjFwd.ref_frame m g,
  fun m g _ => Cert.DtDa.Gen.frame m g, fun m g _ => Cert.DtDaIdeal.Gen.frame m g, fun m g _ => Cert.Mm.DtDa.ref_frame m g,
  fun m g _ => Cert.DtDw.Gen.frame m g, fun m g _ => Cert.DtDwIdeal.Gen.frame m g, fun m g _ => Cert.Mm.DtDw.ref_frame m g,
  fun m g _ => Cert.DtFwd.Gen.frame m g, fun m g _ => Cert.DtFwdIdeal.Gen.frame m g, fun m g _ => Cert.Mm.DtFwd.ref_frame m g,
  fun m g _ => Cert.SwigluBwd.Gen.frame m g, fun m g _ => Cert.SwigluBwdIdeal.Gen.frame m g, fun m g _ => Cert.SwigluBwdIdeal.Gen.frame m g, fun m g _ => Cert.Rw.SwigluBwd.ref_frame m g, fun m g _ => Cert.Rw.SwigluBwd.ref_frame m g,
  fun m g _ => Cert.PleBwd.Gen.frame m g, fun m g _ => Cert.PleBwdIdeal.Gen.frame m g, fun m g _ => Cert.Rw.PleBwd.ref_frame m g,
  fun m g _ => Cert.RmsBwd.Gen.frame m g, fun m g _ => Cert.RmsBwdIdeal.Gen.frame m g, fun m g _ => Cert.RmsBwdIdeal.Gen.frame m g, fun m g _ => Cert.Rw.RmsBwd.ref_frame m g, fun m g _ => Cert.Rw.RmsBwd.ref_frame m g,
  fun m g _ => Cert.GateNormBwd.Gen.frame m g, fun m g _ => Cert.GateNormBwdIdeal.Gen.frame m g, fun m g _ => Cert.GateNormBwdIdeal.Gen.frame m g, fun m g _ => Cert.Rw.GateNormBwd.ref_frame m g, fun m g _ => Cert.Rw.GateNormBwd.ref_frame m g,
  fun m g _ => Cert.SwigluFwd.Gen.frame m g, fun m g _ => Cert.SwigluFwdIdeal.Gen.frame m g, fun m g _ => Cert.Rw.SwigluFwd.ref_frame m g,
  fun m g _ => Cert.PleFwd.Gen.frame m g, fun m g _ => Cert.PleFwdIdeal.Gen.frame m g, fun m g _ => Cert.Rw.PleFwd.ref_frame m g,
  fun m g _ => Cert.RmsFwd.Gen.frame m g, fun m g _ => Cert.RmsFwdIdeal.Gen.frame m g, fun m g _ => Cert.Rw.RmsFwd.ref_frame m g,
  fun m g _ => Cert.GateNormFwd.Gen.frame m g, fun m g _ => Cert.GateNormFwdIdeal.Gen.frame m g, fun m g _ => Cert.Rw.GateNormFwd.ref_frame m g,
  fun m g _ => Cert.AdamwIn.Gen.frame m g, fun m g _ => Cert.AdamwInIdeal.Gen.frame m g, fun m g _ => Cert.Rw.AdamwIn.ref_frame m g,
  fun m g _ => Cert.AdamwQkv.Gen.frame m g, fun m g _ => Cert.AdamwQkvIdeal.Gen.frame m g, fun m g _ => Cert.Rw.AdamwQkv.ref_frame m g,
  fun m g _ => Cert.AdamwGu.Gen.frame m g, fun m g _ => Cert.AdamwGuIdeal.Gen.frame m g, fun m g _ => Cert.Rw.AdamwGu.ref_frame m g,
  fun m g _ => Cert.AdamwProj.Gen.frame m g, fun m g _ => Cert.AdamwProjIdeal.Gen.frame m g, fun m g _ => Cert.Rw.AdamwProj.ref_frame m g,
  fun m g _ => Cert.AdamwOut.Gen.frame m g, fun m g _ => Cert.AdamwOutIdeal.Gen.frame m g, fun m g _ => Cert.Rw.AdamwOut.ref_frame m g,
  fun m g _ => Cert.AdamwO.Gen.frame m g, fun m g _ => Cert.AdamwOIdeal.Gen.frame m g, fun m g _ => Cert.Rw.AdamwO.ref_frame m g,
  fun m g _ => Cert.AdamwDown.Gen.frame m g, fun m g _ => Cert.AdamwDownIdeal.Gen.frame m g, fun m g _ => Cert.Rw.AdamwDown.ref_frame m g,
  fun m g _ => Cert.AdamwSmall.Gen.frame m g, fun m g _ => Cert.AdamwSmallIdeal.Gen.frame m g, fun m g _ => Cert.Rw.AdamwSmall.ref_frame m g,
  fun m g _ => Cert.LossFwd.Gen.frame m g, fun m g _ => Cert.LossFwdIdeal.Gen.frame m g, fun m g _ => Cert.Rw.LossFwd.ref_frame m g,
  fun m g _ => Cert.ConvFwd.Gen.frame m g, fun m g _ => Cert.ConvFwdIdeal.Gen.frame m g, fun m g _ => Cert.Rw.ConvFwd.ref_frame m g,
  trivial, algebraic,
  trivial, Cert.Mm.QkvDa.agrees,
  trivial, Cert.Mm.QkvDw.agrees,
  trivial, Cert.Mm.QkvFwd.agrees,
  trivial, Cert.Mm.GuDa.agrees,
  trivial, Cert.Mm.GuDw.agrees,
  trivial, Cert.Mm.GuFwd.agrees,
  trivial, Cert.Mm.DownDa.agrees,
  trivial, Cert.Mm.DownDw.agrees,
  trivial, Cert.Mm.DownFwd.agrees,
  trivial, Cert.Mm.InDa.agrees,
  trivial, Cert.Mm.InDw.agrees,
  trivial, Cert.Mm.InFwd.agrees,
  trivial, Cert.Mm.OutDa.agrees,
  trivial, Cert.Mm.OutDw.agrees,
  trivial, Cert.Mm.OutFwd.agrees,
  trivial, Cert.Mm.PleGateDa.agrees,
  trivial, Cert.Mm.PleGateDw.agrees,
  trivial, Cert.Mm.PleGateFwd.agrees,
  trivial, Cert.Mm.ODa.agrees,
  trivial, Cert.Mm.ODw.agrees,
  trivial, Cert.Mm.OFwd.agrees,
  trivial, Cert.Mm.PleProjDw.agrees,
  trivial, Cert.Mm.PleProjFwd.agrees,
  trivial, Cert.Mm.DtDa.agrees,
  trivial, Cert.Mm.DtDw.agrees,
  trivial, Cert.Mm.DtFwd.agrees,
  trivial, Cert.Rw.SwigluBwd.agrees,
  trivial, Cert.Rw.PleBwd.agrees,
  trivial, Cert.Rw.RmsBwd.agrees,
  trivial, Cert.Rw.GateNormBwd.agrees,
  trivial, Cert.Rw.SwigluFwd.agrees,
  trivial, Cert.Rw.PleFwd.agrees,
  trivial, Cert.Rw.RmsFwd.agrees,
  trivial, Cert.Rw.GateNormFwd.agrees,
  trivial, Cert.Rw.AdamwIn.agrees,
  trivial, Cert.Rw.AdamwQkv.agrees,
  trivial, Cert.Rw.AdamwGu.agrees,
  trivial, Cert.Rw.AdamwProj.agrees,
  trivial, Cert.Rw.AdamwOut.agrees,
  trivial, Cert.Rw.AdamwO.agrees,
  trivial, Cert.Rw.AdamwDown.agrees,
  trivial, Cert.Rw.AdamwSmall.agrees,
  trivial, Cert.Rw.LossFwd.agrees,
  trivial, Cert.Rw.ConvFwd.agrees⟩

end Cert.Proof

end
